-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x200 : Shape := ⟨2, ![128, 200]⟩
abbrev S10000x128 : Shape := ⟨2, ![10000, 128]⟩
abbrev S2x128 : Shape := ⟨2, ![2, 128]⟩
abbrev S64x128 : Shape := ⟨2, ![64, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S128x200 : S_.BroadcastsInDim S128x200 (![] : Fin 0 → Fin S128x200.rank)
  reducesTo_S128x200_S_d0_1 : S128x200.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S2x128 : S_.BroadcastsInDim S2x128 (![] : Fin 0 → Fin S2x128.rank)
  reducesTo_S2x128_S_d0_1 : S2x128.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg10 : FVec F S128x128 .f32) (main_v32 : IVec S_ 1) (main_v33 : FVec F S128x128 .f32) : IVec S_ 1 :=
  let main_cst_12 : FVec F S_ .f32 := constant S_ .f32 0x7F800000#32
  let main_v34 : FVec F S128x128 .f32 := broadcastInDim S128x128 ![] bcast_S_S128x128 main_cst_12
  let main_v35 : IVec S128x128 1 := cmpf .olt main_v33 main_v34
  let main_c_13 : IVec S_ 1 := constantI S_ 1 1#1
  let main_v36 : IVec S_ 1 := (fun x v => Host.reduce IntOp.andi x v reducesTo_S128x128_S_d0_1 h_S_) main_v35 main_c_13
  let main_v37 : IVec S_ 1 := andi main_v32 main_v36
  let main_v38 : FVec F S128x128 .f32 := Host.absf main_arg10
  let main_cst_14 : FVec F S_ .f32 := constant S_ .f32 0x7F800000#32
  let main_v39 : FVec F S128x128 .f32 := broadcastInDim S128x128 ![] bcast_S_S128x128 main_cst_14
  let main_v40 : IVec S128x128 1 := cmpf .olt main_v38 main_v39
  let main_c_15 : IVec S_ 1 := constantI S_ 1 1#1
  let main_v41 : IVec S_ 1 := (fun x v => Host.reduce IntOp.andi x v reducesTo_S128x128_S_d0_1 h_S_) main_v40 main_c_15
  let main_v42 : IVec S_ 1 := andi main_v37 main_v41
  main_v42

def fn_part1 {F : FTy → Type} [FloatOps F] (main_arg3 : FVec F S2x128 .f32) (main_arg4 : FVec F S64x128 .f32) (main_arg5 : FVec F S64x128 .f32) (main_arg8 : FVec F S128x128 .f32) (main_arg10 : FVec F S128x128 .f32) (main_v12 : IVec S_ 1) (main_v15 : IVec S10000x128 1) (main_c_5 : IVec S_ 1) : IVec S_ 1 :=
  let main_v16 : IVec S_ 1 := (fun x v => Host.reduce IntOp.andi x v reducesTo_S10000x128_S_d0_1 h_S_) main_v15 main_c_5
  let main_v17 : IVec S_ 1 := andi main_v12 main_v16
  let main_v18 : FVec F S2x128 .f32 := Host.absf main_arg3
  let main_cst_6 : FVec F S_ .f32 := constant S_ .f32 0x7F800000#32
  let main_v19 : FVec F S2x128 .f32 := broadcastInDim S2x128 ![] bcast_S_S2x128 main_cst_6
  let main_v20 : IVec S2x128 1 := cmpf .olt main_v18 main_v19
  let main_c_7 : IVec S_ 1 := constantI S_ 1 1#1
  let main_v21 : IVec S_ 1 := (fun x v => Host.reduce IntOp.andi x v reducesTo_S2x128_S_d0_1 h_S_) main_v20 main_c_7
  let main_v22 : IVec S_ 1 := andi main_v17 main_v21
  let main_v23 : FVec F S64x128 .f32 := Host.absf main_arg4
  let main_cst_8 : FVec F S_ .f32 := constant S_ .f32 0x7F800000#32
  let main_v24 : FVec F S64x128 .f32 := broadcastInDim S64x128 ![] bcast_S_S64x128 main_cst_8
  let main_v25 : IVec S64x128 1 := cmpf .olt main_v23 main_v24
  let main_c_9 : IVec S_ 1 := constantI S_ 1 1#1
  let main_v26 : IVec S_ 1 := (fun x v => Host.reduce IntOp.andi x v reducesTo_S64x128_S_d0_1 h_S_) main_v25 main_c_9
  let main_v27 : IVec S_ 1 := andi main_v22 main_v26
  let main_v28 : FVec F S64x128 .f32 := Host.absf main_arg5
  let main_cst_10 : FVec F S_ .f32 := constant S_ .f32 0x7F800000#32
  let main_v29 : FVec F S64x128 .f32 := broadcastInDim S64x128 ![] bcast_S_S64x128 main_cst_10
  let main_v30 : IVec S64x128 1 := cmpf .olt main_v28 main_v29
  let main_c_11 : IVec S_ 1 := constantI S_ 1 1#1
  let main_v31 : IVec S_ 1 := (fun x v => Host.reduce IntOp.andi x v reducesTo_S64x128_S_d0_1 h_S_) main_v30 main_c_11
  let main_v32 : IVec S_ 1 := andi main_v27 main_v31
  let main_v33 : FVec F S128x128 .f32 := Host.absf main_arg8
  fn_part2 (F := F) main_arg10 main_v32 main_v33

def fn {F : FTy → Type} [FloatOps F] (main_arg0 : IVec S128x200 32) (main_arg1 : IVec S128x200 32) (main_arg2 : FVec F S10000x128 .f32) (main_arg3 : FVec F S2x128 .f32) (main_arg4 : FVec F S64x128 .f32) (main_arg5 : FVec F S64x128 .f32) (main_arg6 : FVec F S128x256 .f32) (main_arg7 : FVec F S128 .f32) (main_arg8 : FVec F S128x128 .f32) (main_arg9 : FVec F S128 .f32) (main_arg10 : FVec F S128x128 .f32) (main_arg11 : FVec F S128 .f32) (main_arg12 : FVec F S1x128 .f32) (main_arg13 : FVec F S1 .f32) (main_arg14 : FVec F S1x128 .f32) (main_arg15 : FVec F S1 .f32) : IVec S_ 1 :=
  let main_c : IVec S_ 32 := constantI S_ 32 0#32
  let main_v0 : IVec S128x200 32 := broadcastInDim S128x200 ![] bcast_S_S128x200 main_c
  let main_v1 : IVec S128x200 1 := cmpi .sge main_arg0 main_v0
  let main_c_0 : IVec S_ 32 := constantI S_ 32 10000#32
  let main_v2 : IVec S128x200 32 := broadcastInDim S128x200 ![] bcast_S_S128x200 main_c_0
  let main_v3 : IVec S128x200 1 := cmpi .slt main_arg0 main_v2
  let main_v4 : IVec S128x200 1 := andi main_v1 main_v3
  let main_c_1 : IVec S_ 1 := constantI S_ 1 1#1
  let main_v5 : IVec S_ 1 := (fun x v => Host.reduce IntOp.andi x v reducesTo_S128x200_S_d0_1 h_S_) main_v4 main_c_1
  let main_c_2 : IVec S_ 32 := constantI S_ 32 0#32
  let main_v6 : IVec S128x200 32 := broadcastInDim S128x200 ![] bcast_S_S128x200 main_c_2
  let main_v7 : IVec S128x200 1 := cmpi .sge main_arg1 main_v6
  let main_c_3 : IVec S_ 32 := constantI S_ 32 2#32
  let main_v8 : IVec S128x200 32 := broadcastInDim S128x200 ![] bcast_S_S128x200 main_c_3
  let main_v9 : IVec S128x200 1 := cmpi .slt main_arg1 main_v8
  let main_v10 : IVec S128x200 1 := andi main_v7 main_v9
  let main_c_4 : IVec S_ 1 := constantI S_ 1 1#1
  let main_v11 : IVec S_ 1 := (fun x v => Host.reduce IntOp.andi x v reducesTo_S128x200_S_d0_1 h_S_) main_v10 main_c_4
  let main_v12 : IVec S_ 1 := andi main_v5 main_v11
  let main_v13 : FVec F S10000x128 .f32 := Host.absf main_arg2
  let main_cst : FVec F S_ .f32 := constant S_ .f32 0x7F800000#32
  let main_v14 : FVec F S10000x128 .f32 := broadcastInDim S10000x128 ![] bcast_S_S10000x128 main_cst
  let main_v15 : IVec S10000x128 1 := cmpf .olt main_v13 main_v14
  let main_c_5 : IVec S_ 1 := constantI S_ 1 1#1
  fn_part1 (F := F) main_arg3 main_arg4 main_arg5 main_arg8 main_arg10 main_v12 main_v15 main_c_5
-- ==== Pre_in_range.lean ====
abbrev S128x200 : Shape := ⟨2, ![128, 200]⟩
abbrev S10000x128 : Shape := ⟨2, ![10000, 128]⟩
abbrev S2x128 : Shape := ⟨2, ![2, 128]⟩
abbrev S64x128 : Shape := ⟨2, ![64, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S128x200 : S_.BroadcastsInDim S128x200 (![] : Fin 0 → Fin S128x200.rank)
  reducesTo_S128x200_S_d0_1 : S128x200.ReducesTo [0, 1] S_
  h_S_ : 0 < S_.numel

variable [Facts]

def fn {F : FTy → Type} [FloatOps F] (main_arg0 : IVec S128x200 32) (main_arg1 : IVec S128x200 32) (main_arg2 : FVec F S10000x128 .f32) (main_arg3 : FVec F S2x128 .f32) (main_arg4 : FVec F S64x128 .f32) (main_arg5 : FVec F S64x128 .f32) (main_arg6 : FVec F S128x256 .f32) (main_arg7 : FVec F S128 .f32) (main_arg8 : FVec F S128x128 .f32) (main_arg9 : FVec F S128 .f32) (main_arg10 : FVec F S128x128 .f32) (main_arg11 : FVec F S128 .f32) (main_arg12 : FVec F S1x128 .f32) (main_arg13 : FVec F S1 .f32) (main_arg14 : FVec F S1x128 .f32) (main_arg15 : FVec F S1 .f32) : IVec S_ 1 :=
  let main_c : IVec S_ 32 := constantI S_ 32 0#32
  let main_v0 : IVec S128x200 32 := broadcastInDim S128x200 ![] bcast_S_S128x200 main_c
  let main_v1 : IVec S128x200 1 := cmpi .sge main_arg0 main_v0
  let main_c_0 : IVec S_ 32 := constantI S_ 32 10000#32
  let main_v2 : IVec S128x200 32 := broadcastInDim S128x200 ![] bcast_S_S128x200 main_c_0
  let main_v3 : IVec S128x200 1 := cmpi .slt main_arg0 main_v2
  let main_v4 : IVec S128x200 1 := andi main_v1 main_v3
  let main_c_1 : IVec S_ 1 := constantI S_ 1 1#1
  let main_v5 : IVec S_ 1 := (fun x v => Host.reduce IntOp.andi x v reducesTo_S128x200_S_d0_1 h_S_) main_v4 main_c_1
  let main_c_2 : IVec S_ 32 := constantI S_ 32 0#32
  let main_v6 : IVec S128x200 32 := broadcastInDim S128x200 ![] bcast_S_S128x200 main_c_2
  let main_v7 : IVec S128x200 1 := cmpi .sge main_arg1 main_v6
  let main_c_3 : IVec S_ 32 := constantI S_ 32 2#32
  let main_v8 : IVec S128x200 32 := broadcastInDim S128x200 ![] bcast_S_S128x200 main_c_3
  let main_v9 : IVec S128x200 1 := cmpi .slt main_arg1 main_v8
  let main_v10 : IVec S128x200 1 := andi main_v7 main_v9
  let main_c_4 : IVec S_ 1 := constantI S_ 1 1#1
  let main_v11 : IVec S_ 1 := (fun x v => Host.reduce IntOp.andi x v reducesTo_S128x200_S_d0_1 h_S_) main_v10 main_c_4
  let main_v12 : IVec S_ 1 := andi main_v5 main_v11
  main_v12
-- ==== Kernel.lean ====
abbrev S128x200 : Shape := ⟨2, ![128, 200]⟩
abbrev S10000x128 : Shape := ⟨2, ![10000, 128]⟩
abbrev S2x128 : Shape := ⟨2, ![2, 128]⟩
abbrev S64x128 : Shape := ⟨2, ![64, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S200x128 : Shape := ⟨2, ![200, 128]⟩
abbrev S200x1x128 : Shape := ⟨3, ![200, 1, 128]⟩
abbrev S_ : Shape := ⟨0, ![]⟩
abbrev S7x128 : Shape := ⟨2, ![7, 128]⟩
abbrev S456x128 : Shape := ⟨2, ![456, 128]⟩
abbrev S128x2 : Shape := ⟨2, ![128, 2]⟩
abbrev S128x1 : Shape := ⟨2, ![128, 1]⟩
abbrev S1x128x128 : Shape := ⟨3, ![1, 128, 128]⟩
abbrev S4x128x128 : Shape := ⟨3, ![4, 128, 128]⟩
abbrev S1x1 : Shape := ⟨2, ![1, 1]⟩
abbrev S1x1x128 : Shape := ⟨3, ![1, 1, 128]⟩
abbrev S64x128x1 : Shape := ⟨3, ![64, 128, 1]⟩
abbrev S64x128x128 : Shape := ⟨3, ![64, 128, 128]⟩
abbrev S200x64x128 : Shape := ⟨3, ![200, 64, 128]⟩
abbrev S200x128x128 : Shape := ⟨3, ![200, 128, 128]⟩
abbrev S4x1x128 : Shape := ⟨3, ![4, 1, 128]⟩
abbrev S4x64x128 : Shape := ⟨3, ![4, 64, 128]⟩
abbrev S512x128 : Shape := ⟨2, ![512, 128]⟩
abbrev S8x128 : Shape := ⟨2, ![8, 128]⟩
abbrev S456x512 : Shape := ⟨2, ![456, 512]⟩
abbrev S1x64x128 : Shape := ⟨3, ![1, 64, 128]⟩
abbrev S12800x1x128 : Shape := ⟨3, ![12800, 1, 128]⟩
abbrev S200x32x128 : Shape := ⟨3, ![200, 32, 128]⟩
abbrev S64x32x128 : Shape := ⟨3, ![64, 32, 128]⟩
abbrev S1x32x128 : Shape := ⟨3, ![1, 32, 128]⟩
abbrev S32x128 : Shape := ⟨2, ![32, 128]⟩
abbrev S8x1x128 : Shape := ⟨3, ![8, 1, 128]⟩
abbrev S25x128x128 : Shape := ⟨3, ![25, 128, 128]⟩
abbrev S25x1x128 : Shape := ⟨3, ![25, 1, 128]⟩

abbrev nBuf : Space → Nat
  | .hbm => 77
  | .vmem => 38
  | .smem => 1
  | _ => 0

abbrev bufTy : (tb : Table) → Fin (tcTables nBuf tb) → BufTy
  | .hbm, ⟨0, _⟩ => ⟨S128x200, .i32⟩
  | .hbm, ⟨1, _⟩ => ⟨S128x200, .i32⟩
  | .hbm, ⟨2, _⟩ => ⟨S10000x128, .f32⟩
  | .hbm, ⟨3, _⟩ => ⟨S2x128, .f32⟩
  | .hbm, ⟨4, _⟩ => ⟨S64x128, .f32⟩
  | .hbm, ⟨5, _⟩ => ⟨S64x128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S1x128, .f32⟩
  | .hbm, ⟨15, _⟩ => ⟨S1, .f32⟩
  | .hbm, ⟨16, _⟩ => ⟨S128x200, .f32⟩
  | .hbm, ⟨17, _⟩ => ⟨S200x128, .f32⟩
  | .hbm, ⟨18, _⟩ => ⟨S200x1x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S7x128, .f32⟩
  | .hbm, ⟨23, _⟩ => ⟨S456x128, .f32⟩
  | .hbm, ⟨24, _⟩ => ⟨S128x2, .f32⟩
  | .hbm, ⟨25, _⟩ => ⟨S128x2, .f32⟩
  | .hbm, ⟨26, _⟩ => ⟨S128x2, .f32⟩
  | .hbm, ⟨27, _⟩ => ⟨S128x2, .f32⟩
  | .hbm, ⟨28, _⟩ => ⟨S128x1, .f32⟩
  | .hbm, ⟨29, _⟩ => ⟨S128, .f32⟩
  | .hbm, ⟨30, _⟩ => ⟨S128, .f32⟩
  | .hbm, ⟨31, _⟩ => ⟨S128x1, .f32⟩
  | .hbm, ⟨32, _⟩ => ⟨S128x128, .f32⟩
  | .hbm, ⟨33, _⟩ => ⟨S128x1, .f32⟩
  | .hbm, ⟨34, _⟩ => ⟨S128, .f32⟩
  | .hbm, ⟨35, _⟩ => ⟨S128x1, .f32⟩
  | .hbm, ⟨36, _⟩ => ⟨S128, .f32⟩
  | .hbm, ⟨37, _⟩ => ⟨S128, .f32⟩
  | .hbm, ⟨38, _⟩ => ⟨S128x1, .f32⟩
  | .hbm, ⟨39, _⟩ => ⟨S128x128, .f32⟩
  | .hbm, ⟨40, _⟩ => ⟨S128x1, .f32⟩
  | .hbm, ⟨41, _⟩ => ⟨S128, .f32⟩
  | .hbm, ⟨42, _⟩ => ⟨S128, .f32⟩
  | .hbm, ⟨43, _⟩ => ⟨S128x1, .f32⟩
  | .hbm, ⟨44, _⟩ => ⟨S128x128, .f32⟩
  | .hbm, ⟨45, _⟩ => ⟨S128x1, .f32⟩
  | .hbm, ⟨46, _⟩ => ⟨S128, .f32⟩
  | .hbm, ⟨47, _⟩ => ⟨S128x1, .f32⟩
  | .hbm, ⟨48, _⟩ => ⟨S128, .f32⟩
  | .hbm, ⟨49, _⟩ => ⟨S128, .f32⟩
  | .hbm, ⟨50, _⟩ => ⟨S128x1, .f32⟩
  | .hbm, ⟨51, _⟩ => ⟨S128x128, .f32⟩
  | .hbm, ⟨52, _⟩ => ⟨S1x128x128, .f32⟩
  | .hbm, ⟨53, _⟩ => ⟨S1x128x128, .f32⟩
  | .hbm, ⟨54, _⟩ => ⟨S1x128x128, .f32⟩
  | .hbm, ⟨55, _⟩ => ⟨S1x128x128, .f32⟩
  | .hbm, ⟨56, _⟩ => ⟨S4x128x128, .f32⟩
  | .hbm, ⟨57, _⟩ => ⟨S1x1, .f32⟩
  | .hbm, ⟨58, _⟩ => ⟨S1x128, .f32⟩
  | .hbm, ⟨59, _⟩ => ⟨S1x1x128, .f32⟩
  | .hbm, ⟨60, _⟩ => ⟨S128x1, .f32⟩
  | .hbm, ⟨61, _⟩ => ⟨S128x128, .f32⟩
  | .hbm, ⟨62, _⟩ => ⟨S1x1, .f32⟩
  | .hbm, ⟨63, _⟩ => ⟨S1x128, .f32⟩
  | .hbm, ⟨64, _⟩ => ⟨S1x1x128, .f32⟩
  | .hbm, ⟨65, _⟩ => ⟨S64x128x1, .f32⟩
  | .hbm, ⟨66, _⟩ => ⟨S64x128x128, .f32⟩
  | .hbm, ⟨67, _⟩ => ⟨S200x64x128, .f32⟩
  | .hbm, ⟨68, _⟩ => ⟨S200x128x128, .f32⟩
  | .hbm, ⟨69, _⟩ => ⟨S200x128x128, .f32⟩
  | .hbm, ⟨70, _⟩ => ⟨S200x128x128, .f32⟩
  | .hbm, ⟨71, _⟩ => ⟨S200x1x128, .f32⟩
  | .hbm, ⟨72, _⟩ => ⟨S12800x1x128, .f32⟩
  | .hbm, ⟨73, _⟩ => ⟨S200x128x128, .f32⟩
  | .hbm, ⟨74, _⟩ => ⟨S200x1x128, .f32⟩
  | .hbm, ⟨75, _⟩ => ⟨S200x128, .f32⟩
  | .hbm, ⟨76, _⟩ => ⟨S128x200, .f32⟩
  | .local _ .vmem, ⟨0, _⟩ => ⟨S4x1x128, .f32⟩
  | .local _ .vmem, ⟨1, _⟩ => ⟨S4x1x128, .f32⟩
  | .local _ .vmem, ⟨2, _⟩ => ⟨S10000x128, .f32⟩
  | .local _ .vmem, ⟨3, _⟩ => ⟨S456x128, .f32⟩
  | .local _ .vmem, ⟨4, _⟩ => ⟨S4x128x128, .f32⟩
  | .local _ .vmem, ⟨5, _⟩ => ⟨S1x1x128, .f32⟩
  | .local _ .vmem, ⟨6, _⟩ => ⟨S4x64x128, .f32⟩
  | .local _ .vmem, ⟨7, _⟩ => ⟨S4x64x128, .f32⟩
  | .local _ .vmem, ⟨8, _⟩ => ⟨S4x128x128, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x128x128, .f32⟩
  | .local _ .vmem, ⟨14, _⟩ => ⟨S4x1x128, .f32⟩
  | .local _ .vmem, ⟨15, _⟩ => ⟨S4x1x128, .f32⟩
  | .local _ .vmem, ⟨16, _⟩ => ⟨S512x128, .f32⟩
  | .local _ .vmem, ⟨17, _⟩ => ⟨S12800x1x128, .f32⟩
  | .local _ .vmem, ⟨18, _⟩ => ⟨S200x32x128, .f32⟩
  | .local _ .vmem, ⟨19, _⟩ => ⟨S200x32x128, .f32⟩
  | .local _ .vmem, ⟨20, _⟩ => ⟨S200x32x128, .f32⟩
  | .local _ .vmem, ⟨21, _⟩ => ⟨S200x32x128, .f32⟩
  | .local _ .vmem, ⟨22, _⟩ => ⟨S64x32x128, .f32⟩
  | .local _ .vmem, ⟨23, _⟩ => ⟨S64x32x128, .f32⟩
  | .local _ .vmem, ⟨24, _⟩ => ⟨S200x32x128, .f32⟩
  | .local _ .vmem, ⟨25, _⟩ => ⟨S200x32x128, .f32⟩
  | .local _ .vmem, ⟨26, _⟩ => ⟨S25x128x128, .f32⟩
  | .local _ .vmem, ⟨27, _⟩ => ⟨S25x128x128, .f32⟩
  | .local _ .vmem, ⟨28, _⟩ => ⟨S25x128x128, .f32⟩
  | .local _ .vmem, ⟨29, _⟩ => ⟨S25x128x128, .f32⟩
  | .local _ .vmem, ⟨30, _⟩ => ⟨S25x1x128, .f32⟩
  | .local _ .vmem, ⟨31, _⟩ => ⟨S25x1x128, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S1x1x128, .f32⟩
  | .local _ .vmem, ⟨36, _⟩ => ⟨S25x1x128, .f32⟩
  | .local _ .vmem, ⟨37, _⟩ => ⟨S25x1x128, .f32⟩
  | .local _ .smem, ⟨0, _⟩ => ⟨S200x128, .i32⟩
  | _, _ => ⟨S128x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51_0 : Ref sig .tc := ⟨.hbm, 67, rfl⟩
abbrev main_v51_1 : Ref sig .tc := ⟨.hbm, 68, rfl⟩
abbrev main_v51_2 : Ref sig .tc := ⟨.hbm, 69, rfl⟩
abbrev main_v51_3 : Ref sig .tc := ⟨.hbm, 70, rfl⟩
abbrev main_v51_4 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36

abbrev nD : Nat := 1
abbrev τ : Topo := Topo.v7x

variable {F : FTy → Type} [FloatOps F]

abbrev grid0 : Pipeline.Grid := ⟨1, ![50], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v2 : BitVec 32 := Scalar.addi v0 c0_i32
  let v3 : Index := Scalar.indexCast v2
  let c0 : Index := 0#32
  ![v3.toNat, 0]
def k0_mult1 (v4 : BitVec 32) : BitVec 32 :=
  let c3_i32 : BitVec 32 := 3#32
  let v5 : BitVec 32 := Scalar.shrsi v4 c3_i32
  let c3_i32_0 : BitVec 32 := 3#32
  let v6 : BitVec 32 := Scalar.shli v5 c3_i32_0
  v6

def k0_off2 (v4 : BitVec 32) : Fin 2 → Nat :=
  let c3_i32 : BitVec 32 := 3#32
  let v5 : BitVec 32 := Scalar.shrsi v4 c3_i32
  let c3_i32_0 : BitVec 32 := 3#32
  let v6 : BitVec 32 := Scalar.shli v5 c3_i32_0
  let v7 : BitVec 32 := v6
  let v8 : Index := Scalar.indexCast v7
  let c0_1 : Index := 0#32
  ![v8.toNat, 0]

def k0_chk1 (v4 : BitVec 32) : Prop :=
  (8 ∣ (k0_mult1 v4).toNat) ∧
  (∀ a, (k0_off2 v4) a + S8x128.size a ≤ S10000x128.size a)
theorem k0_mult1_dvd : ∀ (v4 : BitVec 32) (k0_hw1 : k0_chk1 v4), 8 ∣ (k0_mult1 v4).toNat := fun v4 k0_hw1 => k0_hw1.1
theorem k0_off2_inb : ∀ (v4 : BitVec 32) (k0_hw1 : k0_chk1 v4), ∀ a, (k0_off2 v4) a + S8x128.size a ≤ S10000x128.size a := fun v4 k0_hw1 => k0_hw1.2

def k0_off3 (i : grid0.Coords) : Fin 2 → Nat :=
  let arg0 : BitVec 32 := BitVec.ofNat 32 (i 0).val
  let c4_i32 : BitVec 32 := 4#32
  let v0 : BitVec 32 := Scalar.muli arg0 c4_i32
  let c0_i32_5 : BitVec 32 := 0#32
  let v20 : BitVec 32 := Scalar.addi v0 c0_i32_5
  let v21 : Index := Scalar.indexCast v20
  let c1 : Index := 1#32
  ![v21.toNat, 1]
def k0_mult2 (v22 : BitVec 32) : BitVec 32 :=
  let c3_i32_6 : BitVec 32 := 3#32
  let v23 : BitVec 32 := Scalar.shrsi v22 c3_i32_6
  let c3_i32_7 : BitVec 32 := 3#32
  let v24 : BitVec 32 := Scalar.shli v23 c3_i32_7
  v24

def k0_off4 (v22 : BitVec 32) : Fin 2 → Nat :=
  let c3_i32_6 : BitVec 32 := 3#32
  let v23 : BitVec 32 := Scalar.shrsi v22 c3_i32_6
  let c3_i32_7 : BitVec 32 := 3#32
  let v24 : BitVec 32 := Scalar.shli v23 c3_i32_7
  let v25 : BitVec 32 := v24
  let v26 : Index := Scalar.indexCast v25
  let c0_8 : Index := 0#32
  ![v26.toNat, 0]

def k0_chk2 (v22 : BitVec 32) : Prop :=
  (8 ∣ (k0_mult2 v22).toNat) ∧
  (∀ a, (k0_off4 v22) a + S8x128.size a ≤ S10000x128.size a)
theorem k0_mult2_dvd : ∀ (v22 : BitVec 32) (k0_hw2 : k0_chk2 v22), 8 ∣ (k0_mult2 v22).toNat := fun v22 k0_hw2 => k0_hw2.1
theorem k0_off4_inb : ∀ (v22 : BitVec 32) (k0_hw2 : k0_chk2 v22), ∀ a, (k0_off4 v22) a + S8x128.size a ≤ S10000x128.size a := fun v22 k0_hw2 => k0_hw2.2

def k0_off5 (i : grid0.Coords) : Fin 2 → Nat :=
  let arg0 : BitVec 32 := BitVec.ofNat 32 (i 0).val
  let c4_i32 : BitVec 32 := 4#32
  let v0 : BitVec 32 := Scalar.muli arg0 c4_i32
  let c0_i32_14 : BitVec 32 := 0#32
  let v38 : BitVec 32 := Scalar.addi v0 c0_i32_14
  let v39 : Index := Scalar.indexCast v38
  let c2 : Index := 2#32
  ![v39.toNat, 2]
def k0_mult3 (v40 : BitVec 32) : BitVec 32 :=
  let c3_i32_15 : BitVec 32 := 3#32
  let v41 : BitVec 32 := Scalar.shrsi v40 c3_i32_15
  let c3_i32_16 : BitVec 32 := 3#32
  let v42 : BitVec 32 := Scalar.shli v41 c3_i32_16
  v42

def k0_off6 (v40 : BitVec 32) : Fin 2 → Nat :=
  let c3_i32_15 : BitVec 32 := 3#32
  let v41 : BitVec 32 := Scalar.shrsi v40 c3_i32_15
  let c3_i32_16 : BitVec 32 := 3#32
  let v42 : BitVec 32 := Scalar.shli v41 c3_i32_16
  let v43 : BitVec 32 := v42
  let v44 : Index := Scalar.indexCast v43
  let c0_17 : Index := 0#32
  ![v44.toNat, 0]

def k0_chk3 (v40 : BitVec 32) : Prop :=
  (8 ∣ (k0_mult3 v40).toNat) ∧
  (∀ a, (k0_off6 v40) a + S8x128.size a ≤ S10000x128.size a)
theorem k0_mult3_dvd : ∀ (v40 : BitVec 32) (k0_hw3 : k0_chk3 v40), 8 ∣ (k0_mult3 v40).toNat := fun v40 k0_hw3 => k0_hw3.1
theorem k0_off6_inb : ∀ (v40 : BitVec 32) (k0_hw3 : k0_chk3 v40), ∀ a, (k0_off6 v40) a + S8x128.size a ≤ S10000x128.size a := fun v40 k0_hw3 => k0_hw3.2

def k0_off7 (i : grid0.Coords) : Fin 2 → Nat :=
  let arg0 : BitVec 32 := BitVec.ofNat 32 (i 0).val
  let c4_i32 : BitVec 32 := 4#32
  let v0 : BitVec 32 := Scalar.muli arg0 c4_i32
  let c0_i32_23 : BitVec 32 := 0#32
  let v56 : BitVec 32 := Scalar.addi v0 c0_i32_23
  let v57 : Index := Scalar.indexCast v56
  let c3 : Index := 3#32
  ![v57.toNat, 3]
def k0_mult4 (v58 : BitVec 32) : BitVec 32 :=
  let c3_i32_24 : BitVec 32 := 3#32
  let v59 : BitVec 32 := Scalar.shrsi v58 c3_i32_24
  let c3_i32_25 : BitVec 32 := 3#32
  let v60 : BitVec 32 := Scalar.shli v59 c3_i32_25
  v60

def k0_off8 (v58 : BitVec 32) : Fin 2 → Nat :=
  let c3_i32_24 : BitVec 32 := 3#32
  let v59 : BitVec 32 := Scalar.shrsi v58 c3_i32_24
  let c3_i32_25 : BitVec 32 := 3#32
  let v60 : BitVec 32 := Scalar.shli v59 c3_i32_25
  let v61 : BitVec 32 := v60
  let v62 : Index := Scalar.indexCast v61
  let c0_26 : Index := 0#32
  ![v62.toNat, 0]

def k0_chk4 (v58 : BitVec 32) : Prop :=
  (8 ∣ (k0_mult4 v58).toNat) ∧
  (∀ a, (k0_off8 v58) a + S8x128.size a ≤ S10000x128.size a)
theorem k0_mult4_dvd : ∀ (v58 : BitVec 32) (k0_hw4 : k0_chk4 v58), 8 ∣ (k0_mult4 v58).toNat := fun v58 k0_hw4 => k0_hw4.1
theorem k0_off8_inb : ∀ (v58 : BitVec 32) (k0_hw4 : k0_chk4 v58), ∀ a, (k0_off8 v58) a + S8x128.size a ≤ S10000x128.size a := fun v58 k0_hw4 => k0_hw4.2

def k0_off9 (i : grid0.Coords) : Fin 2 → Nat :=
  let arg0 : BitVec 32 := BitVec.ofNat 32 (i 0).val
  let c4_i32 : BitVec 32 := 4#32
  let v0 : BitVec 32 := Scalar.muli arg0 c4_i32
  let c0_i32_32 : BitVec 32 := 0#32
  let v74 : BitVec 32 := Scalar.addi v0 c0_i32_32
  let v75 : Index := Scalar.indexCast v74
  let c4 : Index := 4#32
  ![v75.toNat, 4]
def k0_mult5 (v76 : BitVec 32) : BitVec 32 :=
  let c3_i32_33 : BitVec 32 := 3#32
  let v77 : BitVec 32 := Scalar.shrsi v76 c3_i32_33
  let c3_i32_34 : BitVec 32 := 3#32
  let v78 : BitVec 32 := Scalar.shli v77 c3_i32_34
  v78

def k0_off10 (v76 : BitVec 32) : Fin 2 → Nat :=
  let c3_i32_33 : BitVec 32 := 3#32
  let v77 : BitVec 32 := Scalar.shrsi v76 c3_i32_33
  let c3_i32_34 : BitVec 32 := 3#32
  let v78 : BitVec 32 := Scalar.shli v77 c3_i32_34
  let v79 : BitVec 32 := v78
  let v80 : Index := Scalar.indexCast v79
  let c0_35 : Index := 0#32
  ![v80.toNat, 0]

def k0_chk5 (v76 : BitVec 32) : Prop :=
  (8 ∣ (k0_mult5 v76).toNat) ∧
  (∀ a, (k0_off10 v76) a + S8x128.size a ≤ S10000x128.size a)
theorem k0_mult5_dvd : ∀ (v76 : BitVec 32) (k0_hw5 : k0_chk5 v76), 8 ∣ (k0_mult5 v76).toNat := fun v76 k0_hw5 => k0_hw5.1
theorem k0_off10_inb : ∀ (v76 : BitVec 32) (k0_hw5 : k0_chk5 v76), ∀ a, (k0_off10 v76) a + S8x128.size a ≤ S10000x128.size a := fun v76 k0_hw5 => k0_hw5.2

def k0_off11 (i : grid0.Coords) : Fin 2 → Nat :=
  let arg0 : BitVec 32 := BitVec.ofNat 32 (i 0).val
  let c4_i32 : BitVec 32 := 4#32
  let v0 : BitVec 32 := Scalar.muli arg0 c4_i32
  let c0_i32_41 : BitVec 32 := 0#32
  let v92 : BitVec 32 := Scalar.addi v0 c0_i32_41
  let v93 : Index := Scalar.indexCast v92
  let c5 : Index := 5#32
  ![v93.toNat, 5]
def k0_mult6 (v94 : BitVec 32) : BitVec 32 :=
  let c3_i32_42 : BitVec 32 := 3#32
  let v95 : BitVec 32 := Scalar.shrsi v94 c3_i32_42
  let c3_i32_43 : BitVec 32 := 3#32
  let v96 : BitVec 32 := Scalar.shli v95 c3_i32_43
  v96

def k0_off12 (v94 : BitVec 32) : Fin 2 → Nat :=
  let c3_i32_42 : BitVec 32 := 3#32
  let v95 : BitVec 32 := Scalar.shrsi v94 c3_i32_42
  let c3_i32_43 : BitVec 32 := 3#32
  let v96 : BitVec 32 := Scalar.shli v95 c3_i32_43
  let v97 : BitVec 32 := v96
  let v98 : Index := Scalar.indexCast v97
  let c0_44 : Index := 0#32
  ![v98.toNat, 0]

def k0_chk6 (v94 : BitVec 32) : Prop :=
  (8 ∣ (k0_mult6 v94).toNat) ∧
  (∀ a, (k0_off12 v94) a + S8x128.size a ≤ S10000x128.size a)
theorem k0_mult6_dvd : ∀ (v94 : BitVec 32) (k0_hw6 : k0_chk6 v94), 8 ∣ (k0_mult6 v94).toNat := fun v94 k0_hw6 => k0_hw6.1
theorem k0_off12_inb : ∀ (v94 : BitVec 32) (k0_hw6 : k0_chk6 v94), ∀ a, (k0_off12 v94) a + S8x128.size a ≤ S10000x128.size a := fun v94 k0_hw6 => k0_hw6.2

def k0_off13 (i : grid0.Coords) : Fin 2 → Nat :=
  let arg0 : BitVec 32 := BitVec.ofNat 32 (i 0).val
  let c4_i32 : BitVec 32 := 4#32
  let v0 : BitVec 32 := Scalar.muli arg0 c4_i32
  let c0_i32_50 : BitVec 32 := 0#32
  let v110 : BitVec 32 := Scalar.addi v0 c0_i32_50
  let v111 : Index := Scalar.indexCast v110
  let c6 : Index := 6#32
  ![v111.toNat, 6]
def k0_mult7 (v112 : BitVec 32) : BitVec 32 :=
  let c3_i32_51 : BitVec 32 := 3#32
  let v113 : BitVec 32 := Scalar.shrsi v112 c3_i32_51
  let c3_i32_52 : BitVec 32 := 3#32
  let v114 : BitVec 32 := Scalar.shli v113 c3_i32_52
  v114

def k0_off14 (v112 : BitVec 32) : Fin 2 → Nat :=
  let c3_i32_51 : BitVec 32 := 3#32
  let v113 : BitVec 32 := Scalar.shrsi v112 c3_i32_51
  let c3_i32_52 : BitVec 32 := 3#32
  let v114 : BitVec 32 := Scalar.shli v113 c3_i32_52
  let v115 : BitVec 32 := v114
  let v116 : Index := Scalar.indexCast v115
  let c0_53 : Index := 0#32
  ![v116.toNat, 0]

def k0_chk7 (v112 : BitVec 32) : Prop :=
  (8 ∣ (k0_mult7 v112).toNat) ∧
  (∀ a, (k0_off14 v112) a + S8x128.size a ≤ S10000x128.size a)
theorem k0_mult7_dvd : ∀ (v112 : BitVec 32) (k0_hw7 : k0_chk7 v112), 8 ∣ (k0_mult7 v112).toNat := fun v112 k0_hw7 => k0_hw7.1
theorem k0_off14_inb : ∀ (v112 : BitVec 32) (k0_hw7 : k0_chk7 v112), ∀ a, (k0_off14 v112) a + S8x128.size a ≤ S10000x128.size a := fun v112 k0_hw7 => k0_hw7.2

def k0_off15 (i : grid0.Coords) : Fin 2 → Nat :=
  let arg0 : BitVec 32 := BitVec.ofNat 32 (i 0).val
  let c4_i32 : BitVec 32 := 4#32
  let v0 : BitVec 32 := Scalar.muli arg0 c4_i32
  let c0_i32_59 : BitVec 32 := 0#32
  let v128 : BitVec 32 := Scalar.addi v0 c0_i32_59
  let v129 : Index := Scalar.indexCast v128
  let c7 : Index := 7#32
  ![v129.toNat, 7]
def k0_mult8 (v130 : BitVec 32) : BitVec 32 :=
  let c3_i32_60 : BitVec 32 := 3#32
  let v131 : BitVec 32 := Scalar.shrsi v130 c3_i32_60
  let c3_i32_61 : BitVec 32 := 3#32
  let v132 : BitVec 32 := Scalar.shli v131 c3_i32_61
  v132

def k0_off16 (v130 : BitVec 32) : Fin 2 → Nat :=
  let c3_i32_60 : BitVec 32 := 3#32
  let v131 : BitVec 32 := Scalar.shrsi v130 c3_i32_60
  let c3_i32_61 : BitVec 32 := 3#32
  let v132 : BitVec 32 := Scalar.shli v131 c3_i32_61
  let v133 : BitVec 32 := v132
  let v134 : Index := Scalar.indexCast v133
  let c0_62 : Index := 0#32
  ![v134.toNat, 0]

def k0_chk8 (v130 : BitVec 32) : Prop :=
  (8 ∣ (k0_mult8 v130).toNat) ∧
  (∀ a, (k0_off16 v130) a + S8x128.size a ≤ S10000x128.size a)
theorem k0_mult8_dvd : ∀ (v130 : BitVec 32) (k0_hw8 : k0_chk8 v130), 8 ∣ (k0_mult8 v130).toNat := fun v130 k0_hw8 => k0_hw8.1
theorem k0_off16_inb : ∀ (v130 : BitVec 32) (k0_hw8 : k0_chk8 v130), ∀ a, (k0_off16 v130) a + S8x128.size a ≤ S10000x128.size a := fun v130 k0_hw8 => k0_hw8.2

def k0_off17 (i : grid0.Coords) : Fin 2 → Nat :=
  let arg0 : BitVec 32 := BitVec.ofNat 32 (i 0).val
  let c4_i32 : BitVec 32 := 4#32
  let v0 : BitVec 32 := Scalar.muli arg0 c4_i32
  let c0_i32_68 : BitVec 32 := 0#32
  let v146 : BitVec 32 := Scalar.addi v0 c0_i32_68
  let v147 : Index := Scalar.indexCast v146
  let c8 : Index := 8#32
  ![v147.toNat, 8]
def k0_mult9 (v148 : BitVec 32) : BitVec 32 :=
  let c3_i32_69 : BitVec 32 := 3#32
  let v149 : BitVec 32 := Scalar.shrsi v148 c3_i32_69
  let c3_i32_70 : BitVec 32 := 3#32
  let v150 : BitVec 32 := Scalar.shli v149 c3_i32_70
  v150

def k0_off18 (v148 : BitVec 32) : Fin 2 → Nat :=
  let c3_i32_69 : BitVec 32 := 3#32
  let v149 : BitVec 32 := Scalar.shrsi v148 c3_i32_69
  let c3_i32_70 : BitVec 32 := 3#32
  let v150 : BitVec 32 := Scalar.shli v149 c3_i32_70
  let v151 : BitVec 32 := v150
  let v152 : Index := Scalar.indexCast v151
  let c0_71 : Index := 0#32
  ![v152.toNat, 0]

def k0_chk9 (v148 : BitVec 32) : Prop :=
  (8 ∣ (k0_mult9 v148).toNat) ∧
  (∀ a, (k0_off18 v148) a + S8x128.size a ≤ S10000x128.size a)
theorem k0_mult9_dvd : ∀ (v148 : BitVec 32) (k0_hw9 : k0_chk9 v148), 8 ∣ (k0_mult9 v148).toNat := fun v148 k0_hw9 => k0_hw9.1
theorem k0_off18_inb : ∀ (v148 : BitVec 32) (k0_hw9 : k0_chk9 v148), ∀ a, (k0_off18 v148) a + S8x128.size a ≤ S10000x128.size a := fun v148 k0_hw9 => k0_hw9.2

def k0_off19 (i : grid0.Coords) : Fin 2 → Nat :=
  let arg0 : BitVec 32 := BitVec.ofNat 32 (i 0).val
  let c4_i32 : BitVec 32 := 4#32
  let v0 : BitVec 32 := Scalar.muli arg0 c4_i32
  let c0_i32_77 : BitVec 32 := 0#32
  let v164 : BitVec 32 := Scalar.addi v0 c0_i32_77
  let v165 : Index := Scalar.indexCast v164
  let c9 : Index := 9#32
  ![v165.toNat, 9]
def k0_mult10 (v166 : BitVec 32) : BitVec 32 :=
  let c3_i32_78 : BitVec 32 := 3#32
  let v167 : BitVec 32 := Scalar.shrsi v166 c3_i32_78
  let c3_i32_79 : BitVec 32 := 3#32
  let v168 : BitVec 32 := Scalar.shli v167 c3_i32_79
  v168

def k0_off20 (v166 : BitVec 32) : Fin 2 → Nat :=
  let c3_i32_78 : BitVec 32 := 3#32
  let v167 : BitVec 32 := Scalar.shrsi v166 c3_i32_78
  let c3_i32_79 : BitVec 32 := 3#32
  let v168 : BitVec 32 := Scalar.shli v167 c3_i32_79
  let v169 : BitVec 32 := v168
  let v170 : Index := Scalar.indexCast v169
  let c0_80 : Index := 0#32
  ![v170.toNat, 0]

def k0_chk10 (v166 : BitVec 32) : Prop :=
  (8 ∣ (k0_mult10 v166).toNat) ∧
  (∀ a, (k0_off20 v166) a + S8x128.size a ≤ S10000x128.size a)
theorem k0_mult10_dvd : ∀ (v166 : BitVec 32) (k0_hw10 : k0_chk10 v166), 8 ∣ (k0_mult10 v166).toNat := fun v166 k0_hw10 => k0_hw10.1
theorem k0_off20_inb : ∀ (v166 : BitVec 32) (k0_hw10 : k0_chk10 v166), ∀ a, (k0_off20 v166) a + S8x128.size a ≤ S10000x128.size a := fun v166 k0_hw10 => k0_hw10.2

def k0_off21 (i : grid0.Coords) : Fin 2 → Nat :=
  let arg0 : BitVec 32 := BitVec.ofNat 32 (i 0).val
  let c4_i32 : BitVec 32 := 4#32
  let v0 : BitVec 32 := Scalar.muli arg0 c4_i32
  let c0_i32_86 : BitVec 32 := 0#32
  let v182 : BitVec 32 := Scalar.addi v0 c0_i32_86
  let v183 : Index := Scalar.indexCast v182
  let c10 : Index := 10#32
  ![v183.toNat, 10]
def k0_mult11 (v184 : BitVec 32) : BitVec 32 :=
  let c3_i32_87 : BitVec 32 := 3#32
  let v185 : BitVec 32 := Scalar.shrsi v184 c3_i32_87
  let c3_i32_88 : BitVec 32 := 3#32
  let v186 : BitVec 32 := Scalar.shli v185 c3_i32_88
  v186

def k0_off22 (v184 : BitVec 32) : Fin 2 → Nat :=
  let c3_i32_87 : BitVec 32 := 3#32
  let v185 : BitVec 32 := Scalar.shrsi v184 c3_i32_87
  let c3_i32_88 : BitVec 32 := 3#32
  let v186 : BitVec 32 := Scalar.shli v185 c3_i32_88
  let v187 : BitVec 32 := v186
  let v188 : Index := Scalar.indexCast v187
  let c0_89 : Index := 0#32
  ![v188.toNat, 0]

def k0_chk11 (v184 : BitVec 32) : Prop :=
  (8 ∣ (k0_mult11 v184).toNat) ∧
  (∀ a, (k0_off22 v184) a + S8x128.size a ≤ S10000x128.size a)
theorem k0_mult11_dvd : ∀ (v184 : BitVec 32) (k0_hw11 : k0_chk11 v184), 8 ∣ (k0_mult11 v184).toNat := fun v184 k0_hw11 => k0_hw11.1
theorem k0_off22_inb : ∀ (v184 : BitVec 32) (k0_hw11 : k0_chk11 v184), ∀ a, (k0_off22 v184) a + S8x128.size a ≤ S10000x128.size a := fun v184 k0_hw11 => k0_hw11.2

def k0_off23 (i : grid0.Coords) : Fin 2 → Nat :=
  let arg0 : BitVec 32 := BitVec.ofNat 32 (i 0).val
  let c4_i32 : BitVec 32 := 4#32
  let v0 : BitVec 32 := Scalar.muli arg0 c4_i32
  let c0_i32_95 : BitVec 32 := 0#32
  let v200 : BitVec 32 := Scalar.addi v0 c0_i32_95
  let v201 : Index := Scalar.indexCast v200
  let c11 : Index := 11#32
  ![v201.toNat, 11]
def k0_mult12 (v202 : BitVec 32) : BitVec 32 :=
  let c3_i32_96 : BitVec 32 := 3#32
  let v203 : BitVec 32 := Scalar.shrsi v202 c3_i32_96
  let c3_i32_97 : BitVec 32 := 3#32
  let v204 : BitVec 32 := Scalar.shli v203 c3_i32_97
  v204

def k0_off24 (v202 : BitVec 32) : Fin 2 → Nat :=
  let c3_i32_96 : BitVec 32 := 3#32
  let v203 : BitVec 32 := Scalar.shrsi v202 c3_i32_96
  let c3_i32_97 : BitVec 32 := 3#32
  let v204 : BitVec 32 := Scalar.shli v203 c3_i32_97
  let v205 : BitVec 32 := v204
  let v206 : Index := Scalar.indexCast v205
  let c0_98 : Index := 0#32
  ![v206.toNat, 0]

def k0_chk12 (v202 : BitVec 32) : Prop :=
  (8 ∣ (k0_mult12 v202).toNat) ∧
  (∀ a, (k0_off24 v202) a + S8x128.size a ≤ S10000x128.size a)
theorem k0_mult12_dvd : ∀ (v202 : BitVec 32) (k0_hw12 : k0_chk12 v202), 8 ∣ (k0_mult12 v202).toNat := fun v202 k0_hw12 => k0_hw12.1
theorem k0_off24_inb : ∀ (v202 : BitVec 32) (k0_hw12 : k0_chk12 v202), ∀ a, (k0_off24 v202) a + S8x128.size a ≤ S10000x128.size a := fun v202 k0_hw12 => k0_hw12.2

def k0_off25 (i : grid0.Coords) : Fin 2 → Nat :=
  let arg0 : BitVec 32 := BitVec.ofNat 32 (i 0).val
  let c4_i32 : BitVec 32 := 4#32
  let v0 : BitVec 32 := Scalar.muli arg0 c4_i32
  let c0_i32_104 : BitVec 32 := 0#32
  let v218 : BitVec 32 := Scalar.addi v0 c0_i32_104
  let v219 : Index := Scalar.indexCast v218
  let c12 : Index := 12#32
  ![v219.toNat, 12]
def k0_mult13 (v220 : BitVec 32) : BitVec 32 :=
  let c3_i32_105 : BitVec 32 := 3#32
  let v221 : BitVec 32 := Scalar.shrsi v220 c3_i32_105
  let c3_i32_106 : BitVec 32 := 3#32
  let v222 : BitVec 32 := Scalar.shli v221 c3_i32_106
  v222

def k0_off26 (v220 : BitVec 32) : Fin 2 → Nat :=
  let c3_i32_105 : BitVec 32 := 3#32
  let v221 : BitVec 32 := Scalar.shrsi v220 c3_i32_105
  let c3_i32_106 : BitVec 32 := 3#32
  let v222 : BitVec 32 := Scalar.shli v221 c3_i32_106
  let v223 : BitVec 32 := v222
  let v224 : Index := Scalar.indexCast v223
  let c0_107 : Index := 0#32
  ![v224.toNat, 0]

def k0_chk13 (v220 : BitVec 32) : Prop :=
  (8 ∣ (k0_mult13 v220).toNat) ∧
  (∀ a, (k0_off26 v220) a + S8x128.size a ≤ S10000x128.size a)
theorem k0_mult13_dvd : ∀ (v220 : BitVec 32) (k0_hw13 : k0_chk13 v220), 8 ∣ (k0_mult13 v220).toNat := fun v220 k0_hw13 => k0_hw13.1
theorem k0_off26_inb : ∀ (v220 : BitVec 32) (k0_hw13 : k0_chk13 v220), ∀ a, (k0_off26 v220) a + S8x128.size a ≤ S10000x128.size a := fun v220 k0_hw13 => k0_hw13.2

def k0_off27 (i : grid0.Coords) : Fin 2 → Nat :=
  let arg0 : BitVec 32 := BitVec.ofNat 32 (i 0).val
  let c4_i32 : BitVec 32 := 4#32
  let v0 : BitVec 32 := Scalar.muli arg0 c4_i32
  let c0_i32_113 : BitVec 32 := 0#32
  let v236 : BitVec 32 := Scalar.addi v0 c0_i32_113
  let v237 : Index := Scalar.indexCast v236
  let c13 : Index := 13#32
  ![v237.toNat, 13]
def k0_mult14 (v238 : BitVec 32) : BitVec 32 :=
  let c3_i32_114 : BitVec 32 := 3#32
  let v239 : BitVec 32 := Scalar.shrsi v238 c3_i32_114
  let c3_i32_115 : BitVec 32 := 3#32
  let v240 : BitVec 32 := Scalar.shli v239 c3_i32_115
  v240

def k0_off28 (v238 : BitVec 32) : Fin 2 → Nat :=
  let c3_i32_114 : BitVec 32 := 3#32
  let v239 : BitVec 32 := Scalar.shrsi v238 c3_i32_114
  let c3_i32_115 : BitVec 32 := 3#32
  let v240 : BitVec 32 := Scalar.shli v239 c3_i32_115
  let v241 : BitVec 32 := v240
  let v242 : Index := Scalar.indexCast v241
  let c0_116 : Index := 0#32
  ![v242.toNat, 0]

def k0_chk14 (v238 : BitVec 32) : Prop :=
  (8 ∣ (k0_mult14 v238).toNat) ∧
  (∀ a, (k0_off28 v238) a + S8x128.size a ≤ S10000x128.size a)
theorem k0_mult14_dvd : ∀ (v238 : BitVec 32) (k0_hw14 : k0_chk14 v238), 8 ∣ (k0_mult14 v238).toNat := fun v238 k0_hw14 => k0_hw14.1
theorem k0_off28_inb : ∀ (v238 : BitVec 32) (k0_hw14 : k0_chk14 v238), ∀ a, (k0_off28 v238) a + S8x128.size a ≤ S10000x128.size a := fun v238 k0_hw14 => k0_hw14.2

def k0_off29 (i : grid0.Coords) : Fin 2 → Nat :=
  let arg0 : BitVec 32 := BitVec.ofNat 32 (i 0).val
  let c4_i32 : BitVec 32 := 4#32
  let v0 : BitVec 32 := Scalar.muli arg0 c4_i32
  let c0_i32_122 : BitVec 32 := 0#32
  let v254 : BitVec 32 := Scalar.addi v0 c0_i32_122
  let v255 : Index := Scalar.indexCast v254
  let c14 : Index := 14#32
  ![v255.toNat, 14]
def k0_mult15 (v256 : BitVec 32) : BitVec 32 :=
  let c3_i32_123 : BitVec 32 := 3#32
  let v257 : BitVec 32 := Scalar.shrsi v256 c3_i32_123
  let c3_i32_124 : BitVec 32 := 3#32
  let v258 : BitVec 32 := Scalar.shli v257 c3_i32_124
  v258

def k0_off30 (v256 : BitVec 32) : Fin 2 → Nat :=
  let c3_i32_123 : BitVec 32 := 3#32
  let v257 : BitVec 32 := Scalar.shrsi v256 c3_i32_123
  let c3_i32_124 : BitVec 32 := 3#32
  let v258 : BitVec 32 := Scalar.shli v257 c3_i32_124
  let v259 : BitVec 32 := v258
  let v260 : Index := Scalar.indexCast v259
  let c0_125 : Index := 0#32
  ![v260.toNat, 0]

def k0_chk15 (v256 : BitVec 32) : Prop :=
  (8 ∣ (k0_mult15 v256).toNat) ∧
  (∀ a, (k0_off30 v256) a + S8x128.size a ≤ S10000x128.size a)
theorem k0_mult15_dvd : ∀ (v256 : BitVec 32) (k0_hw15 : k0_chk15 v256), 8 ∣ (k0_mult15 v256).toNat := fun v256 k0_hw15 => k0_hw15.1
theorem k0_off30_inb : ∀ (v256 : BitVec 32) (k0_hw15 : k0_chk15 v256), ∀ a, (k0_off30 v256) a + S8x128.size a ≤ S10000x128.size a := fun v256 k0_hw15 => k0_hw15.2

def k0_off31 (i : grid0.Coords) : Fin 2 → Nat :=
  let arg0 : BitVec 32 := BitVec.ofNat 32 (i 0).val
  let c4_i32 : BitVec 32 := 4#32
  let v0 : BitVec 32 := Scalar.muli arg0 c4_i32
  let c0_i32_131 : BitVec 32 := 0#32
  let v272 : BitVec 32 := Scalar.addi v0 c0_i32_131
  let v273 : Index := Scalar.indexCast v272
  let c15 : Index := 15#32
  ![v273.toNat, 15]
def k0_mult16 (v274 : BitVec 32) : BitVec 32 :=
  let c3_i32_132 : BitVec 32 := 3#32
  let v275 : BitVec 32 := Scalar.shrsi v274 c3_i32_132
  let c3_i32_133 : BitVec 32 := 3#32
  let v276 : BitVec 32 := Scalar.shli v275 c3_i32_133
  v276

def k0_off32 (v274 : BitVec 32) : Fin 2 → Nat :=
  let c3_i32_132 : BitVec 32 := 3#32
  let v275 : BitVec 32 := Scalar.shrsi v274 c3_i32_132
  let c3_i32_133 : BitVec 32 := 3#32
  let v276 : BitVec 32 := Scalar.shli v275 c3_i32_133
  let v277 : BitVec 32 := v276
  let v278 : Index := Scalar.indexCast v277
  let c0_134 : Index := 0#32
  ![v278.toNat, 0]

def k0_chk16 (v274 : BitVec 32) : Prop :=
  (8 ∣ (k0_mult16 v274).toNat) ∧
  (∀ a, (k0_off32 v274) a + S8x128.size a ≤ S10000x128.size a)
theorem k0_mult16_dvd : ∀ (v274 : BitVec 32) (k0_hw16 : k0_chk16 v274), 8 ∣ (k0_mult16 v274).toNat := fun v274 k0_hw16 => k0_hw16.1
theorem k0_off32_inb : ∀ (v274 : BitVec 32) (k0_hw16 : k0_chk16 v274), ∀ a, (k0_off32 v274) a + S8x128.size a ≤ S10000x128.size a := fun v274 k0_hw16 => k0_hw16.2

def k0_off33 (i : grid0.Coords) : Fin 2 → Nat :=
  let arg0 : BitVec 32 := BitVec.ofNat 32 (i 0).val
  let c4_i32 : BitVec 32 := 4#32
  let v0 : BitVec 32 := Scalar.muli arg0 c4_i32
  let c0_i32_140 : BitVec 32 := 0#32
  let v290 : BitVec 32 := Scalar.addi v0 c0_i32_140
  let v291 : Index := Scalar.indexCast v290
  let c16 : Index := 16#32
  ![v291.toNat, 16]
def k0_mult17 (v292 : BitVec 32) : BitVec 32 :=
  let c3_i32_141 : BitVec 32 := 3#32
  let v293 : BitVec 32 := Scalar.shrsi v292 c3_i32_141
  let c3_i32_142 : BitVec 32 := 3#32
  let v294 : BitVec 32 := Scalar.shli v293 c3_i32_142
  v294

def k0_off34 (v292 : BitVec 32) : Fin 2 → Nat :=
  let c3_i32_141 : BitVec 32 := 3#32
  let v293 : BitVec 32 := Scalar.shrsi v292 c3_i32_141
  let c3_i32_142 : BitVec 32 := 3#32
  let v294 : BitVec 32 := Scalar.shli v293 c3_i32_142
  let v295 : BitVec 32 := v294
  let v296 : Index := Scalar.indexCast v295
  let c0_143 : Index := 0#32
  ![v296.toNat, 0]

def k0_chk17 (v292 : BitVec 32) : Prop :=
  (8 ∣ (k0_mult17 v292).toNat) ∧
  (∀ a, (k0_off34 v292) a + S8x128.size a ≤ S10000x128.size a)
theorem k0_mult17_dvd : ∀ (v292 : BitVec 32) (k0_hw17 : k0_chk17 v292), 8 ∣ (k0_mult17 v292).toNat := fun v292 k0_hw17 => k0_hw17.1
theorem k0_off34_inb : ∀ (v292 : BitVec 32) (k0_hw17 : k0_chk17 v292), ∀ a, (k0_off34 v292) a + S8x128.size a ≤ S10000x128.size a := fun v292 k0_hw17 => k0_hw17.2

def k0_off35 (i : grid0.Coords) : Fin 2 → Nat :=
  let arg0 : BitVec 32 := BitVec.ofNat 32 (i 0).val
  let c4_i32 : BitVec 32 := 4#32
  let v0 : BitVec 32 := Scalar.muli arg0 c4_i32
  let c0_i32_149 : BitVec 32 := 0#32
  let v308 : BitVec 32 := Scalar.addi v0 c0_i32_149
  let v309 : Index := Scalar.indexCast v308
  let c17 : Index := 17#32
  ![v309.toNat, 17]
def k0_mult18 (v310 : BitVec 32) : BitVec 32 :=
  let c3_i32_150 : BitVec 32 := 3#32
  let v311 : BitVec 32 := Scalar.shrsi v310 c3_i32_150
  let c3_i32_151 : BitVec 32 := 3#32
  let v312 : BitVec 32 := Scalar.shli v311 c3_i32_151
  v312

def k0_off36 (v310 : BitVec 32) : Fin 2 → Nat :=
  let c3_i32_150 : BitVec 32 := 3#32
  let v311 : BitVec 32 := Scalar.shrsi v310 c3_i32_150
  let c3_i32_151 : BitVec 32 := 3#32
  let v312 : BitVec 32 := Scalar.shli v311 c3_i32_151
  let v313 : BitVec 32 := v312
  let v314 : Index := Scalar.indexCast v313
  let c0_152 : Index := 0#32
  ![v314.toNat, 0]

def k0_chk18 (v310 : BitVec 32) : Prop :=
  (8 ∣ (k0_mult18 v310).toNat) ∧
  (∀ a, (k0_off36 v310) a + S8x128.size a ≤ S10000x128.size a)
theorem k0_mult18_dvd : ∀ (v310 : BitVec 32) (k0_hw18 : k0_chk18 v310), 8 ∣ (k0_mult18 v310).toNat := fun v310 k0_hw18 => k0_hw18.1
theorem k0_off36_inb : ∀ (v310 : BitVec 32) (k0_hw18 : k0_chk18 v310), ∀ a, (k0_off36 v310) a + S8x128.size a ≤ S10000x128.size a := fun v310 k0_hw18 => k0_hw18.2

def k0_off37 (i : grid0.Coords) : Fin 2 → Nat :=
  let arg0 : BitVec 32 := BitVec.ofNat 32 (i 0).val
  let c4_i32 : BitVec 32 := 4#32
  let v0 : BitVec 32 := Scalar.muli arg0 c4_i32
  let c0_i32_158 : BitVec 32 := 0#32
  let v326 : BitVec 32 := Scalar.addi v0 c0_i32_158
  let v327 : Index := Scalar.indexCast v326
  let c18 : Index := 18#32
  ![v327.toNat, 18]
def k0_mult19 (v328 : BitVec 32) : BitVec 32 :=
  let c3_i32_159 : BitVec 32 := 3#32
  let v329 : BitVec 32 := Scalar.shrsi v328 c3_i32_159
  let c3_i32_160 : BitVec 32 := 3#32
  let v330 : BitVec 32 := Scalar.shli v329 c3_i32_160
  v330

def k0_off38 (v328 : BitVec 32) : Fin 2 → Nat :=
  let c3_i32_159 : BitVec 32 := 3#32
  let v329 : BitVec 32 := Scalar.shrsi v328 c3_i32_159
  let c3_i32_160 : BitVec 32 := 3#32
  let v330 : BitVec 32 := Scalar.shli v329 c3_i32_160
  let v331 : BitVec 32 := v330
  let v332 : Index := Scalar.indexCast v331
  let c0_161 : Index := 0#32
  ![v332.toNat, 0]

def k0_chk19 (v328 : BitVec 32) : Prop :=
  (8 ∣ (k0_mult19 v328).toNat) ∧
  (∀ a, (k0_off38 v328) a + S8x128.size a ≤ S10000x128.size a)
theorem k0_mult19_dvd : ∀ (v328 : BitVec 32) (k0_hw19 : k0_chk19 v328), 8 ∣ (k0_mult19 v328).toNat := fun v328 k0_hw19 => k0_hw19.1
theorem k0_off38_inb : ∀ (v328 : BitVec 32) (k0_hw19 : k0_chk19 v328), ∀ a, (k0_off38 v328) a + S8x128.size a ≤ S10000x128.size a := fun v328 k0_hw19 => k0_hw19.2

def k0_off39 (i : grid0.Coords) : Fin 2 → Nat :=
  let arg0 : BitVec 32 := BitVec.ofNat 32 (i 0).val
  let c4_i32 : BitVec 32 := 4#32
  let v0 : BitVec 32 := Scalar.muli arg0 c4_i32
  let c0_i32_167 : BitVec 32 := 0#32
  let v344 : BitVec 32 := Scalar.addi v0 c0_i32_167
  let v345 : Index := Scalar.indexCast v344
  let c19 : Index := 19#32
  ![v345.toNat, 19]
def k0_mult20 (v346 : BitVec 32) : BitVec 32 :=
  let c3_i32_168 : BitVec 32 := 3#32
  let v347 : BitVec 32 := Scalar.shrsi v346 c3_i32_168
  let c3_i32_169 : BitVec 32 := 3#32
  let v348 : BitVec 32 := Scalar.shli v347 c3_i32_169
  v348

def k0_off40 (v346 : BitVec 32) : Fin 2 → Nat :=
  let c3_i32_168 : BitVec 32 := 3#32
  let v347 : BitVec 32 := Scalar.shrsi v346 c3_i32_168
  let c3_i32_169 : BitVec 32 := 3#32
  let v348 : BitVec 32 := Scalar.shli v347 c3_i32_169
  let v349 : BitVec 32 := v348
  let v350 : Index := Scalar.indexCast v349
  let c0_170 : Index := 0#32
  ![v350.toNat, 0]

def k0_chk20 (v346 : BitVec 32) : Prop :=
  (8 ∣ (k0_mult20 v346).toNat) ∧
  (∀ a, (k0_off40 v346) a + S8x128.size a ≤ S10000x128.size a)
theorem k0_mult20_dvd : ∀ (v346 : BitVec 32) (k0_hw20 : k0_chk20 v346), 8 ∣ (k0_mult20 v346).toNat := fun v346 k0_hw20 => k0_hw20.1
theorem k0_off40_inb : ∀ (v346 : BitVec 32) (k0_hw20 : k0_chk20 v346), ∀ a, (k0_off40 v346) a + S8x128.size a ≤ S10000x128.size a := fun v346 k0_hw20 => k0_hw20.2

def k0_off41 (i : grid0.Coords) : Fin 2 → Nat :=
  let arg0 : BitVec 32 := BitVec.ofNat 32 (i 0).val
  let c4_i32 : BitVec 32 := 4#32
  let v0 : BitVec 32 := Scalar.muli arg0 c4_i32
  let c0_i32_176 : BitVec 32 := 0#32
  let v362 : BitVec 32 := Scalar.addi v0 c0_i32_176
  let v363 : Index := Scalar.indexCast v362
  let c20 : Index := 20#32
  ![v363.toNat, 20]
def k0_mult21 (v364 : BitVec 32) : BitVec 32 :=
  let c3_i32_177 : BitVec 32 := 3#32
  let v365 : BitVec 32 := Scalar.shrsi v364 c3_i32_177
  let c3_i32_178 : BitVec 32 := 3#32
  let v366 : BitVec 32 := Scalar.shli v365 c3_i32_178
  v366

def k0_off42 (v364 : BitVec 32) : Fin 2 → Nat :=
  let c3_i32_177 : BitVec 32 := 3#32
  let v365 : BitVec 32 := Scalar.shrsi v364 c3_i32_177
  let c3_i32_178 : BitVec 32 := 3#32
  let v366 : BitVec 32 := Scalar.shli v365 c3_i32_178
  let v367 : BitVec 32 := v366
  let v368 : Index := Scalar.indexCast v367
  let c0_179 : Index := 0#32
  ![v368.toNat, 0]

def k0_chk21 (v364 : BitVec 32) : Prop :=
  (8 ∣ (k0_mult21 v364).toNat) ∧
  (∀ a, (k0_off42 v364) a + S8x128.size a ≤ S10000x128.size a)
theorem k0_mult21_dvd : ∀ (v364 : BitVec 32) (k0_hw21 : k0_chk21 v364), 8 ∣ (k0_mult21 v364).toNat := fun v364 k0_hw21 => k0_hw21.1
theorem k0_off42_inb : ∀ (v364 : BitVec 32) (k0_hw21 : k0_chk21 v364), ∀ a, (k0_off42 v364) a + S8x128.size a ≤ S10000x128.size a := fun v364 k0_hw21 => k0_hw21.2

def k0_off43 (i : grid0.Coords) : Fin 2 → Nat :=
  let arg0 : BitVec 32 := BitVec.ofNat 32 (i 0).val
  let c4_i32 : BitVec 32 := 4#32
  let v0 : BitVec 32 := Scalar.muli arg0 c4_i32
  let c0_i32_185 : BitVec 32 := 0#32
  let v380 : BitVec 32 := Scalar.addi v0 c0_i32_185
  let v381 : Index := Scalar.indexCast v380
  let c21 : Index := 21#32
  ![v381.toNat, 21]
def k0_mult22 (v382 : BitVec 32) : BitVec 32 :=
  let c3_i32_186 : BitVec 32 := 3#32
  let v383 : BitVec 32 := Scalar.shrsi v382 c3_i32_186
  let c3_i32_187 : BitVec 32 := 3#32
  let v384 : BitVec 32 := Scalar.shli v383 c3_i32_187
  v384

def k0_off44 (v382 : BitVec 32) : Fin 2 → Nat :=
  let c3_i32_186 : BitVec 32 := 3#32
  let v383 : BitVec 32 := Scalar.shrsi v382 c3_i32_186
  let c3_i32_187 : BitVec 32 := 3#32
  let v384 : BitVec 32 := Scalar.shli v383 c3_i32_187
  let v385 : BitVec 32 := v384
  let v386 : Index := Scalar.indexCast v385
  let c0_188 : Index := 0#32
  ![v386.toNat, 0]

def k0_chk22 (v382 : BitVec 32) : Prop :=
  (8 ∣ (k0_mult22 v382).toNat) ∧
  (∀ a, (k0_off44 v382) a + S8x128.size a ≤ S10000x128.size a)
theorem k0_mult22_dvd : ∀ (v382 : BitVec 32) (k0_hw22 : k0_chk22 v382), 8 ∣ (k0_mult22 v382).toNat := fun v382 k0_hw22 => k0_hw22.1
theorem k0_off44_inb : ∀ (v382 : BitVec 32) (k0_hw22 : k0_chk22 v382), ∀ a, (k0_off44 v382) a + S8x128.size a ≤ S10000x128.size a := fun v382 k0_hw22 => k0_hw22.2

def k0_off45 (i : grid0.Coords) : Fin 2 → Nat :=
  let arg0 : BitVec 32 := BitVec.ofNat 32 (i 0).val
  let c4_i32 : BitVec 32 := 4#32
  let v0 : BitVec 32 := Scalar.muli arg0 c4_i32
  let c0_i32_194 : BitVec 32 := 0#32
  let v398 : BitVec 32 := Scalar.addi v0 c0_i32_194
  let v399 : Index := Scalar.indexCast v398
  let c22 : Index := 22#32
  ![v399.toNat, 22]
def k0_mult23 (v400 : BitVec 32) : BitVec 32 :=
  let c3_i32_195 : BitVec 32 := 3#32
  let v401 : BitVec 32 := Scalar.shrsi v400 c3_i32_195
  let c3_i32_196 : BitVec 32 := 3#32
  let v402 : BitVec 32 := Scalar.shli v401 c3_i32_196
  v402

def k0_off46 (v400 : BitVec 32) : Fin 2 → Nat :=
  let c3_i32_195 : BitVec 32 := 3#32
  let v401 : BitVec 32 := Scalar.shrsi v400 c3_i32_195
  let c3_i32_196 : BitVec 32 := 3#32
  let v402 : BitVec 32 := Scalar.shli v401 c3_i32_196
  let v403 : BitVec 32 := v402
  let v404 : Index := Scalar.indexCast v403
  let c0_197 : Index := 0#32
  ![v404.toNat, 0]

def k0_chk23 (v400 : BitVec 32) : Prop :=
  (8 ∣ (k0_mult23 v400).toNat) ∧
  (∀ a, (k0_off46 v400) a + S8x128.size a ≤ S10000x128.size a)
theorem k0_mult23_dvd : ∀ (v400 : BitVec 32) (k0_hw23 : k0_chk23 v400), 8 ∣ (k0_mult23 v400).toNat := fun v400 k0_hw23 => k0_hw23.1
theorem k0_off46_inb : ∀ (v400 : BitVec 32) (k0_hw23 : k0_chk23 v400), ∀ a, (k0_off46 v400) a + S8x128.size a ≤ S10000x128.size a := fun v400 k0_hw23 => k0_hw23.2

def k0_off47 (i : grid0.Coords) : Fin 2 → Nat :=
  let arg0 : BitVec 32 := BitVec.ofNat 32 (i 0).val
  let c4_i32 : BitVec 32 := 4#32
  let v0 : BitVec 32 := Scalar.muli arg0 c4_i32
  let c0_i32_203 : BitVec 32 := 0#32
  let v416 : BitVec 32 := Scalar.addi v0 c0_i32_203
  let v417 : Index := Scalar.indexCast v416
  let c23 : Index := 23#32
  ![v417.toNat, 23]
def k0_mult24 (v418 : BitVec 32) : BitVec 32 :=
  let c3_i32_204 : BitVec 32 := 3#32
  let v419 : BitVec 32 := Scalar.shrsi v418 c3_i32_204
  let c3_i32_205 : BitVec 32 := 3#32
  let v420 : BitVec 32 := Scalar.shli v419 c3_i32_205
  v420

def k0_off48 (v418 : BitVec 32) : Fin 2 → Nat :=
  let c3_i32_204 : BitVec 32 := 3#32
  let v419 : BitVec 32 := Scalar.shrsi v418 c3_i32_204
  let c3_i32_205 : BitVec 32 := 3#32
  let v420 : BitVec 32 := Scalar.shli v419 c3_i32_205
  let v421 : BitVec 32 := v420
  let v422 : Index := Scalar.indexCast v421
  let c0_206 : Index := 0#32
  ![v422.toNat, 0]

def k0_chk24 (v418 : BitVec 32) : Prop :=
  (8 ∣ (k0_mult24 v418).toNat) ∧
  (∀ a, (k0_off48 v418) a + S8x128.size a ≤ S10000x128.size a)
theorem k0_mult24_dvd : ∀ (v418 : BitVec 32) (k0_hw24 : k0_chk24 v418), 8 ∣ (k0_mult24 v418).toNat := fun v418 k0_hw24 => k0_hw24.1
theorem k0_off48_inb : ∀ (v418 : BitVec 32) (k0_hw24 : k0_chk24 v418), ∀ a, (k0_off48 v418) a + S8x128.size a ≤ S10000x128.size a := fun v418 k0_hw24 => k0_hw24.2

def k0_off49 (i : grid0.Coords) : Fin 2 → Nat :=
  let arg0 : BitVec 32 := BitVec.ofNat 32 (i 0).val
  let c4_i32 : BitVec 32 := 4#32
  let v0 : BitVec 32 := Scalar.muli arg0 c4_i32
  let c0_i32_212 : BitVec 32 := 0#32
  let v434 : BitVec 32 := Scalar.addi v0 c0_i32_212
  let v435 : Index := Scalar.indexCast v434
  let c24 : Index := 24#32
  ![v435.toNat, 24]
def k0_mult25 (v436 : BitVec 32) : BitVec 32 :=
  let c3_i32_213 : BitVec 32 := 3#32
  let v437 : BitVec 32 := Scalar.shrsi v436 c3_i32_213
  let c3_i32_214 : BitVec 32 := 3#32
  let v438 : BitVec 32 := Scalar.shli v437 c3_i32_214
  v438

def k0_off50 (v436 : BitVec 32) : Fin 2 → Nat :=
  let c3_i32_213 : BitVec 32 := 3#32
  let v437 : BitVec 32 := Scalar.shrsi v436 c3_i32_213
  let c3_i32_214 : BitVec 32 := 3#32
  let v438 : BitVec 32 := Scalar.shli v437 c3_i32_214
  let v439 : BitVec 32 := v438
  let v440 : Index := Scalar.indexCast v439
  let c0_215 : Index := 0#32
  ![v440.toNat, 0]

def k0_chk25 (v436 : BitVec 32) : Prop :=
  (8 ∣ (k0_mult25 v436).toNat) ∧
  (∀ a, (k0_off50 v436) a + S8x128.size a ≤ S10000x128.size a)
theorem k0_mult25_dvd : ∀ (v436 : BitVec 32) (k0_hw25 : k0_chk25 v436), 8 ∣ (k0_mult25 v436).toNat := fun v436 k0_hw25 => k0_hw25.1
theorem k0_off50_inb : ∀ (v436 : BitVec 32) (k0_hw25 : k0_chk25 v436), ∀ a, (k0_off50 v436) a + S8x128.size a ≤ S10000x128.size a := fun v436 k0_hw25 => k0_hw25.2

def k0_off51 (i : grid0.Coords) : Fin 2 → Nat :=
  let arg0 : BitVec 32 := BitVec.ofNat 32 (i 0).val
  let c4_i32 : BitVec 32 := 4#32
  let v0 : BitVec 32 := Scalar.muli arg0 c4_i32
  let c0_i32_221 : BitVec 32 := 0#32
  let v452 : BitVec 32 := Scalar.addi v0 c0_i32_221
  let v453 : Index := Scalar.indexCast v452
  let c25 : Index := 25#32
  ![v453.toNat, 25]
def k0_mult26 (v454 : BitVec 32) : BitVec 32 :=
  let c3_i32_222 : BitVec 32 := 3#32
  let v455 : BitVec 32 := Scalar.shrsi v454 c3_i32_222
  let c3_i32_223 : BitVec 32 := 3#32
  let v456 : BitVec 32 := Scalar.shli v455 c3_i32_223
  v456

def k0_off52 (v454 : BitVec 32) : Fin 2 → Nat :=
  let c3_i32_222 : BitVec 32 := 3#32
  let v455 : BitVec 32 := Scalar.shrsi v454 c3_i32_222
  let c3_i32_223 : BitVec 32 := 3#32
  let v456 : BitVec 32 := Scalar.shli v455 c3_i32_223
  let v457 : BitVec 32 := v456
  let v458 : Index := Scalar.indexCast v457
  let c0_224 : Index := 0#32
  ![v458.toNat, 0]

def k0_chk26 (v454 : BitVec 32) : Prop :=
  (8 ∣ (k0_mult26 v454).toNat) ∧
  (∀ a, (k0_off52 v454) a + S8x128.size a ≤ S10000x128.size a)
theorem k0_mult26_dvd : ∀ (v454 : BitVec 32) (k0_hw26 : k0_chk26 v454), 8 ∣ (k0_mult26 v454).toNat := fun v454 k0_hw26 => k0_hw26.1
theorem k0_off52_inb : ∀ (v454 : BitVec 32) (k0_hw26 : k0_chk26 v454), ∀ a, (k0_off52 v454) a + S8x128.size a ≤ S10000x128.size a := fun v454 k0_hw26 => k0_hw26.2

def k0_off53 (i : grid0.Coords) : Fin 2 → Nat :=
  let arg0 : BitVec 32 := BitVec.ofNat 32 (i 0).val
  let c4_i32 : BitVec 32 := 4#32
  let v0 : BitVec 32 := Scalar.muli arg0 c4_i32
  let c0_i32_230 : BitVec 32 := 0#32
  let v470 : BitVec 32 := Scalar.addi v0 c0_i32_230
  let v471 : Index := Scalar.indexCast v470
  let c26 : Index := 26#32
  ![v471.toNat, 26]
def k0_mult27 (v472 : BitVec 32) : BitVec 32 :=
  let c3_i32_231 : BitVec 32 := 3#32
  let v473 : BitVec 32 := Scalar.shrsi v472 c3_i32_231
  let c3_i32_232 : BitVec 32 := 3#32
  let v474 : BitVec 32 := Scalar.shli v473 c3_i32_232
  v474

def k0_off54 (v472 : BitVec 32) : Fin 2 → Nat :=
  let c3_i32_231 : BitVec 32 := 3#32
  let v473 : BitVec 32 := Scalar.shrsi v472 c3_i32_231
  let c3_i32_232 : BitVec 32 := 3#32
  let v474 : BitVec 32 := Scalar.shli v473 c3_i32_232
  let v475 : BitVec 32 := v474
  let v476 : Index := Scalar.indexCast v475
  let c0_233 : Index := 0#32
  ![v476.toNat, 0]

def k0_chk27 (v472 : BitVec 32) : Prop :=
  (8 ∣ (k0_mult27 v472).toNat) ∧
  (∀ a, (k0_off54 v472) a + S8x128.size a ≤ S10000x128.size a)
theorem k0_mult27_dvd : ∀ (v472 : BitVec 32) (k0_hw27 : k0_chk27 v472), 8 ∣ (k0_mult27 v472).toNat := fun v472 k0_hw27 => k0_hw27.1
theorem k0_off54_inb : ∀ (v472 : BitVec 32) (k0_hw27 : k0_chk27 v472), ∀ a, (k0_off54 v472) a + S8x128.size a ≤ S10000x128.size a := fun v472 k0_hw27 => k0_hw27.2

def k0_off55 (i : grid0.Coords) : Fin 2 → Nat :=
  let arg0 : BitVec 32 := BitVec.ofNat 32 (i 0).val
  let c4_i32 : BitVec 32 := 4#32
  let v0 : BitVec 32 := Scalar.muli arg0 c4_i32
  let c0_i32_239 : BitVec 32 := 0#32
  let v488 : BitVec 32 := Scalar.addi v0 c0_i32_239
  let v489 : Index := Scalar.indexCast v488
  let c27 : Index := 27#32
  ![v489.toNat, 27]
def k0_mult28 (v490 : BitVec 32) : BitVec 32 :=
  let c3_i32_240 : BitVec 32 := 3#32
  let v491 : BitVec 32 := Scalar.shrsi v490 c3_i32_240
  let c3_i32_241 : BitVec 32 := 3#32
  let v492 : BitVec 32 := Scalar.shli v491 c3_i32_241
  v492

def k0_off56 (v490 : BitVec 32) : Fin 2 → Nat :=
  let c3_i32_240 : BitVec 32 := 3#32
  let v491 : BitVec 32 := Scalar.shrsi v490 c3_i32_240
  let c3_i32_241 : BitVec 32 := 3#32
  let v492 : BitVec 32 := Scalar.shli v491 c3_i32_241
  let v493 : BitVec 32 := v492
  let v494 : Index := Scalar.indexCast v493
  let c0_242 : Index := 0#32
  ![v494.toNat, 0]

def k0_chk28 (v490 : BitVec 32) : Prop :=
  (8 ∣ (k0_mult28 v490).toNat) ∧
  (∀ a, (k0_off56 v490) a + S8x128.size a ≤ S10000x128.size a)
theorem k0_mult28_dvd : ∀ (v490 : BitVec 32) (k0_hw28 : k0_chk28 v490), 8 ∣ (k0_mult28 v490).toNat := fun v490 k0_hw28 => k0_hw28.1
theorem k0_off56_inb : ∀ (v490 : BitVec 32) (k0_hw28 : k0_chk28 v490), ∀ a, (k0_off56 v490) a + S8x128.size a ≤ S10000x128.size a := fun v490 k0_hw28 => k0_hw28.2

def k0_off57 (i : grid0.Coords) : Fin 2 → Nat :=
  let arg0 : BitVec 32 := BitVec.ofNat 32 (i 0).val
  let c4_i32 : BitVec 32 := 4#32
  let v0 : BitVec 32 := Scalar.muli arg0 c4_i32
  let c0_i32_248 : BitVec 32 := 0#32
  let v506 : BitVec 32 := Scalar.addi v0 c0_i32_248
  let v507 : Index := Scalar.indexCast v506
  let c28 : Index := 28#32
  ![v507.toNat, 28]
def k0_mult29 (v508 : BitVec 32) : BitVec 32 :=
  let c3_i32_249 : BitVec 32 := 3#32
  let v509 : BitVec 32 := Scalar.shrsi v508 c3_i32_249
  let c3_i32_250 : BitVec 32 := 3#32
  let v510 : BitVec 32 := Scalar.shli v509 c3_i32_250
  v510

def k0_off58 (v508 : BitVec 32) : Fin 2 → Nat :=
  let c3_i32_249 : BitVec 32 := 3#32
  let v509 : BitVec 32 := Scalar.shrsi v508 c3_i32_249
  let c3_i32_250 : BitVec 32 := 3#32
  let v510 : BitVec 32 := Scalar.shli v509 c3_i32_250
  let v511 : BitVec 32 := v510
  let v512 : Index := Scalar.indexCast v511
  let c0_251 : Index := 0#32
  ![v512.toNat, 0]

def k0_chk29 (v508 : BitVec 32) : Prop :=
  (8 ∣ (k0_mult29 v508).toNat) ∧
  (∀ a, (k0_off58 v508) a + S8x128.size a ≤ S10000x128.size a)
theorem k0_mult29_dvd : ∀ (v508 : BitVec 32) (k0_hw29 : k0_chk29 v508), 8 ∣ (k0_mult29 v508).toNat := fun v508 k0_hw29 => k0_hw29.1
theorem k0_off58_inb : ∀ (v508 : BitVec 32) (k0_hw29 : k0_chk29 v508), ∀ a, (k0_off58 v508) a + S8x128.size a ≤ S10000x128.size a := fun v508 k0_hw29 => k0_hw29.2

def k0_off59 (i : grid0.Coords) : Fin 2 → Nat :=
  let arg0 : BitVec 32 := BitVec.ofNat 32 (i 0).val
  let c4_i32 : BitVec 32 := 4#32
  let v0 : BitVec 32 := Scalar.muli arg0 c4_i32
  let c0_i32_257 : BitVec 32 := 0#32
  let v524 : BitVec 32 := Scalar.addi v0 c0_i32_257
  let v525 : Index := Scalar.indexCast v524
  let c29 : Index := 29#32
  ![v525.toNat, 29]
def k0_mult30 (v526 : BitVec 32) : BitVec 32 :=
  let c3_i32_258 : BitVec 32 := 3#32
  let v527 : BitVec 32 := Scalar.shrsi v526 c3_i32_258
  let c3_i32_259 : BitVec 32 := 3#32
  let v528 : BitVec 32 := Scalar.shli v527 c3_i32_259
  v528

def k0_off60 (v526 : BitVec 32) : Fin 2 → Nat :=
  let c3_i32_258 : BitVec 32 := 3#32
  let v527 : BitVec 32 := Scalar.shrsi v526 c3_i32_258
  let c3_i32_259 : BitVec 32 := 3#32
  let v528 : BitVec 32 := Scalar.shli v527 c3_i32_259
  let v529 : BitVec 32 := v528
  let v530 : Index := Scalar.indexCast v529
  let c0_260 : Index := 0#32
  ![v530.toNat, 0]

def k0_chk30 (v526 : BitVec 32) : Prop :=
  (8 ∣ (k0_mult30 v526).toNat) ∧
  (∀ a, (k0_off60 v526) a + S8x128.size a ≤ S10000x128.size a)
theorem k0_mult30_dvd : ∀ (v526 : BitVec 32) (k0_hw30 : k0_chk30 v526), 8 ∣ (k0_mult30 v526).toNat := fun v526 k0_hw30 => k0_hw30.1
theorem k0_off60_inb : ∀ (v526 : BitVec 32) (k0_hw30 : k0_chk30 v526), ∀ a, (k0_off60 v526) a + S8x128.size a ≤ S10000x128.size a := fun v526 k0_hw30 => k0_hw30.2

def k0_off61 (i : grid0.Coords) : Fin 2 → Nat :=
  let arg0 : BitVec 32 := BitVec.ofNat 32 (i 0).val
  let c4_i32 : BitVec 32 := 4#32
  let v0 : BitVec 32 := Scalar.muli arg0 c4_i32
  let c0_i32_266 : BitVec 32 := 0#32
  let v542 : BitVec 32 := Scalar.addi v0 c0_i32_266
  let v543 : Index := Scalar.indexCast v542
  let c30 : Index := 30#32
  ![v543.toNat, 30]
def k0_mult31 (v544 : BitVec 32) : BitVec 32 :=
  let c3_i32_267 : BitVec 32 := 3#32
  let v545 : BitVec 32 := Scalar.shrsi v544 c3_i32_267
  let c3_i32_268 : BitVec 32 := 3#32
  let v546 : BitVec 32 := Scalar.shli v545 c3_i32_268
  v546

def k0_off62 (v544 : BitVec 32) : Fin 2 → Nat :=
  let c3_i32_267 : BitVec 32 := 3#32
  let v545 : BitVec 32 := Scalar.shrsi v544 c3_i32_267
  let c3_i32_268 : BitVec 32 := 3#32
  let v546 : BitVec 32 := Scalar.shli v545 c3_i32_268
  let v547 : BitVec 32 := v546
  let v548 : Index := Scalar.indexCast v547
  let c0_269 : Index := 0#32
  ![v548.toNat, 0]

def k0_chk31 (v544 : BitVec 32) : Prop :=
  (8 ∣ (k0_mult31 v544).toNat) ∧
  (∀ a, (k0_off62 v544) a + S8x128.size a ≤ S10000x128.size a)
theorem k0_mult31_dvd : ∀ (v544 : BitVec 32) (k0_hw31 : k0_chk31 v544), 8 ∣ (k0_mult31 v544).toNat := fun v544 k0_hw31 => k0_hw31.1
theorem k0_off62_inb : ∀ (v544 : BitVec 32) (k0_hw31 : k0_chk31 v544), ∀ a, (k0_off62 v544) a + S8x128.size a ≤ S10000x128.size a := fun v544 k0_hw31 => k0_hw31.2

def k0_off63 (i : grid0.Coords) : Fin 2 → Nat :=
  let arg0 : BitVec 32 := BitVec.ofNat 32 (i 0).val
  let c4_i32 : BitVec 32 := 4#32
  let v0 : BitVec 32 := Scalar.muli arg0 c4_i32
  let c0_i32_275 : BitVec 32 := 0#32
  let v560 : BitVec 32 := Scalar.addi v0 c0_i32_275
  let v561 : Index := Scalar.indexCast v560
  let c31 : Index := 31#32
  ![v561.toNat, 31]
def k0_mult32 (v562 : BitVec 32) : BitVec 32 :=
  let c3_i32_276 : BitVec 32 := 3#32
  let v563 : BitVec 32 := Scalar.shrsi v562 c3_i32_276
  let c3_i32_277 : BitVec 32 := 3#32
  let v564 : BitVec 32 := Scalar.shli v563 c3_i32_277
  v564

def k0_off64 (v562 : BitVec 32) : Fin 2 → Nat :=
  let c3_i32_276 : BitVec 32 := 3#32
  let v563 : BitVec 32 := Scalar.shrsi v562 c3_i32_276
  let c3_i32_277 : BitVec 32 := 3#32
  let v564 : BitVec 32 := Scalar.shli v563 c3_i32_277
  let v565 : BitVec 32 := v564
  let v566 : Index := Scalar.indexCast v565
  let c0_278 : Index := 0#32
  ![v566.toNat, 0]

def k0_chk32 (v562 : BitVec 32) : Prop :=
  (8 ∣ (k0_mult32 v562).toNat) ∧
  (∀ a, (k0_off64 v562) a + S8x128.size a ≤ S10000x128.size a)
theorem k0_mult32_dvd : ∀ (v562 : BitVec 32) (k0_hw32 : k0_chk32 v562), 8 ∣ (k0_mult32 v562).toNat := fun v562 k0_hw32 => k0_hw32.1
theorem k0_off64_inb : ∀ (v562 : BitVec 32) (k0_hw32 : k0_chk32 v562), ∀ a, (k0_off64 v562) a + S8x128.size a ≤ S10000x128.size a := fun v562 k0_hw32 => k0_hw32.2

def k0_off65 (i : grid0.Coords) : Fin 2 → Nat :=
  let arg0 : BitVec 32 := BitVec.ofNat 32 (i 0).val
  let c4_i32 : BitVec 32 := 4#32
  let v0 : BitVec 32 := Scalar.muli arg0 c4_i32
  let c0_i32_284 : BitVec 32 := 0#32
  let v578 : BitVec 32 := Scalar.addi v0 c0_i32_284
  let v579 : Index := Scalar.indexCast v578
  let c32 : Index := 32#32
  ![v579.toNat, 32]
def k0_mult33 (v580 : BitVec 32) : BitVec 32 :=
  let c3_i32_285 : BitVec 32 := 3#32
  let v581 : BitVec 32 := Scalar.shrsi v580 c3_i32_285
  let c3_i32_286 : BitVec 32 := 3#32
  let v582 : BitVec 32 := Scalar.shli v581 c3_i32_286
  v582

def k0_off66 (v580 : BitVec 32) : Fin 2 → Nat :=
  let c3_i32_285 : BitVec 32 := 3#32
  let v581 : BitVec 32 := Scalar.shrsi v580 c3_i32_285
  let c3_i32_286 : BitVec 32 := 3#32
  let v582 : BitVec 32 := Scalar.shli v581 c3_i32_286
  let v583 : BitVec 32 := v582
  let v584 : Index := Scalar.indexCast v583
  let c0_287 : Index := 0#32
  ![v584.toNat, 0]

def k0_chk33 (v580 : BitVec 32) : Prop :=
  (8 ∣ (k0_mult33 v580).toNat) ∧
  (∀ a, (k0_off66 v580) a + S8x128.size a ≤ S10000x128.size a)
theorem k0_mult33_dvd : ∀ (v580 : BitVec 32) (k0_hw33 : k0_chk33 v580), 8 ∣ (k0_mult33 v580).toNat := fun v580 k0_hw33 => k0_hw33.1
theorem k0_off66_inb : ∀ (v580 : BitVec 32) (k0_hw33 : k0_chk33 v580), ∀ a, (k0_off66 v580) a + S8x128.size a ≤ S10000x128.size a := fun v580 k0_hw33 => k0_hw33.2

def k0_off67 (i : grid0.Coords) : Fin 2 → Nat :=
  let arg0 : BitVec 32 := BitVec.ofNat 32 (i 0).val
  let c4_i32 : BitVec 32 := 4#32
  let v0 : BitVec 32 := Scalar.muli arg0 c4_i32
  let c0_i32_293 : BitVec 32 := 0#32
  let v596 : BitVec 32 := Scalar.addi v0 c0_i32_293
  let v597 : Index := Scalar.indexCast v596
  let c33 : Index := 33#32
  ![v597.toNat, 33]
def k0_mult34 (v598 : BitVec 32) : BitVec 32 :=
  let c3_i32_294 : BitVec 32 := 3#32
  let v599 : BitVec 32 := Scalar.shrsi v598 c3_i32_294
  let c3_i32_295 : BitVec 32 := 3#32
  let v600 : BitVec 32 := Scalar.shli v599 c3_i32_295
  v600

def k0_off68 (v598 : BitVec 32) : Fin 2 → Nat :=
  let c3_i32_294 : BitVec 32 := 3#32
  let v599 : BitVec 32 := Scalar.shrsi v598 c3_i32_294
  let c3_i32_295 : BitVec 32 := 3#32
  let v600 : BitVec 32 := Scalar.shli v599 c3_i32_295
  let v601 : BitVec 32 := v600
  let v602 : Index := Scalar.indexCast v601
  let c0_296 : Index := 0#32
  ![v602.toNat, 0]

def k0_chk34 (v598 : BitVec 32) : Prop :=
  (8 ∣ (k0_mult34 v598).toNat) ∧
  (∀ a, (k0_off68 v598) a + S8x128.size a ≤ S10000x128.size a)
theorem k0_mult34_dvd : ∀ (v598 : BitVec 32) (k0_hw34 : k0_chk34 v598), 8 ∣ (k0_mult34 v598).toNat := fun v598 k0_hw34 => k0_hw34.1
theorem k0_off68_inb : ∀ (v598 : BitVec 32) (k0_hw34 : k0_chk34 v598), ∀ a, (k0_off68 v598) a + S8x128.size a ≤ S10000x128.size a := fun v598 k0_hw34 => k0_hw34.2

def k0_off69 (i : grid0.Coords) : Fin 2 → Nat :=
  let arg0 : BitVec 32 := BitVec.ofNat 32 (i 0).val
  let c4_i32 : BitVec 32 := 4#32
  let v0 : BitVec 32 := Scalar.muli arg0 c4_i32
  let c0_i32_302 : BitVec 32 := 0#32
  let v614 : BitVec 32 := Scalar.addi v0 c0_i32_302
  let v615 : Index := Scalar.indexCast v614
  let c34 : Index := 34#32
  ![v615.toNat, 34]
def k0_mult35 (v616 : BitVec 32) : BitVec 32 :=
  let c3_i32_303 : BitVec 32 := 3#32
  let v617 : BitVec 32 := Scalar.shrsi v616 c3_i32_303
  let c3_i32_304 : BitVec 32 := 3#32
  let v618 : BitVec 32 := Scalar.shli v617 c3_i32_304
  v618

def k0_off70 (v616 : BitVec 32) : Fin 2 → Nat :=
  let c3_i32_303 : BitVec 32 := 3#32
  let v617 : BitVec 32 := Scalar.shrsi v616 c3_i32_303
  let c3_i32_304 : BitVec 32 := 3#32
  let v618 : BitVec 32 := Scalar.shli v617 c3_i32_304
  let v619 : BitVec 32 := v618
  let v620 : Index := Scalar.indexCast v619
  let c0_305 : Index := 0#32
  ![v620.toNat, 0]

def k0_chk35 (v616 : BitVec 32) : Prop :=
  (8 ∣ (k0_mult35 v616).toNat) ∧
  (∀ a, (k0_off70 v616) a + S8x128.size a ≤ S10000x128.size a)
theorem k0_mult35_dvd : ∀ (v616 : BitVec 32) (k0_hw35 : k0_chk35 v616), 8 ∣ (k0_mult35 v616).toNat := fun v616 k0_hw35 => k0_hw35.1
theorem k0_off70_inb : ∀ (v616 : BitVec 32) (k0_hw35 : k0_chk35 v616), ∀ a, (k0_off70 v616) a + S8x128.size a ≤ S10000x128.size a := fun v616 k0_hw35 => k0_hw35.2

def k0_off71 (i : grid0.Coords) : Fin 2 → Nat :=
  let arg0 : BitVec 32 := BitVec.ofNat 32 (i 0).val
  let c4_i32 : BitVec 32 := 4#32
  let v0 : BitVec 32 := Scalar.muli arg0 c4_i32
  let c0_i32_311 : BitVec 32 := 0#32
  let v632 : BitVec 32 := Scalar.addi v0 c0_i32_311
  let v633 : Index := Scalar.indexCast v632
  let c35 : Index := 35#32
  ![v633.toNat, 35]
def k0_mult36 (v634 : BitVec 32) : BitVec 32 :=
  let c3_i32_312 : BitVec 32 := 3#32
  let v635 : BitVec 32 := Scalar.shrsi v634 c3_i32_312
  let c3_i32_313 : BitVec 32 := 3#32
  let v636 : BitVec 32 := Scalar.shli v635 c3_i32_313
  v636

def k0_off72 (v634 : BitVec 32) : Fin 2 → Nat :=
  let c3_i32_312 : BitVec 32 := 3#32
  let v635 : BitVec 32 := Scalar.shrsi v634 c3_i32_312
  let c3_i32_313 : BitVec 32 := 3#32
  let v636 : BitVec 32 := Scalar.shli v635 c3_i32_313
  let v637 : BitVec 32 := v636
  let v638 : Index := Scalar.indexCast v637
  let c0_314 : Index := 0#32
  ![v638.toNat, 0]

def k0_chk36 (v634 : BitVec 32) : Prop :=
  (8 ∣ (k0_mult36 v634).toNat) ∧
  (∀ a, (k0_off72 v634) a + S8x128.size a ≤ S10000x128.size a)
theorem k0_mult36_dvd : ∀ (v634 : BitVec 32) (k0_hw36 : k0_chk36 v634), 8 ∣ (k0_mult36 v634).toNat := fun v634 k0_hw36 => k0_hw36.1
theorem k0_off72_inb : ∀ (v634 : BitVec 32) (k0_hw36 : k0_chk36 v634), ∀ a, (k0_off72 v634) a + S8x128.size a ≤ S10000x128.size a := fun v634 k0_hw36 => k0_hw36.2

def k0_off73 (i : grid0.Coords) : Fin 2 → Nat :=
  let arg0 : BitVec 32 := BitVec.ofNat 32 (i 0).val
  let c4_i32 : BitVec 32 := 4#32
  let v0 : BitVec 32 := Scalar.muli arg0 c4_i32
  let c0_i32_320 : BitVec 32 := 0#32
  let v650 : BitVec 32 := Scalar.addi v0 c0_i32_320
  let v651 : Index := Scalar.indexCast v650
  let c36 : Index := 36#32
  ![v651.toNat, 36]
def k0_mult37 (v652 : BitVec 32) : BitVec 32 :=
  let c3_i32_321 : BitVec 32 := 3#32
  let v653 : BitVec 32 := Scalar.shrsi v652 c3_i32_321
  let c3_i32_322 : BitVec 32 := 3#32
  let v654 : BitVec 32 := Scalar.shli v653 c3_i32_322
  v654

def k0_off74 (v652 : BitVec 32) : Fin 2 → Nat :=
  let c3_i32_321 : BitVec 32 := 3#32
  let v653 : BitVec 32 := Scalar.shrsi v652 c3_i32_321
  let c3_i32_322 : BitVec 32 := 3#32
  let v654 : BitVec 32 := Scalar.shli v653 c3_i32_322
  let v655 : BitVec 32 := v654
  let v656 : Index := Scalar.indexCast v655
  let c0_323 : Index := 0#32
  ![v656.toNat, 0]

def k0_chk37 (v652 : BitVec 32) : Prop :=
  (8 ∣ (k0_mult37 v652).toNat) ∧
  (∀ a, (k0_off74 v652) a + S8x128.size a ≤ S10000x128.size a)
theorem k0_mult37_dvd : ∀ (v652 : BitVec 32) (k0_hw37 : k0_chk37 v652), 8 ∣ (k0_mult37 v652).toNat := fun v652 k0_hw37 => k0_hw37.1
theorem k0_off74_inb : ∀ (v652 : BitVec 32) (k0_hw37 : k0_chk37 v652), ∀ a, (k0_off74 v652) a + S8x128.size a ≤ S10000x128.size a := fun v652 k0_hw37 => k0_hw37.2

def k0_off75 (i : grid0.Coords) : Fin 2 → Nat :=
  let arg0 : BitVec 32 := BitVec.ofNat 32 (i 0).val
  let c4_i32 : BitVec 32 := 4#32
  let v0 : BitVec 32 := Scalar.muli arg0 c4_i32
  let c0_i32_329 : BitVec 32 := 0#32
  let v668 : BitVec 32 := Scalar.addi v0 c0_i32_329
  let v669 : Index := Scalar.indexCast v668
  let c37 : Index := 37#32
  ![v669.toNat, 37]
def k0_mult38 (v670 : BitVec 32) : BitVec 32 :=
  let c3_i32_330 : BitVec 32 := 3#32
  let v671 : BitVec 32 := Scalar.shrsi v670 c3_i32_330
  let c3_i32_331 : BitVec 32 := 3#32
  let v672 : BitVec 32 := Scalar.shli v671 c3_i32_331
  v672

def k0_off76 (v670 : BitVec 32) : Fin 2 → Nat :=
  let c3_i32_330 : BitVec 32 := 3#32
  let v671 : BitVec 32 := Scalar.shrsi v670 c3_i32_330
  let c3_i32_331 : BitVec 32 := 3#32
  let v672 : BitVec 32 := Scalar.shli v671 c3_i32_331
  let v673 : BitVec 32 := v672
  let v674 : Index := Scalar.indexCast v673
  let c0_332 : Index := 0#32
  ![v674.toNat, 0]

def k0_chk38 (v670 : BitVec 32) : Prop :=
  (8 ∣ (k0_mult38 v670).toNat) ∧
  (∀ a, (k0_off76 v670) a + S8x128.size a ≤ S10000x128.size a)
theorem k0_mult38_dvd : ∀ (v670 : BitVec 32) (k0_hw38 : k0_chk38 v670), 8 ∣ (k0_mult38 v670).toNat := fun v670 k0_hw38 => k0_hw38.1
theorem k0_off76_inb : ∀ (v670 : BitVec 32) (k0_hw38 : k0_chk38 v670), ∀ a, (k0_off76 v670) a + S8x128.size a ≤ S10000x128.size a := fun v670 k0_hw38 => k0_hw38.2

def k0_off77 (i : grid0.Coords) : Fin 2 → Nat :=
  let arg0 : BitVec 32 := BitVec.ofNat 32 (i 0).val
  let c4_i32 : BitVec 32 := 4#32
  let v0 : BitVec 32 := Scalar.muli arg0 c4_i32
  let c0_i32_338 : BitVec 32 := 0#32
  let v686 : BitVec 32 := Scalar.addi v0 c0_i32_338
  let v687 : Index := Scalar.indexCast v686
  let c38 : Index := 38#32
  ![v687.toNat, 38]
def k0_mult39 (v688 : BitVec 32) : BitVec 32 :=
  let c3_i32_339 : BitVec 32 := 3#32
  let v689 : BitVec 32 := Scalar.shrsi v688 c3_i32_339
  let c3_i32_340 : BitVec 32 := 3#32
  let v690 : BitVec 32 := Scalar.shli v689 c3_i32_340
  v690

def k0_off78 (v688 : BitVec 32) : Fin 2 → Nat :=
  let c3_i32_339 : BitVec 32 := 3#32
  let v689 : BitVec 32 := Scalar.shrsi v688 c3_i32_339
  let c3_i32_340 : BitVec 32 := 3#32
  let v690 : BitVec 32 := Scalar.shli v689 c3_i32_340
  let v691 : BitVec 32 := v690
  let v692 : Index := Scalar.indexCast v691
  let c0_341 : Index := 0#32
  ![v692.toNat, 0]

def k0_chk39 (v688 : BitVec 32) : Prop :=
  (8 ∣ (k0_mult39 v688).toNat) ∧
  (∀ a, (k0_off78 v688) a + S8x128.size a ≤ S10000x128.size a)
theorem k0_mult39_dvd : ∀ (v688 : BitVec 32) (k0_hw39 : k0_chk39 v688), 8 ∣ (k0_mult39 v688).toNat := fun v688 k0_hw39 => k0_hw39.1
theorem k0_off78_inb : ∀ (v688 : BitVec 32) (k0_hw39 : k0_chk39 v688), ∀ a, (k0_off78 v688) a + S8x128.size a ≤ S10000x128.size a := fun v688 k0_hw39 => k0_hw39.2

def k0_off79 (i : grid0.Coords) : Fin 2 → Nat :=
  let arg0 : BitVec 32 := BitVec.ofNat 32 (i 0).val
  let c4_i32 : BitVec 32 := 4#32
  let v0 : BitVec 32 := Scalar.muli arg0 c4_i32
  let c0_i32_347 : BitVec 32 := 0#32
  let v704 : BitVec 32 := Scalar.addi v0 c0_i32_347
  let v705 : Index := Scalar.indexCast v704
  let c39 : Index := 39#32
  ![v705.toNat, 39]
def k0_mult40 (v706 : BitVec 32) : BitVec 32 :=
  let c3_i32_348 : BitVec 32 := 3#32
  let v707 : BitVec 32 := Scalar.shrsi v706 c3_i32_348
  let c3_i32_349 : BitVec 32 := 3#32
  let v708 : BitVec 32 := Scalar.shli v707 c3_i32_349
  v708

def k0_off80 (v706 : BitVec 32) : Fin 2 → Nat :=
  let c3_i32_348 : BitVec 32 := 3#32
  let v707 : BitVec 32 := Scalar.shrsi v706 c3_i32_348
  let c3_i32_349 : BitVec 32 := 3#32
  let v708 : BitVec 32 := Scalar.shli v707 c3_i32_349
  let v709 : BitVec 32 := v708
  let v710 : Index := Scalar.indexCast v709
  let c0_350 : Index := 0#32
  ![v710.toNat, 0]

def k0_chk40 (v706 : BitVec 32) : Prop :=
  (8 ∣ (k0_mult40 v706).toNat) ∧
  (∀ a, (k0_off80 v706) a + S8x128.size a ≤ S10000x128.size a)
theorem k0_mult40_dvd : ∀ (v706 : BitVec 32) (k0_hw40 : k0_chk40 v706), 8 ∣ (k0_mult40 v706).toNat := fun v706 k0_hw40 => k0_hw40.1
theorem k0_off80_inb : ∀ (v706 : BitVec 32) (k0_hw40 : k0_chk40 v706), ∀ a, (k0_off80 v706) a + S8x128.size a ≤ S10000x128.size a := fun v706 k0_hw40 => k0_hw40.2

def k0_off81 (i : grid0.Coords) : Fin 2 → Nat :=
  let arg0 : BitVec 32 := BitVec.ofNat 32 (i 0).val
  let c4_i32 : BitVec 32 := 4#32
  let v0 : BitVec 32 := Scalar.muli arg0 c4_i32
  let c0_i32_356 : BitVec 32 := 0#32
  let v722 : BitVec 32 := Scalar.addi v0 c0_i32_356
  let v723 : Index := Scalar.indexCast v722
  let c40 : Index := 40#32
  ![v723.toNat, 40]
def k0_mult41 (v724 : BitVec 32) : BitVec 32 :=
  let c3_i32_357 : BitVec 32 := 3#32
  let v725 : BitVec 32 := Scalar.shrsi v724 c3_i32_357
  let c3_i32_358 : BitVec 32 := 3#32
  let v726 : BitVec 32 := Scalar.shli v725 c3_i32_358
  v726

def k0_off82 (v724 : BitVec 32) : Fin 2 → Nat :=
  let c3_i32_357 : BitVec 32 := 3#32
  let v725 : BitVec 32 := Scalar.shrsi v724 c3_i32_357
  let c3_i32_358 : BitVec 32 := 3#32
  let v726 : BitVec 32 := Scalar.shli v725 c3_i32_358
  let v727 : BitVec 32 := v726
  let v728 : Index := Scalar.indexCast v727
  let c0_359 : Index := 0#32
  ![v728.toNat, 0]

def k0_chk41 (v724 : BitVec 32) : Prop :=
  (8 ∣ (k0_mult41 v724).toNat) ∧
  (∀ a, (k0_off82 v724) a + S8x128.size a ≤ S10000x128.size a)
theorem k0_mult41_dvd : ∀ (v724 : BitVec 32) (k0_hw41 : k0_chk41 v724), 8 ∣ (k0_mult41 v724).toNat := fun v724 k0_hw41 => k0_hw41.1
theorem k0_off82_inb : ∀ (v724 : BitVec 32) (k0_hw41 : k0_chk41 v724), ∀ a, (k0_off82 v724) a + S8x128.size a ≤ S10000x128.size a := fun v724 k0_hw41 => k0_hw41.2

def k0_off83 (i : grid0.Coords) : Fin 2 → Nat :=
  let arg0 : BitVec 32 := BitVec.ofNat 32 (i 0).val
  let c4_i32 : BitVec 32 := 4#32
  let v0 : BitVec 32 := Scalar.muli arg0 c4_i32
  let c0_i32_365 : BitVec 32 := 0#32
  let v740 : BitVec 32 := Scalar.addi v0 c0_i32_365
  let v741 : Index := Scalar.indexCast v740
  let c41 : Index := 41#32
  ![v741.toNat, 41]
def k0_mult42 (v742 : BitVec 32) : BitVec 32 :=
  let c3_i32_366 : BitVec 32 := 3#32
  let v743 : BitVec 32 := Scalar.shrsi v742 c3_i32_366
  let c3_i32_367 : BitVec 32 := 3#32
  let v744 : BitVec 32 := Scalar.shli v743 c3_i32_367
  v744

def k0_off84 (v742 : BitVec 32) : Fin 2 → Nat :=
  let c3_i32_366 : BitVec 32 := 3#32
  let v743 : BitVec 32 := Scalar.shrsi v742 c3_i32_366
  let c3_i32_367 : BitVec 32 := 3#32
  let v744 : BitVec 32 := Scalar.shli v743 c3_i32_367
  let v745 : BitVec 32 := v744
  let v746 : Index := Scalar.indexCast v745
  let c0_368 : Index := 0#32
  ![v746.toNat, 0]

def k0_chk42 (v742 : BitVec 32) : Prop :=
  (8 ∣ (k0_mult42 v742).toNat) ∧
  (∀ a, (k0_off84 v742) a + S8x128.size a ≤ S10000x128.size a)
theorem k0_mult42_dvd : ∀ (v742 : BitVec 32) (k0_hw42 : k0_chk42 v742), 8 ∣ (k0_mult42 v742).toNat := fun v742 k0_hw42 => k0_hw42.1
theorem k0_off84_inb : ∀ (v742 : BitVec 32) (k0_hw42 : k0_chk42 v742), ∀ a, (k0_off84 v742) a + S8x128.size a ≤ S10000x128.size a := fun v742 k0_hw42 => k0_hw42.2

def k0_off85 (i : grid0.Coords) : Fin 2 → Nat :=
  let arg0 : BitVec 32 := BitVec.ofNat 32 (i 0).val
  let c4_i32 : BitVec 32 := 4#32
  let v0 : BitVec 32 := Scalar.muli arg0 c4_i32
  let c0_i32_374 : BitVec 32 := 0#32
  let v758 : BitVec 32 := Scalar.addi v0 c0_i32_374
  let v759 : Index := Scalar.indexCast v758
  let c42 : Index := 42#32
  ![v759.toNat, 42]
def k0_mult43 (v760 : BitVec 32) : BitVec 32 :=
  let c3_i32_375 : BitVec 32 := 3#32
  let v761 : BitVec 32 := Scalar.shrsi v760 c3_i32_375
  let c3_i32_376 : BitVec 32 := 3#32
  let v762 : BitVec 32 := Scalar.shli v761 c3_i32_376
  v762

def k0_off86 (v760 : BitVec 32) : Fin 2 → Nat :=
  let c3_i32_375 : BitVec 32 := 3#32
  let v761 : BitVec 32 := Scalar.shrsi v760 c3_i32_375
  let c3_i32_376 : BitVec 32 := 3#32
  let v762 : BitVec 32 := Scalar.shli v761 c3_i32_376
  let v763 : BitVec 32 := v762
  let v764 : Index := Scalar.indexCast v763
  let c0_377 : Index := 0#32
  ![v764.toNat, 0]

def k0_chk43 (v760 : BitVec 32) : Prop :=
  (8 ∣ (k0_mult43 v760).toNat) ∧
  (∀ a, (k0_off86 v760) a + S8x128.size a ≤ S10000x128.size a)
theorem k0_mult43_dvd : ∀ (v760 : BitVec 32) (k0_hw43 : k0_chk43 v760), 8 ∣ (k0_mult43 v760).toNat := fun v760 k0_hw43 => k0_hw43.1
theorem k0_off86_inb : ∀ (v760 : BitVec 32) (k0_hw43 : k0_chk43 v760), ∀ a, (k0_off86 v760) a + S8x128.size a ≤ S10000x128.size a := fun v760 k0_hw43 => k0_hw43.2

def k0_off87 (i : grid0.Coords) : Fin 2 → Nat :=
  let arg0 : BitVec 32 := BitVec.ofNat 32 (i 0).val
  let c4_i32 : BitVec 32 := 4#32
  let v0 : BitVec 32 := Scalar.muli arg0 c4_i32
  let c0_i32_383 : BitVec 32 := 0#32
  let v776 : BitVec 32 := Scalar.addi v0 c0_i32_383
  let v777 : Index := Scalar.indexCast v776
  let c43 : Index := 43#32
  ![v777.toNat, 43]
def k0_mult44 (v778 : BitVec 32) : BitVec 32 :=
  let c3_i32_384 : BitVec 32 := 3#32
  let v779 : BitVec 32 := Scalar.shrsi v778 c3_i32_384
  let c3_i32_385 : BitVec 32 := 3#32
  let v780 : BitVec 32 := Scalar.shli v779 c3_i32_385
  v780

def k0_off88 (v778 : BitVec 32) : Fin 2 → Nat :=
  let c3_i32_384 : BitVec 32 := 3#32
  let v779 : BitVec 32 := Scalar.shrsi v778 c3_i32_384
  let c3_i32_385 : BitVec 32 := 3#32
  let v780 : BitVec 32 := Scalar.shli v779 c3_i32_385
  let v781 : BitVec 32 := v780
  let v782 : Index := Scalar.indexCast v781
  let c0_386 : Index := 0#32
  ![v782.toNat, 0]

def k0_chk44 (v778 : BitVec 32) : Prop :=
  (8 ∣ (k0_mult44 v778).toNat) ∧
  (∀ a, (k0_off88 v778) a + S8x128.size a ≤ S10000x128.size a)
theorem k0_mult44_dvd : ∀ (v778 : BitVec 32) (k0_hw44 : k0_chk44 v778), 8 ∣ (k0_mult44 v778).toNat := fun v778 k0_hw44 => k0_hw44.1
theorem k0_off88_inb : ∀ (v778 : BitVec 32) (k0_hw44 : k0_chk44 v778), ∀ a, (k0_off88 v778) a + S8x128.size a ≤ S10000x128.size a := fun v778 k0_hw44 => k0_hw44.2

def k0_off89 (i : grid0.Coords) : Fin 2 → Nat :=
  let arg0 : BitVec 32 := BitVec.ofNat 32 (i 0).val
  let c4_i32 : BitVec 32 := 4#32
  let v0 : BitVec 32 := Scalar.muli arg0 c4_i32
  let c0_i32_392 : BitVec 32 := 0#32
  let v794 : BitVec 32 := Scalar.addi v0 c0_i32_392
  let v795 : Index := Scalar.indexCast v794
  let c44 : Index := 44#32
  ![v795.toNat, 44]
def k0_mult45 (v796 : BitVec 32) : BitVec 32 :=
  let c3_i32_393 : BitVec 32 := 3#32
  let v797 : BitVec 32 := Scalar.shrsi v796 c3_i32_393
  let c3_i32_394 : BitVec 32 := 3#32
  let v798 : BitVec 32 := Scalar.shli v797 c3_i32_394
  v798

def k0_off90 (v796 : BitVec 32) : Fin 2 → Nat :=
  let c3_i32_393 : BitVec 32 := 3#32
  let v797 : BitVec 32 := Scalar.shrsi v796 c3_i32_393
  let c3_i32_394 : BitVec 32 := 3#32
  let v798 : BitVec 32 := Scalar.shli v797 c3_i32_394
  let v799 : BitVec 32 := v798
  let v800 : Index := Scalar.indexCast v799
  let c0_395 : Index := 0#32
  ![v800.toNat, 0]

def k0_chk45 (v796 : BitVec 32) : Prop :=
  (8 ∣ (k0_mult45 v796).toNat) ∧
  (∀ a, (k0_off90 v796) a + S8x128.size a ≤ S10000x128.size a)
theorem k0_mult45_dvd : ∀ (v796 : BitVec 32) (k0_hw45 : k0_chk45 v796), 8 ∣ (k0_mult45 v796).toNat := fun v796 k0_hw45 => k0_hw45.1
theorem k0_off90_inb : ∀ (v796 : BitVec 32) (k0_hw45 : k0_chk45 v796), ∀ a, (k0_off90 v796) a + S8x128.size a ≤ S10000x128.size a := fun v796 k0_hw45 => k0_hw45.2

def k0_off91 (i : grid0.Coords) : Fin 2 → Nat :=
  let arg0 : BitVec 32 := BitVec.ofNat 32 (i 0).val
  let c4_i32 : BitVec 32 := 4#32
  let v0 : BitVec 32 := Scalar.muli arg0 c4_i32
  let c0_i32_401 : BitVec 32 := 0#32
  let v812 : BitVec 32 := Scalar.addi v0 c0_i32_401
  let v813 : Index := Scalar.indexCast v812
  let c45 : Index := 45#32
  ![v813.toNat, 45]
def k0_mult46 (v814 : BitVec 32) : BitVec 32 :=
  let c3_i32_402 : BitVec 32 := 3#32
  let v815 : BitVec 32 := Scalar.shrsi v814 c3_i32_402
  let c3_i32_403 : BitVec 32 := 3#32
  let v816 : BitVec 32 := Scalar.shli v815 c3_i32_403
  v816

def k0_off92 (v814 : BitVec 32) : Fin 2 → Nat :=
  let c3_i32_402 : BitVec 32 := 3#32
  let v815 : BitVec 32 := Scalar.shrsi v814 c3_i32_402
  let c3_i32_403 : BitVec 32 := 3#32
  let v816 : BitVec 32 := Scalar.shli v815 c3_i32_403
  let v817 : BitVec 32 := v816
  let v818 : Index := Scalar.indexCast v817
  let c0_404 : Index := 0#32
  ![v818.toNat, 0]

def k0_chk46 (v814 : BitVec 32) : Prop :=
  (8 ∣ (k0_mult46 v814).toNat) ∧
  (∀ a, (k0_off92 v814) a + S8x128.size a ≤ S10000x128.size a)
theorem k0_mult46_dvd : ∀ (v814 : BitVec 32) (k0_hw46 : k0_chk46 v814), 8 ∣ (k0_mult46 v814).toNat := fun v814 k0_hw46 => k0_hw46.1
theorem k0_off92_inb : ∀ (v814 : BitVec 32) (k0_hw46 : k0_chk46 v814), ∀ a, (k0_off92 v814) a + S8x128.size a ≤ S10000x128.size a := fun v814 k0_hw46 => k0_hw46.2

def k0_off93 (i : grid0.Coords) : Fin 2 → Nat :=
  let arg0 : BitVec 32 := BitVec.ofNat 32 (i 0).val
  let c4_i32 : BitVec 32 := 4#32
  let v0 : BitVec 32 := Scalar.muli arg0 c4_i32
  let c0_i32_410 : BitVec 32 := 0#32
  let v830 : BitVec 32 := Scalar.addi v0 c0_i32_410
  let v831 : Index := Scalar.indexCast v830
  let c46 : Index := 46#32
  ![v831.toNat, 46]
def k0_mult47 (v832 : BitVec 32) : BitVec 32 :=
  let c3_i32_411 : BitVec 32 := 3#32
  let v833 : BitVec 32 := Scalar.shrsi v832 c3_i32_411
  let c3_i32_412 : BitVec 32 := 3#32
  let v834 : BitVec 32 := Scalar.shli v833 c3_i32_412
  v834

def k0_off94 (v832 : BitVec 32) : Fin 2 → Nat :=
  let c3_i32_411 : BitVec 32 := 3#32
  let v833 : BitVec 32 := Scalar.shrsi v832 c3_i32_411
  let c3_i32_412 : BitVec 32 := 3#32
  let v834 : BitVec 32 := Scalar.shli v833 c3_i32_412
  let v835 : BitVec 32 := v834
  let v836 : Index := Scalar.indexCast v835
  let c0_413 : Index := 0#32
  ![v836.toNat, 0]

def k0_chk47 (v832 : BitVec 32) : Prop :=
  (8 ∣ (k0_mult47 v832).toNat) ∧
  (∀ a, (k0_off94 v832) a + S8x128.size a ≤ S10000x128.size a)
theorem k0_mult47_dvd : ∀ (v832 : BitVec 32) (k0_hw47 : k0_chk47 v832), 8 ∣ (k0_mult47 v832).toNat := fun v832 k0_hw47 => k0_hw47.1
theorem k0_off94_inb : ∀ (v832 : BitVec 32) (k0_hw47 : k0_chk47 v832), ∀ a, (k0_off94 v832) a + S8x128.size a ≤ S10000x128.size a := fun v832 k0_hw47 => k0_hw47.2

def k0_off95 (i : grid0.Coords) : Fin 2 → Nat :=
  let arg0 : BitVec 32 := BitVec.ofNat 32 (i 0).val
  let c4_i32 : BitVec 32 := 4#32
  let v0 : BitVec 32 := Scalar.muli arg0 c4_i32
  let c0_i32_419 : BitVec 32 := 0#32
  let v848 : BitVec 32 := Scalar.addi v0 c0_i32_419
  let v849 : Index := Scalar.indexCast v848
  let c47 : Index := 47#32
  ![v849.toNat, 47]
def k0_mult48 (v850 : BitVec 32) : BitVec 32 :=
  let c3_i32_420 : BitVec 32 := 3#32
  let v851 : BitVec 32 := Scalar.shrsi v850 c3_i32_420
  let c3_i32_421 : BitVec 32 := 3#32
  let v852 : BitVec 32 := Scalar.shli v851 c3_i32_421
  v852

def k0_off96 (v850 : BitVec 32) : Fin 2 → Nat :=
  let c3_i32_420 : BitVec 32 := 3#32
  let v851 : BitVec 32 := Scalar.shrsi v850 c3_i32_420
  let c3_i32_421 : BitVec 32 := 3#32
  let v852 : BitVec 32 := Scalar.shli v851 c3_i32_421
  let v853 : BitVec 32 := v852
  let v854 : Index := Scalar.indexCast v853
  let c0_422 : Index := 0#32
  ![v854.toNat, 0]

def k0_chk48 (v850 : BitVec 32) : Prop :=
  (8 ∣ (k0_mult48 v850).toNat) ∧
  (∀ a, (k0_off96 v850) a + S8x128.size a ≤ S10000x128.size a)
theorem k0_mult48_dvd : ∀ (v850 : BitVec 32) (k0_hw48 : k0_chk48 v850), 8 ∣ (k0_mult48 v850).toNat := fun v850 k0_hw48 => k0_hw48.1
theorem k0_off96_inb : ∀ (v850 : BitVec 32) (k0_hw48 : k0_chk48 v850), ∀ a, (k0_off96 v850) a + S8x128.size a ≤ S10000x128.size a := fun v850 k0_hw48 => k0_hw48.2

def k0_off97 (i : grid0.Coords) : Fin 2 → Nat :=
  let arg0 : BitVec 32 := BitVec.ofNat 32 (i 0).val
  let c4_i32 : BitVec 32 := 4#32
  let v0 : BitVec 32 := Scalar.muli arg0 c4_i32
  let c0_i32_428 : BitVec 32 := 0#32
  let v866 : BitVec 32 := Scalar.addi v0 c0_i32_428
  let v867 : Index := Scalar.indexCast v866
  let c48 : Index := 48#32
  ![v867.toNat, 48]
def k0_mult49 (v868 : BitVec 32) : BitVec 32 :=
  let c3_i32_429 : BitVec 32 := 3#32
  let v869 : BitVec 32 := Scalar.shrsi v868 c3_i32_429
  let c3_i32_430 : BitVec 32 := 3#32
  let v870 : BitVec 32 := Scalar.shli v869 c3_i32_430
  v870

def k0_off98 (v868 : BitVec 32) : Fin 2 → Nat :=
  let c3_i32_429 : BitVec 32 := 3#32
  let v869 : BitVec 32 := Scalar.shrsi v868 c3_i32_429
  let c3_i32_430 : BitVec 32 := 3#32
  let v870 : BitVec 32 := Scalar.shli v869 c3_i32_430
  let v871 : BitVec 32 := v870
  let v872 : Index := Scalar.indexCast v871
  let c0_431 : Index := 0#32
  ![v872.toNat, 0]

def k0_chk49 (v868 : BitVec 32) : Prop :=
  (8 ∣ (k0_mult49 v868).toNat) ∧
  (∀ a, (k0_off98 v868) a + S8x128.size a ≤ S10000x128.size a)
theorem k0_mult49_dvd : ∀ (v868 : BitVec 32) (k0_hw49 : k0_chk49 v868), 8 ∣ (k0_mult49 v868).toNat := fun v868 k0_hw49 => k0_hw49.1
theorem k0_off98_inb : ∀ (v868 : BitVec 32) (k0_hw49 : k0_chk49 v868), ∀ a, (k0_off98 v868) a + S8x128.size a ≤ S10000x128.size a := fun v868 k0_hw49 => k0_hw49.2

def k0_off99 (i : grid0.Coords) : Fin 2 → Nat :=
  let arg0 : BitVec 32 := BitVec.ofNat 32 (i 0).val
  let c4_i32 : BitVec 32 := 4#32
  let v0 : BitVec 32 := Scalar.muli arg0 c4_i32
  let c0_i32_437 : BitVec 32 := 0#32
  let v884 : BitVec 32 := Scalar.addi v0 c0_i32_437
  let v885 : Index := Scalar.indexCast v884
  let c49 : Index := 49#32
  ![v885.toNat, 49]
def k0_mult50 (v886 : BitVec 32) : BitVec 32 :=
  let c3_i32_438 : BitVec 32 := 3#32
  let v887 : BitVec 32 := Scalar.shrsi v886 c3_i32_438
  let c3_i32_439 : BitVec 32 := 3#32
  let v888 : BitVec 32 := Scalar.shli v887 c3_i32_439
  v888

def k0_off100 (v886 : BitVec 32) : Fin 2 → Nat :=
  let c3_i32_438 : BitVec 32 := 3#32
  let v887 : BitVec 32 := Scalar.shrsi v886 c3_i32_438
  let c3_i32_439 : BitVec 32 := 3#32
  let v888 : BitVec 32 := Scalar.shli v887 c3_i32_439
  let v889 : BitVec 32 := v888
  let v890 : Index := Scalar.indexCast v889
  let c0_440 : Index := 0#32
  ![v890.toNat, 0]

def k0_chk50 (v886 : BitVec 32) : Prop :=
  (8 ∣ (k0_mult50 v886).toNat) ∧
  (∀ a, (k0_off100 v886) a + S8x128.size a ≤ S10000x128.size a)
theorem k0_mult50_dvd : ∀ (v886 : BitVec 32) (k0_hw50 : k0_chk50 v886), 8 ∣ (k0_mult50 v886).toNat := fun v886 k0_hw50 => k0_hw50.1
theorem k0_off100_inb : ∀ (v886 : BitVec 32) (k0_hw50 : k0_chk50 v886), ∀ a, (k0_off100 v886) a + S8x128.size a ≤ S10000x128.size a := fun v886 k0_hw50 => k0_hw50.2

def k0_off101 (i : grid0.Coords) : Fin 2 → Nat :=
  let arg0 : BitVec 32 := BitVec.ofNat 32 (i 0).val
  let c4_i32 : BitVec 32 := 4#32
  let v0 : BitVec 32 := Scalar.muli arg0 c4_i32
  let c0_i32_446 : BitVec 32 := 0#32
  let v902 : BitVec 32 := Scalar.addi v0 c0_i32_446
  let v903 : Index := Scalar.indexCast v902
  let c50 : Index := 50#32
  ![v903.toNat, 50]
def k0_mult51 (v904 : BitVec 32) : BitVec 32 :=
  let c3_i32_447 : BitVec 32 := 3#32
  let v905 : BitVec 32 := Scalar.shrsi v904 c3_i32_447
  let c3_i32_448 : BitVec 32 := 3#32
  let v906 : BitVec 32 := Scalar.shli v905 c3_i32_448
  v906

def k0_off102 (v904 : BitVec 32) : Fin 2 → Nat :=
  let c3_i32_447 : BitVec 32 := 3#32
  let v905 : BitVec 32 := Scalar.shrsi v904 c3_i32_447
  let c3_i32_448 : BitVec 32 := 3#32
  let v906 : BitVec 32 := Scalar.shli v905 c3_i32_448
  let v907 : BitVec 32 := v906
  let v908 : Index := Scalar.indexCast v907
  let c0_449 : Index := 0#32
  ![v908.toNat, 0]

def k0_chk51 (v904 : BitVec 32) : Prop :=
  (8 ∣ (k0_mult51 v904).toNat) ∧
  (∀ a, (k0_off102 v904) a + S8x128.size a ≤ S10000x128.size a)
theorem k0_mult51_dvd : ∀ (v904 : BitVec 32) (k0_hw51 : k0_chk51 v904), 8 ∣ (k0_mult51 v904).toNat := fun v904 k0_hw51 => k0_hw51.1
theorem k0_off102_inb : ∀ (v904 : BitVec 32) (k0_hw51 : k0_chk51 v904), ∀ a, (k0_off102 v904) a + S8x128.size a ≤ S10000x128.size a := fun v904 k0_hw51 => k0_hw51.2

def k0_off103 (i : grid0.Coords) : Fin 2 → Nat :=
  let arg0 : BitVec 32 := BitVec.ofNat 32 (i 0).val
  let c4_i32 : BitVec 32 := 4#32
  let v0 : BitVec 32 := Scalar.muli arg0 c4_i32
  let c0_i32_455 : BitVec 32 := 0#32
  let v920 : BitVec 32 := Scalar.addi v0 c0_i32_455
  let v921 : Index := Scalar.indexCast v920
  let c51 : Index := 51#32
  ![v921.toNat, 51]
def k0_mult52 (v922 : BitVec 32) : BitVec 32 :=
  let c3_i32_456 : BitVec 32 := 3#32
  let v923 : BitVec 32 := Scalar.shrsi v922 c3_i32_456
  let c3_i32_457 : BitVec 32 := 3#32
  let v924 : BitVec 32 := Scalar.shli v923 c3_i32_457
  v924

def k0_off104 (v922 : BitVec 32) : Fin 2 → Nat :=
  let c3_i32_456 : BitVec 32 := 3#32
  let v923 : BitVec 32 := Scalar.shrsi v922 c3_i32_456
  let c3_i32_457 : BitVec 32 := 3#32
  let v924 : BitVec 32 := Scalar.shli v923 c3_i32_457
  let v925 : BitVec 32 := v924
  let v926 : Index := Scalar.indexCast v925
  let c0_458 : Index := 0#32
  ![v926.toNat, 0]

def k0_chk52 (v922 : BitVec 32) : Prop :=
  (8 ∣ (k0_mult52 v922).toNat) ∧
  (∀ a, (k0_off104 v922) a + S8x128.size a ≤ S10000x128.size a)
theorem k0_mult52_dvd : ∀ (v922 : BitVec 32) (k0_hw52 : k0_chk52 v922), 8 ∣ (k0_mult52 v922).toNat := fun v922 k0_hw52 => k0_hw52.1
theorem k0_off104_inb : ∀ (v922 : BitVec 32) (k0_hw52 : k0_chk52 v922), ∀ a, (k0_off104 v922) a + S8x128.size a ≤ S10000x128.size a := fun v922 k0_hw52 => k0_hw52.2

def k0_off105 (i : grid0.Coords) : Fin 2 → Nat :=
  let arg0 : BitVec 32 := BitVec.ofNat 32 (i 0).val
  let c4_i32 : BitVec 32 := 4#32
  let v0 : BitVec 32 := Scalar.muli arg0 c4_i32
  let c0_i32_464 : BitVec 32 := 0#32
  let v938 : BitVec 32 := Scalar.addi v0 c0_i32_464
  let v939 : Index := Scalar.indexCast v938
  let c52 : Index := 52#32
  ![v939.toNat, 52]
def k0_mult53 (v940 : BitVec 32) : BitVec 32 :=
  let c3_i32_465 : BitVec 32 := 3#32
  let v941 : BitVec 32 := Scalar.shrsi v940 c3_i32_465
  let c3_i32_466 : BitVec 32 := 3#32
  let v942 : BitVec 32 := Scalar.shli v941 c3_i32_466
  v942

def k0_off106 (v940 : BitVec 32) : Fin 2 → Nat :=
  let c3_i32_465 : BitVec 32 := 3#32
  let v941 : BitVec 32 := Scalar.shrsi v940 c3_i32_465
  let c3_i32_466 : BitVec 32 := 3#32
  let v942 : BitVec 32 := Scalar.shli v941 c3_i32_466
  let v943 : BitVec 32 := v942
  let v944 : Index := Scalar.indexCast v943
  let c0_467 : Index := 0#32
  ![v944.toNat, 0]

def k0_chk53 (v940 : BitVec 32) : Prop :=
  (8 ∣ (k0_mult53 v940).toNat) ∧
  (∀ a, (k0_off106 v940) a + S8x128.size a ≤ S10000x128.size a)
theorem k0_mult53_dvd : ∀ (v940 : BitVec 32) (k0_hw53 : k0_chk53 v940), 8 ∣ (k0_mult53 v940).toNat := fun v940 k0_hw53 => k0_hw53.1
theorem k0_off106_inb : ∀ (v940 : BitVec 32) (k0_hw53 : k0_chk53 v940), ∀ a, (k0_off106 v940) a + S8x128.size a ≤ S10000x128.size a := fun v940 k0_hw53 => k0_hw53.2

def k0_off107 (i : grid0.Coords) : Fin 2 → Nat :=
  let arg0 : BitVec 32 := BitVec.ofNat 32 (i 0).val
  let c4_i32 : BitVec 32 := 4#32
  let v0 : BitVec 32 := Scalar.muli arg0 c4_i32
  let c0_i32_473 : BitVec 32 := 0#32
  let v956 : BitVec 32 := Scalar.addi v0 c0_i32_473
  let v957 : Index := Scalar.indexCast v956
  let c53 : Index := 53#32
  ![v957.toNat, 53]
def k0_mult54 (v958 : BitVec 32) : BitVec 32 :=
  let c3_i32_474 : BitVec 32 := 3#32
  let v959 : BitVec 32 := Scalar.shrsi v958 c3_i32_474
  let c3_i32_475 : BitVec 32 := 3#32
  let v960 : BitVec 32 := Scalar.shli v959 c3_i32_475
  v960

def k0_off108 (v958 : BitVec 32) : Fin 2 → Nat :=
  let c3_i32_474 : BitVec 32 := 3#32
  let v959 : BitVec 32 := Scalar.shrsi v958 c3_i32_474
  let c3_i32_475 : BitVec 32 := 3#32
  let v960 : BitVec 32 := Scalar.shli v959 c3_i32_475
  let v961 : BitVec 32 := v960
  let v962 : Index := Scalar.indexCast v961
  let c0_476 : Index := 0#32
  ![v962.toNat, 0]

def k0_chk54 (v958 : BitVec 32) : Prop :=
  (8 ∣ (k0_mult54 v958).toNat) ∧
  (∀ a, (k0_off108 v958) a + S8x128.size a ≤ S10000x128.size a)
theorem k0_mult54_dvd : ∀ (v958 : BitVec 32) (k0_hw54 : k0_chk54 v958), 8 ∣ (k0_mult54 v958).toNat := fun v958 k0_hw54 => k0_hw54.1
theorem k0_off108_inb : ∀ (v958 : BitVec 32) (k0_hw54 : k0_chk54 v958), ∀ a, (k0_off108 v958) a + S8x128.size a ≤ S10000x128.size a := fun v958 k0_hw54 => k0_hw54.2

def k0_off109 (i : grid0.Coords) : Fin 2 → Nat :=
  let arg0 : BitVec 32 := BitVec.ofNat 32 (i 0).val
  let c4_i32 : BitVec 32 := 4#32
  let v0 : BitVec 32 := Scalar.muli arg0 c4_i32
  let c0_i32_482 : BitVec 32 := 0#32
  let v974 : BitVec 32 := Scalar.addi v0 c0_i32_482
  let v975 : Index := Scalar.indexCast v974
  let c54 : Index := 54#32
  ![v975.toNat, 54]
def k0_mult55 (v976 : BitVec 32) : BitVec 32 :=
  let c3_i32_483 : BitVec 32 := 3#32
  let v977 : BitVec 32 := Scalar.shrsi v976 c3_i32_483
  let c3_i32_484 : BitVec 32 := 3#32
  let v978 : BitVec 32 := Scalar.shli v977 c3_i32_484
  v978

def k0_off110 (v976 : BitVec 32) : Fin 2 → Nat :=
  let c3_i32_483 : BitVec 32 := 3#32
  let v977 : BitVec 32 := Scalar.shrsi v976 c3_i32_483
  let c3_i32_484 : BitVec 32 := 3#32
  let v978 : BitVec 32 := Scalar.shli v977 c3_i32_484
  let v979 : BitVec 32 := v978
  let v980 : Index := Scalar.indexCast v979
  let c0_485 : Index := 0#32
  ![v980.toNat, 0]

def k0_chk55 (v976 : BitVec 32) : Prop :=
  (8 ∣ (k0_mult55 v976).toNat) ∧
  (∀ a, (k0_off110 v976) a + S8x128.size a ≤ S10000x128.size a)
theorem k0_mult55_dvd : ∀ (v976 : BitVec 32) (k0_hw55 : k0_chk55 v976), 8 ∣ (k0_mult55 v976).toNat := fun v976 k0_hw55 => k0_hw55.1
theorem k0_off110_inb : ∀ (v976 : BitVec 32) (k0_hw55 : k0_chk55 v976), ∀ a, (k0_off110 v976) a + S8x128.size a ≤ S10000x128.size a := fun v976 k0_hw55 => k0_hw55.2

def k0_off111 (i : grid0.Coords) : Fin 2 → Nat :=
  let arg0 : BitVec 32 := BitVec.ofNat 32 (i 0).val
  let c4_i32 : BitVec 32 := 4#32
  let v0 : BitVec 32 := Scalar.muli arg0 c4_i32
  let c0_i32_491 : BitVec 32 := 0#32
  let v992 : BitVec 32 := Scalar.addi v0 c0_i32_491
  let v993 : Index := Scalar.indexCast v992
  let c55 : Index := 55#32
  ![v993.toNat, 55]
def k0_mult56 (v994 : BitVec 32) : BitVec 32 :=
  let c3_i32_492 : BitVec 32 := 3#32
  let v995 : BitVec 32 := Scalar.shrsi v994 c3_i32_492
  let c3_i32_493 : BitVec 32 := 3#32
  let v996 : BitVec 32 := Scalar.shli v995 c3_i32_493
  v996

def k0_off112 (v994 : BitVec 32) : Fin 2 → Nat :=
  let c3_i32_492 : BitVec 32 := 3#32
  let v995 : BitVec 32 := Scalar.shrsi v994 c3_i32_492
  let c3_i32_493 : BitVec 32 := 3#32
  let v996 : BitVec 32 := Scalar.shli v995 c3_i32_493
  let v997 : BitVec 32 := v996
  let v998 : Index := Scalar.indexCast v997
  let c0_494 : Index := 0#32
  ![v998.toNat, 0]

def k0_chk56 (v994 : BitVec 32) : Prop :=
  (8 ∣ (k0_mult56 v994).toNat) ∧
  (∀ a, (k0_off112 v994) a + S8x128.size a ≤ S10000x128.size a)
theorem k0_mult56_dvd : ∀ (v994 : BitVec 32) (k0_hw56 : k0_chk56 v994), 8 ∣ (k0_mult56 v994).toNat := fun v994 k0_hw56 => k0_hw56.1
theorem k0_off112_inb : ∀ (v994 : BitVec 32) (k0_hw56 : k0_chk56 v994), ∀ a, (k0_off112 v994) a + S8x128.size a ≤ S10000x128.size a := fun v994 k0_hw56 => k0_hw56.2

def k0_off113 (i : grid0.Coords) : Fin 2 → Nat :=
  let arg0 : BitVec 32 := BitVec.ofNat 32 (i 0).val
  let c4_i32 : BitVec 32 := 4#32
  let v0 : BitVec 32 := Scalar.muli arg0 c4_i32
  let c0_i32_500 : BitVec 32 := 0#32
  let v1010 : BitVec 32 := Scalar.addi v0 c0_i32_500
  let v1011 : Index := Scalar.indexCast v1010
  let c56 : Index := 56#32
  ![v1011.toNat, 56]
def k0_mult57 (v1012 : BitVec 32) : BitVec 32 :=
  let c3_i32_501 : BitVec 32 := 3#32
  let v1013 : BitVec 32 := Scalar.shrsi v1012 c3_i32_501
  let c3_i32_502 : BitVec 32 := 3#32
  let v1014 : BitVec 32 := Scalar.shli v1013 c3_i32_502
  v1014

def k0_off114 (v1012 : BitVec 32) : Fin 2 → Nat :=
  let c3_i32_501 : BitVec 32 := 3#32
  let v1013 : BitVec 32 := Scalar.shrsi v1012 c3_i32_501
  let c3_i32_502 : BitVec 32 := 3#32
  let v1014 : BitVec 32 := Scalar.shli v1013 c3_i32_502
  let v1015 : BitVec 32 := v1014
  let v1016 : Index := Scalar.indexCast v1015
  let c0_503 : Index := 0#32
  ![v1016.toNat, 0]

def k0_chk57 (v1012 : BitVec 32) : Prop :=
  (8 ∣ (k0_mult57 v1012).toNat) ∧
  (∀ a, (k0_off114 v1012) a + S8x128.size a ≤ S10000x128.size a)
theorem k0_mult57_dvd : ∀ (v1012 : BitVec 32) (k0_hw57 : k0_chk57 v1012), 8 ∣ (k0_mult57 v1012).toNat := fun v1012 k0_hw57 => k0_hw57.1
theorem k0_off114_inb : ∀ (v1012 : BitVec 32) (k0_hw57 : k0_chk57 v1012), ∀ a, (k0_off114 v1012) a + S8x128.size a ≤ S10000x128.size a := fun v1012 k0_hw57 => k0_hw57.2

def k0_off115 (i : grid0.Coords) : Fin 2 → Nat :=
  let arg0 : BitVec 32 := BitVec.ofNat 32 (i 0).val
  let c4_i32 : BitVec 32 := 4#32
  let v0 : BitVec 32 := Scalar.muli arg0 c4_i32
  let c0_i32_509 : BitVec 32 := 0#32
  let v1028 : BitVec 32 := Scalar.addi v0 c0_i32_509
  let v1029 : Index := Scalar.indexCast v1028
  let c57 : Index := 57#32
  ![v1029.toNat, 57]
def k0_mult58 (v1030 : BitVec 32) : BitVec 32 :=
  let c3_i32_510 : BitVec 32 := 3#32
  let v1031 : BitVec 32 := Scalar.shrsi v1030 c3_i32_510
  let c3_i32_511 : BitVec 32 := 3#32
  let v1032 : BitVec 32 := Scalar.shli v1031 c3_i32_511
  v1032

def k0_off116 (v1030 : BitVec 32) : Fin 2 → Nat :=
  let c3_i32_510 : BitVec 32 := 3#32
  let v1031 : BitVec 32 := Scalar.shrsi v1030 c3_i32_510
  let c3_i32_511 : BitVec 32 := 3#32
  let v1032 : BitVec 32 := Scalar.shli v1031 c3_i32_511
  let v1033 : BitVec 32 := v1032
  let v1034 : Index := Scalar.indexCast v1033
  let c0_512 : Index := 0#32
  ![v1034.toNat, 0]

def k0_chk58 (v1030 : BitVec 32) : Prop :=
  (8 ∣ (k0_mult58 v1030).toNat) ∧
  (∀ a, (k0_off116 v1030) a + S8x128.size a ≤ S10000x128.size a)
theorem k0_mult58_dvd : ∀ (v1030 : BitVec 32) (k0_hw58 : k0_chk58 v1030), 8 ∣ (k0_mult58 v1030).toNat := fun v1030 k0_hw58 => k0_hw58.1
theorem k0_off116_inb : ∀ (v1030 : BitVec 32) (k0_hw58 : k0_chk58 v1030), ∀ a, (k0_off116 v1030) a + S8x128.size a ≤ S10000x128.size a := fun v1030 k0_hw58 => k0_hw58.2

def k0_off117 (i : grid0.Coords) : Fin 2 → Nat :=
  let arg0 : BitVec 32 := BitVec.ofNat 32 (i 0).val
  let c4_i32 : BitVec 32 := 4#32
  let v0 : BitVec 32 := Scalar.muli arg0 c4_i32
  let c0_i32_518 : BitVec 32 := 0#32
  let v1046 : BitVec 32 := Scalar.addi v0 c0_i32_518
  let v1047 : Index := Scalar.indexCast v1046
  let c58 : Index := 58#32
  ![v1047.toNat, 58]
def k0_mult59 (v1048 : BitVec 32) : BitVec 32 :=
  let c3_i32_519 : BitVec 32 := 3#32
  let v1049 : BitVec 32 := Scalar.shrsi v1048 c3_i32_519
  let c3_i32_520 : BitVec 32 := 3#32
  let v1050 : BitVec 32 := Scalar.shli v1049 c3_i32_520
  v1050

def k0_off118 (v1048 : BitVec 32) : Fin 2 → Nat :=
  let c3_i32_519 : BitVec 32 := 3#32
  let v1049 : BitVec 32 := Scalar.shrsi v1048 c3_i32_519
  let c3_i32_520 : BitVec 32 := 3#32
  let v1050 : BitVec 32 := Scalar.shli v1049 c3_i32_520
  let v1051 : BitVec 32 := v1050
  let v1052 : Index := Scalar.indexCast v1051
  let c0_521 : Index := 0#32
  ![v1052.toNat, 0]

def k0_chk59 (v1048 : BitVec 32) : Prop :=
  (8 ∣ (k0_mult59 v1048).toNat) ∧
  (∀ a, (k0_off118 v1048) a + S8x128.size a ≤ S10000x128.size a)
theorem k0_mult59_dvd : ∀ (v1048 : BitVec 32) (k0_hw59 : k0_chk59 v1048), 8 ∣ (k0_mult59 v1048).toNat := fun v1048 k0_hw59 => k0_hw59.1
theorem k0_off118_inb : ∀ (v1048 : BitVec 32) (k0_hw59 : k0_chk59 v1048), ∀ a, (k0_off118 v1048) a + S8x128.size a ≤ S10000x128.size a := fun v1048 k0_hw59 => k0_hw59.2

def k0_off119 (i : grid0.Coords) : Fin 2 → Nat :=
  let arg0 : BitVec 32 := BitVec.ofNat 32 (i 0).val
  let c4_i32 : BitVec 32 := 4#32
  let v0 : BitVec 32 := Scalar.muli arg0 c4_i32
  let c0_i32_527 : BitVec 32 := 0#32
  let v1064 : BitVec 32 := Scalar.addi v0 c0_i32_527
  let v1065 : Index := Scalar.indexCast v1064
  let c59 : Index := 59#32
  ![v1065.toNat, 59]
def k0_mult60 (v1066 : BitVec 32) : BitVec 32 :=
  let c3_i32_528 : BitVec 32 := 3#32
  let v1067 : BitVec 32 := Scalar.shrsi v1066 c3_i32_528
  let c3_i32_529 : BitVec 32 := 3#32
  let v1068 : BitVec 32 := Scalar.shli v1067 c3_i32_529
  v1068

def k0_off120 (v1066 : BitVec 32) : Fin 2 → Nat :=
  let c3_i32_528 : BitVec 32 := 3#32
  let v1067 : BitVec 32 := Scalar.shrsi v1066 c3_i32_528
  let c3_i32_529 : BitVec 32 := 3#32
  let v1068 : BitVec 32 := Scalar.shli v1067 c3_i32_529
  let v1069 : BitVec 32 := v1068
  let v1070 : Index := Scalar.indexCast v1069
  let c0_530 : Index := 0#32
  ![v1070.toNat, 0]

def k0_chk60 (v1066 : BitVec 32) : Prop :=
  (8 ∣ (k0_mult60 v1066).toNat) ∧
  (∀ a, (k0_off120 v1066) a + S8x128.size a ≤ S10000x128.size a)
theorem k0_mult60_dvd : ∀ (v1066 : BitVec 32) (k0_hw60 : k0_chk60 v1066), 8 ∣ (k0_mult60 v1066).toNat := fun v1066 k0_hw60 => k0_hw60.1
theorem k0_off120_inb : ∀ (v1066 : BitVec 32) (k0_hw60 : k0_chk60 v1066), ∀ a, (k0_off120 v1066) a + S8x128.size a ≤ S10000x128.size a := fun v1066 k0_hw60 => k0_hw60.2

def k0_off121 (i : grid0.Coords) : Fin 2 → Nat :=
  let arg0 : BitVec 32 := BitVec.ofNat 32 (i 0).val
  let c4_i32 : BitVec 32 := 4#32
  let v0 : BitVec 32 := Scalar.muli arg0 c4_i32
  let c0_i32_536 : BitVec 32 := 0#32
  let v1082 : BitVec 32 := Scalar.addi v0 c0_i32_536
  let v1083 : Index := Scalar.indexCast v1082
  let c60 : Index := 60#32
  ![v1083.toNat, 60]
def k0_mult61 (v1084 : BitVec 32) : BitVec 32 :=
  let c3_i32_537 : BitVec 32 := 3#32
  let v1085 : BitVec 32 := Scalar.shrsi v1084 c3_i32_537
  let c3_i32_538 : BitVec 32 := 3#32
  let v1086 : BitVec 32 := Scalar.shli v1085 c3_i32_538
  v1086

def k0_off122 (v1084 : BitVec 32) : Fin 2 → Nat :=
  let c3_i32_537 : BitVec 32 := 3#32
  let v1085 : BitVec 32 := Scalar.shrsi v1084 c3_i32_537
  let c3_i32_538 : BitVec 32 := 3#32
  let v1086 : BitVec 32 := Scalar.shli v1085 c3_i32_538
  let v1087 : BitVec 32 := v1086
  let v1088 : Index := Scalar.indexCast v1087
  let c0_539 : Index := 0#32
  ![v1088.toNat, 0]

def k0_chk61 (v1084 : BitVec 32) : Prop :=
  (8 ∣ (k0_mult61 v1084).toNat) ∧
  (∀ a, (k0_off122 v1084) a + S8x128.size a ≤ S10000x128.size a)
theorem k0_mult61_dvd : ∀ (v1084 : BitVec 32) (k0_hw61 : k0_chk61 v1084), 8 ∣ (k0_mult61 v1084).toNat := fun v1084 k0_hw61 => k0_hw61.1
theorem k0_off122_inb : ∀ (v1084 : BitVec 32) (k0_hw61 : k0_chk61 v1084), ∀ a, (k0_off122 v1084) a + S8x128.size a ≤ S10000x128.size a := fun v1084 k0_hw61 => k0_hw61.2

def k0_off123 (i : grid0.Coords) : Fin 2 → Nat :=
  let arg0 : BitVec 32 := BitVec.ofNat 32 (i 0).val
  let c4_i32 : BitVec 32 := 4#32
  let v0 : BitVec 32 := Scalar.muli arg0 c4_i32
  let c0_i32_545 : BitVec 32 := 0#32
  let v1100 : BitVec 32 := Scalar.addi v0 c0_i32_545
  let v1101 : Index := Scalar.indexCast v1100
  let c61 : Index := 61#32
  ![v1101.toNat, 61]
def k0_mult62 (v1102 : BitVec 32) : BitVec 32 :=
  let c3_i32_546 : BitVec 32 := 3#32
  let v1103 : BitVec 32 := Scalar.shrsi v1102 c3_i32_546
  let c3_i32_547 : BitVec 32 := 3#32
  let v1104 : BitVec 32 := Scalar.shli v1103 c3_i32_547
  v1104

def k0_off124 (v1102 : BitVec 32) : Fin 2 → Nat :=
  let c3_i32_546 : BitVec 32 := 3#32
  let v1103 : BitVec 32 := Scalar.shrsi v1102 c3_i32_546
  let c3_i32_547 : BitVec 32 := 3#32
  let v1104 : BitVec 32 := Scalar.shli v1103 c3_i32_547
  let v1105 : BitVec 32 := v1104
  let v1106 : Index := Scalar.indexCast v1105
  let c0_548 : Index := 0#32
  ![v1106.toNat, 0]

def k0_chk62 (v1102 : BitVec 32) : Prop :=
  (8 ∣ (k0_mult62 v1102).toNat) ∧
  (∀ a, (k0_off124 v1102) a + S8x128.size a ≤ S10000x128.size a)
theorem k0_mult62_dvd : ∀ (v1102 : BitVec 32) (k0_hw62 : k0_chk62 v1102), 8 ∣ (k0_mult62 v1102).toNat := fun v1102 k0_hw62 => k0_hw62.1
theorem k0_off124_inb : ∀ (v1102 : BitVec 32) (k0_hw62 : k0_chk62 v1102), ∀ a, (k0_off124 v1102) a + S8x128.size a ≤ S10000x128.size a := fun v1102 k0_hw62 => k0_hw62.2

def k0_off125 (i : grid0.Coords) : Fin 2 → Nat :=
  let arg0 : BitVec 32 := BitVec.ofNat 32 (i 0).val
  let c4_i32 : BitVec 32 := 4#32
  let v0 : BitVec 32 := Scalar.muli arg0 c4_i32
  let c0_i32_554 : BitVec 32 := 0#32
  let v1118 : BitVec 32 := Scalar.addi v0 c0_i32_554
  let v1119 : Index := Scalar.indexCast v1118
  let c62 : Index := 62#32
  ![v1119.toNat, 62]
def k0_mult63 (v1120 : BitVec 32) : BitVec 32 :=
  let c3_i32_555 : BitVec 32 := 3#32
  let v1121 : BitVec 32 := Scalar.shrsi v1120 c3_i32_555
  let c3_i32_556 : BitVec 32 := 3#32
  let v1122 : BitVec 32 := Scalar.shli v1121 c3_i32_556
  v1122

def k0_off126 (v1120 : BitVec 32) : Fin 2 → Nat :=
  let c3_i32_555 : BitVec 32 := 3#32
  let v1121 : BitVec 32 := Scalar.shrsi v1120 c3_i32_555
  let c3_i32_556 : BitVec 32 := 3#32
  let v1122 : BitVec 32 := Scalar.shli v1121 c3_i32_556
  let v1123 : BitVec 32 := v1122
  let v1124 : Index := Scalar.indexCast v1123
  let c0_557 : Index := 0#32
  ![v1124.toNat, 0]

def k0_chk63 (v1120 : BitVec 32) : Prop :=
  (8 ∣ (k0_mult63 v1120).toNat) ∧
  (∀ a, (k0_off126 v1120) a + S8x128.size a ≤ S10000x128.size a)
theorem k0_mult63_dvd : ∀ (v1120 : BitVec 32) (k0_hw63 : k0_chk63 v1120), 8 ∣ (k0_mult63 v1120).toNat := fun v1120 k0_hw63 => k0_hw63.1
theorem k0_off126_inb : ∀ (v1120 : BitVec 32) (k0_hw63 : k0_chk63 v1120), ∀ a, (k0_off126 v1120) a + S8x128.size a ≤ S10000x128.size a := fun v1120 k0_hw63 => k0_hw63.2

def k0_off127 (i : grid0.Coords) : Fin 2 → Nat :=
  let arg0 : BitVec 32 := BitVec.ofNat 32 (i 0).val
  let c4_i32 : BitVec 32 := 4#32
  let v0 : BitVec 32 := Scalar.muli arg0 c4_i32
  let c0_i32_563 : BitVec 32 := 0#32
  let v1136 : BitVec 32 := Scalar.addi v0 c0_i32_563
  let v1137 : Index := Scalar.indexCast v1136
  let c63 : Index := 63#32
  ![v1137.toNat, 63]
def k0_mult64 (v1138 : BitVec 32) : BitVec 32 :=
  let c3_i32_564 : BitVec 32 := 3#32
  let v1139 : BitVec 32 := Scalar.shrsi v1138 c3_i32_564
  let c3_i32_565 : BitVec 32 := 3#32
  let v1140 : BitVec 32 := Scalar.shli v1139 c3_i32_565
  v1140

def k0_off128 (v1138 : BitVec 32) : Fin 2 → Nat :=
  let c3_i32_564 : BitVec 32 := 3#32
  let v1139 : BitVec 32 := Scalar.shrsi v1138 c3_i32_564
  let c3_i32_565 : BitVec 32 := 3#32
  let v1140 : BitVec 32 := Scalar.shli v1139 c3_i32_565
  let v1141 : BitVec 32 := v1140
  let v1142 : Index := Scalar.indexCast v1141
  let c0_566 : Index := 0#32
  ![v1142.toNat, 0]

def k0_chk64 (v1138 : BitVec 32) : Prop :=
  (8 ∣ (k0_mult64 v1138).toNat) ∧
  (∀ a, (k0_off128 v1138) a + S8x128.size a ≤ S10000x128.size a)
theorem k0_mult64_dvd : ∀ (v1138 : BitVec 32) (k0_hw64 : k0_chk64 v1138), 8 ∣ (k0_mult64 v1138).toNat := fun v1138 k0_hw64 => k0_hw64.1
theorem k0_off128_inb : ∀ (v1138 : BitVec 32) (k0_hw64 : k0_chk64 v1138), ∀ a, (k0_off128 v1138) a + S8x128.size a ≤ S10000x128.size a := fun v1138 k0_hw64 => k0_hw64.2

def k0_off129 (i : grid0.Coords) : Fin 2 → Nat :=
  let arg0 : BitVec 32 := BitVec.ofNat 32 (i 0).val
  let c4_i32 : BitVec 32 := 4#32
  let v0 : BitVec 32 := Scalar.muli arg0 c4_i32
  let c0_i32_572 : BitVec 32 := 0#32
  let v1154 : BitVec 32 := Scalar.addi v0 c0_i32_572
  let v1155 : Index := Scalar.indexCast v1154
  let c64 : Index := 64#32
  ![v1155.toNat, 64]
def k0_mult65 (v1156 : BitVec 32) : BitVec 32 :=
  let c3_i32_573 : BitVec 32 := 3#32
  let v1157 : BitVec 32 := Scalar.shrsi v1156 c3_i32_573
  let c3_i32_574 : BitVec 32 := 3#32
  let v1158 : BitVec 32 := Scalar.shli v1157 c3_i32_574
  v1158

def k0_off130 (v1156 : BitVec 32) : Fin 2 → Nat :=
  let c3_i32_573 : BitVec 32 := 3#32
  let v1157 : BitVec 32 := Scalar.shrsi v1156 c3_i32_573
  let c3_i32_574 : BitVec 32 := 3#32
  let v1158 : BitVec 32 := Scalar.shli v1157 c3_i32_574
  let v1159 : BitVec 32 := v1158
  let v1160 : Index := Scalar.indexCast v1159
  let c0_575 : Index := 0#32
  ![v1160.toNat, 0]

def k0_chk65 (v1156 : BitVec 32) : Prop :=
  (8 ∣ (k0_mult65 v1156).toNat) ∧
  (∀ a, (k0_off130 v1156) a + S8x128.size a ≤ S10000x128.size a)
theorem k0_mult65_dvd : ∀ (v1156 : BitVec 32) (k0_hw65 : k0_chk65 v1156), 8 ∣ (k0_mult65 v1156).toNat := fun v1156 k0_hw65 => k0_hw65.1
theorem k0_off130_inb : ∀ (v1156 : BitVec 32) (k0_hw65 : k0_chk65 v1156), ∀ a, (k0_off130 v1156) a + S8x128.size a ≤ S10000x128.size a := fun v1156 k0_hw65 => k0_hw65.2

def k0_off131 (i : grid0.Coords) : Fin 2 → Nat :=
  let arg0 : BitVec 32 := BitVec.ofNat 32 (i 0).val
  let c4_i32 : BitVec 32 := 4#32
  let v0 : BitVec 32 := Scalar.muli arg0 c4_i32
  let c0_i32_581 : BitVec 32 := 0#32
  let v1172 : BitVec 32 := Scalar.addi v0 c0_i32_581
  let v1173 : Index := Scalar.indexCast v1172
  let c65 : Index := 65#32
  ![v1173.toNat, 65]
def k0_mult66 (v1174 : BitVec 32) : BitVec 32 :=
  let c3_i32_582 : BitVec 32 := 3#32
  let v1175 : BitVec 32 := Scalar.shrsi v1174 c3_i32_582
  let c3_i32_583 : BitVec 32 := 3#32
  let v1176 : BitVec 32 := Scalar.shli v1175 c3_i32_583
  v1176

def k0_off132 (v1174 : BitVec 32) : Fin 2 → Nat :=
  let c3_i32_582 : BitVec 32 := 3#32
  let v1175 : BitVec 32 := Scalar.shrsi v1174 c3_i32_582
  let c3_i32_583 : BitVec 32 := 3#32
  let v1176 : BitVec 32 := Scalar.shli v1175 c3_i32_583
  let v1177 : BitVec 32 := v1176
  let v1178 : Index := Scalar.indexCast v1177
  let c0_584 : Index := 0#32
  ![v1178.toNat, 0]

def k0_chk66 (v1174 : BitVec 32) : Prop :=
  (8 ∣ (k0_mult66 v1174).toNat) ∧
  (∀ a, (k0_off132 v1174) a + S8x128.size a ≤ S10000x128.size a)
theorem k0_mult66_dvd : ∀ (v1174 : BitVec 32) (k0_hw66 : k0_chk66 v1174), 8 ∣ (k0_mult66 v1174).toNat := fun v1174 k0_hw66 => k0_hw66.1
theorem k0_off132_inb : ∀ (v1174 : BitVec 32) (k0_hw66 : k0_chk66 v1174), ∀ a, (k0_off132 v1174) a + S8x128.size a ≤ S10000x128.size a := fun v1174 k0_hw66 => k0_hw66.2

def k0_off133 (i : grid0.Coords) : Fin 2 → Nat :=
  let arg0 : BitVec 32 := BitVec.ofNat 32 (i 0).val
  let c4_i32 : BitVec 32 := 4#32
  let v0 : BitVec 32 := Scalar.muli arg0 c4_i32
  let c0_i32_590 : BitVec 32 := 0#32
  let v1190 : BitVec 32 := Scalar.addi v0 c0_i32_590
  let v1191 : Index := Scalar.indexCast v1190
  let c66 : Index := 66#32
  ![v1191.toNat, 66]
def k0_mult67 (v1192 : BitVec 32) : BitVec 32 :=
  let c3_i32_591 : BitVec 32 := 3#32
  let v1193 : BitVec 32 := Scalar.shrsi v1192 c3_i32_591
  let c3_i32_592 : BitVec 32 := 3#32
  let v1194 : BitVec 32 := Scalar.shli v1193 c3_i32_592
  v1194

def k0_off134 (v1192 : BitVec 32) : Fin 2 → Nat :=
  let c3_i32_591 : BitVec 32 := 3#32
  let v1193 : BitVec 32 := Scalar.shrsi v1192 c3_i32_591
  let c3_i32_592 : BitVec 32 := 3#32
  let v1194 : BitVec 32 := Scalar.shli v1193 c3_i32_592
  let v1195 : BitVec 32 := v1194
  let v1196 : Index := Scalar.indexCast v1195
  let c0_593 : Index := 0#32
  ![v1196.toNat, 0]

def k0_chk67 (v1192 : BitVec 32) : Prop :=
  (8 ∣ (k0_mult67 v1192).toNat) ∧
  (∀ a, (k0_off134 v1192) a + S8x128.size a ≤ S10000x128.size a)
theorem k0_mult67_dvd : ∀ (v1192 : BitVec 32) (k0_hw67 : k0_chk67 v1192), 8 ∣ (k0_mult67 v1192).toNat := fun v1192 k0_hw67 => k0_hw67.1
theorem k0_off134_inb : ∀ (v1192 : BitVec 32) (k0_hw67 : k0_chk67 v1192), ∀ a, (k0_off134 v1192) a + S8x128.size a ≤ S10000x128.size a := fun v1192 k0_hw67 => k0_hw67.2

def k0_off135 (i : grid0.Coords) : Fin 2 → Nat :=
  let arg0 : BitVec 32 := BitVec.ofNat 32 (i 0).val
  let c4_i32 : BitVec 32 := 4#32
  let v0 : BitVec 32 := Scalar.muli arg0 c4_i32
  let c0_i32_599 : BitVec 32 := 0#32
  let v1208 : BitVec 32 := Scalar.addi v0 c0_i32_599
  let v1209 : Index := Scalar.indexCast v1208
  let c67 : Index := 67#32
  ![v1209.toNat, 67]
def k0_mult68 (v1210 : BitVec 32) : BitVec 32 :=
  let c3_i32_600 : BitVec 32 := 3#32
  let v1211 : BitVec 32 := Scalar.shrsi v1210 c3_i32_600
  let c3_i32_601 : BitVec 32 := 3#32
  let v1212 : BitVec 32 := Scalar.shli v1211 c3_i32_601
  v1212

def k0_off136 (v1210 : BitVec 32) : Fin 2 → Nat :=
  let c3_i32_600 : BitVec 32 := 3#32
  let v1211 : BitVec 32 := Scalar.shrsi v1210 c3_i32_600
  let c3_i32_601 : BitVec 32 := 3#32
  let v1212 : BitVec 32 := Scalar.shli v1211 c3_i32_601
  let v1213 : BitVec 32 := v1212
  let v1214 : Index := Scalar.indexCast v1213
  let c0_602 : Index := 0#32
  ![v1214.toNat, 0]

def k0_chk68 (v1210 : BitVec 32) : Prop :=
  (8 ∣ (k0_mult68 v1210).toNat) ∧
  (∀ a, (k0_off136 v1210) a + S8x128.size a ≤ S10000x128.size a)
theorem k0_mult68_dvd : ∀ (v1210 : BitVec 32) (k0_hw68 : k0_chk68 v1210), 8 ∣ (k0_mult68 v1210).toNat := fun v1210 k0_hw68 => k0_hw68.1
theorem k0_off136_inb : ∀ (v1210 : BitVec 32) (k0_hw68 : k0_chk68 v1210), ∀ a, (k0_off136 v1210) a + S8x128.size a ≤ S10000x128.size a := fun v1210 k0_hw68 => k0_hw68.2

def k0_off137 (i : grid0.Coords) : Fin 2 → Nat :=
  let arg0 : BitVec 32 := BitVec.ofNat 32 (i 0).val
  let c4_i32 : BitVec 32 := 4#32
  let v0 : BitVec 32 := Scalar.muli arg0 c4_i32
  let c0_i32_608 : BitVec 32 := 0#32
  let v1226 : BitVec 32 := Scalar.addi v0 c0_i32_608
  let v1227 : Index := Scalar.indexCast v1226
  let c68 : Index := 68#32
  ![v1227.toNat, 68]
def k0_mult69 (v1228 : BitVec 32) : BitVec 32 :=
  let c3_i32_609 : BitVec 32 := 3#32
  let v1229 : BitVec 32 := Scalar.shrsi v1228 c3_i32_609
  let c3_i32_610 : BitVec 32 := 3#32
  let v1230 : BitVec 32 := Scalar.shli v1229 c3_i32_610
  v1230

def k0_off138 (v1228 : BitVec 32) : Fin 2 → Nat :=
  let c3_i32_609 : BitVec 32 := 3#32
  let v1229 : BitVec 32 := Scalar.shrsi v1228 c3_i32_609
  let c3_i32_610 : BitVec 32 := 3#32
  let v1230 : BitVec 32 := Scalar.shli v1229 c3_i32_610
  let v1231 : BitVec 32 := v1230
  let v1232 : Index := Scalar.indexCast v1231
  let c0_611 : Index := 0#32
  ![v1232.toNat, 0]

def k0_chk69 (v1228 : BitVec 32) : Prop :=
  (8 ∣ (k0_mult69 v1228).toNat) ∧
  (∀ a, (k0_off138 v1228) a + S8x128.size a ≤ S10000x128.size a)
theorem k0_mult69_dvd : ∀ (v1228 : BitVec 32) (k0_hw69 : k0_chk69 v1228), 8 ∣ (k0_mult69 v1228).toNat := fun v1228 k0_hw69 => k0_hw69.1
theorem k0_off138_inb : ∀ (v1228 : BitVec 32) (k0_hw69 : k0_chk69 v1228), ∀ a, (k0_off138 v1228) a + S8x128.size a ≤ S10000x128.size a := fun v1228 k0_hw69 => k0_hw69.2

def k0_off139 (i : grid0.Coords) : Fin 2 → Nat :=
  let arg0 : BitVec 32 := BitVec.ofNat 32 (i 0).val
  let c4_i32 : BitVec 32 := 4#32
  let v0 : BitVec 32 := Scalar.muli arg0 c4_i32
  let c0_i32_617 : BitVec 32 := 0#32
  let v1244 : BitVec 32 := Scalar.addi v0 c0_i32_617
  let v1245 : Index := Scalar.indexCast v1244
  let c69 : Index := 69#32
  ![v1245.toNat, 69]
def k0_mult70 (v1246 : BitVec 32) : BitVec 32 :=
  let c3_i32_618 : BitVec 32 := 3#32
  let v1247 : BitVec 32 := Scalar.shrsi v1246 c3_i32_618
  let c3_i32_619 : BitVec 32 := 3#32
  let v1248 : BitVec 32 := Scalar.shli v1247 c3_i32_619
  v1248

def k0_off140 (v1246 : BitVec 32) : Fin 2 → Nat :=
  let c3_i32_618 : BitVec 32 := 3#32
  let v1247 : BitVec 32 := Scalar.shrsi v1246 c3_i32_618
  let c3_i32_619 : BitVec 32 := 3#32
  let v1248 : BitVec 32 := Scalar.shli v1247 c3_i32_619
  let v1249 : BitVec 32 := v1248
  let v1250 : Index := Scalar.indexCast v1249
  let c0_620 : Index := 0#32
  ![v1250.toNat, 0]

def k0_chk70 (v1246 : BitVec 32) : Prop :=
  (8 ∣ (k0_mult70 v1246).toNat) ∧
  (∀ a, (k0_off140 v1246) a + S8x128.size a ≤ S10000x128.size a)
theorem k0_mult70_dvd : ∀ (v1246 : BitVec 32) (k0_hw70 : k0_chk70 v1246), 8 ∣ (k0_mult70 v1246).toNat := fun v1246 k0_hw70 => k0_hw70.1
theorem k0_off140_inb : ∀ (v1246 : BitVec 32) (k0_hw70 : k0_chk70 v1246), ∀ a, (k0_off140 v1246) a + S8x128.size a ≤ S10000x128.size a := fun v1246 k0_hw70 => k0_hw70.2

def k0_off141 (i : grid0.Coords) : Fin 2 → Nat :=
  let arg0 : BitVec 32 := BitVec.ofNat 32 (i 0).val
  let c4_i32 : BitVec 32 := 4#32
  let v0 : BitVec 32 := Scalar.muli arg0 c4_i32
  let c0_i32_626 : BitVec 32 := 0#32
  let v1262 : BitVec 32 := Scalar.addi v0 c0_i32_626
  let v1263 : Index := Scalar.indexCast v1262
  let c70 : Index := 70#32
  ![v1263.toNat, 70]
def k0_mult71 (v1264 : BitVec 32) : BitVec 32 :=
  let c3_i32_627 : BitVec 32 := 3#32
  let v1265 : BitVec 32 := Scalar.shrsi v1264 c3_i32_627
  let c3_i32_628 : BitVec 32 := 3#32
  let v1266 : BitVec 32 := Scalar.shli v1265 c3_i32_628
  v1266

def k0_off142 (v1264 : BitVec 32) : Fin 2 → Nat :=
  let c3_i32_627 : BitVec 32 := 3#32
  let v1265 : BitVec 32 := Scalar.shrsi v1264 c3_i32_627
  let c3_i32_628 : BitVec 32 := 3#32
  let v1266 : BitVec 32 := Scalar.shli v1265 c3_i32_628
  let v1267 : BitVec 32 := v1266
  let v1268 : Index := Scalar.indexCast v1267
  let c0_629 : Index := 0#32
  ![v1268.toNat, 0]

def k0_chk71 (v1264 : BitVec 32) : Prop :=
  (8 ∣ (k0_mult71 v1264).toNat) ∧
  (∀ a, (k0_off142 v1264) a + S8x128.size a ≤ S10000x128.size a)
theorem k0_mult71_dvd : ∀ (v1264 : BitVec 32) (k0_hw71 : k0_chk71 v1264), 8 ∣ (k0_mult71 v1264).toNat := fun v1264 k0_hw71 => k0_hw71.1
theorem k0_off142_inb : ∀ (v1264 : BitVec 32) (k0_hw71 : k0_chk71 v1264), ∀ a, (k0_off142 v1264) a + S8x128.size a ≤ S10000x128.size a := fun v1264 k0_hw71 => k0_hw71.2

def k0_off143 (i : grid0.Coords) : Fin 2 → Nat :=
  let arg0 : BitVec 32 := BitVec.ofNat 32 (i 0).val
  let c4_i32 : BitVec 32 := 4#32
  let v0 : BitVec 32 := Scalar.muli arg0 c4_i32
  let c0_i32_635 : BitVec 32 := 0#32
  let v1280 : BitVec 32 := Scalar.addi v0 c0_i32_635
  let v1281 : Index := Scalar.indexCast v1280
  let c71 : Index := 71#32
  ![v1281.toNat, 71]
def k0_mult72 (v1282 : BitVec 32) : BitVec 32 :=
  let c3_i32_636 : BitVec 32 := 3#32
  let v1283 : BitVec 32 := Scalar.shrsi v1282 c3_i32_636
  let c3_i32_637 : BitVec 32 := 3#32
  let v1284 : BitVec 32 := Scalar.shli v1283 c3_i32_637
  v1284

def k0_off144 (v1282 : BitVec 32) : Fin 2 → Nat :=
  let c3_i32_636 : BitVec 32 := 3#32
  let v1283 : BitVec 32 := Scalar.shrsi v1282 c3_i32_636
  let c3_i32_637 : BitVec 32 := 3#32
  let v1284 : BitVec 32 := Scalar.shli v1283 c3_i32_637
  let v1285 : BitVec 32 := v1284
  let v1286 : Index := Scalar.indexCast v1285
  let c0_638 : Index := 0#32
  ![v1286.toNat, 0]

def k0_chk72 (v1282 : BitVec 32) : Prop :=
  (8 ∣ (k0_mult72 v1282).toNat) ∧
  (∀ a, (k0_off144 v1282) a + S8x128.size a ≤ S10000x128.size a)
theorem k0_mult72_dvd : ∀ (v1282 : BitVec 32) (k0_hw72 : k0_chk72 v1282), 8 ∣ (k0_mult72 v1282).toNat := fun v1282 k0_hw72 => k0_hw72.1
theorem k0_off144_inb : ∀ (v1282 : BitVec 32) (k0_hw72 : k0_chk72 v1282), ∀ a, (k0_off144 v1282) a + S8x128.size a ≤ S10000x128.size a := fun v1282 k0_hw72 => k0_hw72.2

def k0_off145 (i : grid0.Coords) : Fin 2 → Nat :=
  let arg0 : BitVec 32 := BitVec.ofNat 32 (i 0).val
  let c4_i32 : BitVec 32 := 4#32
  let v0 : BitVec 32 := Scalar.muli arg0 c4_i32
  let c0_i32_644 : BitVec 32 := 0#32
  let v1298 : BitVec 32 := Scalar.addi v0 c0_i32_644
  let v1299 : Index := Scalar.indexCast v1298
  let c72 : Index := 72#32
  ![v1299.toNat, 72]
def k0_mult73 (v1300 : BitVec 32) : BitVec 32 :=
  let c3_i32_645 : BitVec 32 := 3#32
  let v1301 : BitVec 32 := Scalar.shrsi v1300 c3_i32_645
  let c3_i32_646 : BitVec 32 := 3#32
  let v1302 : BitVec 32 := Scalar.shli v1301 c3_i32_646
  v1302

def k0_off146 (v1300 : BitVec 32) : Fin 2 → Nat :=
  let c3_i32_645 : BitVec 32 := 3#32
  let v1301 : BitVec 32 := Scalar.shrsi v1300 c3_i32_645
  let c3_i32_646 : BitVec 32 := 3#32
  let v1302 : BitVec 32 := Scalar.shli v1301 c3_i32_646
  let v1303 : BitVec 32 := v1302
  let v1304 : Index := Scalar.indexCast v1303
  let c0_647 : Index := 0#32
  ![v1304.toNat, 0]

def k0_chk73 (v1300 : BitVec 32) : Prop :=
  (8 ∣ (k0_mult73 v1300).toNat) ∧
  (∀ a, (k0_off146 v1300) a + S8x128.size a ≤ S10000x128.size a)
theorem k0_mult73_dvd : ∀ (v1300 : BitVec 32) (k0_hw73 : k0_chk73 v1300), 8 ∣ (k0_mult73 v1300).toNat := fun v1300 k0_hw73 => k0_hw73.1
theorem k0_off146_inb : ∀ (v1300 : BitVec 32) (k0_hw73 : k0_chk73 v1300), ∀ a, (k0_off146 v1300) a + S8x128.size a ≤ S10000x128.size a := fun v1300 k0_hw73 => k0_hw73.2

def k0_off147 (i : grid0.Coords) : Fin 2 → Nat :=
  let arg0 : BitVec 32 := BitVec.ofNat 32 (i 0).val
  let c4_i32 : BitVec 32 := 4#32
  let v0 : BitVec 32 := Scalar.muli arg0 c4_i32
  let c0_i32_653 : BitVec 32 := 0#32
  let v1316 : BitVec 32 := Scalar.addi v0 c0_i32_653
  let v1317 : Index := Scalar.indexCast v1316
  let c73 : Index := 73#32
  ![v1317.toNat, 73]
def k0_mult74 (v1318 : BitVec 32) : BitVec 32 :=
  let c3_i32_654 : BitVec 32 := 3#32
  let v1319 : BitVec 32 := Scalar.shrsi v1318 c3_i32_654
  let c3_i32_655 : BitVec 32 := 3#32
  let v1320 : BitVec 32 := Scalar.shli v1319 c3_i32_655
  v1320

def k0_off148 (v1318 : BitVec 32) : Fin 2 → Nat :=
  let c3_i32_654 : BitVec 32 := 3#32
  let v1319 : BitVec 32 := Scalar.shrsi v1318 c3_i32_654
  let c3_i32_655 : BitVec 32 := 3#32
  let v1320 : BitVec 32 := Scalar.shli v1319 c3_i32_655
  let v1321 : BitVec 32 := v1320
  let v1322 : Index := Scalar.indexCast v1321
  let c0_656 : Index := 0#32
  ![v1322.toNat, 0]

def k0_chk74 (v1318 : BitVec 32) : Prop :=
  (8 ∣ (k0_mult74 v1318).toNat) ∧
  (∀ a, (k0_off148 v1318) a + S8x128.size a ≤ S10000x128.size a)
theorem k0_mult74_dvd : ∀ (v1318 : BitVec 32) (k0_hw74 : k0_chk74 v1318), 8 ∣ (k0_mult74 v1318).toNat := fun v1318 k0_hw74 => k0_hw74.1
theorem k0_off148_inb : ∀ (v1318 : BitVec 32) (k0_hw74 : k0_chk74 v1318), ∀ a, (k0_off148 v1318) a + S8x128.size a ≤ S10000x128.size a := fun v1318 k0_hw74 => k0_hw74.2

def k0_off149 (i : grid0.Coords) : Fin 2 → Nat :=
  let arg0 : BitVec 32 := BitVec.ofNat 32 (i 0).val
  let c4_i32 : BitVec 32 := 4#32
  let v0 : BitVec 32 := Scalar.muli arg0 c4_i32
  let c0_i32_662 : BitVec 32 := 0#32
  let v1334 : BitVec 32 := Scalar.addi v0 c0_i32_662
  let v1335 : Index := Scalar.indexCast v1334
  let c74 : Index := 74#32
  ![v1335.toNat, 74]
def k0_mult75 (v1336 : BitVec 32) : BitVec 32 :=
  let c3_i32_663 : BitVec 32 := 3#32
  let v1337 : BitVec 32 := Scalar.shrsi v1336 c3_i32_663
  let c3_i32_664 : BitVec 32 := 3#32
  let v1338 : BitVec 32 := Scalar.shli v1337 c3_i32_664
  v1338

def k0_off150 (v1336 : BitVec 32) : Fin 2 → Nat :=
  let c3_i32_663 : BitVec 32 := 3#32
  let v1337 : BitVec 32 := Scalar.shrsi v1336 c3_i32_663
  let c3_i32_664 : BitVec 32 := 3#32
  let v1338 : BitVec 32 := Scalar.shli v1337 c3_i32_664
  let v1339 : BitVec 32 := v1338
  let v1340 : Index := Scalar.indexCast v1339
  let c0_665 : Index := 0#32
  ![v1340.toNat, 0]

def k0_chk75 (v1336 : BitVec 32) : Prop :=
  (8 ∣ (k0_mult75 v1336).toNat) ∧
  (∀ a, (k0_off150 v1336) a + S8x128.size a ≤ S10000x128.size a)
theorem k0_mult75_dvd : ∀ (v1336 : BitVec 32) (k0_hw75 : k0_chk75 v1336), 8 ∣ (k0_mult75 v1336).toNat := fun v1336 k0_hw75 => k0_hw75.1
theorem k0_off150_inb : ∀ (v1336 : BitVec 32) (k0_hw75 : k0_chk75 v1336), ∀ a, (k0_off150 v1336) a + S8x128.size a ≤ S10000x128.size a := fun v1336 k0_hw75 => k0_hw75.2

def k0_off151 (i : grid0.Coords) : Fin 2 → Nat :=
  let arg0 : BitVec 32 := BitVec.ofNat 32 (i 0).val
  let c4_i32 : BitVec 32 := 4#32
  let v0 : BitVec 32 := Scalar.muli arg0 c4_i32
  let c0_i32_671 : BitVec 32 := 0#32
  let v1352 : BitVec 32 := Scalar.addi v0 c0_i32_671
  let v1353 : Index := Scalar.indexCast v1352
  let c75 : Index := 75#32
  ![v1353.toNat, 75]
def k0_mult76 (v1354 : BitVec 32) : BitVec 32 :=
  let c3_i32_672 : BitVec 32 := 3#32
  let v1355 : BitVec 32 := Scalar.shrsi v1354 c3_i32_672
  let c3_i32_673 : BitVec 32 := 3#32
  let v1356 : BitVec 32 := Scalar.shli v1355 c3_i32_673
  v1356

def k0_off152 (v1354 : BitVec 32) : Fin 2 → Nat :=
  let c3_i32_672 : BitVec 32 := 3#32
  let v1355 : BitVec 32 := Scalar.shrsi v1354 c3_i32_672
  let c3_i32_673 : BitVec 32 := 3#32
  let v1356 : BitVec 32 := Scalar.shli v1355 c3_i32_673
  let v1357 : BitVec 32 := v1356
  let v1358 : Index := Scalar.indexCast v1357
  let c0_674 : Index := 0#32
  ![v1358.toNat, 0]

def k0_chk76 (v1354 : BitVec 32) : Prop :=
  (8 ∣ (k0_mult76 v1354).toNat) ∧
  (∀ a, (k0_off152 v1354) a + S8x128.size a ≤ S10000x128.size a)
theorem k0_mult76_dvd : ∀ (v1354 : BitVec 32) (k0_hw76 : k0_chk76 v1354), 8 ∣ (k0_mult76 v1354).toNat := fun v1354 k0_hw76 => k0_hw76.1
theorem k0_off152_inb : ∀ (v1354 : BitVec 32) (k0_hw76 : k0_chk76 v1354), ∀ a, (k0_off152 v1354) a + S8x128.size a ≤ S10000x128.size a := fun v1354 k0_hw76 => k0_hw76.2

def k0_off153 (i : grid0.Coords) : Fin 2 → Nat :=
  let arg0 : BitVec 32 := BitVec.ofNat 32 (i 0).val
  let c4_i32 : BitVec 32 := 4#32
  let v0 : BitVec 32 := Scalar.muli arg0 c4_i32
  let c0_i32_680 : BitVec 32 := 0#32
  let v1370 : BitVec 32 := Scalar.addi v0 c0_i32_680
  let v1371 : Index := Scalar.indexCast v1370
  let c76 : Index := 76#32
  ![v1371.toNat, 76]
def k0_mult77 (v1372 : BitVec 32) : BitVec 32 :=
  let c3_i32_681 : BitVec 32 := 3#32
  let v1373 : BitVec 32 := Scalar.shrsi v1372 c3_i32_681
  let c3_i32_682 : BitVec 32 := 3#32
  let v1374 : BitVec 32 := Scalar.shli v1373 c3_i32_682
  v1374

def k0_off154 (v1372 : BitVec 32) : Fin 2 → Nat :=
  let c3_i32_681 : BitVec 32 := 3#32
  let v1373 : BitVec 32 := Scalar.shrsi v1372 c3_i32_681
  let c3_i32_682 : BitVec 32 := 3#32
  let v1374 : BitVec 32 := Scalar.shli v1373 c3_i32_682
  let v1375 : BitVec 32 := v1374
  let v1376 : Index := Scalar.indexCast v1375
  let c0_683 : Index := 0#32
  ![v1376.toNat, 0]

def k0_chk77 (v1372 : BitVec 32) : Prop :=
  (8 ∣ (k0_mult77 v1372).toNat) ∧
  (∀ a, (k0_off154 v1372) a + S8x128.size a ≤ S10000x128.size a)
theorem k0_mult77_dvd : ∀ (v1372 : BitVec 32) (k0_hw77 : k0_chk77 v1372), 8 ∣ (k0_mult77 v1372).toNat := fun v1372 k0_hw77 => k0_hw77.1
theorem k0_off154_inb : ∀ (v1372 : BitVec 32) (k0_hw77 : k0_chk77 v1372), ∀ a, (k0_off154 v1372) a + S8x128.size a ≤ S10000x128.size a := fun v1372 k0_hw77 => k0_hw77.2

def k0_off155 (i : grid0.Coords) : Fin 2 → Nat :=
  let arg0 : BitVec 32 := BitVec.ofNat 32 (i 0).val
  let c4_i32 : BitVec 32 := 4#32
  let v0 : BitVec 32 := Scalar.muli arg0 c4_i32
  let c0_i32_689 : BitVec 32 := 0#32
  let v1388 : BitVec 32 := Scalar.addi v0 c0_i32_689
  let v1389 : Index := Scalar.indexCast v1388
  let c77 : Index := 77#32
  ![v1389.toNat, 77]
def k0_mult78 (v1390 : BitVec 32) : BitVec 32 :=
  let c3_i32_690 : BitVec 32 := 3#32
  let v1391 : BitVec 32 := Scalar.shrsi v1390 c3_i32_690
  let c3_i32_691 : BitVec 32 := 3#32
  let v1392 : BitVec 32 := Scalar.shli v1391 c3_i32_691
  v1392

def k0_off156 (v1390 : BitVec 32) : Fin 2 → Nat :=
  let c3_i32_690 : BitVec 32 := 3#32
  let v1391 : BitVec 32 := Scalar.shrsi v1390 c3_i32_690
  let c3_i32_691 : BitVec 32 := 3#32
  let v1392 : BitVec 32 := Scalar.shli v1391 c3_i32_691
  let v1393 : BitVec 32 := v1392
  let v1394 : Index := Scalar.indexCast v1393
  let c0_692 : Index := 0#32
  ![v1394.toNat, 0]

def k0_chk78 (v1390 : BitVec 32) : Prop :=
  (8 ∣ (k0_mult78 v1390).toNat) ∧
  (∀ a, (k0_off156 v1390) a + S8x128.size a ≤ S10000x128.size a)
theorem k0_mult78_dvd : ∀ (v1390 : BitVec 32) (k0_hw78 : k0_chk78 v1390), 8 ∣ (k0_mult78 v1390).toNat := fun v1390 k0_hw78 => k0_hw78.1
theorem k0_off156_inb : ∀ (v1390 : BitVec 32) (k0_hw78 : k0_chk78 v1390), ∀ a, (k0_off156 v1390) a + S8x128.size a ≤ S10000x128.size a := fun v1390 k0_hw78 => k0_hw78.2

def k0_off157 (i : grid0.Coords) : Fin 2 → Nat :=
  let arg0 : BitVec 32 := BitVec.ofNat 32 (i 0).val
  let c4_i32 : BitVec 32 := 4#32
  let v0 : BitVec 32 := Scalar.muli arg0 c4_i32
  let c0_i32_698 : BitVec 32 := 0#32
  let v1406 : BitVec 32 := Scalar.addi v0 c0_i32_698
  let v1407 : Index := Scalar.indexCast v1406
  let c78 : Index := 78#32
  ![v1407.toNat, 78]
def k0_mult79 (v1408 : BitVec 32) : BitVec 32 :=
  let c3_i32_699 : BitVec 32 := 3#32
  let v1409 : BitVec 32 := Scalar.shrsi v1408 c3_i32_699
  let c3_i32_700 : BitVec 32 := 3#32
  let v1410 : BitVec 32 := Scalar.shli v1409 c3_i32_700
  v1410

def k0_off158 (v1408 : BitVec 32) : Fin 2 → Nat :=
  let c3_i32_699 : BitVec 32 := 3#32
  let v1409 : BitVec 32 := Scalar.shrsi v1408 c3_i32_699
  let c3_i32_700 : BitVec 32 := 3#32
  let v1410 : BitVec 32 := Scalar.shli v1409 c3_i32_700
  let v1411 : BitVec 32 := v1410
  let v1412 : Index := Scalar.indexCast v1411
  let c0_701 : Index := 0#32
  ![v1412.toNat, 0]

def k0_chk79 (v1408 : BitVec 32) : Prop :=
  (8 ∣ (k0_mult79 v1408).toNat) ∧
  (∀ a, (k0_off158 v1408) a + S8x128.size a ≤ S10000x128.size a)
theorem k0_mult79_dvd : ∀ (v1408 : BitVec 32) (k0_hw79 : k0_chk79 v1408), 8 ∣ (k0_mult79 v1408).toNat := fun v1408 k0_hw79 => k0_hw79.1
theorem k0_off158_inb : ∀ (v1408 : BitVec 32) (k0_hw79 : k0_chk79 v1408), ∀ a, (k0_off158 v1408) a + S8x128.size a ≤ S10000x128.size a := fun v1408 k0_hw79 => k0_hw79.2

def k0_off159 (i : grid0.Coords) : Fin 2 → Nat :=
  let arg0 : BitVec 32 := BitVec.ofNat 32 (i 0).val
  let c4_i32 : BitVec 32 := 4#32
  let v0 : BitVec 32 := Scalar.muli arg0 c4_i32
  let c0_i32_707 : BitVec 32 := 0#32
  let v1424 : BitVec 32 := Scalar.addi v0 c0_i32_707
  let v1425 : Index := Scalar.indexCast v1424
  let c79 : Index := 79#32
  ![v1425.toNat, 79]
def k0_mult80 (v1426 : BitVec 32) : BitVec 32 :=
  let c3_i32_708 : BitVec 32 := 3#32
  let v1427 : BitVec 32 := Scalar.shrsi v1426 c3_i32_708
  let c3_i32_709 : BitVec 32 := 3#32
  let v1428 : BitVec 32 := Scalar.shli v1427 c3_i32_709
  v1428

def k0_off160 (v1426 : BitVec 32) : Fin 2 → Nat :=
  let c3_i32_708 : BitVec 32 := 3#32
  let v1427 : BitVec 32 := Scalar.shrsi v1426 c3_i32_708
  let c3_i32_709 : BitVec 32 := 3#32
  let v1428 : BitVec 32 := Scalar.shli v1427 c3_i32_709
  let v1429 : BitVec 32 := v1428
  let v1430 : Index := Scalar.indexCast v1429
  let c0_710 : Index := 0#32
  ![v1430.toNat, 0]

def k0_chk80 (v1426 : BitVec 32) : Prop :=
  (8 ∣ (k0_mult80 v1426).toNat) ∧
  (∀ a, (k0_off160 v1426) a + S8x128.size a ≤ S10000x128.size a)
theorem k0_mult80_dvd : ∀ (v1426 : BitVec 32) (k0_hw80 : k0_chk80 v1426), 8 ∣ (k0_mult80 v1426).toNat := fun v1426 k0_hw80 => k0_hw80.1
theorem k0_off160_inb : ∀ (v1426 : BitVec 32) (k0_hw80 : k0_chk80 v1426), ∀ a, (k0_off160 v1426) a + S8x128.size a ≤ S10000x128.size a := fun v1426 k0_hw80 => k0_hw80.2

def k0_off161 (i : grid0.Coords) : Fin 2 → Nat :=
  let arg0 : BitVec 32 := BitVec.ofNat 32 (i 0).val
  let c4_i32 : BitVec 32 := 4#32
  let v0 : BitVec 32 := Scalar.muli arg0 c4_i32
  let c0_i32_716 : BitVec 32 := 0#32
  let v1442 : BitVec 32 := Scalar.addi v0 c0_i32_716
  let v1443 : Index := Scalar.indexCast v1442
  let c80 : Index := 80#32
  ![v1443.toNat, 80]
def k0_mult81 (v1444 : BitVec 32) : BitVec 32 :=
  let c3_i32_717 : BitVec 32 := 3#32
  let v1445 : BitVec 32 := Scalar.shrsi v1444 c3_i32_717
  let c3_i32_718 : BitVec 32 := 3#32
  let v1446 : BitVec 32 := Scalar.shli v1445 c3_i32_718
  v1446

def k0_off162 (v1444 : BitVec 32) : Fin 2 → Nat :=
  let c3_i32_717 : BitVec 32 := 3#32
  let v1445 : BitVec 32 := Scalar.shrsi v1444 c3_i32_717
  let c3_i32_718 : BitVec 32 := 3#32
  let v1446 : BitVec 32 := Scalar.shli v1445 c3_i32_718
  let v1447 : BitVec 32 := v1446
  let v1448 : Index := Scalar.indexCast v1447
  let c0_719 : Index := 0#32
  ![v1448.toNat, 0]

def k0_chk81 (v1444 : BitVec 32) : Prop :=
  (8 ∣ (k0_mult81 v1444).toNat) ∧
  (∀ a, (k0_off162 v1444) a + S8x128.size a ≤ S10000x128.size a)
theorem k0_mult81_dvd : ∀ (v1444 : BitVec 32) (k0_hw81 : k0_chk81 v1444), 8 ∣ (k0_mult81 v1444).toNat := fun v1444 k0_hw81 => k0_hw81.1
theorem k0_off162_inb : ∀ (v1444 : BitVec 32) (k0_hw81 : k0_chk81 v1444), ∀ a, (k0_off162 v1444) a + S8x128.size a ≤ S10000x128.size a := fun v1444 k0_hw81 => k0_hw81.2

def k0_off163 (i : grid0.Coords) : Fin 2 → Nat :=
  let arg0 : BitVec 32 := BitVec.ofNat 32 (i 0).val
  let c4_i32 : BitVec 32 := 4#32
  let v0 : BitVec 32 := Scalar.muli arg0 c4_i32
  let c0_i32_725 : BitVec 32 := 0#32
  let v1460 : BitVec 32 := Scalar.addi v0 c0_i32_725
  let v1461 : Index := Scalar.indexCast v1460
  let c81 : Index := 81#32
  ![v1461.toNat, 81]
def k0_mult82 (v1462 : BitVec 32) : BitVec 32 :=
  let c3_i32_726 : BitVec 32 := 3#32
  let v1463 : BitVec 32 := Scalar.shrsi v1462 c3_i32_726
  let c3_i32_727 : BitVec 32 := 3#32
  let v1464 : BitVec 32 := Scalar.shli v1463 c3_i32_727
  v1464

def k0_off164 (v1462 : BitVec 32) : Fin 2 → Nat :=
  let c3_i32_726 : BitVec 32 := 3#32
  let v1463 : BitVec 32 := Scalar.shrsi v1462 c3_i32_726
  let c3_i32_727 : BitVec 32 := 3#32
  let v1464 : BitVec 32 := Scalar.shli v1463 c3_i32_727
  let v1465 : BitVec 32 := v1464
  let v1466 : Index := Scalar.indexCast v1465
  let c0_728 : Index := 0#32
  ![v1466.toNat, 0]

def k0_chk82 (v1462 : BitVec 32) : Prop :=
  (8 ∣ (k0_mult82 v1462).toNat) ∧
  (∀ a, (k0_off164 v1462) a + S8x128.size a ≤ S10000x128.size a)
theorem k0_mult82_dvd : ∀ (v1462 : BitVec 32) (k0_hw82 : k0_chk82 v1462), 8 ∣ (k0_mult82 v1462).toNat := fun v1462 k0_hw82 => k0_hw82.1
theorem k0_off164_inb : ∀ (v1462 : BitVec 32) (k0_hw82 : k0_chk82 v1462), ∀ a, (k0_off164 v1462) a + S8x128.size a ≤ S10000x128.size a := fun v1462 k0_hw82 => k0_hw82.2

def k0_off165 (i : grid0.Coords) : Fin 2 → Nat :=
  let arg0 : BitVec 32 := BitVec.ofNat 32 (i 0).val
  let c4_i32 : BitVec 32 := 4#32
  let v0 : BitVec 32 := Scalar.muli arg0 c4_i32
  let c0_i32_734 : BitVec 32 := 0#32
  let v1478 : BitVec 32 := Scalar.addi v0 c0_i32_734
  let v1479 : Index := Scalar.indexCast v1478
  let c82 : Index := 82#32
  ![v1479.toNat, 82]
def k0_mult83 (v1480 : BitVec 32) : BitVec 32 :=
  let c3_i32_735 : BitVec 32 := 3#32
  let v1481 : BitVec 32 := Scalar.shrsi v1480 c3_i32_735
  let c3_i32_736 : BitVec 32 := 3#32
  let v1482 : BitVec 32 := Scalar.shli v1481 c3_i32_736
  v1482

def k0_off166 (v1480 : BitVec 32) : Fin 2 → Nat :=
  let c3_i32_735 : BitVec 32 := 3#32
  let v1481 : BitVec 32 := Scalar.shrsi v1480 c3_i32_735
  let c3_i32_736 : BitVec 32 := 3#32
  let v1482 : BitVec 32 := Scalar.shli v1481 c3_i32_736
  let v1483 : BitVec 32 := v1482
  let v1484 : Index := Scalar.indexCast v1483
  let c0_737 : Index := 0#32
  ![v1484.toNat, 0]

def k0_chk83 (v1480 : BitVec 32) : Prop :=
  (8 ∣ (k0_mult83 v1480).toNat) ∧
  (∀ a, (k0_off166 v1480) a + S8x128.size a ≤ S10000x128.size a)
theorem k0_mult83_dvd : ∀ (v1480 : BitVec 32) (k0_hw83 : k0_chk83 v1480), 8 ∣ (k0_mult83 v1480).toNat := fun v1480 k0_hw83 => k0_hw83.1
theorem k0_off166_inb : ∀ (v1480 : BitVec 32) (k0_hw83 : k0_chk83 v1480), ∀ a, (k0_off166 v1480) a + S8x128.size a ≤ S10000x128.size a := fun v1480 k0_hw83 => k0_hw83.2

def k0_off167 (i : grid0.Coords) : Fin 2 → Nat :=
  let arg0 : BitVec 32 := BitVec.ofNat 32 (i 0).val
  let c4_i32 : BitVec 32 := 4#32
  let v0 : BitVec 32 := Scalar.muli arg0 c4_i32
  let c0_i32_743 : BitVec 32 := 0#32
  let v1496 : BitVec 32 := Scalar.addi v0 c0_i32_743
  let v1497 : Index := Scalar.indexCast v1496
  let c83 : Index := 83#32
  ![v1497.toNat, 83]
def k0_mult84 (v1498 : BitVec 32) : BitVec 32 :=
  let c3_i32_744 : BitVec 32 := 3#32
  let v1499 : BitVec 32 := Scalar.shrsi v1498 c3_i32_744
  let c3_i32_745 : BitVec 32 := 3#32
  let v1500 : BitVec 32 := Scalar.shli v1499 c3_i32_745
  v1500

def k0_off168 (v1498 : BitVec 32) : Fin 2 → Nat :=
  let c3_i32_744 : BitVec 32 := 3#32
  let v1499 : BitVec 32 := Scalar.shrsi v1498 c3_i32_744
  let c3_i32_745 : BitVec 32 := 3#32
  let v1500 : BitVec 32 := Scalar.shli v1499 c3_i32_745
  let v1501 : BitVec 32 := v1500
  let v1502 : Index := Scalar.indexCast v1501
  let c0_746 : Index := 0#32
  ![v1502.toNat, 0]

def k0_chk84 (v1498 : BitVec 32) : Prop :=
  (8 ∣ (k0_mult84 v1498).toNat) ∧
  (∀ a, (k0_off168 v1498) a + S8x128.size a ≤ S10000x128.size a)
theorem k0_mult84_dvd : ∀ (v1498 : BitVec 32) (k0_hw84 : k0_chk84 v1498), 8 ∣ (k0_mult84 v1498).toNat := fun v1498 k0_hw84 => k0_hw84.1
theorem k0_off168_inb : ∀ (v1498 : BitVec 32) (k0_hw84 : k0_chk84 v1498), ∀ a, (k0_off168 v1498) a + S8x128.size a ≤ S10000x128.size a := fun v1498 k0_hw84 => k0_hw84.2

def k0_off169 (i : grid0.Coords) : Fin 2 → Nat :=
  let arg0 : BitVec 32 := BitVec.ofNat 32 (i 0).val
  let c4_i32 : BitVec 32 := 4#32
  let v0 : BitVec 32 := Scalar.muli arg0 c4_i32
  let c0_i32_752 : BitVec 32 := 0#32
  let v1514 : BitVec 32 := Scalar.addi v0 c0_i32_752
  let v1515 : Index := Scalar.indexCast v1514
  let c84 : Index := 84#32
  ![v1515.toNat, 84]
def k0_mult85 (v1516 : BitVec 32) : BitVec 32 :=
  let c3_i32_753 : BitVec 32 := 3#32
  let v1517 : BitVec 32 := Scalar.shrsi v1516 c3_i32_753
  let c3_i32_754 : BitVec 32 := 3#32
  let v1518 : BitVec 32 := Scalar.shli v1517 c3_i32_754
  v1518

def k0_off170 (v1516 : BitVec 32) : Fin 2 → Nat :=
  let c3_i32_753 : BitVec 32 := 3#32
  let v1517 : BitVec 32 := Scalar.shrsi v1516 c3_i32_753
  let c3_i32_754 : BitVec 32 := 3#32
  let v1518 : BitVec 32 := Scalar.shli v1517 c3_i32_754
  let v1519 : BitVec 32 := v1518
  let v1520 : Index := Scalar.indexCast v1519
  let c0_755 : Index := 0#32
  ![v1520.toNat, 0]

def k0_chk85 (v1516 : BitVec 32) : Prop :=
  (8 ∣ (k0_mult85 v1516).toNat) ∧
  (∀ a, (k0_off170 v1516) a + S8x128.size a ≤ S10000x128.size a)
theorem k0_mult85_dvd : ∀ (v1516 : BitVec 32) (k0_hw85 : k0_chk85 v1516), 8 ∣ (k0_mult85 v1516).toNat := fun v1516 k0_hw85 => k0_hw85.1
theorem k0_off170_inb : ∀ (v1516 : BitVec 32) (k0_hw85 : k0_chk85 v1516), ∀ a, (k0_off170 v1516) a + S8x128.size a ≤ S10000x128.size a := fun v1516 k0_hw85 => k0_hw85.2

def k0_off171 (i : grid0.Coords) : Fin 2 → Nat :=
  let arg0 : BitVec 32 := BitVec.ofNat 32 (i 0).val
  let c4_i32 : BitVec 32 := 4#32
  let v0 : BitVec 32 := Scalar.muli arg0 c4_i32
  let c0_i32_761 : BitVec 32 := 0#32
  let v1532 : BitVec 32 := Scalar.addi v0 c0_i32_761
  let v1533 : Index := Scalar.indexCast v1532
  let c85 : Index := 85#32
  ![v1533.toNat, 85]
def k0_mult86 (v1534 : BitVec 32) : BitVec 32 :=
  let c3_i32_762 : BitVec 32 := 3#32
  let v1535 : BitVec 32 := Scalar.shrsi v1534 c3_i32_762
  let c3_i32_763 : BitVec 32 := 3#32
  let v1536 : BitVec 32 := Scalar.shli v1535 c3_i32_763
  v1536

def k0_off172 (v1534 : BitVec 32) : Fin 2 → Nat :=
  let c3_i32_762 : BitVec 32 := 3#32
  let v1535 : BitVec 32 := Scalar.shrsi v1534 c3_i32_762
  let c3_i32_763 : BitVec 32 := 3#32
  let v1536 : BitVec 32 := Scalar.shli v1535 c3_i32_763
  let v1537 : BitVec 32 := v1536
  let v1538 : Index := Scalar.indexCast v1537
  let c0_764 : Index := 0#32
  ![v1538.toNat, 0]

def k0_chk86 (v1534 : BitVec 32) : Prop :=
  (8 ∣ (k0_mult86 v1534).toNat) ∧
  (∀ a, (k0_off172 v1534) a + S8x128.size a ≤ S10000x128.size a)
theorem k0_mult86_dvd : ∀ (v1534 : BitVec 32) (k0_hw86 : k0_chk86 v1534), 8 ∣ (k0_mult86 v1534).toNat := fun v1534 k0_hw86 => k0_hw86.1
theorem k0_off172_inb : ∀ (v1534 : BitVec 32) (k0_hw86 : k0_chk86 v1534), ∀ a, (k0_off172 v1534) a + S8x128.size a ≤ S10000x128.size a := fun v1534 k0_hw86 => k0_hw86.2

def k0_off173 (i : grid0.Coords) : Fin 2 → Nat :=
  let arg0 : BitVec 32 := BitVec.ofNat 32 (i 0).val
  let c4_i32 : BitVec 32 := 4#32
  let v0 : BitVec 32 := Scalar.muli arg0 c4_i32
  let c0_i32_770 : BitVec 32 := 0#32
  let v1550 : BitVec 32 := Scalar.addi v0 c0_i32_770
  let v1551 : Index := Scalar.indexCast v1550
  let c86 : Index := 86#32
  ![v1551.toNat, 86]
def k0_mult87 (v1552 : BitVec 32) : BitVec 32 :=
  let c3_i32_771 : BitVec 32 := 3#32
  let v1553 : BitVec 32 := Scalar.shrsi v1552 c3_i32_771
  let c3_i32_772 : BitVec 32 := 3#32
  let v1554 : BitVec 32 := Scalar.shli v1553 c3_i32_772
  v1554

def k0_off174 (v1552 : BitVec 32) : Fin 2 → Nat :=
  let c3_i32_771 : BitVec 32 := 3#32
  let v1553 : BitVec 32 := Scalar.shrsi v1552 c3_i32_771
  let c3_i32_772 : BitVec 32 := 3#32
  let v1554 : BitVec 32 := Scalar.shli v1553 c3_i32_772
  let v1555 : BitVec 32 := v1554
  let v1556 : Index := Scalar.indexCast v1555
  let c0_773 : Index := 0#32
  ![v1556.toNat, 0]

def k0_chk87 (v1552 : BitVec 32) : Prop :=
  (8 ∣ (k0_mult87 v1552).toNat) ∧
  (∀ a, (k0_off174 v1552) a + S8x128.size a ≤ S10000x128.size a)
theorem k0_mult87_dvd : ∀ (v1552 : BitVec 32) (k0_hw87 : k0_chk87 v1552), 8 ∣ (k0_mult87 v1552).toNat := fun v1552 k0_hw87 => k0_hw87.1
theorem k0_off174_inb : ∀ (v1552 : BitVec 32) (k0_hw87 : k0_chk87 v1552), ∀ a, (k0_off174 v1552) a + S8x128.size a ≤ S10000x128.size a := fun v1552 k0_hw87 => k0_hw87.2

def k0_off175 (i : grid0.Coords) : Fin 2 → Nat :=
  let arg0 : BitVec 32 := BitVec.ofNat 32 (i 0).val
  let c4_i32 : BitVec 32 := 4#32
  let v0 : BitVec 32 := Scalar.muli arg0 c4_i32
  let c0_i32_779 : BitVec 32 := 0#32
  let v1568 : BitVec 32 := Scalar.addi v0 c0_i32_779
  let v1569 : Index := Scalar.indexCast v1568
  let c87 : Index := 87#32
  ![v1569.toNat, 87]
def k0_mult88 (v1570 : BitVec 32) : BitVec 32 :=
  let c3_i32_780 : BitVec 32 := 3#32
  let v1571 : BitVec 32 := Scalar.shrsi v1570 c3_i32_780
  let c3_i32_781 : BitVec 32 := 3#32
  let v1572 : BitVec 32 := Scalar.shli v1571 c3_i32_781
  v1572

def k0_off176 (v1570 : BitVec 32) : Fin 2 → Nat :=
  let c3_i32_780 : BitVec 32 := 3#32
  let v1571 : BitVec 32 := Scalar.shrsi v1570 c3_i32_780
  let c3_i32_781 : BitVec 32 := 3#32
  let v1572 : BitVec 32 := Scalar.shli v1571 c3_i32_781
  let v1573 : BitVec 32 := v1572
  let v1574 : Index := Scalar.indexCast v1573
  let c0_782 : Index := 0#32
  ![v1574.toNat, 0]

def k0_chk88 (v1570 : BitVec 32) : Prop :=
  (8 ∣ (k0_mult88 v1570).toNat) ∧
  (∀ a, (k0_off176 v1570) a + S8x128.size a ≤ S10000x128.size a)
theorem k0_mult88_dvd : ∀ (v1570 : BitVec 32) (k0_hw88 : k0_chk88 v1570), 8 ∣ (k0_mult88 v1570).toNat := fun v1570 k0_hw88 => k0_hw88.1
theorem k0_off176_inb : ∀ (v1570 : BitVec 32) (k0_hw88 : k0_chk88 v1570), ∀ a, (k0_off176 v1570) a + S8x128.size a ≤ S10000x128.size a := fun v1570 k0_hw88 => k0_hw88.2

def k0_off177 (i : grid0.Coords) : Fin 2 → Nat :=
  let arg0 : BitVec 32 := BitVec.ofNat 32 (i 0).val
  let c4_i32 : BitVec 32 := 4#32
  let v0 : BitVec 32 := Scalar.muli arg0 c4_i32
  let c0_i32_788 : BitVec 32 := 0#32
  let v1586 : BitVec 32 := Scalar.addi v0 c0_i32_788
  let v1587 : Index := Scalar.indexCast v1586
  let c88 : Index := 88#32
  ![v1587.toNat, 88]
def k0_mult89 (v1588 : BitVec 32) : BitVec 32 :=
  let c3_i32_789 : BitVec 32 := 3#32
  let v1589 : BitVec 32 := Scalar.shrsi v1588 c3_i32_789
  let c3_i32_790 : BitVec 32 := 3#32
  let v1590 : BitVec 32 := Scalar.shli v1589 c3_i32_790
  v1590

def k0_off178 (v1588 : BitVec 32) : Fin 2 → Nat :=
  let c3_i32_789 : BitVec 32 := 3#32
  let v1589 : BitVec 32 := Scalar.shrsi v1588 c3_i32_789
  let c3_i32_790 : BitVec 32 := 3#32
  let v1590 : BitVec 32 := Scalar.shli v1589 c3_i32_790
  let v1591 : BitVec 32 := v1590
  let v1592 : Index := Scalar.indexCast v1591
  let c0_791 : Index := 0#32
  ![v1592.toNat, 0]

def k0_chk89 (v1588 : BitVec 32) : Prop :=
  (8 ∣ (k0_mult89 v1588).toNat) ∧
  (∀ a, (k0_off178 v1588) a + S8x128.size a ≤ S10000x128.size a)
theorem k0_mult89_dvd : ∀ (v1588 : BitVec 32) (k0_hw89 : k0_chk89 v1588), 8 ∣ (k0_mult89 v1588).toNat := fun v1588 k0_hw89 => k0_hw89.1
theorem k0_off178_inb : ∀ (v1588 : BitVec 32) (k0_hw89 : k0_chk89 v1588), ∀ a, (k0_off178 v1588) a + S8x128.size a ≤ S10000x128.size a := fun v1588 k0_hw89 => k0_hw89.2

def k0_off179 (i : grid0.Coords) : Fin 2 → Nat :=
  let arg0 : BitVec 32 := BitVec.ofNat 32 (i 0).val
  let c4_i32 : BitVec 32 := 4#32
  let v0 : BitVec 32 := Scalar.muli arg0 c4_i32
  let c0_i32_797 : BitVec 32 := 0#32
  let v1604 : BitVec 32 := Scalar.addi v0 c0_i32_797
  let v1605 : Index := Scalar.indexCast v1604
  let c89 : Index := 89#32
  ![v1605.toNat, 89]
def k0_mult90 (v1606 : BitVec 32) : BitVec 32 :=
  let c3_i32_798 : BitVec 32 := 3#32
  let v1607 : BitVec 32 := Scalar.shrsi v1606 c3_i32_798
  let c3_i32_799 : BitVec 32 := 3#32
  let v1608 : BitVec 32 := Scalar.shli v1607 c3_i32_799
  v1608

def k0_off180 (v1606 : BitVec 32) : Fin 2 → Nat :=
  let c3_i32_798 : BitVec 32 := 3#32
  let v1607 : BitVec 32 := Scalar.shrsi v1606 c3_i32_798
  let c3_i32_799 : BitVec 32 := 3#32
  let v1608 : BitVec 32 := Scalar.shli v1607 c3_i32_799
  let v1609 : BitVec 32 := v1608
  let v1610 : Index := Scalar.indexCast v1609
  let c0_800 : Index := 0#32
  ![v1610.toNat, 0]

def k0_chk90 (v1606 : BitVec 32) : Prop :=
  (8 ∣ (k0_mult90 v1606).toNat) ∧
  (∀ a, (k0_off180 v1606) a + S8x128.size a ≤ S10000x128.size a)
theorem k0_mult90_dvd : ∀ (v1606 : BitVec 32) (k0_hw90 : k0_chk90 v1606), 8 ∣ (k0_mult90 v1606).toNat := fun v1606 k0_hw90 => k0_hw90.1
theorem k0_off180_inb : ∀ (v1606 : BitVec 32) (k0_hw90 : k0_chk90 v1606), ∀ a, (k0_off180 v1606) a + S8x128.size a ≤ S10000x128.size a := fun v1606 k0_hw90 => k0_hw90.2

def k0_off181 (i : grid0.Coords) : Fin 2 → Nat :=
  let arg0 : BitVec 32 := BitVec.ofNat 32 (i 0).val
  let c4_i32 : BitVec 32 := 4#32
  let v0 : BitVec 32 := Scalar.muli arg0 c4_i32
  let c0_i32_806 : BitVec 32 := 0#32
  let v1622 : BitVec 32 := Scalar.addi v0 c0_i32_806
  let v1623 : Index := Scalar.indexCast v1622
  let c90 : Index := 90#32
  ![v1623.toNat, 90]
def k0_mult91 (v1624 : BitVec 32) : BitVec 32 :=
  let c3_i32_807 : BitVec 32 := 3#32
  let v1625 : BitVec 32 := Scalar.shrsi v1624 c3_i32_807
  let c3_i32_808 : BitVec 32 := 3#32
  let v1626 : BitVec 32 := Scalar.shli v1625 c3_i32_808
  v1626

def k0_off182 (v1624 : BitVec 32) : Fin 2 → Nat :=
  let c3_i32_807 : BitVec 32 := 3#32
  let v1625 : BitVec 32 := Scalar.shrsi v1624 c3_i32_807
  let c3_i32_808 : BitVec 32 := 3#32
  let v1626 : BitVec 32 := Scalar.shli v1625 c3_i32_808
  let v1627 : BitVec 32 := v1626
  let v1628 : Index := Scalar.indexCast v1627
  let c0_809 : Index := 0#32
  ![v1628.toNat, 0]

def k0_chk91 (v1624 : BitVec 32) : Prop :=
  (8 ∣ (k0_mult91 v1624).toNat) ∧
  (∀ a, (k0_off182 v1624) a + S8x128.size a ≤ S10000x128.size a)
theorem k0_mult91_dvd : ∀ (v1624 : BitVec 32) (k0_hw91 : k0_chk91 v1624), 8 ∣ (k0_mult91 v1624).toNat := fun v1624 k0_hw91 => k0_hw91.1
theorem k0_off182_inb : ∀ (v1624 : BitVec 32) (k0_hw91 : k0_chk91 v1624), ∀ a, (k0_off182 v1624) a + S8x128.size a ≤ S10000x128.size a := fun v1624 k0_hw91 => k0_hw91.2

def k0_off183 (i : grid0.Coords) : Fin 2 → Nat :=
  let arg0 : BitVec 32 := BitVec.ofNat 32 (i 0).val
  let c4_i32 : BitVec 32 := 4#32
  let v0 : BitVec 32 := Scalar.muli arg0 c4_i32
  let c0_i32_815 : BitVec 32 := 0#32
  let v1640 : BitVec 32 := Scalar.addi v0 c0_i32_815
  let v1641 : Index := Scalar.indexCast v1640
  let c91 : Index := 91#32
  ![v1641.toNat, 91]
def k0_mult92 (v1642 : BitVec 32) : BitVec 32 :=
  let c3_i32_816 : BitVec 32 := 3#32
  let v1643 : BitVec 32 := Scalar.shrsi v1642 c3_i32_816
  let c3_i32_817 : BitVec 32 := 3#32
  let v1644 : BitVec 32 := Scalar.shli v1643 c3_i32_817
  v1644

def k0_off184 (v1642 : BitVec 32) : Fin 2 → Nat :=
  let c3_i32_816 : BitVec 32 := 3#32
  let v1643 : BitVec 32 := Scalar.shrsi v1642 c3_i32_816
  let c3_i32_817 : BitVec 32 := 3#32
  let v1644 : BitVec 32 := Scalar.shli v1643 c3_i32_817
  let v1645 : BitVec 32 := v1644
  let v1646 : Index := Scalar.indexCast v1645
  let c0_818 : Index := 0#32
  ![v1646.toNat, 0]

def k0_chk92 (v1642 : BitVec 32) : Prop :=
  (8 ∣ (k0_mult92 v1642).toNat) ∧
  (∀ a, (k0_off184 v1642) a + S8x128.size a ≤ S10000x128.size a)
theorem k0_mult92_dvd : ∀ (v1642 : BitVec 32) (k0_hw92 : k0_chk92 v1642), 8 ∣ (k0_mult92 v1642).toNat := fun v1642 k0_hw92 => k0_hw92.1
theorem k0_off184_inb : ∀ (v1642 : BitVec 32) (k0_hw92 : k0_chk92 v1642), ∀ a, (k0_off184 v1642) a + S8x128.size a ≤ S10000x128.size a := fun v1642 k0_hw92 => k0_hw92.2

def k0_off185 (i : grid0.Coords) : Fin 2 → Nat :=
  let arg0 : BitVec 32 := BitVec.ofNat 32 (i 0).val
  let c4_i32 : BitVec 32 := 4#32
  let v0 : BitVec 32 := Scalar.muli arg0 c4_i32
  let c0_i32_824 : BitVec 32 := 0#32
  let v1658 : BitVec 32 := Scalar.addi v0 c0_i32_824
  let v1659 : Index := Scalar.indexCast v1658
  let c92 : Index := 92#32
  ![v1659.toNat, 92]
def k0_mult93 (v1660 : BitVec 32) : BitVec 32 :=
  let c3_i32_825 : BitVec 32 := 3#32
  let v1661 : BitVec 32 := Scalar.shrsi v1660 c3_i32_825
  let c3_i32_826 : BitVec 32 := 3#32
  let v1662 : BitVec 32 := Scalar.shli v1661 c3_i32_826
  v1662

def k0_off186 (v1660 : BitVec 32) : Fin 2 → Nat :=
  let c3_i32_825 : BitVec 32 := 3#32
  let v1661 : BitVec 32 := Scalar.shrsi v1660 c3_i32_825
  let c3_i32_826 : BitVec 32 := 3#32
  let v1662 : BitVec 32 := Scalar.shli v1661 c3_i32_826
  let v1663 : BitVec 32 := v1662
  let v1664 : Index := Scalar.indexCast v1663
  let c0_827 : Index := 0#32
  ![v1664.toNat, 0]

def k0_chk93 (v1660 : BitVec 32) : Prop :=
  (8 ∣ (k0_mult93 v1660).toNat) ∧
  (∀ a, (k0_off186 v1660) a + S8x128.size a ≤ S10000x128.size a)
theorem k0_mult93_dvd : ∀ (v1660 : BitVec 32) (k0_hw93 : k0_chk93 v1660), 8 ∣ (k0_mult93 v1660).toNat := fun v1660 k0_hw93 => k0_hw93.1
theorem k0_off186_inb : ∀ (v1660 : BitVec 32) (k0_hw93 : k0_chk93 v1660), ∀ a, (k0_off186 v1660) a + S8x128.size a ≤ S10000x128.size a := fun v1660 k0_hw93 => k0_hw93.2

def k0_off187 (i : grid0.Coords) : Fin 2 → Nat :=
  let arg0 : BitVec 32 := BitVec.ofNat 32 (i 0).val
  let c4_i32 : BitVec 32 := 4#32
  let v0 : BitVec 32 := Scalar.muli arg0 c4_i32
  let c0_i32_833 : BitVec 32 := 0#32
  let v1676 : BitVec 32 := Scalar.addi v0 c0_i32_833
  let v1677 : Index := Scalar.indexCast v1676
  let c93 : Index := 93#32
  ![v1677.toNat, 93]
def k0_mult94 (v1678 : BitVec 32) : BitVec 32 :=
  let c3_i32_834 : BitVec 32 := 3#32
  let v1679 : BitVec 32 := Scalar.shrsi v1678 c3_i32_834
  let c3_i32_835 : BitVec 32 := 3#32
  let v1680 : BitVec 32 := Scalar.shli v1679 c3_i32_835
  v1680

def k0_off188 (v1678 : BitVec 32) : Fin 2 → Nat :=
  let c3_i32_834 : BitVec 32 := 3#32
  let v1679 : BitVec 32 := Scalar.shrsi v1678 c3_i32_834
  let c3_i32_835 : BitVec 32 := 3#32
  let v1680 : BitVec 32 := Scalar.shli v1679 c3_i32_835
  let v1681 : BitVec 32 := v1680
  let v1682 : Index := Scalar.indexCast v1681
  let c0_836 : Index := 0#32
  ![v1682.toNat, 0]

def k0_chk94 (v1678 : BitVec 32) : Prop :=
  (8 ∣ (k0_mult94 v1678).toNat) ∧
  (∀ a, (k0_off188 v1678) a + S8x128.size a ≤ S10000x128.size a)
theorem k0_mult94_dvd : ∀ (v1678 : BitVec 32) (k0_hw94 : k0_chk94 v1678), 8 ∣ (k0_mult94 v1678).toNat := fun v1678 k0_hw94 => k0_hw94.1
theorem k0_off188_inb : ∀ (v1678 : BitVec 32) (k0_hw94 : k0_chk94 v1678), ∀ a, (k0_off188 v1678) a + S8x128.size a ≤ S10000x128.size a := fun v1678 k0_hw94 => k0_hw94.2

def k0_off189 (i : grid0.Coords) : Fin 2 → Nat :=
  let arg0 : BitVec 32 := BitVec.ofNat 32 (i 0).val
  let c4_i32 : BitVec 32 := 4#32
  let v0 : BitVec 32 := Scalar.muli arg0 c4_i32
  let c0_i32_842 : BitVec 32 := 0#32
  let v1694 : BitVec 32 := Scalar.addi v0 c0_i32_842
  let v1695 : Index := Scalar.indexCast v1694
  let c94 : Index := 94#32
  ![v1695.toNat, 94]
def k0_mult95 (v1696 : BitVec 32) : BitVec 32 :=
  let c3_i32_843 : BitVec 32 := 3#32
  let v1697 : BitVec 32 := Scalar.shrsi v1696 c3_i32_843
  let c3_i32_844 : BitVec 32 := 3#32
  let v1698 : BitVec 32 := Scalar.shli v1697 c3_i32_844
  v1698

def k0_off190 (v1696 : BitVec 32) : Fin 2 → Nat :=
  let c3_i32_843 : BitVec 32 := 3#32
  let v1697 : BitVec 32 := Scalar.shrsi v1696 c3_i32_843
  let c3_i32_844 : BitVec 32 := 3#32
  let v1698 : BitVec 32 := Scalar.shli v1697 c3_i32_844
  let v1699 : BitVec 32 := v1698
  let v1700 : Index := Scalar.indexCast v1699
  let c0_845 : Index := 0#32
  ![v1700.toNat, 0]

def k0_chk95 (v1696 : BitVec 32) : Prop :=
  (8 ∣ (k0_mult95 v1696).toNat) ∧
  (∀ a, (k0_off190 v1696) a + S8x128.size a ≤ S10000x128.size a)
theorem k0_mult95_dvd : ∀ (v1696 : BitVec 32) (k0_hw95 : k0_chk95 v1696), 8 ∣ (k0_mult95 v1696).toNat := fun v1696 k0_hw95 => k0_hw95.1
theorem k0_off190_inb : ∀ (v1696 : BitVec 32) (k0_hw95 : k0_chk95 v1696), ∀ a, (k0_off190 v1696) a + S8x128.size a ≤ S10000x128.size a := fun v1696 k0_hw95 => k0_hw95.2

def k0_off191 (i : grid0.Coords) : Fin 2 → Nat :=
  let arg0 : BitVec 32 := BitVec.ofNat 32 (i 0).val
  let c4_i32 : BitVec 32 := 4#32
  let v0 : BitVec 32 := Scalar.muli arg0 c4_i32
  let c0_i32_851 : BitVec 32 := 0#32
  let v1712 : BitVec 32 := Scalar.addi v0 c0_i32_851
  let v1713 : Index := Scalar.indexCast v1712
  let c95 : Index := 95#32
  ![v1713.toNat, 95]
def k0_mult96 (v1714 : BitVec 32) : BitVec 32 :=
  let c3_i32_852 : BitVec 32 := 3#32
  let v1715 : BitVec 32 := Scalar.shrsi v1714 c3_i32_852
  let c3_i32_853 : BitVec 32 := 3#32
  let v1716 : BitVec 32 := Scalar.shli v1715 c3_i32_853
  v1716

def k0_off192 (v1714 : BitVec 32) : Fin 2 → Nat :=
  let c3_i32_852 : BitVec 32 := 3#32
  let v1715 : BitVec 32 := Scalar.shrsi v1714 c3_i32_852
  let c3_i32_853 : BitVec 32 := 3#32
  let v1716 : BitVec 32 := Scalar.shli v1715 c3_i32_853
  let v1717 : BitVec 32 := v1716
  let v1718 : Index := Scalar.indexCast v1717
  let c0_854 : Index := 0#32
  ![v1718.toNat, 0]

def k0_chk96 (v1714 : BitVec 32) : Prop :=
  (8 ∣ (k0_mult96 v1714).toNat) ∧
  (∀ a, (k0_off192 v1714) a + S8x128.size a ≤ S10000x128.size a)
theorem k0_mult96_dvd : ∀ (v1714 : BitVec 32) (k0_hw96 : k0_chk96 v1714), 8 ∣ (k0_mult96 v1714).toNat := fun v1714 k0_hw96 => k0_hw96.1
theorem k0_off192_inb : ∀ (v1714 : BitVec 32) (k0_hw96 : k0_chk96 v1714), ∀ a, (k0_off192 v1714) a + S8x128.size a ≤ S10000x128.size a := fun v1714 k0_hw96 => k0_hw96.2

def k0_off193 (i : grid0.Coords) : Fin 2 → Nat :=
  let arg0 : BitVec 32 := BitVec.ofNat 32 (i 0).val
  let c4_i32 : BitVec 32 := 4#32
  let v0 : BitVec 32 := Scalar.muli arg0 c4_i32
  let c0_i32_860 : BitVec 32 := 0#32
  let v1730 : BitVec 32 := Scalar.addi v0 c0_i32_860
  let v1731 : Index := Scalar.indexCast v1730
  let c96 : Index := 96#32
  ![v1731.toNat, 96]
def k0_mult97 (v1732 : BitVec 32) : BitVec 32 :=
  let c3_i32_861 : BitVec 32 := 3#32
  let v1733 : BitVec 32 := Scalar.shrsi v1732 c3_i32_861
  let c3_i32_862 : BitVec 32 := 3#32
  let v1734 : BitVec 32 := Scalar.shli v1733 c3_i32_862
  v1734

def k0_off194 (v1732 : BitVec 32) : Fin 2 → Nat :=
  let c3_i32_861 : BitVec 32 := 3#32
  let v1733 : BitVec 32 := Scalar.shrsi v1732 c3_i32_861
  let c3_i32_862 : BitVec 32 := 3#32
  let v1734 : BitVec 32 := Scalar.shli v1733 c3_i32_862
  let v1735 : BitVec 32 := v1734
  let v1736 : Index := Scalar.indexCast v1735
  let c0_863 : Index := 0#32
  ![v1736.toNat, 0]

def k0_chk97 (v1732 : BitVec 32) : Prop :=
  (8 ∣ (k0_mult97 v1732).toNat) ∧
  (∀ a, (k0_off194 v1732) a + S8x128.size a ≤ S10000x128.size a)
theorem k0_mult97_dvd : ∀ (v1732 : BitVec 32) (k0_hw97 : k0_chk97 v1732), 8 ∣ (k0_mult97 v1732).toNat := fun v1732 k0_hw97 => k0_hw97.1
theorem k0_off194_inb : ∀ (v1732 : BitVec 32) (k0_hw97 : k0_chk97 v1732), ∀ a, (k0_off194 v1732) a + S8x128.size a ≤ S10000x128.size a := fun v1732 k0_hw97 => k0_hw97.2

def k0_off195 (i : grid0.Coords) : Fin 2 → Nat :=
  let arg0 : BitVec 32 := BitVec.ofNat 32 (i 0).val
  let c4_i32 : BitVec 32 := 4#32
  let v0 : BitVec 32 := Scalar.muli arg0 c4_i32
  let c0_i32_869 : BitVec 32 := 0#32
  let v1748 : BitVec 32 := Scalar.addi v0 c0_i32_869
  let v1749 : Index := Scalar.indexCast v1748
  let c97 : Index := 97#32
  ![v1749.toNat, 97]
def k0_mult98 (v1750 : BitVec 32) : BitVec 32 :=
  let c3_i32_870 : BitVec 32 := 3#32
  let v1751 : BitVec 32 := Scalar.shrsi v1750 c3_i32_870
  let c3_i32_871 : BitVec 32 := 3#32
  let v1752 : BitVec 32 := Scalar.shli v1751 c3_i32_871
  v1752

def k0_off196 (v1750 : BitVec 32) : Fin 2 → Nat :=
  let c3_i32_870 : BitVec 32 := 3#32
  let v1751 : BitVec 32 := Scalar.shrsi v1750 c3_i32_870
  let c3_i32_871 : BitVec 32 := 3#32
  let v1752 : BitVec 32 := Scalar.shli v1751 c3_i32_871
  let v1753 : BitVec 32 := v1752
  let v1754 : Index := Scalar.indexCast v1753
  let c0_872 : Index := 0#32
  ![v1754.toNat, 0]

def k0_chk98 (v1750 : BitVec 32) : Prop :=
  (8 ∣ (k0_mult98 v1750).toNat) ∧
  (∀ a, (k0_off196 v1750) a + S8x128.size a ≤ S10000x128.size a)
theorem k0_mult98_dvd : ∀ (v1750 : BitVec 32) (k0_hw98 : k0_chk98 v1750), 8 ∣ (k0_mult98 v1750).toNat := fun v1750 k0_hw98 => k0_hw98.1
theorem k0_off196_inb : ∀ (v1750 : BitVec 32) (k0_hw98 : k0_chk98 v1750), ∀ a, (k0_off196 v1750) a + S8x128.size a ≤ S10000x128.size a := fun v1750 k0_hw98 => k0_hw98.2

def k0_off197 (i : grid0.Coords) : Fin 2 → Nat :=
  let arg0 : BitVec 32 := BitVec.ofNat 32 (i 0).val
  let c4_i32 : BitVec 32 := 4#32
  let v0 : BitVec 32 := Scalar.muli arg0 c4_i32
  let c0_i32_878 : BitVec 32 := 0#32
  let v1766 : BitVec 32 := Scalar.addi v0 c0_i32_878
  let v1767 : Index := Scalar.indexCast v1766
  let c98 : Index := 98#32
  ![v1767.toNat, 98]
def k0_mult99 (v1768 : BitVec 32) : BitVec 32 :=
  let c3_i32_879 : BitVec 32 := 3#32
  let v1769 : BitVec 32 := Scalar.shrsi v1768 c3_i32_879
  let c3_i32_880 : BitVec 32 := 3#32
  let v1770 : BitVec 32 := Scalar.shli v1769 c3_i32_880
  v1770

def k0_off198 (v1768 : BitVec 32) : Fin 2 → Nat :=
  let c3_i32_879 : BitVec 32 := 3#32
  let v1769 : BitVec 32 := Scalar.shrsi v1768 c3_i32_879
  let c3_i32_880 : BitVec 32 := 3#32
  let v1770 : BitVec 32 := Scalar.shli v1769 c3_i32_880
  let v1771 : BitVec 32 := v1770
  let v1772 : Index := Scalar.indexCast v1771
  let c0_881 : Index := 0#32
  ![v1772.toNat, 0]

def k0_chk99 (v1768 : BitVec 32) : Prop :=
  (8 ∣ (k0_mult99 v1768).toNat) ∧
  (∀ a, (k0_off198 v1768) a + S8x128.size a ≤ S10000x128.size a)
theorem k0_mult99_dvd : ∀ (v1768 : BitVec 32) (k0_hw99 : k0_chk99 v1768), 8 ∣ (k0_mult99 v1768).toNat := fun v1768 k0_hw99 => k0_hw99.1
theorem k0_off198_inb : ∀ (v1768 : BitVec 32) (k0_hw99 : k0_chk99 v1768), ∀ a, (k0_off198 v1768) a + S8x128.size a ≤ S10000x128.size a := fun v1768 k0_hw99 => k0_hw99.2

def k0_off199 (i : grid0.Coords) : Fin 2 → Nat :=
  let arg0 : BitVec 32 := BitVec.ofNat 32 (i 0).val
  let c4_i32 : BitVec 32 := 4#32
  let v0 : BitVec 32 := Scalar.muli arg0 c4_i32
  let c0_i32_887 : BitVec 32 := 0#32
  let v1784 : BitVec 32 := Scalar.addi v0 c0_i32_887
  let v1785 : Index := Scalar.indexCast v1784
  let c99 : Index := 99#32
  ![v1785.toNat, 99]
def k0_mult100 (v1786 : BitVec 32) : BitVec 32 :=
  let c3_i32_888 : BitVec 32 := 3#32
  let v1787 : BitVec 32 := Scalar.shrsi v1786 c3_i32_888
  let c3_i32_889 : BitVec 32 := 3#32
  let v1788 : BitVec 32 := Scalar.shli v1787 c3_i32_889
  v1788

def k0_off200 (v1786 : BitVec 32) : Fin 2 → Nat :=
  let c3_i32_888 : BitVec 32 := 3#32
  let v1787 : BitVec 32 := Scalar.shrsi v1786 c3_i32_888
  let c3_i32_889 : BitVec 32 := 3#32
  let v1788 : BitVec 32 := Scalar.shli v1787 c3_i32_889
  let v1789 : BitVec 32 := v1788
  let v1790 : Index := Scalar.indexCast v1789
  let c0_890 : Index := 0#32
  ![v1790.toNat, 0]

def k0_chk100 (v1786 : BitVec 32) : Prop :=
  (8 ∣ (k0_mult100 v1786).toNat) ∧
  (∀ a, (k0_off200 v1786) a + S8x128.size a ≤ S10000x128.size a)
theorem k0_mult100_dvd : ∀ (v1786 : BitVec 32) (k0_hw100 : k0_chk100 v1786), 8 ∣ (k0_mult100 v1786).toNat := fun v1786 k0_hw100 => k0_hw100.1
theorem k0_off200_inb : ∀ (v1786 : BitVec 32) (k0_hw100 : k0_chk100 v1786), ∀ a, (k0_off200 v1786) a + S8x128.size a ≤ S10000x128.size a := fun v1786 k0_hw100 => k0_hw100.2

def k0_off201 (i : grid0.Coords) : Fin 2 → Nat :=
  let arg0 : BitVec 32 := BitVec.ofNat 32 (i 0).val
  let c4_i32 : BitVec 32 := 4#32
  let v0 : BitVec 32 := Scalar.muli arg0 c4_i32
  let c0_i32_896 : BitVec 32 := 0#32
  let v1802 : BitVec 32 := Scalar.addi v0 c0_i32_896
  let v1803 : Index := Scalar.indexCast v1802
  let c100 : Index := 100#32
  ![v1803.toNat, 100]
def k0_mult101 (v1804 : BitVec 32) : BitVec 32 :=
  let c3_i32_897 : BitVec 32 := 3#32
  let v1805 : BitVec 32 := Scalar.shrsi v1804 c3_i32_897
  let c3_i32_898 : BitVec 32 := 3#32
  let v1806 : BitVec 32 := Scalar.shli v1805 c3_i32_898
  v1806

def k0_off202 (v1804 : BitVec 32) : Fin 2 → Nat :=
  let c3_i32_897 : BitVec 32 := 3#32
  let v1805 : BitVec 32 := Scalar.shrsi v1804 c3_i32_897
  let c3_i32_898 : BitVec 32 := 3#32
  let v1806 : BitVec 32 := Scalar.shli v1805 c3_i32_898
  let v1807 : BitVec 32 := v1806
  let v1808 : Index := Scalar.indexCast v1807
  let c0_899 : Index := 0#32
  ![v1808.toNat, 0]

def k0_chk101 (v1804 : BitVec 32) : Prop :=
  (8 ∣ (k0_mult101 v1804).toNat) ∧
  (∀ a, (k0_off202 v1804) a + S8x128.size a ≤ S10000x128.size a)
theorem k0_mult101_dvd : ∀ (v1804 : BitVec 32) (k0_hw101 : k0_chk101 v1804), 8 ∣ (k0_mult101 v1804).toNat := fun v1804 k0_hw101 => k0_hw101.1
theorem k0_off202_inb : ∀ (v1804 : BitVec 32) (k0_hw101 : k0_chk101 v1804), ∀ a, (k0_off202 v1804) a + S8x128.size a ≤ S10000x128.size a := fun v1804 k0_hw101 => k0_hw101.2

def k0_off203 (i : grid0.Coords) : Fin 2 → Nat :=
  let arg0 : BitVec 32 := BitVec.ofNat 32 (i 0).val
  let c4_i32 : BitVec 32 := 4#32
  let v0 : BitVec 32 := Scalar.muli arg0 c4_i32
  let c0_i32_905 : BitVec 32 := 0#32
  let v1820 : BitVec 32 := Scalar.addi v0 c0_i32_905
  let v1821 : Index := Scalar.indexCast v1820
  let c101 : Index := 101#32
  ![v1821.toNat, 101]
def k0_mult102 (v1822 : BitVec 32) : BitVec 32 :=
  let c3_i32_906 : BitVec 32 := 3#32
  let v1823 : BitVec 32 := Scalar.shrsi v1822 c3_i32_906
  let c3_i32_907 : BitVec 32 := 3#32
  let v1824 : BitVec 32 := Scalar.shli v1823 c3_i32_907
  v1824

def k0_off204 (v1822 : BitVec 32) : Fin 2 → Nat :=
  let c3_i32_906 : BitVec 32 := 3#32
  let v1823 : BitVec 32 := Scalar.shrsi v1822 c3_i32_906
  let c3_i32_907 : BitVec 32 := 3#32
  let v1824 : BitVec 32 := Scalar.shli v1823 c3_i32_907
  let v1825 : BitVec 32 := v1824
  let v1826 : Index := Scalar.indexCast v1825
  let c0_908 : Index := 0#32
  ![v1826.toNat, 0]

def k0_chk102 (v1822 : BitVec 32) : Prop :=
  (8 ∣ (k0_mult102 v1822).toNat) ∧
  (∀ a, (k0_off204 v1822) a + S8x128.size a ≤ S10000x128.size a)
theorem k0_mult102_dvd : ∀ (v1822 : BitVec 32) (k0_hw102 : k0_chk102 v1822), 8 ∣ (k0_mult102 v1822).toNat := fun v1822 k0_hw102 => k0_hw102.1
theorem k0_off204_inb : ∀ (v1822 : BitVec 32) (k0_hw102 : k0_chk102 v1822), ∀ a, (k0_off204 v1822) a + S8x128.size a ≤ S10000x128.size a := fun v1822 k0_hw102 => k0_hw102.2

def k0_off205 (i : grid0.Coords) : Fin 2 → Nat :=
  let arg0 : BitVec 32 := BitVec.ofNat 32 (i 0).val
  let c4_i32 : BitVec 32 := 4#32
  let v0 : BitVec 32 := Scalar.muli arg0 c4_i32
  let c0_i32_914 : BitVec 32 := 0#32
  let v1838 : BitVec 32 := Scalar.addi v0 c0_i32_914
  let v1839 : Index := Scalar.indexCast v1838
  let c102 : Index := 102#32
  ![v1839.toNat, 102]
def k0_mult103 (v1840 : BitVec 32) : BitVec 32 :=
  let c3_i32_915 : BitVec 32 := 3#32
  let v1841 : BitVec 32 := Scalar.shrsi v1840 c3_i32_915
  let c3_i32_916 : BitVec 32 := 3#32
  let v1842 : BitVec 32 := Scalar.shli v1841 c3_i32_916
  v1842

def k0_off206 (v1840 : BitVec 32) : Fin 2 → Nat :=
  let c3_i32_915 : BitVec 32 := 3#32
  let v1841 : BitVec 32 := Scalar.shrsi v1840 c3_i32_915
  let c3_i32_916 : BitVec 32 := 3#32
  let v1842 : BitVec 32 := Scalar.shli v1841 c3_i32_916
  let v1843 : BitVec 32 := v1842
  let v1844 : Index := Scalar.indexCast v1843
  let c0_917 : Index := 0#32
  ![v1844.toNat, 0]

def k0_chk103 (v1840 : BitVec 32) : Prop :=
  (8 ∣ (k0_mult103 v1840).toNat) ∧
  (∀ a, (k0_off206 v1840) a + S8x128.size a ≤ S10000x128.size a)
theorem k0_mult103_dvd : ∀ (v1840 : BitVec 32) (k0_hw103 : k0_chk103 v1840), 8 ∣ (k0_mult103 v1840).toNat := fun v1840 k0_hw103 => k0_hw103.1
theorem k0_off206_inb : ∀ (v1840 : BitVec 32) (k0_hw103 : k0_chk103 v1840), ∀ a, (k0_off206 v1840) a + S8x128.size a ≤ S10000x128.size a := fun v1840 k0_hw103 => k0_hw103.2

def k0_off207 (i : grid0.Coords) : Fin 2 → Nat :=
  let arg0 : BitVec 32 := BitVec.ofNat 32 (i 0).val
  let c4_i32 : BitVec 32 := 4#32
  let v0 : BitVec 32 := Scalar.muli arg0 c4_i32
  let c0_i32_923 : BitVec 32 := 0#32
  let v1856 : BitVec 32 := Scalar.addi v0 c0_i32_923
  let v1857 : Index := Scalar.indexCast v1856
  let c103 : Index := 103#32
  ![v1857.toNat, 103]
def k0_mult104 (v1858 : BitVec 32) : BitVec 32 :=
  let c3_i32_924 : BitVec 32 := 3#32
  let v1859 : BitVec 32 := Scalar.shrsi v1858 c3_i32_924
  let c3_i32_925 : BitVec 32 := 3#32
  let v1860 : BitVec 32 := Scalar.shli v1859 c3_i32_925
  v1860

def k0_off208 (v1858 : BitVec 32) : Fin 2 → Nat :=
  let c3_i32_924 : BitVec 32 := 3#32
  let v1859 : BitVec 32 := Scalar.shrsi v1858 c3_i32_924
  let c3_i32_925 : BitVec 32 := 3#32
  let v1860 : BitVec 32 := Scalar.shli v1859 c3_i32_925
  let v1861 : BitVec 32 := v1860
  let v1862 : Index := Scalar.indexCast v1861
  let c0_926 : Index := 0#32
  ![v1862.toNat, 0]

def k0_chk104 (v1858 : BitVec 32) : Prop :=
  (8 ∣ (k0_mult104 v1858).toNat) ∧
  (∀ a, (k0_off208 v1858) a + S8x128.size a ≤ S10000x128.size a)
theorem k0_mult104_dvd : ∀ (v1858 : BitVec 32) (k0_hw104 : k0_chk104 v1858), 8 ∣ (k0_mult104 v1858).toNat := fun v1858 k0_hw104 => k0_hw104.1
theorem k0_off208_inb : ∀ (v1858 : BitVec 32) (k0_hw104 : k0_chk104 v1858), ∀ a, (k0_off208 v1858) a + S8x128.size a ≤ S10000x128.size a := fun v1858 k0_hw104 => k0_hw104.2

def k0_off209 (i : grid0.Coords) : Fin 2 → Nat :=
  let arg0 : BitVec 32 := BitVec.ofNat 32 (i 0).val
  let c4_i32 : BitVec 32 := 4#32
  let v0 : BitVec 32 := Scalar.muli arg0 c4_i32
  let c0_i32_932 : BitVec 32 := 0#32
  let v1874 : BitVec 32 := Scalar.addi v0 c0_i32_932
  let v1875 : Index := Scalar.indexCast v1874
  let c104 : Index := 104#32
  ![v1875.toNat, 104]
def k0_mult105 (v1876 : BitVec 32) : BitVec 32 :=
  let c3_i32_933 : BitVec 32 := 3#32
  let v1877 : BitVec 32 := Scalar.shrsi v1876 c3_i32_933
  let c3_i32_934 : BitVec 32 := 3#32
  let v1878 : BitVec 32 := Scalar.shli v1877 c3_i32_934
  v1878

def k0_off210 (v1876 : BitVec 32) : Fin 2 → Nat :=
  let c3_i32_933 : BitVec 32 := 3#32
  let v1877 : BitVec 32 := Scalar.shrsi v1876 c3_i32_933
  let c3_i32_934 : BitVec 32 := 3#32
  let v1878 : BitVec 32 := Scalar.shli v1877 c3_i32_934
  let v1879 : BitVec 32 := v1878
  let v1880 : Index := Scalar.indexCast v1879
  let c0_935 : Index := 0#32
  ![v1880.toNat, 0]

def k0_chk105 (v1876 : BitVec 32) : Prop :=
  (8 ∣ (k0_mult105 v1876).toNat) ∧
  (∀ a, (k0_off210 v1876) a + S8x128.size a ≤ S10000x128.size a)
theorem k0_mult105_dvd : ∀ (v1876 : BitVec 32) (k0_hw105 : k0_chk105 v1876), 8 ∣ (k0_mult105 v1876).toNat := fun v1876 k0_hw105 => k0_hw105.1
theorem k0_off210_inb : ∀ (v1876 : BitVec 32) (k0_hw105 : k0_chk105 v1876), ∀ a, (k0_off210 v1876) a + S8x128.size a ≤ S10000x128.size a := fun v1876 k0_hw105 => k0_hw105.2

def k0_off211 (i : grid0.Coords) : Fin 2 → Nat :=
  let arg0 : BitVec 32 := BitVec.ofNat 32 (i 0).val
  let c4_i32 : BitVec 32 := 4#32
  let v0 : BitVec 32 := Scalar.muli arg0 c4_i32
  let c0_i32_941 : BitVec 32 := 0#32
  let v1892 : BitVec 32 := Scalar.addi v0 c0_i32_941
  let v1893 : Index := Scalar.indexCast v1892
  let c105 : Index := 105#32
  ![v1893.toNat, 105]
def k0_mult106 (v1894 : BitVec 32) : BitVec 32 :=
  let c3_i32_942 : BitVec 32 := 3#32
  let v1895 : BitVec 32 := Scalar.shrsi v1894 c3_i32_942
  let c3_i32_943 : BitVec 32 := 3#32
  let v1896 : BitVec 32 := Scalar.shli v1895 c3_i32_943
  v1896

def k0_off212 (v1894 : BitVec 32) : Fin 2 → Nat :=
  let c3_i32_942 : BitVec 32 := 3#32
  let v1895 : BitVec 32 := Scalar.shrsi v1894 c3_i32_942
  let c3_i32_943 : BitVec 32 := 3#32
  let v1896 : BitVec 32 := Scalar.shli v1895 c3_i32_943
  let v1897 : BitVec 32 := v1896
  let v1898 : Index := Scalar.indexCast v1897
  let c0_944 : Index := 0#32
  ![v1898.toNat, 0]

def k0_chk106 (v1894 : BitVec 32) : Prop :=
  (8 ∣ (k0_mult106 v1894).toNat) ∧
  (∀ a, (k0_off212 v1894) a + S8x128.size a ≤ S10000x128.size a)
theorem k0_mult106_dvd : ∀ (v1894 : BitVec 32) (k0_hw106 : k0_chk106 v1894), 8 ∣ (k0_mult106 v1894).toNat := fun v1894 k0_hw106 => k0_hw106.1
theorem k0_off212_inb : ∀ (v1894 : BitVec 32) (k0_hw106 : k0_chk106 v1894), ∀ a, (k0_off212 v1894) a + S8x128.size a ≤ S10000x128.size a := fun v1894 k0_hw106 => k0_hw106.2

def k0_off213 (i : grid0.Coords) : Fin 2 → Nat :=
  let arg0 : BitVec 32 := BitVec.ofNat 32 (i 0).val
  let c4_i32 : BitVec 32 := 4#32
  let v0 : BitVec 32 := Scalar.muli arg0 c4_i32
  let c0_i32_950 : BitVec 32 := 0#32
  let v1910 : BitVec 32 := Scalar.addi v0 c0_i32_950
  let v1911 : Index := Scalar.indexCast v1910
  let c106 : Index := 106#32
  ![v1911.toNat, 106]
def k0_mult107 (v1912 : BitVec 32) : BitVec 32 :=
  let c3_i32_951 : BitVec 32 := 3#32
  let v1913 : BitVec 32 := Scalar.shrsi v1912 c3_i32_951
  let c3_i32_952 : BitVec 32 := 3#32
  let v1914 : BitVec 32 := Scalar.shli v1913 c3_i32_952
  v1914

def k0_off214 (v1912 : BitVec 32) : Fin 2 → Nat :=
  let c3_i32_951 : BitVec 32 := 3#32
  let v1913 : BitVec 32 := Scalar.shrsi v1912 c3_i32_951
  let c3_i32_952 : BitVec 32 := 3#32
  let v1914 : BitVec 32 := Scalar.shli v1913 c3_i32_952
  let v1915 : BitVec 32 := v1914
  let v1916 : Index := Scalar.indexCast v1915
  let c0_953 : Index := 0#32
  ![v1916.toNat, 0]

def k0_chk107 (v1912 : BitVec 32) : Prop :=
  (8 ∣ (k0_mult107 v1912).toNat) ∧
  (∀ a, (k0_off214 v1912) a + S8x128.size a ≤ S10000x128.size a)
theorem k0_mult107_dvd : ∀ (v1912 : BitVec 32) (k0_hw107 : k0_chk107 v1912), 8 ∣ (k0_mult107 v1912).toNat := fun v1912 k0_hw107 => k0_hw107.1
theorem k0_off214_inb : ∀ (v1912 : BitVec 32) (k0_hw107 : k0_chk107 v1912), ∀ a, (k0_off214 v1912) a + S8x128.size a ≤ S10000x128.size a := fun v1912 k0_hw107 => k0_hw107.2

def k0_off215 (i : grid0.Coords) : Fin 2 → Nat :=
  let arg0 : BitVec 32 := BitVec.ofNat 32 (i 0).val
  let c4_i32 : BitVec 32 := 4#32
  let v0 : BitVec 32 := Scalar.muli arg0 c4_i32
  let c0_i32_959 : BitVec 32 := 0#32
  let v1928 : BitVec 32 := Scalar.addi v0 c0_i32_959
  let v1929 : Index := Scalar.indexCast v1928
  let c107 : Index := 107#32
  ![v1929.toNat, 107]
def k0_mult108 (v1930 : BitVec 32) : BitVec 32 :=
  let c3_i32_960 : BitVec 32 := 3#32
  let v1931 : BitVec 32 := Scalar.shrsi v1930 c3_i32_960
  let c3_i32_961 : BitVec 32 := 3#32
  let v1932 : BitVec 32 := Scalar.shli v1931 c3_i32_961
  v1932

def k0_off216 (v1930 : BitVec 32) : Fin 2 → Nat :=
  let c3_i32_960 : BitVec 32 := 3#32
  let v1931 : BitVec 32 := Scalar.shrsi v1930 c3_i32_960
  let c3_i32_961 : BitVec 32 := 3#32
  let v1932 : BitVec 32 := Scalar.shli v1931 c3_i32_961
  let v1933 : BitVec 32 := v1932
  let v1934 : Index := Scalar.indexCast v1933
  let c0_962 : Index := 0#32
  ![v1934.toNat, 0]

def k0_chk108 (v1930 : BitVec 32) : Prop :=
  (8 ∣ (k0_mult108 v1930).toNat) ∧
  (∀ a, (k0_off216 v1930) a + S8x128.size a ≤ S10000x128.size a)
theorem k0_mult108_dvd : ∀ (v1930 : BitVec 32) (k0_hw108 : k0_chk108 v1930), 8 ∣ (k0_mult108 v1930).toNat := fun v1930 k0_hw108 => k0_hw108.1
theorem k0_off216_inb : ∀ (v1930 : BitVec 32) (k0_hw108 : k0_chk108 v1930), ∀ a, (k0_off216 v1930) a + S8x128.size a ≤ S10000x128.size a := fun v1930 k0_hw108 => k0_hw108.2

def k0_off217 (i : grid0.Coords) : Fin 2 → Nat :=
  let arg0 : BitVec 32 := BitVec.ofNat 32 (i 0).val
  let c4_i32 : BitVec 32 := 4#32
  let v0 : BitVec 32 := Scalar.muli arg0 c4_i32
  let c0_i32_968 : BitVec 32 := 0#32
  let v1946 : BitVec 32 := Scalar.addi v0 c0_i32_968
  let v1947 : Index := Scalar.indexCast v1946
  let c108 : Index := 108#32
  ![v1947.toNat, 108]
def k0_mult109 (v1948 : BitVec 32) : BitVec 32 :=
  let c3_i32_969 : BitVec 32 := 3#32
  let v1949 : BitVec 32 := Scalar.shrsi v1948 c3_i32_969
  let c3_i32_970 : BitVec 32 := 3#32
  let v1950 : BitVec 32 := Scalar.shli v1949 c3_i32_970
  v1950

def k0_off218 (v1948 : BitVec 32) : Fin 2 → Nat :=
  let c3_i32_969 : BitVec 32 := 3#32
  let v1949 : BitVec 32 := Scalar.shrsi v1948 c3_i32_969
  let c3_i32_970 : BitVec 32 := 3#32
  let v1950 : BitVec 32 := Scalar.shli v1949 c3_i32_970
  let v1951 : BitVec 32 := v1950
  let v1952 : Index := Scalar.indexCast v1951
  let c0_971 : Index := 0#32
  ![v1952.toNat, 0]

def k0_chk109 (v1948 : BitVec 32) : Prop :=
  (8 ∣ (k0_mult109 v1948).toNat) ∧
  (∀ a, (k0_off218 v1948) a + S8x128.size a ≤ S10000x128.size a)
theorem k0_mult109_dvd : ∀ (v1948 : BitVec 32) (k0_hw109 : k0_chk109 v1948), 8 ∣ (k0_mult109 v1948).toNat := fun v1948 k0_hw109 => k0_hw109.1
theorem k0_off218_inb : ∀ (v1948 : BitVec 32) (k0_hw109 : k0_chk109 v1948), ∀ a, (k0_off218 v1948) a + S8x128.size a ≤ S10000x128.size a := fun v1948 k0_hw109 => k0_hw109.2

def k0_off219 (i : grid0.Coords) : Fin 2 → Nat :=
  let arg0 : BitVec 32 := BitVec.ofNat 32 (i 0).val
  let c4_i32 : BitVec 32 := 4#32
  let v0 : BitVec 32 := Scalar.muli arg0 c4_i32
  let c0_i32_977 : BitVec 32 := 0#32
  let v1964 : BitVec 32 := Scalar.addi v0 c0_i32_977
  let v1965 : Index := Scalar.indexCast v1964
  let c109 : Index := 109#32
  ![v1965.toNat, 109]
def k0_mult110 (v1966 : BitVec 32) : BitVec 32 :=
  let c3_i32_978 : BitVec 32 := 3#32
  let v1967 : BitVec 32 := Scalar.shrsi v1966 c3_i32_978
  let c3_i32_979 : BitVec 32 := 3#32
  let v1968 : BitVec 32 := Scalar.shli v1967 c3_i32_979
  v1968

def k0_off220 (v1966 : BitVec 32) : Fin 2 → Nat :=
  let c3_i32_978 : BitVec 32 := 3#32
  let v1967 : BitVec 32 := Scalar.shrsi v1966 c3_i32_978
  let c3_i32_979 : BitVec 32 := 3#32
  let v1968 : BitVec 32 := Scalar.shli v1967 c3_i32_979
  let v1969 : BitVec 32 := v1968
  let v1970 : Index := Scalar.indexCast v1969
  let c0_980 : Index := 0#32
  ![v1970.toNat, 0]

def k0_chk110 (v1966 : BitVec 32) : Prop :=
  (8 ∣ (k0_mult110 v1966).toNat) ∧
  (∀ a, (k0_off220 v1966) a + S8x128.size a ≤ S10000x128.size a)
theorem k0_mult110_dvd : ∀ (v1966 : BitVec 32) (k0_hw110 : k0_chk110 v1966), 8 ∣ (k0_mult110 v1966).toNat := fun v1966 k0_hw110 => k0_hw110.1
theorem k0_off220_inb : ∀ (v1966 : BitVec 32) (k0_hw110 : k0_chk110 v1966), ∀ a, (k0_off220 v1966) a + S8x128.size a ≤ S10000x128.size a := fun v1966 k0_hw110 => k0_hw110.2

def k0_off221 (i : grid0.Coords) : Fin 2 → Nat :=
  let arg0 : BitVec 32 := BitVec.ofNat 32 (i 0).val
  let c4_i32 : BitVec 32 := 4#32
  let v0 : BitVec 32 := Scalar.muli arg0 c4_i32
  let c0_i32_986 : BitVec 32 := 0#32
  let v1982 : BitVec 32 := Scalar.addi v0 c0_i32_986
  let v1983 : Index := Scalar.indexCast v1982
  let c110 : Index := 110#32
  ![v1983.toNat, 110]
def k0_mult111 (v1984 : BitVec 32) : BitVec 32 :=
  let c3_i32_987 : BitVec 32 := 3#32
  let v1985 : BitVec 32 := Scalar.shrsi v1984 c3_i32_987
  let c3_i32_988 : BitVec 32 := 3#32
  let v1986 : BitVec 32 := Scalar.shli v1985 c3_i32_988
  v1986

def k0_off222 (v1984 : BitVec 32) : Fin 2 → Nat :=
  let c3_i32_987 : BitVec 32 := 3#32
  let v1985 : BitVec 32 := Scalar.shrsi v1984 c3_i32_987
  let c3_i32_988 : BitVec 32 := 3#32
  let v1986 : BitVec 32 := Scalar.shli v1985 c3_i32_988
  let v1987 : BitVec 32 := v1986
  let v1988 : Index := Scalar.indexCast v1987
  let c0_989 : Index := 0#32
  ![v1988.toNat, 0]

def k0_chk111 (v1984 : BitVec 32) : Prop :=
  (8 ∣ (k0_mult111 v1984).toNat) ∧
  (∀ a, (k0_off222 v1984) a + S8x128.size a ≤ S10000x128.size a)
theorem k0_mult111_dvd : ∀ (v1984 : BitVec 32) (k0_hw111 : k0_chk111 v1984), 8 ∣ (k0_mult111 v1984).toNat := fun v1984 k0_hw111 => k0_hw111.1
theorem k0_off222_inb : ∀ (v1984 : BitVec 32) (k0_hw111 : k0_chk111 v1984), ∀ a, (k0_off222 v1984) a + S8x128.size a ≤ S10000x128.size a := fun v1984 k0_hw111 => k0_hw111.2

def k0_off223 (i : grid0.Coords) : Fin 2 → Nat :=
  let arg0 : BitVec 32 := BitVec.ofNat 32 (i 0).val
  let c4_i32 : BitVec 32 := 4#32
  let v0 : BitVec 32 := Scalar.muli arg0 c4_i32
  let c0_i32_995 : BitVec 32 := 0#32
  let v2000 : BitVec 32 := Scalar.addi v0 c0_i32_995
  let v2001 : Index := Scalar.indexCast v2000
  let c111 : Index := 111#32
  ![v2001.toNat, 111]
def k0_mult112 (v2002 : BitVec 32) : BitVec 32 :=
  let c3_i32_996 : BitVec 32 := 3#32
  let v2003 : BitVec 32 := Scalar.shrsi v2002 c3_i32_996
  let c3_i32_997 : BitVec 32 := 3#32
  let v2004 : BitVec 32 := Scalar.shli v2003 c3_i32_997
  v2004

def k0_off224 (v2002 : BitVec 32) : Fin 2 → Nat :=
  let c3_i32_996 : BitVec 32 := 3#32
  let v2003 : BitVec 32 := Scalar.shrsi v2002 c3_i32_996
  let c3_i32_997 : BitVec 32 := 3#32
  let v2004 : BitVec 32 := Scalar.shli v2003 c3_i32_997
  let v2005 : BitVec 32 := v2004
  let v2006 : Index := Scalar.indexCast v2005
  let c0_998 : Index := 0#32
  ![v2006.toNat, 0]

def k0_chk112 (v2002 : BitVec 32) : Prop :=
  (8 ∣ (k0_mult112 v2002).toNat) ∧
  (∀ a, (k0_off224 v2002) a + S8x128.size a ≤ S10000x128.size a)
theorem k0_mult112_dvd : ∀ (v2002 : BitVec 32) (k0_hw112 : k0_chk112 v2002), 8 ∣ (k0_mult112 v2002).toNat := fun v2002 k0_hw112 => k0_hw112.1
theorem k0_off224_inb : ∀ (v2002 : BitVec 32) (k0_hw112 : k0_chk112 v2002), ∀ a, (k0_off224 v2002) a + S8x128.size a ≤ S10000x128.size a := fun v2002 k0_hw112 => k0_hw112.2

def k0_off225 (i : grid0.Coords) : Fin 2 → Nat :=
  let arg0 : BitVec 32 := BitVec.ofNat 32 (i 0).val
  let c4_i32 : BitVec 32 := 4#32
  let v0 : BitVec 32 := Scalar.muli arg0 c4_i32
  let c0_i32_1004 : BitVec 32 := 0#32
  let v2018 : BitVec 32 := Scalar.addi v0 c0_i32_1004
  let v2019 : Index := Scalar.indexCast v2018
  let c112 : Index := 112#32
  ![v2019.toNat, 112]
def k0_mult113 (v2020 : BitVec 32) : BitVec 32 :=
  let c3_i32_1005 : BitVec 32 := 3#32
  let v2021 : BitVec 32 := Scalar.shrsi v2020 c3_i32_1005
  let c3_i32_1006 : BitVec 32 := 3#32
  let v2022 : BitVec 32 := Scalar.shli v2021 c3_i32_1006
  v2022

def k0_off226 (v2020 : BitVec 32) : Fin 2 → Nat :=
  let c3_i32_1005 : BitVec 32 := 3#32
  let v2021 : BitVec 32 := Scalar.shrsi v2020 c3_i32_1005
  let c3_i32_1006 : BitVec 32 := 3#32
  let v2022 : BitVec 32 := Scalar.shli v2021 c3_i32_1006
  let v2023 : BitVec 32 := v2022
  let v2024 : Index := Scalar.indexCast v2023
  let c0_1007 : Index := 0#32
  ![v2024.toNat, 0]

def k0_chk113 (v2020 : BitVec 32) : Prop :=
  (8 ∣ (k0_mult113 v2020).toNat) ∧
  (∀ a, (k0_off226 v2020) a + S8x128.size a ≤ S10000x128.size a)
theorem k0_mult113_dvd : ∀ (v2020 : BitVec 32) (k0_hw113 : k0_chk113 v2020), 8 ∣ (k0_mult113 v2020).toNat := fun v2020 k0_hw113 => k0_hw113.1
theorem k0_off226_inb : ∀ (v2020 : BitVec 32) (k0_hw113 : k0_chk113 v2020), ∀ a, (k0_off226 v2020) a + S8x128.size a ≤ S10000x128.size a := fun v2020 k0_hw113 => k0_hw113.2

def k0_off227 (i : grid0.Coords) : Fin 2 → Nat :=
  let arg0 : BitVec 32 := BitVec.ofNat 32 (i 0).val
  let c4_i32 : BitVec 32 := 4#32
  let v0 : BitVec 32 := Scalar.muli arg0 c4_i32
  let c0_i32_1013 : BitVec 32 := 0#32
  let v2036 : BitVec 32 := Scalar.addi v0 c0_i32_1013
  let v2037 : Index := Scalar.indexCast v2036
  let c113 : Index := 113#32
  ![v2037.toNat, 113]
def k0_mult114 (v2038 : BitVec 32) : BitVec 32 :=
  let c3_i32_1014 : BitVec 32 := 3#32
  let v2039 : BitVec 32 := Scalar.shrsi v2038 c3_i32_1014
  let c3_i32_1015 : BitVec 32 := 3#32
  let v2040 : BitVec 32 := Scalar.shli v2039 c3_i32_1015
  v2040

def k0_off228 (v2038 : BitVec 32) : Fin 2 → Nat :=
  let c3_i32_1014 : BitVec 32 := 3#32
  let v2039 : BitVec 32 := Scalar.shrsi v2038 c3_i32_1014
  let c3_i32_1015 : BitVec 32 := 3#32
  let v2040 : BitVec 32 := Scalar.shli v2039 c3_i32_1015
  let v2041 : BitVec 32 := v2040
  let v2042 : Index := Scalar.indexCast v2041
  let c0_1016 : Index := 0#32
  ![v2042.toNat, 0]

def k0_chk114 (v2038 : BitVec 32) : Prop :=
  (8 ∣ (k0_mult114 v2038).toNat) ∧
  (∀ a, (k0_off228 v2038) a + S8x128.size a ≤ S10000x128.size a)
theorem k0_mult114_dvd : ∀ (v2038 : BitVec 32) (k0_hw114 : k0_chk114 v2038), 8 ∣ (k0_mult114 v2038).toNat := fun v2038 k0_hw114 => k0_hw114.1
theorem k0_off228_inb : ∀ (v2038 : BitVec 32) (k0_hw114 : k0_chk114 v2038), ∀ a, (k0_off228 v2038) a + S8x128.size a ≤ S10000x128.size a := fun v2038 k0_hw114 => k0_hw114.2

def k0_off229 (i : grid0.Coords) : Fin 2 → Nat :=
  let arg0 : BitVec 32 := BitVec.ofNat 32 (i 0).val
  let c4_i32 : BitVec 32 := 4#32
  let v0 : BitVec 32 := Scalar.muli arg0 c4_i32
  let c0_i32_1022 : BitVec 32 := 0#32
  let v2054 : BitVec 32 := Scalar.addi v0 c0_i32_1022
  let v2055 : Index := Scalar.indexCast v2054
  let c114 : Index := 114#32
  ![v2055.toNat, 114]
def k0_mult115 (v2056 : BitVec 32) : BitVec 32 :=
  let c3_i32_1023 : BitVec 32 := 3#32
  let v2057 : BitVec 32 := Scalar.shrsi v2056 c3_i32_1023
  let c3_i32_1024 : BitVec 32 := 3#32
  let v2058 : BitVec 32 := Scalar.shli v2057 c3_i32_1024
  v2058

def k0_off230 (v2056 : BitVec 32) : Fin 2 → Nat :=
  let c3_i32_1023 : BitVec 32 := 3#32
  let v2057 : BitVec 32 := Scalar.shrsi v2056 c3_i32_1023
  let c3_i32_1024 : BitVec 32 := 3#32
  let v2058 : BitVec 32 := Scalar.shli v2057 c3_i32_1024
  let v2059 : BitVec 32 := v2058
  let v2060 : Index := Scalar.indexCast v2059
  let c0_1025 : Index := 0#32
  ![v2060.toNat, 0]

def k0_chk115 (v2056 : BitVec 32) : Prop :=
  (8 ∣ (k0_mult115 v2056).toNat) ∧
  (∀ a, (k0_off230 v2056) a + S8x128.size a ≤ S10000x128.size a)
theorem k0_mult115_dvd : ∀ (v2056 : BitVec 32) (k0_hw115 : k0_chk115 v2056), 8 ∣ (k0_mult115 v2056).toNat := fun v2056 k0_hw115 => k0_hw115.1
theorem k0_off230_inb : ∀ (v2056 : BitVec 32) (k0_hw115 : k0_chk115 v2056), ∀ a, (k0_off230 v2056) a + S8x128.size a ≤ S10000x128.size a := fun v2056 k0_hw115 => k0_hw115.2

def k0_off231 (i : grid0.Coords) : Fin 2 → Nat :=
  let arg0 : BitVec 32 := BitVec.ofNat 32 (i 0).val
  let c4_i32 : BitVec 32 := 4#32
  let v0 : BitVec 32 := Scalar.muli arg0 c4_i32
  let c0_i32_1031 : BitVec 32 := 0#32
  let v2072 : BitVec 32 := Scalar.addi v0 c0_i32_1031
  let v2073 : Index := Scalar.indexCast v2072
  let c115 : Index := 115#32
  ![v2073.toNat, 115]
def k0_mult116 (v2074 : BitVec 32) : BitVec 32 :=
  let c3_i32_1032 : BitVec 32 := 3#32
  let v2075 : BitVec 32 := Scalar.shrsi v2074 c3_i32_1032
  let c3_i32_1033 : BitVec 32 := 3#32
  let v2076 : BitVec 32 := Scalar.shli v2075 c3_i32_1033
  v2076

def k0_off232 (v2074 : BitVec 32) : Fin 2 → Nat :=
  let c3_i32_1032 : BitVec 32 := 3#32
  let v2075 : BitVec 32 := Scalar.shrsi v2074 c3_i32_1032
  let c3_i32_1033 : BitVec 32 := 3#32
  let v2076 : BitVec 32 := Scalar.shli v2075 c3_i32_1033
  let v2077 : BitVec 32 := v2076
  let v2078 : Index := Scalar.indexCast v2077
  let c0_1034 : Index := 0#32
  ![v2078.toNat, 0]

def k0_chk116 (v2074 : BitVec 32) : Prop :=
  (8 ∣ (k0_mult116 v2074).toNat) ∧
  (∀ a, (k0_off232 v2074) a + S8x128.size a ≤ S10000x128.size a)
theorem k0_mult116_dvd : ∀ (v2074 : BitVec 32) (k0_hw116 : k0_chk116 v2074), 8 ∣ (k0_mult116 v2074).toNat := fun v2074 k0_hw116 => k0_hw116.1
theorem k0_off232_inb : ∀ (v2074 : BitVec 32) (k0_hw116 : k0_chk116 v2074), ∀ a, (k0_off232 v2074) a + S8x128.size a ≤ S10000x128.size a := fun v2074 k0_hw116 => k0_hw116.2

def k0_off233 (i : grid0.Coords) : Fin 2 → Nat :=
  let arg0 : BitVec 32 := BitVec.ofNat 32 (i 0).val
  let c4_i32 : BitVec 32 := 4#32
  let v0 : BitVec 32 := Scalar.muli arg0 c4_i32
  let c0_i32_1040 : BitVec 32 := 0#32
  let v2090 : BitVec 32 := Scalar.addi v0 c0_i32_1040
  let v2091 : Index := Scalar.indexCast v2090
  let c116 : Index := 116#32
  ![v2091.toNat, 116]
def k0_mult117 (v2092 : BitVec 32) : BitVec 32 :=
  let c3_i32_1041 : BitVec 32 := 3#32
  let v2093 : BitVec 32 := Scalar.shrsi v2092 c3_i32_1041
  let c3_i32_1042 : BitVec 32 := 3#32
  let v2094 : BitVec 32 := Scalar.shli v2093 c3_i32_1042
  v2094

def k0_off234 (v2092 : BitVec 32) : Fin 2 → Nat :=
  let c3_i32_1041 : BitVec 32 := 3#32
  let v2093 : BitVec 32 := Scalar.shrsi v2092 c3_i32_1041
  let c3_i32_1042 : BitVec 32 := 3#32
  let v2094 : BitVec 32 := Scalar.shli v2093 c3_i32_1042
  let v2095 : BitVec 32 := v2094
  let v2096 : Index := Scalar.indexCast v2095
  let c0_1043 : Index := 0#32
  ![v2096.toNat, 0]

def k0_chk117 (v2092 : BitVec 32) : Prop :=
  (8 ∣ (k0_mult117 v2092).toNat) ∧
  (∀ a, (k0_off234 v2092) a + S8x128.size a ≤ S10000x128.size a)
theorem k0_mult117_dvd : ∀ (v2092 : BitVec 32) (k0_hw117 : k0_chk117 v2092), 8 ∣ (k0_mult117 v2092).toNat := fun v2092 k0_hw117 => k0_hw117.1
theorem k0_off234_inb : ∀ (v2092 : BitVec 32) (k0_hw117 : k0_chk117 v2092), ∀ a, (k0_off234 v2092) a + S8x128.size a ≤ S10000x128.size a := fun v2092 k0_hw117 => k0_hw117.2

def k0_off235 (i : grid0.Coords) : Fin 2 → Nat :=
  let arg0 : BitVec 32 := BitVec.ofNat 32 (i 0).val
  let c4_i32 : BitVec 32 := 4#32
  let v0 : BitVec 32 := Scalar.muli arg0 c4_i32
  let c0_i32_1049 : BitVec 32 := 0#32
  let v2108 : BitVec 32 := Scalar.addi v0 c0_i32_1049
  let v2109 : Index := Scalar.indexCast v2108
  let c117 : Index := 117#32
  ![v2109.toNat, 117]
def k0_mult118 (v2110 : BitVec 32) : BitVec 32 :=
  let c3_i32_1050 : BitVec 32 := 3#32
  let v2111 : BitVec 32 := Scalar.shrsi v2110 c3_i32_1050
  let c3_i32_1051 : BitVec 32 := 3#32
  let v2112 : BitVec 32 := Scalar.shli v2111 c3_i32_1051
  v2112

def k0_off236 (v2110 : BitVec 32) : Fin 2 → Nat :=
  let c3_i32_1050 : BitVec 32 := 3#32
  let v2111 : BitVec 32 := Scalar.shrsi v2110 c3_i32_1050
  let c3_i32_1051 : BitVec 32 := 3#32
  let v2112 : BitVec 32 := Scalar.shli v2111 c3_i32_1051
  let v2113 : BitVec 32 := v2112
  let v2114 : Index := Scalar.indexCast v2113
  let c0_1052 : Index := 0#32
  ![v2114.toNat, 0]

def k0_chk118 (v2110 : BitVec 32) : Prop :=
  (8 ∣ (k0_mult118 v2110).toNat) ∧
  (∀ a, (k0_off236 v2110) a + S8x128.size a ≤ S10000x128.size a)
theorem k0_mult118_dvd : ∀ (v2110 : BitVec 32) (k0_hw118 : k0_chk118 v2110), 8 ∣ (k0_mult118 v2110).toNat := fun v2110 k0_hw118 => k0_hw118.1
theorem k0_off236_inb : ∀ (v2110 : BitVec 32) (k0_hw118 : k0_chk118 v2110), ∀ a, (k0_off236 v2110) a + S8x128.size a ≤ S10000x128.size a := fun v2110 k0_hw118 => k0_hw118.2

def k0_off237 (i : grid0.Coords) : Fin 2 → Nat :=
  let arg0 : BitVec 32 := BitVec.ofNat 32 (i 0).val
  let c4_i32 : BitVec 32 := 4#32
  let v0 : BitVec 32 := Scalar.muli arg0 c4_i32
  let c0_i32_1058 : BitVec 32 := 0#32
  let v2126 : BitVec 32 := Scalar.addi v0 c0_i32_1058
  let v2127 : Index := Scalar.indexCast v2126
  let c118 : Index := 118#32
  ![v2127.toNat, 118]
def k0_mult119 (v2128 : BitVec 32) : BitVec 32 :=
  let c3_i32_1059 : BitVec 32 := 3#32
  let v2129 : BitVec 32 := Scalar.shrsi v2128 c3_i32_1059
  let c3_i32_1060 : BitVec 32 := 3#32
  let v2130 : BitVec 32 := Scalar.shli v2129 c3_i32_1060
  v2130

def k0_off238 (v2128 : BitVec 32) : Fin 2 → Nat :=
  let c3_i32_1059 : BitVec 32 := 3#32
  let v2129 : BitVec 32 := Scalar.shrsi v2128 c3_i32_1059
  let c3_i32_1060 : BitVec 32 := 3#32
  let v2130 : BitVec 32 := Scalar.shli v2129 c3_i32_1060
  let v2131 : BitVec 32 := v2130
  let v2132 : Index := Scalar.indexCast v2131
  let c0_1061 : Index := 0#32
  ![v2132.toNat, 0]

def k0_chk119 (v2128 : BitVec 32) : Prop :=
  (8 ∣ (k0_mult119 v2128).toNat) ∧
  (∀ a, (k0_off238 v2128) a + S8x128.size a ≤ S10000x128.size a)
theorem k0_mult119_dvd : ∀ (v2128 : BitVec 32) (k0_hw119 : k0_chk119 v2128), 8 ∣ (k0_mult119 v2128).toNat := fun v2128 k0_hw119 => k0_hw119.1
theorem k0_off238_inb : ∀ (v2128 : BitVec 32) (k0_hw119 : k0_chk119 v2128), ∀ a, (k0_off238 v2128) a + S8x128.size a ≤ S10000x128.size a := fun v2128 k0_hw119 => k0_hw119.2

def k0_off239 (i : grid0.Coords) : Fin 2 → Nat :=
  let arg0 : BitVec 32 := BitVec.ofNat 32 (i 0).val
  let c4_i32 : BitVec 32 := 4#32
  let v0 : BitVec 32 := Scalar.muli arg0 c4_i32
  let c0_i32_1067 : BitVec 32 := 0#32
  let v2144 : BitVec 32 := Scalar.addi v0 c0_i32_1067
  let v2145 : Index := Scalar.indexCast v2144
  let c119 : Index := 119#32
  ![v2145.toNat, 119]
def k0_mult120 (v2146 : BitVec 32) : BitVec 32 :=
  let c3_i32_1068 : BitVec 32 := 3#32
  let v2147 : BitVec 32 := Scalar.shrsi v2146 c3_i32_1068
  let c3_i32_1069 : BitVec 32 := 3#32
  let v2148 : BitVec 32 := Scalar.shli v2147 c3_i32_1069
  v2148

def k0_off240 (v2146 : BitVec 32) : Fin 2 → Nat :=
  let c3_i32_1068 : BitVec 32 := 3#32
  let v2147 : BitVec 32 := Scalar.shrsi v2146 c3_i32_1068
  let c3_i32_1069 : BitVec 32 := 3#32
  let v2148 : BitVec 32 := Scalar.shli v2147 c3_i32_1069
  let v2149 : BitVec 32 := v2148
  let v2150 : Index := Scalar.indexCast v2149
  let c0_1070 : Index := 0#32
  ![v2150.toNat, 0]

def k0_chk120 (v2146 : BitVec 32) : Prop :=
  (8 ∣ (k0_mult120 v2146).toNat) ∧
  (∀ a, (k0_off240 v2146) a + S8x128.size a ≤ S10000x128.size a)
theorem k0_mult120_dvd : ∀ (v2146 : BitVec 32) (k0_hw120 : k0_chk120 v2146), 8 ∣ (k0_mult120 v2146).toNat := fun v2146 k0_hw120 => k0_hw120.1
theorem k0_off240_inb : ∀ (v2146 : BitVec 32) (k0_hw120 : k0_chk120 v2146), ∀ a, (k0_off240 v2146) a + S8x128.size a ≤ S10000x128.size a := fun v2146 k0_hw120 => k0_hw120.2

def k0_off241 (i : grid0.Coords) : Fin 2 → Nat :=
  let arg0 : BitVec 32 := BitVec.ofNat 32 (i 0).val
  let c4_i32 : BitVec 32 := 4#32
  let v0 : BitVec 32 := Scalar.muli arg0 c4_i32
  let c0_i32_1076 : BitVec 32 := 0#32
  let v2162 : BitVec 32 := Scalar.addi v0 c0_i32_1076
  let v2163 : Index := Scalar.indexCast v2162
  let c120 : Index := 120#32
  ![v2163.toNat, 120]
def k0_mult121 (v2164 : BitVec 32) : BitVec 32 :=
  let c3_i32_1077 : BitVec 32 := 3#32
  let v2165 : BitVec 32 := Scalar.shrsi v2164 c3_i32_1077
  let c3_i32_1078 : BitVec 32 := 3#32
  let v2166 : BitVec 32 := Scalar.shli v2165 c3_i32_1078
  v2166

def k0_off242 (v2164 : BitVec 32) : Fin 2 → Nat :=
  let c3_i32_1077 : BitVec 32 := 3#32
  let v2165 : BitVec 32 := Scalar.shrsi v2164 c3_i32_1077
  let c3_i32_1078 : BitVec 32 := 3#32
  let v2166 : BitVec 32 := Scalar.shli v2165 c3_i32_1078
  let v2167 : BitVec 32 := v2166
  let v2168 : Index := Scalar.indexCast v2167
  let c0_1079 : Index := 0#32
  ![v2168.toNat, 0]

def k0_chk121 (v2164 : BitVec 32) : Prop :=
  (8 ∣ (k0_mult121 v2164).toNat) ∧
  (∀ a, (k0_off242 v2164) a + S8x128.size a ≤ S10000x128.size a)
theorem k0_mult121_dvd : ∀ (v2164 : BitVec 32) (k0_hw121 : k0_chk121 v2164), 8 ∣ (k0_mult121 v2164).toNat := fun v2164 k0_hw121 => k0_hw121.1
theorem k0_off242_inb : ∀ (v2164 : BitVec 32) (k0_hw121 : k0_chk121 v2164), ∀ a, (k0_off242 v2164) a + S8x128.size a ≤ S10000x128.size a := fun v2164 k0_hw121 => k0_hw121.2

def k0_off243 (i : grid0.Coords) : Fin 2 → Nat :=
  let arg0 : BitVec 32 := BitVec.ofNat 32 (i 0).val
  let c4_i32 : BitVec 32 := 4#32
  let v0 : BitVec 32 := Scalar.muli arg0 c4_i32
  let c0_i32_1085 : BitVec 32 := 0#32
  let v2180 : BitVec 32 := Scalar.addi v0 c0_i32_1085
  let v2181 : Index := Scalar.indexCast v2180
  let c121 : Index := 121#32
  ![v2181.toNat, 121]
def k0_mult122 (v2182 : BitVec 32) : BitVec 32 :=
  let c3_i32_1086 : BitVec 32 := 3#32
  let v2183 : BitVec 32 := Scalar.shrsi v2182 c3_i32_1086
  let c3_i32_1087 : BitVec 32 := 3#32
  let v2184 : BitVec 32 := Scalar.shli v2183 c3_i32_1087
  v2184

def k0_off244 (v2182 : BitVec 32) : Fin 2 → Nat :=
  let c3_i32_1086 : BitVec 32 := 3#32
  let v2183 : BitVec 32 := Scalar.shrsi v2182 c3_i32_1086
  let c3_i32_1087 : BitVec 32 := 3#32
  let v2184 : BitVec 32 := Scalar.shli v2183 c3_i32_1087
  let v2185 : BitVec 32 := v2184
  let v2186 : Index := Scalar.indexCast v2185
  let c0_1088 : Index := 0#32
  ![v2186.toNat, 0]

def k0_chk122 (v2182 : BitVec 32) : Prop :=
  (8 ∣ (k0_mult122 v2182).toNat) ∧
  (∀ a, (k0_off244 v2182) a + S8x128.size a ≤ S10000x128.size a)
theorem k0_mult122_dvd : ∀ (v2182 : BitVec 32) (k0_hw122 : k0_chk122 v2182), 8 ∣ (k0_mult122 v2182).toNat := fun v2182 k0_hw122 => k0_hw122.1
theorem k0_off244_inb : ∀ (v2182 : BitVec 32) (k0_hw122 : k0_chk122 v2182), ∀ a, (k0_off244 v2182) a + S8x128.size a ≤ S10000x128.size a := fun v2182 k0_hw122 => k0_hw122.2

def k0_off245 (i : grid0.Coords) : Fin 2 → Nat :=
  let arg0 : BitVec 32 := BitVec.ofNat 32 (i 0).val
  let c4_i32 : BitVec 32 := 4#32
  let v0 : BitVec 32 := Scalar.muli arg0 c4_i32
  let c0_i32_1094 : BitVec 32 := 0#32
  let v2198 : BitVec 32 := Scalar.addi v0 c0_i32_1094
  let v2199 : Index := Scalar.indexCast v2198
  let c122 : Index := 122#32
  ![v2199.toNat, 122]
def k0_mult123 (v2200 : BitVec 32) : BitVec 32 :=
  let c3_i32_1095 : BitVec 32 := 3#32
  let v2201 : BitVec 32 := Scalar.shrsi v2200 c3_i32_1095
  let c3_i32_1096 : BitVec 32 := 3#32
  let v2202 : BitVec 32 := Scalar.shli v2201 c3_i32_1096
  v2202

def k0_off246 (v2200 : BitVec 32) : Fin 2 → Nat :=
  let c3_i32_1095 : BitVec 32 := 3#32
  let v2201 : BitVec 32 := Scalar.shrsi v2200 c3_i32_1095
  let c3_i32_1096 : BitVec 32 := 3#32
  let v2202 : BitVec 32 := Scalar.shli v2201 c3_i32_1096
  let v2203 : BitVec 32 := v2202
  let v2204 : Index := Scalar.indexCast v2203
  let c0_1097 : Index := 0#32
  ![v2204.toNat, 0]

def k0_chk123 (v2200 : BitVec 32) : Prop :=
  (8 ∣ (k0_mult123 v2200).toNat) ∧
  (∀ a, (k0_off246 v2200) a + S8x128.size a ≤ S10000x128.size a)
theorem k0_mult123_dvd : ∀ (v2200 : BitVec 32) (k0_hw123 : k0_chk123 v2200), 8 ∣ (k0_mult123 v2200).toNat := fun v2200 k0_hw123 => k0_hw123.1
theorem k0_off246_inb : ∀ (v2200 : BitVec 32) (k0_hw123 : k0_chk123 v2200), ∀ a, (k0_off246 v2200) a + S8x128.size a ≤ S10000x128.size a := fun v2200 k0_hw123 => k0_hw123.2

def k0_off247 (i : grid0.Coords) : Fin 2 → Nat :=
  let arg0 : BitVec 32 := BitVec.ofNat 32 (i 0).val
  let c4_i32 : BitVec 32 := 4#32
  let v0 : BitVec 32 := Scalar.muli arg0 c4_i32
  let c0_i32_1103 : BitVec 32 := 0#32
  let v2216 : BitVec 32 := Scalar.addi v0 c0_i32_1103
  let v2217 : Index := Scalar.indexCast v2216
  let c123 : Index := 123#32
  ![v2217.toNat, 123]
def k0_mult124 (v2218 : BitVec 32) : BitVec 32 :=
  let c3_i32_1104 : BitVec 32 := 3#32
  let v2219 : BitVec 32 := Scalar.shrsi v2218 c3_i32_1104
  let c3_i32_1105 : BitVec 32 := 3#32
  let v2220 : BitVec 32 := Scalar.shli v2219 c3_i32_1105
  v2220

def k0_off248 (v2218 : BitVec 32) : Fin 2 → Nat :=
  let c3_i32_1104 : BitVec 32 := 3#32
  let v2219 : BitVec 32 := Scalar.shrsi v2218 c3_i32_1104
  let c3_i32_1105 : BitVec 32 := 3#32
  let v2220 : BitVec 32 := Scalar.shli v2219 c3_i32_1105
  let v2221 : BitVec 32 := v2220
  let v2222 : Index := Scalar.indexCast v2221
  let c0_1106 : Index := 0#32
  ![v2222.toNat, 0]

def k0_chk124 (v2218 : BitVec 32) : Prop :=
  (8 ∣ (k0_mult124 v2218).toNat) ∧
  (∀ a, (k0_off248 v2218) a + S8x128.size a ≤ S10000x128.size a)
theorem k0_mult124_dvd : ∀ (v2218 : BitVec 32) (k0_hw124 : k0_chk124 v2218), 8 ∣ (k0_mult124 v2218).toNat := fun v2218 k0_hw124 => k0_hw124.1
theorem k0_off248_inb : ∀ (v2218 : BitVec 32) (k0_hw124 : k0_chk124 v2218), ∀ a, (k0_off248 v2218) a + S8x128.size a ≤ S10000x128.size a := fun v2218 k0_hw124 => k0_hw124.2

def k0_off249 (i : grid0.Coords) : Fin 2 → Nat :=
  let arg0 : BitVec 32 := BitVec.ofNat 32 (i 0).val
  let c4_i32 : BitVec 32 := 4#32
  let v0 : BitVec 32 := Scalar.muli arg0 c4_i32
  let c0_i32_1112 : BitVec 32 := 0#32
  let v2234 : BitVec 32 := Scalar.addi v0 c0_i32_1112
  let v2235 : Index := Scalar.indexCast v2234
  let c124 : Index := 124#32
  ![v2235.toNat, 124]
def k0_mult125 (v2236 : BitVec 32) : BitVec 32 :=
  let c3_i32_1113 : BitVec 32 := 3#32
  let v2237 : BitVec 32 := Scalar.shrsi v2236 c3_i32_1113
  let c3_i32_1114 : BitVec 32 := 3#32
  let v2238 : BitVec 32 := Scalar.shli v2237 c3_i32_1114
  v2238

def k0_off250 (v2236 : BitVec 32) : Fin 2 → Nat :=
  let c3_i32_1113 : BitVec 32 := 3#32
  let v2237 : BitVec 32 := Scalar.shrsi v2236 c3_i32_1113
  let c3_i32_1114 : BitVec 32 := 3#32
  let v2238 : BitVec 32 := Scalar.shli v2237 c3_i32_1114
  let v2239 : BitVec 32 := v2238
  let v2240 : Index := Scalar.indexCast v2239
  let c0_1115 : Index := 0#32
  ![v2240.toNat, 0]

def k0_chk125 (v2236 : BitVec 32) : Prop :=
  (8 ∣ (k0_mult125 v2236).toNat) ∧
  (∀ a, (k0_off250 v2236) a + S8x128.size a ≤ S10000x128.size a)
theorem k0_mult125_dvd : ∀ (v2236 : BitVec 32) (k0_hw125 : k0_chk125 v2236), 8 ∣ (k0_mult125 v2236).toNat := fun v2236 k0_hw125 => k0_hw125.1
theorem k0_off250_inb : ∀ (v2236 : BitVec 32) (k0_hw125 : k0_chk125 v2236), ∀ a, (k0_off250 v2236) a + S8x128.size a ≤ S10000x128.size a := fun v2236 k0_hw125 => k0_hw125.2

def k0_off251 (i : grid0.Coords) : Fin 2 → Nat :=
  let arg0 : BitVec 32 := BitVec.ofNat 32 (i 0).val
  let c4_i32 : BitVec 32 := 4#32
  let v0 : BitVec 32 := Scalar.muli arg0 c4_i32
  let c0_i32_1121 : BitVec 32 := 0#32
  let v2252 : BitVec 32 := Scalar.addi v0 c0_i32_1121
  let v2253 : Index := Scalar.indexCast v2252
  let c125 : Index := 125#32
  ![v2253.toNat, 125]
def k0_mult126 (v2254 : BitVec 32) : BitVec 32 :=
  let c3_i32_1122 : BitVec 32 := 3#32
  let v2255 : BitVec 32 := Scalar.shrsi v2254 c3_i32_1122
  let c3_i32_1123 : BitVec 32 := 3#32
  let v2256 : BitVec 32 := Scalar.shli v2255 c3_i32_1123
  v2256

def k0_off252 (v2254 : BitVec 32) : Fin 2 → Nat :=
  let c3_i32_1122 : BitVec 32 := 3#32
  let v2255 : BitVec 32 := Scalar.shrsi v2254 c3_i32_1122
  let c3_i32_1123 : BitVec 32 := 3#32
  let v2256 : BitVec 32 := Scalar.shli v2255 c3_i32_1123
  let v2257 : BitVec 32 := v2256
  let v2258 : Index := Scalar.indexCast v2257
  let c0_1124 : Index := 0#32
  ![v2258.toNat, 0]

def k0_chk126 (v2254 : BitVec 32) : Prop :=
  (8 ∣ (k0_mult126 v2254).toNat) ∧
  (∀ a, (k0_off252 v2254) a + S8x128.size a ≤ S10000x128.size a)
theorem k0_mult126_dvd : ∀ (v2254 : BitVec 32) (k0_hw126 : k0_chk126 v2254), 8 ∣ (k0_mult126 v2254).toNat := fun v2254 k0_hw126 => k0_hw126.1
theorem k0_off252_inb : ∀ (v2254 : BitVec 32) (k0_hw126 : k0_chk126 v2254), ∀ a, (k0_off252 v2254) a + S8x128.size a ≤ S10000x128.size a := fun v2254 k0_hw126 => k0_hw126.2

def k0_off253 (i : grid0.Coords) : Fin 2 → Nat :=
  let arg0 : BitVec 32 := BitVec.ofNat 32 (i 0).val
  let c4_i32 : BitVec 32 := 4#32
  let v0 : BitVec 32 := Scalar.muli arg0 c4_i32
  let c0_i32_1130 : BitVec 32 := 0#32
  let v2270 : BitVec 32 := Scalar.addi v0 c0_i32_1130
  let v2271 : Index := Scalar.indexCast v2270
  let c126 : Index := 126#32
  ![v2271.toNat, 126]
def k0_mult127 (v2272 : BitVec 32) : BitVec 32 :=
  let c3_i32_1131 : BitVec 32 := 3#32
  let v2273 : BitVec 32 := Scalar.shrsi v2272 c3_i32_1131
  let c3_i32_1132 : BitVec 32 := 3#32
  let v2274 : BitVec 32 := Scalar.shli v2273 c3_i32_1132
  v2274

def k0_off254 (v2272 : BitVec 32) : Fin 2 → Nat :=
  let c3_i32_1131 : BitVec 32 := 3#32
  let v2273 : BitVec 32 := Scalar.shrsi v2272 c3_i32_1131
  let c3_i32_1132 : BitVec 32 := 3#32
  let v2274 : BitVec 32 := Scalar.shli v2273 c3_i32_1132
  let v2275 : BitVec 32 := v2274
  let v2276 : Index := Scalar.indexCast v2275
  let c0_1133 : Index := 0#32
  ![v2276.toNat, 0]

def k0_chk127 (v2272 : BitVec 32) : Prop :=
  (8 ∣ (k0_mult127 v2272).toNat) ∧
  (∀ a, (k0_off254 v2272) a + S8x128.size a ≤ S10000x128.size a)
theorem k0_mult127_dvd : ∀ (v2272 : BitVec 32) (k0_hw127 : k0_chk127 v2272), 8 ∣ (k0_mult127 v2272).toNat := fun v2272 k0_hw127 => k0_hw127.1
theorem k0_off254_inb : ∀ (v2272 : BitVec 32) (k0_hw127 : k0_chk127 v2272), ∀ a, (k0_off254 v2272) a + S8x128.size a ≤ S10000x128.size a := fun v2272 k0_hw127 => k0_hw127.2

def k0_off255 (i : grid0.Coords) : Fin 2 → Nat :=
  let arg0 : BitVec 32 := BitVec.ofNat 32 (i 0).val
  let c4_i32 : BitVec 32 := 4#32
  let v0 : BitVec 32 := Scalar.muli arg0 c4_i32
  let c0_i32_1139 : BitVec 32 := 0#32
  let v2288 : BitVec 32 := Scalar.addi v0 c0_i32_1139
  let v2289 : Index := Scalar.indexCast v2288
  let c127 : Index := 127#32
  ![v2289.toNat, 127]
def k0_mult128 (v2290 : BitVec 32) : BitVec 32 :=
  let c3_i32_1140 : BitVec 32 := 3#32
  let v2291 : BitVec 32 := Scalar.shrsi v2290 c3_i32_1140
  let c3_i32_1141 : BitVec 32 := 3#32
  let v2292 : BitVec 32 := Scalar.shli v2291 c3_i32_1141
  v2292

def k0_off256 (v2290 : BitVec 32) : Fin 2 → Nat :=
  let c3_i32_1140 : BitVec 32 := 3#32
  let v2291 : BitVec 32 := Scalar.shrsi v2290 c3_i32_1140
  let c3_i32_1141 : BitVec 32 := 3#32
  let v2292 : BitVec 32 := Scalar.shli v2291 c3_i32_1141
  let v2293 : BitVec 32 := v2292
  let v2294 : Index := Scalar.indexCast v2293
  let c0_1142 : Index := 0#32
  ![v2294.toNat, 0]

def k0_chk128 (v2290 : BitVec 32) : Prop :=
  (8 ∣ (k0_mult128 v2290).toNat) ∧
  (∀ a, (k0_off256 v2290) a + S8x128.size a ≤ S10000x128.size a)
theorem k0_mult128_dvd : ∀ (v2290 : BitVec 32) (k0_hw128 : k0_chk128 v2290), 8 ∣ (k0_mult128 v2290).toNat := fun v2290 k0_hw128 => k0_hw128.1
theorem k0_off256_inb : ∀ (v2290 : BitVec 32) (k0_hw128 : k0_chk128 v2290), ∀ a, (k0_off256 v2290) a + S8x128.size a ≤ S10000x128.size a := fun v2290 k0_hw128 => k0_hw128.2

def k0_off257 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v2306 : BitVec 32 := Scalar.addi v0 c1_i32
  let v2307 : Index := Scalar.indexCast v2306
  let c0_1148 : Index := 0#32
  ![v2307.toNat, 0]
def k0_mult129 (v2308 : BitVec 32) : BitVec 32 :=
  let c3_i32_1149 : BitVec 32 := 3#32
  let v2309 : BitVec 32 := Scalar.shrsi v2308 c3_i32_1149
  let c3_i32_1150 : BitVec 32 := 3#32
  let v2310 : BitVec 32 := Scalar.shli v2309 c3_i32_1150
  v2310

def k0_off258 (v2308 : BitVec 32) : Fin 2 → Nat :=
  let c3_i32_1149 : BitVec 32 := 3#32
  let v2309 : BitVec 32 := Scalar.shrsi v2308 c3_i32_1149
  let c3_i32_1150 : BitVec 32 := 3#32
  let v2310 : BitVec 32 := Scalar.shli v2309 c3_i32_1150
  let v2311 : BitVec 32 := v2310
  let v2312 : Index := Scalar.indexCast v2311
  let c0_1151 : Index := 0#32
  ![v2312.toNat, 0]

def k0_chk129 (v2308 : BitVec 32) : Prop :=
  (8 ∣ (k0_mult129 v2308).toNat) ∧
  (∀ a, (k0_off258 v2308) a + S8x128.size a ≤ S10000x128.size a)
theorem k0_mult129_dvd : ∀ (v2308 : BitVec 32) (k0_hw129 : k0_chk129 v2308), 8 ∣ (k0_mult129 v2308).toNat := fun v2308 k0_hw129 => k0_hw129.1
theorem k0_off258_inb : ∀ (v2308 : BitVec 32) (k0_hw129 : k0_chk129 v2308), ∀ a, (k0_off258 v2308) a + S8x128.size a ≤ S10000x128.size a := fun v2308 k0_hw129 => k0_hw129.2

def k0_off259 (i : grid0.Coords) : Fin 2 → Nat :=
  let arg0 : BitVec 32 := BitVec.ofNat 32 (i 0).val
  let c4_i32 : BitVec 32 := 4#32
  let v0 : BitVec 32 := Scalar.muli arg0 c4_i32
  let c1_i32_1156 : BitVec 32 := 1#32
  let v2324 : BitVec 32 := Scalar.addi v0 c1_i32_1156
  let v2325 : Index := Scalar.indexCast v2324
  let c1_1157 : Index := 1#32
  ![v2325.toNat, 1]
def k0_mult130 (v2326 : BitVec 32) : BitVec 32 :=
  let c3_i32_1158 : BitVec 32 := 3#32
  let v2327 : BitVec 32 := Scalar.shrsi v2326 c3_i32_1158
  let c3_i32_1159 : BitVec 32 := 3#32
  let v2328 : BitVec 32 := Scalar.shli v2327 c3_i32_1159
  v2328

def k0_off260 (v2326 : BitVec 32) : Fin 2 → Nat :=
  let c3_i32_1158 : BitVec 32 := 3#32
  let v2327 : BitVec 32 := Scalar.shrsi v2326 c3_i32_1158
  let c3_i32_1159 : BitVec 32 := 3#32
  let v2328 : BitVec 32 := Scalar.shli v2327 c3_i32_1159
  let v2329 : BitVec 32 := v2328
  let v2330 : Index := Scalar.indexCast v2329
  let c0_1160 : Index := 0#32
  ![v2330.toNat, 0]

def k0_chk130 (v2326 : BitVec 32) : Prop :=
  (8 ∣ (k0_mult130 v2326).toNat) ∧
  (∀ a, (k0_off260 v2326) a + S8x128.size a ≤ S10000x128.size a)
theorem k0_mult130_dvd : ∀ (v2326 : BitVec 32) (k0_hw130 : k0_chk130 v2326), 8 ∣ (k0_mult130 v2326).toNat := fun v2326 k0_hw130 => k0_hw130.1
theorem k0_off260_inb : ∀ (v2326 : BitVec 32) (k0_hw130 : k0_chk130 v2326), ∀ a, (k0_off260 v2326) a + S8x128.size a ≤ S10000x128.size a := fun v2326 k0_hw130 => k0_hw130.2

def k0_off261 (i : grid0.Coords) : Fin 2 → Nat :=
  let arg0 : BitVec 32 := BitVec.ofNat 32 (i 0).val
  let c4_i32 : BitVec 32 := 4#32
  let v0 : BitVec 32 := Scalar.muli arg0 c4_i32
  let c1_i32_1165 : BitVec 32 := 1#32
  let v2342 : BitVec 32 := Scalar.addi v0 c1_i32_1165
  let v2343 : Index := Scalar.indexCast v2342
  let c2_1166 : Index := 2#32
  ![v2343.toNat, 2]
def k0_mult131 (v2344 : BitVec 32) : BitVec 32 :=
  let c3_i32_1167 : BitVec 32 := 3#32
  let v2345 : BitVec 32 := Scalar.shrsi v2344 c3_i32_1167
  let c3_i32_1168 : BitVec 32 := 3#32
  let v2346 : BitVec 32 := Scalar.shli v2345 c3_i32_1168
  v2346

def k0_off262 (v2344 : BitVec 32) : Fin 2 → Nat :=
  let c3_i32_1167 : BitVec 32 := 3#32
  let v2345 : BitVec 32 := Scalar.shrsi v2344 c3_i32_1167
  let c3_i32_1168 : BitVec 32 := 3#32
  let v2346 : BitVec 32 := Scalar.shli v2345 c3_i32_1168
  let v2347 : BitVec 32 := v2346
  let v2348 : Index := Scalar.indexCast v2347
  let c0_1169 : Index := 0#32
  ![v2348.toNat, 0]

def k0_chk131 (v2344 : BitVec 32) : Prop :=
  (8 ∣ (k0_mult131 v2344).toNat) ∧
  (∀ a, (k0_off262 v2344) a + S8x128.size a ≤ S10000x128.size a)
theorem k0_mult131_dvd : ∀ (v2344 : BitVec 32) (k0_hw131 : k0_chk131 v2344), 8 ∣ (k0_mult131 v2344).toNat := fun v2344 k0_hw131 => k0_hw131.1
theorem k0_off262_inb : ∀ (v2344 : BitVec 32) (k0_hw131 : k0_chk131 v2344), ∀ a, (k0_off262 v2344) a + S8x128.size a ≤ S10000x128.size a := fun v2344 k0_hw131 => k0_hw131.2

def k0_off263 (i : grid0.Coords) : Fin 2 → Nat :=
  let arg0 : BitVec 32 := BitVec.ofNat 32 (i 0).val
  let c4_i32 : BitVec 32 := 4#32
  let v0 : BitVec 32 := Scalar.muli arg0 c4_i32
  let c1_i32_1174 : BitVec 32 := 1#32
  let v2360 : BitVec 32 := Scalar.addi v0 c1_i32_1174
  let v2361 : Index := Scalar.indexCast v2360
  let c3_1175 : Index := 3#32
  ![v2361.toNat, 3]
def k0_mult132 (v2362 : BitVec 32) : BitVec 32 :=
  let c3_i32_1176 : BitVec 32 := 3#32
  let v2363 : BitVec 32 := Scalar.shrsi v2362 c3_i32_1176
  let c3_i32_1177 : BitVec 32 := 3#32
  let v2364 : BitVec 32 := Scalar.shli v2363 c3_i32_1177
  v2364

def k0_off264 (v2362 : BitVec 32) : Fin 2 → Nat :=
  let c3_i32_1176 : BitVec 32 := 3#32
  let v2363 : BitVec 32 := Scalar.shrsi v2362 c3_i32_1176
  let c3_i32_1177 : BitVec 32 := 3#32
  let v2364 : BitVec 32 := Scalar.shli v2363 c3_i32_1177
  let v2365 : BitVec 32 := v2364
  let v2366 : Index := Scalar.indexCast v2365
  let c0_1178 : Index := 0#32
  ![v2366.toNat, 0]

def k0_chk132 (v2362 : BitVec 32) : Prop :=
  (8 ∣ (k0_mult132 v2362).toNat) ∧
  (∀ a, (k0_off264 v2362) a + S8x128.size a ≤ S10000x128.size a)
theorem k0_mult132_dvd : ∀ (v2362 : BitVec 32) (k0_hw132 : k0_chk132 v2362), 8 ∣ (k0_mult132 v2362).toNat := fun v2362 k0_hw132 => k0_hw132.1
theorem k0_off264_inb : ∀ (v2362 : BitVec 32) (k0_hw132 : k0_chk132 v2362), ∀ a, (k0_off264 v2362) a + S8x128.size a ≤ S10000x128.size a := fun v2362 k0_hw132 => k0_hw132.2

def k0_off265 (i : grid0.Coords) : Fin 2 → Nat :=
  let arg0 : BitVec 32 := BitVec.ofNat 32 (i 0).val
  let c4_i32 : BitVec 32 := 4#32
  let v0 : BitVec 32 := Scalar.muli arg0 c4_i32
  let c1_i32_1183 : BitVec 32 := 1#32
  let v2378 : BitVec 32 := Scalar.addi v0 c1_i32_1183
  let v2379 : Index := Scalar.indexCast v2378
  let c4_1184 : Index := 4#32
  ![v2379.toNat, 4]
def k0_mult133 (v2380 : BitVec 32) : BitVec 32 :=
  let c3_i32_1185 : BitVec 32 := 3#32
  let v2381 : BitVec 32 := Scalar.shrsi v2380 c3_i32_1185
  let c3_i32_1186 : BitVec 32 := 3#32
  let v2382 : BitVec 32 := Scalar.shli v2381 c3_i32_1186
  v2382

def k0_off266 (v2380 : BitVec 32) : Fin 2 → Nat :=
  let c3_i32_1185 : BitVec 32 := 3#32
  let v2381 : BitVec 32 := Scalar.shrsi v2380 c3_i32_1185
  let c3_i32_1186 : BitVec 32 := 3#32
  let v2382 : BitVec 32 := Scalar.shli v2381 c3_i32_1186
  let v2383 : BitVec 32 := v2382
  let v2384 : Index := Scalar.indexCast v2383
  let c0_1187 : Index := 0#32
  ![v2384.toNat, 0]

def k0_chk133 (v2380 : BitVec 32) : Prop :=
  (8 ∣ (k0_mult133 v2380).toNat) ∧
  (∀ a, (k0_off266 v2380) a + S8x128.size a ≤ S10000x128.size a)
theorem k0_mult133_dvd : ∀ (v2380 : BitVec 32) (k0_hw133 : k0_chk133 v2380), 8 ∣ (k0_mult133 v2380).toNat := fun v2380 k0_hw133 => k0_hw133.1
theorem k0_off266_inb : ∀ (v2380 : BitVec 32) (k0_hw133 : k0_chk133 v2380), ∀ a, (k0_off266 v2380) a + S8x128.size a ≤ S10000x128.size a := fun v2380 k0_hw133 => k0_hw133.2

def k0_off267 (i : grid0.Coords) : Fin 2 → Nat :=
  let arg0 : BitVec 32 := BitVec.ofNat 32 (i 0).val
  let c4_i32 : BitVec 32 := 4#32
  let v0 : BitVec 32 := Scalar.muli arg0 c4_i32
  let c1_i32_1192 : BitVec 32 := 1#32
  let v2396 : BitVec 32 := Scalar.addi v0 c1_i32_1192
  let v2397 : Index := Scalar.indexCast v2396
  let c5_1193 : Index := 5#32
  ![v2397.toNat, 5]
def k0_mult134 (v2398 : BitVec 32) : BitVec 32 :=
  let c3_i32_1194 : BitVec 32 := 3#32
  let v2399 : BitVec 32 := Scalar.shrsi v2398 c3_i32_1194
  let c3_i32_1195 : BitVec 32 := 3#32
  let v2400 : BitVec 32 := Scalar.shli v2399 c3_i32_1195
  v2400

def k0_off268 (v2398 : BitVec 32) : Fin 2 → Nat :=
  let c3_i32_1194 : BitVec 32 := 3#32
  let v2399 : BitVec 32 := Scalar.shrsi v2398 c3_i32_1194
  let c3_i32_1195 : BitVec 32 := 3#32
  let v2400 : BitVec 32 := Scalar.shli v2399 c3_i32_1195
  let v2401 : BitVec 32 := v2400
  let v2402 : Index := Scalar.indexCast v2401
  let c0_1196 : Index := 0#32
  ![v2402.toNat, 0]

def k0_chk134 (v2398 : BitVec 32) : Prop :=
  (8 ∣ (k0_mult134 v2398).toNat) ∧
  (∀ a, (k0_off268 v2398) a + S8x128.size a ≤ S10000x128.size a)
theorem k0_mult134_dvd : ∀ (v2398 : BitVec 32) (k0_hw134 : k0_chk134 v2398), 8 ∣ (k0_mult134 v2398).toNat := fun v2398 k0_hw134 => k0_hw134.1
theorem k0_off268_inb : ∀ (v2398 : BitVec 32) (k0_hw134 : k0_chk134 v2398), ∀ a, (k0_off268 v2398) a + S8x128.size a ≤ S10000x128.size a := fun v2398 k0_hw134 => k0_hw134.2

def k0_off269 (i : grid0.Coords) : Fin 2 → Nat :=
  let arg0 : BitVec 32 := BitVec.ofNat 32 (i 0).val
  let c4_i32 : BitVec 32 := 4#32
  let v0 : BitVec 32 := Scalar.muli arg0 c4_i32
  let c1_i32_1201 : BitVec 32 := 1#32
  let v2414 : BitVec 32 := Scalar.addi v0 c1_i32_1201
  let v2415 : Index := Scalar.indexCast v2414
  let c6_1202 : Index := 6#32
  ![v2415.toNat, 6]
def k0_mult135 (v2416 : BitVec 32) : BitVec 32 :=
  let c3_i32_1203 : BitVec 32 := 3#32
  let v2417 : BitVec 32 := Scalar.shrsi v2416 c3_i32_1203
  let c3_i32_1204 : BitVec 32 := 3#32
  let v2418 : BitVec 32 := Scalar.shli v2417 c3_i32_1204
  v2418

def k0_off270 (v2416 : BitVec 32) : Fin 2 → Nat :=
  let c3_i32_1203 : BitVec 32 := 3#32
  let v2417 : BitVec 32 := Scalar.shrsi v2416 c3_i32_1203
  let c3_i32_1204 : BitVec 32 := 3#32
  let v2418 : BitVec 32 := Scalar.shli v2417 c3_i32_1204
  let v2419 : BitVec 32 := v2418
  let v2420 : Index := Scalar.indexCast v2419
  let c0_1205 : Index := 0#32
  ![v2420.toNat, 0]

def k0_chk135 (v2416 : BitVec 32) : Prop :=
  (8 ∣ (k0_mult135 v2416).toNat) ∧
  (∀ a, (k0_off270 v2416) a + S8x128.size a ≤ S10000x128.size a)
theorem k0_mult135_dvd : ∀ (v2416 : BitVec 32) (k0_hw135 : k0_chk135 v2416), 8 ∣ (k0_mult135 v2416).toNat := fun v2416 k0_hw135 => k0_hw135.1
theorem k0_off270_inb : ∀ (v2416 : BitVec 32) (k0_hw135 : k0_chk135 v2416), ∀ a, (k0_off270 v2416) a + S8x128.size a ≤ S10000x128.size a := fun v2416 k0_hw135 => k0_hw135.2

def k0_off271 (i : grid0.Coords) : Fin 2 → Nat :=
  let arg0 : BitVec 32 := BitVec.ofNat 32 (i 0).val
  let c4_i32 : BitVec 32 := 4#32
  let v0 : BitVec 32 := Scalar.muli arg0 c4_i32
  let c1_i32_1210 : BitVec 32 := 1#32
  let v2432 : BitVec 32 := Scalar.addi v0 c1_i32_1210
  let v2433 : Index := Scalar.indexCast v2432
  let c7_1211 : Index := 7#32
  ![v2433.toNat, 7]
def k0_mult136 (v2434 : BitVec 32) : BitVec 32 :=
  let c3_i32_1212 : BitVec 32 := 3#32
  let v2435 : BitVec 32 := Scalar.shrsi v2434 c3_i32_1212
  let c3_i32_1213 : BitVec 32 := 3#32
  let v2436 : BitVec 32 := Scalar.shli v2435 c3_i32_1213
  v2436

def k0_off272 (v2434 : BitVec 32) : Fin 2 → Nat :=
  let c3_i32_1212 : BitVec 32 := 3#32
  let v2435 : BitVec 32 := Scalar.shrsi v2434 c3_i32_1212
  let c3_i32_1213 : BitVec 32 := 3#32
  let v2436 : BitVec 32 := Scalar.shli v2435 c3_i32_1213
  let v2437 : BitVec 32 := v2436
  let v2438 : Index := Scalar.indexCast v2437
  let c0_1214 : Index := 0#32
  ![v2438.toNat, 0]

def k0_chk136 (v2434 : BitVec 32) : Prop :=
  (8 ∣ (k0_mult136 v2434).toNat) ∧
  (∀ a, (k0_off272 v2434) a + S8x128.size a ≤ S10000x128.size a)
theorem k0_mult136_dvd : ∀ (v2434 : BitVec 32) (k0_hw136 : k0_chk136 v2434), 8 ∣ (k0_mult136 v2434).toNat := fun v2434 k0_hw136 => k0_hw136.1
theorem k0_off272_inb : ∀ (v2434 : BitVec 32) (k0_hw136 : k0_chk136 v2434), ∀ a, (k0_off272 v2434) a + S8x128.size a ≤ S10000x128.size a := fun v2434 k0_hw136 => k0_hw136.2

def k0_off273 (i : grid0.Coords) : Fin 2 → Nat :=
  let arg0 : BitVec 32 := BitVec.ofNat 32 (i 0).val
  let c4_i32 : BitVec 32 := 4#32
  let v0 : BitVec 32 := Scalar.muli arg0 c4_i32
  let c1_i32_1219 : BitVec 32 := 1#32
  let v2450 : BitVec 32 := Scalar.addi v0 c1_i32_1219
  let v2451 : Index := Scalar.indexCast v2450
  let c8_1220 : Index := 8#32
  ![v2451.toNat, 8]
def k0_mult137 (v2452 : BitVec 32) : BitVec 32 :=
  let c3_i32_1221 : BitVec 32 := 3#32
  let v2453 : BitVec 32 := Scalar.shrsi v2452 c3_i32_1221
  let c3_i32_1222 : BitVec 32 := 3#32
  let v2454 : BitVec 32 := Scalar.shli v2453 c3_i32_1222
  v2454

def k0_off274 (v2452 : BitVec 32) : Fin 2 → Nat :=
  let c3_i32_1221 : BitVec 32 := 3#32
  let v2453 : BitVec 32 := Scalar.shrsi v2452 c3_i32_1221
  let c3_i32_1222 : BitVec 32 := 3#32
  let v2454 : BitVec 32 := Scalar.shli v2453 c3_i32_1222
  let v2455 : BitVec 32 := v2454
  let v2456 : Index := Scalar.indexCast v2455
  let c0_1223 : Index := 0#32
  ![v2456.toNat, 0]

def k0_chk137 (v2452 : BitVec 32) : Prop :=
  (8 ∣ (k0_mult137 v2452).toNat) ∧
  (∀ a, (k0_off274 v2452) a + S8x128.size a ≤ S10000x128.size a)
theorem k0_mult137_dvd : ∀ (v2452 : BitVec 32) (k0_hw137 : k0_chk137 v2452), 8 ∣ (k0_mult137 v2452).toNat := fun v2452 k0_hw137 => k0_hw137.1
theorem k0_off274_inb : ∀ (v2452 : BitVec 32) (k0_hw137 : k0_chk137 v2452), ∀ a, (k0_off274 v2452) a + S8x128.size a ≤ S10000x128.size a := fun v2452 k0_hw137 => k0_hw137.2

def k0_off275 (i : grid0.Coords) : Fin 2 → Nat :=
  let arg0 : BitVec 32 := BitVec.ofNat 32 (i 0).val
  let c4_i32 : BitVec 32 := 4#32
  let v0 : BitVec 32 := Scalar.muli arg0 c4_i32
  let c1_i32_1228 : BitVec 32 := 1#32
  let v2468 : BitVec 32 := Scalar.addi v0 c1_i32_1228
  let v2469 : Index := Scalar.indexCast v2468
  let c9_1229 : Index := 9#32
  ![v2469.toNat, 9]
def k0_mult138 (v2470 : BitVec 32) : BitVec 32 :=
  let c3_i32_1230 : BitVec 32 := 3#32
  let v2471 : BitVec 32 := Scalar.shrsi v2470 c3_i32_1230
  let c3_i32_1231 : BitVec 32 := 3#32
  let v2472 : BitVec 32 := Scalar.shli v2471 c3_i32_1231
  v2472

def k0_off276 (v2470 : BitVec 32) : Fin 2 → Nat :=
  let c3_i32_1230 : BitVec 32 := 3#32
  let v2471 : BitVec 32 := Scalar.shrsi v2470 c3_i32_1230
  let c3_i32_1231 : BitVec 32 := 3#32
  let v2472 : BitVec 32 := Scalar.shli v2471 c3_i32_1231
  let v2473 : BitVec 32 := v2472
  let v2474 : Index := Scalar.indexCast v2473
  let c0_1232 : Index := 0#32
  ![v2474.toNat, 0]

def k0_chk138 (v2470 : BitVec 32) : Prop :=
  (8 ∣ (k0_mult138 v2470).toNat) ∧
  (∀ a, (k0_off276 v2470) a + S8x128.size a ≤ S10000x128.size a)
theorem k0_mult138_dvd : ∀ (v2470 : BitVec 32) (k0_hw138 : k0_chk138 v2470), 8 ∣ (k0_mult138 v2470).toNat := fun v2470 k0_hw138 => k0_hw138.1
theorem k0_off276_inb : ∀ (v2470 : BitVec 32) (k0_hw138 : k0_chk138 v2470), ∀ a, (k0_off276 v2470) a + S8x128.size a ≤ S10000x128.size a := fun v2470 k0_hw138 => k0_hw138.2

def k0_off277 (i : grid0.Coords) : Fin 2 → Nat :=
  let arg0 : BitVec 32 := BitVec.ofNat 32 (i 0).val
  let c4_i32 : BitVec 32 := 4#32
  let v0 : BitVec 32 := Scalar.muli arg0 c4_i32
  let c1_i32_1237 : BitVec 32 := 1#32
  let v2486 : BitVec 32 := Scalar.addi v0 c1_i32_1237
  let v2487 : Index := Scalar.indexCast v2486
  let c10_1238 : Index := 10#32
  ![v2487.toNat, 10]
def k0_mult139 (v2488 : BitVec 32) : BitVec 32 :=
  let c3_i32_1239 : BitVec 32 := 3#32
  let v2489 : BitVec 32 := Scalar.shrsi v2488 c3_i32_1239
  let c3_i32_1240 : BitVec 32 := 3#32
  let v2490 : BitVec 32 := Scalar.shli v2489 c3_i32_1240
  v2490

def k0_off278 (v2488 : BitVec 32) : Fin 2 → Nat :=
  let c3_i32_1239 : BitVec 32 := 3#32
  let v2489 : BitVec 32 := Scalar.shrsi v2488 c3_i32_1239
  let c3_i32_1240 : BitVec 32 := 3#32
  let v2490 : BitVec 32 := Scalar.shli v2489 c3_i32_1240
  let v2491 : BitVec 32 := v2490
  let v2492 : Index := Scalar.indexCast v2491
  let c0_1241 : Index := 0#32
  ![v2492.toNat, 0]

def k0_chk139 (v2488 : BitVec 32) : Prop :=
  (8 ∣ (k0_mult139 v2488).toNat) ∧
  (∀ a, (k0_off278 v2488) a + S8x128.size a ≤ S10000x128.size a)
theorem k0_mult139_dvd : ∀ (v2488 : BitVec 32) (k0_hw139 : k0_chk139 v2488), 8 ∣ (k0_mult139 v2488).toNat := fun v2488 k0_hw139 => k0_hw139.1
theorem k0_off278_inb : ∀ (v2488 : BitVec 32) (k0_hw139 : k0_chk139 v2488), ∀ a, (k0_off278 v2488) a + S8x128.size a ≤ S10000x128.size a := fun v2488 k0_hw139 => k0_hw139.2

def k0_off279 (i : grid0.Coords) : Fin 2 → Nat :=
  let arg0 : BitVec 32 := BitVec.ofNat 32 (i 0).val
  let c4_i32 : BitVec 32 := 4#32
  let v0 : BitVec 32 := Scalar.muli arg0 c4_i32
  let c1_i32_1246 : BitVec 32 := 1#32
  let v2504 : BitVec 32 := Scalar.addi v0 c1_i32_1246
  let v2505 : Index := Scalar.indexCast v2504
  let c11_1247 : Index := 11#32
  ![v2505.toNat, 11]
def k0_mult140 (v2506 : BitVec 32) : BitVec 32 :=
  let c3_i32_1248 : BitVec 32 := 3#32
  let v2507 : BitVec 32 := Scalar.shrsi v2506 c3_i32_1248
  let c3_i32_1249 : BitVec 32 := 3#32
  let v2508 : BitVec 32 := Scalar.shli v2507 c3_i32_1249
  v2508

def k0_off280 (v2506 : BitVec 32) : Fin 2 → Nat :=
  let c3_i32_1248 : BitVec 32 := 3#32
  let v2507 : BitVec 32 := Scalar.shrsi v2506 c3_i32_1248
  let c3_i32_1249 : BitVec 32 := 3#32
  let v2508 : BitVec 32 := Scalar.shli v2507 c3_i32_1249
  let v2509 : BitVec 32 := v2508
  let v2510 : Index := Scalar.indexCast v2509
  let c0_1250 : Index := 0#32
  ![v2510.toNat, 0]

def k0_chk140 (v2506 : BitVec 32) : Prop :=
  (8 ∣ (k0_mult140 v2506).toNat) ∧
  (∀ a, (k0_off280 v2506) a + S8x128.size a ≤ S10000x128.size a)
theorem k0_mult140_dvd : ∀ (v2506 : BitVec 32) (k0_hw140 : k0_chk140 v2506), 8 ∣ (k0_mult140 v2506).toNat := fun v2506 k0_hw140 => k0_hw140.1
theorem k0_off280_inb : ∀ (v2506 : BitVec 32) (k0_hw140 : k0_chk140 v2506), ∀ a, (k0_off280 v2506) a + S8x128.size a ≤ S10000x128.size a := fun v2506 k0_hw140 => k0_hw140.2

def k0_off281 (i : grid0.Coords) : Fin 2 → Nat :=
  let arg0 : BitVec 32 := BitVec.ofNat 32 (i 0).val
  let c4_i32 : BitVec 32 := 4#32
  let v0 : BitVec 32 := Scalar.muli arg0 c4_i32
  let c1_i32_1255 : BitVec 32 := 1#32
  let v2522 : BitVec 32 := Scalar.addi v0 c1_i32_1255
  let v2523 : Index := Scalar.indexCast v2522
  let c12_1256 : Index := 12#32
  ![v2523.toNat, 12]
def k0_mult141 (v2524 : BitVec 32) : BitVec 32 :=
  let c3_i32_1257 : BitVec 32 := 3#32
  let v2525 : BitVec 32 := Scalar.shrsi v2524 c3_i32_1257
  let c3_i32_1258 : BitVec 32 := 3#32
  let v2526 : BitVec 32 := Scalar.shli v2525 c3_i32_1258
  v2526

def k0_off282 (v2524 : BitVec 32) : Fin 2 → Nat :=
  let c3_i32_1257 : BitVec 32 := 3#32
  let v2525 : BitVec 32 := Scalar.shrsi v2524 c3_i32_1257
  let c3_i32_1258 : BitVec 32 := 3#32
  let v2526 : BitVec 32 := Scalar.shli v2525 c3_i32_1258
  let v2527 : BitVec 32 := v2526
  let v2528 : Index := Scalar.indexCast v2527
  let c0_1259 : Index := 0#32
  ![v2528.toNat, 0]

def k0_chk141 (v2524 : BitVec 32) : Prop :=
  (8 ∣ (k0_mult141 v2524).toNat) ∧
  (∀ a, (k0_off282 v2524) a + S8x128.size a ≤ S10000x128.size a)
theorem k0_mult141_dvd : ∀ (v2524 : BitVec 32) (k0_hw141 : k0_chk141 v2524), 8 ∣ (k0_mult141 v2524).toNat := fun v2524 k0_hw141 => k0_hw141.1
theorem k0_off282_inb : ∀ (v2524 : BitVec 32) (k0_hw141 : k0_chk141 v2524), ∀ a, (k0_off282 v2524) a + S8x128.size a ≤ S10000x128.size a := fun v2524 k0_hw141 => k0_hw141.2

def k0_off283 (i : grid0.Coords) : Fin 2 → Nat :=
  let arg0 : BitVec 32 := BitVec.ofNat 32 (i 0).val
  let c4_i32 : BitVec 32 := 4#32
  let v0 : BitVec 32 := Scalar.muli arg0 c4_i32
  let c1_i32_1264 : BitVec 32 := 1#32
  let v2540 : BitVec 32 := Scalar.addi v0 c1_i32_1264
  let v2541 : Index := Scalar.indexCast v2540
  let c13_1265 : Index := 13#32
  ![v2541.toNat, 13]
def k0_mult142 (v2542 : BitVec 32) : BitVec 32 :=
  let c3_i32_1266 : BitVec 32 := 3#32
  let v2543 : BitVec 32 := Scalar.shrsi v2542 c3_i32_1266
  let c3_i32_1267 : BitVec 32 := 3#32
  let v2544 : BitVec 32 := Scalar.shli v2543 c3_i32_1267
  v2544

def k0_off284 (v2542 : BitVec 32) : Fin 2 → Nat :=
  let c3_i32_1266 : BitVec 32 := 3#32
  let v2543 : BitVec 32 := Scalar.shrsi v2542 c3_i32_1266
  let c3_i32_1267 : BitVec 32 := 3#32
  let v2544 : BitVec 32 := Scalar.shli v2543 c3_i32_1267
  let v2545 : BitVec 32 := v2544
  let v2546 : Index := Scalar.indexCast v2545
  let c0_1268 : Index := 0#32
  ![v2546.toNat, 0]

def k0_chk142 (v2542 : BitVec 32) : Prop :=
  (8 ∣ (k0_mult142 v2542).toNat) ∧
  (∀ a, (k0_off284 v2542) a + S8x128.size a ≤ S10000x128.size a)
theorem k0_mult142_dvd : ∀ (v2542 : BitVec 32) (k0_hw142 : k0_chk142 v2542), 8 ∣ (k0_mult142 v2542).toNat := fun v2542 k0_hw142 => k0_hw142.1
theorem k0_off284_inb : ∀ (v2542 : BitVec 32) (k0_hw142 : k0_chk142 v2542), ∀ a, (k0_off284 v2542) a + S8x128.size a ≤ S10000x128.size a := fun v2542 k0_hw142 => k0_hw142.2

def k0_off285 (i : grid0.Coords) : Fin 2 → Nat :=
  let arg0 : BitVec 32 := BitVec.ofNat 32 (i 0).val
  let c4_i32 : BitVec 32 := 4#32
  let v0 : BitVec 32 := Scalar.muli arg0 c4_i32
  let c1_i32_1273 : BitVec 32 := 1#32
  let v2558 : BitVec 32 := Scalar.addi v0 c1_i32_1273
  let v2559 : Index := Scalar.indexCast v2558
  let c14_1274 : Index := 14#32
  ![v2559.toNat, 14]
def k0_mult143 (v2560 : BitVec 32) : BitVec 32 :=
  let c3_i32_1275 : BitVec 32 := 3#32
  let v2561 : BitVec 32 := Scalar.shrsi v2560 c3_i32_1275
  let c3_i32_1276 : BitVec 32 := 3#32
  let v2562 : BitVec 32 := Scalar.shli v2561 c3_i32_1276
  v2562

def k0_off286 (v2560 : BitVec 32) : Fin 2 → Nat :=
  let c3_i32_1275 : BitVec 32 := 3#32
  let v2561 : BitVec 32 := Scalar.shrsi v2560 c3_i32_1275
  let c3_i32_1276 : BitVec 32 := 3#32
  let v2562 : BitVec 32 := Scalar.shli v2561 c3_i32_1276
  let v2563 : BitVec 32 := v2562
  let v2564 : Index := Scalar.indexCast v2563
  let c0_1277 : Index := 0#32
  ![v2564.toNat, 0]

def k0_chk143 (v2560 : BitVec 32) : Prop :=
  (8 ∣ (k0_mult143 v2560).toNat) ∧
  (∀ a, (k0_off286 v2560) a + S8x128.size a ≤ S10000x128.size a)
theorem k0_mult143_dvd : ∀ (v2560 : BitVec 32) (k0_hw143 : k0_chk143 v2560), 8 ∣ (k0_mult143 v2560).toNat := fun v2560 k0_hw143 => k0_hw143.1
theorem k0_off286_inb : ∀ (v2560 : BitVec 32) (k0_hw143 : k0_chk143 v2560), ∀ a, (k0_off286 v2560) a + S8x128.size a ≤ S10000x128.size a := fun v2560 k0_hw143 => k0_hw143.2

def k0_off287 (i : grid0.Coords) : Fin 2 → Nat :=
  let arg0 : BitVec 32 := BitVec.ofNat 32 (i 0).val
  let c4_i32 : BitVec 32 := 4#32
  let v0 : BitVec 32 := Scalar.muli arg0 c4_i32
  let c1_i32_1282 : BitVec 32 := 1#32
  let v2576 : BitVec 32 := Scalar.addi v0 c1_i32_1282
  let v2577 : Index := Scalar.indexCast v2576
  let c15_1283 : Index := 15#32
  ![v2577.toNat, 15]
def k0_mult144 (v2578 : BitVec 32) : BitVec 32 :=
  let c3_i32_1284 : BitVec 32 := 3#32
  let v2579 : BitVec 32 := Scalar.shrsi v2578 c3_i32_1284
  let c3_i32_1285 : BitVec 32 := 3#32
  let v2580 : BitVec 32 := Scalar.shli v2579 c3_i32_1285
  v2580

def k0_off288 (v2578 : BitVec 32) : Fin 2 → Nat :=
  let c3_i32_1284 : BitVec 32 := 3#32
  let v2579 : BitVec 32 := Scalar.shrsi v2578 c3_i32_1284
  let c3_i32_1285 : BitVec 32 := 3#32
  let v2580 : BitVec 32 := Scalar.shli v2579 c3_i32_1285
  let v2581 : BitVec 32 := v2580
  let v2582 : Index := Scalar.indexCast v2581
  let c0_1286 : Index := 0#32
  ![v2582.toNat, 0]

def k0_chk144 (v2578 : BitVec 32) : Prop :=
  (8 ∣ (k0_mult144 v2578).toNat) ∧
  (∀ a, (k0_off288 v2578) a + S8x128.size a ≤ S10000x128.size a)
theorem k0_mult144_dvd : ∀ (v2578 : BitVec 32) (k0_hw144 : k0_chk144 v2578), 8 ∣ (k0_mult144 v2578).toNat := fun v2578 k0_hw144 => k0_hw144.1
theorem k0_off288_inb : ∀ (v2578 : BitVec 32) (k0_hw144 : k0_chk144 v2578), ∀ a, (k0_off288 v2578) a + S8x128.size a ≤ S10000x128.size a := fun v2578 k0_hw144 => k0_hw144.2

def k0_off289 (i : grid0.Coords) : Fin 2 → Nat :=
  let arg0 : BitVec 32 := BitVec.ofNat 32 (i 0).val
  let c4_i32 : BitVec 32 := 4#32
  let v0 : BitVec 32 := Scalar.muli arg0 c4_i32
  let c1_i32_1291 : BitVec 32 := 1#32
  let v2594 : BitVec 32 := Scalar.addi v0 c1_i32_1291
  let v2595 : Index := Scalar.indexCast v2594
  let c16_1292 : Index := 16#32
  ![v2595.toNat, 16]
def k0_mult145 (v2596 : BitVec 32) : BitVec 32 :=
  let c3_i32_1293 : BitVec 32 := 3#32
  let v2597 : BitVec 32 := Scalar.shrsi v2596 c3_i32_1293
  let c3_i32_1294 : BitVec 32 := 3#32
  let v2598 : BitVec 32 := Scalar.shli v2597 c3_i32_1294
  v2598

def k0_off290 (v2596 : BitVec 32) : Fin 2 → Nat :=
  let c3_i32_1293 : BitVec 32 := 3#32
  let v2597 : BitVec 32 := Scalar.shrsi v2596 c3_i32_1293
  let c3_i32_1294 : BitVec 32 := 3#32
  let v2598 : BitVec 32 := Scalar.shli v2597 c3_i32_1294
  let v2599 : BitVec 32 := v2598
  let v2600 : Index := Scalar.indexCast v2599
  let c0_1295 : Index := 0#32
  ![v2600.toNat, 0]

def k0_chk145 (v2596 : BitVec 32) : Prop :=
  (8 ∣ (k0_mult145 v2596).toNat) ∧
  (∀ a, (k0_off290 v2596) a + S8x128.size a ≤ S10000x128.size a)
theorem k0_mult145_dvd : ∀ (v2596 : BitVec 32) (k0_hw145 : k0_chk145 v2596), 8 ∣ (k0_mult145 v2596).toNat := fun v2596 k0_hw145 => k0_hw145.1
theorem k0_off290_inb : ∀ (v2596 : BitVec 32) (k0_hw145 : k0_chk145 v2596), ∀ a, (k0_off290 v2596) a + S8x128.size a ≤ S10000x128.size a := fun v2596 k0_hw145 => k0_hw145.2

def k0_off291 (i : grid0.Coords) : Fin 2 → Nat :=
  let arg0 : BitVec 32 := BitVec.ofNat 32 (i 0).val
  let c4_i32 : BitVec 32 := 4#32
  let v0 : BitVec 32 := Scalar.muli arg0 c4_i32
  let c1_i32_1300 : BitVec 32 := 1#32
  let v2612 : BitVec 32 := Scalar.addi v0 c1_i32_1300
  let v2613 : Index := Scalar.indexCast v2612
  let c17_1301 : Index := 17#32
  ![v2613.toNat, 17]
def k0_mult146 (v2614 : BitVec 32) : BitVec 32 :=
  let c3_i32_1302 : BitVec 32 := 3#32
  let v2615 : BitVec 32 := Scalar.shrsi v2614 c3_i32_1302
  let c3_i32_1303 : BitVec 32 := 3#32
  let v2616 : BitVec 32 := Scalar.shli v2615 c3_i32_1303
  v2616

def k0_off292 (v2614 : BitVec 32) : Fin 2 → Nat :=
  let c3_i32_1302 : BitVec 32 := 3#32
  let v2615 : BitVec 32 := Scalar.shrsi v2614 c3_i32_1302
  let c3_i32_1303 : BitVec 32 := 3#32
  let v2616 : BitVec 32 := Scalar.shli v2615 c3_i32_1303
  let v2617 : BitVec 32 := v2616
  let v2618 : Index := Scalar.indexCast v2617
  let c0_1304 : Index := 0#32
  ![v2618.toNat, 0]

def k0_chk146 (v2614 : BitVec 32) : Prop :=
  (8 ∣ (k0_mult146 v2614).toNat) ∧
  (∀ a, (k0_off292 v2614) a + S8x128.size a ≤ S10000x128.size a)
theorem k0_mult146_dvd : ∀ (v2614 : BitVec 32) (k0_hw146 : k0_chk146 v2614), 8 ∣ (k0_mult146 v2614).toNat := fun v2614 k0_hw146 => k0_hw146.1
theorem k0_off292_inb : ∀ (v2614 : BitVec 32) (k0_hw146 : k0_chk146 v2614), ∀ a, (k0_off292 v2614) a + S8x128.size a ≤ S10000x128.size a := fun v2614 k0_hw146 => k0_hw146.2

def k0_off293 (i : grid0.Coords) : Fin 2 → Nat :=
  let arg0 : BitVec 32 := BitVec.ofNat 32 (i 0).val
  let c4_i32 : BitVec 32 := 4#32
  let v0 : BitVec 32 := Scalar.muli arg0 c4_i32
  let c1_i32_1309 : BitVec 32 := 1#32
  let v2630 : BitVec 32 := Scalar.addi v0 c1_i32_1309
  let v2631 : Index := Scalar.indexCast v2630
  let c18_1310 : Index := 18#32
  ![v2631.toNat, 18]
def k0_mult147 (v2632 : BitVec 32) : BitVec 32 :=
  let c3_i32_1311 : BitVec 32 := 3#32
  let v2633 : BitVec 32 := Scalar.shrsi v2632 c3_i32_1311
  let c3_i32_1312 : BitVec 32 := 3#32
  let v2634 : BitVec 32 := Scalar.shli v2633 c3_i32_1312
  v2634

def k0_off294 (v2632 : BitVec 32) : Fin 2 → Nat :=
  let c3_i32_1311 : BitVec 32 := 3#32
  let v2633 : BitVec 32 := Scalar.shrsi v2632 c3_i32_1311
  let c3_i32_1312 : BitVec 32 := 3#32
  let v2634 : BitVec 32 := Scalar.shli v2633 c3_i32_1312
  let v2635 : BitVec 32 := v2634
  let v2636 : Index := Scalar.indexCast v2635
  let c0_1313 : Index := 0#32
  ![v2636.toNat, 0]

def k0_chk147 (v2632 : BitVec 32) : Prop :=
  (8 ∣ (k0_mult147 v2632).toNat) ∧
  (∀ a, (k0_off294 v2632) a + S8x128.size a ≤ S10000x128.size a)
theorem k0_mult147_dvd : ∀ (v2632 : BitVec 32) (k0_hw147 : k0_chk147 v2632), 8 ∣ (k0_mult147 v2632).toNat := fun v2632 k0_hw147 => k0_hw147.1
theorem k0_off294_inb : ∀ (v2632 : BitVec 32) (k0_hw147 : k0_chk147 v2632), ∀ a, (k0_off294 v2632) a + S8x128.size a ≤ S10000x128.size a := fun v2632 k0_hw147 => k0_hw147.2

def k0_off295 (i : grid0.Coords) : Fin 2 → Nat :=
  let arg0 : BitVec 32 := BitVec.ofNat 32 (i 0).val
  let c4_i32 : BitVec 32 := 4#32
  let v0 : BitVec 32 := Scalar.muli arg0 c4_i32
  let c1_i32_1318 : BitVec 32 := 1#32
  let v2648 : BitVec 32 := Scalar.addi v0 c1_i32_1318
  let v2649 : Index := Scalar.indexCast v2648
  let c19_1319 : Index := 19#32
  ![v2649.toNat, 19]
def k0_mult148 (v2650 : BitVec 32) : BitVec 32 :=
  let c3_i32_1320 : BitVec 32 := 3#32
  let v2651 : BitVec 32 := Scalar.shrsi v2650 c3_i32_1320
  let c3_i32_1321 : BitVec 32 := 3#32
  let v2652 : BitVec 32 := Scalar.shli v2651 c3_i32_1321
  v2652

def k0_off296 (v2650 : BitVec 32) : Fin 2 → Nat :=
  let c3_i32_1320 : BitVec 32 := 3#32
  let v2651 : BitVec 32 := Scalar.shrsi v2650 c3_i32_1320
  let c3_i32_1321 : BitVec 32 := 3#32
  let v2652 : BitVec 32 := Scalar.shli v2651 c3_i32_1321
  let v2653 : BitVec 32 := v2652
  let v2654 : Index := Scalar.indexCast v2653
  let c0_1322 : Index := 0#32
  ![v2654.toNat, 0]

def k0_chk148 (v2650 : BitVec 32) : Prop :=
  (8 ∣ (k0_mult148 v2650).toNat) ∧
  (∀ a, (k0_off296 v2650) a + S8x128.size a ≤ S10000x128.size a)
theorem k0_mult148_dvd : ∀ (v2650 : BitVec 32) (k0_hw148 : k0_chk148 v2650), 8 ∣ (k0_mult148 v2650).toNat := fun v2650 k0_hw148 => k0_hw148.1
theorem k0_off296_inb : ∀ (v2650 : BitVec 32) (k0_hw148 : k0_chk148 v2650), ∀ a, (k0_off296 v2650) a + S8x128.size a ≤ S10000x128.size a := fun v2650 k0_hw148 => k0_hw148.2

def k0_off297 (i : grid0.Coords) : Fin 2 → Nat :=
  let arg0 : BitVec 32 := BitVec.ofNat 32 (i 0).val
  let c4_i32 : BitVec 32 := 4#32
  let v0 : BitVec 32 := Scalar.muli arg0 c4_i32
  let c1_i32_1327 : BitVec 32 := 1#32
  let v2666 : BitVec 32 := Scalar.addi v0 c1_i32_1327
  let v2667 : Index := Scalar.indexCast v2666
  let c20_1328 : Index := 20#32
  ![v2667.toNat, 20]
def k0_mult149 (v2668 : BitVec 32) : BitVec 32 :=
  let c3_i32_1329 : BitVec 32 := 3#32
  let v2669 : BitVec 32 := Scalar.shrsi v2668 c3_i32_1329
  let c3_i32_1330 : BitVec 32 := 3#32
  let v2670 : BitVec 32 := Scalar.shli v2669 c3_i32_1330
  v2670

def k0_off298 (v2668 : BitVec 32) : Fin 2 → Nat :=
  let c3_i32_1329 : BitVec 32 := 3#32
  let v2669 : BitVec 32 := Scalar.shrsi v2668 c3_i32_1329
  let c3_i32_1330 : BitVec 32 := 3#32
  let v2670 : BitVec 32 := Scalar.shli v2669 c3_i32_1330
  let v2671 : BitVec 32 := v2670
  let v2672 : Index := Scalar.indexCast v2671
  let c0_1331 : Index := 0#32
  ![v2672.toNat, 0]

def k0_chk149 (v2668 : BitVec 32) : Prop :=
  (8 ∣ (k0_mult149 v2668).toNat) ∧
  (∀ a, (k0_off298 v2668) a + S8x128.size a ≤ S10000x128.size a)
theorem k0_mult149_dvd : ∀ (v2668 : BitVec 32) (k0_hw149 : k0_chk149 v2668), 8 ∣ (k0_mult149 v2668).toNat := fun v2668 k0_hw149 => k0_hw149.1
theorem k0_off298_inb : ∀ (v2668 : BitVec 32) (k0_hw149 : k0_chk149 v2668), ∀ a, (k0_off298 v2668) a + S8x128.size a ≤ S10000x128.size a := fun v2668 k0_hw149 => k0_hw149.2

def k0_off299 (i : grid0.Coords) : Fin 2 → Nat :=
  let arg0 : BitVec 32 := BitVec.ofNat 32 (i 0).val
  let c4_i32 : BitVec 32 := 4#32
  let v0 : BitVec 32 := Scalar.muli arg0 c4_i32
  let c1_i32_1336 : BitVec 32 := 1#32
  let v2684 : BitVec 32 := Scalar.addi v0 c1_i32_1336
  let v2685 : Index := Scalar.indexCast v2684
  let c21_1337 : Index := 21#32
  ![v2685.toNat, 21]
def k0_mult150 (v2686 : BitVec 32) : BitVec 32 :=
  let c3_i32_1338 : BitVec 32 := 3#32
  let v2687 : BitVec 32 := Scalar.shrsi v2686 c3_i32_1338
  let c3_i32_1339 : BitVec 32 := 3#32
  let v2688 : BitVec 32 := Scalar.shli v2687 c3_i32_1339
  v2688

def k0_off300 (v2686 : BitVec 32) : Fin 2 → Nat :=
  let c3_i32_1338 : BitVec 32 := 3#32
  let v2687 : BitVec 32 := Scalar.shrsi v2686 c3_i32_1338
  let c3_i32_1339 : BitVec 32 := 3#32
  let v2688 : BitVec 32 := Scalar.shli v2687 c3_i32_1339
  let v2689 : BitVec 32 := v2688
  let v2690 : Index := Scalar.indexCast v2689
  let c0_1340 : Index := 0#32
  ![v2690.toNat, 0]

def k0_chk150 (v2686 : BitVec 32) : Prop :=
  (8 ∣ (k0_mult150 v2686).toNat) ∧
  (∀ a, (k0_off300 v2686) a + S8x128.size a ≤ S10000x128.size a)
theorem k0_mult150_dvd : ∀ (v2686 : BitVec 32) (k0_hw150 : k0_chk150 v2686), 8 ∣ (k0_mult150 v2686).toNat := fun v2686 k0_hw150 => k0_hw150.1
theorem k0_off300_inb : ∀ (v2686 : BitVec 32) (k0_hw150 : k0_chk150 v2686), ∀ a, (k0_off300 v2686) a + S8x128.size a ≤ S10000x128.size a := fun v2686 k0_hw150 => k0_hw150.2

def k0_off301 (i : grid0.Coords) : Fin 2 → Nat :=
  let arg0 : BitVec 32 := BitVec.ofNat 32 (i 0).val
  let c4_i32 : BitVec 32 := 4#32
  let v0 : BitVec 32 := Scalar.muli arg0 c4_i32
  let c1_i32_1345 : BitVec 32 := 1#32
  let v2702 : BitVec 32 := Scalar.addi v0 c1_i32_1345
  let v2703 : Index := Scalar.indexCast v2702
  let c22_1346 : Index := 22#32
  ![v2703.toNat, 22]
def k0_mult151 (v2704 : BitVec 32) : BitVec 32 :=
  let c3_i32_1347 : BitVec 32 := 3#32
  let v2705 : BitVec 32 := Scalar.shrsi v2704 c3_i32_1347
  let c3_i32_1348 : BitVec 32 := 3#32
  let v2706 : BitVec 32 := Scalar.shli v2705 c3_i32_1348
  v2706

def k0_off302 (v2704 : BitVec 32) : Fin 2 → Nat :=
  let c3_i32_1347 : BitVec 32 := 3#32
  let v2705 : BitVec 32 := Scalar.shrsi v2704 c3_i32_1347
  let c3_i32_1348 : BitVec 32 := 3#32
  let v2706 : BitVec 32 := Scalar.shli v2705 c3_i32_1348
  let v2707 : BitVec 32 := v2706
  let v2708 : Index := Scalar.indexCast v2707
  let c0_1349 : Index := 0#32
  ![v2708.toNat, 0]

def k0_chk151 (v2704 : BitVec 32) : Prop :=
  (8 ∣ (k0_mult151 v2704).toNat) ∧
  (∀ a, (k0_off302 v2704) a + S8x128.size a ≤ S10000x128.size a)
theorem k0_mult151_dvd : ∀ (v2704 : BitVec 32) (k0_hw151 : k0_chk151 v2704), 8 ∣ (k0_mult151 v2704).toNat := fun v2704 k0_hw151 => k0_hw151.1
theorem k0_off302_inb : ∀ (v2704 : BitVec 32) (k0_hw151 : k0_chk151 v2704), ∀ a, (k0_off302 v2704) a + S8x128.size a ≤ S10000x128.size a := fun v2704 k0_hw151 => k0_hw151.2

def k0_off303 (i : grid0.Coords) : Fin 2 → Nat :=
  let arg0 : BitVec 32 := BitVec.ofNat 32 (i 0).val
  let c4_i32 : BitVec 32 := 4#32
  let v0 : BitVec 32 := Scalar.muli arg0 c4_i32
  let c1_i32_1354 : BitVec 32 := 1#32
  let v2720 : BitVec 32 := Scalar.addi v0 c1_i32_1354
  let v2721 : Index := Scalar.indexCast v2720
  let c23_1355 : Index := 23#32
  ![v2721.toNat, 23]
def k0_mult152 (v2722 : BitVec 32) : BitVec 32 :=
  let c3_i32_1356 : BitVec 32 := 3#32
  let v2723 : BitVec 32 := Scalar.shrsi v2722 c3_i32_1356
  let c3_i32_1357 : BitVec 32 := 3#32
  let v2724 : BitVec 32 := Scalar.shli v2723 c3_i32_1357
  v2724

def k0_off304 (v2722 : BitVec 32) : Fin 2 → Nat :=
  let c3_i32_1356 : BitVec 32 := 3#32
  let v2723 : BitVec 32 := Scalar.shrsi v2722 c3_i32_1356
  let c3_i32_1357 : BitVec 32 := 3#32
  let v2724 : BitVec 32 := Scalar.shli v2723 c3_i32_1357
  let v2725 : BitVec 32 := v2724
  let v2726 : Index := Scalar.indexCast v2725
  let c0_1358 : Index := 0#32
  ![v2726.toNat, 0]

def k0_chk152 (v2722 : BitVec 32) : Prop :=
  (8 ∣ (k0_mult152 v2722).toNat) ∧
  (∀ a, (k0_off304 v2722) a + S8x128.size a ≤ S10000x128.size a)
theorem k0_mult152_dvd : ∀ (v2722 : BitVec 32) (k0_hw152 : k0_chk152 v2722), 8 ∣ (k0_mult152 v2722).toNat := fun v2722 k0_hw152 => k0_hw152.1
theorem k0_off304_inb : ∀ (v2722 : BitVec 32) (k0_hw152 : k0_chk152 v2722), ∀ a, (k0_off304 v2722) a + S8x128.size a ≤ S10000x128.size a := fun v2722 k0_hw152 => k0_hw152.2

def k0_off305 (i : grid0.Coords) : Fin 2 → Nat :=
  let arg0 : BitVec 32 := BitVec.ofNat 32 (i 0).val
  let c4_i32 : BitVec 32 := 4#32
  let v0 : BitVec 32 := Scalar.muli arg0 c4_i32
  let c1_i32_1363 : BitVec 32 := 1#32
  let v2738 : BitVec 32 := Scalar.addi v0 c1_i32_1363
  let v2739 : Index := Scalar.indexCast v2738
  let c24_1364 : Index := 24#32
  ![v2739.toNat, 24]
def k0_mult153 (v2740 : BitVec 32) : BitVec 32 :=
  let c3_i32_1365 : BitVec 32 := 3#32
  let v2741 : BitVec 32 := Scalar.shrsi v2740 c3_i32_1365
  let c3_i32_1366 : BitVec 32 := 3#32
  let v2742 : BitVec 32 := Scalar.shli v2741 c3_i32_1366
  v2742

def k0_off306 (v2740 : BitVec 32) : Fin 2 → Nat :=
  let c3_i32_1365 : BitVec 32 := 3#32
  let v2741 : BitVec 32 := Scalar.shrsi v2740 c3_i32_1365
  let c3_i32_1366 : BitVec 32 := 3#32
  let v2742 : BitVec 32 := Scalar.shli v2741 c3_i32_1366
  let v2743 : BitVec 32 := v2742
  let v2744 : Index := Scalar.indexCast v2743
  let c0_1367 : Index := 0#32
  ![v2744.toNat, 0]

def k0_chk153 (v2740 : BitVec 32) : Prop :=
  (8 ∣ (k0_mult153 v2740).toNat) ∧
  (∀ a, (k0_off306 v2740) a + S8x128.size a ≤ S10000x128.size a)
theorem k0_mult153_dvd : ∀ (v2740 : BitVec 32) (k0_hw153 : k0_chk153 v2740), 8 ∣ (k0_mult153 v2740).toNat := fun v2740 k0_hw153 => k0_hw153.1
theorem k0_off306_inb : ∀ (v2740 : BitVec 32) (k0_hw153 : k0_chk153 v2740), ∀ a, (k0_off306 v2740) a + S8x128.size a ≤ S10000x128.size a := fun v2740 k0_hw153 => k0_hw153.2

def k0_off307 (i : grid0.Coords) : Fin 2 → Nat :=
  let arg0 : BitVec 32 := BitVec.ofNat 32 (i 0).val
  let c4_i32 : BitVec 32 := 4#32
  let v0 : BitVec 32 := Scalar.muli arg0 c4_i32
  let c1_i32_1372 : BitVec 32 := 1#32
  let v2756 : BitVec 32 := Scalar.addi v0 c1_i32_1372
  let v2757 : Index := Scalar.indexCast v2756
  let c25_1373 : Index := 25#32
  ![v2757.toNat, 25]
def k0_mult154 (v2758 : BitVec 32) : BitVec 32 :=
  let c3_i32_1374 : BitVec 32 := 3#32
  let v2759 : BitVec 32 := Scalar.shrsi v2758 c3_i32_1374
  let c3_i32_1375 : BitVec 32 := 3#32
  let v2760 : BitVec 32 := Scalar.shli v2759 c3_i32_1375
  v2760

def k0_off308 (v2758 : BitVec 32) : Fin 2 → Nat :=
  let c3_i32_1374 : BitVec 32 := 3#32
  let v2759 : BitVec 32 := Scalar.shrsi v2758 c3_i32_1374
  let c3_i32_1375 : BitVec 32 := 3#32
  let v2760 : BitVec 32 := Scalar.shli v2759 c3_i32_1375
  let v2761 : BitVec 32 := v2760
  let v2762 : Index := Scalar.indexCast v2761
  let c0_1376 : Index := 0#32
  ![v2762.toNat, 0]

def k0_chk154 (v2758 : BitVec 32) : Prop :=
  (8 ∣ (k0_mult154 v2758).toNat) ∧
  (∀ a, (k0_off308 v2758) a + S8x128.size a ≤ S10000x128.size a)
theorem k0_mult154_dvd : ∀ (v2758 : BitVec 32) (k0_hw154 : k0_chk154 v2758), 8 ∣ (k0_mult154 v2758).toNat := fun v2758 k0_hw154 => k0_hw154.1
theorem k0_off308_inb : ∀ (v2758 : BitVec 32) (k0_hw154 : k0_chk154 v2758), ∀ a, (k0_off308 v2758) a + S8x128.size a ≤ S10000x128.size a := fun v2758 k0_hw154 => k0_hw154.2

def k0_off309 (i : grid0.Coords) : Fin 2 → Nat :=
  let arg0 : BitVec 32 := BitVec.ofNat 32 (i 0).val
  let c4_i32 : BitVec 32 := 4#32
  let v0 : BitVec 32 := Scalar.muli arg0 c4_i32
  let c1_i32_1381 : BitVec 32 := 1#32
  let v2774 : BitVec 32 := Scalar.addi v0 c1_i32_1381
  let v2775 : Index := Scalar.indexCast v2774
  let c26_1382 : Index := 26#32
  ![v2775.toNat, 26]
def k0_mult155 (v2776 : BitVec 32) : BitVec 32 :=
  let c3_i32_1383 : BitVec 32 := 3#32
  let v2777 : BitVec 32 := Scalar.shrsi v2776 c3_i32_1383
  let c3_i32_1384 : BitVec 32 := 3#32
  let v2778 : BitVec 32 := Scalar.shli v2777 c3_i32_1384
  v2778

def k0_off310 (v2776 : BitVec 32) : Fin 2 → Nat :=
  let c3_i32_1383 : BitVec 32 := 3#32
  let v2777 : BitVec 32 := Scalar.shrsi v2776 c3_i32_1383
  let c3_i32_1384 : BitVec 32 := 3#32
  let v2778 : BitVec 32 := Scalar.shli v2777 c3_i32_1384
  let v2779 : BitVec 32 := v2778
  let v2780 : Index := Scalar.indexCast v2779
  let c0_1385 : Index := 0#32
  ![v2780.toNat, 0]

def k0_chk155 (v2776 : BitVec 32) : Prop :=
  (8 ∣ (k0_mult155 v2776).toNat) ∧
  (∀ a, (k0_off310 v2776) a + S8x128.size a ≤ S10000x128.size a)
theorem k0_mult155_dvd : ∀ (v2776 : BitVec 32) (k0_hw155 : k0_chk155 v2776), 8 ∣ (k0_mult155 v2776).toNat := fun v2776 k0_hw155 => k0_hw155.1
theorem k0_off310_inb : ∀ (v2776 : BitVec 32) (k0_hw155 : k0_chk155 v2776), ∀ a, (k0_off310 v2776) a + S8x128.size a ≤ S10000x128.size a := fun v2776 k0_hw155 => k0_hw155.2

def k0_off311 (i : grid0.Coords) : Fin 2 → Nat :=
  let arg0 : BitVec 32 := BitVec.ofNat 32 (i 0).val
  let c4_i32 : BitVec 32 := 4#32
  let v0 : BitVec 32 := Scalar.muli arg0 c4_i32
  let c1_i32_1390 : BitVec 32 := 1#32
  let v2792 : BitVec 32 := Scalar.addi v0 c1_i32_1390
  let v2793 : Index := Scalar.indexCast v2792
  let c27_1391 : Index := 27#32
  ![v2793.toNat, 27]
def k0_mult156 (v2794 : BitVec 32) : BitVec 32 :=
  let c3_i32_1392 : BitVec 32 := 3#32
  let v2795 : BitVec 32 := Scalar.shrsi v2794 c3_i32_1392
  let c3_i32_1393 : BitVec 32 := 3#32
  let v2796 : BitVec 32 := Scalar.shli v2795 c3_i32_1393
  v2796

def k0_off312 (v2794 : BitVec 32) : Fin 2 → Nat :=
  let c3_i32_1392 : BitVec 32 := 3#32
  let v2795 : BitVec 32 := Scalar.shrsi v2794 c3_i32_1392
  let c3_i32_1393 : BitVec 32 := 3#32
  let v2796 : BitVec 32 := Scalar.shli v2795 c3_i32_1393
  let v2797 : BitVec 32 := v2796
  let v2798 : Index := Scalar.indexCast v2797
  let c0_1394 : Index := 0#32
  ![v2798.toNat, 0]

def k0_chk156 (v2794 : BitVec 32) : Prop :=
  (8 ∣ (k0_mult156 v2794).toNat) ∧
  (∀ a, (k0_off312 v2794) a + S8x128.size a ≤ S10000x128.size a)
theorem k0_mult156_dvd : ∀ (v2794 : BitVec 32) (k0_hw156 : k0_chk156 v2794), 8 ∣ (k0_mult156 v2794).toNat := fun v2794 k0_hw156 => k0_hw156.1
theorem k0_off312_inb : ∀ (v2794 : BitVec 32) (k0_hw156 : k0_chk156 v2794), ∀ a, (k0_off312 v2794) a + S8x128.size a ≤ S10000x128.size a := fun v2794 k0_hw156 => k0_hw156.2

def k0_off313 (i : grid0.Coords) : Fin 2 → Nat :=
  let arg0 : BitVec 32 := BitVec.ofNat 32 (i 0).val
  let c4_i32 : BitVec 32 := 4#32
  let v0 : BitVec 32 := Scalar.muli arg0 c4_i32
  let c1_i32_1399 : BitVec 32 := 1#32
  let v2810 : BitVec 32 := Scalar.addi v0 c1_i32_1399
  let v2811 : Index := Scalar.indexCast v2810
  let c28_1400 : Index := 28#32
  ![v2811.toNat, 28]
def k0_mult157 (v2812 : BitVec 32) : BitVec 32 :=
  let c3_i32_1401 : BitVec 32 := 3#32
  let v2813 : BitVec 32 := Scalar.shrsi v2812 c3_i32_1401
  let c3_i32_1402 : BitVec 32 := 3#32
  let v2814 : BitVec 32 := Scalar.shli v2813 c3_i32_1402
  v2814

def k0_off314 (v2812 : BitVec 32) : Fin 2 → Nat :=
  let c3_i32_1401 : BitVec 32 := 3#32
  let v2813 : BitVec 32 := Scalar.shrsi v2812 c3_i32_1401
  let c3_i32_1402 : BitVec 32 := 3#32
  let v2814 : BitVec 32 := Scalar.shli v2813 c3_i32_1402
  let v2815 : BitVec 32 := v2814
  let v2816 : Index := Scalar.indexCast v2815
  let c0_1403 : Index := 0#32
  ![v2816.toNat, 0]

def k0_chk157 (v2812 : BitVec 32) : Prop :=
  (8 ∣ (k0_mult157 v2812).toNat) ∧
  (∀ a, (k0_off314 v2812) a + S8x128.size a ≤ S10000x128.size a)
theorem k0_mult157_dvd : ∀ (v2812 : BitVec 32) (k0_hw157 : k0_chk157 v2812), 8 ∣ (k0_mult157 v2812).toNat := fun v2812 k0_hw157 => k0_hw157.1
theorem k0_off314_inb : ∀ (v2812 : BitVec 32) (k0_hw157 : k0_chk157 v2812), ∀ a, (k0_off314 v2812) a + S8x128.size a ≤ S10000x128.size a := fun v2812 k0_hw157 => k0_hw157.2

def k0_off315 (i : grid0.Coords) : Fin 2 → Nat :=
  let arg0 : BitVec 32 := BitVec.ofNat 32 (i 0).val
  let c4_i32 : BitVec 32 := 4#32
  let v0 : BitVec 32 := Scalar.muli arg0 c4_i32
  let c1_i32_1408 : BitVec 32 := 1#32
  let v2828 : BitVec 32 := Scalar.addi v0 c1_i32_1408
  let v2829 : Index := Scalar.indexCast v2828
  let c29_1409 : Index := 29#32
  ![v2829.toNat, 29]
def k0_mult158 (v2830 : BitVec 32) : BitVec 32 :=
  let c3_i32_1410 : BitVec 32 := 3#32
  let v2831 : BitVec 32 := Scalar.shrsi v2830 c3_i32_1410
  let c3_i32_1411 : BitVec 32 := 3#32
  let v2832 : BitVec 32 := Scalar.shli v2831 c3_i32_1411
  v2832

def k0_off316 (v2830 : BitVec 32) : Fin 2 → Nat :=
  let c3_i32_1410 : BitVec 32 := 3#32
  let v2831 : BitVec 32 := Scalar.shrsi v2830 c3_i32_1410
  let c3_i32_1411 : BitVec 32 := 3#32
  let v2832 : BitVec 32 := Scalar.shli v2831 c3_i32_1411
  let v2833 : BitVec 32 := v2832
  let v2834 : Index := Scalar.indexCast v2833
  let c0_1412 : Index := 0#32
  ![v2834.toNat, 0]

def k0_chk158 (v2830 : BitVec 32) : Prop :=
  (8 ∣ (k0_mult158 v2830).toNat) ∧
  (∀ a, (k0_off316 v2830) a + S8x128.size a ≤ S10000x128.size a)
theorem k0_mult158_dvd : ∀ (v2830 : BitVec 32) (k0_hw158 : k0_chk158 v2830), 8 ∣ (k0_mult158 v2830).toNat := fun v2830 k0_hw158 => k0_hw158.1
theorem k0_off316_inb : ∀ (v2830 : BitVec 32) (k0_hw158 : k0_chk158 v2830), ∀ a, (k0_off316 v2830) a + S8x128.size a ≤ S10000x128.size a := fun v2830 k0_hw158 => k0_hw158.2

def k0_off317 (i : grid0.Coords) : Fin 2 → Nat :=
  let arg0 : BitVec 32 := BitVec.ofNat 32 (i 0).val
  let c4_i32 : BitVec 32 := 4#32
  let v0 : BitVec 32 := Scalar.muli arg0 c4_i32
  let c1_i32_1417 : BitVec 32 := 1#32
  let v2846 : BitVec 32 := Scalar.addi v0 c1_i32_1417
  let v2847 : Index := Scalar.indexCast v2846
  let c30_1418 : Index := 30#32
  ![v2847.toNat, 30]
def k0_mult159 (v2848 : BitVec 32) : BitVec 32 :=
  let c3_i32_1419 : BitVec 32 := 3#32
  let v2849 : BitVec 32 := Scalar.shrsi v2848 c3_i32_1419
  let c3_i32_1420 : BitVec 32 := 3#32
  let v2850 : BitVec 32 := Scalar.shli v2849 c3_i32_1420
  v2850

def k0_off318 (v2848 : BitVec 32) : Fin 2 → Nat :=
  let c3_i32_1419 : BitVec 32 := 3#32
  let v2849 : BitVec 32 := Scalar.shrsi v2848 c3_i32_1419
  let c3_i32_1420 : BitVec 32 := 3#32
  let v2850 : BitVec 32 := Scalar.shli v2849 c3_i32_1420
  let v2851 : BitVec 32 := v2850
  let v2852 : Index := Scalar.indexCast v2851
  let c0_1421 : Index := 0#32
  ![v2852.toNat, 0]

def k0_chk159 (v2848 : BitVec 32) : Prop :=
  (8 ∣ (k0_mult159 v2848).toNat) ∧
  (∀ a, (k0_off318 v2848) a + S8x128.size a ≤ S10000x128.size a)
theorem k0_mult159_dvd : ∀ (v2848 : BitVec 32) (k0_hw159 : k0_chk159 v2848), 8 ∣ (k0_mult159 v2848).toNat := fun v2848 k0_hw159 => k0_hw159.1
theorem k0_off318_inb : ∀ (v2848 : BitVec 32) (k0_hw159 : k0_chk159 v2848), ∀ a, (k0_off318 v2848) a + S8x128.size a ≤ S10000x128.size a := fun v2848 k0_hw159 => k0_hw159.2

def k0_off319 (i : grid0.Coords) : Fin 2 → Nat :=
  let arg0 : BitVec 32 := BitVec.ofNat 32 (i 0).val
  let c4_i32 : BitVec 32 := 4#32
  let v0 : BitVec 32 := Scalar.muli arg0 c4_i32
  let c1_i32_1426 : BitVec 32 := 1#32
  let v2864 : BitVec 32 := Scalar.addi v0 c1_i32_1426
  let v2865 : Index := Scalar.indexCast v2864
  let c31_1427 : Index := 31#32
  ![v2865.toNat, 31]
def k0_mult160 (v2866 : BitVec 32) : BitVec 32 :=
  let c3_i32_1428 : BitVec 32 := 3#32
  let v2867 : BitVec 32 := Scalar.shrsi v2866 c3_i32_1428
  let c3_i32_1429 : BitVec 32 := 3#32
  let v2868 : BitVec 32 := Scalar.shli v2867 c3_i32_1429
  v2868

def k0_off320 (v2866 : BitVec 32) : Fin 2 → Nat :=
  let c3_i32_1428 : BitVec 32 := 3#32
  let v2867 : BitVec 32 := Scalar.shrsi v2866 c3_i32_1428
  let c3_i32_1429 : BitVec 32 := 3#32
  let v2868 : BitVec 32 := Scalar.shli v2867 c3_i32_1429
  let v2869 : BitVec 32 := v2868
  let v2870 : Index := Scalar.indexCast v2869
  let c0_1430 : Index := 0#32
  ![v2870.toNat, 0]

def k0_chk160 (v2866 : BitVec 32) : Prop :=
  (8 ∣ (k0_mult160 v2866).toNat) ∧
  (∀ a, (k0_off320 v2866) a + S8x128.size a ≤ S10000x128.size a)
theorem k0_mult160_dvd : ∀ (v2866 : BitVec 32) (k0_hw160 : k0_chk160 v2866), 8 ∣ (k0_mult160 v2866).toNat := fun v2866 k0_hw160 => k0_hw160.1
theorem k0_off320_inb : ∀ (v2866 : BitVec 32) (k0_hw160 : k0_chk160 v2866), ∀ a, (k0_off320 v2866) a + S8x128.size a ≤ S10000x128.size a := fun v2866 k0_hw160 => k0_hw160.2

def k0_off321 (i : grid0.Coords) : Fin 2 → Nat :=
  let arg0 : BitVec 32 := BitVec.ofNat 32 (i 0).val
  let c4_i32 : BitVec 32 := 4#32
  let v0 : BitVec 32 := Scalar.muli arg0 c4_i32
  let c1_i32_1435 : BitVec 32 := 1#32
  let v2882 : BitVec 32 := Scalar.addi v0 c1_i32_1435
  let v2883 : Index := Scalar.indexCast v2882
  let c32_1436 : Index := 32#32
  ![v2883.toNat, 32]
def k0_mult161 (v2884 : BitVec 32) : BitVec 32 :=
  let c3_i32_1437 : BitVec 32 := 3#32
  let v2885 : BitVec 32 := Scalar.shrsi v2884 c3_i32_1437
  let c3_i32_1438 : BitVec 32 := 3#32
  let v2886 : BitVec 32 := Scalar.shli v2885 c3_i32_1438
  v2886

def k0_off322 (v2884 : BitVec 32) : Fin 2 → Nat :=
  let c3_i32_1437 : BitVec 32 := 3#32
  let v2885 : BitVec 32 := Scalar.shrsi v2884 c3_i32_1437
  let c3_i32_1438 : BitVec 32 := 3#32
  let v2886 : BitVec 32 := Scalar.shli v2885 c3_i32_1438
  let v2887 : BitVec 32 := v2886
  let v2888 : Index := Scalar.indexCast v2887
  let c0_1439 : Index := 0#32
  ![v2888.toNat, 0]

def k0_chk161 (v2884 : BitVec 32) : Prop :=
  (8 ∣ (k0_mult161 v2884).toNat) ∧
  (∀ a, (k0_off322 v2884) a + S8x128.size a ≤ S10000x128.size a)
theorem k0_mult161_dvd : ∀ (v2884 : BitVec 32) (k0_hw161 : k0_chk161 v2884), 8 ∣ (k0_mult161 v2884).toNat := fun v2884 k0_hw161 => k0_hw161.1
theorem k0_off322_inb : ∀ (v2884 : BitVec 32) (k0_hw161 : k0_chk161 v2884), ∀ a, (k0_off322 v2884) a + S8x128.size a ≤ S10000x128.size a := fun v2884 k0_hw161 => k0_hw161.2

def k0_off323 (i : grid0.Coords) : Fin 2 → Nat :=
  let arg0 : BitVec 32 := BitVec.ofNat 32 (i 0).val
  let c4_i32 : BitVec 32 := 4#32
  let v0 : BitVec 32 := Scalar.muli arg0 c4_i32
  let c1_i32_1444 : BitVec 32 := 1#32
  let v2900 : BitVec 32 := Scalar.addi v0 c1_i32_1444
  let v2901 : Index := Scalar.indexCast v2900
  let c33_1445 : Index := 33#32
  ![v2901.toNat, 33]
def k0_mult162 (v2902 : BitVec 32) : BitVec 32 :=
  let c3_i32_1446 : BitVec 32 := 3#32
  let v2903 : BitVec 32 := Scalar.shrsi v2902 c3_i32_1446
  let c3_i32_1447 : BitVec 32 := 3#32
  let v2904 : BitVec 32 := Scalar.shli v2903 c3_i32_1447
  v2904

def k0_off324 (v2902 : BitVec 32) : Fin 2 → Nat :=
  let c3_i32_1446 : BitVec 32 := 3#32
  let v2903 : BitVec 32 := Scalar.shrsi v2902 c3_i32_1446
  let c3_i32_1447 : BitVec 32 := 3#32
  let v2904 : BitVec 32 := Scalar.shli v2903 c3_i32_1447
  let v2905 : BitVec 32 := v2904
  let v2906 : Index := Scalar.indexCast v2905
  let c0_1448 : Index := 0#32
  ![v2906.toNat, 0]

def k0_chk162 (v2902 : BitVec 32) : Prop :=
  (8 ∣ (k0_mult162 v2902).toNat) ∧
  (∀ a, (k0_off324 v2902) a + S8x128.size a ≤ S10000x128.size a)
theorem k0_mult162_dvd : ∀ (v2902 : BitVec 32) (k0_hw162 : k0_chk162 v2902), 8 ∣ (k0_mult162 v2902).toNat := fun v2902 k0_hw162 => k0_hw162.1
theorem k0_off324_inb : ∀ (v2902 : BitVec 32) (k0_hw162 : k0_chk162 v2902), ∀ a, (k0_off324 v2902) a + S8x128.size a ≤ S10000x128.size a := fun v2902 k0_hw162 => k0_hw162.2

def k0_off325 (i : grid0.Coords) : Fin 2 → Nat :=
  let arg0 : BitVec 32 := BitVec.ofNat 32 (i 0).val
  let c4_i32 : BitVec 32 := 4#32
  let v0 : BitVec 32 := Scalar.muli arg0 c4_i32
  let c1_i32_1453 : BitVec 32 := 1#32
  let v2918 : BitVec 32 := Scalar.addi v0 c1_i32_1453
  let v2919 : Index := Scalar.indexCast v2918
  let c34_1454 : Index := 34#32
  ![v2919.toNat, 34]
def k0_mult163 (v2920 : BitVec 32) : BitVec 32 :=
  let c3_i32_1455 : BitVec 32 := 3#32
  let v2921 : BitVec 32 := Scalar.shrsi v2920 c3_i32_1455
  let c3_i32_1456 : BitVec 32 := 3#32
  let v2922 : BitVec 32 := Scalar.shli v2921 c3_i32_1456
  v2922

def k0_off326 (v2920 : BitVec 32) : Fin 2 → Nat :=
  let c3_i32_1455 : BitVec 32 := 3#32
  let v2921 : BitVec 32 := Scalar.shrsi v2920 c3_i32_1455
  let c3_i32_1456 : BitVec 32 := 3#32
  let v2922 : BitVec 32 := Scalar.shli v2921 c3_i32_1456
  let v2923 : BitVec 32 := v2922
  let v2924 : Index := Scalar.indexCast v2923
  let c0_1457 : Index := 0#32
  ![v2924.toNat, 0]

def k0_chk163 (v2920 : BitVec 32) : Prop :=
  (8 ∣ (k0_mult163 v2920).toNat) ∧
  (∀ a, (k0_off326 v2920) a + S8x128.size a ≤ S10000x128.size a)
theorem k0_mult163_dvd : ∀ (v2920 : BitVec 32) (k0_hw163 : k0_chk163 v2920), 8 ∣ (k0_mult163 v2920).toNat := fun v2920 k0_hw163 => k0_hw163.1
theorem k0_off326_inb : ∀ (v2920 : BitVec 32) (k0_hw163 : k0_chk163 v2920), ∀ a, (k0_off326 v2920) a + S8x128.size a ≤ S10000x128.size a := fun v2920 k0_hw163 => k0_hw163.2

def k0_off327 (i : grid0.Coords) : Fin 2 → Nat :=
  let arg0 : BitVec 32 := BitVec.ofNat 32 (i 0).val
  let c4_i32 : BitVec 32 := 4#32
  let v0 : BitVec 32 := Scalar.muli arg0 c4_i32
  let c1_i32_1462 : BitVec 32 := 1#32
  let v2936 : BitVec 32 := Scalar.addi v0 c1_i32_1462
  let v2937 : Index := Scalar.indexCast v2936
  let c35_1463 : Index := 35#32
  ![v2937.toNat, 35]
def k0_mult164 (v2938 : BitVec 32) : BitVec 32 :=
  let c3_i32_1464 : BitVec 32 := 3#32
  let v2939 : BitVec 32 := Scalar.shrsi v2938 c3_i32_1464
  let c3_i32_1465 : BitVec 32 := 3#32
  let v2940 : BitVec 32 := Scalar.shli v2939 c3_i32_1465
  v2940

def k0_off328 (v2938 : BitVec 32) : Fin 2 → Nat :=
  let c3_i32_1464 : BitVec 32 := 3#32
  let v2939 : BitVec 32 := Scalar.shrsi v2938 c3_i32_1464
  let c3_i32_1465 : BitVec 32 := 3#32
  let v2940 : BitVec 32 := Scalar.shli v2939 c3_i32_1465
  let v2941 : BitVec 32 := v2940
  let v2942 : Index := Scalar.indexCast v2941
  let c0_1466 : Index := 0#32
  ![v2942.toNat, 0]

def k0_chk164 (v2938 : BitVec 32) : Prop :=
  (8 ∣ (k0_mult164 v2938).toNat) ∧
  (∀ a, (k0_off328 v2938) a + S8x128.size a ≤ S10000x128.size a)
theorem k0_mult164_dvd : ∀ (v2938 : BitVec 32) (k0_hw164 : k0_chk164 v2938), 8 ∣ (k0_mult164 v2938).toNat := fun v2938 k0_hw164 => k0_hw164.1
theorem k0_off328_inb : ∀ (v2938 : BitVec 32) (k0_hw164 : k0_chk164 v2938), ∀ a, (k0_off328 v2938) a + S8x128.size a ≤ S10000x128.size a := fun v2938 k0_hw164 => k0_hw164.2

def k0_off329 (i : grid0.Coords) : Fin 2 → Nat :=
  let arg0 : BitVec 32 := BitVec.ofNat 32 (i 0).val
  let c4_i32 : BitVec 32 := 4#32
  let v0 : BitVec 32 := Scalar.muli arg0 c4_i32
  let c1_i32_1471 : BitVec 32 := 1#32
  let v2954 : BitVec 32 := Scalar.addi v0 c1_i32_1471
  let v2955 : Index := Scalar.indexCast v2954
  let c36_1472 : Index := 36#32
  ![v2955.toNat, 36]
def k0_mult165 (v2956 : BitVec 32) : BitVec 32 :=
  let c3_i32_1473 : BitVec 32 := 3#32
  let v2957 : BitVec 32 := Scalar.shrsi v2956 c3_i32_1473
  let c3_i32_1474 : BitVec 32 := 3#32
  let v2958 : BitVec 32 := Scalar.shli v2957 c3_i32_1474
  v2958

def k0_off330 (v2956 : BitVec 32) : Fin 2 → Nat :=
  let c3_i32_1473 : BitVec 32 := 3#32
  let v2957 : BitVec 32 := Scalar.shrsi v2956 c3_i32_1473
  let c3_i32_1474 : BitVec 32 := 3#32
  let v2958 : BitVec 32 := Scalar.shli v2957 c3_i32_1474
  let v2959 : BitVec 32 := v2958
  let v2960 : Index := Scalar.indexCast v2959
  let c0_1475 : Index := 0#32
  ![v2960.toNat, 0]

def k0_chk165 (v2956 : BitVec 32) : Prop :=
  (8 ∣ (k0_mult165 v2956).toNat) ∧
  (∀ a, (k0_off330 v2956) a + S8x128.size a ≤ S10000x128.size a)
theorem k0_mult165_dvd : ∀ (v2956 : BitVec 32) (k0_hw165 : k0_chk165 v2956), 8 ∣ (k0_mult165 v2956).toNat := fun v2956 k0_hw165 => k0_hw165.1
theorem k0_off330_inb : ∀ (v2956 : BitVec 32) (k0_hw165 : k0_chk165 v2956), ∀ a, (k0_off330 v2956) a + S8x128.size a ≤ S10000x128.size a := fun v2956 k0_hw165 => k0_hw165.2

def k0_off331 (i : grid0.Coords) : Fin 2 → Nat :=
  let arg0 : BitVec 32 := BitVec.ofNat 32 (i 0).val
  let c4_i32 : BitVec 32 := 4#32
  let v0 : BitVec 32 := Scalar.muli arg0 c4_i32
  let c1_i32_1480 : BitVec 32 := 1#32
  let v2972 : BitVec 32 := Scalar.addi v0 c1_i32_1480
  let v2973 : Index := Scalar.indexCast v2972
  let c37_1481 : Index := 37#32
  ![v2973.toNat, 37]
def k0_mult166 (v2974 : BitVec 32) : BitVec 32 :=
  let c3_i32_1482 : BitVec 32 := 3#32
  let v2975 : BitVec 32 := Scalar.shrsi v2974 c3_i32_1482
  let c3_i32_1483 : BitVec 32 := 3#32
  let v2976 : BitVec 32 := Scalar.shli v2975 c3_i32_1483
  v2976

def k0_off332 (v2974 : BitVec 32) : Fin 2 → Nat :=
  let c3_i32_1482 : BitVec 32 := 3#32
  let v2975 : BitVec 32 := Scalar.shrsi v2974 c3_i32_1482
  let c3_i32_1483 : BitVec 32 := 3#32
  let v2976 : BitVec 32 := Scalar.shli v2975 c3_i32_1483
  let v2977 : BitVec 32 := v2976
  let v2978 : Index := Scalar.indexCast v2977
  let c0_1484 : Index := 0#32
  ![v2978.toNat, 0]

def k0_chk166 (v2974 : BitVec 32) : Prop :=
  (8 ∣ (k0_mult166 v2974).toNat) ∧
  (∀ a, (k0_off332 v2974) a + S8x128.size a ≤ S10000x128.size a)
theorem k0_mult166_dvd : ∀ (v2974 : BitVec 32) (k0_hw166 : k0_chk166 v2974), 8 ∣ (k0_mult166 v2974).toNat := fun v2974 k0_hw166 => k0_hw166.1
theorem k0_off332_inb : ∀ (v2974 : BitVec 32) (k0_hw166 : k0_chk166 v2974), ∀ a, (k0_off332 v2974) a + S8x128.size a ≤ S10000x128.size a := fun v2974 k0_hw166 => k0_hw166.2

def k0_off333 (i : grid0.Coords) : Fin 2 → Nat :=
  let arg0 : BitVec 32 := BitVec.ofNat 32 (i 0).val
  let c4_i32 : BitVec 32 := 4#32
  let v0 : BitVec 32 := Scalar.muli arg0 c4_i32
  let c1_i32_1489 : BitVec 32 := 1#32
  let v2990 : BitVec 32 := Scalar.addi v0 c1_i32_1489
  let v2991 : Index := Scalar.indexCast v2990
  let c38_1490 : Index := 38#32
  ![v2991.toNat, 38]
def k0_mult167 (v2992 : BitVec 32) : BitVec 32 :=
  let c3_i32_1491 : BitVec 32 := 3#32
  let v2993 : BitVec 32 := Scalar.shrsi v2992 c3_i32_1491
  let c3_i32_1492 : BitVec 32 := 3#32
  let v2994 : BitVec 32 := Scalar.shli v2993 c3_i32_1492
  v2994

def k0_off334 (v2992 : BitVec 32) : Fin 2 → Nat :=
  let c3_i32_1491 : BitVec 32 := 3#32
  let v2993 : BitVec 32 := Scalar.shrsi v2992 c3_i32_1491
  let c3_i32_1492 : BitVec 32 := 3#32
  let v2994 : BitVec 32 := Scalar.shli v2993 c3_i32_1492
  let v2995 : BitVec 32 := v2994
  let v2996 : Index := Scalar.indexCast v2995
  let c0_1493 : Index := 0#32
  ![v2996.toNat, 0]

def k0_chk167 (v2992 : BitVec 32) : Prop :=
  (8 ∣ (k0_mult167 v2992).toNat) ∧
  (∀ a, (k0_off334 v2992) a + S8x128.size a ≤ S10000x128.size a)
theorem k0_mult167_dvd : ∀ (v2992 : BitVec 32) (k0_hw167 : k0_chk167 v2992), 8 ∣ (k0_mult167 v2992).toNat := fun v2992 k0_hw167 => k0_hw167.1
theorem k0_off334_inb : ∀ (v2992 : BitVec 32) (k0_hw167 : k0_chk167 v2992), ∀ a, (k0_off334 v2992) a + S8x128.size a ≤ S10000x128.size a := fun v2992 k0_hw167 => k0_hw167.2

def k0_off335 (i : grid0.Coords) : Fin 2 → Nat :=
  let arg0 : BitVec 32 := BitVec.ofNat 32 (i 0).val
  let c4_i32 : BitVec 32 := 4#32
  let v0 : BitVec 32 := Scalar.muli arg0 c4_i32
  let c1_i32_1498 : BitVec 32 := 1#32
  let v3008 : BitVec 32 := Scalar.addi v0 c1_i32_1498
  let v3009 : Index := Scalar.indexCast v3008
  let c39_1499 : Index := 39#32
  ![v3009.toNat, 39]
def k0_mult168 (v3010 : BitVec 32) : BitVec 32 :=
  let c3_i32_1500 : BitVec 32 := 3#32
  let v3011 : BitVec 32 := Scalar.shrsi v3010 c3_i32_1500
  let c3_i32_1501 : BitVec 32 := 3#32
  let v3012 : BitVec 32 := Scalar.shli v3011 c3_i32_1501
  v3012

def k0_off336 (v3010 : BitVec 32) : Fin 2 → Nat :=
  let c3_i32_1500 : BitVec 32 := 3#32
  let v3011 : BitVec 32 := Scalar.shrsi v3010 c3_i32_1500
  let c3_i32_1501 : BitVec 32 := 3#32
  let v3012 : BitVec 32 := Scalar.shli v3011 c3_i32_1501
  let v3013 : BitVec 32 := v3012
  let v3014 : Index := Scalar.indexCast v3013
  let c0_1502 : Index := 0#32
  ![v3014.toNat, 0]

def k0_chk168 (v3010 : BitVec 32) : Prop :=
  (8 ∣ (k0_mult168 v3010).toNat) ∧
  (∀ a, (k0_off336 v3010) a + S8x128.size a ≤ S10000x128.size a)
theorem k0_mult168_dvd : ∀ (v3010 : BitVec 32) (k0_hw168 : k0_chk168 v3010), 8 ∣ (k0_mult168 v3010).toNat := fun v3010 k0_hw168 => k0_hw168.1
theorem k0_off336_inb : ∀ (v3010 : BitVec 32) (k0_hw168 : k0_chk168 v3010), ∀ a, (k0_off336 v3010) a + S8x128.size a ≤ S10000x128.size a := fun v3010 k0_hw168 => k0_hw168.2

def k0_off337 (i : grid0.Coords) : Fin 2 → Nat :=
  let arg0 : BitVec 32 := BitVec.ofNat 32 (i 0).val
  let c4_i32 : BitVec 32 := 4#32
  let v0 : BitVec 32 := Scalar.muli arg0 c4_i32
  let c1_i32_1507 : BitVec 32 := 1#32
  let v3026 : BitVec 32 := Scalar.addi v0 c1_i32_1507
  let v3027 : Index := Scalar.indexCast v3026
  let c40_1508 : Index := 40#32
  ![v3027.toNat, 40]
def k0_mult169 (v3028 : BitVec 32) : BitVec 32 :=
  let c3_i32_1509 : BitVec 32 := 3#32
  let v3029 : BitVec 32 := Scalar.shrsi v3028 c3_i32_1509
  let c3_i32_1510 : BitVec 32 := 3#32
  let v3030 : BitVec 32 := Scalar.shli v3029 c3_i32_1510
  v3030

def k0_off338 (v3028 : BitVec 32) : Fin 2 → Nat :=
  let c3_i32_1509 : BitVec 32 := 3#32
  let v3029 : BitVec 32 := Scalar.shrsi v3028 c3_i32_1509
  let c3_i32_1510 : BitVec 32 := 3#32
  let v3030 : BitVec 32 := Scalar.shli v3029 c3_i32_1510
  let v3031 : BitVec 32 := v3030
  let v3032 : Index := Scalar.indexCast v3031
  let c0_1511 : Index := 0#32
  ![v3032.toNat, 0]

def k0_chk169 (v3028 : BitVec 32) : Prop :=
  (8 ∣ (k0_mult169 v3028).toNat) ∧
  (∀ a, (k0_off338 v3028) a + S8x128.size a ≤ S10000x128.size a)
theorem k0_mult169_dvd : ∀ (v3028 : BitVec 32) (k0_hw169 : k0_chk169 v3028), 8 ∣ (k0_mult169 v3028).toNat := fun v3028 k0_hw169 => k0_hw169.1
theorem k0_off338_inb : ∀ (v3028 : BitVec 32) (k0_hw169 : k0_chk169 v3028), ∀ a, (k0_off338 v3028) a + S8x128.size a ≤ S10000x128.size a := fun v3028 k0_hw169 => k0_hw169.2

def k0_off339 (i : grid0.Coords) : Fin 2 → Nat :=
  let arg0 : BitVec 32 := BitVec.ofNat 32 (i 0).val
  let c4_i32 : BitVec 32 := 4#32
  let v0 : BitVec 32 := Scalar.muli arg0 c4_i32
  let c1_i32_1516 : BitVec 32 := 1#32
  let v3044 : BitVec 32 := Scalar.addi v0 c1_i32_1516
  let v3045 : Index := Scalar.indexCast v3044
  let c41_1517 : Index := 41#32
  ![v3045.toNat, 41]
def k0_mult170 (v3046 : BitVec 32) : BitVec 32 :=
  let c3_i32_1518 : BitVec 32 := 3#32
  let v3047 : BitVec 32 := Scalar.shrsi v3046 c3_i32_1518
  let c3_i32_1519 : BitVec 32 := 3#32
  let v3048 : BitVec 32 := Scalar.shli v3047 c3_i32_1519
  v3048

def k0_off340 (v3046 : BitVec 32) : Fin 2 → Nat :=
  let c3_i32_1518 : BitVec 32 := 3#32
  let v3047 : BitVec 32 := Scalar.shrsi v3046 c3_i32_1518
  let c3_i32_1519 : BitVec 32 := 3#32
  let v3048 : BitVec 32 := Scalar.shli v3047 c3_i32_1519
  let v3049 : BitVec 32 := v3048
  let v3050 : Index := Scalar.indexCast v3049
  let c0_1520 : Index := 0#32
  ![v3050.toNat, 0]

def k0_chk170 (v3046 : BitVec 32) : Prop :=
  (8 ∣ (k0_mult170 v3046).toNat) ∧
  (∀ a, (k0_off340 v3046) a + S8x128.size a ≤ S10000x128.size a)
theorem k0_mult170_dvd : ∀ (v3046 : BitVec 32) (k0_hw170 : k0_chk170 v3046), 8 ∣ (k0_mult170 v3046).toNat := fun v3046 k0_hw170 => k0_hw170.1
theorem k0_off340_inb : ∀ (v3046 : BitVec 32) (k0_hw170 : k0_chk170 v3046), ∀ a, (k0_off340 v3046) a + S8x128.size a ≤ S10000x128.size a := fun v3046 k0_hw170 => k0_hw170.2

def k0_off341 (i : grid0.Coords) : Fin 2 → Nat :=
  let arg0 : BitVec 32 := BitVec.ofNat 32 (i 0).val
  let c4_i32 : BitVec 32 := 4#32
  let v0 : BitVec 32 := Scalar.muli arg0 c4_i32
  let c1_i32_1525 : BitVec 32 := 1#32
  let v3062 : BitVec 32 := Scalar.addi v0 c1_i32_1525
  let v3063 : Index := Scalar.indexCast v3062
  let c42_1526 : Index := 42#32
  ![v3063.toNat, 42]
def k0_mult171 (v3064 : BitVec 32) : BitVec 32 :=
  let c3_i32_1527 : BitVec 32 := 3#32
  let v3065 : BitVec 32 := Scalar.shrsi v3064 c3_i32_1527
  let c3_i32_1528 : BitVec 32 := 3#32
  let v3066 : BitVec 32 := Scalar.shli v3065 c3_i32_1528
  v3066

def k0_off342 (v3064 : BitVec 32) : Fin 2 → Nat :=
  let c3_i32_1527 : BitVec 32 := 3#32
  let v3065 : BitVec 32 := Scalar.shrsi v3064 c3_i32_1527
  let c3_i32_1528 : BitVec 32 := 3#32
  let v3066 : BitVec 32 := Scalar.shli v3065 c3_i32_1528
  let v3067 : BitVec 32 := v3066
  let v3068 : Index := Scalar.indexCast v3067
  let c0_1529 : Index := 0#32
  ![v3068.toNat, 0]

def k0_chk171 (v3064 : BitVec 32) : Prop :=
  (8 ∣ (k0_mult171 v3064).toNat) ∧
  (∀ a, (k0_off342 v3064) a + S8x128.size a ≤ S10000x128.size a)
theorem k0_mult171_dvd : ∀ (v3064 : BitVec 32) (k0_hw171 : k0_chk171 v3064), 8 ∣ (k0_mult171 v3064).toNat := fun v3064 k0_hw171 => k0_hw171.1
theorem k0_off342_inb : ∀ (v3064 : BitVec 32) (k0_hw171 : k0_chk171 v3064), ∀ a, (k0_off342 v3064) a + S8x128.size a ≤ S10000x128.size a := fun v3064 k0_hw171 => k0_hw171.2

def k0_off343 (i : grid0.Coords) : Fin 2 → Nat :=
  let arg0 : BitVec 32 := BitVec.ofNat 32 (i 0).val
  let c4_i32 : BitVec 32 := 4#32
  let v0 : BitVec 32 := Scalar.muli arg0 c4_i32
  let c1_i32_1534 : BitVec 32 := 1#32
  let v3080 : BitVec 32 := Scalar.addi v0 c1_i32_1534
  let v3081 : Index := Scalar.indexCast v3080
  let c43_1535 : Index := 43#32
  ![v3081.toNat, 43]
def k0_mult172 (v3082 : BitVec 32) : BitVec 32 :=
  let c3_i32_1536 : BitVec 32 := 3#32
  let v3083 : BitVec 32 := Scalar.shrsi v3082 c3_i32_1536
  let c3_i32_1537 : BitVec 32 := 3#32
  let v3084 : BitVec 32 := Scalar.shli v3083 c3_i32_1537
  v3084

def k0_off344 (v3082 : BitVec 32) : Fin 2 → Nat :=
  let c3_i32_1536 : BitVec 32 := 3#32
  let v3083 : BitVec 32 := Scalar.shrsi v3082 c3_i32_1536
  let c3_i32_1537 : BitVec 32 := 3#32
  let v3084 : BitVec 32 := Scalar.shli v3083 c3_i32_1537
  let v3085 : BitVec 32 := v3084
  let v3086 : Index := Scalar.indexCast v3085
  let c0_1538 : Index := 0#32
  ![v3086.toNat, 0]

def k0_chk172 (v3082 : BitVec 32) : Prop :=
  (8 ∣ (k0_mult172 v3082).toNat) ∧
  (∀ a, (k0_off344 v3082) a + S8x128.size a ≤ S10000x128.size a)
theorem k0_mult172_dvd : ∀ (v3082 : BitVec 32) (k0_hw172 : k0_chk172 v3082), 8 ∣ (k0_mult172 v3082).toNat := fun v3082 k0_hw172 => k0_hw172.1
theorem k0_off344_inb : ∀ (v3082 : BitVec 32) (k0_hw172 : k0_chk172 v3082), ∀ a, (k0_off344 v3082) a + S8x128.size a ≤ S10000x128.size a := fun v3082 k0_hw172 => k0_hw172.2

def k0_off345 (i : grid0.Coords) : Fin 2 → Nat :=
  let arg0 : BitVec 32 := BitVec.ofNat 32 (i 0).val
  let c4_i32 : BitVec 32 := 4#32
  let v0 : BitVec 32 := Scalar.muli arg0 c4_i32
  let c1_i32_1543 : BitVec 32 := 1#32
  let v3098 : BitVec 32 := Scalar.addi v0 c1_i32_1543
  let v3099 : Index := Scalar.indexCast v3098
  let c44_1544 : Index := 44#32
  ![v3099.toNat, 44]
def k0_mult173 (v3100 : BitVec 32) : BitVec 32 :=
  let c3_i32_1545 : BitVec 32 := 3#32
  let v3101 : BitVec 32 := Scalar.shrsi v3100 c3_i32_1545
  let c3_i32_1546 : BitVec 32 := 3#32
  let v3102 : BitVec 32 := Scalar.shli v3101 c3_i32_1546
  v3102

def k0_off346 (v3100 : BitVec 32) : Fin 2 → Nat :=
  let c3_i32_1545 : BitVec 32 := 3#32
  let v3101 : BitVec 32 := Scalar.shrsi v3100 c3_i32_1545
  let c3_i32_1546 : BitVec 32 := 3#32
  let v3102 : BitVec 32 := Scalar.shli v3101 c3_i32_1546
  let v3103 : BitVec 32 := v3102
  let v3104 : Index := Scalar.indexCast v3103
  let c0_1547 : Index := 0#32
  ![v3104.toNat, 0]

def k0_chk173 (v3100 : BitVec 32) : Prop :=
  (8 ∣ (k0_mult173 v3100).toNat) ∧
  (∀ a, (k0_off346 v3100) a + S8x128.size a ≤ S10000x128.size a)
theorem k0_mult173_dvd : ∀ (v3100 : BitVec 32) (k0_hw173 : k0_chk173 v3100), 8 ∣ (k0_mult173 v3100).toNat := fun v3100 k0_hw173 => k0_hw173.1
theorem k0_off346_inb : ∀ (v3100 : BitVec 32) (k0_hw173 : k0_chk173 v3100), ∀ a, (k0_off346 v3100) a + S8x128.size a ≤ S10000x128.size a := fun v3100 k0_hw173 => k0_hw173.2

def k0_off347 (i : grid0.Coords) : Fin 2 → Nat :=
  let arg0 : BitVec 32 := BitVec.ofNat 32 (i 0).val
  let c4_i32 : BitVec 32 := 4#32
  let v0 : BitVec 32 := Scalar.muli arg0 c4_i32
  let c1_i32_1552 : BitVec 32 := 1#32
  let v3116 : BitVec 32 := Scalar.addi v0 c1_i32_1552
  let v3117 : Index := Scalar.indexCast v3116
  let c45_1553 : Index := 45#32
  ![v3117.toNat, 45]
def k0_mult174 (v3118 : BitVec 32) : BitVec 32 :=
  let c3_i32_1554 : BitVec 32 := 3#32
  let v3119 : BitVec 32 := Scalar.shrsi v3118 c3_i32_1554
  let c3_i32_1555 : BitVec 32 := 3#32
  let v3120 : BitVec 32 := Scalar.shli v3119 c3_i32_1555
  v3120

def k0_off348 (v3118 : BitVec 32) : Fin 2 → Nat :=
  let c3_i32_1554 : BitVec 32 := 3#32
  let v3119 : BitVec 32 := Scalar.shrsi v3118 c3_i32_1554
  let c3_i32_1555 : BitVec 32 := 3#32
  let v3120 : BitVec 32 := Scalar.shli v3119 c3_i32_1555
  let v3121 : BitVec 32 := v3120
  let v3122 : Index := Scalar.indexCast v3121
  let c0_1556 : Index := 0#32
  ![v3122.toNat, 0]

def k0_chk174 (v3118 : BitVec 32) : Prop :=
  (8 ∣ (k0_mult174 v3118).toNat) ∧
  (∀ a, (k0_off348 v3118) a + S8x128.size a ≤ S10000x128.size a)
theorem k0_mult174_dvd : ∀ (v3118 : BitVec 32) (k0_hw174 : k0_chk174 v3118), 8 ∣ (k0_mult174 v3118).toNat := fun v3118 k0_hw174 => k0_hw174.1
theorem k0_off348_inb : ∀ (v3118 : BitVec 32) (k0_hw174 : k0_chk174 v3118), ∀ a, (k0_off348 v3118) a + S8x128.size a ≤ S10000x128.size a := fun v3118 k0_hw174 => k0_hw174.2

def k0_off349 (i : grid0.Coords) : Fin 2 → Nat :=
  let arg0 : BitVec 32 := BitVec.ofNat 32 (i 0).val
  let c4_i32 : BitVec 32 := 4#32
  let v0 : BitVec 32 := Scalar.muli arg0 c4_i32
  let c1_i32_1561 : BitVec 32 := 1#32
  let v3134 : BitVec 32 := Scalar.addi v0 c1_i32_1561
  let v3135 : Index := Scalar.indexCast v3134
  let c46_1562 : Index := 46#32
  ![v3135.toNat, 46]
def k0_mult175 (v3136 : BitVec 32) : BitVec 32 :=
  let c3_i32_1563 : BitVec 32 := 3#32
  let v3137 : BitVec 32 := Scalar.shrsi v3136 c3_i32_1563
  let c3_i32_1564 : BitVec 32 := 3#32
  let v3138 : BitVec 32 := Scalar.shli v3137 c3_i32_1564
  v3138

def k0_off350 (v3136 : BitVec 32) : Fin 2 → Nat :=
  let c3_i32_1563 : BitVec 32 := 3#32
  let v3137 : BitVec 32 := Scalar.shrsi v3136 c3_i32_1563
  let c3_i32_1564 : BitVec 32 := 3#32
  let v3138 : BitVec 32 := Scalar.shli v3137 c3_i32_1564
  let v3139 : BitVec 32 := v3138
  let v3140 : Index := Scalar.indexCast v3139
  let c0_1565 : Index := 0#32
  ![v3140.toNat, 0]

def k0_chk175 (v3136 : BitVec 32) : Prop :=
  (8 ∣ (k0_mult175 v3136).toNat) ∧
  (∀ a, (k0_off350 v3136) a + S8x128.size a ≤ S10000x128.size a)
theorem k0_mult175_dvd : ∀ (v3136 : BitVec 32) (k0_hw175 : k0_chk175 v3136), 8 ∣ (k0_mult175 v3136).toNat := fun v3136 k0_hw175 => k0_hw175.1
theorem k0_off350_inb : ∀ (v3136 : BitVec 32) (k0_hw175 : k0_chk175 v3136), ∀ a, (k0_off350 v3136) a + S8x128.size a ≤ S10000x128.size a := fun v3136 k0_hw175 => k0_hw175.2

def k0_off351 (i : grid0.Coords) : Fin 2 → Nat :=
  let arg0 : BitVec 32 := BitVec.ofNat 32 (i 0).val
  let c4_i32 : BitVec 32 := 4#32
  let v0 : BitVec 32 := Scalar.muli arg0 c4_i32
  let c1_i32_1570 : BitVec 32 := 1#32
  let v3152 : BitVec 32 := Scalar.addi v0 c1_i32_1570
  let v3153 : Index := Scalar.indexCast v3152
  let c47_1571 : Index := 47#32
  ![v3153.toNat, 47]
def k0_mult176 (v3154 : BitVec 32) : BitVec 32 :=
  let c3_i32_1572 : BitVec 32 := 3#32
  let v3155 : BitVec 32 := Scalar.shrsi v3154 c3_i32_1572
  let c3_i32_1573 : BitVec 32 := 3#32
  let v3156 : BitVec 32 := Scalar.shli v3155 c3_i32_1573
  v3156

def k0_off352 (v3154 : BitVec 32) : Fin 2 → Nat :=
  let c3_i32_1572 : BitVec 32 := 3#32
  let v3155 : BitVec 32 := Scalar.shrsi v3154 c3_i32_1572
  let c3_i32_1573 : BitVec 32 := 3#32
  let v3156 : BitVec 32 := Scalar.shli v3155 c3_i32_1573
  let v3157 : BitVec 32 := v3156
  let v3158 : Index := Scalar.indexCast v3157
  let c0_1574 : Index := 0#32
  ![v3158.toNat, 0]

def k0_chk176 (v3154 : BitVec 32) : Prop :=
  (8 ∣ (k0_mult176 v3154).toNat) ∧
  (∀ a, (k0_off352 v3154) a + S8x128.size a ≤ S10000x128.size a)
theorem k0_mult176_dvd : ∀ (v3154 : BitVec 32) (k0_hw176 : k0_chk176 v3154), 8 ∣ (k0_mult176 v3154).toNat := fun v3154 k0_hw176 => k0_hw176.1
theorem k0_off352_inb : ∀ (v3154 : BitVec 32) (k0_hw176 : k0_chk176 v3154), ∀ a, (k0_off352 v3154) a + S8x128.size a ≤ S10000x128.size a := fun v3154 k0_hw176 => k0_hw176.2

def k0_off353 (i : grid0.Coords) : Fin 2 → Nat :=
  let arg0 : BitVec 32 := BitVec.ofNat 32 (i 0).val
  let c4_i32 : BitVec 32 := 4#32
  let v0 : BitVec 32 := Scalar.muli arg0 c4_i32
  let c1_i32_1579 : BitVec 32 := 1#32
  let v3170 : BitVec 32 := Scalar.addi v0 c1_i32_1579
  let v3171 : Index := Scalar.indexCast v3170
  let c48_1580 : Index := 48#32
  ![v3171.toNat, 48]
def k0_mult177 (v3172 : BitVec 32) : BitVec 32 :=
  let c3_i32_1581 : BitVec 32 := 3#32
  let v3173 : BitVec 32 := Scalar.shrsi v3172 c3_i32_1581
  let c3_i32_1582 : BitVec 32 := 3#32
  let v3174 : BitVec 32 := Scalar.shli v3173 c3_i32_1582
  v3174

def k0_off354 (v3172 : BitVec 32) : Fin 2 → Nat :=
  let c3_i32_1581 : BitVec 32 := 3#32
  let v3173 : BitVec 32 := Scalar.shrsi v3172 c3_i32_1581
  let c3_i32_1582 : BitVec 32 := 3#32
  let v3174 : BitVec 32 := Scalar.shli v3173 c3_i32_1582
  let v3175 : BitVec 32 := v3174
  let v3176 : Index := Scalar.indexCast v3175
  let c0_1583 : Index := 0#32
  ![v3176.toNat, 0]

def k0_chk177 (v3172 : BitVec 32) : Prop :=
  (8 ∣ (k0_mult177 v3172).toNat) ∧
  (∀ a, (k0_off354 v3172) a + S8x128.size a ≤ S10000x128.size a)
theorem k0_mult177_dvd : ∀ (v3172 : BitVec 32) (k0_hw177 : k0_chk177 v3172), 8 ∣ (k0_mult177 v3172).toNat := fun v3172 k0_hw177 => k0_hw177.1
theorem k0_off354_inb : ∀ (v3172 : BitVec 32) (k0_hw177 : k0_chk177 v3172), ∀ a, (k0_off354 v3172) a + S8x128.size a ≤ S10000x128.size a := fun v3172 k0_hw177 => k0_hw177.2

def k0_off355 (i : grid0.Coords) : Fin 2 → Nat :=
  let arg0 : BitVec 32 := BitVec.ofNat 32 (i 0).val
  let c4_i32 : BitVec 32 := 4#32
  let v0 : BitVec 32 := Scalar.muli arg0 c4_i32
  let c1_i32_1588 : BitVec 32 := 1#32
  let v3188 : BitVec 32 := Scalar.addi v0 c1_i32_1588
  let v3189 : Index := Scalar.indexCast v3188
  let c49_1589 : Index := 49#32
  ![v3189.toNat, 49]
def k0_mult178 (v3190 : BitVec 32) : BitVec 32 :=
  let c3_i32_1590 : BitVec 32 := 3#32
  let v3191 : BitVec 32 := Scalar.shrsi v3190 c3_i32_1590
  let c3_i32_1591 : BitVec 32 := 3#32
  let v3192 : BitVec 32 := Scalar.shli v3191 c3_i32_1591
  v3192

def k0_off356 (v3190 : BitVec 32) : Fin 2 → Nat :=
  let c3_i32_1590 : BitVec 32 := 3#32
  let v3191 : BitVec 32 := Scalar.shrsi v3190 c3_i32_1590
  let c3_i32_1591 : BitVec 32 := 3#32
  let v3192 : BitVec 32 := Scalar.shli v3191 c3_i32_1591
  let v3193 : BitVec 32 := v3192
  let v3194 : Index := Scalar.indexCast v3193
  let c0_1592 : Index := 0#32
  ![v3194.toNat, 0]

def k0_chk178 (v3190 : BitVec 32) : Prop :=
  (8 ∣ (k0_mult178 v3190).toNat) ∧
  (∀ a, (k0_off356 v3190) a + S8x128.size a ≤ S10000x128.size a)
theorem k0_mult178_dvd : ∀ (v3190 : BitVec 32) (k0_hw178 : k0_chk178 v3190), 8 ∣ (k0_mult178 v3190).toNat := fun v3190 k0_hw178 => k0_hw178.1
theorem k0_off356_inb : ∀ (v3190 : BitVec 32) (k0_hw178 : k0_chk178 v3190), ∀ a, (k0_off356 v3190) a + S8x128.size a ≤ S10000x128.size a := fun v3190 k0_hw178 => k0_hw178.2

def k0_off357 (i : grid0.Coords) : Fin 2 → Nat :=
  let arg0 : BitVec 32 := BitVec.ofNat 32 (i 0).val
  let c4_i32 : BitVec 32 := 4#32
  let v0 : BitVec 32 := Scalar.muli arg0 c4_i32
  let c1_i32_1597 : BitVec 32 := 1#32
  let v3206 : BitVec 32 := Scalar.addi v0 c1_i32_1597
  let v3207 : Index := Scalar.indexCast v3206
  let c50_1598 : Index := 50#32
  ![v3207.toNat, 50]
def k0_mult179 (v3208 : BitVec 32) : BitVec 32 :=
  let c3_i32_1599 : BitVec 32 := 3#32
  let v3209 : BitVec 32 := Scalar.shrsi v3208 c3_i32_1599
  let c3_i32_1600 : BitVec 32 := 3#32
  let v3210 : BitVec 32 := Scalar.shli v3209 c3_i32_1600
  v3210

def k0_off358 (v3208 : BitVec 32) : Fin 2 → Nat :=
  let c3_i32_1599 : BitVec 32 := 3#32
  let v3209 : BitVec 32 := Scalar.shrsi v3208 c3_i32_1599
  let c3_i32_1600 : BitVec 32 := 3#32
  let v3210 : BitVec 32 := Scalar.shli v3209 c3_i32_1600
  let v3211 : BitVec 32 := v3210
  let v3212 : Index := Scalar.indexCast v3211
  let c0_1601 : Index := 0#32
  ![v3212.toNat, 0]

def k0_chk179 (v3208 : BitVec 32) : Prop :=
  (8 ∣ (k0_mult179 v3208).toNat) ∧
  (∀ a, (k0_off358 v3208) a + S8x128.size a ≤ S10000x128.size a)
theorem k0_mult179_dvd : ∀ (v3208 : BitVec 32) (k0_hw179 : k0_chk179 v3208), 8 ∣ (k0_mult179 v3208).toNat := fun v3208 k0_hw179 => k0_hw179.1
theorem k0_off358_inb : ∀ (v3208 : BitVec 32) (k0_hw179 : k0_chk179 v3208), ∀ a, (k0_off358 v3208) a + S8x128.size a ≤ S10000x128.size a := fun v3208 k0_hw179 => k0_hw179.2

def k0_off359 (i : grid0.Coords) : Fin 2 → Nat :=
  let arg0 : BitVec 32 := BitVec.ofNat 32 (i 0).val
  let c4_i32 : BitVec 32 := 4#32
  let v0 : BitVec 32 := Scalar.muli arg0 c4_i32
  let c1_i32_1606 : BitVec 32 := 1#32
  let v3224 : BitVec 32 := Scalar.addi v0 c1_i32_1606
  let v3225 : Index := Scalar.indexCast v3224
  let c51_1607 : Index := 51#32
  ![v3225.toNat, 51]
def k0_mult180 (v3226 : BitVec 32) : BitVec 32 :=
  let c3_i32_1608 : BitVec 32 := 3#32
  let v3227 : BitVec 32 := Scalar.shrsi v3226 c3_i32_1608
  let c3_i32_1609 : BitVec 32 := 3#32
  let v3228 : BitVec 32 := Scalar.shli v3227 c3_i32_1609
  v3228

def k0_off360 (v3226 : BitVec 32) : Fin 2 → Nat :=
  let c3_i32_1608 : BitVec 32 := 3#32
  let v3227 : BitVec 32 := Scalar.shrsi v3226 c3_i32_1608
  let c3_i32_1609 : BitVec 32 := 3#32
  let v3228 : BitVec 32 := Scalar.shli v3227 c3_i32_1609
  let v3229 : BitVec 32 := v3228
  let v3230 : Index := Scalar.indexCast v3229
  let c0_1610 : Index := 0#32
  ![v3230.toNat, 0]

def k0_chk180 (v3226 : BitVec 32) : Prop :=
  (8 ∣ (k0_mult180 v3226).toNat) ∧
  (∀ a, (k0_off360 v3226) a + S8x128.size a ≤ S10000x128.size a)
theorem k0_mult180_dvd : ∀ (v3226 : BitVec 32) (k0_hw180 : k0_chk180 v3226), 8 ∣ (k0_mult180 v3226).toNat := fun v3226 k0_hw180 => k0_hw180.1
theorem k0_off360_inb : ∀ (v3226 : BitVec 32) (k0_hw180 : k0_chk180 v3226), ∀ a, (k0_off360 v3226) a + S8x128.size a ≤ S10000x128.size a := fun v3226 k0_hw180 => k0_hw180.2

def k0_off361 (i : grid0.Coords) : Fin 2 → Nat :=
  let arg0 : BitVec 32 := BitVec.ofNat 32 (i 0).val
  let c4_i32 : BitVec 32 := 4#32
  let v0 : BitVec 32 := Scalar.muli arg0 c4_i32
  let c1_i32_1615 : BitVec 32 := 1#32
  let v3242 : BitVec 32 := Scalar.addi v0 c1_i32_1615
  let v3243 : Index := Scalar.indexCast v3242
  let c52_1616 : Index := 52#32
  ![v3243.toNat, 52]
def k0_mult181 (v3244 : BitVec 32) : BitVec 32 :=
  let c3_i32_1617 : BitVec 32 := 3#32
  let v3245 : BitVec 32 := Scalar.shrsi v3244 c3_i32_1617
  let c3_i32_1618 : BitVec 32 := 3#32
  let v3246 : BitVec 32 := Scalar.shli v3245 c3_i32_1618
  v3246

def k0_off362 (v3244 : BitVec 32) : Fin 2 → Nat :=
  let c3_i32_1617 : BitVec 32 := 3#32
  let v3245 : BitVec 32 := Scalar.shrsi v3244 c3_i32_1617
  let c3_i32_1618 : BitVec 32 := 3#32
  let v3246 : BitVec 32 := Scalar.shli v3245 c3_i32_1618
  let v3247 : BitVec 32 := v3246
  let v3248 : Index := Scalar.indexCast v3247
  let c0_1619 : Index := 0#32
  ![v3248.toNat, 0]

def k0_chk181 (v3244 : BitVec 32) : Prop :=
  (8 ∣ (k0_mult181 v3244).toNat) ∧
  (∀ a, (k0_off362 v3244) a + S8x128.size a ≤ S10000x128.size a)
theorem k0_mult181_dvd : ∀ (v3244 : BitVec 32) (k0_hw181 : k0_chk181 v3244), 8 ∣ (k0_mult181 v3244).toNat := fun v3244 k0_hw181 => k0_hw181.1
theorem k0_off362_inb : ∀ (v3244 : BitVec 32) (k0_hw181 : k0_chk181 v3244), ∀ a, (k0_off362 v3244) a + S8x128.size a ≤ S10000x128.size a := fun v3244 k0_hw181 => k0_hw181.2

def k0_off363 (i : grid0.Coords) : Fin 2 → Nat :=
  let arg0 : BitVec 32 := BitVec.ofNat 32 (i 0).val
  let c4_i32 : BitVec 32 := 4#32
  let v0 : BitVec 32 := Scalar.muli arg0 c4_i32
  let c1_i32_1624 : BitVec 32 := 1#32
  let v3260 : BitVec 32 := Scalar.addi v0 c1_i32_1624
  let v3261 : Index := Scalar.indexCast v3260
  let c53_1625 : Index := 53#32
  ![v3261.toNat, 53]
def k0_mult182 (v3262 : BitVec 32) : BitVec 32 :=
  let c3_i32_1626 : BitVec 32 := 3#32
  let v3263 : BitVec 32 := Scalar.shrsi v3262 c3_i32_1626
  let c3_i32_1627 : BitVec 32 := 3#32
  let v3264 : BitVec 32 := Scalar.shli v3263 c3_i32_1627
  v3264

def k0_off364 (v3262 : BitVec 32) : Fin 2 → Nat :=
  let c3_i32_1626 : BitVec 32 := 3#32
  let v3263 : BitVec 32 := Scalar.shrsi v3262 c3_i32_1626
  let c3_i32_1627 : BitVec 32 := 3#32
  let v3264 : BitVec 32 := Scalar.shli v3263 c3_i32_1627
  let v3265 : BitVec 32 := v3264
  let v3266 : Index := Scalar.indexCast v3265
  let c0_1628 : Index := 0#32
  ![v3266.toNat, 0]

def k0_chk182 (v3262 : BitVec 32) : Prop :=
  (8 ∣ (k0_mult182 v3262).toNat) ∧
  (∀ a, (k0_off364 v3262) a + S8x128.size a ≤ S10000x128.size a)
theorem k0_mult182_dvd : ∀ (v3262 : BitVec 32) (k0_hw182 : k0_chk182 v3262), 8 ∣ (k0_mult182 v3262).toNat := fun v3262 k0_hw182 => k0_hw182.1
theorem k0_off364_inb : ∀ (v3262 : BitVec 32) (k0_hw182 : k0_chk182 v3262), ∀ a, (k0_off364 v3262) a + S8x128.size a ≤ S10000x128.size a := fun v3262 k0_hw182 => k0_hw182.2

def k0_off365 (i : grid0.Coords) : Fin 2 → Nat :=
  let arg0 : BitVec 32 := BitVec.ofNat 32 (i 0).val
  let c4_i32 : BitVec 32 := 4#32
  let v0 : BitVec 32 := Scalar.muli arg0 c4_i32
  let c1_i32_1633 : BitVec 32 := 1#32
  let v3278 : BitVec 32 := Scalar.addi v0 c1_i32_1633
  let v3279 : Index := Scalar.indexCast v3278
  let c54_1634 : Index := 54#32
  ![v3279.toNat, 54]
def k0_mult183 (v3280 : BitVec 32) : BitVec 32 :=
  let c3_i32_1635 : BitVec 32 := 3#32
  let v3281 : BitVec 32 := Scalar.shrsi v3280 c3_i32_1635
  let c3_i32_1636 : BitVec 32 := 3#32
  let v3282 : BitVec 32 := Scalar.shli v3281 c3_i32_1636
  v3282

def k0_off366 (v3280 : BitVec 32) : Fin 2 → Nat :=
  let c3_i32_1635 : BitVec 32 := 3#32
  let v3281 : BitVec 32 := Scalar.shrsi v3280 c3_i32_1635
  let c3_i32_1636 : BitVec 32 := 3#32
  let v3282 : BitVec 32 := Scalar.shli v3281 c3_i32_1636
  let v3283 : BitVec 32 := v3282
  let v3284 : Index := Scalar.indexCast v3283
  let c0_1637 : Index := 0#32
  ![v3284.toNat, 0]

def k0_chk183 (v3280 : BitVec 32) : Prop :=
  (8 ∣ (k0_mult183 v3280).toNat) ∧
  (∀ a, (k0_off366 v3280) a + S8x128.size a ≤ S10000x128.size a)
theorem k0_mult183_dvd : ∀ (v3280 : BitVec 32) (k0_hw183 : k0_chk183 v3280), 8 ∣ (k0_mult183 v3280).toNat := fun v3280 k0_hw183 => k0_hw183.1
theorem k0_off366_inb : ∀ (v3280 : BitVec 32) (k0_hw183 : k0_chk183 v3280), ∀ a, (k0_off366 v3280) a + S8x128.size a ≤ S10000x128.size a := fun v3280 k0_hw183 => k0_hw183.2

def k0_off367 (i : grid0.Coords) : Fin 2 → Nat :=
  let arg0 : BitVec 32 := BitVec.ofNat 32 (i 0).val
  let c4_i32 : BitVec 32 := 4#32
  let v0 : BitVec 32 := Scalar.muli arg0 c4_i32
  let c1_i32_1642 : BitVec 32 := 1#32
  let v3296 : BitVec 32 := Scalar.addi v0 c1_i32_1642
  let v3297 : Index := Scalar.indexCast v3296
  let c55_1643 : Index := 55#32
  ![v3297.toNat, 55]
def k0_mult184 (v3298 : BitVec 32) : BitVec 32 :=
  let c3_i32_1644 : BitVec 32 := 3#32
  let v3299 : BitVec 32 := Scalar.shrsi v3298 c3_i32_1644
  let c3_i32_1645 : BitVec 32 := 3#32
  let v3300 : BitVec 32 := Scalar.shli v3299 c3_i32_1645
  v3300

def k0_off368 (v3298 : BitVec 32) : Fin 2 → Nat :=
  let c3_i32_1644 : BitVec 32 := 3#32
  let v3299 : BitVec 32 := Scalar.shrsi v3298 c3_i32_1644
  let c3_i32_1645 : BitVec 32 := 3#32
  let v3300 : BitVec 32 := Scalar.shli v3299 c3_i32_1645
  let v3301 : BitVec 32 := v3300
  let v3302 : Index := Scalar.indexCast v3301
  let c0_1646 : Index := 0#32
  ![v3302.toNat, 0]

def k0_chk184 (v3298 : BitVec 32) : Prop :=
  (8 ∣ (k0_mult184 v3298).toNat) ∧
  (∀ a, (k0_off368 v3298) a + S8x128.size a ≤ S10000x128.size a)
theorem k0_mult184_dvd : ∀ (v3298 : BitVec 32) (k0_hw184 : k0_chk184 v3298), 8 ∣ (k0_mult184 v3298).toNat := fun v3298 k0_hw184 => k0_hw184.1
theorem k0_off368_inb : ∀ (v3298 : BitVec 32) (k0_hw184 : k0_chk184 v3298), ∀ a, (k0_off368 v3298) a + S8x128.size a ≤ S10000x128.size a := fun v3298 k0_hw184 => k0_hw184.2

def k0_off369 (i : grid0.Coords) : Fin 2 → Nat :=
  let arg0 : BitVec 32 := BitVec.ofNat 32 (i 0).val
  let c4_i32 : BitVec 32 := 4#32
  let v0 : BitVec 32 := Scalar.muli arg0 c4_i32
  let c1_i32_1651 : BitVec 32 := 1#32
  let v3314 : BitVec 32 := Scalar.addi v0 c1_i32_1651
  let v3315 : Index := Scalar.indexCast v3314
  let c56_1652 : Index := 56#32
  ![v3315.toNat, 56]
def k0_mult185 (v3316 : BitVec 32) : BitVec 32 :=
  let c3_i32_1653 : BitVec 32 := 3#32
  let v3317 : BitVec 32 := Scalar.shrsi v3316 c3_i32_1653
  let c3_i32_1654 : BitVec 32 := 3#32
  let v3318 : BitVec 32 := Scalar.shli v3317 c3_i32_1654
  v3318

def k0_off370 (v3316 : BitVec 32) : Fin 2 → Nat :=
  let c3_i32_1653 : BitVec 32 := 3#32
  let v3317 : BitVec 32 := Scalar.shrsi v3316 c3_i32_1653
  let c3_i32_1654 : BitVec 32 := 3#32
  let v3318 : BitVec 32 := Scalar.shli v3317 c3_i32_1654
  let v3319 : BitVec 32 := v3318
  let v3320 : Index := Scalar.indexCast v3319
  let c0_1655 : Index := 0#32
  ![v3320.toNat, 0]

def k0_chk185 (v3316 : BitVec 32) : Prop :=
  (8 ∣ (k0_mult185 v3316).toNat) ∧
  (∀ a, (k0_off370 v3316) a + S8x128.size a ≤ S10000x128.size a)
theorem k0_mult185_dvd : ∀ (v3316 : BitVec 32) (k0_hw185 : k0_chk185 v3316), 8 ∣ (k0_mult185 v3316).toNat := fun v3316 k0_hw185 => k0_hw185.1
theorem k0_off370_inb : ∀ (v3316 : BitVec 32) (k0_hw185 : k0_chk185 v3316), ∀ a, (k0_off370 v3316) a + S8x128.size a ≤ S10000x128.size a := fun v3316 k0_hw185 => k0_hw185.2

def k0_off371 (i : grid0.Coords) : Fin 2 → Nat :=
  let arg0 : BitVec 32 := BitVec.ofNat 32 (i 0).val
  let c4_i32 : BitVec 32 := 4#32
  let v0 : BitVec 32 := Scalar.muli arg0 c4_i32
  let c1_i32_1660 : BitVec 32 := 1#32
  let v3332 : BitVec 32 := Scalar.addi v0 c1_i32_1660
  let v3333 : Index := Scalar.indexCast v3332
  let c57_1661 : Index := 57#32
  ![v3333.toNat, 57]
def k0_mult186 (v3334 : BitVec 32) : BitVec 32 :=
  let c3_i32_1662 : BitVec 32 := 3#32
  let v3335 : BitVec 32 := Scalar.shrsi v3334 c3_i32_1662
  let c3_i32_1663 : BitVec 32 := 3#32
  let v3336 : BitVec 32 := Scalar.shli v3335 c3_i32_1663
  v3336

def k0_off372 (v3334 : BitVec 32) : Fin 2 → Nat :=
  let c3_i32_1662 : BitVec 32 := 3#32
  let v3335 : BitVec 32 := Scalar.shrsi v3334 c3_i32_1662
  let c3_i32_1663 : BitVec 32 := 3#32
  let v3336 : BitVec 32 := Scalar.shli v3335 c3_i32_1663
  let v3337 : BitVec 32 := v3336
  let v3338 : Index := Scalar.indexCast v3337
  let c0_1664 : Index := 0#32
  ![v3338.toNat, 0]

def k0_chk186 (v3334 : BitVec 32) : Prop :=
  (8 ∣ (k0_mult186 v3334).toNat) ∧
  (∀ a, (k0_off372 v3334) a + S8x128.size a ≤ S10000x128.size a)
theorem k0_mult186_dvd : ∀ (v3334 : BitVec 32) (k0_hw186 : k0_chk186 v3334), 8 ∣ (k0_mult186 v3334).toNat := fun v3334 k0_hw186 => k0_hw186.1
theorem k0_off372_inb : ∀ (v3334 : BitVec 32) (k0_hw186 : k0_chk186 v3334), ∀ a, (k0_off372 v3334) a + S8x128.size a ≤ S10000x128.size a := fun v3334 k0_hw186 => k0_hw186.2

def k0_off373 (i : grid0.Coords) : Fin 2 → Nat :=
  let arg0 : BitVec 32 := BitVec.ofNat 32 (i 0).val
  let c4_i32 : BitVec 32 := 4#32
  let v0 : BitVec 32 := Scalar.muli arg0 c4_i32
  let c1_i32_1669 : BitVec 32 := 1#32
  let v3350 : BitVec 32 := Scalar.addi v0 c1_i32_1669
  let v3351 : Index := Scalar.indexCast v3350
  let c58_1670 : Index := 58#32
  ![v3351.toNat, 58]
def k0_mult187 (v3352 : BitVec 32) : BitVec 32 :=
  let c3_i32_1671 : BitVec 32 := 3#32
  let v3353 : BitVec 32 := Scalar.shrsi v3352 c3_i32_1671
  let c3_i32_1672 : BitVec 32 := 3#32
  let v3354 : BitVec 32 := Scalar.shli v3353 c3_i32_1672
  v3354

def k0_off374 (v3352 : BitVec 32) : Fin 2 → Nat :=
  let c3_i32_1671 : BitVec 32 := 3#32
  let v3353 : BitVec 32 := Scalar.shrsi v3352 c3_i32_1671
  let c3_i32_1672 : BitVec 32 := 3#32
  let v3354 : BitVec 32 := Scalar.shli v3353 c3_i32_1672
  let v3355 : BitVec 32 := v3354
  let v3356 : Index := Scalar.indexCast v3355
  let c0_1673 : Index := 0#32
  ![v3356.toNat, 0]

def k0_chk187 (v3352 : BitVec 32) : Prop :=
  (8 ∣ (k0_mult187 v3352).toNat) ∧
  (∀ a, (k0_off374 v3352) a + S8x128.size a ≤ S10000x128.size a)
theorem k0_mult187_dvd : ∀ (v3352 : BitVec 32) (k0_hw187 : k0_chk187 v3352), 8 ∣ (k0_mult187 v3352).toNat := fun v3352 k0_hw187 => k0_hw187.1
theorem k0_off374_inb : ∀ (v3352 : BitVec 32) (k0_hw187 : k0_chk187 v3352), ∀ a, (k0_off374 v3352) a + S8x128.size a ≤ S10000x128.size a := fun v3352 k0_hw187 => k0_hw187.2

def k0_off375 (i : grid0.Coords) : Fin 2 → Nat :=
  let arg0 : BitVec 32 := BitVec.ofNat 32 (i 0).val
  let c4_i32 : BitVec 32 := 4#32
  let v0 : BitVec 32 := Scalar.muli arg0 c4_i32
  let c1_i32_1678 : BitVec 32 := 1#32
  let v3368 : BitVec 32 := Scalar.addi v0 c1_i32_1678
  let v3369 : Index := Scalar.indexCast v3368
  let c59_1679 : Index := 59#32
  ![v3369.toNat, 59]
def k0_mult188 (v3370 : BitVec 32) : BitVec 32 :=
  let c3_i32_1680 : BitVec 32 := 3#32
  let v3371 : BitVec 32 := Scalar.shrsi v3370 c3_i32_1680
  let c3_i32_1681 : BitVec 32 := 3#32
  let v3372 : BitVec 32 := Scalar.shli v3371 c3_i32_1681
  v3372

def k0_off376 (v3370 : BitVec 32) : Fin 2 → Nat :=
  let c3_i32_1680 : BitVec 32 := 3#32
  let v3371 : BitVec 32 := Scalar.shrsi v3370 c3_i32_1680
  let c3_i32_1681 : BitVec 32 := 3#32
  let v3372 : BitVec 32 := Scalar.shli v3371 c3_i32_1681
  let v3373 : BitVec 32 := v3372
  let v3374 : Index := Scalar.indexCast v3373
  let c0_1682 : Index := 0#32
  ![v3374.toNat, 0]

def k0_chk188 (v3370 : BitVec 32) : Prop :=
  (8 ∣ (k0_mult188 v3370).toNat) ∧
  (∀ a, (k0_off376 v3370) a + S8x128.size a ≤ S10000x128.size a)
theorem k0_mult188_dvd : ∀ (v3370 : BitVec 32) (k0_hw188 : k0_chk188 v3370), 8 ∣ (k0_mult188 v3370).toNat := fun v3370 k0_hw188 => k0_hw188.1
theorem k0_off376_inb : ∀ (v3370 : BitVec 32) (k0_hw188 : k0_chk188 v3370), ∀ a, (k0_off376 v3370) a + S8x128.size a ≤ S10000x128.size a := fun v3370 k0_hw188 => k0_hw188.2

def k0_off377 (i : grid0.Coords) : Fin 2 → Nat :=
  let arg0 : BitVec 32 := BitVec.ofNat 32 (i 0).val
  let c4_i32 : BitVec 32 := 4#32
  let v0 : BitVec 32 := Scalar.muli arg0 c4_i32
  let c1_i32_1687 : BitVec 32 := 1#32
  let v3386 : BitVec 32 := Scalar.addi v0 c1_i32_1687
  let v3387 : Index := Scalar.indexCast v3386
  let c60_1688 : Index := 60#32
  ![v3387.toNat, 60]
def k0_mult189 (v3388 : BitVec 32) : BitVec 32 :=
  let c3_i32_1689 : BitVec 32 := 3#32
  let v3389 : BitVec 32 := Scalar.shrsi v3388 c3_i32_1689
  let c3_i32_1690 : BitVec 32 := 3#32
  let v3390 : BitVec 32 := Scalar.shli v3389 c3_i32_1690
  v3390

def k0_off378 (v3388 : BitVec 32) : Fin 2 → Nat :=
  let c3_i32_1689 : BitVec 32 := 3#32
  let v3389 : BitVec 32 := Scalar.shrsi v3388 c3_i32_1689
  let c3_i32_1690 : BitVec 32 := 3#32
  let v3390 : BitVec 32 := Scalar.shli v3389 c3_i32_1690
  let v3391 : BitVec 32 := v3390
  let v3392 : Index := Scalar.indexCast v3391
  let c0_1691 : Index := 0#32
  ![v3392.toNat, 0]

def k0_chk189 (v3388 : BitVec 32) : Prop :=
  (8 ∣ (k0_mult189 v3388).toNat) ∧
  (∀ a, (k0_off378 v3388) a + S8x128.size a ≤ S10000x128.size a)
theorem k0_mult189_dvd : ∀ (v3388 : BitVec 32) (k0_hw189 : k0_chk189 v3388), 8 ∣ (k0_mult189 v3388).toNat := fun v3388 k0_hw189 => k0_hw189.1
theorem k0_off378_inb : ∀ (v3388 : BitVec 32) (k0_hw189 : k0_chk189 v3388), ∀ a, (k0_off378 v3388) a + S8x128.size a ≤ S10000x128.size a := fun v3388 k0_hw189 => k0_hw189.2

def k0_off379 (i : grid0.Coords) : Fin 2 → Nat :=
  let arg0 : BitVec 32 := BitVec.ofNat 32 (i 0).val
  let c4_i32 : BitVec 32 := 4#32
  let v0 : BitVec 32 := Scalar.muli arg0 c4_i32
  let c1_i32_1696 : BitVec 32 := 1#32
  let v3404 : BitVec 32 := Scalar.addi v0 c1_i32_1696
  let v3405 : Index := Scalar.indexCast v3404
  let c61_1697 : Index := 61#32
  ![v3405.toNat, 61]
def k0_mult190 (v3406 : BitVec 32) : BitVec 32 :=
  let c3_i32_1698 : BitVec 32 := 3#32
  let v3407 : BitVec 32 := Scalar.shrsi v3406 c3_i32_1698
  let c3_i32_1699 : BitVec 32 := 3#32
  let v3408 : BitVec 32 := Scalar.shli v3407 c3_i32_1699
  v3408

def k0_off380 (v3406 : BitVec 32) : Fin 2 → Nat :=
  let c3_i32_1698 : BitVec 32 := 3#32
  let v3407 : BitVec 32 := Scalar.shrsi v3406 c3_i32_1698
  let c3_i32_1699 : BitVec 32 := 3#32
  let v3408 : BitVec 32 := Scalar.shli v3407 c3_i32_1699
  let v3409 : BitVec 32 := v3408
  let v3410 : Index := Scalar.indexCast v3409
  let c0_1700 : Index := 0#32
  ![v3410.toNat, 0]

def k0_chk190 (v3406 : BitVec 32) : Prop :=
  (8 ∣ (k0_mult190 v3406).toNat) ∧
  (∀ a, (k0_off380 v3406) a + S8x128.size a ≤ S10000x128.size a)
theorem k0_mult190_dvd : ∀ (v3406 : BitVec 32) (k0_hw190 : k0_chk190 v3406), 8 ∣ (k0_mult190 v3406).toNat := fun v3406 k0_hw190 => k0_hw190.1
theorem k0_off380_inb : ∀ (v3406 : BitVec 32) (k0_hw190 : k0_chk190 v3406), ∀ a, (k0_off380 v3406) a + S8x128.size a ≤ S10000x128.size a := fun v3406 k0_hw190 => k0_hw190.2

def k0_off381 (i : grid0.Coords) : Fin 2 → Nat :=
  let arg0 : BitVec 32 := BitVec.ofNat 32 (i 0).val
  let c4_i32 : BitVec 32 := 4#32
  let v0 : BitVec 32 := Scalar.muli arg0 c4_i32
  let c1_i32_1705 : BitVec 32 := 1#32
  let v3422 : BitVec 32 := Scalar.addi v0 c1_i32_1705
  let v3423 : Index := Scalar.indexCast v3422
  let c62_1706 : Index := 62#32
  ![v3423.toNat, 62]
def k0_mult191 (v3424 : BitVec 32) : BitVec 32 :=
  let c3_i32_1707 : BitVec 32 := 3#32
  let v3425 : BitVec 32 := Scalar.shrsi v3424 c3_i32_1707
  let c3_i32_1708 : BitVec 32 := 3#32
  let v3426 : BitVec 32 := Scalar.shli v3425 c3_i32_1708
  v3426

def k0_off382 (v3424 : BitVec 32) : Fin 2 → Nat :=
  let c3_i32_1707 : BitVec 32 := 3#32
  let v3425 : BitVec 32 := Scalar.shrsi v3424 c3_i32_1707
  let c3_i32_1708 : BitVec 32 := 3#32
  let v3426 : BitVec 32 := Scalar.shli v3425 c3_i32_1708
  let v3427 : BitVec 32 := v3426
  let v3428 : Index := Scalar.indexCast v3427
  let c0_1709 : Index := 0#32
  ![v3428.toNat, 0]

def k0_chk191 (v3424 : BitVec 32) : Prop :=
  (8 ∣ (k0_mult191 v3424).toNat) ∧
  (∀ a, (k0_off382 v3424) a + S8x128.size a ≤ S10000x128.size a)
theorem k0_mult191_dvd : ∀ (v3424 : BitVec 32) (k0_hw191 : k0_chk191 v3424), 8 ∣ (k0_mult191 v3424).toNat := fun v3424 k0_hw191 => k0_hw191.1
theorem k0_off382_inb : ∀ (v3424 : BitVec 32) (k0_hw191 : k0_chk191 v3424), ∀ a, (k0_off382 v3424) a + S8x128.size a ≤ S10000x128.size a := fun v3424 k0_hw191 => k0_hw191.2

def k0_off383 (i : grid0.Coords) : Fin 2 → Nat :=
  let arg0 : BitVec 32 := BitVec.ofNat 32 (i 0).val
  let c4_i32 : BitVec 32 := 4#32
  let v0 : BitVec 32 := Scalar.muli arg0 c4_i32
  let c1_i32_1714 : BitVec 32 := 1#32
  let v3440 : BitVec 32 := Scalar.addi v0 c1_i32_1714
  let v3441 : Index := Scalar.indexCast v3440
  let c63_1715 : Index := 63#32
  ![v3441.toNat, 63]
def k0_mult192 (v3442 : BitVec 32) : BitVec 32 :=
  let c3_i32_1716 : BitVec 32 := 3#32
  let v3443 : BitVec 32 := Scalar.shrsi v3442 c3_i32_1716
  let c3_i32_1717 : BitVec 32 := 3#32
  let v3444 : BitVec 32 := Scalar.shli v3443 c3_i32_1717
  v3444

def k0_off384 (v3442 : BitVec 32) : Fin 2 → Nat :=
  let c3_i32_1716 : BitVec 32 := 3#32
  let v3443 : BitVec 32 := Scalar.shrsi v3442 c3_i32_1716
  let c3_i32_1717 : BitVec 32 := 3#32
  let v3444 : BitVec 32 := Scalar.shli v3443 c3_i32_1717
  let v3445 : BitVec 32 := v3444
  let v3446 : Index := Scalar.indexCast v3445
  let c0_1718 : Index := 0#32
  ![v3446.toNat, 0]

def k0_chk192 (v3442 : BitVec 32) : Prop :=
  (8 ∣ (k0_mult192 v3442).toNat) ∧
  (∀ a, (k0_off384 v3442) a + S8x128.size a ≤ S10000x128.size a)
theorem k0_mult192_dvd : ∀ (v3442 : BitVec 32) (k0_hw192 : k0_chk192 v3442), 8 ∣ (k0_mult192 v3442).toNat := fun v3442 k0_hw192 => k0_hw192.1
theorem k0_off384_inb : ∀ (v3442 : BitVec 32) (k0_hw192 : k0_chk192 v3442), ∀ a, (k0_off384 v3442) a + S8x128.size a ≤ S10000x128.size a := fun v3442 k0_hw192 => k0_hw192.2

def k0_off385 (i : grid0.Coords) : Fin 2 → Nat :=
  let arg0 : BitVec 32 := BitVec.ofNat 32 (i 0).val
  let c4_i32 : BitVec 32 := 4#32
  let v0 : BitVec 32 := Scalar.muli arg0 c4_i32
  let c1_i32_1723 : BitVec 32 := 1#32
  let v3458 : BitVec 32 := Scalar.addi v0 c1_i32_1723
  let v3459 : Index := Scalar.indexCast v3458
  let c64_1724 : Index := 64#32
  ![v3459.toNat, 64]
def k0_mult193 (v3460 : BitVec 32) : BitVec 32 :=
  let c3_i32_1725 : BitVec 32 := 3#32
  let v3461 : BitVec 32 := Scalar.shrsi v3460 c3_i32_1725
  let c3_i32_1726 : BitVec 32 := 3#32
  let v3462 : BitVec 32 := Scalar.shli v3461 c3_i32_1726
  v3462

def k0_off386 (v3460 : BitVec 32) : Fin 2 → Nat :=
  let c3_i32_1725 : BitVec 32 := 3#32
  let v3461 : BitVec 32 := Scalar.shrsi v3460 c3_i32_1725
  let c3_i32_1726 : BitVec 32 := 3#32
  let v3462 : BitVec 32 := Scalar.shli v3461 c3_i32_1726
  let v3463 : BitVec 32 := v3462
  let v3464 : Index := Scalar.indexCast v3463
  let c0_1727 : Index := 0#32
  ![v3464.toNat, 0]

def k0_chk193 (v3460 : BitVec 32) : Prop :=
  (8 ∣ (k0_mult193 v3460).toNat) ∧
  (∀ a, (k0_off386 v3460) a + S8x128.size a ≤ S10000x128.size a)
theorem k0_mult193_dvd : ∀ (v3460 : BitVec 32) (k0_hw193 : k0_chk193 v3460), 8 ∣ (k0_mult193 v3460).toNat := fun v3460 k0_hw193 => k0_hw193.1
theorem k0_off386_inb : ∀ (v3460 : BitVec 32) (k0_hw193 : k0_chk193 v3460), ∀ a, (k0_off386 v3460) a + S8x128.size a ≤ S10000x128.size a := fun v3460 k0_hw193 => k0_hw193.2

def k0_off387 (i : grid0.Coords) : Fin 2 → Nat :=
  let arg0 : BitVec 32 := BitVec.ofNat 32 (i 0).val
  let c4_i32 : BitVec 32 := 4#32
  let v0 : BitVec 32 := Scalar.muli arg0 c4_i32
  let c1_i32_1732 : BitVec 32 := 1#32
  let v3476 : BitVec 32 := Scalar.addi v0 c1_i32_1732
  let v3477 : Index := Scalar.indexCast v3476
  let c65_1733 : Index := 65#32
  ![v3477.toNat, 65]
def k0_mult194 (v3478 : BitVec 32) : BitVec 32 :=
  let c3_i32_1734 : BitVec 32 := 3#32
  let v3479 : BitVec 32 := Scalar.shrsi v3478 c3_i32_1734
  let c3_i32_1735 : BitVec 32 := 3#32
  let v3480 : BitVec 32 := Scalar.shli v3479 c3_i32_1735
  v3480

def k0_off388 (v3478 : BitVec 32) : Fin 2 → Nat :=
  let c3_i32_1734 : BitVec 32 := 3#32
  let v3479 : BitVec 32 := Scalar.shrsi v3478 c3_i32_1734
  let c3_i32_1735 : BitVec 32 := 3#32
  let v3480 : BitVec 32 := Scalar.shli v3479 c3_i32_1735
  let v3481 : BitVec 32 := v3480
  let v3482 : Index := Scalar.indexCast v3481
  let c0_1736 : Index := 0#32
  ![v3482.toNat, 0]

def k0_chk194 (v3478 : BitVec 32) : Prop :=
  (8 ∣ (k0_mult194 v3478).toNat) ∧
  (∀ a, (k0_off388 v3478) a + S8x128.size a ≤ S10000x128.size a)
theorem k0_mult194_dvd : ∀ (v3478 : BitVec 32) (k0_hw194 : k0_chk194 v3478), 8 ∣ (k0_mult194 v3478).toNat := fun v3478 k0_hw194 => k0_hw194.1
theorem k0_off388_inb : ∀ (v3478 : BitVec 32) (k0_hw194 : k0_chk194 v3478), ∀ a, (k0_off388 v3478) a + S8x128.size a ≤ S10000x128.size a := fun v3478 k0_hw194 => k0_hw194.2

def k0_off389 (i : grid0.Coords) : Fin 2 → Nat :=
  let arg0 : BitVec 32 := BitVec.ofNat 32 (i 0).val
  let c4_i32 : BitVec 32 := 4#32
  let v0 : BitVec 32 := Scalar.muli arg0 c4_i32
  let c1_i32_1741 : BitVec 32 := 1#32
  let v3494 : BitVec 32 := Scalar.addi v0 c1_i32_1741
  let v3495 : Index := Scalar.indexCast v3494
  let c66_1742 : Index := 66#32
  ![v3495.toNat, 66]
def k0_mult195 (v3496 : BitVec 32) : BitVec 32 :=
  let c3_i32_1743 : BitVec 32 := 3#32
  let v3497 : BitVec 32 := Scalar.shrsi v3496 c3_i32_1743
  let c3_i32_1744 : BitVec 32 := 3#32
  let v3498 : BitVec 32 := Scalar.shli v3497 c3_i32_1744
  v3498

def k0_off390 (v3496 : BitVec 32) : Fin 2 → Nat :=
  let c3_i32_1743 : BitVec 32 := 3#32
  let v3497 : BitVec 32 := Scalar.shrsi v3496 c3_i32_1743
  let c3_i32_1744 : BitVec 32 := 3#32
  let v3498 : BitVec 32 := Scalar.shli v3497 c3_i32_1744
  let v3499 : BitVec 32 := v3498
  let v3500 : Index := Scalar.indexCast v3499
  let c0_1745 : Index := 0#32
  ![v3500.toNat, 0]

def k0_chk195 (v3496 : BitVec 32) : Prop :=
  (8 ∣ (k0_mult195 v3496).toNat) ∧
  (∀ a, (k0_off390 v3496) a + S8x128.size a ≤ S10000x128.size a)
theorem k0_mult195_dvd : ∀ (v3496 : BitVec 32) (k0_hw195 : k0_chk195 v3496), 8 ∣ (k0_mult195 v3496).toNat := fun v3496 k0_hw195 => k0_hw195.1
theorem k0_off390_inb : ∀ (v3496 : BitVec 32) (k0_hw195 : k0_chk195 v3496), ∀ a, (k0_off390 v3496) a + S8x128.size a ≤ S10000x128.size a := fun v3496 k0_hw195 => k0_hw195.2

def k0_off391 (i : grid0.Coords) : Fin 2 → Nat :=
  let arg0 : BitVec 32 := BitVec.ofNat 32 (i 0).val
  let c4_i32 : BitVec 32 := 4#32
  let v0 : BitVec 32 := Scalar.muli arg0 c4_i32
  let c1_i32_1750 : BitVec 32 := 1#32
  let v3512 : BitVec 32 := Scalar.addi v0 c1_i32_1750
  let v3513 : Index := Scalar.indexCast v3512
  let c67_1751 : Index := 67#32
  ![v3513.toNat, 67]
def k0_mult196 (v3514 : BitVec 32) : BitVec 32 :=
  let c3_i32_1752 : BitVec 32 := 3#32
  let v3515 : BitVec 32 := Scalar.shrsi v3514 c3_i32_1752
  let c3_i32_1753 : BitVec 32 := 3#32
  let v3516 : BitVec 32 := Scalar.shli v3515 c3_i32_1753
  v3516

def k0_off392 (v3514 : BitVec 32) : Fin 2 → Nat :=
  let c3_i32_1752 : BitVec 32 := 3#32
  let v3515 : BitVec 32 := Scalar.shrsi v3514 c3_i32_1752
  let c3_i32_1753 : BitVec 32 := 3#32
  let v3516 : BitVec 32 := Scalar.shli v3515 c3_i32_1753
  let v3517 : BitVec 32 := v3516
  let v3518 : Index := Scalar.indexCast v3517
  let c0_1754 : Index := 0#32
  ![v3518.toNat, 0]

def k0_chk196 (v3514 : BitVec 32) : Prop :=
  (8 ∣ (k0_mult196 v3514).toNat) ∧
  (∀ a, (k0_off392 v3514) a + S8x128.size a ≤ S10000x128.size a)
theorem k0_mult196_dvd : ∀ (v3514 : BitVec 32) (k0_hw196 : k0_chk196 v3514), 8 ∣ (k0_mult196 v3514).toNat := fun v3514 k0_hw196 => k0_hw196.1
theorem k0_off392_inb : ∀ (v3514 : BitVec 32) (k0_hw196 : k0_chk196 v3514), ∀ a, (k0_off392 v3514) a + S8x128.size a ≤ S10000x128.size a := fun v3514 k0_hw196 => k0_hw196.2

def k0_off393 (i : grid0.Coords) : Fin 2 → Nat :=
  let arg0 : BitVec 32 := BitVec.ofNat 32 (i 0).val
  let c4_i32 : BitVec 32 := 4#32
  let v0 : BitVec 32 := Scalar.muli arg0 c4_i32
  let c1_i32_1759 : BitVec 32 := 1#32
  let v3530 : BitVec 32 := Scalar.addi v0 c1_i32_1759
  let v3531 : Index := Scalar.indexCast v3530
  let c68_1760 : Index := 68#32
  ![v3531.toNat, 68]
def k0_mult197 (v3532 : BitVec 32) : BitVec 32 :=
  let c3_i32_1761 : BitVec 32 := 3#32
  let v3533 : BitVec 32 := Scalar.shrsi v3532 c3_i32_1761
  let c3_i32_1762 : BitVec 32 := 3#32
  let v3534 : BitVec 32 := Scalar.shli v3533 c3_i32_1762
  v3534

def k0_off394 (v3532 : BitVec 32) : Fin 2 → Nat :=
  let c3_i32_1761 : BitVec 32 := 3#32
  let v3533 : BitVec 32 := Scalar.shrsi v3532 c3_i32_1761
  let c3_i32_1762 : BitVec 32 := 3#32
  let v3534 : BitVec 32 := Scalar.shli v3533 c3_i32_1762
  let v3535 : BitVec 32 := v3534
  let v3536 : Index := Scalar.indexCast v3535
  let c0_1763 : Index := 0#32
  ![v3536.toNat, 0]

def k0_chk197 (v3532 : BitVec 32) : Prop :=
  (8 ∣ (k0_mult197 v3532).toNat) ∧
  (∀ a, (k0_off394 v3532) a + S8x128.size a ≤ S10000x128.size a)
theorem k0_mult197_dvd : ∀ (v3532 : BitVec 32) (k0_hw197 : k0_chk197 v3532), 8 ∣ (k0_mult197 v3532).toNat := fun v3532 k0_hw197 => k0_hw197.1
theorem k0_off394_inb : ∀ (v3532 : BitVec 32) (k0_hw197 : k0_chk197 v3532), ∀ a, (k0_off394 v3532) a + S8x128.size a ≤ S10000x128.size a := fun v3532 k0_hw197 => k0_hw197.2

def k0_off395 (i : grid0.Coords) : Fin 2 → Nat :=
  let arg0 : BitVec 32 := BitVec.ofNat 32 (i 0).val
  let c4_i32 : BitVec 32 := 4#32
  let v0 : BitVec 32 := Scalar.muli arg0 c4_i32
  let c1_i32_1768 : BitVec 32 := 1#32
  let v3548 : BitVec 32 := Scalar.addi v0 c1_i32_1768
  let v3549 : Index := Scalar.indexCast v3548
  let c69_1769 : Index := 69#32
  ![v3549.toNat, 69]
def k0_mult198 (v3550 : BitVec 32) : BitVec 32 :=
  let c3_i32_1770 : BitVec 32 := 3#32
  let v3551 : BitVec 32 := Scalar.shrsi v3550 c3_i32_1770
  let c3_i32_1771 : BitVec 32 := 3#32
  let v3552 : BitVec 32 := Scalar.shli v3551 c3_i32_1771
  v3552

def k0_off396 (v3550 : BitVec 32) : Fin 2 → Nat :=
  let c3_i32_1770 : BitVec 32 := 3#32
  let v3551 : BitVec 32 := Scalar.shrsi v3550 c3_i32_1770
  let c3_i32_1771 : BitVec 32 := 3#32
  let v3552 : BitVec 32 := Scalar.shli v3551 c3_i32_1771
  let v3553 : BitVec 32 := v3552
  let v3554 : Index := Scalar.indexCast v3553
  let c0_1772 : Index := 0#32
  ![v3554.toNat, 0]

def k0_chk198 (v3550 : BitVec 32) : Prop :=
  (8 ∣ (k0_mult198 v3550).toNat) ∧
  (∀ a, (k0_off396 v3550) a + S8x128.size a ≤ S10000x128.size a)
theorem k0_mult198_dvd : ∀ (v3550 : BitVec 32) (k0_hw198 : k0_chk198 v3550), 8 ∣ (k0_mult198 v3550).toNat := fun v3550 k0_hw198 => k0_hw198.1
theorem k0_off396_inb : ∀ (v3550 : BitVec 32) (k0_hw198 : k0_chk198 v3550), ∀ a, (k0_off396 v3550) a + S8x128.size a ≤ S10000x128.size a := fun v3550 k0_hw198 => k0_hw198.2

def k0_off397 (i : grid0.Coords) : Fin 2 → Nat :=
  let arg0 : BitVec 32 := BitVec.ofNat 32 (i 0).val
  let c4_i32 : BitVec 32 := 4#32
  let v0 : BitVec 32 := Scalar.muli arg0 c4_i32
  let c1_i32_1777 : BitVec 32 := 1#32
  let v3566 : BitVec 32 := Scalar.addi v0 c1_i32_1777
  let v3567 : Index := Scalar.indexCast v3566
  let c70_1778 : Index := 70#32
  ![v3567.toNat, 70]
def k0_mult199 (v3568 : BitVec 32) : BitVec 32 :=
  let c3_i32_1779 : BitVec 32 := 3#32
  let v3569 : BitVec 32 := Scalar.shrsi v3568 c3_i32_1779
  let c3_i32_1780 : BitVec 32 := 3#32
  let v3570 : BitVec 32 := Scalar.shli v3569 c3_i32_1780
  v3570

def k0_off398 (v3568 : BitVec 32) : Fin 2 → Nat :=
  let c3_i32_1779 : BitVec 32 := 3#32
  let v3569 : BitVec 32 := Scalar.shrsi v3568 c3_i32_1779
  let c3_i32_1780 : BitVec 32 := 3#32
  let v3570 : BitVec 32 := Scalar.shli v3569 c3_i32_1780
  let v3571 : BitVec 32 := v3570
  let v3572 : Index := Scalar.indexCast v3571
  let c0_1781 : Index := 0#32
  ![v3572.toNat, 0]

def k0_chk199 (v3568 : BitVec 32) : Prop :=
  (8 ∣ (k0_mult199 v3568).toNat) ∧
  (∀ a, (k0_off398 v3568) a + S8x128.size a ≤ S10000x128.size a)
theorem k0_mult199_dvd : ∀ (v3568 : BitVec 32) (k0_hw199 : k0_chk199 v3568), 8 ∣ (k0_mult199 v3568).toNat := fun v3568 k0_hw199 => k0_hw199.1
theorem k0_off398_inb : ∀ (v3568 : BitVec 32) (k0_hw199 : k0_chk199 v3568), ∀ a, (k0_off398 v3568) a + S8x128.size a ≤ S10000x128.size a := fun v3568 k0_hw199 => k0_hw199.2

def k0_off399 (i : grid0.Coords) : Fin 2 → Nat :=
  let arg0 : BitVec 32 := BitVec.ofNat 32 (i 0).val
  let c4_i32 : BitVec 32 := 4#32
  let v0 : BitVec 32 := Scalar.muli arg0 c4_i32
  let c1_i32_1786 : BitVec 32 := 1#32
  let v3584 : BitVec 32 := Scalar.addi v0 c1_i32_1786
  let v3585 : Index := Scalar.indexCast v3584
  let c71_1787 : Index := 71#32
  ![v3585.toNat, 71]
def k0_mult200 (v3586 : BitVec 32) : BitVec 32 :=
  let c3_i32_1788 : BitVec 32 := 3#32
  let v3587 : BitVec 32 := Scalar.shrsi v3586 c3_i32_1788
  let c3_i32_1789 : BitVec 32 := 3#32
  let v3588 : BitVec 32 := Scalar.shli v3587 c3_i32_1789
  v3588

def k0_off400 (v3586 : BitVec 32) : Fin 2 → Nat :=
  let c3_i32_1788 : BitVec 32 := 3#32
  let v3587 : BitVec 32 := Scalar.shrsi v3586 c3_i32_1788
  let c3_i32_1789 : BitVec 32 := 3#32
  let v3588 : BitVec 32 := Scalar.shli v3587 c3_i32_1789
  let v3589 : BitVec 32 := v3588
  let v3590 : Index := Scalar.indexCast v3589
  let c0_1790 : Index := 0#32
  ![v3590.toNat, 0]

def k0_chk200 (v3586 : BitVec 32) : Prop :=
  (8 ∣ (k0_mult200 v3586).toNat) ∧
  (∀ a, (k0_off400 v3586) a + S8x128.size a ≤ S10000x128.size a)
theorem k0_mult200_dvd : ∀ (v3586 : BitVec 32) (k0_hw200 : k0_chk200 v3586), 8 ∣ (k0_mult200 v3586).toNat := fun v3586 k0_hw200 => k0_hw200.1
theorem k0_off400_inb : ∀ (v3586 : BitVec 32) (k0_hw200 : k0_chk200 v3586), ∀ a, (k0_off400 v3586) a + S8x128.size a ≤ S10000x128.size a := fun v3586 k0_hw200 => k0_hw200.2

def k0_off401 (i : grid0.Coords) : Fin 2 → Nat :=
  let arg0 : BitVec 32 := BitVec.ofNat 32 (i 0).val
  let c4_i32 : BitVec 32 := 4#32
  let v0 : BitVec 32 := Scalar.muli arg0 c4_i32
  let c1_i32_1795 : BitVec 32 := 1#32
  let v3602 : BitVec 32 := Scalar.addi v0 c1_i32_1795
  let v3603 : Index := Scalar.indexCast v3602
  let c72_1796 : Index := 72#32
  ![v3603.toNat, 72]
def k0_mult201 (v3604 : BitVec 32) : BitVec 32 :=
  let c3_i32_1797 : BitVec 32 := 3#32
  let v3605 : BitVec 32 := Scalar.shrsi v3604 c3_i32_1797
  let c3_i32_1798 : BitVec 32 := 3#32
  let v3606 : BitVec 32 := Scalar.shli v3605 c3_i32_1798
  v3606

def k0_off402 (v3604 : BitVec 32) : Fin 2 → Nat :=
  let c3_i32_1797 : BitVec 32 := 3#32
  let v3605 : BitVec 32 := Scalar.shrsi v3604 c3_i32_1797
  let c3_i32_1798 : BitVec 32 := 3#32
  let v3606 : BitVec 32 := Scalar.shli v3605 c3_i32_1798
  let v3607 : BitVec 32 := v3606
  let v3608 : Index := Scalar.indexCast v3607
  let c0_1799 : Index := 0#32
  ![v3608.toNat, 0]

def k0_chk201 (v3604 : BitVec 32) : Prop :=
  (8 ∣ (k0_mult201 v3604).toNat) ∧
  (∀ a, (k0_off402 v3604) a + S8x128.size a ≤ S10000x128.size a)
theorem k0_mult201_dvd : ∀ (v3604 : BitVec 32) (k0_hw201 : k0_chk201 v3604), 8 ∣ (k0_mult201 v3604).toNat := fun v3604 k0_hw201 => k0_hw201.1
theorem k0_off402_inb : ∀ (v3604 : BitVec 32) (k0_hw201 : k0_chk201 v3604), ∀ a, (k0_off402 v3604) a + S8x128.size a ≤ S10000x128.size a := fun v3604 k0_hw201 => k0_hw201.2

def k0_off403 (i : grid0.Coords) : Fin 2 → Nat :=
  let arg0 : BitVec 32 := BitVec.ofNat 32 (i 0).val
  let c4_i32 : BitVec 32 := 4#32
  let v0 : BitVec 32 := Scalar.muli arg0 c4_i32
  let c1_i32_1804 : BitVec 32 := 1#32
  let v3620 : BitVec 32 := Scalar.addi v0 c1_i32_1804
  let v3621 : Index := Scalar.indexCast v3620
  let c73_1805 : Index := 73#32
  ![v3621.toNat, 73]
def k0_mult202 (v3622 : BitVec 32) : BitVec 32 :=
  let c3_i32_1806 : BitVec 32 := 3#32
  let v3623 : BitVec 32 := Scalar.shrsi v3622 c3_i32_1806
  let c3_i32_1807 : BitVec 32 := 3#32
  let v3624 : BitVec 32 := Scalar.shli v3623 c3_i32_1807
  v3624

def k0_off404 (v3622 : BitVec 32) : Fin 2 → Nat :=
  let c3_i32_1806 : BitVec 32 := 3#32
  let v3623 : BitVec 32 := Scalar.shrsi v3622 c3_i32_1806
  let c3_i32_1807 : BitVec 32 := 3#32
  let v3624 : BitVec 32 := Scalar.shli v3623 c3_i32_1807
  let v3625 : BitVec 32 := v3624
  let v3626 : Index := Scalar.indexCast v3625
  let c0_1808 : Index := 0#32
  ![v3626.toNat, 0]

def k0_chk202 (v3622 : BitVec 32) : Prop :=
  (8 ∣ (k0_mult202 v3622).toNat) ∧
  (∀ a, (k0_off404 v3622) a + S8x128.size a ≤ S10000x128.size a)
theorem k0_mult202_dvd : ∀ (v3622 : BitVec 32) (k0_hw202 : k0_chk202 v3622), 8 ∣ (k0_mult202 v3622).toNat := fun v3622 k0_hw202 => k0_hw202.1
theorem k0_off404_inb : ∀ (v3622 : BitVec 32) (k0_hw202 : k0_chk202 v3622), ∀ a, (k0_off404 v3622) a + S8x128.size a ≤ S10000x128.size a := fun v3622 k0_hw202 => k0_hw202.2

def k0_off405 (i : grid0.Coords) : Fin 2 → Nat :=
  let arg0 : BitVec 32 := BitVec.ofNat 32 (i 0).val
  let c4_i32 : BitVec 32 := 4#32
  let v0 : BitVec 32 := Scalar.muli arg0 c4_i32
  let c1_i32_1813 : BitVec 32 := 1#32
  let v3638 : BitVec 32 := Scalar.addi v0 c1_i32_1813
  let v3639 : Index := Scalar.indexCast v3638
  let c74_1814 : Index := 74#32
  ![v3639.toNat, 74]
def k0_mult203 (v3640 : BitVec 32) : BitVec 32 :=
  let c3_i32_1815 : BitVec 32 := 3#32
  let v3641 : BitVec 32 := Scalar.shrsi v3640 c3_i32_1815
  let c3_i32_1816 : BitVec 32 := 3#32
  let v3642 : BitVec 32 := Scalar.shli v3641 c3_i32_1816
  v3642

def k0_off406 (v3640 : BitVec 32) : Fin 2 → Nat :=
  let c3_i32_1815 : BitVec 32 := 3#32
  let v3641 : BitVec 32 := Scalar.shrsi v3640 c3_i32_1815
  let c3_i32_1816 : BitVec 32 := 3#32
  let v3642 : BitVec 32 := Scalar.shli v3641 c3_i32_1816
  let v3643 : BitVec 32 := v3642
  let v3644 : Index := Scalar.indexCast v3643
  let c0_1817 : Index := 0#32
  ![v3644.toNat, 0]

def k0_chk203 (v3640 : BitVec 32) : Prop :=
  (8 ∣ (k0_mult203 v3640).toNat) ∧
  (∀ a, (k0_off406 v3640) a + S8x128.size a ≤ S10000x128.size a)
theorem k0_mult203_dvd : ∀ (v3640 : BitVec 32) (k0_hw203 : k0_chk203 v3640), 8 ∣ (k0_mult203 v3640).toNat := fun v3640 k0_hw203 => k0_hw203.1
theorem k0_off406_inb : ∀ (v3640 : BitVec 32) (k0_hw203 : k0_chk203 v3640), ∀ a, (k0_off406 v3640) a + S8x128.size a ≤ S10000x128.size a := fun v3640 k0_hw203 => k0_hw203.2

def k0_off407 (i : grid0.Coords) : Fin 2 → Nat :=
  let arg0 : BitVec 32 := BitVec.ofNat 32 (i 0).val
  let c4_i32 : BitVec 32 := 4#32
  let v0 : BitVec 32 := Scalar.muli arg0 c4_i32
  let c1_i32_1822 : BitVec 32 := 1#32
  let v3656 : BitVec 32 := Scalar.addi v0 c1_i32_1822
  let v3657 : Index := Scalar.indexCast v3656
  let c75_1823 : Index := 75#32
  ![v3657.toNat, 75]
def k0_mult204 (v3658 : BitVec 32) : BitVec 32 :=
  let c3_i32_1824 : BitVec 32 := 3#32
  let v3659 : BitVec 32 := Scalar.shrsi v3658 c3_i32_1824
  let c3_i32_1825 : BitVec 32 := 3#32
  let v3660 : BitVec 32 := Scalar.shli v3659 c3_i32_1825
  v3660

def k0_off408 (v3658 : BitVec 32) : Fin 2 → Nat :=
  let c3_i32_1824 : BitVec 32 := 3#32
  let v3659 : BitVec 32 := Scalar.shrsi v3658 c3_i32_1824
  let c3_i32_1825 : BitVec 32 := 3#32
  let v3660 : BitVec 32 := Scalar.shli v3659 c3_i32_1825
  let v3661 : BitVec 32 := v3660
  let v3662 : Index := Scalar.indexCast v3661
  let c0_1826 : Index := 0#32
  ![v3662.toNat, 0]

def k0_chk204 (v3658 : BitVec 32) : Prop :=
  (8 ∣ (k0_mult204 v3658).toNat) ∧
  (∀ a, (k0_off408 v3658) a + S8x128.size a ≤ S10000x128.size a)
theorem k0_mult204_dvd : ∀ (v3658 : BitVec 32) (k0_hw204 : k0_chk204 v3658), 8 ∣ (k0_mult204 v3658).toNat := fun v3658 k0_hw204 => k0_hw204.1
theorem k0_off408_inb : ∀ (v3658 : BitVec 32) (k0_hw204 : k0_chk204 v3658), ∀ a, (k0_off408 v3658) a + S8x128.size a ≤ S10000x128.size a := fun v3658 k0_hw204 => k0_hw204.2

def k0_off409 (i : grid0.Coords) : Fin 2 → Nat :=
  let arg0 : BitVec 32 := BitVec.ofNat 32 (i 0).val
  let c4_i32 : BitVec 32 := 4#32
  let v0 : BitVec 32 := Scalar.muli arg0 c4_i32
  let c1_i32_1831 : BitVec 32 := 1#32
  let v3674 : BitVec 32 := Scalar.addi v0 c1_i32_1831
  let v3675 : Index := Scalar.indexCast v3674
  let c76_1832 : Index := 76#32
  ![v3675.toNat, 76]
def k0_mult205 (v3676 : BitVec 32) : BitVec 32 :=
  let c3_i32_1833 : BitVec 32 := 3#32
  let v3677 : BitVec 32 := Scalar.shrsi v3676 c3_i32_1833
  let c3_i32_1834 : BitVec 32 := 3#32
  let v3678 : BitVec 32 := Scalar.shli v3677 c3_i32_1834
  v3678

def k0_off410 (v3676 : BitVec 32) : Fin 2 → Nat :=
  let c3_i32_1833 : BitVec 32 := 3#32
  let v3677 : BitVec 32 := Scalar.shrsi v3676 c3_i32_1833
  let c3_i32_1834 : BitVec 32 := 3#32
  let v3678 : BitVec 32 := Scalar.shli v3677 c3_i32_1834
  let v3679 : BitVec 32 := v3678
  let v3680 : Index := Scalar.indexCast v3679
  let c0_1835 : Index := 0#32
  ![v3680.toNat, 0]

def k0_chk205 (v3676 : BitVec 32) : Prop :=
  (8 ∣ (k0_mult205 v3676).toNat) ∧
  (∀ a, (k0_off410 v3676) a + S8x128.size a ≤ S10000x128.size a)
theorem k0_mult205_dvd : ∀ (v3676 : BitVec 32) (k0_hw205 : k0_chk205 v3676), 8 ∣ (k0_mult205 v3676).toNat := fun v3676 k0_hw205 => k0_hw205.1
theorem k0_off410_inb : ∀ (v3676 : BitVec 32) (k0_hw205 : k0_chk205 v3676), ∀ a, (k0_off410 v3676) a + S8x128.size a ≤ S10000x128.size a := fun v3676 k0_hw205 => k0_hw205.2

def k0_off411 (i : grid0.Coords) : Fin 2 → Nat :=
  let arg0 : BitVec 32 := BitVec.ofNat 32 (i 0).val
  let c4_i32 : BitVec 32 := 4#32
  let v0 : BitVec 32 := Scalar.muli arg0 c4_i32
  let c1_i32_1840 : BitVec 32 := 1#32
  let v3692 : BitVec 32 := Scalar.addi v0 c1_i32_1840
  let v3693 : Index := Scalar.indexCast v3692
  let c77_1841 : Index := 77#32
  ![v3693.toNat, 77]
def k0_mult206 (v3694 : BitVec 32) : BitVec 32 :=
  let c3_i32_1842 : BitVec 32 := 3#32
  let v3695 : BitVec 32 := Scalar.shrsi v3694 c3_i32_1842
  let c3_i32_1843 : BitVec 32 := 3#32
  let v3696 : BitVec 32 := Scalar.shli v3695 c3_i32_1843
  v3696

def k0_off412 (v3694 : BitVec 32) : Fin 2 → Nat :=
  let c3_i32_1842 : BitVec 32 := 3#32
  let v3695 : BitVec 32 := Scalar.shrsi v3694 c3_i32_1842
  let c3_i32_1843 : BitVec 32 := 3#32
  let v3696 : BitVec 32 := Scalar.shli v3695 c3_i32_1843
  let v3697 : BitVec 32 := v3696
  let v3698 : Index := Scalar.indexCast v3697
  let c0_1844 : Index := 0#32
  ![v3698.toNat, 0]

def k0_chk206 (v3694 : BitVec 32) : Prop :=
  (8 ∣ (k0_mult206 v3694).toNat) ∧
  (∀ a, (k0_off412 v3694) a + S8x128.size a ≤ S10000x128.size a)
theorem k0_mult206_dvd : ∀ (v3694 : BitVec 32) (k0_hw206 : k0_chk206 v3694), 8 ∣ (k0_mult206 v3694).toNat := fun v3694 k0_hw206 => k0_hw206.1
theorem k0_off412_inb : ∀ (v3694 : BitVec 32) (k0_hw206 : k0_chk206 v3694), ∀ a, (k0_off412 v3694) a + S8x128.size a ≤ S10000x128.size a := fun v3694 k0_hw206 => k0_hw206.2

def k0_off413 (i : grid0.Coords) : Fin 2 → Nat :=
  let arg0 : BitVec 32 := BitVec.ofNat 32 (i 0).val
  let c4_i32 : BitVec 32 := 4#32
  let v0 : BitVec 32 := Scalar.muli arg0 c4_i32
  let c1_i32_1849 : BitVec 32 := 1#32
  let v3710 : BitVec 32 := Scalar.addi v0 c1_i32_1849
  let v3711 : Index := Scalar.indexCast v3710
  let c78_1850 : Index := 78#32
  ![v3711.toNat, 78]
def k0_mult207 (v3712 : BitVec 32) : BitVec 32 :=
  let c3_i32_1851 : BitVec 32 := 3#32
  let v3713 : BitVec 32 := Scalar.shrsi v3712 c3_i32_1851
  let c3_i32_1852 : BitVec 32 := 3#32
  let v3714 : BitVec 32 := Scalar.shli v3713 c3_i32_1852
  v3714

def k0_off414 (v3712 : BitVec 32) : Fin 2 → Nat :=
  let c3_i32_1851 : BitVec 32 := 3#32
  let v3713 : BitVec 32 := Scalar.shrsi v3712 c3_i32_1851
  let c3_i32_1852 : BitVec 32 := 3#32
  let v3714 : BitVec 32 := Scalar.shli v3713 c3_i32_1852
  let v3715 : BitVec 32 := v3714
  let v3716 : Index := Scalar.indexCast v3715
  let c0_1853 : Index := 0#32
  ![v3716.toNat, 0]

def k0_chk207 (v3712 : BitVec 32) : Prop :=
  (8 ∣ (k0_mult207 v3712).toNat) ∧
  (∀ a, (k0_off414 v3712) a + S8x128.size a ≤ S10000x128.size a)
theorem k0_mult207_dvd : ∀ (v3712 : BitVec 32) (k0_hw207 : k0_chk207 v3712), 8 ∣ (k0_mult207 v3712).toNat := fun v3712 k0_hw207 => k0_hw207.1
theorem k0_off414_inb : ∀ (v3712 : BitVec 32) (k0_hw207 : k0_chk207 v3712), ∀ a, (k0_off414 v3712) a + S8x128.size a ≤ S10000x128.size a := fun v3712 k0_hw207 => k0_hw207.2

def k0_off415 (i : grid0.Coords) : Fin 2 → Nat :=
  let arg0 : BitVec 32 := BitVec.ofNat 32 (i 0).val
  let c4_i32 : BitVec 32 := 4#32
  let v0 : BitVec 32 := Scalar.muli arg0 c4_i32
  let c1_i32_1858 : BitVec 32 := 1#32
  let v3728 : BitVec 32 := Scalar.addi v0 c1_i32_1858
  let v3729 : Index := Scalar.indexCast v3728
  let c79_1859 : Index := 79#32
  ![v3729.toNat, 79]
def k0_mult208 (v3730 : BitVec 32) : BitVec 32 :=
  let c3_i32_1860 : BitVec 32 := 3#32
  let v3731 : BitVec 32 := Scalar.shrsi v3730 c3_i32_1860
  let c3_i32_1861 : BitVec 32 := 3#32
  let v3732 : BitVec 32 := Scalar.shli v3731 c3_i32_1861
  v3732

def k0_off416 (v3730 : BitVec 32) : Fin 2 → Nat :=
  let c3_i32_1860 : BitVec 32 := 3#32
  let v3731 : BitVec 32 := Scalar.shrsi v3730 c3_i32_1860
  let c3_i32_1861 : BitVec 32 := 3#32
  let v3732 : BitVec 32 := Scalar.shli v3731 c3_i32_1861
  let v3733 : BitVec 32 := v3732
  let v3734 : Index := Scalar.indexCast v3733
  let c0_1862 : Index := 0#32
  ![v3734.toNat, 0]

def k0_chk208 (v3730 : BitVec 32) : Prop :=
  (8 ∣ (k0_mult208 v3730).toNat) ∧
  (∀ a, (k0_off416 v3730) a + S8x128.size a ≤ S10000x128.size a)
theorem k0_mult208_dvd : ∀ (v3730 : BitVec 32) (k0_hw208 : k0_chk208 v3730), 8 ∣ (k0_mult208 v3730).toNat := fun v3730 k0_hw208 => k0_hw208.1
theorem k0_off416_inb : ∀ (v3730 : BitVec 32) (k0_hw208 : k0_chk208 v3730), ∀ a, (k0_off416 v3730) a + S8x128.size a ≤ S10000x128.size a := fun v3730 k0_hw208 => k0_hw208.2

def k0_off417 (i : grid0.Coords) : Fin 2 → Nat :=
  let arg0 : BitVec 32 := BitVec.ofNat 32 (i 0).val
  let c4_i32 : BitVec 32 := 4#32
  let v0 : BitVec 32 := Scalar.muli arg0 c4_i32
  let c1_i32_1867 : BitVec 32 := 1#32
  let v3746 : BitVec 32 := Scalar.addi v0 c1_i32_1867
  let v3747 : Index := Scalar.indexCast v3746
  let c80_1868 : Index := 80#32
  ![v3747.toNat, 80]
def k0_mult209 (v3748 : BitVec 32) : BitVec 32 :=
  let c3_i32_1869 : BitVec 32 := 3#32
  let v3749 : BitVec 32 := Scalar.shrsi v3748 c3_i32_1869
  let c3_i32_1870 : BitVec 32 := 3#32
  let v3750 : BitVec 32 := Scalar.shli v3749 c3_i32_1870
  v3750

def k0_off418 (v3748 : BitVec 32) : Fin 2 → Nat :=
  let c3_i32_1869 : BitVec 32 := 3#32
  let v3749 : BitVec 32 := Scalar.shrsi v3748 c3_i32_1869
  let c3_i32_1870 : BitVec 32 := 3#32
  let v3750 : BitVec 32 := Scalar.shli v3749 c3_i32_1870
  let v3751 : BitVec 32 := v3750
  let v3752 : Index := Scalar.indexCast v3751
  let c0_1871 : Index := 0#32
  ![v3752.toNat, 0]

def k0_chk209 (v3748 : BitVec 32) : Prop :=
  (8 ∣ (k0_mult209 v3748).toNat) ∧
  (∀ a, (k0_off418 v3748) a + S8x128.size a ≤ S10000x128.size a)
theorem k0_mult209_dvd : ∀ (v3748 : BitVec 32) (k0_hw209 : k0_chk209 v3748), 8 ∣ (k0_mult209 v3748).toNat := fun v3748 k0_hw209 => k0_hw209.1
theorem k0_off418_inb : ∀ (v3748 : BitVec 32) (k0_hw209 : k0_chk209 v3748), ∀ a, (k0_off418 v3748) a + S8x128.size a ≤ S10000x128.size a := fun v3748 k0_hw209 => k0_hw209.2

def k0_off419 (i : grid0.Coords) : Fin 2 → Nat :=
  let arg0 : BitVec 32 := BitVec.ofNat 32 (i 0).val
  let c4_i32 : BitVec 32 := 4#32
  let v0 : BitVec 32 := Scalar.muli arg0 c4_i32
  let c1_i32_1876 : BitVec 32 := 1#32
  let v3764 : BitVec 32 := Scalar.addi v0 c1_i32_1876
  let v3765 : Index := Scalar.indexCast v3764
  let c81_1877 : Index := 81#32
  ![v3765.toNat, 81]
def k0_mult210 (v3766 : BitVec 32) : BitVec 32 :=
  let c3_i32_1878 : BitVec 32 := 3#32
  let v3767 : BitVec 32 := Scalar.shrsi v3766 c3_i32_1878
  let c3_i32_1879 : BitVec 32 := 3#32
  let v3768 : BitVec 32 := Scalar.shli v3767 c3_i32_1879
  v3768

def k0_off420 (v3766 : BitVec 32) : Fin 2 → Nat :=
  let c3_i32_1878 : BitVec 32 := 3#32
  let v3767 : BitVec 32 := Scalar.shrsi v3766 c3_i32_1878
  let c3_i32_1879 : BitVec 32 := 3#32
  let v3768 : BitVec 32 := Scalar.shli v3767 c3_i32_1879
  let v3769 : BitVec 32 := v3768
  let v3770 : Index := Scalar.indexCast v3769
  let c0_1880 : Index := 0#32
  ![v3770.toNat, 0]

def k0_chk210 (v3766 : BitVec 32) : Prop :=
  (8 ∣ (k0_mult210 v3766).toNat) ∧
  (∀ a, (k0_off420 v3766) a + S8x128.size a ≤ S10000x128.size a)
theorem k0_mult210_dvd : ∀ (v3766 : BitVec 32) (k0_hw210 : k0_chk210 v3766), 8 ∣ (k0_mult210 v3766).toNat := fun v3766 k0_hw210 => k0_hw210.1
theorem k0_off420_inb : ∀ (v3766 : BitVec 32) (k0_hw210 : k0_chk210 v3766), ∀ a, (k0_off420 v3766) a + S8x128.size a ≤ S10000x128.size a := fun v3766 k0_hw210 => k0_hw210.2

def k0_off421 (i : grid0.Coords) : Fin 2 → Nat :=
  let arg0 : BitVec 32 := BitVec.ofNat 32 (i 0).val
  let c4_i32 : BitVec 32 := 4#32
  let v0 : BitVec 32 := Scalar.muli arg0 c4_i32
  let c1_i32_1885 : BitVec 32 := 1#32
  let v3782 : BitVec 32 := Scalar.addi v0 c1_i32_1885
  let v3783 : Index := Scalar.indexCast v3782
  let c82_1886 : Index := 82#32
  ![v3783.toNat, 82]
def k0_mult211 (v3784 : BitVec 32) : BitVec 32 :=
  let c3_i32_1887 : BitVec 32 := 3#32
  let v3785 : BitVec 32 := Scalar.shrsi v3784 c3_i32_1887
  let c3_i32_1888 : BitVec 32 := 3#32
  let v3786 : BitVec 32 := Scalar.shli v3785 c3_i32_1888
  v3786

def k0_off422 (v3784 : BitVec 32) : Fin 2 → Nat :=
  let c3_i32_1887 : BitVec 32 := 3#32
  let v3785 : BitVec 32 := Scalar.shrsi v3784 c3_i32_1887
  let c3_i32_1888 : BitVec 32 := 3#32
  let v3786 : BitVec 32 := Scalar.shli v3785 c3_i32_1888
  let v3787 : BitVec 32 := v3786
  let v3788 : Index := Scalar.indexCast v3787
  let c0_1889 : Index := 0#32
  ![v3788.toNat, 0]

def k0_chk211 (v3784 : BitVec 32) : Prop :=
  (8 ∣ (k0_mult211 v3784).toNat) ∧
  (∀ a, (k0_off422 v3784) a + S8x128.size a ≤ S10000x128.size a)
theorem k0_mult211_dvd : ∀ (v3784 : BitVec 32) (k0_hw211 : k0_chk211 v3784), 8 ∣ (k0_mult211 v3784).toNat := fun v3784 k0_hw211 => k0_hw211.1
theorem k0_off422_inb : ∀ (v3784 : BitVec 32) (k0_hw211 : k0_chk211 v3784), ∀ a, (k0_off422 v3784) a + S8x128.size a ≤ S10000x128.size a := fun v3784 k0_hw211 => k0_hw211.2

def k0_off423 (i : grid0.Coords) : Fin 2 → Nat :=
  let arg0 : BitVec 32 := BitVec.ofNat 32 (i 0).val
  let c4_i32 : BitVec 32 := 4#32
  let v0 : BitVec 32 := Scalar.muli arg0 c4_i32
  let c1_i32_1894 : BitVec 32 := 1#32
  let v3800 : BitVec 32 := Scalar.addi v0 c1_i32_1894
  let v3801 : Index := Scalar.indexCast v3800
  let c83_1895 : Index := 83#32
  ![v3801.toNat, 83]
def k0_mult212 (v3802 : BitVec 32) : BitVec 32 :=
  let c3_i32_1896 : BitVec 32 := 3#32
  let v3803 : BitVec 32 := Scalar.shrsi v3802 c3_i32_1896
  let c3_i32_1897 : BitVec 32 := 3#32
  let v3804 : BitVec 32 := Scalar.shli v3803 c3_i32_1897
  v3804

def k0_off424 (v3802 : BitVec 32) : Fin 2 → Nat :=
  let c3_i32_1896 : BitVec 32 := 3#32
  let v3803 : BitVec 32 := Scalar.shrsi v3802 c3_i32_1896
  let c3_i32_1897 : BitVec 32 := 3#32
  let v3804 : BitVec 32 := Scalar.shli v3803 c3_i32_1897
  let v3805 : BitVec 32 := v3804
  let v3806 : Index := Scalar.indexCast v3805
  let c0_1898 : Index := 0#32
  ![v3806.toNat, 0]

def k0_chk212 (v3802 : BitVec 32) : Prop :=
  (8 ∣ (k0_mult212 v3802).toNat) ∧
  (∀ a, (k0_off424 v3802) a + S8x128.size a ≤ S10000x128.size a)
theorem k0_mult212_dvd : ∀ (v3802 : BitVec 32) (k0_hw212 : k0_chk212 v3802), 8 ∣ (k0_mult212 v3802).toNat := fun v3802 k0_hw212 => k0_hw212.1
theorem k0_off424_inb : ∀ (v3802 : BitVec 32) (k0_hw212 : k0_chk212 v3802), ∀ a, (k0_off424 v3802) a + S8x128.size a ≤ S10000x128.size a := fun v3802 k0_hw212 => k0_hw212.2

def k0_off425 (i : grid0.Coords) : Fin 2 → Nat :=
  let arg0 : BitVec 32 := BitVec.ofNat 32 (i 0).val
  let c4_i32 : BitVec 32 := 4#32
  let v0 : BitVec 32 := Scalar.muli arg0 c4_i32
  let c1_i32_1903 : BitVec 32 := 1#32
  let v3818 : BitVec 32 := Scalar.addi v0 c1_i32_1903
  let v3819 : Index := Scalar.indexCast v3818
  let c84_1904 : Index := 84#32
  ![v3819.toNat, 84]
def k0_mult213 (v3820 : BitVec 32) : BitVec 32 :=
  let c3_i32_1905 : BitVec 32 := 3#32
  let v3821 : BitVec 32 := Scalar.shrsi v3820 c3_i32_1905
  let c3_i32_1906 : BitVec 32 := 3#32
  let v3822 : BitVec 32 := Scalar.shli v3821 c3_i32_1906
  v3822

def k0_off426 (v3820 : BitVec 32) : Fin 2 → Nat :=
  let c3_i32_1905 : BitVec 32 := 3#32
  let v3821 : BitVec 32 := Scalar.shrsi v3820 c3_i32_1905
  let c3_i32_1906 : BitVec 32 := 3#32
  let v3822 : BitVec 32 := Scalar.shli v3821 c3_i32_1906
  let v3823 : BitVec 32 := v3822
  let v3824 : Index := Scalar.indexCast v3823
  let c0_1907 : Index := 0#32
  ![v3824.toNat, 0]

def k0_chk213 (v3820 : BitVec 32) : Prop :=
  (8 ∣ (k0_mult213 v3820).toNat) ∧
  (∀ a, (k0_off426 v3820) a + S8x128.size a ≤ S10000x128.size a)
theorem k0_mult213_dvd : ∀ (v3820 : BitVec 32) (k0_hw213 : k0_chk213 v3820), 8 ∣ (k0_mult213 v3820).toNat := fun v3820 k0_hw213 => k0_hw213.1
theorem k0_off426_inb : ∀ (v3820 : BitVec 32) (k0_hw213 : k0_chk213 v3820), ∀ a, (k0_off426 v3820) a + S8x128.size a ≤ S10000x128.size a := fun v3820 k0_hw213 => k0_hw213.2

def k0_off427 (i : grid0.Coords) : Fin 2 → Nat :=
  let arg0 : BitVec 32 := BitVec.ofNat 32 (i 0).val
  let c4_i32 : BitVec 32 := 4#32
  let v0 : BitVec 32 := Scalar.muli arg0 c4_i32
  let c1_i32_1912 : BitVec 32 := 1#32
  let v3836 : BitVec 32 := Scalar.addi v0 c1_i32_1912
  let v3837 : Index := Scalar.indexCast v3836
  let c85_1913 : Index := 85#32
  ![v3837.toNat, 85]
def k0_mult214 (v3838 : BitVec 32) : BitVec 32 :=
  let c3_i32_1914 : BitVec 32 := 3#32
  let v3839 : BitVec 32 := Scalar.shrsi v3838 c3_i32_1914
  let c3_i32_1915 : BitVec 32 := 3#32
  let v3840 : BitVec 32 := Scalar.shli v3839 c3_i32_1915
  v3840

def k0_off428 (v3838 : BitVec 32) : Fin 2 → Nat :=
  let c3_i32_1914 : BitVec 32 := 3#32
  let v3839 : BitVec 32 := Scalar.shrsi v3838 c3_i32_1914
  let c3_i32_1915 : BitVec 32 := 3#32
  let v3840 : BitVec 32 := Scalar.shli v3839 c3_i32_1915
  let v3841 : BitVec 32 := v3840
  let v3842 : Index := Scalar.indexCast v3841
  let c0_1916 : Index := 0#32
  ![v3842.toNat, 0]

def k0_chk214 (v3838 : BitVec 32) : Prop :=
  (8 ∣ (k0_mult214 v3838).toNat) ∧
  (∀ a, (k0_off428 v3838) a + S8x128.size a ≤ S10000x128.size a)
theorem k0_mult214_dvd : ∀ (v3838 : BitVec 32) (k0_hw214 : k0_chk214 v3838), 8 ∣ (k0_mult214 v3838).toNat := fun v3838 k0_hw214 => k0_hw214.1
theorem k0_off428_inb : ∀ (v3838 : BitVec 32) (k0_hw214 : k0_chk214 v3838), ∀ a, (k0_off428 v3838) a + S8x128.size a ≤ S10000x128.size a := fun v3838 k0_hw214 => k0_hw214.2

def k0_off429 (i : grid0.Coords) : Fin 2 → Nat :=
  let arg0 : BitVec 32 := BitVec.ofNat 32 (i 0).val
  let c4_i32 : BitVec 32 := 4#32
  let v0 : BitVec 32 := Scalar.muli arg0 c4_i32
  let c1_i32_1921 : BitVec 32 := 1#32
  let v3854 : BitVec 32 := Scalar.addi v0 c1_i32_1921
  let v3855 : Index := Scalar.indexCast v3854
  let c86_1922 : Index := 86#32
  ![v3855.toNat, 86]
def k0_mult215 (v3856 : BitVec 32) : BitVec 32 :=
  let c3_i32_1923 : BitVec 32 := 3#32
  let v3857 : BitVec 32 := Scalar.shrsi v3856 c3_i32_1923
  let c3_i32_1924 : BitVec 32 := 3#32
  let v3858 : BitVec 32 := Scalar.shli v3857 c3_i32_1924
  v3858

def k0_off430 (v3856 : BitVec 32) : Fin 2 → Nat :=
  let c3_i32_1923 : BitVec 32 := 3#32
  let v3857 : BitVec 32 := Scalar.shrsi v3856 c3_i32_1923
  let c3_i32_1924 : BitVec 32 := 3#32
  let v3858 : BitVec 32 := Scalar.shli v3857 c3_i32_1924
  let v3859 : BitVec 32 := v3858
  let v3860 : Index := Scalar.indexCast v3859
  let c0_1925 : Index := 0#32
  ![v3860.toNat, 0]

def k0_chk215 (v3856 : BitVec 32) : Prop :=
  (8 ∣ (k0_mult215 v3856).toNat) ∧
  (∀ a, (k0_off430 v3856) a + S8x128.size a ≤ S10000x128.size a)
theorem k0_mult215_dvd : ∀ (v3856 : BitVec 32) (k0_hw215 : k0_chk215 v3856), 8 ∣ (k0_mult215 v3856).toNat := fun v3856 k0_hw215 => k0_hw215.1
theorem k0_off430_inb : ∀ (v3856 : BitVec 32) (k0_hw215 : k0_chk215 v3856), ∀ a, (k0_off430 v3856) a + S8x128.size a ≤ S10000x128.size a := fun v3856 k0_hw215 => k0_hw215.2

def k0_off431 (i : grid0.Coords) : Fin 2 → Nat :=
  let arg0 : BitVec 32 := BitVec.ofNat 32 (i 0).val
  let c4_i32 : BitVec 32 := 4#32
  let v0 : BitVec 32 := Scalar.muli arg0 c4_i32
  let c1_i32_1930 : BitVec 32 := 1#32
  let v3872 : BitVec 32 := Scalar.addi v0 c1_i32_1930
  let v3873 : Index := Scalar.indexCast v3872
  let c87_1931 : Index := 87#32
  ![v3873.toNat, 87]
def k0_mult216 (v3874 : BitVec 32) : BitVec 32 :=
  let c3_i32_1932 : BitVec 32 := 3#32
  let v3875 : BitVec 32 := Scalar.shrsi v3874 c3_i32_1932
  let c3_i32_1933 : BitVec 32 := 3#32
  let v3876 : BitVec 32 := Scalar.shli v3875 c3_i32_1933
  v3876

def k0_off432 (v3874 : BitVec 32) : Fin 2 → Nat :=
  let c3_i32_1932 : BitVec 32 := 3#32
  let v3875 : BitVec 32 := Scalar.shrsi v3874 c3_i32_1932
  let c3_i32_1933 : BitVec 32 := 3#32
  let v3876 : BitVec 32 := Scalar.shli v3875 c3_i32_1933
  let v3877 : BitVec 32 := v3876
  let v3878 : Index := Scalar.indexCast v3877
  let c0_1934 : Index := 0#32
  ![v3878.toNat, 0]

def k0_chk216 (v3874 : BitVec 32) : Prop :=
  (8 ∣ (k0_mult216 v3874).toNat) ∧
  (∀ a, (k0_off432 v3874) a + S8x128.size a ≤ S10000x128.size a)
theorem k0_mult216_dvd : ∀ (v3874 : BitVec 32) (k0_hw216 : k0_chk216 v3874), 8 ∣ (k0_mult216 v3874).toNat := fun v3874 k0_hw216 => k0_hw216.1
theorem k0_off432_inb : ∀ (v3874 : BitVec 32) (k0_hw216 : k0_chk216 v3874), ∀ a, (k0_off432 v3874) a + S8x128.size a ≤ S10000x128.size a := fun v3874 k0_hw216 => k0_hw216.2

def k0_off433 (i : grid0.Coords) : Fin 2 → Nat :=
  let arg0 : BitVec 32 := BitVec.ofNat 32 (i 0).val
  let c4_i32 : BitVec 32 := 4#32
  let v0 : BitVec 32 := Scalar.muli arg0 c4_i32
  let c1_i32_1939 : BitVec 32 := 1#32
  let v3890 : BitVec 32 := Scalar.addi v0 c1_i32_1939
  let v3891 : Index := Scalar.indexCast v3890
  let c88_1940 : Index := 88#32
  ![v3891.toNat, 88]
def k0_mult217 (v3892 : BitVec 32) : BitVec 32 :=
  let c3_i32_1941 : BitVec 32 := 3#32
  let v3893 : BitVec 32 := Scalar.shrsi v3892 c3_i32_1941
  let c3_i32_1942 : BitVec 32 := 3#32
  let v3894 : BitVec 32 := Scalar.shli v3893 c3_i32_1942
  v3894

def k0_off434 (v3892 : BitVec 32) : Fin 2 → Nat :=
  let c3_i32_1941 : BitVec 32 := 3#32
  let v3893 : BitVec 32 := Scalar.shrsi v3892 c3_i32_1941
  let c3_i32_1942 : BitVec 32 := 3#32
  let v3894 : BitVec 32 := Scalar.shli v3893 c3_i32_1942
  let v3895 : BitVec 32 := v3894
  let v3896 : Index := Scalar.indexCast v3895
  let c0_1943 : Index := 0#32
  ![v3896.toNat, 0]

def k0_chk217 (v3892 : BitVec 32) : Prop :=
  (8 ∣ (k0_mult217 v3892).toNat) ∧
  (∀ a, (k0_off434 v3892) a + S8x128.size a ≤ S10000x128.size a)
theorem k0_mult217_dvd : ∀ (v3892 : BitVec 32) (k0_hw217 : k0_chk217 v3892), 8 ∣ (k0_mult217 v3892).toNat := fun v3892 k0_hw217 => k0_hw217.1
theorem k0_off434_inb : ∀ (v3892 : BitVec 32) (k0_hw217 : k0_chk217 v3892), ∀ a, (k0_off434 v3892) a + S8x128.size a ≤ S10000x128.size a := fun v3892 k0_hw217 => k0_hw217.2

def k0_off435 (i : grid0.Coords) : Fin 2 → Nat :=
  let arg0 : BitVec 32 := BitVec.ofNat 32 (i 0).val
  let c4_i32 : BitVec 32 := 4#32
  let v0 : BitVec 32 := Scalar.muli arg0 c4_i32
  let c1_i32_1948 : BitVec 32 := 1#32
  let v3908 : BitVec 32 := Scalar.addi v0 c1_i32_1948
  let v3909 : Index := Scalar.indexCast v3908
  let c89_1949 : Index := 89#32
  ![v3909.toNat, 89]
def k0_mult218 (v3910 : BitVec 32) : BitVec 32 :=
  let c3_i32_1950 : BitVec 32 := 3#32
  let v3911 : BitVec 32 := Scalar.shrsi v3910 c3_i32_1950
  let c3_i32_1951 : BitVec 32 := 3#32
  let v3912 : BitVec 32 := Scalar.shli v3911 c3_i32_1951
  v3912

def k0_off436 (v3910 : BitVec 32) : Fin 2 → Nat :=
  let c3_i32_1950 : BitVec 32 := 3#32
  let v3911 : BitVec 32 := Scalar.shrsi v3910 c3_i32_1950
  let c3_i32_1951 : BitVec 32 := 3#32
  let v3912 : BitVec 32 := Scalar.shli v3911 c3_i32_1951
  let v3913 : BitVec 32 := v3912
  let v3914 : Index := Scalar.indexCast v3913
  let c0_1952 : Index := 0#32
  ![v3914.toNat, 0]

def k0_chk218 (v3910 : BitVec 32) : Prop :=
  (8 ∣ (k0_mult218 v3910).toNat) ∧
  (∀ a, (k0_off436 v3910) a + S8x128.size a ≤ S10000x128.size a)
theorem k0_mult218_dvd : ∀ (v3910 : BitVec 32) (k0_hw218 : k0_chk218 v3910), 8 ∣ (k0_mult218 v3910).toNat := fun v3910 k0_hw218 => k0_hw218.1
theorem k0_off436_inb : ∀ (v3910 : BitVec 32) (k0_hw218 : k0_chk218 v3910), ∀ a, (k0_off436 v3910) a + S8x128.size a ≤ S10000x128.size a := fun v3910 k0_hw218 => k0_hw218.2

def k0_off437 (i : grid0.Coords) : Fin 2 → Nat :=
  let arg0 : BitVec 32 := BitVec.ofNat 32 (i 0).val
  let c4_i32 : BitVec 32 := 4#32
  let v0 : BitVec 32 := Scalar.muli arg0 c4_i32
  let c1_i32_1957 : BitVec 32 := 1#32
  let v3926 : BitVec 32 := Scalar.addi v0 c1_i32_1957
  let v3927 : Index := Scalar.indexCast v3926
  let c90_1958 : Index := 90#32
  ![v3927.toNat, 90]
def k0_mult219 (v3928 : BitVec 32) : BitVec 32 :=
  let c3_i32_1959 : BitVec 32 := 3#32
  let v3929 : BitVec 32 := Scalar.shrsi v3928 c3_i32_1959
  let c3_i32_1960 : BitVec 32 := 3#32
  let v3930 : BitVec 32 := Scalar.shli v3929 c3_i32_1960
  v3930

def k0_off438 (v3928 : BitVec 32) : Fin 2 → Nat :=
  let c3_i32_1959 : BitVec 32 := 3#32
  let v3929 : BitVec 32 := Scalar.shrsi v3928 c3_i32_1959
  let c3_i32_1960 : BitVec 32 := 3#32
  let v3930 : BitVec 32 := Scalar.shli v3929 c3_i32_1960
  let v3931 : BitVec 32 := v3930
  let v3932 : Index := Scalar.indexCast v3931
  let c0_1961 : Index := 0#32
  ![v3932.toNat, 0]

def k0_chk219 (v3928 : BitVec 32) : Prop :=
  (8 ∣ (k0_mult219 v3928).toNat) ∧
  (∀ a, (k0_off438 v3928) a + S8x128.size a ≤ S10000x128.size a)
theorem k0_mult219_dvd : ∀ (v3928 : BitVec 32) (k0_hw219 : k0_chk219 v3928), 8 ∣ (k0_mult219 v3928).toNat := fun v3928 k0_hw219 => k0_hw219.1
theorem k0_off438_inb : ∀ (v3928 : BitVec 32) (k0_hw219 : k0_chk219 v3928), ∀ a, (k0_off438 v3928) a + S8x128.size a ≤ S10000x128.size a := fun v3928 k0_hw219 => k0_hw219.2

def k0_off439 (i : grid0.Coords) : Fin 2 → Nat :=
  let arg0 : BitVec 32 := BitVec.ofNat 32 (i 0).val
  let c4_i32 : BitVec 32 := 4#32
  let v0 : BitVec 32 := Scalar.muli arg0 c4_i32
  let c1_i32_1966 : BitVec 32 := 1#32
  let v3944 : BitVec 32 := Scalar.addi v0 c1_i32_1966
  let v3945 : Index := Scalar.indexCast v3944
  let c91_1967 : Index := 91#32
  ![v3945.toNat, 91]
def k0_mult220 (v3946 : BitVec 32) : BitVec 32 :=
  let c3_i32_1968 : BitVec 32 := 3#32
  let v3947 : BitVec 32 := Scalar.shrsi v3946 c3_i32_1968
  let c3_i32_1969 : BitVec 32 := 3#32
  let v3948 : BitVec 32 := Scalar.shli v3947 c3_i32_1969
  v3948

def k0_off440 (v3946 : BitVec 32) : Fin 2 → Nat :=
  let c3_i32_1968 : BitVec 32 := 3#32
  let v3947 : BitVec 32 := Scalar.shrsi v3946 c3_i32_1968
  let c3_i32_1969 : BitVec 32 := 3#32
  let v3948 : BitVec 32 := Scalar.shli v3947 c3_i32_1969
  let v3949 : BitVec 32 := v3948
  let v3950 : Index := Scalar.indexCast v3949
  let c0_1970 : Index := 0#32
  ![v3950.toNat, 0]

def k0_chk220 (v3946 : BitVec 32) : Prop :=
  (8 ∣ (k0_mult220 v3946).toNat) ∧
  (∀ a, (k0_off440 v3946) a + S8x128.size a ≤ S10000x128.size a)
theorem k0_mult220_dvd : ∀ (v3946 : BitVec 32) (k0_hw220 : k0_chk220 v3946), 8 ∣ (k0_mult220 v3946).toNat := fun v3946 k0_hw220 => k0_hw220.1
theorem k0_off440_inb : ∀ (v3946 : BitVec 32) (k0_hw220 : k0_chk220 v3946), ∀ a, (k0_off440 v3946) a + S8x128.size a ≤ S10000x128.size a := fun v3946 k0_hw220 => k0_hw220.2

def k0_off441 (i : grid0.Coords) : Fin 2 → Nat :=
  let arg0 : BitVec 32 := BitVec.ofNat 32 (i 0).val
  let c4_i32 : BitVec 32 := 4#32
  let v0 : BitVec 32 := Scalar.muli arg0 c4_i32
  let c1_i32_1975 : BitVec 32 := 1#32
  let v3962 : BitVec 32 := Scalar.addi v0 c1_i32_1975
  let v3963 : Index := Scalar.indexCast v3962
  let c92_1976 : Index := 92#32
  ![v3963.toNat, 92]
def k0_mult221 (v3964 : BitVec 32) : BitVec 32 :=
  let c3_i32_1977 : BitVec 32 := 3#32
  let v3965 : BitVec 32 := Scalar.shrsi v3964 c3_i32_1977
  let c3_i32_1978 : BitVec 32 := 3#32
  let v3966 : BitVec 32 := Scalar.shli v3965 c3_i32_1978
  v3966

def k0_off442 (v3964 : BitVec 32) : Fin 2 → Nat :=
  let c3_i32_1977 : BitVec 32 := 3#32
  let v3965 : BitVec 32 := Scalar.shrsi v3964 c3_i32_1977
  let c3_i32_1978 : BitVec 32 := 3#32
  let v3966 : BitVec 32 := Scalar.shli v3965 c3_i32_1978
  let v3967 : BitVec 32 := v3966
  let v3968 : Index := Scalar.indexCast v3967
  let c0_1979 : Index := 0#32
  ![v3968.toNat, 0]

def k0_chk221 (v3964 : BitVec 32) : Prop :=
  (8 ∣ (k0_mult221 v3964).toNat) ∧
  (∀ a, (k0_off442 v3964) a + S8x128.size a ≤ S10000x128.size a)
theorem k0_mult221_dvd : ∀ (v3964 : BitVec 32) (k0_hw221 : k0_chk221 v3964), 8 ∣ (k0_mult221 v3964).toNat := fun v3964 k0_hw221 => k0_hw221.1
theorem k0_off442_inb : ∀ (v3964 : BitVec 32) (k0_hw221 : k0_chk221 v3964), ∀ a, (k0_off442 v3964) a + S8x128.size a ≤ S10000x128.size a := fun v3964 k0_hw221 => k0_hw221.2

def k0_off443 (i : grid0.Coords) : Fin 2 → Nat :=
  let arg0 : BitVec 32 := BitVec.ofNat 32 (i 0).val
  let c4_i32 : BitVec 32 := 4#32
  let v0 : BitVec 32 := Scalar.muli arg0 c4_i32
  let c1_i32_1984 : BitVec 32 := 1#32
  let v3980 : BitVec 32 := Scalar.addi v0 c1_i32_1984
  let v3981 : Index := Scalar.indexCast v3980
  let c93_1985 : Index := 93#32
  ![v3981.toNat, 93]
def k0_mult222 (v3982 : BitVec 32) : BitVec 32 :=
  let c3_i32_1986 : BitVec 32 := 3#32
  let v3983 : BitVec 32 := Scalar.shrsi v3982 c3_i32_1986
  let c3_i32_1987 : BitVec 32 := 3#32
  let v3984 : BitVec 32 := Scalar.shli v3983 c3_i32_1987
  v3984

def k0_off444 (v3982 : BitVec 32) : Fin 2 → Nat :=
  let c3_i32_1986 : BitVec 32 := 3#32
  let v3983 : BitVec 32 := Scalar.shrsi v3982 c3_i32_1986
  let c3_i32_1987 : BitVec 32 := 3#32
  let v3984 : BitVec 32 := Scalar.shli v3983 c3_i32_1987
  let v3985 : BitVec 32 := v3984
  let v3986 : Index := Scalar.indexCast v3985
  let c0_1988 : Index := 0#32
  ![v3986.toNat, 0]

def k0_chk222 (v3982 : BitVec 32) : Prop :=
  (8 ∣ (k0_mult222 v3982).toNat) ∧
  (∀ a, (k0_off444 v3982) a + S8x128.size a ≤ S10000x128.size a)
theorem k0_mult222_dvd : ∀ (v3982 : BitVec 32) (k0_hw222 : k0_chk222 v3982), 8 ∣ (k0_mult222 v3982).toNat := fun v3982 k0_hw222 => k0_hw222.1
theorem k0_off444_inb : ∀ (v3982 : BitVec 32) (k0_hw222 : k0_chk222 v3982), ∀ a, (k0_off444 v3982) a + S8x128.size a ≤ S10000x128.size a := fun v3982 k0_hw222 => k0_hw222.2

def k0_off445 (i : grid0.Coords) : Fin 2 → Nat :=
  let arg0 : BitVec 32 := BitVec.ofNat 32 (i 0).val
  let c4_i32 : BitVec 32 := 4#32
  let v0 : BitVec 32 := Scalar.muli arg0 c4_i32
  let c1_i32_1993 : BitVec 32 := 1#32
  let v3998 : BitVec 32 := Scalar.addi v0 c1_i32_1993
  let v3999 : Index := Scalar.indexCast v3998
  let c94_1994 : Index := 94#32
  ![v3999.toNat, 94]
def k0_mult223 (v4000 : BitVec 32) : BitVec 32 :=
  let c3_i32_1995 : BitVec 32 := 3#32
  let v4001 : BitVec 32 := Scalar.shrsi v4000 c3_i32_1995
  let c3_i32_1996 : BitVec 32 := 3#32
  let v4002 : BitVec 32 := Scalar.shli v4001 c3_i32_1996
  v4002

def k0_off446 (v4000 : BitVec 32) : Fin 2 → Nat :=
  let c3_i32_1995 : BitVec 32 := 3#32
  let v4001 : BitVec 32 := Scalar.shrsi v4000 c3_i32_1995
  let c3_i32_1996 : BitVec 32 := 3#32
  let v4002 : BitVec 32 := Scalar.shli v4001 c3_i32_1996
  let v4003 : BitVec 32 := v4002
  let v4004 : Index := Scalar.indexCast v4003
  let c0_1997 : Index := 0#32
  ![v4004.toNat, 0]

def k0_chk223 (v4000 : BitVec 32) : Prop :=
  (8 ∣ (k0_mult223 v4000).toNat) ∧
  (∀ a, (k0_off446 v4000) a + S8x128.size a ≤ S10000x128.size a)
theorem k0_mult223_dvd : ∀ (v4000 : BitVec 32) (k0_hw223 : k0_chk223 v4000), 8 ∣ (k0_mult223 v4000).toNat := fun v4000 k0_hw223 => k0_hw223.1
theorem k0_off446_inb : ∀ (v4000 : BitVec 32) (k0_hw223 : k0_chk223 v4000), ∀ a, (k0_off446 v4000) a + S8x128.size a ≤ S10000x128.size a := fun v4000 k0_hw223 => k0_hw223.2

def k0_off447 (i : grid0.Coords) : Fin 2 → Nat :=
  let arg0 : BitVec 32 := BitVec.ofNat 32 (i 0).val
  let c4_i32 : BitVec 32 := 4#32
  let v0 : BitVec 32 := Scalar.muli arg0 c4_i32
  let c1_i32_2002 : BitVec 32 := 1#32
  let v4016 : BitVec 32 := Scalar.addi v0 c1_i32_2002
  let v4017 : Index := Scalar.indexCast v4016
  let c95_2003 : Index := 95#32
  ![v4017.toNat, 95]
def k0_mult224 (v4018 : BitVec 32) : BitVec 32 :=
  let c3_i32_2004 : BitVec 32 := 3#32
  let v4019 : BitVec 32 := Scalar.shrsi v4018 c3_i32_2004
  let c3_i32_2005 : BitVec 32 := 3#32
  let v4020 : BitVec 32 := Scalar.shli v4019 c3_i32_2005
  v4020

def k0_off448 (v4018 : BitVec 32) : Fin 2 → Nat :=
  let c3_i32_2004 : BitVec 32 := 3#32
  let v4019 : BitVec 32 := Scalar.shrsi v4018 c3_i32_2004
  let c3_i32_2005 : BitVec 32 := 3#32
  let v4020 : BitVec 32 := Scalar.shli v4019 c3_i32_2005
  let v4021 : BitVec 32 := v4020
  let v4022 : Index := Scalar.indexCast v4021
  let c0_2006 : Index := 0#32
  ![v4022.toNat, 0]

def k0_chk224 (v4018 : BitVec 32) : Prop :=
  (8 ∣ (k0_mult224 v4018).toNat) ∧
  (∀ a, (k0_off448 v4018) a + S8x128.size a ≤ S10000x128.size a)
theorem k0_mult224_dvd : ∀ (v4018 : BitVec 32) (k0_hw224 : k0_chk224 v4018), 8 ∣ (k0_mult224 v4018).toNat := fun v4018 k0_hw224 => k0_hw224.1
theorem k0_off448_inb : ∀ (v4018 : BitVec 32) (k0_hw224 : k0_chk224 v4018), ∀ a, (k0_off448 v4018) a + S8x128.size a ≤ S10000x128.size a := fun v4018 k0_hw224 => k0_hw224.2

def k0_off449 (i : grid0.Coords) : Fin 2 → Nat :=
  let arg0 : BitVec 32 := BitVec.ofNat 32 (i 0).val
  let c4_i32 : BitVec 32 := 4#32
  let v0 : BitVec 32 := Scalar.muli arg0 c4_i32
  let c1_i32_2011 : BitVec 32 := 1#32
  let v4034 : BitVec 32 := Scalar.addi v0 c1_i32_2011
  let v4035 : Index := Scalar.indexCast v4034
  let c96_2012 : Index := 96#32
  ![v4035.toNat, 96]
def k0_mult225 (v4036 : BitVec 32) : BitVec 32 :=
  let c3_i32_2013 : BitVec 32 := 3#32
  let v4037 : BitVec 32 := Scalar.shrsi v4036 c3_i32_2013
  let c3_i32_2014 : BitVec 32 := 3#32
  let v4038 : BitVec 32 := Scalar.shli v4037 c3_i32_2014
  v4038

def k0_off450 (v4036 : BitVec 32) : Fin 2 → Nat :=
  let c3_i32_2013 : BitVec 32 := 3#32
  let v4037 : BitVec 32 := Scalar.shrsi v4036 c3_i32_2013
  let c3_i32_2014 : BitVec 32 := 3#32
  let v4038 : BitVec 32 := Scalar.shli v4037 c3_i32_2014
  let v4039 : BitVec 32 := v4038
  let v4040 : Index := Scalar.indexCast v4039
  let c0_2015 : Index := 0#32
  ![v4040.toNat, 0]

def k0_chk225 (v4036 : BitVec 32) : Prop :=
  (8 ∣ (k0_mult225 v4036).toNat) ∧
  (∀ a, (k0_off450 v4036) a + S8x128.size a ≤ S10000x128.size a)
theorem k0_mult225_dvd : ∀ (v4036 : BitVec 32) (k0_hw225 : k0_chk225 v4036), 8 ∣ (k0_mult225 v4036).toNat := fun v4036 k0_hw225 => k0_hw225.1
theorem k0_off450_inb : ∀ (v4036 : BitVec 32) (k0_hw225 : k0_chk225 v4036), ∀ a, (k0_off450 v4036) a + S8x128.size a ≤ S10000x128.size a := fun v4036 k0_hw225 => k0_hw225.2

def k0_off451 (i : grid0.Coords) : Fin 2 → Nat :=
  let arg0 : BitVec 32 := BitVec.ofNat 32 (i 0).val
  let c4_i32 : BitVec 32 := 4#32
  let v0 : BitVec 32 := Scalar.muli arg0 c4_i32
  let c1_i32_2020 : BitVec 32 := 1#32
  let v4052 : BitVec 32 := Scalar.addi v0 c1_i32_2020
  let v4053 : Index := Scalar.indexCast v4052
  let c97_2021 : Index := 97#32
  ![v4053.toNat, 97]
def k0_mult226 (v4054 : BitVec 32) : BitVec 32 :=
  let c3_i32_2022 : BitVec 32 := 3#32
  let v4055 : BitVec 32 := Scalar.shrsi v4054 c3_i32_2022
  let c3_i32_2023 : BitVec 32 := 3#32
  let v4056 : BitVec 32 := Scalar.shli v4055 c3_i32_2023
  v4056

def k0_off452 (v4054 : BitVec 32) : Fin 2 → Nat :=
  let c3_i32_2022 : BitVec 32 := 3#32
  let v4055 : BitVec 32 := Scalar.shrsi v4054 c3_i32_2022
  let c3_i32_2023 : BitVec 32 := 3#32
  let v4056 : BitVec 32 := Scalar.shli v4055 c3_i32_2023
  let v4057 : BitVec 32 := v4056
  let v4058 : Index := Scalar.indexCast v4057
  let c0_2024 : Index := 0#32
  ![v4058.toNat, 0]

def k0_chk226 (v4054 : BitVec 32) : Prop :=
  (8 ∣ (k0_mult226 v4054).toNat) ∧
  (∀ a, (k0_off452 v4054) a + S8x128.size a ≤ S10000x128.size a)
theorem k0_mult226_dvd : ∀ (v4054 : BitVec 32) (k0_hw226 : k0_chk226 v4054), 8 ∣ (k0_mult226 v4054).toNat := fun v4054 k0_hw226 => k0_hw226.1
theorem k0_off452_inb : ∀ (v4054 : BitVec 32) (k0_hw226 : k0_chk226 v4054), ∀ a, (k0_off452 v4054) a + S8x128.size a ≤ S10000x128.size a := fun v4054 k0_hw226 => k0_hw226.2

def k0_off453 (i : grid0.Coords) : Fin 2 → Nat :=
  let arg0 : BitVec 32 := BitVec.ofNat 32 (i 0).val
  let c4_i32 : BitVec 32 := 4#32
  let v0 : BitVec 32 := Scalar.muli arg0 c4_i32
  let c1_i32_2029 : BitVec 32 := 1#32
  let v4070 : BitVec 32 := Scalar.addi v0 c1_i32_2029
  let v4071 : Index := Scalar.indexCast v4070
  let c98_2030 : Index := 98#32
  ![v4071.toNat, 98]
def k0_mult227 (v4072 : BitVec 32) : BitVec 32 :=
  let c3_i32_2031 : BitVec 32 := 3#32
  let v4073 : BitVec 32 := Scalar.shrsi v4072 c3_i32_2031
  let c3_i32_2032 : BitVec 32 := 3#32
  let v4074 : BitVec 32 := Scalar.shli v4073 c3_i32_2032
  v4074

def k0_off454 (v4072 : BitVec 32) : Fin 2 → Nat :=
  let c3_i32_2031 : BitVec 32 := 3#32
  let v4073 : BitVec 32 := Scalar.shrsi v4072 c3_i32_2031
  let c3_i32_2032 : BitVec 32 := 3#32
  let v4074 : BitVec 32 := Scalar.shli v4073 c3_i32_2032
  let v4075 : BitVec 32 := v4074
  let v4076 : Index := Scalar.indexCast v4075
  let c0_2033 : Index := 0#32
  ![v4076.toNat, 0]

def k0_chk227 (v4072 : BitVec 32) : Prop :=
  (8 ∣ (k0_mult227 v4072).toNat) ∧
  (∀ a, (k0_off454 v4072) a + S8x128.size a ≤ S10000x128.size a)
theorem k0_mult227_dvd : ∀ (v4072 : BitVec 32) (k0_hw227 : k0_chk227 v4072), 8 ∣ (k0_mult227 v4072).toNat := fun v4072 k0_hw227 => k0_hw227.1
theorem k0_off454_inb : ∀ (v4072 : BitVec 32) (k0_hw227 : k0_chk227 v4072), ∀ a, (k0_off454 v4072) a + S8x128.size a ≤ S10000x128.size a := fun v4072 k0_hw227 => k0_hw227.2

def k0_off455 (i : grid0.Coords) : Fin 2 → Nat :=
  let arg0 : BitVec 32 := BitVec.ofNat 32 (i 0).val
  let c4_i32 : BitVec 32 := 4#32
  let v0 : BitVec 32 := Scalar.muli arg0 c4_i32
  let c1_i32_2038 : BitVec 32 := 1#32
  let v4088 : BitVec 32 := Scalar.addi v0 c1_i32_2038
  let v4089 : Index := Scalar.indexCast v4088
  let c99_2039 : Index := 99#32
  ![v4089.toNat, 99]
def k0_mult228 (v4090 : BitVec 32) : BitVec 32 :=
  let c3_i32_2040 : BitVec 32 := 3#32
  let v4091 : BitVec 32 := Scalar.shrsi v4090 c3_i32_2040
  let c3_i32_2041 : BitVec 32 := 3#32
  let v4092 : BitVec 32 := Scalar.shli v4091 c3_i32_2041
  v4092

def k0_off456 (v4090 : BitVec 32) : Fin 2 → Nat :=
  let c3_i32_2040 : BitVec 32 := 3#32
  let v4091 : BitVec 32 := Scalar.shrsi v4090 c3_i32_2040
  let c3_i32_2041 : BitVec 32 := 3#32
  let v4092 : BitVec 32 := Scalar.shli v4091 c3_i32_2041
  let v4093 : BitVec 32 := v4092
  let v4094 : Index := Scalar.indexCast v4093
  let c0_2042 : Index := 0#32
  ![v4094.toNat, 0]

def k0_chk228 (v4090 : BitVec 32) : Prop :=
  (8 ∣ (k0_mult228 v4090).toNat) ∧
  (∀ a, (k0_off456 v4090) a + S8x128.size a ≤ S10000x128.size a)
theorem k0_mult228_dvd : ∀ (v4090 : BitVec 32) (k0_hw228 : k0_chk228 v4090), 8 ∣ (k0_mult228 v4090).toNat := fun v4090 k0_hw228 => k0_hw228.1
theorem k0_off456_inb : ∀ (v4090 : BitVec 32) (k0_hw228 : k0_chk228 v4090), ∀ a, (k0_off456 v4090) a + S8x128.size a ≤ S10000x128.size a := fun v4090 k0_hw228 => k0_hw228.2

def k0_off457 (i : grid0.Coords) : Fin 2 → Nat :=
  let arg0 : BitVec 32 := BitVec.ofNat 32 (i 0).val
  let c4_i32 : BitVec 32 := 4#32
  let v0 : BitVec 32 := Scalar.muli arg0 c4_i32
  let c1_i32_2047 : BitVec 32 := 1#32
  let v4106 : BitVec 32 := Scalar.addi v0 c1_i32_2047
  let v4107 : Index := Scalar.indexCast v4106
  let c100_2048 : Index := 100#32
  ![v4107.toNat, 100]
def k0_mult229 (v4108 : BitVec 32) : BitVec 32 :=
  let c3_i32_2049 : BitVec 32 := 3#32
  let v4109 : BitVec 32 := Scalar.shrsi v4108 c3_i32_2049
  let c3_i32_2050 : BitVec 32 := 3#32
  let v4110 : BitVec 32 := Scalar.shli v4109 c3_i32_2050
  v4110

def k0_off458 (v4108 : BitVec 32) : Fin 2 → Nat :=
  let c3_i32_2049 : BitVec 32 := 3#32
  let v4109 : BitVec 32 := Scalar.shrsi v4108 c3_i32_2049
  let c3_i32_2050 : BitVec 32 := 3#32
  let v4110 : BitVec 32 := Scalar.shli v4109 c3_i32_2050
  let v4111 : BitVec 32 := v4110
  let v4112 : Index := Scalar.indexCast v4111
  let c0_2051 : Index := 0#32
  ![v4112.toNat, 0]

def k0_chk229 (v4108 : BitVec 32) : Prop :=
  (8 ∣ (k0_mult229 v4108).toNat) ∧
  (∀ a, (k0_off458 v4108) a + S8x128.size a ≤ S10000x128.size a)
theorem k0_mult229_dvd : ∀ (v4108 : BitVec 32) (k0_hw229 : k0_chk229 v4108), 8 ∣ (k0_mult229 v4108).toNat := fun v4108 k0_hw229 => k0_hw229.1
theorem k0_off458_inb : ∀ (v4108 : BitVec 32) (k0_hw229 : k0_chk229 v4108), ∀ a, (k0_off458 v4108) a + S8x128.size a ≤ S10000x128.size a := fun v4108 k0_hw229 => k0_hw229.2

def k0_off459 (i : grid0.Coords) : Fin 2 → Nat :=
  let arg0 : BitVec 32 := BitVec.ofNat 32 (i 0).val
  let c4_i32 : BitVec 32 := 4#32
  let v0 : BitVec 32 := Scalar.muli arg0 c4_i32
  let c1_i32_2056 : BitVec 32 := 1#32
  let v4124 : BitVec 32 := Scalar.addi v0 c1_i32_2056
  let v4125 : Index := Scalar.indexCast v4124
  let c101_2057 : Index := 101#32
  ![v4125.toNat, 101]
def k0_mult230 (v4126 : BitVec 32) : BitVec 32 :=
  let c3_i32_2058 : BitVec 32 := 3#32
  let v4127 : BitVec 32 := Scalar.shrsi v4126 c3_i32_2058
  let c3_i32_2059 : BitVec 32 := 3#32
  let v4128 : BitVec 32 := Scalar.shli v4127 c3_i32_2059
  v4128

def k0_off460 (v4126 : BitVec 32) : Fin 2 → Nat :=
  let c3_i32_2058 : BitVec 32 := 3#32
  let v4127 : BitVec 32 := Scalar.shrsi v4126 c3_i32_2058
  let c3_i32_2059 : BitVec 32 := 3#32
  let v4128 : BitVec 32 := Scalar.shli v4127 c3_i32_2059
  let v4129 : BitVec 32 := v4128
  let v4130 : Index := Scalar.indexCast v4129
  let c0_2060 : Index := 0#32
  ![v4130.toNat, 0]

def k0_chk230 (v4126 : BitVec 32) : Prop :=
  (8 ∣ (k0_mult230 v4126).toNat) ∧
  (∀ a, (k0_off460 v4126) a + S8x128.size a ≤ S10000x128.size a)
theorem k0_mult230_dvd : ∀ (v4126 : BitVec 32) (k0_hw230 : k0_chk230 v4126), 8 ∣ (k0_mult230 v4126).toNat := fun v4126 k0_hw230 => k0_hw230.1
theorem k0_off460_inb : ∀ (v4126 : BitVec 32) (k0_hw230 : k0_chk230 v4126), ∀ a, (k0_off460 v4126) a + S8x128.size a ≤ S10000x128.size a := fun v4126 k0_hw230 => k0_hw230.2

def k0_off461 (i : grid0.Coords) : Fin 2 → Nat :=
  let arg0 : BitVec 32 := BitVec.ofNat 32 (i 0).val
  let c4_i32 : BitVec 32 := 4#32
  let v0 : BitVec 32 := Scalar.muli arg0 c4_i32
  let c1_i32_2065 : BitVec 32 := 1#32
  let v4142 : BitVec 32 := Scalar.addi v0 c1_i32_2065
  let v4143 : Index := Scalar.indexCast v4142
  let c102_2066 : Index := 102#32
  ![v4143.toNat, 102]
def k0_mult231 (v4144 : BitVec 32) : BitVec 32 :=
  let c3_i32_2067 : BitVec 32 := 3#32
  let v4145 : BitVec 32 := Scalar.shrsi v4144 c3_i32_2067
  let c3_i32_2068 : BitVec 32 := 3#32
  let v4146 : BitVec 32 := Scalar.shli v4145 c3_i32_2068
  v4146

def k0_off462 (v4144 : BitVec 32) : Fin 2 → Nat :=
  let c3_i32_2067 : BitVec 32 := 3#32
  let v4145 : BitVec 32 := Scalar.shrsi v4144 c3_i32_2067
  let c3_i32_2068 : BitVec 32 := 3#32
  let v4146 : BitVec 32 := Scalar.shli v4145 c3_i32_2068
  let v4147 : BitVec 32 := v4146
  let v4148 : Index := Scalar.indexCast v4147
  let c0_2069 : Index := 0#32
  ![v4148.toNat, 0]

def k0_chk231 (v4144 : BitVec 32) : Prop :=
  (8 ∣ (k0_mult231 v4144).toNat) ∧
  (∀ a, (k0_off462 v4144) a + S8x128.size a ≤ S10000x128.size a)
theorem k0_mult231_dvd : ∀ (v4144 : BitVec 32) (k0_hw231 : k0_chk231 v4144), 8 ∣ (k0_mult231 v4144).toNat := fun v4144 k0_hw231 => k0_hw231.1
theorem k0_off462_inb : ∀ (v4144 : BitVec 32) (k0_hw231 : k0_chk231 v4144), ∀ a, (k0_off462 v4144) a + S8x128.size a ≤ S10000x128.size a := fun v4144 k0_hw231 => k0_hw231.2

def k0_off463 (i : grid0.Coords) : Fin 2 → Nat :=
  let arg0 : BitVec 32 := BitVec.ofNat 32 (i 0).val
  let c4_i32 : BitVec 32 := 4#32
  let v0 : BitVec 32 := Scalar.muli arg0 c4_i32
  let c1_i32_2074 : BitVec 32 := 1#32
  let v4160 : BitVec 32 := Scalar.addi v0 c1_i32_2074
  let v4161 : Index := Scalar.indexCast v4160
  let c103_2075 : Index := 103#32
  ![v4161.toNat, 103]
def k0_mult232 (v4162 : BitVec 32) : BitVec 32 :=
  let c3_i32_2076 : BitVec 32 := 3#32
  let v4163 : BitVec 32 := Scalar.shrsi v4162 c3_i32_2076
  let c3_i32_2077 : BitVec 32 := 3#32
  let v4164 : BitVec 32 := Scalar.shli v4163 c3_i32_2077
  v4164

def k0_off464 (v4162 : BitVec 32) : Fin 2 → Nat :=
  let c3_i32_2076 : BitVec 32 := 3#32
  let v4163 : BitVec 32 := Scalar.shrsi v4162 c3_i32_2076
  let c3_i32_2077 : BitVec 32 := 3#32
  let v4164 : BitVec 32 := Scalar.shli v4163 c3_i32_2077
  let v4165 : BitVec 32 := v4164
  let v4166 : Index := Scalar.indexCast v4165
  let c0_2078 : Index := 0#32
  ![v4166.toNat, 0]

def k0_chk232 (v4162 : BitVec 32) : Prop :=
  (8 ∣ (k0_mult232 v4162).toNat) ∧
  (∀ a, (k0_off464 v4162) a + S8x128.size a ≤ S10000x128.size a)
theorem k0_mult232_dvd : ∀ (v4162 : BitVec 32) (k0_hw232 : k0_chk232 v4162), 8 ∣ (k0_mult232 v4162).toNat := fun v4162 k0_hw232 => k0_hw232.1
theorem k0_off464_inb : ∀ (v4162 : BitVec 32) (k0_hw232 : k0_chk232 v4162), ∀ a, (k0_off464 v4162) a + S8x128.size a ≤ S10000x128.size a := fun v4162 k0_hw232 => k0_hw232.2

def k0_off465 (i : grid0.Coords) : Fin 2 → Nat :=
  let arg0 : BitVec 32 := BitVec.ofNat 32 (i 0).val
  let c4_i32 : BitVec 32 := 4#32
  let v0 : BitVec 32 := Scalar.muli arg0 c4_i32
  let c1_i32_2083 : BitVec 32 := 1#32
  let v4178 : BitVec 32 := Scalar.addi v0 c1_i32_2083
  let v4179 : Index := Scalar.indexCast v4178
  let c104_2084 : Index := 104#32
  ![v4179.toNat, 104]
def k0_mult233 (v4180 : BitVec 32) : BitVec 32 :=
  let c3_i32_2085 : BitVec 32 := 3#32
  let v4181 : BitVec 32 := Scalar.shrsi v4180 c3_i32_2085
  let c3_i32_2086 : BitVec 32 := 3#32
  let v4182 : BitVec 32 := Scalar.shli v4181 c3_i32_2086
  v4182

def k0_off466 (v4180 : BitVec 32) : Fin 2 → Nat :=
  let c3_i32_2085 : BitVec 32 := 3#32
  let v4181 : BitVec 32 := Scalar.shrsi v4180 c3_i32_2085
  let c3_i32_2086 : BitVec 32 := 3#32
  let v4182 : BitVec 32 := Scalar.shli v4181 c3_i32_2086
  let v4183 : BitVec 32 := v4182
  let v4184 : Index := Scalar.indexCast v4183
  let c0_2087 : Index := 0#32
  ![v4184.toNat, 0]

def k0_chk233 (v4180 : BitVec 32) : Prop :=
  (8 ∣ (k0_mult233 v4180).toNat) ∧
  (∀ a, (k0_off466 v4180) a + S8x128.size a ≤ S10000x128.size a)
theorem k0_mult233_dvd : ∀ (v4180 : BitVec 32) (k0_hw233 : k0_chk233 v4180), 8 ∣ (k0_mult233 v4180).toNat := fun v4180 k0_hw233 => k0_hw233.1
theorem k0_off466_inb : ∀ (v4180 : BitVec 32) (k0_hw233 : k0_chk233 v4180), ∀ a, (k0_off466 v4180) a + S8x128.size a ≤ S10000x128.size a := fun v4180 k0_hw233 => k0_hw233.2

def k0_off467 (i : grid0.Coords) : Fin 2 → Nat :=
  let arg0 : BitVec 32 := BitVec.ofNat 32 (i 0).val
  let c4_i32 : BitVec 32 := 4#32
  let v0 : BitVec 32 := Scalar.muli arg0 c4_i32
  let c1_i32_2092 : BitVec 32 := 1#32
  let v4196 : BitVec 32 := Scalar.addi v0 c1_i32_2092
  let v4197 : Index := Scalar.indexCast v4196
  let c105_2093 : Index := 105#32
  ![v4197.toNat, 105]
def k0_mult234 (v4198 : BitVec 32) : BitVec 32 :=
  let c3_i32_2094 : BitVec 32 := 3#32
  let v4199 : BitVec 32 := Scalar.shrsi v4198 c3_i32_2094
  let c3_i32_2095 : BitVec 32 := 3#32
  let v4200 : BitVec 32 := Scalar.shli v4199 c3_i32_2095
  v4200

def k0_off468 (v4198 : BitVec 32) : Fin 2 → Nat :=
  let c3_i32_2094 : BitVec 32 := 3#32
  let v4199 : BitVec 32 := Scalar.shrsi v4198 c3_i32_2094
  let c3_i32_2095 : BitVec 32 := 3#32
  let v4200 : BitVec 32 := Scalar.shli v4199 c3_i32_2095
  let v4201 : BitVec 32 := v4200
  let v4202 : Index := Scalar.indexCast v4201
  let c0_2096 : Index := 0#32
  ![v4202.toNat, 0]

def k0_chk234 (v4198 : BitVec 32) : Prop :=
  (8 ∣ (k0_mult234 v4198).toNat) ∧
  (∀ a, (k0_off468 v4198) a + S8x128.size a ≤ S10000x128.size a)
theorem k0_mult234_dvd : ∀ (v4198 : BitVec 32) (k0_hw234 : k0_chk234 v4198), 8 ∣ (k0_mult234 v4198).toNat := fun v4198 k0_hw234 => k0_hw234.1
theorem k0_off468_inb : ∀ (v4198 : BitVec 32) (k0_hw234 : k0_chk234 v4198), ∀ a, (k0_off468 v4198) a + S8x128.size a ≤ S10000x128.size a := fun v4198 k0_hw234 => k0_hw234.2

def k0_off469 (i : grid0.Coords) : Fin 2 → Nat :=
  let arg0 : BitVec 32 := BitVec.ofNat 32 (i 0).val
  let c4_i32 : BitVec 32 := 4#32
  let v0 : BitVec 32 := Scalar.muli arg0 c4_i32
  let c1_i32_2101 : BitVec 32 := 1#32
  let v4214 : BitVec 32 := Scalar.addi v0 c1_i32_2101
  let v4215 : Index := Scalar.indexCast v4214
  let c106_2102 : Index := 106#32
  ![v4215.toNat, 106]
def k0_mult235 (v4216 : BitVec 32) : BitVec 32 :=
  let c3_i32_2103 : BitVec 32 := 3#32
  let v4217 : BitVec 32 := Scalar.shrsi v4216 c3_i32_2103
  let c3_i32_2104 : BitVec 32 := 3#32
  let v4218 : BitVec 32 := Scalar.shli v4217 c3_i32_2104
  v4218

def k0_off470 (v4216 : BitVec 32) : Fin 2 → Nat :=
  let c3_i32_2103 : BitVec 32 := 3#32
  let v4217 : BitVec 32 := Scalar.shrsi v4216 c3_i32_2103
  let c3_i32_2104 : BitVec 32 := 3#32
  let v4218 : BitVec 32 := Scalar.shli v4217 c3_i32_2104
  let v4219 : BitVec 32 := v4218
  let v4220 : Index := Scalar.indexCast v4219
  let c0_2105 : Index := 0#32
  ![v4220.toNat, 0]

def k0_chk235 (v4216 : BitVec 32) : Prop :=
  (8 ∣ (k0_mult235 v4216).toNat) ∧
  (∀ a, (k0_off470 v4216) a + S8x128.size a ≤ S10000x128.size a)
theorem k0_mult235_dvd : ∀ (v4216 : BitVec 32) (k0_hw235 : k0_chk235 v4216), 8 ∣ (k0_mult235 v4216).toNat := fun v4216 k0_hw235 => k0_hw235.1
theorem k0_off470_inb : ∀ (v4216 : BitVec 32) (k0_hw235 : k0_chk235 v4216), ∀ a, (k0_off470 v4216) a + S8x128.size a ≤ S10000x128.size a := fun v4216 k0_hw235 => k0_hw235.2

def k0_off471 (i : grid0.Coords) : Fin 2 → Nat :=
  let arg0 : BitVec 32 := BitVec.ofNat 32 (i 0).val
  let c4_i32 : BitVec 32 := 4#32
  let v0 : BitVec 32 := Scalar.muli arg0 c4_i32
  let c1_i32_2110 : BitVec 32 := 1#32
  let v4232 : BitVec 32 := Scalar.addi v0 c1_i32_2110
  let v4233 : Index := Scalar.indexCast v4232
  let c107_2111 : Index := 107#32
  ![v4233.toNat, 107]
def k0_mult236 (v4234 : BitVec 32) : BitVec 32 :=
  let c3_i32_2112 : BitVec 32 := 3#32
  let v4235 : BitVec 32 := Scalar.shrsi v4234 c3_i32_2112
  let c3_i32_2113 : BitVec 32 := 3#32
  let v4236 : BitVec 32 := Scalar.shli v4235 c3_i32_2113
  v4236

def k0_off472 (v4234 : BitVec 32) : Fin 2 → Nat :=
  let c3_i32_2112 : BitVec 32 := 3#32
  let v4235 : BitVec 32 := Scalar.shrsi v4234 c3_i32_2112
  let c3_i32_2113 : BitVec 32 := 3#32
  let v4236 : BitVec 32 := Scalar.shli v4235 c3_i32_2113
  let v4237 : BitVec 32 := v4236
  let v4238 : Index := Scalar.indexCast v4237
  let c0_2114 : Index := 0#32
  ![v4238.toNat, 0]

def k0_chk236 (v4234 : BitVec 32) : Prop :=
  (8 ∣ (k0_mult236 v4234).toNat) ∧
  (∀ a, (k0_off472 v4234) a + S8x128.size a ≤ S10000x128.size a)
theorem k0_mult236_dvd : ∀ (v4234 : BitVec 32) (k0_hw236 : k0_chk236 v4234), 8 ∣ (k0_mult236 v4234).toNat := fun v4234 k0_hw236 => k0_hw236.1
theorem k0_off472_inb : ∀ (v4234 : BitVec 32) (k0_hw236 : k0_chk236 v4234), ∀ a, (k0_off472 v4234) a + S8x128.size a ≤ S10000x128.size a := fun v4234 k0_hw236 => k0_hw236.2

def k0_off473 (i : grid0.Coords) : Fin 2 → Nat :=
  let arg0 : BitVec 32 := BitVec.ofNat 32 (i 0).val
  let c4_i32 : BitVec 32 := 4#32
  let v0 : BitVec 32 := Scalar.muli arg0 c4_i32
  let c1_i32_2119 : BitVec 32 := 1#32
  let v4250 : BitVec 32 := Scalar.addi v0 c1_i32_2119
  let v4251 : Index := Scalar.indexCast v4250
  let c108_2120 : Index := 108#32
  ![v4251.toNat, 108]
def k0_mult237 (v4252 : BitVec 32) : BitVec 32 :=
  let c3_i32_2121 : BitVec 32 := 3#32
  let v4253 : BitVec 32 := Scalar.shrsi v4252 c3_i32_2121
  let c3_i32_2122 : BitVec 32 := 3#32
  let v4254 : BitVec 32 := Scalar.shli v4253 c3_i32_2122
  v4254

def k0_off474 (v4252 : BitVec 32) : Fin 2 → Nat :=
  let c3_i32_2121 : BitVec 32 := 3#32
  let v4253 : BitVec 32 := Scalar.shrsi v4252 c3_i32_2121
  let c3_i32_2122 : BitVec 32 := 3#32
  let v4254 : BitVec 32 := Scalar.shli v4253 c3_i32_2122
  let v4255 : BitVec 32 := v4254
  let v4256 : Index := Scalar.indexCast v4255
  let c0_2123 : Index := 0#32
  ![v4256.toNat, 0]

def k0_chk237 (v4252 : BitVec 32) : Prop :=
  (8 ∣ (k0_mult237 v4252).toNat) ∧
  (∀ a, (k0_off474 v4252) a + S8x128.size a ≤ S10000x128.size a)
theorem k0_mult237_dvd : ∀ (v4252 : BitVec 32) (k0_hw237 : k0_chk237 v4252), 8 ∣ (k0_mult237 v4252).toNat := fun v4252 k0_hw237 => k0_hw237.1
theorem k0_off474_inb : ∀ (v4252 : BitVec 32) (k0_hw237 : k0_chk237 v4252), ∀ a, (k0_off474 v4252) a + S8x128.size a ≤ S10000x128.size a := fun v4252 k0_hw237 => k0_hw237.2

def k0_off475 (i : grid0.Coords) : Fin 2 → Nat :=
  let arg0 : BitVec 32 := BitVec.ofNat 32 (i 0).val
  let c4_i32 : BitVec 32 := 4#32
  let v0 : BitVec 32 := Scalar.muli arg0 c4_i32
  let c1_i32_2128 : BitVec 32 := 1#32
  let v4268 : BitVec 32 := Scalar.addi v0 c1_i32_2128
  let v4269 : Index := Scalar.indexCast v4268
  let c109_2129 : Index := 109#32
  ![v4269.toNat, 109]
def k0_mult238 (v4270 : BitVec 32) : BitVec 32 :=
  let c3_i32_2130 : BitVec 32 := 3#32
  let v4271 : BitVec 32 := Scalar.shrsi v4270 c3_i32_2130
  let c3_i32_2131 : BitVec 32 := 3#32
  let v4272 : BitVec 32 := Scalar.shli v4271 c3_i32_2131
  v4272

def k0_off476 (v4270 : BitVec 32) : Fin 2 → Nat :=
  let c3_i32_2130 : BitVec 32 := 3#32
  let v4271 : BitVec 32 := Scalar.shrsi v4270 c3_i32_2130
  let c3_i32_2131 : BitVec 32 := 3#32
  let v4272 : BitVec 32 := Scalar.shli v4271 c3_i32_2131
  let v4273 : BitVec 32 := v4272
  let v4274 : Index := Scalar.indexCast v4273
  let c0_2132 : Index := 0#32
  ![v4274.toNat, 0]

def k0_chk238 (v4270 : BitVec 32) : Prop :=
  (8 ∣ (k0_mult238 v4270).toNat) ∧
  (∀ a, (k0_off476 v4270) a + S8x128.size a ≤ S10000x128.size a)
theorem k0_mult238_dvd : ∀ (v4270 : BitVec 32) (k0_hw238 : k0_chk238 v4270), 8 ∣ (k0_mult238 v4270).toNat := fun v4270 k0_hw238 => k0_hw238.1
theorem k0_off476_inb : ∀ (v4270 : BitVec 32) (k0_hw238 : k0_chk238 v4270), ∀ a, (k0_off476 v4270) a + S8x128.size a ≤ S10000x128.size a := fun v4270 k0_hw238 => k0_hw238.2

def k0_off477 (i : grid0.Coords) : Fin 2 → Nat :=
  let arg0 : BitVec 32 := BitVec.ofNat 32 (i 0).val
  let c4_i32 : BitVec 32 := 4#32
  let v0 : BitVec 32 := Scalar.muli arg0 c4_i32
  let c1_i32_2137 : BitVec 32 := 1#32
  let v4286 : BitVec 32 := Scalar.addi v0 c1_i32_2137
  let v4287 : Index := Scalar.indexCast v4286
  let c110_2138 : Index := 110#32
  ![v4287.toNat, 110]
def k0_mult239 (v4288 : BitVec 32) : BitVec 32 :=
  let c3_i32_2139 : BitVec 32 := 3#32
  let v4289 : BitVec 32 := Scalar.shrsi v4288 c3_i32_2139
  let c3_i32_2140 : BitVec 32 := 3#32
  let v4290 : BitVec 32 := Scalar.shli v4289 c3_i32_2140
  v4290

def k0_off478 (v4288 : BitVec 32) : Fin 2 → Nat :=
  let c3_i32_2139 : BitVec 32 := 3#32
  let v4289 : BitVec 32 := Scalar.shrsi v4288 c3_i32_2139
  let c3_i32_2140 : BitVec 32 := 3#32
  let v4290 : BitVec 32 := Scalar.shli v4289 c3_i32_2140
  let v4291 : BitVec 32 := v4290
  let v4292 : Index := Scalar.indexCast v4291
  let c0_2141 : Index := 0#32
  ![v4292.toNat, 0]

def k0_chk239 (v4288 : BitVec 32) : Prop :=
  (8 ∣ (k0_mult239 v4288).toNat) ∧
  (∀ a, (k0_off478 v4288) a + S8x128.size a ≤ S10000x128.size a)
theorem k0_mult239_dvd : ∀ (v4288 : BitVec 32) (k0_hw239 : k0_chk239 v4288), 8 ∣ (k0_mult239 v4288).toNat := fun v4288 k0_hw239 => k0_hw239.1
theorem k0_off478_inb : ∀ (v4288 : BitVec 32) (k0_hw239 : k0_chk239 v4288), ∀ a, (k0_off478 v4288) a + S8x128.size a ≤ S10000x128.size a := fun v4288 k0_hw239 => k0_hw239.2

def k0_off479 (i : grid0.Coords) : Fin 2 → Nat :=
  let arg0 : BitVec 32 := BitVec.ofNat 32 (i 0).val
  let c4_i32 : BitVec 32 := 4#32
  let v0 : BitVec 32 := Scalar.muli arg0 c4_i32
  let c1_i32_2146 : BitVec 32 := 1#32
  let v4304 : BitVec 32 := Scalar.addi v0 c1_i32_2146
  let v4305 : Index := Scalar.indexCast v4304
  let c111_2147 : Index := 111#32
  ![v4305.toNat, 111]
def k0_mult240 (v4306 : BitVec 32) : BitVec 32 :=
  let c3_i32_2148 : BitVec 32 := 3#32
  let v4307 : BitVec 32 := Scalar.shrsi v4306 c3_i32_2148
  let c3_i32_2149 : BitVec 32 := 3#32
  let v4308 : BitVec 32 := Scalar.shli v4307 c3_i32_2149
  v4308

def k0_off480 (v4306 : BitVec 32) : Fin 2 → Nat :=
  let c3_i32_2148 : BitVec 32 := 3#32
  let v4307 : BitVec 32 := Scalar.shrsi v4306 c3_i32_2148
  let c3_i32_2149 : BitVec 32 := 3#32
  let v4308 : BitVec 32 := Scalar.shli v4307 c3_i32_2149
  let v4309 : BitVec 32 := v4308
  let v4310 : Index := Scalar.indexCast v4309
  let c0_2150 : Index := 0#32
  ![v4310.toNat, 0]

def k0_chk240 (v4306 : BitVec 32) : Prop :=
  (8 ∣ (k0_mult240 v4306).toNat) ∧
  (∀ a, (k0_off480 v4306) a + S8x128.size a ≤ S10000x128.size a)
theorem k0_mult240_dvd : ∀ (v4306 : BitVec 32) (k0_hw240 : k0_chk240 v4306), 8 ∣ (k0_mult240 v4306).toNat := fun v4306 k0_hw240 => k0_hw240.1
theorem k0_off480_inb : ∀ (v4306 : BitVec 32) (k0_hw240 : k0_chk240 v4306), ∀ a, (k0_off480 v4306) a + S8x128.size a ≤ S10000x128.size a := fun v4306 k0_hw240 => k0_hw240.2

def k0_off481 (i : grid0.Coords) : Fin 2 → Nat :=
  let arg0 : BitVec 32 := BitVec.ofNat 32 (i 0).val
  let c4_i32 : BitVec 32 := 4#32
  let v0 : BitVec 32 := Scalar.muli arg0 c4_i32
  let c1_i32_2155 : BitVec 32 := 1#32
  let v4322 : BitVec 32 := Scalar.addi v0 c1_i32_2155
  let v4323 : Index := Scalar.indexCast v4322
  let c112_2156 : Index := 112#32
  ![v4323.toNat, 112]
def k0_mult241 (v4324 : BitVec 32) : BitVec 32 :=
  let c3_i32_2157 : BitVec 32 := 3#32
  let v4325 : BitVec 32 := Scalar.shrsi v4324 c3_i32_2157
  let c3_i32_2158 : BitVec 32 := 3#32
  let v4326 : BitVec 32 := Scalar.shli v4325 c3_i32_2158
  v4326

def k0_off482 (v4324 : BitVec 32) : Fin 2 → Nat :=
  let c3_i32_2157 : BitVec 32 := 3#32
  let v4325 : BitVec 32 := Scalar.shrsi v4324 c3_i32_2157
  let c3_i32_2158 : BitVec 32 := 3#32
  let v4326 : BitVec 32 := Scalar.shli v4325 c3_i32_2158
  let v4327 : BitVec 32 := v4326
  let v4328 : Index := Scalar.indexCast v4327
  let c0_2159 : Index := 0#32
  ![v4328.toNat, 0]

def k0_chk241 (v4324 : BitVec 32) : Prop :=
  (8 ∣ (k0_mult241 v4324).toNat) ∧
  (∀ a, (k0_off482 v4324) a + S8x128.size a ≤ S10000x128.size a)
theorem k0_mult241_dvd : ∀ (v4324 : BitVec 32) (k0_hw241 : k0_chk241 v4324), 8 ∣ (k0_mult241 v4324).toNat := fun v4324 k0_hw241 => k0_hw241.1
theorem k0_off482_inb : ∀ (v4324 : BitVec 32) (k0_hw241 : k0_chk241 v4324), ∀ a, (k0_off482 v4324) a + S8x128.size a ≤ S10000x128.size a := fun v4324 k0_hw241 => k0_hw241.2

def k0_off483 (i : grid0.Coords) : Fin 2 → Nat :=
  let arg0 : BitVec 32 := BitVec.ofNat 32 (i 0).val
  let c4_i32 : BitVec 32 := 4#32
  let v0 : BitVec 32 := Scalar.muli arg0 c4_i32
  let c1_i32_2164 : BitVec 32 := 1#32
  let v4340 : BitVec 32 := Scalar.addi v0 c1_i32_2164
  let v4341 : Index := Scalar.indexCast v4340
  let c113_2165 : Index := 113#32
  ![v4341.toNat, 113]
def k0_mult242 (v4342 : BitVec 32) : BitVec 32 :=
  let c3_i32_2166 : BitVec 32 := 3#32
  let v4343 : BitVec 32 := Scalar.shrsi v4342 c3_i32_2166
  let c3_i32_2167 : BitVec 32 := 3#32
  let v4344 : BitVec 32 := Scalar.shli v4343 c3_i32_2167
  v4344

def k0_off484 (v4342 : BitVec 32) : Fin 2 → Nat :=
  let c3_i32_2166 : BitVec 32 := 3#32
  let v4343 : BitVec 32 := Scalar.shrsi v4342 c3_i32_2166
  let c3_i32_2167 : BitVec 32 := 3#32
  let v4344 : BitVec 32 := Scalar.shli v4343 c3_i32_2167
  let v4345 : BitVec 32 := v4344
  let v4346 : Index := Scalar.indexCast v4345
  let c0_2168 : Index := 0#32
  ![v4346.toNat, 0]

def k0_chk242 (v4342 : BitVec 32) : Prop :=
  (8 ∣ (k0_mult242 v4342).toNat) ∧
  (∀ a, (k0_off484 v4342) a + S8x128.size a ≤ S10000x128.size a)
theorem k0_mult242_dvd : ∀ (v4342 : BitVec 32) (k0_hw242 : k0_chk242 v4342), 8 ∣ (k0_mult242 v4342).toNat := fun v4342 k0_hw242 => k0_hw242.1
theorem k0_off484_inb : ∀ (v4342 : BitVec 32) (k0_hw242 : k0_chk242 v4342), ∀ a, (k0_off484 v4342) a + S8x128.size a ≤ S10000x128.size a := fun v4342 k0_hw242 => k0_hw242.2

def k0_off485 (i : grid0.Coords) : Fin 2 → Nat :=
  let arg0 : BitVec 32 := BitVec.ofNat 32 (i 0).val
  let c4_i32 : BitVec 32 := 4#32
  let v0 : BitVec 32 := Scalar.muli arg0 c4_i32
  let c1_i32_2173 : BitVec 32 := 1#32
  let v4358 : BitVec 32 := Scalar.addi v0 c1_i32_2173
  let v4359 : Index := Scalar.indexCast v4358
  let c114_2174 : Index := 114#32
  ![v4359.toNat, 114]
def k0_mult243 (v4360 : BitVec 32) : BitVec 32 :=
  let c3_i32_2175 : BitVec 32 := 3#32
  let v4361 : BitVec 32 := Scalar.shrsi v4360 c3_i32_2175
  let c3_i32_2176 : BitVec 32 := 3#32
  let v4362 : BitVec 32 := Scalar.shli v4361 c3_i32_2176
  v4362

def k0_off486 (v4360 : BitVec 32) : Fin 2 → Nat :=
  let c3_i32_2175 : BitVec 32 := 3#32
  let v4361 : BitVec 32 := Scalar.shrsi v4360 c3_i32_2175
  let c3_i32_2176 : BitVec 32 := 3#32
  let v4362 : BitVec 32 := Scalar.shli v4361 c3_i32_2176
  let v4363 : BitVec 32 := v4362
  let v4364 : Index := Scalar.indexCast v4363
  let c0_2177 : Index := 0#32
  ![v4364.toNat, 0]

def k0_chk243 (v4360 : BitVec 32) : Prop :=
  (8 ∣ (k0_mult243 v4360).toNat) ∧
  (∀ a, (k0_off486 v4360) a + S8x128.size a ≤ S10000x128.size a)
theorem k0_mult243_dvd : ∀ (v4360 : BitVec 32) (k0_hw243 : k0_chk243 v4360), 8 ∣ (k0_mult243 v4360).toNat := fun v4360 k0_hw243 => k0_hw243.1
theorem k0_off486_inb : ∀ (v4360 : BitVec 32) (k0_hw243 : k0_chk243 v4360), ∀ a, (k0_off486 v4360) a + S8x128.size a ≤ S10000x128.size a := fun v4360 k0_hw243 => k0_hw243.2

def k0_off487 (i : grid0.Coords) : Fin 2 → Nat :=
  let arg0 : BitVec 32 := BitVec.ofNat 32 (i 0).val
  let c4_i32 : BitVec 32 := 4#32
  let v0 : BitVec 32 := Scalar.muli arg0 c4_i32
  let c1_i32_2182 : BitVec 32 := 1#32
  let v4376 : BitVec 32 := Scalar.addi v0 c1_i32_2182
  let v4377 : Index := Scalar.indexCast v4376
  let c115_2183 : Index := 115#32
  ![v4377.toNat, 115]
def k0_mult244 (v4378 : BitVec 32) : BitVec 32 :=
  let c3_i32_2184 : BitVec 32 := 3#32
  let v4379 : BitVec 32 := Scalar.shrsi v4378 c3_i32_2184
  let c3_i32_2185 : BitVec 32 := 3#32
  let v4380 : BitVec 32 := Scalar.shli v4379 c3_i32_2185
  v4380

def k0_off488 (v4378 : BitVec 32) : Fin 2 → Nat :=
  let c3_i32_2184 : BitVec 32 := 3#32
  let v4379 : BitVec 32 := Scalar.shrsi v4378 c3_i32_2184
  let c3_i32_2185 : BitVec 32 := 3#32
  let v4380 : BitVec 32 := Scalar.shli v4379 c3_i32_2185
  let v4381 : BitVec 32 := v4380
  let v4382 : Index := Scalar.indexCast v4381
  let c0_2186 : Index := 0#32
  ![v4382.toNat, 0]

def k0_chk244 (v4378 : BitVec 32) : Prop :=
  (8 ∣ (k0_mult244 v4378).toNat) ∧
  (∀ a, (k0_off488 v4378) a + S8x128.size a ≤ S10000x128.size a)
theorem k0_mult244_dvd : ∀ (v4378 : BitVec 32) (k0_hw244 : k0_chk244 v4378), 8 ∣ (k0_mult244 v4378).toNat := fun v4378 k0_hw244 => k0_hw244.1
theorem k0_off488_inb : ∀ (v4378 : BitVec 32) (k0_hw244 : k0_chk244 v4378), ∀ a, (k0_off488 v4378) a + S8x128.size a ≤ S10000x128.size a := fun v4378 k0_hw244 => k0_hw244.2

def k0_off489 (i : grid0.Coords) : Fin 2 → Nat :=
  let arg0 : BitVec 32 := BitVec.ofNat 32 (i 0).val
  let c4_i32 : BitVec 32 := 4#32
  let v0 : BitVec 32 := Scalar.muli arg0 c4_i32
  let c1_i32_2191 : BitVec 32 := 1#32
  let v4394 : BitVec 32 := Scalar.addi v0 c1_i32_2191
  let v4395 : Index := Scalar.indexCast v4394
  let c116_2192 : Index := 116#32
  ![v4395.toNat, 116]
def k0_mult245 (v4396 : BitVec 32) : BitVec 32 :=
  let c3_i32_2193 : BitVec 32 := 3#32
  let v4397 : BitVec 32 := Scalar.shrsi v4396 c3_i32_2193
  let c3_i32_2194 : BitVec 32 := 3#32
  let v4398 : BitVec 32 := Scalar.shli v4397 c3_i32_2194
  v4398

def k0_off490 (v4396 : BitVec 32) : Fin 2 → Nat :=
  let c3_i32_2193 : BitVec 32 := 3#32
  let v4397 : BitVec 32 := Scalar.shrsi v4396 c3_i32_2193
  let c3_i32_2194 : BitVec 32 := 3#32
  let v4398 : BitVec 32 := Scalar.shli v4397 c3_i32_2194
  let v4399 : BitVec 32 := v4398
  let v4400 : Index := Scalar.indexCast v4399
  let c0_2195 : Index := 0#32
  ![v4400.toNat, 0]

def k0_chk245 (v4396 : BitVec 32) : Prop :=
  (8 ∣ (k0_mult245 v4396).toNat) ∧
  (∀ a, (k0_off490 v4396) a + S8x128.size a ≤ S10000x128.size a)
theorem k0_mult245_dvd : ∀ (v4396 : BitVec 32) (k0_hw245 : k0_chk245 v4396), 8 ∣ (k0_mult245 v4396).toNat := fun v4396 k0_hw245 => k0_hw245.1
theorem k0_off490_inb : ∀ (v4396 : BitVec 32) (k0_hw245 : k0_chk245 v4396), ∀ a, (k0_off490 v4396) a + S8x128.size a ≤ S10000x128.size a := fun v4396 k0_hw245 => k0_hw245.2

def k0_off491 (i : grid0.Coords) : Fin 2 → Nat :=
  let arg0 : BitVec 32 := BitVec.ofNat 32 (i 0).val
  let c4_i32 : BitVec 32 := 4#32
  let v0 : BitVec 32 := Scalar.muli arg0 c4_i32
  let c1_i32_2200 : BitVec 32 := 1#32
  let v4412 : BitVec 32 := Scalar.addi v0 c1_i32_2200
  let v4413 : Index := Scalar.indexCast v4412
  let c117_2201 : Index := 117#32
  ![v4413.toNat, 117]
def k0_mult246 (v4414 : BitVec 32) : BitVec 32 :=
  let c3_i32_2202 : BitVec 32 := 3#32
  let v4415 : BitVec 32 := Scalar.shrsi v4414 c3_i32_2202
  let c3_i32_2203 : BitVec 32 := 3#32
  let v4416 : BitVec 32 := Scalar.shli v4415 c3_i32_2203
  v4416

def k0_off492 (v4414 : BitVec 32) : Fin 2 → Nat :=
  let c3_i32_2202 : BitVec 32 := 3#32
  let v4415 : BitVec 32 := Scalar.shrsi v4414 c3_i32_2202
  let c3_i32_2203 : BitVec 32 := 3#32
  let v4416 : BitVec 32 := Scalar.shli v4415 c3_i32_2203
  let v4417 : BitVec 32 := v4416
  let v4418 : Index := Scalar.indexCast v4417
  let c0_2204 : Index := 0#32
  ![v4418.toNat, 0]

def k0_chk246 (v4414 : BitVec 32) : Prop :=
  (8 ∣ (k0_mult246 v4414).toNat) ∧
  (∀ a, (k0_off492 v4414) a + S8x128.size a ≤ S10000x128.size a)
theorem k0_mult246_dvd : ∀ (v4414 : BitVec 32) (k0_hw246 : k0_chk246 v4414), 8 ∣ (k0_mult246 v4414).toNat := fun v4414 k0_hw246 => k0_hw246.1
theorem k0_off492_inb : ∀ (v4414 : BitVec 32) (k0_hw246 : k0_chk246 v4414), ∀ a, (k0_off492 v4414) a + S8x128.size a ≤ S10000x128.size a := fun v4414 k0_hw246 => k0_hw246.2

def k0_off493 (i : grid0.Coords) : Fin 2 → Nat :=
  let arg0 : BitVec 32 := BitVec.ofNat 32 (i 0).val
  let c4_i32 : BitVec 32 := 4#32
  let v0 : BitVec 32 := Scalar.muli arg0 c4_i32
  let c1_i32_2209 : BitVec 32 := 1#32
  let v4430 : BitVec 32 := Scalar.addi v0 c1_i32_2209
  let v4431 : Index := Scalar.indexCast v4430
  let c118_2210 : Index := 118#32
  ![v4431.toNat, 118]
def k0_mult247 (v4432 : BitVec 32) : BitVec 32 :=
  let c3_i32_2211 : BitVec 32 := 3#32
  let v4433 : BitVec 32 := Scalar.shrsi v4432 c3_i32_2211
  let c3_i32_2212 : BitVec 32 := 3#32
  let v4434 : BitVec 32 := Scalar.shli v4433 c3_i32_2212
  v4434

def k0_off494 (v4432 : BitVec 32) : Fin 2 → Nat :=
  let c3_i32_2211 : BitVec 32 := 3#32
  let v4433 : BitVec 32 := Scalar.shrsi v4432 c3_i32_2211
  let c3_i32_2212 : BitVec 32 := 3#32
  let v4434 : BitVec 32 := Scalar.shli v4433 c3_i32_2212
  let v4435 : BitVec 32 := v4434
  let v4436 : Index := Scalar.indexCast v4435
  let c0_2213 : Index := 0#32
  ![v4436.toNat, 0]

def k0_chk247 (v4432 : BitVec 32) : Prop :=
  (8 ∣ (k0_mult247 v4432).toNat) ∧
  (∀ a, (k0_off494 v4432) a + S8x128.size a ≤ S10000x128.size a)
theorem k0_mult247_dvd : ∀ (v4432 : BitVec 32) (k0_hw247 : k0_chk247 v4432), 8 ∣ (k0_mult247 v4432).toNat := fun v4432 k0_hw247 => k0_hw247.1
theorem k0_off494_inb : ∀ (v4432 : BitVec 32) (k0_hw247 : k0_chk247 v4432), ∀ a, (k0_off494 v4432) a + S8x128.size a ≤ S10000x128.size a := fun v4432 k0_hw247 => k0_hw247.2

def k0_off495 (i : grid0.Coords) : Fin 2 → Nat :=
  let arg0 : BitVec 32 := BitVec.ofNat 32 (i 0).val
  let c4_i32 : BitVec 32 := 4#32
  let v0 : BitVec 32 := Scalar.muli arg0 c4_i32
  let c1_i32_2218 : BitVec 32 := 1#32
  let v4448 : BitVec 32 := Scalar.addi v0 c1_i32_2218
  let v4449 : Index := Scalar.indexCast v4448
  let c119_2219 : Index := 119#32
  ![v4449.toNat, 119]
def k0_mult248 (v4450 : BitVec 32) : BitVec 32 :=
  let c3_i32_2220 : BitVec 32 := 3#32
  let v4451 : BitVec 32 := Scalar.shrsi v4450 c3_i32_2220
  let c3_i32_2221 : BitVec 32 := 3#32
  let v4452 : BitVec 32 := Scalar.shli v4451 c3_i32_2221
  v4452

def k0_off496 (v4450 : BitVec 32) : Fin 2 → Nat :=
  let c3_i32_2220 : BitVec 32 := 3#32
  let v4451 : BitVec 32 := Scalar.shrsi v4450 c3_i32_2220
  let c3_i32_2221 : BitVec 32 := 3#32
  let v4452 : BitVec 32 := Scalar.shli v4451 c3_i32_2221
  let v4453 : BitVec 32 := v4452
  let v4454 : Index := Scalar.indexCast v4453
  let c0_2222 : Index := 0#32
  ![v4454.toNat, 0]

def k0_chk248 (v4450 : BitVec 32) : Prop :=
  (8 ∣ (k0_mult248 v4450).toNat) ∧
  (∀ a, (k0_off496 v4450) a + S8x128.size a ≤ S10000x128.size a)
theorem k0_mult248_dvd : ∀ (v4450 : BitVec 32) (k0_hw248 : k0_chk248 v4450), 8 ∣ (k0_mult248 v4450).toNat := fun v4450 k0_hw248 => k0_hw248.1
theorem k0_off496_inb : ∀ (v4450 : BitVec 32) (k0_hw248 : k0_chk248 v4450), ∀ a, (k0_off496 v4450) a + S8x128.size a ≤ S10000x128.size a := fun v4450 k0_hw248 => k0_hw248.2

def k0_off497 (i : grid0.Coords) : Fin 2 → Nat :=
  let arg0 : BitVec 32 := BitVec.ofNat 32 (i 0).val
  let c4_i32 : BitVec 32 := 4#32
  let v0 : BitVec 32 := Scalar.muli arg0 c4_i32
  let c1_i32_2227 : BitVec 32 := 1#32
  let v4466 : BitVec 32 := Scalar.addi v0 c1_i32_2227
  let v4467 : Index := Scalar.indexCast v4466
  let c120_2228 : Index := 120#32
  ![v4467.toNat, 120]
def k0_mult249 (v4468 : BitVec 32) : BitVec 32 :=
  let c3_i32_2229 : BitVec 32 := 3#32
  let v4469 : BitVec 32 := Scalar.shrsi v4468 c3_i32_2229
  let c3_i32_2230 : BitVec 32 := 3#32
  let v4470 : BitVec 32 := Scalar.shli v4469 c3_i32_2230
  v4470

def k0_off498 (v4468 : BitVec 32) : Fin 2 → Nat :=
  let c3_i32_2229 : BitVec 32 := 3#32
  let v4469 : BitVec 32 := Scalar.shrsi v4468 c3_i32_2229
  let c3_i32_2230 : BitVec 32 := 3#32
  let v4470 : BitVec 32 := Scalar.shli v4469 c3_i32_2230
  let v4471 : BitVec 32 := v4470
  let v4472 : Index := Scalar.indexCast v4471
  let c0_2231 : Index := 0#32
  ![v4472.toNat, 0]

def k0_chk249 (v4468 : BitVec 32) : Prop :=
  (8 ∣ (k0_mult249 v4468).toNat) ∧
  (∀ a, (k0_off498 v4468) a + S8x128.size a ≤ S10000x128.size a)
theorem k0_mult249_dvd : ∀ (v4468 : BitVec 32) (k0_hw249 : k0_chk249 v4468), 8 ∣ (k0_mult249 v4468).toNat := fun v4468 k0_hw249 => k0_hw249.1
theorem k0_off498_inb : ∀ (v4468 : BitVec 32) (k0_hw249 : k0_chk249 v4468), ∀ a, (k0_off498 v4468) a + S8x128.size a ≤ S10000x128.size a := fun v4468 k0_hw249 => k0_hw249.2

def k0_off499 (i : grid0.Coords) : Fin 2 → Nat :=
  let arg0 : BitVec 32 := BitVec.ofNat 32 (i 0).val
  let c4_i32 : BitVec 32 := 4#32
  let v0 : BitVec 32 := Scalar.muli arg0 c4_i32
  let c1_i32_2236 : BitVec 32 := 1#32
  let v4484 : BitVec 32 := Scalar.addi v0 c1_i32_2236
  let v4485 : Index := Scalar.indexCast v4484
  let c121_2237 : Index := 121#32
  ![v4485.toNat, 121]
def k0_mult250 (v4486 : BitVec 32) : BitVec 32 :=
  let c3_i32_2238 : BitVec 32 := 3#32
  let v4487 : BitVec 32 := Scalar.shrsi v4486 c3_i32_2238
  let c3_i32_2239 : BitVec 32 := 3#32
  let v4488 : BitVec 32 := Scalar.shli v4487 c3_i32_2239
  v4488

def k0_off500 (v4486 : BitVec 32) : Fin 2 → Nat :=
  let c3_i32_2238 : BitVec 32 := 3#32
  let v4487 : BitVec 32 := Scalar.shrsi v4486 c3_i32_2238
  let c3_i32_2239 : BitVec 32 := 3#32
  let v4488 : BitVec 32 := Scalar.shli v4487 c3_i32_2239
  let v4489 : BitVec 32 := v4488
  let v4490 : Index := Scalar.indexCast v4489
  let c0_2240 : Index := 0#32
  ![v4490.toNat, 0]

def k0_chk250 (v4486 : BitVec 32) : Prop :=
  (8 ∣ (k0_mult250 v4486).toNat) ∧
  (∀ a, (k0_off500 v4486) a + S8x128.size a ≤ S10000x128.size a)
theorem k0_mult250_dvd : ∀ (v4486 : BitVec 32) (k0_hw250 : k0_chk250 v4486), 8 ∣ (k0_mult250 v4486).toNat := fun v4486 k0_hw250 => k0_hw250.1
theorem k0_off500_inb : ∀ (v4486 : BitVec 32) (k0_hw250 : k0_chk250 v4486), ∀ a, (k0_off500 v4486) a + S8x128.size a ≤ S10000x128.size a := fun v4486 k0_hw250 => k0_hw250.2

def k0_off501 (i : grid0.Coords) : Fin 2 → Nat :=
  let arg0 : BitVec 32 := BitVec.ofNat 32 (i 0).val
  let c4_i32 : BitVec 32 := 4#32
  let v0 : BitVec 32 := Scalar.muli arg0 c4_i32
  let c1_i32_2245 : BitVec 32 := 1#32
  let v4502 : BitVec 32 := Scalar.addi v0 c1_i32_2245
  let v4503 : Index := Scalar.indexCast v4502
  let c122_2246 : Index := 122#32
  ![v4503.toNat, 122]
def k0_mult251 (v4504 : BitVec 32) : BitVec 32 :=
  let c3_i32_2247 : BitVec 32 := 3#32
  let v4505 : BitVec 32 := Scalar.shrsi v4504 c3_i32_2247
  let c3_i32_2248 : BitVec 32 := 3#32
  let v4506 : BitVec 32 := Scalar.shli v4505 c3_i32_2248
  v4506

def k0_off502 (v4504 : BitVec 32) : Fin 2 → Nat :=
  let c3_i32_2247 : BitVec 32 := 3#32
  let v4505 : BitVec 32 := Scalar.shrsi v4504 c3_i32_2247
  let c3_i32_2248 : BitVec 32 := 3#32
  let v4506 : BitVec 32 := Scalar.shli v4505 c3_i32_2248
  let v4507 : BitVec 32 := v4506
  let v4508 : Index := Scalar.indexCast v4507
  let c0_2249 : Index := 0#32
  ![v4508.toNat, 0]

def k0_chk251 (v4504 : BitVec 32) : Prop :=
  (8 ∣ (k0_mult251 v4504).toNat) ∧
  (∀ a, (k0_off502 v4504) a + S8x128.size a ≤ S10000x128.size a)
theorem k0_mult251_dvd : ∀ (v4504 : BitVec 32) (k0_hw251 : k0_chk251 v4504), 8 ∣ (k0_mult251 v4504).toNat := fun v4504 k0_hw251 => k0_hw251.1
theorem k0_off502_inb : ∀ (v4504 : BitVec 32) (k0_hw251 : k0_chk251 v4504), ∀ a, (k0_off502 v4504) a + S8x128.size a ≤ S10000x128.size a := fun v4504 k0_hw251 => k0_hw251.2

def k0_off503 (i : grid0.Coords) : Fin 2 → Nat :=
  let arg0 : BitVec 32 := BitVec.ofNat 32 (i 0).val
  let c4_i32 : BitVec 32 := 4#32
  let v0 : BitVec 32 := Scalar.muli arg0 c4_i32
  let c1_i32_2254 : BitVec 32 := 1#32
  let v4520 : BitVec 32 := Scalar.addi v0 c1_i32_2254
  let v4521 : Index := Scalar.indexCast v4520
  let c123_2255 : Index := 123#32
  ![v4521.toNat, 123]
def k0_mult252 (v4522 : BitVec 32) : BitVec 32 :=
  let c3_i32_2256 : BitVec 32 := 3#32
  let v4523 : BitVec 32 := Scalar.shrsi v4522 c3_i32_2256
  let c3_i32_2257 : BitVec 32 := 3#32
  let v4524 : BitVec 32 := Scalar.shli v4523 c3_i32_2257
  v4524

def k0_off504 (v4522 : BitVec 32) : Fin 2 → Nat :=
  let c3_i32_2256 : BitVec 32 := 3#32
  let v4523 : BitVec 32 := Scalar.shrsi v4522 c3_i32_2256
  let c3_i32_2257 : BitVec 32 := 3#32
  let v4524 : BitVec 32 := Scalar.shli v4523 c3_i32_2257
  let v4525 : BitVec 32 := v4524
  let v4526 : Index := Scalar.indexCast v4525
  let c0_2258 : Index := 0#32
  ![v4526.toNat, 0]

def k0_chk252 (v4522 : BitVec 32) : Prop :=
  (8 ∣ (k0_mult252 v4522).toNat) ∧
  (∀ a, (k0_off504 v4522) a + S8x128.size a ≤ S10000x128.size a)
theorem k0_mult252_dvd : ∀ (v4522 : BitVec 32) (k0_hw252 : k0_chk252 v4522), 8 ∣ (k0_mult252 v4522).toNat := fun v4522 k0_hw252 => k0_hw252.1
theorem k0_off504_inb : ∀ (v4522 : BitVec 32) (k0_hw252 : k0_chk252 v4522), ∀ a, (k0_off504 v4522) a + S8x128.size a ≤ S10000x128.size a := fun v4522 k0_hw252 => k0_hw252.2

def k0_off505 (i : grid0.Coords) : Fin 2 → Nat :=
  let arg0 : BitVec 32 := BitVec.ofNat 32 (i 0).val
  let c4_i32 : BitVec 32 := 4#32
  let v0 : BitVec 32 := Scalar.muli arg0 c4_i32
  let c1_i32_2263 : BitVec 32 := 1#32
  let v4538 : BitVec 32 := Scalar.addi v0 c1_i32_2263
  let v4539 : Index := Scalar.indexCast v4538
  let c124_2264 : Index := 124#32
  ![v4539.toNat, 124]
def k0_mult253 (v4540 : BitVec 32) : BitVec 32 :=
  let c3_i32_2265 : BitVec 32 := 3#32
  let v4541 : BitVec 32 := Scalar.shrsi v4540 c3_i32_2265
  let c3_i32_2266 : BitVec 32 := 3#32
  let v4542 : BitVec 32 := Scalar.shli v4541 c3_i32_2266
  v4542

def k0_off506 (v4540 : BitVec 32) : Fin 2 → Nat :=
  let c3_i32_2265 : BitVec 32 := 3#32
  let v4541 : BitVec 32 := Scalar.shrsi v4540 c3_i32_2265
  let c3_i32_2266 : BitVec 32 := 3#32
  let v4542 : BitVec 32 := Scalar.shli v4541 c3_i32_2266
  let v4543 : BitVec 32 := v4542
  let v4544 : Index := Scalar.indexCast v4543
  let c0_2267 : Index := 0#32
  ![v4544.toNat, 0]

def k0_chk253 (v4540 : BitVec 32) : Prop :=
  (8 ∣ (k0_mult253 v4540).toNat) ∧
  (∀ a, (k0_off506 v4540) a + S8x128.size a ≤ S10000x128.size a)
theorem k0_mult253_dvd : ∀ (v4540 : BitVec 32) (k0_hw253 : k0_chk253 v4540), 8 ∣ (k0_mult253 v4540).toNat := fun v4540 k0_hw253 => k0_hw253.1
theorem k0_off506_inb : ∀ (v4540 : BitVec 32) (k0_hw253 : k0_chk253 v4540), ∀ a, (k0_off506 v4540) a + S8x128.size a ≤ S10000x128.size a := fun v4540 k0_hw253 => k0_hw253.2

def k0_off507 (i : grid0.Coords) : Fin 2 → Nat :=
  let arg0 : BitVec 32 := BitVec.ofNat 32 (i 0).val
  let c4_i32 : BitVec 32 := 4#32
  let v0 : BitVec 32 := Scalar.muli arg0 c4_i32
  let c1_i32_2272 : BitVec 32 := 1#32
  let v4556 : BitVec 32 := Scalar.addi v0 c1_i32_2272
  let v4557 : Index := Scalar.indexCast v4556
  let c125_2273 : Index := 125#32
  ![v4557.toNat, 125]
def k0_mult254 (v4558 : BitVec 32) : BitVec 32 :=
  let c3_i32_2274 : BitVec 32 := 3#32
  let v4559 : BitVec 32 := Scalar.shrsi v4558 c3_i32_2274
  let c3_i32_2275 : BitVec 32 := 3#32
  let v4560 : BitVec 32 := Scalar.shli v4559 c3_i32_2275
  v4560

def k0_off508 (v4558 : BitVec 32) : Fin 2 → Nat :=
  let c3_i32_2274 : BitVec 32 := 3#32
  let v4559 : BitVec 32 := Scalar.shrsi v4558 c3_i32_2274
  let c3_i32_2275 : BitVec 32 := 3#32
  let v4560 : BitVec 32 := Scalar.shli v4559 c3_i32_2275
  let v4561 : BitVec 32 := v4560
  let v4562 : Index := Scalar.indexCast v4561
  let c0_2276 : Index := 0#32
  ![v4562.toNat, 0]

def k0_chk254 (v4558 : BitVec 32) : Prop :=
  (8 ∣ (k0_mult254 v4558).toNat) ∧
  (∀ a, (k0_off508 v4558) a + S8x128.size a ≤ S10000x128.size a)
theorem k0_mult254_dvd : ∀ (v4558 : BitVec 32) (k0_hw254 : k0_chk254 v4558), 8 ∣ (k0_mult254 v4558).toNat := fun v4558 k0_hw254 => k0_hw254.1
theorem k0_off508_inb : ∀ (v4558 : BitVec 32) (k0_hw254 : k0_chk254 v4558), ∀ a, (k0_off508 v4558) a + S8x128.size a ≤ S10000x128.size a := fun v4558 k0_hw254 => k0_hw254.2

def k0_off509 (i : grid0.Coords) : Fin 2 → Nat :=
  let arg0 : BitVec 32 := BitVec.ofNat 32 (i 0).val
  let c4_i32 : BitVec 32 := 4#32
  let v0 : BitVec 32 := Scalar.muli arg0 c4_i32
  let c1_i32_2281 : BitVec 32 := 1#32
  let v4574 : BitVec 32 := Scalar.addi v0 c1_i32_2281
  let v4575 : Index := Scalar.indexCast v4574
  let c126_2282 : Index := 126#32
  ![v4575.toNat, 126]
def k0_mult255 (v4576 : BitVec 32) : BitVec 32 :=
  let c3_i32_2283 : BitVec 32 := 3#32
  let v4577 : BitVec 32 := Scalar.shrsi v4576 c3_i32_2283
  let c3_i32_2284 : BitVec 32 := 3#32
  let v4578 : BitVec 32 := Scalar.shli v4577 c3_i32_2284
  v4578

def k0_off510 (v4576 : BitVec 32) : Fin 2 → Nat :=
  let c3_i32_2283 : BitVec 32 := 3#32
  let v4577 : BitVec 32 := Scalar.shrsi v4576 c3_i32_2283
  let c3_i32_2284 : BitVec 32 := 3#32
  let v4578 : BitVec 32 := Scalar.shli v4577 c3_i32_2284
  let v4579 : BitVec 32 := v4578
  let v4580 : Index := Scalar.indexCast v4579
  let c0_2285 : Index := 0#32
  ![v4580.toNat, 0]

def k0_chk255 (v4576 : BitVec 32) : Prop :=
  (8 ∣ (k0_mult255 v4576).toNat) ∧
  (∀ a, (k0_off510 v4576) a + S8x128.size a ≤ S10000x128.size a)
theorem k0_mult255_dvd : ∀ (v4576 : BitVec 32) (k0_hw255 : k0_chk255 v4576), 8 ∣ (k0_mult255 v4576).toNat := fun v4576 k0_hw255 => k0_hw255.1
theorem k0_off510_inb : ∀ (v4576 : BitVec 32) (k0_hw255 : k0_chk255 v4576), ∀ a, (k0_off510 v4576) a + S8x128.size a ≤ S10000x128.size a := fun v4576 k0_hw255 => k0_hw255.2

def k0_off511 (i : grid0.Coords) : Fin 2 → Nat :=
  let arg0 : BitVec 32 := BitVec.ofNat 32 (i 0).val
  let c4_i32 : BitVec 32 := 4#32
  let v0 : BitVec 32 := Scalar.muli arg0 c4_i32
  let c1_i32_2290 : BitVec 32 := 1#32
  let v4592 : BitVec 32 := Scalar.addi v0 c1_i32_2290
  let v4593 : Index := Scalar.indexCast v4592
  let c127_2291 : Index := 127#32
  ![v4593.toNat, 127]
def k0_mult256 (v4594 : BitVec 32) : BitVec 32 :=
  let c3_i32_2292 : BitVec 32 := 3#32
  let v4595 : BitVec 32 := Scalar.shrsi v4594 c3_i32_2292
  let c3_i32_2293 : BitVec 32 := 3#32
  let v4596 : BitVec 32 := Scalar.shli v4595 c3_i32_2293
  v4596

def k0_off512 (v4594 : BitVec 32) : Fin 2 → Nat :=
  let c3_i32_2292 : BitVec 32 := 3#32
  let v4595 : BitVec 32 := Scalar.shrsi v4594 c3_i32_2292
  let c3_i32_2293 : BitVec 32 := 3#32
  let v4596 : BitVec 32 := Scalar.shli v4595 c3_i32_2293
  let v4597 : BitVec 32 := v4596
  let v4598 : Index := Scalar.indexCast v4597
  let c0_2294 : Index := 0#32
  ![v4598.toNat, 0]

def k0_chk256 (v4594 : BitVec 32) : Prop :=
  (8 ∣ (k0_mult256 v4594).toNat) ∧
  (∀ a, (k0_off512 v4594) a + S8x128.size a ≤ S10000x128.size a)
theorem k0_mult256_dvd : ∀ (v4594 : BitVec 32) (k0_hw256 : k0_chk256 v4594), 8 ∣ (k0_mult256 v4594).toNat := fun v4594 k0_hw256 => k0_hw256.1
theorem k0_off512_inb : ∀ (v4594 : BitVec 32) (k0_hw256 : k0_chk256 v4594), ∀ a, (k0_off512 v4594) a + S8x128.size a ≤ S10000x128.size a := fun v4594 k0_hw256 => k0_hw256.2

def k0_off513 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v4610 : BitVec 32 := Scalar.addi v0 c2_i32
  let v4611 : Index := Scalar.indexCast v4610
  let c0_2299 : Index := 0#32
  ![v4611.toNat, 0]
def k0_mult257 (v4612 : BitVec 32) : BitVec 32 :=
  let c3_i32_2300 : BitVec 32 := 3#32
  let v4613 : BitVec 32 := Scalar.shrsi v4612 c3_i32_2300
  let c3_i32_2301 : BitVec 32 := 3#32
  let v4614 : BitVec 32 := Scalar.shli v4613 c3_i32_2301
  v4614

def k0_off514 (v4612 : BitVec 32) : Fin 2 → Nat :=
  let c3_i32_2300 : BitVec 32 := 3#32
  let v4613 : BitVec 32 := Scalar.shrsi v4612 c3_i32_2300
  let c3_i32_2301 : BitVec 32 := 3#32
  let v4614 : BitVec 32 := Scalar.shli v4613 c3_i32_2301
  let v4615 : BitVec 32 := v4614
  let v4616 : Index := Scalar.indexCast v4615
  let c0_2302 : Index := 0#32
  ![v4616.toNat, 0]

def k0_chk257 (v4612 : BitVec 32) : Prop :=
  (8 ∣ (k0_mult257 v4612).toNat) ∧
  (∀ a, (k0_off514 v4612) a + S8x128.size a ≤ S10000x128.size a)
theorem k0_mult257_dvd : ∀ (v4612 : BitVec 32) (k0_hw257 : k0_chk257 v4612), 8 ∣ (k0_mult257 v4612).toNat := fun v4612 k0_hw257 => k0_hw257.1
theorem k0_off514_inb : ∀ (v4612 : BitVec 32) (k0_hw257 : k0_chk257 v4612), ∀ a, (k0_off514 v4612) a + S8x128.size a ≤ S10000x128.size a := fun v4612 k0_hw257 => k0_hw257.2

def k0_off515 (i : grid0.Coords) : Fin 2 → Nat :=
  let arg0 : BitVec 32 := BitVec.ofNat 32 (i 0).val
  let c4_i32 : BitVec 32 := 4#32
  let v0 : BitVec 32 := Scalar.muli arg0 c4_i32
  let c2_i32_2307 : BitVec 32 := 2#32
  let v4628 : BitVec 32 := Scalar.addi v0 c2_i32_2307
  let v4629 : Index := Scalar.indexCast v4628
  let c1_2308 : Index := 1#32
  ![v4629.toNat, 1]
def k0_mult258 (v4630 : BitVec 32) : BitVec 32 :=
  let c3_i32_2309 : BitVec 32 := 3#32
  let v4631 : BitVec 32 := Scalar.shrsi v4630 c3_i32_2309
  let c3_i32_2310 : BitVec 32 := 3#32
  let v4632 : BitVec 32 := Scalar.shli v4631 c3_i32_2310
  v4632

def k0_off516 (v4630 : BitVec 32) : Fin 2 → Nat :=
  let c3_i32_2309 : BitVec 32 := 3#32
  let v4631 : BitVec 32 := Scalar.shrsi v4630 c3_i32_2309
  let c3_i32_2310 : BitVec 32 := 3#32
  let v4632 : BitVec 32 := Scalar.shli v4631 c3_i32_2310
  let v4633 : BitVec 32 := v4632
  let v4634 : Index := Scalar.indexCast v4633
  let c0_2311 : Index := 0#32
  ![v4634.toNat, 0]

def k0_chk258 (v4630 : BitVec 32) : Prop :=
  (8 ∣ (k0_mult258 v4630).toNat) ∧
  (∀ a, (k0_off516 v4630) a + S8x128.size a ≤ S10000x128.size a)
theorem k0_mult258_dvd : ∀ (v4630 : BitVec 32) (k0_hw258 : k0_chk258 v4630), 8 ∣ (k0_mult258 v4630).toNat := fun v4630 k0_hw258 => k0_hw258.1
theorem k0_off516_inb : ∀ (v4630 : BitVec 32) (k0_hw258 : k0_chk258 v4630), ∀ a, (k0_off516 v4630) a + S8x128.size a ≤ S10000x128.size a := fun v4630 k0_hw258 => k0_hw258.2

def k0_off517 (i : grid0.Coords) : Fin 2 → Nat :=
  let arg0 : BitVec 32 := BitVec.ofNat 32 (i 0).val
  let c4_i32 : BitVec 32 := 4#32
  let v0 : BitVec 32 := Scalar.muli arg0 c4_i32
  let c2_i32_2316 : BitVec 32 := 2#32
  let v4646 : BitVec 32 := Scalar.addi v0 c2_i32_2316
  let v4647 : Index := Scalar.indexCast v4646
  let c2_2317 : Index := 2#32
  ![v4647.toNat, 2]
def k0_mult259 (v4648 : BitVec 32) : BitVec 32 :=
  let c3_i32_2318 : BitVec 32 := 3#32
  let v4649 : BitVec 32 := Scalar.shrsi v4648 c3_i32_2318
  let c3_i32_2319 : BitVec 32 := 3#32
  let v4650 : BitVec 32 := Scalar.shli v4649 c3_i32_2319
  v4650

def k0_off518 (v4648 : BitVec 32) : Fin 2 → Nat :=
  let c3_i32_2318 : BitVec 32 := 3#32
  let v4649 : BitVec 32 := Scalar.shrsi v4648 c3_i32_2318
  let c3_i32_2319 : BitVec 32 := 3#32
  let v4650 : BitVec 32 := Scalar.shli v4649 c3_i32_2319
  let v4651 : BitVec 32 := v4650
  let v4652 : Index := Scalar.indexCast v4651
  let c0_2320 : Index := 0#32
  ![v4652.toNat, 0]

def k0_chk259 (v4648 : BitVec 32) : Prop :=
  (8 ∣ (k0_mult259 v4648).toNat) ∧
  (∀ a, (k0_off518 v4648) a + S8x128.size a ≤ S10000x128.size a)
theorem k0_mult259_dvd : ∀ (v4648 : BitVec 32) (k0_hw259 : k0_chk259 v4648), 8 ∣ (k0_mult259 v4648).toNat := fun v4648 k0_hw259 => k0_hw259.1
theorem k0_off518_inb : ∀ (v4648 : BitVec 32) (k0_hw259 : k0_chk259 v4648), ∀ a, (k0_off518 v4648) a + S8x128.size a ≤ S10000x128.size a := fun v4648 k0_hw259 => k0_hw259.2

def k0_off519 (i : grid0.Coords) : Fin 2 → Nat :=
  let arg0 : BitVec 32 := BitVec.ofNat 32 (i 0).val
  let c4_i32 : BitVec 32 := 4#32
  let v0 : BitVec 32 := Scalar.muli arg0 c4_i32
  let c2_i32_2325 : BitVec 32 := 2#32
  let v4664 : BitVec 32 := Scalar.addi v0 c2_i32_2325
  let v4665 : Index := Scalar.indexCast v4664
  let c3_2326 : Index := 3#32
  ![v4665.toNat, 3]
def k0_mult260 (v4666 : BitVec 32) : BitVec 32 :=
  let c3_i32_2327 : BitVec 32 := 3#32
  let v4667 : BitVec 32 := Scalar.shrsi v4666 c3_i32_2327
  let c3_i32_2328 : BitVec 32 := 3#32
  let v4668 : BitVec 32 := Scalar.shli v4667 c3_i32_2328
  v4668

def k0_off520 (v4666 : BitVec 32) : Fin 2 → Nat :=
  let c3_i32_2327 : BitVec 32 := 3#32
  let v4667 : BitVec 32 := Scalar.shrsi v4666 c3_i32_2327
  let c3_i32_2328 : BitVec 32 := 3#32
  let v4668 : BitVec 32 := Scalar.shli v4667 c3_i32_2328
  let v4669 : BitVec 32 := v4668
  let v4670 : Index := Scalar.indexCast v4669
  let c0_2329 : Index := 0#32
  ![v4670.toNat, 0]

def k0_chk260 (v4666 : BitVec 32) : Prop :=
  (8 ∣ (k0_mult260 v4666).toNat) ∧
  (∀ a, (k0_off520 v4666) a + S8x128.size a ≤ S10000x128.size a)
theorem k0_mult260_dvd : ∀ (v4666 : BitVec 32) (k0_hw260 : k0_chk260 v4666), 8 ∣ (k0_mult260 v4666).toNat := fun v4666 k0_hw260 => k0_hw260.1
theorem k0_off520_inb : ∀ (v4666 : BitVec 32) (k0_hw260 : k0_chk260 v4666), ∀ a, (k0_off520 v4666) a + S8x128.size a ≤ S10000x128.size a := fun v4666 k0_hw260 => k0_hw260.2

def k0_off521 (i : grid0.Coords) : Fin 2 → Nat :=
  let arg0 : BitVec 32 := BitVec.ofNat 32 (i 0).val
  let c4_i32 : BitVec 32 := 4#32
  let v0 : BitVec 32 := Scalar.muli arg0 c4_i32
  let c2_i32_2334 : BitVec 32 := 2#32
  let v4682 : BitVec 32 := Scalar.addi v0 c2_i32_2334
  let v4683 : Index := Scalar.indexCast v4682
  let c4_2335 : Index := 4#32
  ![v4683.toNat, 4]
def k0_mult261 (v4684 : BitVec 32) : BitVec 32 :=
  let c3_i32_2336 : BitVec 32 := 3#32
  let v4685 : BitVec 32 := Scalar.shrsi v4684 c3_i32_2336
  let c3_i32_2337 : BitVec 32 := 3#32
  let v4686 : BitVec 32 := Scalar.shli v4685 c3_i32_2337
  v4686

def k0_off522 (v4684 : BitVec 32) : Fin 2 → Nat :=
  let c3_i32_2336 : BitVec 32 := 3#32
  let v4685 : BitVec 32 := Scalar.shrsi v4684 c3_i32_2336
  let c3_i32_2337 : BitVec 32 := 3#32
  let v4686 : BitVec 32 := Scalar.shli v4685 c3_i32_2337
  let v4687 : BitVec 32 := v4686
  let v4688 : Index := Scalar.indexCast v4687
  let c0_2338 : Index := 0#32
  ![v4688.toNat, 0]

def k0_chk261 (v4684 : BitVec 32) : Prop :=
  (8 ∣ (k0_mult261 v4684).toNat) ∧
  (∀ a, (k0_off522 v4684) a + S8x128.size a ≤ S10000x128.size a)
theorem k0_mult261_dvd : ∀ (v4684 : BitVec 32) (k0_hw261 : k0_chk261 v4684), 8 ∣ (k0_mult261 v4684).toNat := fun v4684 k0_hw261 => k0_hw261.1
theorem k0_off522_inb : ∀ (v4684 : BitVec 32) (k0_hw261 : k0_chk261 v4684), ∀ a, (k0_off522 v4684) a + S8x128.size a ≤ S10000x128.size a := fun v4684 k0_hw261 => k0_hw261.2

def k0_off523 (i : grid0.Coords) : Fin 2 → Nat :=
  let arg0 : BitVec 32 := BitVec.ofNat 32 (i 0).val
  let c4_i32 : BitVec 32 := 4#32
  let v0 : BitVec 32 := Scalar.muli arg0 c4_i32
  let c2_i32_2343 : BitVec 32 := 2#32
  let v4700 : BitVec 32 := Scalar.addi v0 c2_i32_2343
  let v4701 : Index := Scalar.indexCast v4700
  let c5_2344 : Index := 5#32
  ![v4701.toNat, 5]
def k0_mult262 (v4702 : BitVec 32) : BitVec 32 :=
  let c3_i32_2345 : BitVec 32 := 3#32
  let v4703 : BitVec 32 := Scalar.shrsi v4702 c3_i32_2345
  let c3_i32_2346 : BitVec 32 := 3#32
  let v4704 : BitVec 32 := Scalar.shli v4703 c3_i32_2346
  v4704

def k0_off524 (v4702 : BitVec 32) : Fin 2 → Nat :=
  let c3_i32_2345 : BitVec 32 := 3#32
  let v4703 : BitVec 32 := Scalar.shrsi v4702 c3_i32_2345
  let c3_i32_2346 : BitVec 32 := 3#32
  let v4704 : BitVec 32 := Scalar.shli v4703 c3_i32_2346
  let v4705 : BitVec 32 := v4704
  let v4706 : Index := Scalar.indexCast v4705
  let c0_2347 : Index := 0#32
  ![v4706.toNat, 0]

def k0_chk262 (v4702 : BitVec 32) : Prop :=
  (8 ∣ (k0_mult262 v4702).toNat) ∧
  (∀ a, (k0_off524 v4702) a + S8x128.size a ≤ S10000x128.size a)
theorem k0_mult262_dvd : ∀ (v4702 : BitVec 32) (k0_hw262 : k0_chk262 v4702), 8 ∣ (k0_mult262 v4702).toNat := fun v4702 k0_hw262 => k0_hw262.1
theorem k0_off524_inb : ∀ (v4702 : BitVec 32) (k0_hw262 : k0_chk262 v4702), ∀ a, (k0_off524 v4702) a + S8x128.size a ≤ S10000x128.size a := fun v4702 k0_hw262 => k0_hw262.2

def k0_off525 (i : grid0.Coords) : Fin 2 → Nat :=
  let arg0 : BitVec 32 := BitVec.ofNat 32 (i 0).val
  let c4_i32 : BitVec 32 := 4#32
  let v0 : BitVec 32 := Scalar.muli arg0 c4_i32
  let c2_i32_2352 : BitVec 32 := 2#32
  let v4718 : BitVec 32 := Scalar.addi v0 c2_i32_2352
  let v4719 : Index := Scalar.indexCast v4718
  let c6_2353 : Index := 6#32
  ![v4719.toNat, 6]
def k0_mult263 (v4720 : BitVec 32) : BitVec 32 :=
  let c3_i32_2354 : BitVec 32 := 3#32
  let v4721 : BitVec 32 := Scalar.shrsi v4720 c3_i32_2354
  let c3_i32_2355 : BitVec 32 := 3#32
  let v4722 : BitVec 32 := Scalar.shli v4721 c3_i32_2355
  v4722

def k0_off526 (v4720 : BitVec 32) : Fin 2 → Nat :=
  let c3_i32_2354 : BitVec 32 := 3#32
  let v4721 : BitVec 32 := Scalar.shrsi v4720 c3_i32_2354
  let c3_i32_2355 : BitVec 32 := 3#32
  let v4722 : BitVec 32 := Scalar.shli v4721 c3_i32_2355
  let v4723 : BitVec 32 := v4722
  let v4724 : Index := Scalar.indexCast v4723
  let c0_2356 : Index := 0#32
  ![v4724.toNat, 0]

def k0_chk263 (v4720 : BitVec 32) : Prop :=
  (8 ∣ (k0_mult263 v4720).toNat) ∧
  (∀ a, (k0_off526 v4720) a + S8x128.size a ≤ S10000x128.size a)
theorem k0_mult263_dvd : ∀ (v4720 : BitVec 32) (k0_hw263 : k0_chk263 v4720), 8 ∣ (k0_mult263 v4720).toNat := fun v4720 k0_hw263 => k0_hw263.1
theorem k0_off526_inb : ∀ (v4720 : BitVec 32) (k0_hw263 : k0_chk263 v4720), ∀ a, (k0_off526 v4720) a + S8x128.size a ≤ S10000x128.size a := fun v4720 k0_hw263 => k0_hw263.2

def k0_off527 (i : grid0.Coords) : Fin 2 → Nat :=
  let arg0 : BitVec 32 := BitVec.ofNat 32 (i 0).val
  let c4_i32 : BitVec 32 := 4#32
  let v0 : BitVec 32 := Scalar.muli arg0 c4_i32
  let c2_i32_2361 : BitVec 32 := 2#32
  let v4736 : BitVec 32 := Scalar.addi v0 c2_i32_2361
  let v4737 : Index := Scalar.indexCast v4736
  let c7_2362 : Index := 7#32
  ![v4737.toNat, 7]
def k0_mult264 (v4738 : BitVec 32) : BitVec 32 :=
  let c3_i32_2363 : BitVec 32 := 3#32
  let v4739 : BitVec 32 := Scalar.shrsi v4738 c3_i32_2363
  let c3_i32_2364 : BitVec 32 := 3#32
  let v4740 : BitVec 32 := Scalar.shli v4739 c3_i32_2364
  v4740

def k0_off528 (v4738 : BitVec 32) : Fin 2 → Nat :=
  let c3_i32_2363 : BitVec 32 := 3#32
  let v4739 : BitVec 32 := Scalar.shrsi v4738 c3_i32_2363
  let c3_i32_2364 : BitVec 32 := 3#32
  let v4740 : BitVec 32 := Scalar.shli v4739 c3_i32_2364
  let v4741 : BitVec 32 := v4740
  let v4742 : Index := Scalar.indexCast v4741
  let c0_2365 : Index := 0#32
  ![v4742.toNat, 0]

def k0_chk264 (v4738 : BitVec 32) : Prop :=
  (8 ∣ (k0_mult264 v4738).toNat) ∧
  (∀ a, (k0_off528 v4738) a + S8x128.size a ≤ S10000x128.size a)
theorem k0_mult264_dvd : ∀ (v4738 : BitVec 32) (k0_hw264 : k0_chk264 v4738), 8 ∣ (k0_mult264 v4738).toNat := fun v4738 k0_hw264 => k0_hw264.1
theorem k0_off528_inb : ∀ (v4738 : BitVec 32) (k0_hw264 : k0_chk264 v4738), ∀ a, (k0_off528 v4738) a + S8x128.size a ≤ S10000x128.size a := fun v4738 k0_hw264 => k0_hw264.2

def k0_off529 (i : grid0.Coords) : Fin 2 → Nat :=
  let arg0 : BitVec 32 := BitVec.ofNat 32 (i 0).val
  let c4_i32 : BitVec 32 := 4#32
  let v0 : BitVec 32 := Scalar.muli arg0 c4_i32
  let c2_i32_2370 : BitVec 32 := 2#32
  let v4754 : BitVec 32 := Scalar.addi v0 c2_i32_2370
  let v4755 : Index := Scalar.indexCast v4754
  let c8_2371 : Index := 8#32
  ![v4755.toNat, 8]
def k0_mult265 (v4756 : BitVec 32) : BitVec 32 :=
  let c3_i32_2372 : BitVec 32 := 3#32
  let v4757 : BitVec 32 := Scalar.shrsi v4756 c3_i32_2372
  let c3_i32_2373 : BitVec 32 := 3#32
  let v4758 : BitVec 32 := Scalar.shli v4757 c3_i32_2373
  v4758

def k0_off530 (v4756 : BitVec 32) : Fin 2 → Nat :=
  let c3_i32_2372 : BitVec 32 := 3#32
  let v4757 : BitVec 32 := Scalar.shrsi v4756 c3_i32_2372
  let c3_i32_2373 : BitVec 32 := 3#32
  let v4758 : BitVec 32 := Scalar.shli v4757 c3_i32_2373
  let v4759 : BitVec 32 := v4758
  let v4760 : Index := Scalar.indexCast v4759
  let c0_2374 : Index := 0#32
  ![v4760.toNat, 0]

def k0_chk265 (v4756 : BitVec 32) : Prop :=
  (8 ∣ (k0_mult265 v4756).toNat) ∧
  (∀ a, (k0_off530 v4756) a + S8x128.size a ≤ S10000x128.size a)
theorem k0_mult265_dvd : ∀ (v4756 : BitVec 32) (k0_hw265 : k0_chk265 v4756), 8 ∣ (k0_mult265 v4756).toNat := fun v4756 k0_hw265 => k0_hw265.1
theorem k0_off530_inb : ∀ (v4756 : BitVec 32) (k0_hw265 : k0_chk265 v4756), ∀ a, (k0_off530 v4756) a + S8x128.size a ≤ S10000x128.size a := fun v4756 k0_hw265 => k0_hw265.2

def k0_off531 (i : grid0.Coords) : Fin 2 → Nat :=
  let arg0 : BitVec 32 := BitVec.ofNat 32 (i 0).val
  let c4_i32 : BitVec 32 := 4#32
  let v0 : BitVec 32 := Scalar.muli arg0 c4_i32
  let c2_i32_2379 : BitVec 32 := 2#32
  let v4772 : BitVec 32 := Scalar.addi v0 c2_i32_2379
  let v4773 : Index := Scalar.indexCast v4772
  let c9_2380 : Index := 9#32
  ![v4773.toNat, 9]
def k0_mult266 (v4774 : BitVec 32) : BitVec 32 :=
  let c3_i32_2381 : BitVec 32 := 3#32
  let v4775 : BitVec 32 := Scalar.shrsi v4774 c3_i32_2381
  let c3_i32_2382 : BitVec 32 := 3#32
  let v4776 : BitVec 32 := Scalar.shli v4775 c3_i32_2382
  v4776

def k0_off532 (v4774 : BitVec 32) : Fin 2 → Nat :=
  let c3_i32_2381 : BitVec 32 := 3#32
  let v4775 : BitVec 32 := Scalar.shrsi v4774 c3_i32_2381
  let c3_i32_2382 : BitVec 32 := 3#32
  let v4776 : BitVec 32 := Scalar.shli v4775 c3_i32_2382
  let v4777 : BitVec 32 := v4776
  let v4778 : Index := Scalar.indexCast v4777
  let c0_2383 : Index := 0#32
  ![v4778.toNat, 0]

def k0_chk266 (v4774 : BitVec 32) : Prop :=
  (8 ∣ (k0_mult266 v4774).toNat) ∧
  (∀ a, (k0_off532 v4774) a + S8x128.size a ≤ S10000x128.size a)
theorem k0_mult266_dvd : ∀ (v4774 : BitVec 32) (k0_hw266 : k0_chk266 v4774), 8 ∣ (k0_mult266 v4774).toNat := fun v4774 k0_hw266 => k0_hw266.1
theorem k0_off532_inb : ∀ (v4774 : BitVec 32) (k0_hw266 : k0_chk266 v4774), ∀ a, (k0_off532 v4774) a + S8x128.size a ≤ S10000x128.size a := fun v4774 k0_hw266 => k0_hw266.2

def k0_off533 (i : grid0.Coords) : Fin 2 → Nat :=
  let arg0 : BitVec 32 := BitVec.ofNat 32 (i 0).val
  let c4_i32 : BitVec 32 := 4#32
  let v0 : BitVec 32 := Scalar.muli arg0 c4_i32
  let c2_i32_2388 : BitVec 32 := 2#32
  let v4790 : BitVec 32 := Scalar.addi v0 c2_i32_2388
  let v4791 : Index := Scalar.indexCast v4790
  let c10_2389 : Index := 10#32
  ![v4791.toNat, 10]
def k0_mult267 (v4792 : BitVec 32) : BitVec 32 :=
  let c3_i32_2390 : BitVec 32 := 3#32
  let v4793 : BitVec 32 := Scalar.shrsi v4792 c3_i32_2390
  let c3_i32_2391 : BitVec 32 := 3#32
  let v4794 : BitVec 32 := Scalar.shli v4793 c3_i32_2391
  v4794

def k0_off534 (v4792 : BitVec 32) : Fin 2 → Nat :=
  let c3_i32_2390 : BitVec 32 := 3#32
  let v4793 : BitVec 32 := Scalar.shrsi v4792 c3_i32_2390
  let c3_i32_2391 : BitVec 32 := 3#32
  let v4794 : BitVec 32 := Scalar.shli v4793 c3_i32_2391
  let v4795 : BitVec 32 := v4794
  let v4796 : Index := Scalar.indexCast v4795
  let c0_2392 : Index := 0#32
  ![v4796.toNat, 0]

def k0_chk267 (v4792 : BitVec 32) : Prop :=
  (8 ∣ (k0_mult267 v4792).toNat) ∧
  (∀ a, (k0_off534 v4792) a + S8x128.size a ≤ S10000x128.size a)
theorem k0_mult267_dvd : ∀ (v4792 : BitVec 32) (k0_hw267 : k0_chk267 v4792), 8 ∣ (k0_mult267 v4792).toNat := fun v4792 k0_hw267 => k0_hw267.1
theorem k0_off534_inb : ∀ (v4792 : BitVec 32) (k0_hw267 : k0_chk267 v4792), ∀ a, (k0_off534 v4792) a + S8x128.size a ≤ S10000x128.size a := fun v4792 k0_hw267 => k0_hw267.2

def k0_off535 (i : grid0.Coords) : Fin 2 → Nat :=
  let arg0 : BitVec 32 := BitVec.ofNat 32 (i 0).val
  let c4_i32 : BitVec 32 := 4#32
  let v0 : BitVec 32 := Scalar.muli arg0 c4_i32
  let c2_i32_2397 : BitVec 32 := 2#32
  let v4808 : BitVec 32 := Scalar.addi v0 c2_i32_2397
  let v4809 : Index := Scalar.indexCast v4808
  let c11_2398 : Index := 11#32
  ![v4809.toNat, 11]
def k0_mult268 (v4810 : BitVec 32) : BitVec 32 :=
  let c3_i32_2399 : BitVec 32 := 3#32
  let v4811 : BitVec 32 := Scalar.shrsi v4810 c3_i32_2399
  let c3_i32_2400 : BitVec 32 := 3#32
  let v4812 : BitVec 32 := Scalar.shli v4811 c3_i32_2400
  v4812

def k0_off536 (v4810 : BitVec 32) : Fin 2 → Nat :=
  let c3_i32_2399 : BitVec 32 := 3#32
  let v4811 : BitVec 32 := Scalar.shrsi v4810 c3_i32_2399
  let c3_i32_2400 : BitVec 32 := 3#32
  let v4812 : BitVec 32 := Scalar.shli v4811 c3_i32_2400
  let v4813 : BitVec 32 := v4812
  let v4814 : Index := Scalar.indexCast v4813
  let c0_2401 : Index := 0#32
  ![v4814.toNat, 0]

def k0_chk268 (v4810 : BitVec 32) : Prop :=
  (8 ∣ (k0_mult268 v4810).toNat) ∧
  (∀ a, (k0_off536 v4810) a + S8x128.size a ≤ S10000x128.size a)
theorem k0_mult268_dvd : ∀ (v4810 : BitVec 32) (k0_hw268 : k0_chk268 v4810), 8 ∣ (k0_mult268 v4810).toNat := fun v4810 k0_hw268 => k0_hw268.1
theorem k0_off536_inb : ∀ (v4810 : BitVec 32) (k0_hw268 : k0_chk268 v4810), ∀ a, (k0_off536 v4810) a + S8x128.size a ≤ S10000x128.size a := fun v4810 k0_hw268 => k0_hw268.2

def k0_off537 (i : grid0.Coords) : Fin 2 → Nat :=
  let arg0 : BitVec 32 := BitVec.ofNat 32 (i 0).val
  let c4_i32 : BitVec 32 := 4#32
  let v0 : BitVec 32 := Scalar.muli arg0 c4_i32
  let c2_i32_2406 : BitVec 32 := 2#32
  let v4826 : BitVec 32 := Scalar.addi v0 c2_i32_2406
  let v4827 : Index := Scalar.indexCast v4826
  let c12_2407 : Index := 12#32
  ![v4827.toNat, 12]
def k0_mult269 (v4828 : BitVec 32) : BitVec 32 :=
  let c3_i32_2408 : BitVec 32 := 3#32
  let v4829 : BitVec 32 := Scalar.shrsi v4828 c3_i32_2408
  let c3_i32_2409 : BitVec 32 := 3#32
  let v4830 : BitVec 32 := Scalar.shli v4829 c3_i32_2409
  v4830

def k0_off538 (v4828 : BitVec 32) : Fin 2 → Nat :=
  let c3_i32_2408 : BitVec 32 := 3#32
  let v4829 : BitVec 32 := Scalar.shrsi v4828 c3_i32_2408
  let c3_i32_2409 : BitVec 32 := 3#32
  let v4830 : BitVec 32 := Scalar.shli v4829 c3_i32_2409
  let v4831 : BitVec 32 := v4830
  let v4832 : Index := Scalar.indexCast v4831
  let c0_2410 : Index := 0#32
  ![v4832.toNat, 0]

def k0_chk269 (v4828 : BitVec 32) : Prop :=
  (8 ∣ (k0_mult269 v4828).toNat) ∧
  (∀ a, (k0_off538 v4828) a + S8x128.size a ≤ S10000x128.size a)
theorem k0_mult269_dvd : ∀ (v4828 : BitVec 32) (k0_hw269 : k0_chk269 v4828), 8 ∣ (k0_mult269 v4828).toNat := fun v4828 k0_hw269 => k0_hw269.1
theorem k0_off538_inb : ∀ (v4828 : BitVec 32) (k0_hw269 : k0_chk269 v4828), ∀ a, (k0_off538 v4828) a + S8x128.size a ≤ S10000x128.size a := fun v4828 k0_hw269 => k0_hw269.2

def k0_off539 (i : grid0.Coords) : Fin 2 → Nat :=
  let arg0 : BitVec 32 := BitVec.ofNat 32 (i 0).val
  let c4_i32 : BitVec 32 := 4#32
  let v0 : BitVec 32 := Scalar.muli arg0 c4_i32
  let c2_i32_2415 : BitVec 32 := 2#32
  let v4844 : BitVec 32 := Scalar.addi v0 c2_i32_2415
  let v4845 : Index := Scalar.indexCast v4844
  let c13_2416 : Index := 13#32
  ![v4845.toNat, 13]
def k0_mult270 (v4846 : BitVec 32) : BitVec 32 :=
  let c3_i32_2417 : BitVec 32 := 3#32
  let v4847 : BitVec 32 := Scalar.shrsi v4846 c3_i32_2417
  let c3_i32_2418 : BitVec 32 := 3#32
  let v4848 : BitVec 32 := Scalar.shli v4847 c3_i32_2418
  v4848

def k0_off540 (v4846 : BitVec 32) : Fin 2 → Nat :=
  let c3_i32_2417 : BitVec 32 := 3#32
  let v4847 : BitVec 32 := Scalar.shrsi v4846 c3_i32_2417
  let c3_i32_2418 : BitVec 32 := 3#32
  let v4848 : BitVec 32 := Scalar.shli v4847 c3_i32_2418
  let v4849 : BitVec 32 := v4848
  let v4850 : Index := Scalar.indexCast v4849
  let c0_2419 : Index := 0#32
  ![v4850.toNat, 0]

def k0_chk270 (v4846 : BitVec 32) : Prop :=
  (8 ∣ (k0_mult270 v4846).toNat) ∧
  (∀ a, (k0_off540 v4846) a + S8x128.size a ≤ S10000x128.size a)
theorem k0_mult270_dvd : ∀ (v4846 : BitVec 32) (k0_hw270 : k0_chk270 v4846), 8 ∣ (k0_mult270 v4846).toNat := fun v4846 k0_hw270 => k0_hw270.1
theorem k0_off540_inb : ∀ (v4846 : BitVec 32) (k0_hw270 : k0_chk270 v4846), ∀ a, (k0_off540 v4846) a + S8x128.size a ≤ S10000x128.size a := fun v4846 k0_hw270 => k0_hw270.2

def k0_off541 (i : grid0.Coords) : Fin 2 → Nat :=
  let arg0 : BitVec 32 := BitVec.ofNat 32 (i 0).val
  let c4_i32 : BitVec 32 := 4#32
  let v0 : BitVec 32 := Scalar.muli arg0 c4_i32
  let c2_i32_2424 : BitVec 32 := 2#32
  let v4862 : BitVec 32 := Scalar.addi v0 c2_i32_2424
  let v4863 : Index := Scalar.indexCast v4862
  let c14_2425 : Index := 14#32
  ![v4863.toNat, 14]
def k0_mult271 (v4864 : BitVec 32) : BitVec 32 :=
  let c3_i32_2426 : BitVec 32 := 3#32
  let v4865 : BitVec 32 := Scalar.shrsi v4864 c3_i32_2426
  let c3_i32_2427 : BitVec 32 := 3#32
  let v4866 : BitVec 32 := Scalar.shli v4865 c3_i32_2427
  v4866

def k0_off542 (v4864 : BitVec 32) : Fin 2 → Nat :=
  let c3_i32_2426 : BitVec 32 := 3#32
  let v4865 : BitVec 32 := Scalar.shrsi v4864 c3_i32_2426
  let c3_i32_2427 : BitVec 32 := 3#32
  let v4866 : BitVec 32 := Scalar.shli v4865 c3_i32_2427
  let v4867 : BitVec 32 := v4866
  let v4868 : Index := Scalar.indexCast v4867
  let c0_2428 : Index := 0#32
  ![v4868.toNat, 0]

def k0_chk271 (v4864 : BitVec 32) : Prop :=
  (8 ∣ (k0_mult271 v4864).toNat) ∧
  (∀ a, (k0_off542 v4864) a + S8x128.size a ≤ S10000x128.size a)
theorem k0_mult271_dvd : ∀ (v4864 : BitVec 32) (k0_hw271 : k0_chk271 v4864), 8 ∣ (k0_mult271 v4864).toNat := fun v4864 k0_hw271 => k0_hw271.1
theorem k0_off542_inb : ∀ (v4864 : BitVec 32) (k0_hw271 : k0_chk271 v4864), ∀ a, (k0_off542 v4864) a + S8x128.size a ≤ S10000x128.size a := fun v4864 k0_hw271 => k0_hw271.2

def k0_off543 (i : grid0.Coords) : Fin 2 → Nat :=
  let arg0 : BitVec 32 := BitVec.ofNat 32 (i 0).val
  let c4_i32 : BitVec 32 := 4#32
  let v0 : BitVec 32 := Scalar.muli arg0 c4_i32
  let c2_i32_2433 : BitVec 32 := 2#32
  let v4880 : BitVec 32 := Scalar.addi v0 c2_i32_2433
  let v4881 : Index := Scalar.indexCast v4880
  let c15_2434 : Index := 15#32
  ![v4881.toNat, 15]
def k0_mult272 (v4882 : BitVec 32) : BitVec 32 :=
  let c3_i32_2435 : BitVec 32 := 3#32
  let v4883 : BitVec 32 := Scalar.shrsi v4882 c3_i32_2435
  let c3_i32_2436 : BitVec 32 := 3#32
  let v4884 : BitVec 32 := Scalar.shli v4883 c3_i32_2436
  v4884

def k0_off544 (v4882 : BitVec 32) : Fin 2 → Nat :=
  let c3_i32_2435 : BitVec 32 := 3#32
  let v4883 : BitVec 32 := Scalar.shrsi v4882 c3_i32_2435
  let c3_i32_2436 : BitVec 32 := 3#32
  let v4884 : BitVec 32 := Scalar.shli v4883 c3_i32_2436
  let v4885 : BitVec 32 := v4884
  let v4886 : Index := Scalar.indexCast v4885
  let c0_2437 : Index := 0#32
  ![v4886.toNat, 0]

def k0_chk272 (v4882 : BitVec 32) : Prop :=
  (8 ∣ (k0_mult272 v4882).toNat) ∧
  (∀ a, (k0_off544 v4882) a + S8x128.size a ≤ S10000x128.size a)
theorem k0_mult272_dvd : ∀ (v4882 : BitVec 32) (k0_hw272 : k0_chk272 v4882), 8 ∣ (k0_mult272 v4882).toNat := fun v4882 k0_hw272 => k0_hw272.1
theorem k0_off544_inb : ∀ (v4882 : BitVec 32) (k0_hw272 : k0_chk272 v4882), ∀ a, (k0_off544 v4882) a + S8x128.size a ≤ S10000x128.size a := fun v4882 k0_hw272 => k0_hw272.2

def k0_off545 (i : grid0.Coords) : Fin 2 → Nat :=
  let arg0 : BitVec 32 := BitVec.ofNat 32 (i 0).val
  let c4_i32 : BitVec 32 := 4#32
  let v0 : BitVec 32 := Scalar.muli arg0 c4_i32
  let c2_i32_2442 : BitVec 32 := 2#32
  let v4898 : BitVec 32 := Scalar.addi v0 c2_i32_2442
  let v4899 : Index := Scalar.indexCast v4898
  let c16_2443 : Index := 16#32
  ![v4899.toNat, 16]
def k0_mult273 (v4900 : BitVec 32) : BitVec 32 :=
  let c3_i32_2444 : BitVec 32 := 3#32
  let v4901 : BitVec 32 := Scalar.shrsi v4900 c3_i32_2444
  let c3_i32_2445 : BitVec 32 := 3#32
  let v4902 : BitVec 32 := Scalar.shli v4901 c3_i32_2445
  v4902

def k0_off546 (v4900 : BitVec 32) : Fin 2 → Nat :=
  let c3_i32_2444 : BitVec 32 := 3#32
  let v4901 : BitVec 32 := Scalar.shrsi v4900 c3_i32_2444
  let c3_i32_2445 : BitVec 32 := 3#32
  let v4902 : BitVec 32 := Scalar.shli v4901 c3_i32_2445
  let v4903 : BitVec 32 := v4902
  let v4904 : Index := Scalar.indexCast v4903
  let c0_2446 : Index := 0#32
  ![v4904.toNat, 0]

def k0_chk273 (v4900 : BitVec 32) : Prop :=
  (8 ∣ (k0_mult273 v4900).toNat) ∧
  (∀ a, (k0_off546 v4900) a + S8x128.size a ≤ S10000x128.size a)
theorem k0_mult273_dvd : ∀ (v4900 : BitVec 32) (k0_hw273 : k0_chk273 v4900), 8 ∣ (k0_mult273 v4900).toNat := fun v4900 k0_hw273 => k0_hw273.1
theorem k0_off546_inb : ∀ (v4900 : BitVec 32) (k0_hw273 : k0_chk273 v4900), ∀ a, (k0_off546 v4900) a + S8x128.size a ≤ S10000x128.size a := fun v4900 k0_hw273 => k0_hw273.2

def k0_off547 (i : grid0.Coords) : Fin 2 → Nat :=
  let arg0 : BitVec 32 := BitVec.ofNat 32 (i 0).val
  let c4_i32 : BitVec 32 := 4#32
  let v0 : BitVec 32 := Scalar.muli arg0 c4_i32
  let c2_i32_2451 : BitVec 32 := 2#32
  let v4916 : BitVec 32 := Scalar.addi v0 c2_i32_2451
  let v4917 : Index := Scalar.indexCast v4916
  let c17_2452 : Index := 17#32
  ![v4917.toNat, 17]
def k0_mult274 (v4918 : BitVec 32) : BitVec 32 :=
  let c3_i32_2453 : BitVec 32 := 3#32
  let v4919 : BitVec 32 := Scalar.shrsi v4918 c3_i32_2453
  let c3_i32_2454 : BitVec 32 := 3#32
  let v4920 : BitVec 32 := Scalar.shli v4919 c3_i32_2454
  v4920

def k0_off548 (v4918 : BitVec 32) : Fin 2 → Nat :=
  let c3_i32_2453 : BitVec 32 := 3#32
  let v4919 : BitVec 32 := Scalar.shrsi v4918 c3_i32_2453
  let c3_i32_2454 : BitVec 32 := 3#32
  let v4920 : BitVec 32 := Scalar.shli v4919 c3_i32_2454
  let v4921 : BitVec 32 := v4920
  let v4922 : Index := Scalar.indexCast v4921
  let c0_2455 : Index := 0#32
  ![v4922.toNat, 0]

def k0_chk274 (v4918 : BitVec 32) : Prop :=
  (8 ∣ (k0_mult274 v4918).toNat) ∧
  (∀ a, (k0_off548 v4918) a + S8x128.size a ≤ S10000x128.size a)
theorem k0_mult274_dvd : ∀ (v4918 : BitVec 32) (k0_hw274 : k0_chk274 v4918), 8 ∣ (k0_mult274 v4918).toNat := fun v4918 k0_hw274 => k0_hw274.1
theorem k0_off548_inb : ∀ (v4918 : BitVec 32) (k0_hw274 : k0_chk274 v4918), ∀ a, (k0_off548 v4918) a + S8x128.size a ≤ S10000x128.size a := fun v4918 k0_hw274 => k0_hw274.2

def k0_off549 (i : grid0.Coords) : Fin 2 → Nat :=
  let arg0 : BitVec 32 := BitVec.ofNat 32 (i 0).val
  let c4_i32 : BitVec 32 := 4#32
  let v0 : BitVec 32 := Scalar.muli arg0 c4_i32
  let c2_i32_2460 : BitVec 32 := 2#32
  let v4934 : BitVec 32 := Scalar.addi v0 c2_i32_2460
  let v4935 : Index := Scalar.indexCast v4934
  let c18_2461 : Index := 18#32
  ![v4935.toNat, 18]
def k0_mult275 (v4936 : BitVec 32) : BitVec 32 :=
  let c3_i32_2462 : BitVec 32 := 3#32
  let v4937 : BitVec 32 := Scalar.shrsi v4936 c3_i32_2462
  let c3_i32_2463 : BitVec 32 := 3#32
  let v4938 : BitVec 32 := Scalar.shli v4937 c3_i32_2463
  v4938

def k0_off550 (v4936 : BitVec 32) : Fin 2 → Nat :=
  let c3_i32_2462 : BitVec 32 := 3#32
  let v4937 : BitVec 32 := Scalar.shrsi v4936 c3_i32_2462
  let c3_i32_2463 : BitVec 32 := 3#32
  let v4938 : BitVec 32 := Scalar.shli v4937 c3_i32_2463
  let v4939 : BitVec 32 := v4938
  let v4940 : Index := Scalar.indexCast v4939
  let c0_2464 : Index := 0#32
  ![v4940.toNat, 0]

def k0_chk275 (v4936 : BitVec 32) : Prop :=
  (8 ∣ (k0_mult275 v4936).toNat) ∧
  (∀ a, (k0_off550 v4936) a + S8x128.size a ≤ S10000x128.size a)
theorem k0_mult275_dvd : ∀ (v4936 : BitVec 32) (k0_hw275 : k0_chk275 v4936), 8 ∣ (k0_mult275 v4936).toNat := fun v4936 k0_hw275 => k0_hw275.1
theorem k0_off550_inb : ∀ (v4936 : BitVec 32) (k0_hw275 : k0_chk275 v4936), ∀ a, (k0_off550 v4936) a + S8x128.size a ≤ S10000x128.size a := fun v4936 k0_hw275 => k0_hw275.2

def k0_off551 (i : grid0.Coords) : Fin 2 → Nat :=
  let arg0 : BitVec 32 := BitVec.ofNat 32 (i 0).val
  let c4_i32 : BitVec 32 := 4#32
  let v0 : BitVec 32 := Scalar.muli arg0 c4_i32
  let c2_i32_2469 : BitVec 32 := 2#32
  let v4952 : BitVec 32 := Scalar.addi v0 c2_i32_2469
  let v4953 : Index := Scalar.indexCast v4952
  let c19_2470 : Index := 19#32
  ![v4953.toNat, 19]
def k0_mult276 (v4954 : BitVec 32) : BitVec 32 :=
  let c3_i32_2471 : BitVec 32 := 3#32
  let v4955 : BitVec 32 := Scalar.shrsi v4954 c3_i32_2471
  let c3_i32_2472 : BitVec 32 := 3#32
  let v4956 : BitVec 32 := Scalar.shli v4955 c3_i32_2472
  v4956

def k0_off552 (v4954 : BitVec 32) : Fin 2 → Nat :=
  let c3_i32_2471 : BitVec 32 := 3#32
  let v4955 : BitVec 32 := Scalar.shrsi v4954 c3_i32_2471
  let c3_i32_2472 : BitVec 32 := 3#32
  let v4956 : BitVec 32 := Scalar.shli v4955 c3_i32_2472
  let v4957 : BitVec 32 := v4956
  let v4958 : Index := Scalar.indexCast v4957
  let c0_2473 : Index := 0#32
  ![v4958.toNat, 0]

def k0_chk276 (v4954 : BitVec 32) : Prop :=
  (8 ∣ (k0_mult276 v4954).toNat) ∧
  (∀ a, (k0_off552 v4954) a + S8x128.size a ≤ S10000x128.size a)
theorem k0_mult276_dvd : ∀ (v4954 : BitVec 32) (k0_hw276 : k0_chk276 v4954), 8 ∣ (k0_mult276 v4954).toNat := fun v4954 k0_hw276 => k0_hw276.1
theorem k0_off552_inb : ∀ (v4954 : BitVec 32) (k0_hw276 : k0_chk276 v4954), ∀ a, (k0_off552 v4954) a + S8x128.size a ≤ S10000x128.size a := fun v4954 k0_hw276 => k0_hw276.2

def k0_off553 (i : grid0.Coords) : Fin 2 → Nat :=
  let arg0 : BitVec 32 := BitVec.ofNat 32 (i 0).val
  let c4_i32 : BitVec 32 := 4#32
  let v0 : BitVec 32 := Scalar.muli arg0 c4_i32
  let c2_i32_2478 : BitVec 32 := 2#32
  let v4970 : BitVec 32 := Scalar.addi v0 c2_i32_2478
  let v4971 : Index := Scalar.indexCast v4970
  let c20_2479 : Index := 20#32
  ![v4971.toNat, 20]
def k0_mult277 (v4972 : BitVec 32) : BitVec 32 :=
  let c3_i32_2480 : BitVec 32 := 3#32
  let v4973 : BitVec 32 := Scalar.shrsi v4972 c3_i32_2480
  let c3_i32_2481 : BitVec 32 := 3#32
  let v4974 : BitVec 32 := Scalar.shli v4973 c3_i32_2481
  v4974

def k0_off554 (v4972 : BitVec 32) : Fin 2 → Nat :=
  let c3_i32_2480 : BitVec 32 := 3#32
  let v4973 : BitVec 32 := Scalar.shrsi v4972 c3_i32_2480
  let c3_i32_2481 : BitVec 32 := 3#32
  let v4974 : BitVec 32 := Scalar.shli v4973 c3_i32_2481
  let v4975 : BitVec 32 := v4974
  let v4976 : Index := Scalar.indexCast v4975
  let c0_2482 : Index := 0#32
  ![v4976.toNat, 0]

def k0_chk277 (v4972 : BitVec 32) : Prop :=
  (8 ∣ (k0_mult277 v4972).toNat) ∧
  (∀ a, (k0_off554 v4972) a + S8x128.size a ≤ S10000x128.size a)
theorem k0_mult277_dvd : ∀ (v4972 : BitVec 32) (k0_hw277 : k0_chk277 v4972), 8 ∣ (k0_mult277 v4972).toNat := fun v4972 k0_hw277 => k0_hw277.1
theorem k0_off554_inb : ∀ (v4972 : BitVec 32) (k0_hw277 : k0_chk277 v4972), ∀ a, (k0_off554 v4972) a + S8x128.size a ≤ S10000x128.size a := fun v4972 k0_hw277 => k0_hw277.2

def k0_off555 (i : grid0.Coords) : Fin 2 → Nat :=
  let arg0 : BitVec 32 := BitVec.ofNat 32 (i 0).val
  let c4_i32 : BitVec 32 := 4#32
  let v0 : BitVec 32 := Scalar.muli arg0 c4_i32
  let c2_i32_2487 : BitVec 32 := 2#32
  let v4988 : BitVec 32 := Scalar.addi v0 c2_i32_2487
  let v4989 : Index := Scalar.indexCast v4988
  let c21_2488 : Index := 21#32
  ![v4989.toNat, 21]
def k0_mult278 (v4990 : BitVec 32) : BitVec 32 :=
  let c3_i32_2489 : BitVec 32 := 3#32
  let v4991 : BitVec 32 := Scalar.shrsi v4990 c3_i32_2489
  let c3_i32_2490 : BitVec 32 := 3#32
  let v4992 : BitVec 32 := Scalar.shli v4991 c3_i32_2490
  v4992

def k0_off556 (v4990 : BitVec 32) : Fin 2 → Nat :=
  let c3_i32_2489 : BitVec 32 := 3#32
  let v4991 : BitVec 32 := Scalar.shrsi v4990 c3_i32_2489
  let c3_i32_2490 : BitVec 32 := 3#32
  let v4992 : BitVec 32 := Scalar.shli v4991 c3_i32_2490
  let v4993 : BitVec 32 := v4992
  let v4994 : Index := Scalar.indexCast v4993
  let c0_2491 : Index := 0#32
  ![v4994.toNat, 0]

def k0_chk278 (v4990 : BitVec 32) : Prop :=
  (8 ∣ (k0_mult278 v4990).toNat) ∧
  (∀ a, (k0_off556 v4990) a + S8x128.size a ≤ S10000x128.size a)
theorem k0_mult278_dvd : ∀ (v4990 : BitVec 32) (k0_hw278 : k0_chk278 v4990), 8 ∣ (k0_mult278 v4990).toNat := fun v4990 k0_hw278 => k0_hw278.1
theorem k0_off556_inb : ∀ (v4990 : BitVec 32) (k0_hw278 : k0_chk278 v4990), ∀ a, (k0_off556 v4990) a + S8x128.size a ≤ S10000x128.size a := fun v4990 k0_hw278 => k0_hw278.2

def k0_off557 (i : grid0.Coords) : Fin 2 → Nat :=
  let arg0 : BitVec 32 := BitVec.ofNat 32 (i 0).val
  let c4_i32 : BitVec 32 := 4#32
  let v0 : BitVec 32 := Scalar.muli arg0 c4_i32
  let c2_i32_2496 : BitVec 32 := 2#32
  let v5006 : BitVec 32 := Scalar.addi v0 c2_i32_2496
  let v5007 : Index := Scalar.indexCast v5006
  let c22_2497 : Index := 22#32
  ![v5007.toNat, 22]
def k0_mult279 (v5008 : BitVec 32) : BitVec 32 :=
  let c3_i32_2498 : BitVec 32 := 3#32
  let v5009 : BitVec 32 := Scalar.shrsi v5008 c3_i32_2498
  let c3_i32_2499 : BitVec 32 := 3#32
  let v5010 : BitVec 32 := Scalar.shli v5009 c3_i32_2499
  v5010

def k0_off558 (v5008 : BitVec 32) : Fin 2 → Nat :=
  let c3_i32_2498 : BitVec 32 := 3#32
  let v5009 : BitVec 32 := Scalar.shrsi v5008 c3_i32_2498
  let c3_i32_2499 : BitVec 32 := 3#32
  let v5010 : BitVec 32 := Scalar.shli v5009 c3_i32_2499
  let v5011 : BitVec 32 := v5010
  let v5012 : Index := Scalar.indexCast v5011
  let c0_2500 : Index := 0#32
  ![v5012.toNat, 0]

def k0_chk279 (v5008 : BitVec 32) : Prop :=
  (8 ∣ (k0_mult279 v5008).toNat) ∧
  (∀ a, (k0_off558 v5008) a + S8x128.size a ≤ S10000x128.size a)
theorem k0_mult279_dvd : ∀ (v5008 : BitVec 32) (k0_hw279 : k0_chk279 v5008), 8 ∣ (k0_mult279 v5008).toNat := fun v5008 k0_hw279 => k0_hw279.1
theorem k0_off558_inb : ∀ (v5008 : BitVec 32) (k0_hw279 : k0_chk279 v5008), ∀ a, (k0_off558 v5008) a + S8x128.size a ≤ S10000x128.size a := fun v5008 k0_hw279 => k0_hw279.2

def k0_off559 (i : grid0.Coords) : Fin 2 → Nat :=
  let arg0 : BitVec 32 := BitVec.ofNat 32 (i 0).val
  let c4_i32 : BitVec 32 := 4#32
  let v0 : BitVec 32 := Scalar.muli arg0 c4_i32
  let c2_i32_2505 : BitVec 32 := 2#32
  let v5024 : BitVec 32 := Scalar.addi v0 c2_i32_2505
  let v5025 : Index := Scalar.indexCast v5024
  let c23_2506 : Index := 23#32
  ![v5025.toNat, 23]
def k0_mult280 (v5026 : BitVec 32) : BitVec 32 :=
  let c3_i32_2507 : BitVec 32 := 3#32
  let v5027 : BitVec 32 := Scalar.shrsi v5026 c3_i32_2507
  let c3_i32_2508 : BitVec 32 := 3#32
  let v5028 : BitVec 32 := Scalar.shli v5027 c3_i32_2508
  v5028

def k0_off560 (v5026 : BitVec 32) : Fin 2 → Nat :=
  let c3_i32_2507 : BitVec 32 := 3#32
  let v5027 : BitVec 32 := Scalar.shrsi v5026 c3_i32_2507
  let c3_i32_2508 : BitVec 32 := 3#32
  let v5028 : BitVec 32 := Scalar.shli v5027 c3_i32_2508
  let v5029 : BitVec 32 := v5028
  let v5030 : Index := Scalar.indexCast v5029
  let c0_2509 : Index := 0#32
  ![v5030.toNat, 0]

def k0_chk280 (v5026 : BitVec 32) : Prop :=
  (8 ∣ (k0_mult280 v5026).toNat) ∧
  (∀ a, (k0_off560 v5026) a + S8x128.size a ≤ S10000x128.size a)
theorem k0_mult280_dvd : ∀ (v5026 : BitVec 32) (k0_hw280 : k0_chk280 v5026), 8 ∣ (k0_mult280 v5026).toNat := fun v5026 k0_hw280 => k0_hw280.1
theorem k0_off560_inb : ∀ (v5026 : BitVec 32) (k0_hw280 : k0_chk280 v5026), ∀ a, (k0_off560 v5026) a + S8x128.size a ≤ S10000x128.size a := fun v5026 k0_hw280 => k0_hw280.2

def k0_off561 (i : grid0.Coords) : Fin 2 → Nat :=
  let arg0 : BitVec 32 := BitVec.ofNat 32 (i 0).val
  let c4_i32 : BitVec 32 := 4#32
  let v0 : BitVec 32 := Scalar.muli arg0 c4_i32
  let c2_i32_2514 : BitVec 32 := 2#32
  let v5042 : BitVec 32 := Scalar.addi v0 c2_i32_2514
  let v5043 : Index := Scalar.indexCast v5042
  let c24_2515 : Index := 24#32
  ![v5043.toNat, 24]
def k0_mult281 (v5044 : BitVec 32) : BitVec 32 :=
  let c3_i32_2516 : BitVec 32 := 3#32
  let v5045 : BitVec 32 := Scalar.shrsi v5044 c3_i32_2516
  let c3_i32_2517 : BitVec 32 := 3#32
  let v5046 : BitVec 32 := Scalar.shli v5045 c3_i32_2517
  v5046

def k0_off562 (v5044 : BitVec 32) : Fin 2 → Nat :=
  let c3_i32_2516 : BitVec 32 := 3#32
  let v5045 : BitVec 32 := Scalar.shrsi v5044 c3_i32_2516
  let c3_i32_2517 : BitVec 32 := 3#32
  let v5046 : BitVec 32 := Scalar.shli v5045 c3_i32_2517
  let v5047 : BitVec 32 := v5046
  let v5048 : Index := Scalar.indexCast v5047
  let c0_2518 : Index := 0#32
  ![v5048.toNat, 0]

def k0_chk281 (v5044 : BitVec 32) : Prop :=
  (8 ∣ (k0_mult281 v5044).toNat) ∧
  (∀ a, (k0_off562 v5044) a + S8x128.size a ≤ S10000x128.size a)
theorem k0_mult281_dvd : ∀ (v5044 : BitVec 32) (k0_hw281 : k0_chk281 v5044), 8 ∣ (k0_mult281 v5044).toNat := fun v5044 k0_hw281 => k0_hw281.1
theorem k0_off562_inb : ∀ (v5044 : BitVec 32) (k0_hw281 : k0_chk281 v5044), ∀ a, (k0_off562 v5044) a + S8x128.size a ≤ S10000x128.size a := fun v5044 k0_hw281 => k0_hw281.2

def k0_off563 (i : grid0.Coords) : Fin 2 → Nat :=
  let arg0 : BitVec 32 := BitVec.ofNat 32 (i 0).val
  let c4_i32 : BitVec 32 := 4#32
  let v0 : BitVec 32 := Scalar.muli arg0 c4_i32
  let c2_i32_2523 : BitVec 32 := 2#32
  let v5060 : BitVec 32 := Scalar.addi v0 c2_i32_2523
  let v5061 : Index := Scalar.indexCast v5060
  let c25_2524 : Index := 25#32
  ![v5061.toNat, 25]
def k0_mult282 (v5062 : BitVec 32) : BitVec 32 :=
  let c3_i32_2525 : BitVec 32 := 3#32
  let v5063 : BitVec 32 := Scalar.shrsi v5062 c3_i32_2525
  let c3_i32_2526 : BitVec 32 := 3#32
  let v5064 : BitVec 32 := Scalar.shli v5063 c3_i32_2526
  v5064

def k0_off564 (v5062 : BitVec 32) : Fin 2 → Nat :=
  let c3_i32_2525 : BitVec 32 := 3#32
  let v5063 : BitVec 32 := Scalar.shrsi v5062 c3_i32_2525
  let c3_i32_2526 : BitVec 32 := 3#32
  let v5064 : BitVec 32 := Scalar.shli v5063 c3_i32_2526
  let v5065 : BitVec 32 := v5064
  let v5066 : Index := Scalar.indexCast v5065
  let c0_2527 : Index := 0#32
  ![v5066.toNat, 0]

def k0_chk282 (v5062 : BitVec 32) : Prop :=
  (8 ∣ (k0_mult282 v5062).toNat) ∧
  (∀ a, (k0_off564 v5062) a + S8x128.size a ≤ S10000x128.size a)
theorem k0_mult282_dvd : ∀ (v5062 : BitVec 32) (k0_hw282 : k0_chk282 v5062), 8 ∣ (k0_mult282 v5062).toNat := fun v5062 k0_hw282 => k0_hw282.1
theorem k0_off564_inb : ∀ (v5062 : BitVec 32) (k0_hw282 : k0_chk282 v5062), ∀ a, (k0_off564 v5062) a + S8x128.size a ≤ S10000x128.size a := fun v5062 k0_hw282 => k0_hw282.2

def k0_off565 (i : grid0.Coords) : Fin 2 → Nat :=
  let arg0 : BitVec 32 := BitVec.ofNat 32 (i 0).val
  let c4_i32 : BitVec 32 := 4#32
  let v0 : BitVec 32 := Scalar.muli arg0 c4_i32
  let c2_i32_2532 : BitVec 32 := 2#32
  let v5078 : BitVec 32 := Scalar.addi v0 c2_i32_2532
  let v5079 : Index := Scalar.indexCast v5078
  let c26_2533 : Index := 26#32
  ![v5079.toNat, 26]
def k0_mult283 (v5080 : BitVec 32) : BitVec 32 :=
  let c3_i32_2534 : BitVec 32 := 3#32
  let v5081 : BitVec 32 := Scalar.shrsi v5080 c3_i32_2534
  let c3_i32_2535 : BitVec 32 := 3#32
  let v5082 : BitVec 32 := Scalar.shli v5081 c3_i32_2535
  v5082

def k0_off566 (v5080 : BitVec 32) : Fin 2 → Nat :=
  let c3_i32_2534 : BitVec 32 := 3#32
  let v5081 : BitVec 32 := Scalar.shrsi v5080 c3_i32_2534
  let c3_i32_2535 : BitVec 32 := 3#32
  let v5082 : BitVec 32 := Scalar.shli v5081 c3_i32_2535
  let v5083 : BitVec 32 := v5082
  let v5084 : Index := Scalar.indexCast v5083
  let c0_2536 : Index := 0#32
  ![v5084.toNat, 0]

def k0_chk283 (v5080 : BitVec 32) : Prop :=
  (8 ∣ (k0_mult283 v5080).toNat) ∧
  (∀ a, (k0_off566 v5080) a + S8x128.size a ≤ S10000x128.size a)
theorem k0_mult283_dvd : ∀ (v5080 : BitVec 32) (k0_hw283 : k0_chk283 v5080), 8 ∣ (k0_mult283 v5080).toNat := fun v5080 k0_hw283 => k0_hw283.1
theorem k0_off566_inb : ∀ (v5080 : BitVec 32) (k0_hw283 : k0_chk283 v5080), ∀ a, (k0_off566 v5080) a + S8x128.size a ≤ S10000x128.size a := fun v5080 k0_hw283 => k0_hw283.2

def k0_off567 (i : grid0.Coords) : Fin 2 → Nat :=
  let arg0 : BitVec 32 := BitVec.ofNat 32 (i 0).val
  let c4_i32 : BitVec 32 := 4#32
  let v0 : BitVec 32 := Scalar.muli arg0 c4_i32
  let c2_i32_2541 : BitVec 32 := 2#32
  let v5096 : BitVec 32 := Scalar.addi v0 c2_i32_2541
  let v5097 : Index := Scalar.indexCast v5096
  let c27_2542 : Index := 27#32
  ![v5097.toNat, 27]
def k0_mult284 (v5098 : BitVec 32) : BitVec 32 :=
  let c3_i32_2543 : BitVec 32 := 3#32
  let v5099 : BitVec 32 := Scalar.shrsi v5098 c3_i32_2543
  let c3_i32_2544 : BitVec 32 := 3#32
  let v5100 : BitVec 32 := Scalar.shli v5099 c3_i32_2544
  v5100

def k0_off568 (v5098 : BitVec 32) : Fin 2 → Nat :=
  let c3_i32_2543 : BitVec 32 := 3#32
  let v5099 : BitVec 32 := Scalar.shrsi v5098 c3_i32_2543
  let c3_i32_2544 : BitVec 32 := 3#32
  let v5100 : BitVec 32 := Scalar.shli v5099 c3_i32_2544
  let v5101 : BitVec 32 := v5100
  let v5102 : Index := Scalar.indexCast v5101
  let c0_2545 : Index := 0#32
  ![v5102.toNat, 0]

def k0_chk284 (v5098 : BitVec 32) : Prop :=
  (8 ∣ (k0_mult284 v5098).toNat) ∧
  (∀ a, (k0_off568 v5098) a + S8x128.size a ≤ S10000x128.size a)
theorem k0_mult284_dvd : ∀ (v5098 : BitVec 32) (k0_hw284 : k0_chk284 v5098), 8 ∣ (k0_mult284 v5098).toNat := fun v5098 k0_hw284 => k0_hw284.1
theorem k0_off568_inb : ∀ (v5098 : BitVec 32) (k0_hw284 : k0_chk284 v5098), ∀ a, (k0_off568 v5098) a + S8x128.size a ≤ S10000x128.size a := fun v5098 k0_hw284 => k0_hw284.2

def k0_off569 (i : grid0.Coords) : Fin 2 → Nat :=
  let arg0 : BitVec 32 := BitVec.ofNat 32 (i 0).val
  let c4_i32 : BitVec 32 := 4#32
  let v0 : BitVec 32 := Scalar.muli arg0 c4_i32
  let c2_i32_2550 : BitVec 32 := 2#32
  let v5114 : BitVec 32 := Scalar.addi v0 c2_i32_2550
  let v5115 : Index := Scalar.indexCast v5114
  let c28_2551 : Index := 28#32
  ![v5115.toNat, 28]
def k0_mult285 (v5116 : BitVec 32) : BitVec 32 :=
  let c3_i32_2552 : BitVec 32 := 3#32
  let v5117 : BitVec 32 := Scalar.shrsi v5116 c3_i32_2552
  let c3_i32_2553 : BitVec 32 := 3#32
  let v5118 : BitVec 32 := Scalar.shli v5117 c3_i32_2553
  v5118

def k0_off570 (v5116 : BitVec 32) : Fin 2 → Nat :=
  let c3_i32_2552 : BitVec 32 := 3#32
  let v5117 : BitVec 32 := Scalar.shrsi v5116 c3_i32_2552
  let c3_i32_2553 : BitVec 32 := 3#32
  let v5118 : BitVec 32 := Scalar.shli v5117 c3_i32_2553
  let v5119 : BitVec 32 := v5118
  let v5120 : Index := Scalar.indexCast v5119
  let c0_2554 : Index := 0#32
  ![v5120.toNat, 0]

def k0_chk285 (v5116 : BitVec 32) : Prop :=
  (8 ∣ (k0_mult285 v5116).toNat) ∧
  (∀ a, (k0_off570 v5116) a + S8x128.size a ≤ S10000x128.size a)
theorem k0_mult285_dvd : ∀ (v5116 : BitVec 32) (k0_hw285 : k0_chk285 v5116), 8 ∣ (k0_mult285 v5116).toNat := fun v5116 k0_hw285 => k0_hw285.1
theorem k0_off570_inb : ∀ (v5116 : BitVec 32) (k0_hw285 : k0_chk285 v5116), ∀ a, (k0_off570 v5116) a + S8x128.size a ≤ S10000x128.size a := fun v5116 k0_hw285 => k0_hw285.2

def k0_off571 (i : grid0.Coords) : Fin 2 → Nat :=
  let arg0 : BitVec 32 := BitVec.ofNat 32 (i 0).val
  let c4_i32 : BitVec 32 := 4#32
  let v0 : BitVec 32 := Scalar.muli arg0 c4_i32
  let c2_i32_2559 : BitVec 32 := 2#32
  let v5132 : BitVec 32 := Scalar.addi v0 c2_i32_2559
  let v5133 : Index := Scalar.indexCast v5132
  let c29_2560 : Index := 29#32
  ![v5133.toNat, 29]
def k0_mult286 (v5134 : BitVec 32) : BitVec 32 :=
  let c3_i32_2561 : BitVec 32 := 3#32
  let v5135 : BitVec 32 := Scalar.shrsi v5134 c3_i32_2561
  let c3_i32_2562 : BitVec 32 := 3#32
  let v5136 : BitVec 32 := Scalar.shli v5135 c3_i32_2562
  v5136

def k0_off572 (v5134 : BitVec 32) : Fin 2 → Nat :=
  let c3_i32_2561 : BitVec 32 := 3#32
  let v5135 : BitVec 32 := Scalar.shrsi v5134 c3_i32_2561
  let c3_i32_2562 : BitVec 32 := 3#32
  let v5136 : BitVec 32 := Scalar.shli v5135 c3_i32_2562
  let v5137 : BitVec 32 := v5136
  let v5138 : Index := Scalar.indexCast v5137
  let c0_2563 : Index := 0#32
  ![v5138.toNat, 0]

def k0_chk286 (v5134 : BitVec 32) : Prop :=
  (8 ∣ (k0_mult286 v5134).toNat) ∧
  (∀ a, (k0_off572 v5134) a + S8x128.size a ≤ S10000x128.size a)
theorem k0_mult286_dvd : ∀ (v5134 : BitVec 32) (k0_hw286 : k0_chk286 v5134), 8 ∣ (k0_mult286 v5134).toNat := fun v5134 k0_hw286 => k0_hw286.1
theorem k0_off572_inb : ∀ (v5134 : BitVec 32) (k0_hw286 : k0_chk286 v5134), ∀ a, (k0_off572 v5134) a + S8x128.size a ≤ S10000x128.size a := fun v5134 k0_hw286 => k0_hw286.2

def k0_off573 (i : grid0.Coords) : Fin 2 → Nat :=
  let arg0 : BitVec 32 := BitVec.ofNat 32 (i 0).val
  let c4_i32 : BitVec 32 := 4#32
  let v0 : BitVec 32 := Scalar.muli arg0 c4_i32
  let c2_i32_2568 : BitVec 32 := 2#32
  let v5150 : BitVec 32 := Scalar.addi v0 c2_i32_2568
  let v5151 : Index := Scalar.indexCast v5150
  let c30_2569 : Index := 30#32
  ![v5151.toNat, 30]
def k0_mult287 (v5152 : BitVec 32) : BitVec 32 :=
  let c3_i32_2570 : BitVec 32 := 3#32
  let v5153 : BitVec 32 := Scalar.shrsi v5152 c3_i32_2570
  let c3_i32_2571 : BitVec 32 := 3#32
  let v5154 : BitVec 32 := Scalar.shli v5153 c3_i32_2571
  v5154

def k0_off574 (v5152 : BitVec 32) : Fin 2 → Nat :=
  let c3_i32_2570 : BitVec 32 := 3#32
  let v5153 : BitVec 32 := Scalar.shrsi v5152 c3_i32_2570
  let c3_i32_2571 : BitVec 32 := 3#32
  let v5154 : BitVec 32 := Scalar.shli v5153 c3_i32_2571
  let v5155 : BitVec 32 := v5154
  let v5156 : Index := Scalar.indexCast v5155
  let c0_2572 : Index := 0#32
  ![v5156.toNat, 0]

def k0_chk287 (v5152 : BitVec 32) : Prop :=
  (8 ∣ (k0_mult287 v5152).toNat) ∧
  (∀ a, (k0_off574 v5152) a + S8x128.size a ≤ S10000x128.size a)
theorem k0_mult287_dvd : ∀ (v5152 : BitVec 32) (k0_hw287 : k0_chk287 v5152), 8 ∣ (k0_mult287 v5152).toNat := fun v5152 k0_hw287 => k0_hw287.1
theorem k0_off574_inb : ∀ (v5152 : BitVec 32) (k0_hw287 : k0_chk287 v5152), ∀ a, (k0_off574 v5152) a + S8x128.size a ≤ S10000x128.size a := fun v5152 k0_hw287 => k0_hw287.2

def k0_off575 (i : grid0.Coords) : Fin 2 → Nat :=
  let arg0 : BitVec 32 := BitVec.ofNat 32 (i 0).val
  let c4_i32 : BitVec 32 := 4#32
  let v0 : BitVec 32 := Scalar.muli arg0 c4_i32
  let c2_i32_2577 : BitVec 32 := 2#32
  let v5168 : BitVec 32 := Scalar.addi v0 c2_i32_2577
  let v5169 : Index := Scalar.indexCast v5168
  let c31_2578 : Index := 31#32
  ![v5169.toNat, 31]
def k0_mult288 (v5170 : BitVec 32) : BitVec 32 :=
  let c3_i32_2579 : BitVec 32 := 3#32
  let v5171 : BitVec 32 := Scalar.shrsi v5170 c3_i32_2579
  let c3_i32_2580 : BitVec 32 := 3#32
  let v5172 : BitVec 32 := Scalar.shli v5171 c3_i32_2580
  v5172

def k0_off576 (v5170 : BitVec 32) : Fin 2 → Nat :=
  let c3_i32_2579 : BitVec 32 := 3#32
  let v5171 : BitVec 32 := Scalar.shrsi v5170 c3_i32_2579
  let c3_i32_2580 : BitVec 32 := 3#32
  let v5172 : BitVec 32 := Scalar.shli v5171 c3_i32_2580
  let v5173 : BitVec 32 := v5172
  let v5174 : Index := Scalar.indexCast v5173
  let c0_2581 : Index := 0#32
  ![v5174.toNat, 0]

def k0_chk288 (v5170 : BitVec 32) : Prop :=
  (8 ∣ (k0_mult288 v5170).toNat) ∧
  (∀ a, (k0_off576 v5170) a + S8x128.size a ≤ S10000x128.size a)
theorem k0_mult288_dvd : ∀ (v5170 : BitVec 32) (k0_hw288 : k0_chk288 v5170), 8 ∣ (k0_mult288 v5170).toNat := fun v5170 k0_hw288 => k0_hw288.1
theorem k0_off576_inb : ∀ (v5170 : BitVec 32) (k0_hw288 : k0_chk288 v5170), ∀ a, (k0_off576 v5170) a + S8x128.size a ≤ S10000x128.size a := fun v5170 k0_hw288 => k0_hw288.2

def k0_off577 (i : grid0.Coords) : Fin 2 → Nat :=
  let arg0 : BitVec 32 := BitVec.ofNat 32 (i 0).val
  let c4_i32 : BitVec 32 := 4#32
  let v0 : BitVec 32 := Scalar.muli arg0 c4_i32
  let c2_i32_2586 : BitVec 32 := 2#32
  let v5186 : BitVec 32 := Scalar.addi v0 c2_i32_2586
  let v5187 : Index := Scalar.indexCast v5186
  let c32_2587 : Index := 32#32
  ![v5187.toNat, 32]
def k0_mult289 (v5188 : BitVec 32) : BitVec 32 :=
  let c3_i32_2588 : BitVec 32 := 3#32
  let v5189 : BitVec 32 := Scalar.shrsi v5188 c3_i32_2588
  let c3_i32_2589 : BitVec 32 := 3#32
  let v5190 : BitVec 32 := Scalar.shli v5189 c3_i32_2589
  v5190

def k0_off578 (v5188 : BitVec 32) : Fin 2 → Nat :=
  let c3_i32_2588 : BitVec 32 := 3#32
  let v5189 : BitVec 32 := Scalar.shrsi v5188 c3_i32_2588
  let c3_i32_2589 : BitVec 32 := 3#32
  let v5190 : BitVec 32 := Scalar.shli v5189 c3_i32_2589
  let v5191 : BitVec 32 := v5190
  let v5192 : Index := Scalar.indexCast v5191
  let c0_2590 : Index := 0#32
  ![v5192.toNat, 0]

def k0_chk289 (v5188 : BitVec 32) : Prop :=
  (8 ∣ (k0_mult289 v5188).toNat) ∧
  (∀ a, (k0_off578 v5188) a + S8x128.size a ≤ S10000x128.size a)
theorem k0_mult289_dvd : ∀ (v5188 : BitVec 32) (k0_hw289 : k0_chk289 v5188), 8 ∣ (k0_mult289 v5188).toNat := fun v5188 k0_hw289 => k0_hw289.1
theorem k0_off578_inb : ∀ (v5188 : BitVec 32) (k0_hw289 : k0_chk289 v5188), ∀ a, (k0_off578 v5188) a + S8x128.size a ≤ S10000x128.size a := fun v5188 k0_hw289 => k0_hw289.2

def k0_off579 (i : grid0.Coords) : Fin 2 → Nat :=
  let arg0 : BitVec 32 := BitVec.ofNat 32 (i 0).val
  let c4_i32 : BitVec 32 := 4#32
  let v0 : BitVec 32 := Scalar.muli arg0 c4_i32
  let c2_i32_2595 : BitVec 32 := 2#32
  let v5204 : BitVec 32 := Scalar.addi v0 c2_i32_2595
  let v5205 : Index := Scalar.indexCast v5204
  let c33_2596 : Index := 33#32
  ![v5205.toNat, 33]
def k0_mult290 (v5206 : BitVec 32) : BitVec 32 :=
  let c3_i32_2597 : BitVec 32 := 3#32
  let v5207 : BitVec 32 := Scalar.shrsi v5206 c3_i32_2597
  let c3_i32_2598 : BitVec 32 := 3#32
  let v5208 : BitVec 32 := Scalar.shli v5207 c3_i32_2598
  v5208

def k0_off580 (v5206 : BitVec 32) : Fin 2 → Nat :=
  let c3_i32_2597 : BitVec 32 := 3#32
  let v5207 : BitVec 32 := Scalar.shrsi v5206 c3_i32_2597
  let c3_i32_2598 : BitVec 32 := 3#32
  let v5208 : BitVec 32 := Scalar.shli v5207 c3_i32_2598
  let v5209 : BitVec 32 := v5208
  let v5210 : Index := Scalar.indexCast v5209
  let c0_2599 : Index := 0#32
  ![v5210.toNat, 0]

def k0_chk290 (v5206 : BitVec 32) : Prop :=
  (8 ∣ (k0_mult290 v5206).toNat) ∧
  (∀ a, (k0_off580 v5206) a + S8x128.size a ≤ S10000x128.size a)
theorem k0_mult290_dvd : ∀ (v5206 : BitVec 32) (k0_hw290 : k0_chk290 v5206), 8 ∣ (k0_mult290 v5206).toNat := fun v5206 k0_hw290 => k0_hw290.1
theorem k0_off580_inb : ∀ (v5206 : BitVec 32) (k0_hw290 : k0_chk290 v5206), ∀ a, (k0_off580 v5206) a + S8x128.size a ≤ S10000x128.size a := fun v5206 k0_hw290 => k0_hw290.2

def k0_off581 (i : grid0.Coords) : Fin 2 → Nat :=
  let arg0 : BitVec 32 := BitVec.ofNat 32 (i 0).val
  let c4_i32 : BitVec 32 := 4#32
  let v0 : BitVec 32 := Scalar.muli arg0 c4_i32
  let c2_i32_2604 : BitVec 32 := 2#32
  let v5222 : BitVec 32 := Scalar.addi v0 c2_i32_2604
  let v5223 : Index := Scalar.indexCast v5222
  let c34_2605 : Index := 34#32
  ![v5223.toNat, 34]
def k0_mult291 (v5224 : BitVec 32) : BitVec 32 :=
  let c3_i32_2606 : BitVec 32 := 3#32
  let v5225 : BitVec 32 := Scalar.shrsi v5224 c3_i32_2606
  let c3_i32_2607 : BitVec 32 := 3#32
  let v5226 : BitVec 32 := Scalar.shli v5225 c3_i32_2607
  v5226

def k0_off582 (v5224 : BitVec 32) : Fin 2 → Nat :=
  let c3_i32_2606 : BitVec 32 := 3#32
  let v5225 : BitVec 32 := Scalar.shrsi v5224 c3_i32_2606
  let c3_i32_2607 : BitVec 32 := 3#32
  let v5226 : BitVec 32 := Scalar.shli v5225 c3_i32_2607
  let v5227 : BitVec 32 := v5226
  let v5228 : Index := Scalar.indexCast v5227
  let c0_2608 : Index := 0#32
  ![v5228.toNat, 0]

def k0_chk291 (v5224 : BitVec 32) : Prop :=
  (8 ∣ (k0_mult291 v5224).toNat) ∧
  (∀ a, (k0_off582 v5224) a + S8x128.size a ≤ S10000x128.size a)
theorem k0_mult291_dvd : ∀ (v5224 : BitVec 32) (k0_hw291 : k0_chk291 v5224), 8 ∣ (k0_mult291 v5224).toNat := fun v5224 k0_hw291 => k0_hw291.1
theorem k0_off582_inb : ∀ (v5224 : BitVec 32) (k0_hw291 : k0_chk291 v5224), ∀ a, (k0_off582 v5224) a + S8x128.size a ≤ S10000x128.size a := fun v5224 k0_hw291 => k0_hw291.2

def k0_off583 (i : grid0.Coords) : Fin 2 → Nat :=
  let arg0 : BitVec 32 := BitVec.ofNat 32 (i 0).val
  let c4_i32 : BitVec 32 := 4#32
  let v0 : BitVec 32 := Scalar.muli arg0 c4_i32
  let c2_i32_2613 : BitVec 32 := 2#32
  let v5240 : BitVec 32 := Scalar.addi v0 c2_i32_2613
  let v5241 : Index := Scalar.indexCast v5240
  let c35_2614 : Index := 35#32
  ![v5241.toNat, 35]
def k0_mult292 (v5242 : BitVec 32) : BitVec 32 :=
  let c3_i32_2615 : BitVec 32 := 3#32
  let v5243 : BitVec 32 := Scalar.shrsi v5242 c3_i32_2615
  let c3_i32_2616 : BitVec 32 := 3#32
  let v5244 : BitVec 32 := Scalar.shli v5243 c3_i32_2616
  v5244

def k0_off584 (v5242 : BitVec 32) : Fin 2 → Nat :=
  let c3_i32_2615 : BitVec 32 := 3#32
  let v5243 : BitVec 32 := Scalar.shrsi v5242 c3_i32_2615
  let c3_i32_2616 : BitVec 32 := 3#32
  let v5244 : BitVec 32 := Scalar.shli v5243 c3_i32_2616
  let v5245 : BitVec 32 := v5244
  let v5246 : Index := Scalar.indexCast v5245
  let c0_2617 : Index := 0#32
  ![v5246.toNat, 0]

def k0_chk292 (v5242 : BitVec 32) : Prop :=
  (8 ∣ (k0_mult292 v5242).toNat) ∧
  (∀ a, (k0_off584 v5242) a + S8x128.size a ≤ S10000x128.size a)
theorem k0_mult292_dvd : ∀ (v5242 : BitVec 32) (k0_hw292 : k0_chk292 v5242), 8 ∣ (k0_mult292 v5242).toNat := fun v5242 k0_hw292 => k0_hw292.1
theorem k0_off584_inb : ∀ (v5242 : BitVec 32) (k0_hw292 : k0_chk292 v5242), ∀ a, (k0_off584 v5242) a + S8x128.size a ≤ S10000x128.size a := fun v5242 k0_hw292 => k0_hw292.2

def k0_off585 (i : grid0.Coords) : Fin 2 → Nat :=
  let arg0 : BitVec 32 := BitVec.ofNat 32 (i 0).val
  let c4_i32 : BitVec 32 := 4#32
  let v0 : BitVec 32 := Scalar.muli arg0 c4_i32
  let c2_i32_2622 : BitVec 32 := 2#32
  let v5258 : BitVec 32 := Scalar.addi v0 c2_i32_2622
  let v5259 : Index := Scalar.indexCast v5258
  let c36_2623 : Index := 36#32
  ![v5259.toNat, 36]
def k0_mult293 (v5260 : BitVec 32) : BitVec 32 :=
  let c3_i32_2624 : BitVec 32 := 3#32
  let v5261 : BitVec 32 := Scalar.shrsi v5260 c3_i32_2624
  let c3_i32_2625 : BitVec 32 := 3#32
  let v5262 : BitVec 32 := Scalar.shli v5261 c3_i32_2625
  v5262

def k0_off586 (v5260 : BitVec 32) : Fin 2 → Nat :=
  let c3_i32_2624 : BitVec 32 := 3#32
  let v5261 : BitVec 32 := Scalar.shrsi v5260 c3_i32_2624
  let c3_i32_2625 : BitVec 32 := 3#32
  let v5262 : BitVec 32 := Scalar.shli v5261 c3_i32_2625
  let v5263 : BitVec 32 := v5262
  let v5264 : Index := Scalar.indexCast v5263
  let c0_2626 : Index := 0#32
  ![v5264.toNat, 0]

def k0_chk293 (v5260 : BitVec 32) : Prop :=
  (8 ∣ (k0_mult293 v5260).toNat) ∧
  (∀ a, (k0_off586 v5260) a + S8x128.size a ≤ S10000x128.size a)
theorem k0_mult293_dvd : ∀ (v5260 : BitVec 32) (k0_hw293 : k0_chk293 v5260), 8 ∣ (k0_mult293 v5260).toNat := fun v5260 k0_hw293 => k0_hw293.1
theorem k0_off586_inb : ∀ (v5260 : BitVec 32) (k0_hw293 : k0_chk293 v5260), ∀ a, (k0_off586 v5260) a + S8x128.size a ≤ S10000x128.size a := fun v5260 k0_hw293 => k0_hw293.2

def k0_off587 (i : grid0.Coords) : Fin 2 → Nat :=
  let arg0 : BitVec 32 := BitVec.ofNat 32 (i 0).val
  let c4_i32 : BitVec 32 := 4#32
  let v0 : BitVec 32 := Scalar.muli arg0 c4_i32
  let c2_i32_2631 : BitVec 32 := 2#32
  let v5276 : BitVec 32 := Scalar.addi v0 c2_i32_2631
  let v5277 : Index := Scalar.indexCast v5276
  let c37_2632 : Index := 37#32
  ![v5277.toNat, 37]
def k0_mult294 (v5278 : BitVec 32) : BitVec 32 :=
  let c3_i32_2633 : BitVec 32 := 3#32
  let v5279 : BitVec 32 := Scalar.shrsi v5278 c3_i32_2633
  let c3_i32_2634 : BitVec 32 := 3#32
  let v5280 : BitVec 32 := Scalar.shli v5279 c3_i32_2634
  v5280

def k0_off588 (v5278 : BitVec 32) : Fin 2 → Nat :=
  let c3_i32_2633 : BitVec 32 := 3#32
  let v5279 : BitVec 32 := Scalar.shrsi v5278 c3_i32_2633
  let c3_i32_2634 : BitVec 32 := 3#32
  let v5280 : BitVec 32 := Scalar.shli v5279 c3_i32_2634
  let v5281 : BitVec 32 := v5280
  let v5282 : Index := Scalar.indexCast v5281
  let c0_2635 : Index := 0#32
  ![v5282.toNat, 0]

def k0_chk294 (v5278 : BitVec 32) : Prop :=
  (8 ∣ (k0_mult294 v5278).toNat) ∧
  (∀ a, (k0_off588 v5278) a + S8x128.size a ≤ S10000x128.size a)
theorem k0_mult294_dvd : ∀ (v5278 : BitVec 32) (k0_hw294 : k0_chk294 v5278), 8 ∣ (k0_mult294 v5278).toNat := fun v5278 k0_hw294 => k0_hw294.1
theorem k0_off588_inb : ∀ (v5278 : BitVec 32) (k0_hw294 : k0_chk294 v5278), ∀ a, (k0_off588 v5278) a + S8x128.size a ≤ S10000x128.size a := fun v5278 k0_hw294 => k0_hw294.2

def k0_off589 (i : grid0.Coords) : Fin 2 → Nat :=
  let arg0 : BitVec 32 := BitVec.ofNat 32 (i 0).val
  let c4_i32 : BitVec 32 := 4#32
  let v0 : BitVec 32 := Scalar.muli arg0 c4_i32
  let c2_i32_2640 : BitVec 32 := 2#32
  let v5294 : BitVec 32 := Scalar.addi v0 c2_i32_2640
  let v5295 : Index := Scalar.indexCast v5294
  let c38_2641 : Index := 38#32
  ![v5295.toNat, 38]
def k0_mult295 (v5296 : BitVec 32) : BitVec 32 :=
  let c3_i32_2642 : BitVec 32 := 3#32
  let v5297 : BitVec 32 := Scalar.shrsi v5296 c3_i32_2642
  let c3_i32_2643 : BitVec 32 := 3#32
  let v5298 : BitVec 32 := Scalar.shli v5297 c3_i32_2643
  v5298

def k0_off590 (v5296 : BitVec 32) : Fin 2 → Nat :=
  let c3_i32_2642 : BitVec 32 := 3#32
  let v5297 : BitVec 32 := Scalar.shrsi v5296 c3_i32_2642
  let c3_i32_2643 : BitVec 32 := 3#32
  let v5298 : BitVec 32 := Scalar.shli v5297 c3_i32_2643
  let v5299 : BitVec 32 := v5298
  let v5300 : Index := Scalar.indexCast v5299
  let c0_2644 : Index := 0#32
  ![v5300.toNat, 0]

def k0_chk295 (v5296 : BitVec 32) : Prop :=
  (8 ∣ (k0_mult295 v5296).toNat) ∧
  (∀ a, (k0_off590 v5296) a + S8x128.size a ≤ S10000x128.size a)
theorem k0_mult295_dvd : ∀ (v5296 : BitVec 32) (k0_hw295 : k0_chk295 v5296), 8 ∣ (k0_mult295 v5296).toNat := fun v5296 k0_hw295 => k0_hw295.1
theorem k0_off590_inb : ∀ (v5296 : BitVec 32) (k0_hw295 : k0_chk295 v5296), ∀ a, (k0_off590 v5296) a + S8x128.size a ≤ S10000x128.size a := fun v5296 k0_hw295 => k0_hw295.2

def k0_off591 (i : grid0.Coords) : Fin 2 → Nat :=
  let arg0 : BitVec 32 := BitVec.ofNat 32 (i 0).val
  let c4_i32 : BitVec 32 := 4#32
  let v0 : BitVec 32 := Scalar.muli arg0 c4_i32
  let c2_i32_2649 : BitVec 32 := 2#32
  let v5312 : BitVec 32 := Scalar.addi v0 c2_i32_2649
  let v5313 : Index := Scalar.indexCast v5312
  let c39_2650 : Index := 39#32
  ![v5313.toNat, 39]
def k0_mult296 (v5314 : BitVec 32) : BitVec 32 :=
  let c3_i32_2651 : BitVec 32 := 3#32
  let v5315 : BitVec 32 := Scalar.shrsi v5314 c3_i32_2651
  let c3_i32_2652 : BitVec 32 := 3#32
  let v5316 : BitVec 32 := Scalar.shli v5315 c3_i32_2652
  v5316

def k0_off592 (v5314 : BitVec 32) : Fin 2 → Nat :=
  let c3_i32_2651 : BitVec 32 := 3#32
  let v5315 : BitVec 32 := Scalar.shrsi v5314 c3_i32_2651
  let c3_i32_2652 : BitVec 32 := 3#32
  let v5316 : BitVec 32 := Scalar.shli v5315 c3_i32_2652
  let v5317 : BitVec 32 := v5316
  let v5318 : Index := Scalar.indexCast v5317
  let c0_2653 : Index := 0#32
  ![v5318.toNat, 0]

def k0_chk296 (v5314 : BitVec 32) : Prop :=
  (8 ∣ (k0_mult296 v5314).toNat) ∧
  (∀ a, (k0_off592 v5314) a + S8x128.size a ≤ S10000x128.size a)
theorem k0_mult296_dvd : ∀ (v5314 : BitVec 32) (k0_hw296 : k0_chk296 v5314), 8 ∣ (k0_mult296 v5314).toNat := fun v5314 k0_hw296 => k0_hw296.1
theorem k0_off592_inb : ∀ (v5314 : BitVec 32) (k0_hw296 : k0_chk296 v5314), ∀ a, (k0_off592 v5314) a + S8x128.size a ≤ S10000x128.size a := fun v5314 k0_hw296 => k0_hw296.2

def k0_off593 (i : grid0.Coords) : Fin 2 → Nat :=
  let arg0 : BitVec 32 := BitVec.ofNat 32 (i 0).val
  let c4_i32 : BitVec 32 := 4#32
  let v0 : BitVec 32 := Scalar.muli arg0 c4_i32
  let c2_i32_2658 : BitVec 32 := 2#32
  let v5330 : BitVec 32 := Scalar.addi v0 c2_i32_2658
  let v5331 : Index := Scalar.indexCast v5330
  let c40_2659 : Index := 40#32
  ![v5331.toNat, 40]
def k0_mult297 (v5332 : BitVec 32) : BitVec 32 :=
  let c3_i32_2660 : BitVec 32 := 3#32
  let v5333 : BitVec 32 := Scalar.shrsi v5332 c3_i32_2660
  let c3_i32_2661 : BitVec 32 := 3#32
  let v5334 : BitVec 32 := Scalar.shli v5333 c3_i32_2661
  v5334

def k0_off594 (v5332 : BitVec 32) : Fin 2 → Nat :=
  let c3_i32_2660 : BitVec 32 := 3#32
  let v5333 : BitVec 32 := Scalar.shrsi v5332 c3_i32_2660
  let c3_i32_2661 : BitVec 32 := 3#32
  let v5334 : BitVec 32 := Scalar.shli v5333 c3_i32_2661
  let v5335 : BitVec 32 := v5334
  let v5336 : Index := Scalar.indexCast v5335
  let c0_2662 : Index := 0#32
  ![v5336.toNat, 0]

def k0_chk297 (v5332 : BitVec 32) : Prop :=
  (8 ∣ (k0_mult297 v5332).toNat) ∧
  (∀ a, (k0_off594 v5332) a + S8x128.size a ≤ S10000x128.size a)
theorem k0_mult297_dvd : ∀ (v5332 : BitVec 32) (k0_hw297 : k0_chk297 v5332), 8 ∣ (k0_mult297 v5332).toNat := fun v5332 k0_hw297 => k0_hw297.1
theorem k0_off594_inb : ∀ (v5332 : BitVec 32) (k0_hw297 : k0_chk297 v5332), ∀ a, (k0_off594 v5332) a + S8x128.size a ≤ S10000x128.size a := fun v5332 k0_hw297 => k0_hw297.2

def k0_off595 (i : grid0.Coords) : Fin 2 → Nat :=
  let arg0 : BitVec 32 := BitVec.ofNat 32 (i 0).val
  let c4_i32 : BitVec 32 := 4#32
  let v0 : BitVec 32 := Scalar.muli arg0 c4_i32
  let c2_i32_2667 : BitVec 32 := 2#32
  let v5348 : BitVec 32 := Scalar.addi v0 c2_i32_2667
  let v5349 : Index := Scalar.indexCast v5348
  let c41_2668 : Index := 41#32
  ![v5349.toNat, 41]
def k0_mult298 (v5350 : BitVec 32) : BitVec 32 :=
  let c3_i32_2669 : BitVec 32 := 3#32
  let v5351 : BitVec 32 := Scalar.shrsi v5350 c3_i32_2669
  let c3_i32_2670 : BitVec 32 := 3#32
  let v5352 : BitVec 32 := Scalar.shli v5351 c3_i32_2670
  v5352

def k0_off596 (v5350 : BitVec 32) : Fin 2 → Nat :=
  let c3_i32_2669 : BitVec 32 := 3#32
  let v5351 : BitVec 32 := Scalar.shrsi v5350 c3_i32_2669
  let c3_i32_2670 : BitVec 32 := 3#32
  let v5352 : BitVec 32 := Scalar.shli v5351 c3_i32_2670
  let v5353 : BitVec 32 := v5352
  let v5354 : Index := Scalar.indexCast v5353
  let c0_2671 : Index := 0#32
  ![v5354.toNat, 0]

def k0_chk298 (v5350 : BitVec 32) : Prop :=
  (8 ∣ (k0_mult298 v5350).toNat) ∧
  (∀ a, (k0_off596 v5350) a + S8x128.size a ≤ S10000x128.size a)
theorem k0_mult298_dvd : ∀ (v5350 : BitVec 32) (k0_hw298 : k0_chk298 v5350), 8 ∣ (k0_mult298 v5350).toNat := fun v5350 k0_hw298 => k0_hw298.1
theorem k0_off596_inb : ∀ (v5350 : BitVec 32) (k0_hw298 : k0_chk298 v5350), ∀ a, (k0_off596 v5350) a + S8x128.size a ≤ S10000x128.size a := fun v5350 k0_hw298 => k0_hw298.2

def k0_off597 (i : grid0.Coords) : Fin 2 → Nat :=
  let arg0 : BitVec 32 := BitVec.ofNat 32 (i 0).val
  let c4_i32 : BitVec 32 := 4#32
  let v0 : BitVec 32 := Scalar.muli arg0 c4_i32
  let c2_i32_2676 : BitVec 32 := 2#32
  let v5366 : BitVec 32 := Scalar.addi v0 c2_i32_2676
  let v5367 : Index := Scalar.indexCast v5366
  let c42_2677 : Index := 42#32
  ![v5367.toNat, 42]
def k0_mult299 (v5368 : BitVec 32) : BitVec 32 :=
  let c3_i32_2678 : BitVec 32 := 3#32
  let v5369 : BitVec 32 := Scalar.shrsi v5368 c3_i32_2678
  let c3_i32_2679 : BitVec 32 := 3#32
  let v5370 : BitVec 32 := Scalar.shli v5369 c3_i32_2679
  v5370

def k0_off598 (v5368 : BitVec 32) : Fin 2 → Nat :=
  let c3_i32_2678 : BitVec 32 := 3#32
  let v5369 : BitVec 32 := Scalar.shrsi v5368 c3_i32_2678
  let c3_i32_2679 : BitVec 32 := 3#32
  let v5370 : BitVec 32 := Scalar.shli v5369 c3_i32_2679
  let v5371 : BitVec 32 := v5370
  let v5372 : Index := Scalar.indexCast v5371
  let c0_2680 : Index := 0#32
  ![v5372.toNat, 0]

def k0_chk299 (v5368 : BitVec 32) : Prop :=
  (8 ∣ (k0_mult299 v5368).toNat) ∧
  (∀ a, (k0_off598 v5368) a + S8x128.size a ≤ S10000x128.size a)
theorem k0_mult299_dvd : ∀ (v5368 : BitVec 32) (k0_hw299 : k0_chk299 v5368), 8 ∣ (k0_mult299 v5368).toNat := fun v5368 k0_hw299 => k0_hw299.1
theorem k0_off598_inb : ∀ (v5368 : BitVec 32) (k0_hw299 : k0_chk299 v5368), ∀ a, (k0_off598 v5368) a + S8x128.size a ≤ S10000x128.size a := fun v5368 k0_hw299 => k0_hw299.2

def k0_off599 (i : grid0.Coords) : Fin 2 → Nat :=
  let arg0 : BitVec 32 := BitVec.ofNat 32 (i 0).val
  let c4_i32 : BitVec 32 := 4#32
  let v0 : BitVec 32 := Scalar.muli arg0 c4_i32
  let c2_i32_2685 : BitVec 32 := 2#32
  let v5384 : BitVec 32 := Scalar.addi v0 c2_i32_2685
  let v5385 : Index := Scalar.indexCast v5384
  let c43_2686 : Index := 43#32
  ![v5385.toNat, 43]
def k0_mult300 (v5386 : BitVec 32) : BitVec 32 :=
  let c3_i32_2687 : BitVec 32 := 3#32
  let v5387 : BitVec 32 := Scalar.shrsi v5386 c3_i32_2687
  let c3_i32_2688 : BitVec 32 := 3#32
  let v5388 : BitVec 32 := Scalar.shli v5387 c3_i32_2688
  v5388

def k0_off600 (v5386 : BitVec 32) : Fin 2 → Nat :=
  let c3_i32_2687 : BitVec 32 := 3#32
  let v5387 : BitVec 32 := Scalar.shrsi v5386 c3_i32_2687
  let c3_i32_2688 : BitVec 32 := 3#32
  let v5388 : BitVec 32 := Scalar.shli v5387 c3_i32_2688
  let v5389 : BitVec 32 := v5388
  let v5390 : Index := Scalar.indexCast v5389
  let c0_2689 : Index := 0#32
  ![v5390.toNat, 0]

def k0_chk300 (v5386 : BitVec 32) : Prop :=
  (8 ∣ (k0_mult300 v5386).toNat) ∧
  (∀ a, (k0_off600 v5386) a + S8x128.size a ≤ S10000x128.size a)
theorem k0_mult300_dvd : ∀ (v5386 : BitVec 32) (k0_hw300 : k0_chk300 v5386), 8 ∣ (k0_mult300 v5386).toNat := fun v5386 k0_hw300 => k0_hw300.1
theorem k0_off600_inb : ∀ (v5386 : BitVec 32) (k0_hw300 : k0_chk300 v5386), ∀ a, (k0_off600 v5386) a + S8x128.size a ≤ S10000x128.size a := fun v5386 k0_hw300 => k0_hw300.2

def k0_off601 (i : grid0.Coords) : Fin 2 → Nat :=
  let arg0 : BitVec 32 := BitVec.ofNat 32 (i 0).val
  let c4_i32 : BitVec 32 := 4#32
  let v0 : BitVec 32 := Scalar.muli arg0 c4_i32
  let c2_i32_2694 : BitVec 32 := 2#32
  let v5402 : BitVec 32 := Scalar.addi v0 c2_i32_2694
  let v5403 : Index := Scalar.indexCast v5402
  let c44_2695 : Index := 44#32
  ![v5403.toNat, 44]
def k0_mult301 (v5404 : BitVec 32) : BitVec 32 :=
  let c3_i32_2696 : BitVec 32 := 3#32
  let v5405 : BitVec 32 := Scalar.shrsi v5404 c3_i32_2696
  let c3_i32_2697 : BitVec 32 := 3#32
  let v5406 : BitVec 32 := Scalar.shli v5405 c3_i32_2697
  v5406

def k0_off602 (v5404 : BitVec 32) : Fin 2 → Nat :=
  let c3_i32_2696 : BitVec 32 := 3#32
  let v5405 : BitVec 32 := Scalar.shrsi v5404 c3_i32_2696
  let c3_i32_2697 : BitVec 32 := 3#32
  let v5406 : BitVec 32 := Scalar.shli v5405 c3_i32_2697
  let v5407 : BitVec 32 := v5406
  let v5408 : Index := Scalar.indexCast v5407
  let c0_2698 : Index := 0#32
  ![v5408.toNat, 0]

def k0_chk301 (v5404 : BitVec 32) : Prop :=
  (8 ∣ (k0_mult301 v5404).toNat) ∧
  (∀ a, (k0_off602 v5404) a + S8x128.size a ≤ S10000x128.size a)
theorem k0_mult301_dvd : ∀ (v5404 : BitVec 32) (k0_hw301 : k0_chk301 v5404), 8 ∣ (k0_mult301 v5404).toNat := fun v5404 k0_hw301 => k0_hw301.1
theorem k0_off602_inb : ∀ (v5404 : BitVec 32) (k0_hw301 : k0_chk301 v5404), ∀ a, (k0_off602 v5404) a + S8x128.size a ≤ S10000x128.size a := fun v5404 k0_hw301 => k0_hw301.2

def k0_off603 (i : grid0.Coords) : Fin 2 → Nat :=
  let arg0 : BitVec 32 := BitVec.ofNat 32 (i 0).val
  let c4_i32 : BitVec 32 := 4#32
  let v0 : BitVec 32 := Scalar.muli arg0 c4_i32
  let c2_i32_2703 : BitVec 32 := 2#32
  let v5420 : BitVec 32 := Scalar.addi v0 c2_i32_2703
  let v5421 : Index := Scalar.indexCast v5420
  let c45_2704 : Index := 45#32
  ![v5421.toNat, 45]
def k0_mult302 (v5422 : BitVec 32) : BitVec 32 :=
  let c3_i32_2705 : BitVec 32 := 3#32
  let v5423 : BitVec 32 := Scalar.shrsi v5422 c3_i32_2705
  let c3_i32_2706 : BitVec 32 := 3#32
  let v5424 : BitVec 32 := Scalar.shli v5423 c3_i32_2706
  v5424

def k0_off604 (v5422 : BitVec 32) : Fin 2 → Nat :=
  let c3_i32_2705 : BitVec 32 := 3#32
  let v5423 : BitVec 32 := Scalar.shrsi v5422 c3_i32_2705
  let c3_i32_2706 : BitVec 32 := 3#32
  let v5424 : BitVec 32 := Scalar.shli v5423 c3_i32_2706
  let v5425 : BitVec 32 := v5424
  let v5426 : Index := Scalar.indexCast v5425
  let c0_2707 : Index := 0#32
  ![v5426.toNat, 0]

def k0_chk302 (v5422 : BitVec 32) : Prop :=
  (8 ∣ (k0_mult302 v5422).toNat) ∧
  (∀ a, (k0_off604 v5422) a + S8x128.size a ≤ S10000x128.size a)
theorem k0_mult302_dvd : ∀ (v5422 : BitVec 32) (k0_hw302 : k0_chk302 v5422), 8 ∣ (k0_mult302 v5422).toNat := fun v5422 k0_hw302 => k0_hw302.1
theorem k0_off604_inb : ∀ (v5422 : BitVec 32) (k0_hw302 : k0_chk302 v5422), ∀ a, (k0_off604 v5422) a + S8x128.size a ≤ S10000x128.size a := fun v5422 k0_hw302 => k0_hw302.2

def k0_off605 (i : grid0.Coords) : Fin 2 → Nat :=
  let arg0 : BitVec 32 := BitVec.ofNat 32 (i 0).val
  let c4_i32 : BitVec 32 := 4#32
  let v0 : BitVec 32 := Scalar.muli arg0 c4_i32
  let c2_i32_2712 : BitVec 32 := 2#32
  let v5438 : BitVec 32 := Scalar.addi v0 c2_i32_2712
  let v5439 : Index := Scalar.indexCast v5438
  let c46_2713 : Index := 46#32
  ![v5439.toNat, 46]
def k0_mult303 (v5440 : BitVec 32) : BitVec 32 :=
  let c3_i32_2714 : BitVec 32 := 3#32
  let v5441 : BitVec 32 := Scalar.shrsi v5440 c3_i32_2714
  let c3_i32_2715 : BitVec 32 := 3#32
  let v5442 : BitVec 32 := Scalar.shli v5441 c3_i32_2715
  v5442

def k0_off606 (v5440 : BitVec 32) : Fin 2 → Nat :=
  let c3_i32_2714 : BitVec 32 := 3#32
  let v5441 : BitVec 32 := Scalar.shrsi v5440 c3_i32_2714
  let c3_i32_2715 : BitVec 32 := 3#32
  let v5442 : BitVec 32 := Scalar.shli v5441 c3_i32_2715
  let v5443 : BitVec 32 := v5442
  let v5444 : Index := Scalar.indexCast v5443
  let c0_2716 : Index := 0#32
  ![v5444.toNat, 0]

def k0_chk303 (v5440 : BitVec 32) : Prop :=
  (8 ∣ (k0_mult303 v5440).toNat) ∧
  (∀ a, (k0_off606 v5440) a + S8x128.size a ≤ S10000x128.size a)
theorem k0_mult303_dvd : ∀ (v5440 : BitVec 32) (k0_hw303 : k0_chk303 v5440), 8 ∣ (k0_mult303 v5440).toNat := fun v5440 k0_hw303 => k0_hw303.1
theorem k0_off606_inb : ∀ (v5440 : BitVec 32) (k0_hw303 : k0_chk303 v5440), ∀ a, (k0_off606 v5440) a + S8x128.size a ≤ S10000x128.size a := fun v5440 k0_hw303 => k0_hw303.2

def k0_off607 (i : grid0.Coords) : Fin 2 → Nat :=
  let arg0 : BitVec 32 := BitVec.ofNat 32 (i 0).val
  let c4_i32 : BitVec 32 := 4#32
  let v0 : BitVec 32 := Scalar.muli arg0 c4_i32
  let c2_i32_2721 : BitVec 32 := 2#32
  let v5456 : BitVec 32 := Scalar.addi v0 c2_i32_2721
  let v5457 : Index := Scalar.indexCast v5456
  let c47_2722 : Index := 47#32
  ![v5457.toNat, 47]
def k0_mult304 (v5458 : BitVec 32) : BitVec 32 :=
  let c3_i32_2723 : BitVec 32 := 3#32
  let v5459 : BitVec 32 := Scalar.shrsi v5458 c3_i32_2723
  let c3_i32_2724 : BitVec 32 := 3#32
  let v5460 : BitVec 32 := Scalar.shli v5459 c3_i32_2724
  v5460

def k0_off608 (v5458 : BitVec 32) : Fin 2 → Nat :=
  let c3_i32_2723 : BitVec 32 := 3#32
  let v5459 : BitVec 32 := Scalar.shrsi v5458 c3_i32_2723
  let c3_i32_2724 : BitVec 32 := 3#32
  let v5460 : BitVec 32 := Scalar.shli v5459 c3_i32_2724
  let v5461 : BitVec 32 := v5460
  let v5462 : Index := Scalar.indexCast v5461
  let c0_2725 : Index := 0#32
  ![v5462.toNat, 0]

def k0_chk304 (v5458 : BitVec 32) : Prop :=
  (8 ∣ (k0_mult304 v5458).toNat) ∧
  (∀ a, (k0_off608 v5458) a + S8x128.size a ≤ S10000x128.size a)
theorem k0_mult304_dvd : ∀ (v5458 : BitVec 32) (k0_hw304 : k0_chk304 v5458), 8 ∣ (k0_mult304 v5458).toNat := fun v5458 k0_hw304 => k0_hw304.1
theorem k0_off608_inb : ∀ (v5458 : BitVec 32) (k0_hw304 : k0_chk304 v5458), ∀ a, (k0_off608 v5458) a + S8x128.size a ≤ S10000x128.size a := fun v5458 k0_hw304 => k0_hw304.2

def k0_off609 (i : grid0.Coords) : Fin 2 → Nat :=
  let arg0 : BitVec 32 := BitVec.ofNat 32 (i 0).val
  let c4_i32 : BitVec 32 := 4#32
  let v0 : BitVec 32 := Scalar.muli arg0 c4_i32
  let c2_i32_2730 : BitVec 32 := 2#32
  let v5474 : BitVec 32 := Scalar.addi v0 c2_i32_2730
  let v5475 : Index := Scalar.indexCast v5474
  let c48_2731 : Index := 48#32
  ![v5475.toNat, 48]
def k0_mult305 (v5476 : BitVec 32) : BitVec 32 :=
  let c3_i32_2732 : BitVec 32 := 3#32
  let v5477 : BitVec 32 := Scalar.shrsi v5476 c3_i32_2732
  let c3_i32_2733 : BitVec 32 := 3#32
  let v5478 : BitVec 32 := Scalar.shli v5477 c3_i32_2733
  v5478

def k0_off610 (v5476 : BitVec 32) : Fin 2 → Nat :=
  let c3_i32_2732 : BitVec 32 := 3#32
  let v5477 : BitVec 32 := Scalar.shrsi v5476 c3_i32_2732
  let c3_i32_2733 : BitVec 32 := 3#32
  let v5478 : BitVec 32 := Scalar.shli v5477 c3_i32_2733
  let v5479 : BitVec 32 := v5478
  let v5480 : Index := Scalar.indexCast v5479
  let c0_2734 : Index := 0#32
  ![v5480.toNat, 0]

def k0_chk305 (v5476 : BitVec 32) : Prop :=
  (8 ∣ (k0_mult305 v5476).toNat) ∧
  (∀ a, (k0_off610 v5476) a + S8x128.size a ≤ S10000x128.size a)
theorem k0_mult305_dvd : ∀ (v5476 : BitVec 32) (k0_hw305 : k0_chk305 v5476), 8 ∣ (k0_mult305 v5476).toNat := fun v5476 k0_hw305 => k0_hw305.1
theorem k0_off610_inb : ∀ (v5476 : BitVec 32) (k0_hw305 : k0_chk305 v5476), ∀ a, (k0_off610 v5476) a + S8x128.size a ≤ S10000x128.size a := fun v5476 k0_hw305 => k0_hw305.2

def k0_off611 (i : grid0.Coords) : Fin 2 → Nat :=
  let arg0 : BitVec 32 := BitVec.ofNat 32 (i 0).val
  let c4_i32 : BitVec 32 := 4#32
  let v0 : BitVec 32 := Scalar.muli arg0 c4_i32
  let c2_i32_2739 : BitVec 32 := 2#32
  let v5492 : BitVec 32 := Scalar.addi v0 c2_i32_2739
  let v5493 : Index := Scalar.indexCast v5492
  let c49_2740 : Index := 49#32
  ![v5493.toNat, 49]
def k0_mult306 (v5494 : BitVec 32) : BitVec 32 :=
  let c3_i32_2741 : BitVec 32 := 3#32
  let v5495 : BitVec 32 := Scalar.shrsi v5494 c3_i32_2741
  let c3_i32_2742 : BitVec 32 := 3#32
  let v5496 : BitVec 32 := Scalar.shli v5495 c3_i32_2742
  v5496

def k0_off612 (v5494 : BitVec 32) : Fin 2 → Nat :=
  let c3_i32_2741 : BitVec 32 := 3#32
  let v5495 : BitVec 32 := Scalar.shrsi v5494 c3_i32_2741
  let c3_i32_2742 : BitVec 32 := 3#32
  let v5496 : BitVec 32 := Scalar.shli v5495 c3_i32_2742
  let v5497 : BitVec 32 := v5496
  let v5498 : Index := Scalar.indexCast v5497
  let c0_2743 : Index := 0#32
  ![v5498.toNat, 0]

def k0_chk306 (v5494 : BitVec 32) : Prop :=
  (8 ∣ (k0_mult306 v5494).toNat) ∧
  (∀ a, (k0_off612 v5494) a + S8x128.size a ≤ S10000x128.size a)
theorem k0_mult306_dvd : ∀ (v5494 : BitVec 32) (k0_hw306 : k0_chk306 v5494), 8 ∣ (k0_mult306 v5494).toNat := fun v5494 k0_hw306 => k0_hw306.1
theorem k0_off612_inb : ∀ (v5494 : BitVec 32) (k0_hw306 : k0_chk306 v5494), ∀ a, (k0_off612 v5494) a + S8x128.size a ≤ S10000x128.size a := fun v5494 k0_hw306 => k0_hw306.2

def k0_off613 (i : grid0.Coords) : Fin 2 → Nat :=
  let arg0 : BitVec 32 := BitVec.ofNat 32 (i 0).val
  let c4_i32 : BitVec 32 := 4#32
  let v0 : BitVec 32 := Scalar.muli arg0 c4_i32
  let c2_i32_2748 : BitVec 32 := 2#32
  let v5510 : BitVec 32 := Scalar.addi v0 c2_i32_2748
  let v5511 : Index := Scalar.indexCast v5510
  let c50_2749 : Index := 50#32
  ![v5511.toNat, 50]
def k0_mult307 (v5512 : BitVec 32) : BitVec 32 :=
  let c3_i32_2750 : BitVec 32 := 3#32
  let v5513 : BitVec 32 := Scalar.shrsi v5512 c3_i32_2750
  let c3_i32_2751 : BitVec 32 := 3#32
  let v5514 : BitVec 32 := Scalar.shli v5513 c3_i32_2751
  v5514

def k0_off614 (v5512 : BitVec 32) : Fin 2 → Nat :=
  let c3_i32_2750 : BitVec 32 := 3#32
  let v5513 : BitVec 32 := Scalar.shrsi v5512 c3_i32_2750
  let c3_i32_2751 : BitVec 32 := 3#32
  let v5514 : BitVec 32 := Scalar.shli v5513 c3_i32_2751
  let v5515 : BitVec 32 := v5514
  let v5516 : Index := Scalar.indexCast v5515
  let c0_2752 : Index := 0#32
  ![v5516.toNat, 0]

def k0_chk307 (v5512 : BitVec 32) : Prop :=
  (8 ∣ (k0_mult307 v5512).toNat) ∧
  (∀ a, (k0_off614 v5512) a + S8x128.size a ≤ S10000x128.size a)
theorem k0_mult307_dvd : ∀ (v5512 : BitVec 32) (k0_hw307 : k0_chk307 v5512), 8 ∣ (k0_mult307 v5512).toNat := fun v5512 k0_hw307 => k0_hw307.1
theorem k0_off614_inb : ∀ (v5512 : BitVec 32) (k0_hw307 : k0_chk307 v5512), ∀ a, (k0_off614 v5512) a + S8x128.size a ≤ S10000x128.size a := fun v5512 k0_hw307 => k0_hw307.2

def k0_off615 (i : grid0.Coords) : Fin 2 → Nat :=
  let arg0 : BitVec 32 := BitVec.ofNat 32 (i 0).val
  let c4_i32 : BitVec 32 := 4#32
  let v0 : BitVec 32 := Scalar.muli arg0 c4_i32
  let c2_i32_2757 : BitVec 32 := 2#32
  let v5528 : BitVec 32 := Scalar.addi v0 c2_i32_2757
  let v5529 : Index := Scalar.indexCast v5528
  let c51_2758 : Index := 51#32
  ![v5529.toNat, 51]
def k0_mult308 (v5530 : BitVec 32) : BitVec 32 :=
  let c3_i32_2759 : BitVec 32 := 3#32
  let v5531 : BitVec 32 := Scalar.shrsi v5530 c3_i32_2759
  let c3_i32_2760 : BitVec 32 := 3#32
  let v5532 : BitVec 32 := Scalar.shli v5531 c3_i32_2760
  v5532

def k0_off616 (v5530 : BitVec 32) : Fin 2 → Nat :=
  let c3_i32_2759 : BitVec 32 := 3#32
  let v5531 : BitVec 32 := Scalar.shrsi v5530 c3_i32_2759
  let c3_i32_2760 : BitVec 32 := 3#32
  let v5532 : BitVec 32 := Scalar.shli v5531 c3_i32_2760
  let v5533 : BitVec 32 := v5532
  let v5534 : Index := Scalar.indexCast v5533
  let c0_2761 : Index := 0#32
  ![v5534.toNat, 0]

def k0_chk308 (v5530 : BitVec 32) : Prop :=
  (8 ∣ (k0_mult308 v5530).toNat) ∧
  (∀ a, (k0_off616 v5530) a + S8x128.size a ≤ S10000x128.size a)
theorem k0_mult308_dvd : ∀ (v5530 : BitVec 32) (k0_hw308 : k0_chk308 v5530), 8 ∣ (k0_mult308 v5530).toNat := fun v5530 k0_hw308 => k0_hw308.1
theorem k0_off616_inb : ∀ (v5530 : BitVec 32) (k0_hw308 : k0_chk308 v5530), ∀ a, (k0_off616 v5530) a + S8x128.size a ≤ S10000x128.size a := fun v5530 k0_hw308 => k0_hw308.2

def k0_off617 (i : grid0.Coords) : Fin 2 → Nat :=
  let arg0 : BitVec 32 := BitVec.ofNat 32 (i 0).val
  let c4_i32 : BitVec 32 := 4#32
  let v0 : BitVec 32 := Scalar.muli arg0 c4_i32
  let c2_i32_2766 : BitVec 32 := 2#32
  let v5546 : BitVec 32 := Scalar.addi v0 c2_i32_2766
  let v5547 : Index := Scalar.indexCast v5546
  let c52_2767 : Index := 52#32
  ![v5547.toNat, 52]
def k0_mult309 (v5548 : BitVec 32) : BitVec 32 :=
  let c3_i32_2768 : BitVec 32 := 3#32
  let v5549 : BitVec 32 := Scalar.shrsi v5548 c3_i32_2768
  let c3_i32_2769 : BitVec 32 := 3#32
  let v5550 : BitVec 32 := Scalar.shli v5549 c3_i32_2769
  v5550

def k0_off618 (v5548 : BitVec 32) : Fin 2 → Nat :=
  let c3_i32_2768 : BitVec 32 := 3#32
  let v5549 : BitVec 32 := Scalar.shrsi v5548 c3_i32_2768
  let c3_i32_2769 : BitVec 32 := 3#32
  let v5550 : BitVec 32 := Scalar.shli v5549 c3_i32_2769
  let v5551 : BitVec 32 := v5550
  let v5552 : Index := Scalar.indexCast v5551
  let c0_2770 : Index := 0#32
  ![v5552.toNat, 0]

def k0_chk309 (v5548 : BitVec 32) : Prop :=
  (8 ∣ (k0_mult309 v5548).toNat) ∧
  (∀ a, (k0_off618 v5548) a + S8x128.size a ≤ S10000x128.size a)
theorem k0_mult309_dvd : ∀ (v5548 : BitVec 32) (k0_hw309 : k0_chk309 v5548), 8 ∣ (k0_mult309 v5548).toNat := fun v5548 k0_hw309 => k0_hw309.1
theorem k0_off618_inb : ∀ (v5548 : BitVec 32) (k0_hw309 : k0_chk309 v5548), ∀ a, (k0_off618 v5548) a + S8x128.size a ≤ S10000x128.size a := fun v5548 k0_hw309 => k0_hw309.2

def k0_off619 (i : grid0.Coords) : Fin 2 → Nat :=
  let arg0 : BitVec 32 := BitVec.ofNat 32 (i 0).val
  let c4_i32 : BitVec 32 := 4#32
  let v0 : BitVec 32 := Scalar.muli arg0 c4_i32
  let c2_i32_2775 : BitVec 32 := 2#32
  let v5564 : BitVec 32 := Scalar.addi v0 c2_i32_2775
  let v5565 : Index := Scalar.indexCast v5564
  let c53_2776 : Index := 53#32
  ![v5565.toNat, 53]
def k0_mult310 (v5566 : BitVec 32) : BitVec 32 :=
  let c3_i32_2777 : BitVec 32 := 3#32
  let v5567 : BitVec 32 := Scalar.shrsi v5566 c3_i32_2777
  let c3_i32_2778 : BitVec 32 := 3#32
  let v5568 : BitVec 32 := Scalar.shli v5567 c3_i32_2778
  v5568

def k0_off620 (v5566 : BitVec 32) : Fin 2 → Nat :=
  let c3_i32_2777 : BitVec 32 := 3#32
  let v5567 : BitVec 32 := Scalar.shrsi v5566 c3_i32_2777
  let c3_i32_2778 : BitVec 32 := 3#32
  let v5568 : BitVec 32 := Scalar.shli v5567 c3_i32_2778
  let v5569 : BitVec 32 := v5568
  let v5570 : Index := Scalar.indexCast v5569
  let c0_2779 : Index := 0#32
  ![v5570.toNat, 0]

def k0_chk310 (v5566 : BitVec 32) : Prop :=
  (8 ∣ (k0_mult310 v5566).toNat) ∧
  (∀ a, (k0_off620 v5566) a + S8x128.size a ≤ S10000x128.size a)
theorem k0_mult310_dvd : ∀ (v5566 : BitVec 32) (k0_hw310 : k0_chk310 v5566), 8 ∣ (k0_mult310 v5566).toNat := fun v5566 k0_hw310 => k0_hw310.1
theorem k0_off620_inb : ∀ (v5566 : BitVec 32) (k0_hw310 : k0_chk310 v5566), ∀ a, (k0_off620 v5566) a + S8x128.size a ≤ S10000x128.size a := fun v5566 k0_hw310 => k0_hw310.2

def k0_off621 (i : grid0.Coords) : Fin 2 → Nat :=
  let arg0 : BitVec 32 := BitVec.ofNat 32 (i 0).val
  let c4_i32 : BitVec 32 := 4#32
  let v0 : BitVec 32 := Scalar.muli arg0 c4_i32
  let c2_i32_2784 : BitVec 32 := 2#32
  let v5582 : BitVec 32 := Scalar.addi v0 c2_i32_2784
  let v5583 : Index := Scalar.indexCast v5582
  let c54_2785 : Index := 54#32
  ![v5583.toNat, 54]
def k0_mult311 (v5584 : BitVec 32) : BitVec 32 :=
  let c3_i32_2786 : BitVec 32 := 3#32
  let v5585 : BitVec 32 := Scalar.shrsi v5584 c3_i32_2786
  let c3_i32_2787 : BitVec 32 := 3#32
  let v5586 : BitVec 32 := Scalar.shli v5585 c3_i32_2787
  v5586

def k0_off622 (v5584 : BitVec 32) : Fin 2 → Nat :=
  let c3_i32_2786 : BitVec 32 := 3#32
  let v5585 : BitVec 32 := Scalar.shrsi v5584 c3_i32_2786
  let c3_i32_2787 : BitVec 32 := 3#32
  let v5586 : BitVec 32 := Scalar.shli v5585 c3_i32_2787
  let v5587 : BitVec 32 := v5586
  let v5588 : Index := Scalar.indexCast v5587
  let c0_2788 : Index := 0#32
  ![v5588.toNat, 0]

def k0_chk311 (v5584 : BitVec 32) : Prop :=
  (8 ∣ (k0_mult311 v5584).toNat) ∧
  (∀ a, (k0_off622 v5584) a + S8x128.size a ≤ S10000x128.size a)
theorem k0_mult311_dvd : ∀ (v5584 : BitVec 32) (k0_hw311 : k0_chk311 v5584), 8 ∣ (k0_mult311 v5584).toNat := fun v5584 k0_hw311 => k0_hw311.1
theorem k0_off622_inb : ∀ (v5584 : BitVec 32) (k0_hw311 : k0_chk311 v5584), ∀ a, (k0_off622 v5584) a + S8x128.size a ≤ S10000x128.size a := fun v5584 k0_hw311 => k0_hw311.2

def k0_off623 (i : grid0.Coords) : Fin 2 → Nat :=
  let arg0 : BitVec 32 := BitVec.ofNat 32 (i 0).val
  let c4_i32 : BitVec 32 := 4#32
  let v0 : BitVec 32 := Scalar.muli arg0 c4_i32
  let c2_i32_2793 : BitVec 32 := 2#32
  let v5600 : BitVec 32 := Scalar.addi v0 c2_i32_2793
  let v5601 : Index := Scalar.indexCast v5600
  let c55_2794 : Index := 55#32
  ![v5601.toNat, 55]
def k0_mult312 (v5602 : BitVec 32) : BitVec 32 :=
  let c3_i32_2795 : BitVec 32 := 3#32
  let v5603 : BitVec 32 := Scalar.shrsi v5602 c3_i32_2795
  let c3_i32_2796 : BitVec 32 := 3#32
  let v5604 : BitVec 32 := Scalar.shli v5603 c3_i32_2796
  v5604

def k0_off624 (v5602 : BitVec 32) : Fin 2 → Nat :=
  let c3_i32_2795 : BitVec 32 := 3#32
  let v5603 : BitVec 32 := Scalar.shrsi v5602 c3_i32_2795
  let c3_i32_2796 : BitVec 32 := 3#32
  let v5604 : BitVec 32 := Scalar.shli v5603 c3_i32_2796
  let v5605 : BitVec 32 := v5604
  let v5606 : Index := Scalar.indexCast v5605
  let c0_2797 : Index := 0#32
  ![v5606.toNat, 0]

def k0_chk312 (v5602 : BitVec 32) : Prop :=
  (8 ∣ (k0_mult312 v5602).toNat) ∧
  (∀ a, (k0_off624 v5602) a + S8x128.size a ≤ S10000x128.size a)
theorem k0_mult312_dvd : ∀ (v5602 : BitVec 32) (k0_hw312 : k0_chk312 v5602), 8 ∣ (k0_mult312 v5602).toNat := fun v5602 k0_hw312 => k0_hw312.1
theorem k0_off624_inb : ∀ (v5602 : BitVec 32) (k0_hw312 : k0_chk312 v5602), ∀ a, (k0_off624 v5602) a + S8x128.size a ≤ S10000x128.size a := fun v5602 k0_hw312 => k0_hw312.2

def k0_off625 (i : grid0.Coords) : Fin 2 → Nat :=
  let arg0 : BitVec 32 := BitVec.ofNat 32 (i 0).val
  let c4_i32 : BitVec 32 := 4#32
  let v0 : BitVec 32 := Scalar.muli arg0 c4_i32
  let c2_i32_2802 : BitVec 32 := 2#32
  let v5618 : BitVec 32 := Scalar.addi v0 c2_i32_2802
  let v5619 : Index := Scalar.indexCast v5618
  let c56_2803 : Index := 56#32
  ![v5619.toNat, 56]
def k0_mult313 (v5620 : BitVec 32) : BitVec 32 :=
  let c3_i32_2804 : BitVec 32 := 3#32
  let v5621 : BitVec 32 := Scalar.shrsi v5620 c3_i32_2804
  let c3_i32_2805 : BitVec 32 := 3#32
  let v5622 : BitVec 32 := Scalar.shli v5621 c3_i32_2805
  v5622

def k0_off626 (v5620 : BitVec 32) : Fin 2 → Nat :=
  let c3_i32_2804 : BitVec 32 := 3#32
  let v5621 : BitVec 32 := Scalar.shrsi v5620 c3_i32_2804
  let c3_i32_2805 : BitVec 32 := 3#32
  let v5622 : BitVec 32 := Scalar.shli v5621 c3_i32_2805
  let v5623 : BitVec 32 := v5622
  let v5624 : Index := Scalar.indexCast v5623
  let c0_2806 : Index := 0#32
  ![v5624.toNat, 0]

def k0_chk313 (v5620 : BitVec 32) : Prop :=
  (8 ∣ (k0_mult313 v5620).toNat) ∧
  (∀ a, (k0_off626 v5620) a + S8x128.size a ≤ S10000x128.size a)
theorem k0_mult313_dvd : ∀ (v5620 : BitVec 32) (k0_hw313 : k0_chk313 v5620), 8 ∣ (k0_mult313 v5620).toNat := fun v5620 k0_hw313 => k0_hw313.1
theorem k0_off626_inb : ∀ (v5620 : BitVec 32) (k0_hw313 : k0_chk313 v5620), ∀ a, (k0_off626 v5620) a + S8x128.size a ≤ S10000x128.size a := fun v5620 k0_hw313 => k0_hw313.2

def k0_off627 (i : grid0.Coords) : Fin 2 → Nat :=
  let arg0 : BitVec 32 := BitVec.ofNat 32 (i 0).val
  let c4_i32 : BitVec 32 := 4#32
  let v0 : BitVec 32 := Scalar.muli arg0 c4_i32
  let c2_i32_2811 : BitVec 32 := 2#32
  let v5636 : BitVec 32 := Scalar.addi v0 c2_i32_2811
  let v5637 : Index := Scalar.indexCast v5636
  let c57_2812 : Index := 57#32
  ![v5637.toNat, 57]
def k0_mult314 (v5638 : BitVec 32) : BitVec 32 :=
  let c3_i32_2813 : BitVec 32 := 3#32
  let v5639 : BitVec 32 := Scalar.shrsi v5638 c3_i32_2813
  let c3_i32_2814 : BitVec 32 := 3#32
  let v5640 : BitVec 32 := Scalar.shli v5639 c3_i32_2814
  v5640

def k0_off628 (v5638 : BitVec 32) : Fin 2 → Nat :=
  let c3_i32_2813 : BitVec 32 := 3#32
  let v5639 : BitVec 32 := Scalar.shrsi v5638 c3_i32_2813
  let c3_i32_2814 : BitVec 32 := 3#32
  let v5640 : BitVec 32 := Scalar.shli v5639 c3_i32_2814
  let v5641 : BitVec 32 := v5640
  let v5642 : Index := Scalar.indexCast v5641
  let c0_2815 : Index := 0#32
  ![v5642.toNat, 0]

def k0_chk314 (v5638 : BitVec 32) : Prop :=
  (8 ∣ (k0_mult314 v5638).toNat) ∧
  (∀ a, (k0_off628 v5638) a + S8x128.size a ≤ S10000x128.size a)
theorem k0_mult314_dvd : ∀ (v5638 : BitVec 32) (k0_hw314 : k0_chk314 v5638), 8 ∣ (k0_mult314 v5638).toNat := fun v5638 k0_hw314 => k0_hw314.1
theorem k0_off628_inb : ∀ (v5638 : BitVec 32) (k0_hw314 : k0_chk314 v5638), ∀ a, (k0_off628 v5638) a + S8x128.size a ≤ S10000x128.size a := fun v5638 k0_hw314 => k0_hw314.2

def k0_off629 (i : grid0.Coords) : Fin 2 → Nat :=
  let arg0 : BitVec 32 := BitVec.ofNat 32 (i 0).val
  let c4_i32 : BitVec 32 := 4#32
  let v0 : BitVec 32 := Scalar.muli arg0 c4_i32
  let c2_i32_2820 : BitVec 32 := 2#32
  let v5654 : BitVec 32 := Scalar.addi v0 c2_i32_2820
  let v5655 : Index := Scalar.indexCast v5654
  let c58_2821 : Index := 58#32
  ![v5655.toNat, 58]
def k0_mult315 (v5656 : BitVec 32) : BitVec 32 :=
  let c3_i32_2822 : BitVec 32 := 3#32
  let v5657 : BitVec 32 := Scalar.shrsi v5656 c3_i32_2822
  let c3_i32_2823 : BitVec 32 := 3#32
  let v5658 : BitVec 32 := Scalar.shli v5657 c3_i32_2823
  v5658

def k0_off630 (v5656 : BitVec 32) : Fin 2 → Nat :=
  let c3_i32_2822 : BitVec 32 := 3#32
  let v5657 : BitVec 32 := Scalar.shrsi v5656 c3_i32_2822
  let c3_i32_2823 : BitVec 32 := 3#32
  let v5658 : BitVec 32 := Scalar.shli v5657 c3_i32_2823
  let v5659 : BitVec 32 := v5658
  let v5660 : Index := Scalar.indexCast v5659
  let c0_2824 : Index := 0#32
  ![v5660.toNat, 0]

def k0_chk315 (v5656 : BitVec 32) : Prop :=
  (8 ∣ (k0_mult315 v5656).toNat) ∧
  (∀ a, (k0_off630 v5656) a + S8x128.size a ≤ S10000x128.size a)
theorem k0_mult315_dvd : ∀ (v5656 : BitVec 32) (k0_hw315 : k0_chk315 v5656), 8 ∣ (k0_mult315 v5656).toNat := fun v5656 k0_hw315 => k0_hw315.1
theorem k0_off630_inb : ∀ (v5656 : BitVec 32) (k0_hw315 : k0_chk315 v5656), ∀ a, (k0_off630 v5656) a + S8x128.size a ≤ S10000x128.size a := fun v5656 k0_hw315 => k0_hw315.2

def k0_off631 (i : grid0.Coords) : Fin 2 → Nat :=
  let arg0 : BitVec 32 := BitVec.ofNat 32 (i 0).val
  let c4_i32 : BitVec 32 := 4#32
  let v0 : BitVec 32 := Scalar.muli arg0 c4_i32
  let c2_i32_2829 : BitVec 32 := 2#32
  let v5672 : BitVec 32 := Scalar.addi v0 c2_i32_2829
  let v5673 : Index := Scalar.indexCast v5672
  let c59_2830 : Index := 59#32
  ![v5673.toNat, 59]
def k0_mult316 (v5674 : BitVec 32) : BitVec 32 :=
  let c3_i32_2831 : BitVec 32 := 3#32
  let v5675 : BitVec 32 := Scalar.shrsi v5674 c3_i32_2831
  let c3_i32_2832 : BitVec 32 := 3#32
  let v5676 : BitVec 32 := Scalar.shli v5675 c3_i32_2832
  v5676

def k0_off632 (v5674 : BitVec 32) : Fin 2 → Nat :=
  let c3_i32_2831 : BitVec 32 := 3#32
  let v5675 : BitVec 32 := Scalar.shrsi v5674 c3_i32_2831
  let c3_i32_2832 : BitVec 32 := 3#32
  let v5676 : BitVec 32 := Scalar.shli v5675 c3_i32_2832
  let v5677 : BitVec 32 := v5676
  let v5678 : Index := Scalar.indexCast v5677
  let c0_2833 : Index := 0#32
  ![v5678.toNat, 0]

def k0_chk316 (v5674 : BitVec 32) : Prop :=
  (8 ∣ (k0_mult316 v5674).toNat) ∧
  (∀ a, (k0_off632 v5674) a + S8x128.size a ≤ S10000x128.size a)
theorem k0_mult316_dvd : ∀ (v5674 : BitVec 32) (k0_hw316 : k0_chk316 v5674), 8 ∣ (k0_mult316 v5674).toNat := fun v5674 k0_hw316 => k0_hw316.1
theorem k0_off632_inb : ∀ (v5674 : BitVec 32) (k0_hw316 : k0_chk316 v5674), ∀ a, (k0_off632 v5674) a + S8x128.size a ≤ S10000x128.size a := fun v5674 k0_hw316 => k0_hw316.2

def k0_off633 (i : grid0.Coords) : Fin 2 → Nat :=
  let arg0 : BitVec 32 := BitVec.ofNat 32 (i 0).val
  let c4_i32 : BitVec 32 := 4#32
  let v0 : BitVec 32 := Scalar.muli arg0 c4_i32
  let c2_i32_2838 : BitVec 32 := 2#32
  let v5690 : BitVec 32 := Scalar.addi v0 c2_i32_2838
  let v5691 : Index := Scalar.indexCast v5690
  let c60_2839 : Index := 60#32
  ![v5691.toNat, 60]
def k0_mult317 (v5692 : BitVec 32) : BitVec 32 :=
  let c3_i32_2840 : BitVec 32 := 3#32
  let v5693 : BitVec 32 := Scalar.shrsi v5692 c3_i32_2840
  let c3_i32_2841 : BitVec 32 := 3#32
  let v5694 : BitVec 32 := Scalar.shli v5693 c3_i32_2841
  v5694

def k0_off634 (v5692 : BitVec 32) : Fin 2 → Nat :=
  let c3_i32_2840 : BitVec 32 := 3#32
  let v5693 : BitVec 32 := Scalar.shrsi v5692 c3_i32_2840
  let c3_i32_2841 : BitVec 32 := 3#32
  let v5694 : BitVec 32 := Scalar.shli v5693 c3_i32_2841
  let v5695 : BitVec 32 := v5694
  let v5696 : Index := Scalar.indexCast v5695
  let c0_2842 : Index := 0#32
  ![v5696.toNat, 0]

def k0_chk317 (v5692 : BitVec 32) : Prop :=
  (8 ∣ (k0_mult317 v5692).toNat) ∧
  (∀ a, (k0_off634 v5692) a + S8x128.size a ≤ S10000x128.size a)
theorem k0_mult317_dvd : ∀ (v5692 : BitVec 32) (k0_hw317 : k0_chk317 v5692), 8 ∣ (k0_mult317 v5692).toNat := fun v5692 k0_hw317 => k0_hw317.1
theorem k0_off634_inb : ∀ (v5692 : BitVec 32) (k0_hw317 : k0_chk317 v5692), ∀ a, (k0_off634 v5692) a + S8x128.size a ≤ S10000x128.size a := fun v5692 k0_hw317 => k0_hw317.2

def k0_off635 (i : grid0.Coords) : Fin 2 → Nat :=
  let arg0 : BitVec 32 := BitVec.ofNat 32 (i 0).val
  let c4_i32 : BitVec 32 := 4#32
  let v0 : BitVec 32 := Scalar.muli arg0 c4_i32
  let c2_i32_2847 : BitVec 32 := 2#32
  let v5708 : BitVec 32 := Scalar.addi v0 c2_i32_2847
  let v5709 : Index := Scalar.indexCast v5708
  let c61_2848 : Index := 61#32
  ![v5709.toNat, 61]
def k0_mult318 (v5710 : BitVec 32) : BitVec 32 :=
  let c3_i32_2849 : BitVec 32 := 3#32
  let v5711 : BitVec 32 := Scalar.shrsi v5710 c3_i32_2849
  let c3_i32_2850 : BitVec 32 := 3#32
  let v5712 : BitVec 32 := Scalar.shli v5711 c3_i32_2850
  v5712

def k0_off636 (v5710 : BitVec 32) : Fin 2 → Nat :=
  let c3_i32_2849 : BitVec 32 := 3#32
  let v5711 : BitVec 32 := Scalar.shrsi v5710 c3_i32_2849
  let c3_i32_2850 : BitVec 32 := 3#32
  let v5712 : BitVec 32 := Scalar.shli v5711 c3_i32_2850
  let v5713 : BitVec 32 := v5712
  let v5714 : Index := Scalar.indexCast v5713
  let c0_2851 : Index := 0#32
  ![v5714.toNat, 0]

def k0_chk318 (v5710 : BitVec 32) : Prop :=
  (8 ∣ (k0_mult318 v5710).toNat) ∧
  (∀ a, (k0_off636 v5710) a + S8x128.size a ≤ S10000x128.size a)
theorem k0_mult318_dvd : ∀ (v5710 : BitVec 32) (k0_hw318 : k0_chk318 v5710), 8 ∣ (k0_mult318 v5710).toNat := fun v5710 k0_hw318 => k0_hw318.1
theorem k0_off636_inb : ∀ (v5710 : BitVec 32) (k0_hw318 : k0_chk318 v5710), ∀ a, (k0_off636 v5710) a + S8x128.size a ≤ S10000x128.size a := fun v5710 k0_hw318 => k0_hw318.2

def k0_off637 (i : grid0.Coords) : Fin 2 → Nat :=
  let arg0 : BitVec 32 := BitVec.ofNat 32 (i 0).val
  let c4_i32 : BitVec 32 := 4#32
  let v0 : BitVec 32 := Scalar.muli arg0 c4_i32
  let c2_i32_2856 : BitVec 32 := 2#32
  let v5726 : BitVec 32 := Scalar.addi v0 c2_i32_2856
  let v5727 : Index := Scalar.indexCast v5726
  let c62_2857 : Index := 62#32
  ![v5727.toNat, 62]
def k0_mult319 (v5728 : BitVec 32) : BitVec 32 :=
  let c3_i32_2858 : BitVec 32 := 3#32
  let v5729 : BitVec 32 := Scalar.shrsi v5728 c3_i32_2858
  let c3_i32_2859 : BitVec 32 := 3#32
  let v5730 : BitVec 32 := Scalar.shli v5729 c3_i32_2859
  v5730

def k0_off638 (v5728 : BitVec 32) : Fin 2 → Nat :=
  let c3_i32_2858 : BitVec 32 := 3#32
  let v5729 : BitVec 32 := Scalar.shrsi v5728 c3_i32_2858
  let c3_i32_2859 : BitVec 32 := 3#32
  let v5730 : BitVec 32 := Scalar.shli v5729 c3_i32_2859
  let v5731 : BitVec 32 := v5730
  let v5732 : Index := Scalar.indexCast v5731
  let c0_2860 : Index := 0#32
  ![v5732.toNat, 0]

def k0_chk319 (v5728 : BitVec 32) : Prop :=
  (8 ∣ (k0_mult319 v5728).toNat) ∧
  (∀ a, (k0_off638 v5728) a + S8x128.size a ≤ S10000x128.size a)
theorem k0_mult319_dvd : ∀ (v5728 : BitVec 32) (k0_hw319 : k0_chk319 v5728), 8 ∣ (k0_mult319 v5728).toNat := fun v5728 k0_hw319 => k0_hw319.1
theorem k0_off638_inb : ∀ (v5728 : BitVec 32) (k0_hw319 : k0_chk319 v5728), ∀ a, (k0_off638 v5728) a + S8x128.size a ≤ S10000x128.size a := fun v5728 k0_hw319 => k0_hw319.2

def k0_off639 (i : grid0.Coords) : Fin 2 → Nat :=
  let arg0 : BitVec 32 := BitVec.ofNat 32 (i 0).val
  let c4_i32 : BitVec 32 := 4#32
  let v0 : BitVec 32 := Scalar.muli arg0 c4_i32
  let c2_i32_2865 : BitVec 32 := 2#32
  let v5744 : BitVec 32 := Scalar.addi v0 c2_i32_2865
  let v5745 : Index := Scalar.indexCast v5744
  let c63_2866 : Index := 63#32
  ![v5745.toNat, 63]
def k0_mult320 (v5746 : BitVec 32) : BitVec 32 :=
  let c3_i32_2867 : BitVec 32 := 3#32
  let v5747 : BitVec 32 := Scalar.shrsi v5746 c3_i32_2867
  let c3_i32_2868 : BitVec 32 := 3#32
  let v5748 : BitVec 32 := Scalar.shli v5747 c3_i32_2868
  v5748

def k0_off640 (v5746 : BitVec 32) : Fin 2 → Nat :=
  let c3_i32_2867 : BitVec 32 := 3#32
  let v5747 : BitVec 32 := Scalar.shrsi v5746 c3_i32_2867
  let c3_i32_2868 : BitVec 32 := 3#32
  let v5748 : BitVec 32 := Scalar.shli v5747 c3_i32_2868
  let v5749 : BitVec 32 := v5748
  let v5750 : Index := Scalar.indexCast v5749
  let c0_2869 : Index := 0#32
  ![v5750.toNat, 0]

def k0_chk320 (v5746 : BitVec 32) : Prop :=
  (8 ∣ (k0_mult320 v5746).toNat) ∧
  (∀ a, (k0_off640 v5746) a + S8x128.size a ≤ S10000x128.size a)
theorem k0_mult320_dvd : ∀ (v5746 : BitVec 32) (k0_hw320 : k0_chk320 v5746), 8 ∣ (k0_mult320 v5746).toNat := fun v5746 k0_hw320 => k0_hw320.1
theorem k0_off640_inb : ∀ (v5746 : BitVec 32) (k0_hw320 : k0_chk320 v5746), ∀ a, (k0_off640 v5746) a + S8x128.size a ≤ S10000x128.size a := fun v5746 k0_hw320 => k0_hw320.2

def k0_off641 (i : grid0.Coords) : Fin 2 → Nat :=
  let arg0 : BitVec 32 := BitVec.ofNat 32 (i 0).val
  let c4_i32 : BitVec 32 := 4#32
  let v0 : BitVec 32 := Scalar.muli arg0 c4_i32
  let c2_i32_2874 : BitVec 32 := 2#32
  let v5762 : BitVec 32 := Scalar.addi v0 c2_i32_2874
  let v5763 : Index := Scalar.indexCast v5762
  let c64_2875 : Index := 64#32
  ![v5763.toNat, 64]
def k0_mult321 (v5764 : BitVec 32) : BitVec 32 :=
  let c3_i32_2876 : BitVec 32 := 3#32
  let v5765 : BitVec 32 := Scalar.shrsi v5764 c3_i32_2876
  let c3_i32_2877 : BitVec 32 := 3#32
  let v5766 : BitVec 32 := Scalar.shli v5765 c3_i32_2877
  v5766

def k0_off642 (v5764 : BitVec 32) : Fin 2 → Nat :=
  let c3_i32_2876 : BitVec 32 := 3#32
  let v5765 : BitVec 32 := Scalar.shrsi v5764 c3_i32_2876
  let c3_i32_2877 : BitVec 32 := 3#32
  let v5766 : BitVec 32 := Scalar.shli v5765 c3_i32_2877
  let v5767 : BitVec 32 := v5766
  let v5768 : Index := Scalar.indexCast v5767
  let c0_2878 : Index := 0#32
  ![v5768.toNat, 0]

def k0_chk321 (v5764 : BitVec 32) : Prop :=
  (8 ∣ (k0_mult321 v5764).toNat) ∧
  (∀ a, (k0_off642 v5764) a + S8x128.size a ≤ S10000x128.size a)
theorem k0_mult321_dvd : ∀ (v5764 : BitVec 32) (k0_hw321 : k0_chk321 v5764), 8 ∣ (k0_mult321 v5764).toNat := fun v5764 k0_hw321 => k0_hw321.1
theorem k0_off642_inb : ∀ (v5764 : BitVec 32) (k0_hw321 : k0_chk321 v5764), ∀ a, (k0_off642 v5764) a + S8x128.size a ≤ S10000x128.size a := fun v5764 k0_hw321 => k0_hw321.2

def k0_off643 (i : grid0.Coords) : Fin 2 → Nat :=
  let arg0 : BitVec 32 := BitVec.ofNat 32 (i 0).val
  let c4_i32 : BitVec 32 := 4#32
  let v0 : BitVec 32 := Scalar.muli arg0 c4_i32
  let c2_i32_2883 : BitVec 32 := 2#32
  let v5780 : BitVec 32 := Scalar.addi v0 c2_i32_2883
  let v5781 : Index := Scalar.indexCast v5780
  let c65_2884 : Index := 65#32
  ![v5781.toNat, 65]
def k0_mult322 (v5782 : BitVec 32) : BitVec 32 :=
  let c3_i32_2885 : BitVec 32 := 3#32
  let v5783 : BitVec 32 := Scalar.shrsi v5782 c3_i32_2885
  let c3_i32_2886 : BitVec 32 := 3#32
  let v5784 : BitVec 32 := Scalar.shli v5783 c3_i32_2886
  v5784

def k0_off644 (v5782 : BitVec 32) : Fin 2 → Nat :=
  let c3_i32_2885 : BitVec 32 := 3#32
  let v5783 : BitVec 32 := Scalar.shrsi v5782 c3_i32_2885
  let c3_i32_2886 : BitVec 32 := 3#32
  let v5784 : BitVec 32 := Scalar.shli v5783 c3_i32_2886
  let v5785 : BitVec 32 := v5784
  let v5786 : Index := Scalar.indexCast v5785
  let c0_2887 : Index := 0#32
  ![v5786.toNat, 0]

def k0_chk322 (v5782 : BitVec 32) : Prop :=
  (8 ∣ (k0_mult322 v5782).toNat) ∧
  (∀ a, (k0_off644 v5782) a + S8x128.size a ≤ S10000x128.size a)
theorem k0_mult322_dvd : ∀ (v5782 : BitVec 32) (k0_hw322 : k0_chk322 v5782), 8 ∣ (k0_mult322 v5782).toNat := fun v5782 k0_hw322 => k0_hw322.1
theorem k0_off644_inb : ∀ (v5782 : BitVec 32) (k0_hw322 : k0_chk322 v5782), ∀ a, (k0_off644 v5782) a + S8x128.size a ≤ S10000x128.size a := fun v5782 k0_hw322 => k0_hw322.2

def k0_off645 (i : grid0.Coords) : Fin 2 → Nat :=
  let arg0 : BitVec 32 := BitVec.ofNat 32 (i 0).val
  let c4_i32 : BitVec 32 := 4#32
  let v0 : BitVec 32 := Scalar.muli arg0 c4_i32
  let c2_i32_2892 : BitVec 32 := 2#32
  let v5798 : BitVec 32 := Scalar.addi v0 c2_i32_2892
  let v5799 : Index := Scalar.indexCast v5798
  let c66_2893 : Index := 66#32
  ![v5799.toNat, 66]
def k0_mult323 (v5800 : BitVec 32) : BitVec 32 :=
  let c3_i32_2894 : BitVec 32 := 3#32
  let v5801 : BitVec 32 := Scalar.shrsi v5800 c3_i32_2894
  let c3_i32_2895 : BitVec 32 := 3#32
  let v5802 : BitVec 32 := Scalar.shli v5801 c3_i32_2895
  v5802

def k0_off646 (v5800 : BitVec 32) : Fin 2 → Nat :=
  let c3_i32_2894 : BitVec 32 := 3#32
  let v5801 : BitVec 32 := Scalar.shrsi v5800 c3_i32_2894
  let c3_i32_2895 : BitVec 32 := 3#32
  let v5802 : BitVec 32 := Scalar.shli v5801 c3_i32_2895
  let v5803 : BitVec 32 := v5802
  let v5804 : Index := Scalar.indexCast v5803
  let c0_2896 : Index := 0#32
  ![v5804.toNat, 0]

def k0_chk323 (v5800 : BitVec 32) : Prop :=
  (8 ∣ (k0_mult323 v5800).toNat) ∧
  (∀ a, (k0_off646 v5800) a + S8x128.size a ≤ S10000x128.size a)
theorem k0_mult323_dvd : ∀ (v5800 : BitVec 32) (k0_hw323 : k0_chk323 v5800), 8 ∣ (k0_mult323 v5800).toNat := fun v5800 k0_hw323 => k0_hw323.1
theorem k0_off646_inb : ∀ (v5800 : BitVec 32) (k0_hw323 : k0_chk323 v5800), ∀ a, (k0_off646 v5800) a + S8x128.size a ≤ S10000x128.size a := fun v5800 k0_hw323 => k0_hw323.2

def k0_off647 (i : grid0.Coords) : Fin 2 → Nat :=
  let arg0 : BitVec 32 := BitVec.ofNat 32 (i 0).val
  let c4_i32 : BitVec 32 := 4#32
  let v0 : BitVec 32 := Scalar.muli arg0 c4_i32
  let c2_i32_2901 : BitVec 32 := 2#32
  let v5816 : BitVec 32 := Scalar.addi v0 c2_i32_2901
  let v5817 : Index := Scalar.indexCast v5816
  let c67_2902 : Index := 67#32
  ![v5817.toNat, 67]
def k0_mult324 (v5818 : BitVec 32) : BitVec 32 :=
  let c3_i32_2903 : BitVec 32 := 3#32
  let v5819 : BitVec 32 := Scalar.shrsi v5818 c3_i32_2903
  let c3_i32_2904 : BitVec 32 := 3#32
  let v5820 : BitVec 32 := Scalar.shli v5819 c3_i32_2904
  v5820

def k0_off648 (v5818 : BitVec 32) : Fin 2 → Nat :=
  let c3_i32_2903 : BitVec 32 := 3#32
  let v5819 : BitVec 32 := Scalar.shrsi v5818 c3_i32_2903
  let c3_i32_2904 : BitVec 32 := 3#32
  let v5820 : BitVec 32 := Scalar.shli v5819 c3_i32_2904
  let v5821 : BitVec 32 := v5820
  let v5822 : Index := Scalar.indexCast v5821
  let c0_2905 : Index := 0#32
  ![v5822.toNat, 0]

def k0_chk324 (v5818 : BitVec 32) : Prop :=
  (8 ∣ (k0_mult324 v5818).toNat) ∧
  (∀ a, (k0_off648 v5818) a + S8x128.size a ≤ S10000x128.size a)
theorem k0_mult324_dvd : ∀ (v5818 : BitVec 32) (k0_hw324 : k0_chk324 v5818), 8 ∣ (k0_mult324 v5818).toNat := fun v5818 k0_hw324 => k0_hw324.1
theorem k0_off648_inb : ∀ (v5818 : BitVec 32) (k0_hw324 : k0_chk324 v5818), ∀ a, (k0_off648 v5818) a + S8x128.size a ≤ S10000x128.size a := fun v5818 k0_hw324 => k0_hw324.2

def k0_off649 (i : grid0.Coords) : Fin 2 → Nat :=
  let arg0 : BitVec 32 := BitVec.ofNat 32 (i 0).val
  let c4_i32 : BitVec 32 := 4#32
  let v0 : BitVec 32 := Scalar.muli arg0 c4_i32
  let c2_i32_2910 : BitVec 32 := 2#32
  let v5834 : BitVec 32 := Scalar.addi v0 c2_i32_2910
  let v5835 : Index := Scalar.indexCast v5834
  let c68_2911 : Index := 68#32
  ![v5835.toNat, 68]
def k0_mult325 (v5836 : BitVec 32) : BitVec 32 :=
  let c3_i32_2912 : BitVec 32 := 3#32
  let v5837 : BitVec 32 := Scalar.shrsi v5836 c3_i32_2912
  let c3_i32_2913 : BitVec 32 := 3#32
  let v5838 : BitVec 32 := Scalar.shli v5837 c3_i32_2913
  v5838

def k0_off650 (v5836 : BitVec 32) : Fin 2 → Nat :=
  let c3_i32_2912 : BitVec 32 := 3#32
  let v5837 : BitVec 32 := Scalar.shrsi v5836 c3_i32_2912
  let c3_i32_2913 : BitVec 32 := 3#32
  let v5838 : BitVec 32 := Scalar.shli v5837 c3_i32_2913
  let v5839 : BitVec 32 := v5838
  let v5840 : Index := Scalar.indexCast v5839
  let c0_2914 : Index := 0#32
  ![v5840.toNat, 0]

def k0_chk325 (v5836 : BitVec 32) : Prop :=
  (8 ∣ (k0_mult325 v5836).toNat) ∧
  (∀ a, (k0_off650 v5836) a + S8x128.size a ≤ S10000x128.size a)
theorem k0_mult325_dvd : ∀ (v5836 : BitVec 32) (k0_hw325 : k0_chk325 v5836), 8 ∣ (k0_mult325 v5836).toNat := fun v5836 k0_hw325 => k0_hw325.1
theorem k0_off650_inb : ∀ (v5836 : BitVec 32) (k0_hw325 : k0_chk325 v5836), ∀ a, (k0_off650 v5836) a + S8x128.size a ≤ S10000x128.size a := fun v5836 k0_hw325 => k0_hw325.2

def k0_off651 (i : grid0.Coords) : Fin 2 → Nat :=
  let arg0 : BitVec 32 := BitVec.ofNat 32 (i 0).val
  let c4_i32 : BitVec 32 := 4#32
  let v0 : BitVec 32 := Scalar.muli arg0 c4_i32
  let c2_i32_2919 : BitVec 32 := 2#32
  let v5852 : BitVec 32 := Scalar.addi v0 c2_i32_2919
  let v5853 : Index := Scalar.indexCast v5852
  let c69_2920 : Index := 69#32
  ![v5853.toNat, 69]
def k0_mult326 (v5854 : BitVec 32) : BitVec 32 :=
  let c3_i32_2921 : BitVec 32 := 3#32
  let v5855 : BitVec 32 := Scalar.shrsi v5854 c3_i32_2921
  let c3_i32_2922 : BitVec 32 := 3#32
  let v5856 : BitVec 32 := Scalar.shli v5855 c3_i32_2922
  v5856

def k0_off652 (v5854 : BitVec 32) : Fin 2 → Nat :=
  let c3_i32_2921 : BitVec 32 := 3#32
  let v5855 : BitVec 32 := Scalar.shrsi v5854 c3_i32_2921
  let c3_i32_2922 : BitVec 32 := 3#32
  let v5856 : BitVec 32 := Scalar.shli v5855 c3_i32_2922
  let v5857 : BitVec 32 := v5856
  let v5858 : Index := Scalar.indexCast v5857
  let c0_2923 : Index := 0#32
  ![v5858.toNat, 0]

def k0_chk326 (v5854 : BitVec 32) : Prop :=
  (8 ∣ (k0_mult326 v5854).toNat) ∧
  (∀ a, (k0_off652 v5854) a + S8x128.size a ≤ S10000x128.size a)
theorem k0_mult326_dvd : ∀ (v5854 : BitVec 32) (k0_hw326 : k0_chk326 v5854), 8 ∣ (k0_mult326 v5854).toNat := fun v5854 k0_hw326 => k0_hw326.1
theorem k0_off652_inb : ∀ (v5854 : BitVec 32) (k0_hw326 : k0_chk326 v5854), ∀ a, (k0_off652 v5854) a + S8x128.size a ≤ S10000x128.size a := fun v5854 k0_hw326 => k0_hw326.2

def k0_off653 (i : grid0.Coords) : Fin 2 → Nat :=
  let arg0 : BitVec 32 := BitVec.ofNat 32 (i 0).val
  let c4_i32 : BitVec 32 := 4#32
  let v0 : BitVec 32 := Scalar.muli arg0 c4_i32
  let c2_i32_2928 : BitVec 32 := 2#32
  let v5870 : BitVec 32 := Scalar.addi v0 c2_i32_2928
  let v5871 : Index := Scalar.indexCast v5870
  let c70_2929 : Index := 70#32
  ![v5871.toNat, 70]
def k0_mult327 (v5872 : BitVec 32) : BitVec 32 :=
  let c3_i32_2930 : BitVec 32 := 3#32
  let v5873 : BitVec 32 := Scalar.shrsi v5872 c3_i32_2930
  let c3_i32_2931 : BitVec 32 := 3#32
  let v5874 : BitVec 32 := Scalar.shli v5873 c3_i32_2931
  v5874

def k0_off654 (v5872 : BitVec 32) : Fin 2 → Nat :=
  let c3_i32_2930 : BitVec 32 := 3#32
  let v5873 : BitVec 32 := Scalar.shrsi v5872 c3_i32_2930
  let c3_i32_2931 : BitVec 32 := 3#32
  let v5874 : BitVec 32 := Scalar.shli v5873 c3_i32_2931
  let v5875 : BitVec 32 := v5874
  let v5876 : Index := Scalar.indexCast v5875
  let c0_2932 : Index := 0#32
  ![v5876.toNat, 0]

def k0_chk327 (v5872 : BitVec 32) : Prop :=
  (8 ∣ (k0_mult327 v5872).toNat) ∧
  (∀ a, (k0_off654 v5872) a + S8x128.size a ≤ S10000x128.size a)
theorem k0_mult327_dvd : ∀ (v5872 : BitVec 32) (k0_hw327 : k0_chk327 v5872), 8 ∣ (k0_mult327 v5872).toNat := fun v5872 k0_hw327 => k0_hw327.1
theorem k0_off654_inb : ∀ (v5872 : BitVec 32) (k0_hw327 : k0_chk327 v5872), ∀ a, (k0_off654 v5872) a + S8x128.size a ≤ S10000x128.size a := fun v5872 k0_hw327 => k0_hw327.2

def k0_off655 (i : grid0.Coords) : Fin 2 → Nat :=
  let arg0 : BitVec 32 := BitVec.ofNat 32 (i 0).val
  let c4_i32 : BitVec 32 := 4#32
  let v0 : BitVec 32 := Scalar.muli arg0 c4_i32
  let c2_i32_2937 : BitVec 32 := 2#32
  let v5888 : BitVec 32 := Scalar.addi v0 c2_i32_2937
  let v5889 : Index := Scalar.indexCast v5888
  let c71_2938 : Index := 71#32
  ![v5889.toNat, 71]
def k0_mult328 (v5890 : BitVec 32) : BitVec 32 :=
  let c3_i32_2939 : BitVec 32 := 3#32
  let v5891 : BitVec 32 := Scalar.shrsi v5890 c3_i32_2939
  let c3_i32_2940 : BitVec 32 := 3#32
  let v5892 : BitVec 32 := Scalar.shli v5891 c3_i32_2940
  v5892

def k0_off656 (v5890 : BitVec 32) : Fin 2 → Nat :=
  let c3_i32_2939 : BitVec 32 := 3#32
  let v5891 : BitVec 32 := Scalar.shrsi v5890 c3_i32_2939
  let c3_i32_2940 : BitVec 32 := 3#32
  let v5892 : BitVec 32 := Scalar.shli v5891 c3_i32_2940
  let v5893 : BitVec 32 := v5892
  let v5894 : Index := Scalar.indexCast v5893
  let c0_2941 : Index := 0#32
  ![v5894.toNat, 0]

def k0_chk328 (v5890 : BitVec 32) : Prop :=
  (8 ∣ (k0_mult328 v5890).toNat) ∧
  (∀ a, (k0_off656 v5890) a + S8x128.size a ≤ S10000x128.size a)
theorem k0_mult328_dvd : ∀ (v5890 : BitVec 32) (k0_hw328 : k0_chk328 v5890), 8 ∣ (k0_mult328 v5890).toNat := fun v5890 k0_hw328 => k0_hw328.1
theorem k0_off656_inb : ∀ (v5890 : BitVec 32) (k0_hw328 : k0_chk328 v5890), ∀ a, (k0_off656 v5890) a + S8x128.size a ≤ S10000x128.size a := fun v5890 k0_hw328 => k0_hw328.2

def k0_off657 (i : grid0.Coords) : Fin 2 → Nat :=
  let arg0 : BitVec 32 := BitVec.ofNat 32 (i 0).val
  let c4_i32 : BitVec 32 := 4#32
  let v0 : BitVec 32 := Scalar.muli arg0 c4_i32
  let c2_i32_2946 : BitVec 32 := 2#32
  let v5906 : BitVec 32 := Scalar.addi v0 c2_i32_2946
  let v5907 : Index := Scalar.indexCast v5906
  let c72_2947 : Index := 72#32
  ![v5907.toNat, 72]
def k0_mult329 (v5908 : BitVec 32) : BitVec 32 :=
  let c3_i32_2948 : BitVec 32 := 3#32
  let v5909 : BitVec 32 := Scalar.shrsi v5908 c3_i32_2948
  let c3_i32_2949 : BitVec 32 := 3#32
  let v5910 : BitVec 32 := Scalar.shli v5909 c3_i32_2949
  v5910

def k0_off658 (v5908 : BitVec 32) : Fin 2 → Nat :=
  let c3_i32_2948 : BitVec 32 := 3#32
  let v5909 : BitVec 32 := Scalar.shrsi v5908 c3_i32_2948
  let c3_i32_2949 : BitVec 32 := 3#32
  let v5910 : BitVec 32 := Scalar.shli v5909 c3_i32_2949
  let v5911 : BitVec 32 := v5910
  let v5912 : Index := Scalar.indexCast v5911
  let c0_2950 : Index := 0#32
  ![v5912.toNat, 0]

def k0_chk329 (v5908 : BitVec 32) : Prop :=
  (8 ∣ (k0_mult329 v5908).toNat) ∧
  (∀ a, (k0_off658 v5908) a + S8x128.size a ≤ S10000x128.size a)
theorem k0_mult329_dvd : ∀ (v5908 : BitVec 32) (k0_hw329 : k0_chk329 v5908), 8 ∣ (k0_mult329 v5908).toNat := fun v5908 k0_hw329 => k0_hw329.1
theorem k0_off658_inb : ∀ (v5908 : BitVec 32) (k0_hw329 : k0_chk329 v5908), ∀ a, (k0_off658 v5908) a + S8x128.size a ≤ S10000x128.size a := fun v5908 k0_hw329 => k0_hw329.2

def k0_off659 (i : grid0.Coords) : Fin 2 → Nat :=
  let arg0 : BitVec 32 := BitVec.ofNat 32 (i 0).val
  let c4_i32 : BitVec 32 := 4#32
  let v0 : BitVec 32 := Scalar.muli arg0 c4_i32
  let c2_i32_2955 : BitVec 32 := 2#32
  let v5924 : BitVec 32 := Scalar.addi v0 c2_i32_2955
  let v5925 : Index := Scalar.indexCast v5924
  let c73_2956 : Index := 73#32
  ![v5925.toNat, 73]
def k0_mult330 (v5926 : BitVec 32) : BitVec 32 :=
  let c3_i32_2957 : BitVec 32 := 3#32
  let v5927 : BitVec 32 := Scalar.shrsi v5926 c3_i32_2957
  let c3_i32_2958 : BitVec 32 := 3#32
  let v5928 : BitVec 32 := Scalar.shli v5927 c3_i32_2958
  v5928

def k0_off660 (v5926 : BitVec 32) : Fin 2 → Nat :=
  let c3_i32_2957 : BitVec 32 := 3#32
  let v5927 : BitVec 32 := Scalar.shrsi v5926 c3_i32_2957
  let c3_i32_2958 : BitVec 32 := 3#32
  let v5928 : BitVec 32 := Scalar.shli v5927 c3_i32_2958
  let v5929 : BitVec 32 := v5928
  let v5930 : Index := Scalar.indexCast v5929
  let c0_2959 : Index := 0#32
  ![v5930.toNat, 0]

def k0_chk330 (v5926 : BitVec 32) : Prop :=
  (8 ∣ (k0_mult330 v5926).toNat) ∧
  (∀ a, (k0_off660 v5926) a + S8x128.size a ≤ S10000x128.size a)
theorem k0_mult330_dvd : ∀ (v5926 : BitVec 32) (k0_hw330 : k0_chk330 v5926), 8 ∣ (k0_mult330 v5926).toNat := fun v5926 k0_hw330 => k0_hw330.1
theorem k0_off660_inb : ∀ (v5926 : BitVec 32) (k0_hw330 : k0_chk330 v5926), ∀ a, (k0_off660 v5926) a + S8x128.size a ≤ S10000x128.size a := fun v5926 k0_hw330 => k0_hw330.2

def k0_off661 (i : grid0.Coords) : Fin 2 → Nat :=
  let arg0 : BitVec 32 := BitVec.ofNat 32 (i 0).val
  let c4_i32 : BitVec 32 := 4#32
  let v0 : BitVec 32 := Scalar.muli arg0 c4_i32
  let c2_i32_2964 : BitVec 32 := 2#32
  let v5942 : BitVec 32 := Scalar.addi v0 c2_i32_2964
  let v5943 : Index := Scalar.indexCast v5942
  let c74_2965 : Index := 74#32
  ![v5943.toNat, 74]
def k0_mult331 (v5944 : BitVec 32) : BitVec 32 :=
  let c3_i32_2966 : BitVec 32 := 3#32
  let v5945 : BitVec 32 := Scalar.shrsi v5944 c3_i32_2966
  let c3_i32_2967 : BitVec 32 := 3#32
  let v5946 : BitVec 32 := Scalar.shli v5945 c3_i32_2967
  v5946

def k0_off662 (v5944 : BitVec 32) : Fin 2 → Nat :=
  let c3_i32_2966 : BitVec 32 := 3#32
  let v5945 : BitVec 32 := Scalar.shrsi v5944 c3_i32_2966
  let c3_i32_2967 : BitVec 32 := 3#32
  let v5946 : BitVec 32 := Scalar.shli v5945 c3_i32_2967
  let v5947 : BitVec 32 := v5946
  let v5948 : Index := Scalar.indexCast v5947
  let c0_2968 : Index := 0#32
  ![v5948.toNat, 0]

def k0_chk331 (v5944 : BitVec 32) : Prop :=
  (8 ∣ (k0_mult331 v5944).toNat) ∧
  (∀ a, (k0_off662 v5944) a + S8x128.size a ≤ S10000x128.size a)
theorem k0_mult331_dvd : ∀ (v5944 : BitVec 32) (k0_hw331 : k0_chk331 v5944), 8 ∣ (k0_mult331 v5944).toNat := fun v5944 k0_hw331 => k0_hw331.1
theorem k0_off662_inb : ∀ (v5944 : BitVec 32) (k0_hw331 : k0_chk331 v5944), ∀ a, (k0_off662 v5944) a + S8x128.size a ≤ S10000x128.size a := fun v5944 k0_hw331 => k0_hw331.2

def k0_off663 (i : grid0.Coords) : Fin 2 → Nat :=
  let arg0 : BitVec 32 := BitVec.ofNat 32 (i 0).val
  let c4_i32 : BitVec 32 := 4#32
  let v0 : BitVec 32 := Scalar.muli arg0 c4_i32
  let c2_i32_2973 : BitVec 32 := 2#32
  let v5960 : BitVec 32 := Scalar.addi v0 c2_i32_2973
  let v5961 : Index := Scalar.indexCast v5960
  let c75_2974 : Index := 75#32
  ![v5961.toNat, 75]
def k0_mult332 (v5962 : BitVec 32) : BitVec 32 :=
  let c3_i32_2975 : BitVec 32 := 3#32
  let v5963 : BitVec 32 := Scalar.shrsi v5962 c3_i32_2975
  let c3_i32_2976 : BitVec 32 := 3#32
  let v5964 : BitVec 32 := Scalar.shli v5963 c3_i32_2976
  v5964

def k0_off664 (v5962 : BitVec 32) : Fin 2 → Nat :=
  let c3_i32_2975 : BitVec 32 := 3#32
  let v5963 : BitVec 32 := Scalar.shrsi v5962 c3_i32_2975
  let c3_i32_2976 : BitVec 32 := 3#32
  let v5964 : BitVec 32 := Scalar.shli v5963 c3_i32_2976
  let v5965 : BitVec 32 := v5964
  let v5966 : Index := Scalar.indexCast v5965
  let c0_2977 : Index := 0#32
  ![v5966.toNat, 0]

def k0_chk332 (v5962 : BitVec 32) : Prop :=
  (8 ∣ (k0_mult332 v5962).toNat) ∧
  (∀ a, (k0_off664 v5962) a + S8x128.size a ≤ S10000x128.size a)
theorem k0_mult332_dvd : ∀ (v5962 : BitVec 32) (k0_hw332 : k0_chk332 v5962), 8 ∣ (k0_mult332 v5962).toNat := fun v5962 k0_hw332 => k0_hw332.1
theorem k0_off664_inb : ∀ (v5962 : BitVec 32) (k0_hw332 : k0_chk332 v5962), ∀ a, (k0_off664 v5962) a + S8x128.size a ≤ S10000x128.size a := fun v5962 k0_hw332 => k0_hw332.2

def k0_off665 (i : grid0.Coords) : Fin 2 → Nat :=
  let arg0 : BitVec 32 := BitVec.ofNat 32 (i 0).val
  let c4_i32 : BitVec 32 := 4#32
  let v0 : BitVec 32 := Scalar.muli arg0 c4_i32
  let c2_i32_2982 : BitVec 32 := 2#32
  let v5978 : BitVec 32 := Scalar.addi v0 c2_i32_2982
  let v5979 : Index := Scalar.indexCast v5978
  let c76_2983 : Index := 76#32
  ![v5979.toNat, 76]
def k0_mult333 (v5980 : BitVec 32) : BitVec 32 :=
  let c3_i32_2984 : BitVec 32 := 3#32
  let v5981 : BitVec 32 := Scalar.shrsi v5980 c3_i32_2984
  let c3_i32_2985 : BitVec 32 := 3#32
  let v5982 : BitVec 32 := Scalar.shli v5981 c3_i32_2985
  v5982

def k0_off666 (v5980 : BitVec 32) : Fin 2 → Nat :=
  let c3_i32_2984 : BitVec 32 := 3#32
  let v5981 : BitVec 32 := Scalar.shrsi v5980 c3_i32_2984
  let c3_i32_2985 : BitVec 32 := 3#32
  let v5982 : BitVec 32 := Scalar.shli v5981 c3_i32_2985
  let v5983 : BitVec 32 := v5982
  let v5984 : Index := Scalar.indexCast v5983
  let c0_2986 : Index := 0#32
  ![v5984.toNat, 0]

def k0_chk333 (v5980 : BitVec 32) : Prop :=
  (8 ∣ (k0_mult333 v5980).toNat) ∧
  (∀ a, (k0_off666 v5980) a + S8x128.size a ≤ S10000x128.size a)
theorem k0_mult333_dvd : ∀ (v5980 : BitVec 32) (k0_hw333 : k0_chk333 v5980), 8 ∣ (k0_mult333 v5980).toNat := fun v5980 k0_hw333 => k0_hw333.1
theorem k0_off666_inb : ∀ (v5980 : BitVec 32) (k0_hw333 : k0_chk333 v5980), ∀ a, (k0_off666 v5980) a + S8x128.size a ≤ S10000x128.size a := fun v5980 k0_hw333 => k0_hw333.2

def k0_off667 (i : grid0.Coords) : Fin 2 → Nat :=
  let arg0 : BitVec 32 := BitVec.ofNat 32 (i 0).val
  let c4_i32 : BitVec 32 := 4#32
  let v0 : BitVec 32 := Scalar.muli arg0 c4_i32
  let c2_i32_2991 : BitVec 32 := 2#32
  let v5996 : BitVec 32 := Scalar.addi v0 c2_i32_2991
  let v5997 : Index := Scalar.indexCast v5996
  let c77_2992 : Index := 77#32
  ![v5997.toNat, 77]
def k0_mult334 (v5998 : BitVec 32) : BitVec 32 :=
  let c3_i32_2993 : BitVec 32 := 3#32
  let v5999 : BitVec 32 := Scalar.shrsi v5998 c3_i32_2993
  let c3_i32_2994 : BitVec 32 := 3#32
  let v6000 : BitVec 32 := Scalar.shli v5999 c3_i32_2994
  v6000

def k0_off668 (v5998 : BitVec 32) : Fin 2 → Nat :=
  let c3_i32_2993 : BitVec 32 := 3#32
  let v5999 : BitVec 32 := Scalar.shrsi v5998 c3_i32_2993
  let c3_i32_2994 : BitVec 32 := 3#32
  let v6000 : BitVec 32 := Scalar.shli v5999 c3_i32_2994
  let v6001 : BitVec 32 := v6000
  let v6002 : Index := Scalar.indexCast v6001
  let c0_2995 : Index := 0#32
  ![v6002.toNat, 0]

def k0_chk334 (v5998 : BitVec 32) : Prop :=
  (8 ∣ (k0_mult334 v5998).toNat) ∧
  (∀ a, (k0_off668 v5998) a + S8x128.size a ≤ S10000x128.size a)
theorem k0_mult334_dvd : ∀ (v5998 : BitVec 32) (k0_hw334 : k0_chk334 v5998), 8 ∣ (k0_mult334 v5998).toNat := fun v5998 k0_hw334 => k0_hw334.1
theorem k0_off668_inb : ∀ (v5998 : BitVec 32) (k0_hw334 : k0_chk334 v5998), ∀ a, (k0_off668 v5998) a + S8x128.size a ≤ S10000x128.size a := fun v5998 k0_hw334 => k0_hw334.2

def k0_off669 (i : grid0.Coords) : Fin 2 → Nat :=
  let arg0 : BitVec 32 := BitVec.ofNat 32 (i 0).val
  let c4_i32 : BitVec 32 := 4#32
  let v0 : BitVec 32 := Scalar.muli arg0 c4_i32
  let c2_i32_3000 : BitVec 32 := 2#32
  let v6014 : BitVec 32 := Scalar.addi v0 c2_i32_3000
  let v6015 : Index := Scalar.indexCast v6014
  let c78_3001 : Index := 78#32
  ![v6015.toNat, 78]
def k0_mult335 (v6016 : BitVec 32) : BitVec 32 :=
  let c3_i32_3002 : BitVec 32 := 3#32
  let v6017 : BitVec 32 := Scalar.shrsi v6016 c3_i32_3002
  let c3_i32_3003 : BitVec 32 := 3#32
  let v6018 : BitVec 32 := Scalar.shli v6017 c3_i32_3003
  v6018

def k0_off670 (v6016 : BitVec 32) : Fin 2 → Nat :=
  let c3_i32_3002 : BitVec 32 := 3#32
  let v6017 : BitVec 32 := Scalar.shrsi v6016 c3_i32_3002
  let c3_i32_3003 : BitVec 32 := 3#32
  let v6018 : BitVec 32 := Scalar.shli v6017 c3_i32_3003
  let v6019 : BitVec 32 := v6018
  let v6020 : Index := Scalar.indexCast v6019
  let c0_3004 : Index := 0#32
  ![v6020.toNat, 0]

def k0_chk335 (v6016 : BitVec 32) : Prop :=
  (8 ∣ (k0_mult335 v6016).toNat) ∧
  (∀ a, (k0_off670 v6016) a + S8x128.size a ≤ S10000x128.size a)
theorem k0_mult335_dvd : ∀ (v6016 : BitVec 32) (k0_hw335 : k0_chk335 v6016), 8 ∣ (k0_mult335 v6016).toNat := fun v6016 k0_hw335 => k0_hw335.1
theorem k0_off670_inb : ∀ (v6016 : BitVec 32) (k0_hw335 : k0_chk335 v6016), ∀ a, (k0_off670 v6016) a + S8x128.size a ≤ S10000x128.size a := fun v6016 k0_hw335 => k0_hw335.2

def k0_off671 (i : grid0.Coords) : Fin 2 → Nat :=
  let arg0 : BitVec 32 := BitVec.ofNat 32 (i 0).val
  let c4_i32 : BitVec 32 := 4#32
  let v0 : BitVec 32 := Scalar.muli arg0 c4_i32
  let c2_i32_3009 : BitVec 32 := 2#32
  let v6032 : BitVec 32 := Scalar.addi v0 c2_i32_3009
  let v6033 : Index := Scalar.indexCast v6032
  let c79_3010 : Index := 79#32
  ![v6033.toNat, 79]
def k0_mult336 (v6034 : BitVec 32) : BitVec 32 :=
  let c3_i32_3011 : BitVec 32 := 3#32
  let v6035 : BitVec 32 := Scalar.shrsi v6034 c3_i32_3011
  let c3_i32_3012 : BitVec 32 := 3#32
  let v6036 : BitVec 32 := Scalar.shli v6035 c3_i32_3012
  v6036

def k0_off672 (v6034 : BitVec 32) : Fin 2 → Nat :=
  let c3_i32_3011 : BitVec 32 := 3#32
  let v6035 : BitVec 32 := Scalar.shrsi v6034 c3_i32_3011
  let c3_i32_3012 : BitVec 32 := 3#32
  let v6036 : BitVec 32 := Scalar.shli v6035 c3_i32_3012
  let v6037 : BitVec 32 := v6036
  let v6038 : Index := Scalar.indexCast v6037
  let c0_3013 : Index := 0#32
  ![v6038.toNat, 0]

def k0_chk336 (v6034 : BitVec 32) : Prop :=
  (8 ∣ (k0_mult336 v6034).toNat) ∧
  (∀ a, (k0_off672 v6034) a + S8x128.size a ≤ S10000x128.size a)
theorem k0_mult336_dvd : ∀ (v6034 : BitVec 32) (k0_hw336 : k0_chk336 v6034), 8 ∣ (k0_mult336 v6034).toNat := fun v6034 k0_hw336 => k0_hw336.1
theorem k0_off672_inb : ∀ (v6034 : BitVec 32) (k0_hw336 : k0_chk336 v6034), ∀ a, (k0_off672 v6034) a + S8x128.size a ≤ S10000x128.size a := fun v6034 k0_hw336 => k0_hw336.2

def k0_off673 (i : grid0.Coords) : Fin 2 → Nat :=
  let arg0 : BitVec 32 := BitVec.ofNat 32 (i 0).val
  let c4_i32 : BitVec 32 := 4#32
  let v0 : BitVec 32 := Scalar.muli arg0 c4_i32
  let c2_i32_3018 : BitVec 32 := 2#32
  let v6050 : BitVec 32 := Scalar.addi v0 c2_i32_3018
  let v6051 : Index := Scalar.indexCast v6050
  let c80_3019 : Index := 80#32
  ![v6051.toNat, 80]
def k0_mult337 (v6052 : BitVec 32) : BitVec 32 :=
  let c3_i32_3020 : BitVec 32 := 3#32
  let v6053 : BitVec 32 := Scalar.shrsi v6052 c3_i32_3020
  let c3_i32_3021 : BitVec 32 := 3#32
  let v6054 : BitVec 32 := Scalar.shli v6053 c3_i32_3021
  v6054

def k0_off674 (v6052 : BitVec 32) : Fin 2 → Nat :=
  let c3_i32_3020 : BitVec 32 := 3#32
  let v6053 : BitVec 32 := Scalar.shrsi v6052 c3_i32_3020
  let c3_i32_3021 : BitVec 32 := 3#32
  let v6054 : BitVec 32 := Scalar.shli v6053 c3_i32_3021
  let v6055 : BitVec 32 := v6054
  let v6056 : Index := Scalar.indexCast v6055
  let c0_3022 : Index := 0#32
  ![v6056.toNat, 0]

def k0_chk337 (v6052 : BitVec 32) : Prop :=
  (8 ∣ (k0_mult337 v6052).toNat) ∧
  (∀ a, (k0_off674 v6052) a + S8x128.size a ≤ S10000x128.size a)
theorem k0_mult337_dvd : ∀ (v6052 : BitVec 32) (k0_hw337 : k0_chk337 v6052), 8 ∣ (k0_mult337 v6052).toNat := fun v6052 k0_hw337 => k0_hw337.1
theorem k0_off674_inb : ∀ (v6052 : BitVec 32) (k0_hw337 : k0_chk337 v6052), ∀ a, (k0_off674 v6052) a + S8x128.size a ≤ S10000x128.size a := fun v6052 k0_hw337 => k0_hw337.2

def k0_off675 (i : grid0.Coords) : Fin 2 → Nat :=
  let arg0 : BitVec 32 := BitVec.ofNat 32 (i 0).val
  let c4_i32 : BitVec 32 := 4#32
  let v0 : BitVec 32 := Scalar.muli arg0 c4_i32
  let c2_i32_3027 : BitVec 32 := 2#32
  let v6068 : BitVec 32 := Scalar.addi v0 c2_i32_3027
  let v6069 : Index := Scalar.indexCast v6068
  let c81_3028 : Index := 81#32
  ![v6069.toNat, 81]
def k0_mult338 (v6070 : BitVec 32) : BitVec 32 :=
  let c3_i32_3029 : BitVec 32 := 3#32
  let v6071 : BitVec 32 := Scalar.shrsi v6070 c3_i32_3029
  let c3_i32_3030 : BitVec 32 := 3#32
  let v6072 : BitVec 32 := Scalar.shli v6071 c3_i32_3030
  v6072

def k0_off676 (v6070 : BitVec 32) : Fin 2 → Nat :=
  let c3_i32_3029 : BitVec 32 := 3#32
  let v6071 : BitVec 32 := Scalar.shrsi v6070 c3_i32_3029
  let c3_i32_3030 : BitVec 32 := 3#32
  let v6072 : BitVec 32 := Scalar.shli v6071 c3_i32_3030
  let v6073 : BitVec 32 := v6072
  let v6074 : Index := Scalar.indexCast v6073
  let c0_3031 : Index := 0#32
  ![v6074.toNat, 0]

def k0_chk338 (v6070 : BitVec 32) : Prop :=
  (8 ∣ (k0_mult338 v6070).toNat) ∧
  (∀ a, (k0_off676 v6070) a + S8x128.size a ≤ S10000x128.size a)
theorem k0_mult338_dvd : ∀ (v6070 : BitVec 32) (k0_hw338 : k0_chk338 v6070), 8 ∣ (k0_mult338 v6070).toNat := fun v6070 k0_hw338 => k0_hw338.1
theorem k0_off676_inb : ∀ (v6070 : BitVec 32) (k0_hw338 : k0_chk338 v6070), ∀ a, (k0_off676 v6070) a + S8x128.size a ≤ S10000x128.size a := fun v6070 k0_hw338 => k0_hw338.2

def k0_off677 (i : grid0.Coords) : Fin 2 → Nat :=
  let arg0 : BitVec 32 := BitVec.ofNat 32 (i 0).val
  let c4_i32 : BitVec 32 := 4#32
  let v0 : BitVec 32 := Scalar.muli arg0 c4_i32
  let c2_i32_3036 : BitVec 32 := 2#32
  let v6086 : BitVec 32 := Scalar.addi v0 c2_i32_3036
  let v6087 : Index := Scalar.indexCast v6086
  let c82_3037 : Index := 82#32
  ![v6087.toNat, 82]
def k0_mult339 (v6088 : BitVec 32) : BitVec 32 :=
  let c3_i32_3038 : BitVec 32 := 3#32
  let v6089 : BitVec 32 := Scalar.shrsi v6088 c3_i32_3038
  let c3_i32_3039 : BitVec 32 := 3#32
  let v6090 : BitVec 32 := Scalar.shli v6089 c3_i32_3039
  v6090

def k0_off678 (v6088 : BitVec 32) : Fin 2 → Nat :=
  let c3_i32_3038 : BitVec 32 := 3#32
  let v6089 : BitVec 32 := Scalar.shrsi v6088 c3_i32_3038
  let c3_i32_3039 : BitVec 32 := 3#32
  let v6090 : BitVec 32 := Scalar.shli v6089 c3_i32_3039
  let v6091 : BitVec 32 := v6090
  let v6092 : Index := Scalar.indexCast v6091
  let c0_3040 : Index := 0#32
  ![v6092.toNat, 0]

def k0_chk339 (v6088 : BitVec 32) : Prop :=
  (8 ∣ (k0_mult339 v6088).toNat) ∧
  (∀ a, (k0_off678 v6088) a + S8x128.size a ≤ S10000x128.size a)
theorem k0_mult339_dvd : ∀ (v6088 : BitVec 32) (k0_hw339 : k0_chk339 v6088), 8 ∣ (k0_mult339 v6088).toNat := fun v6088 k0_hw339 => k0_hw339.1
theorem k0_off678_inb : ∀ (v6088 : BitVec 32) (k0_hw339 : k0_chk339 v6088), ∀ a, (k0_off678 v6088) a + S8x128.size a ≤ S10000x128.size a := fun v6088 k0_hw339 => k0_hw339.2

def k0_off679 (i : grid0.Coords) : Fin 2 → Nat :=
  let arg0 : BitVec 32 := BitVec.ofNat 32 (i 0).val
  let c4_i32 : BitVec 32 := 4#32
  let v0 : BitVec 32 := Scalar.muli arg0 c4_i32
  let c2_i32_3045 : BitVec 32 := 2#32
  let v6104 : BitVec 32 := Scalar.addi v0 c2_i32_3045
  let v6105 : Index := Scalar.indexCast v6104
  let c83_3046 : Index := 83#32
  ![v6105.toNat, 83]
def k0_mult340 (v6106 : BitVec 32) : BitVec 32 :=
  let c3_i32_3047 : BitVec 32 := 3#32
  let v6107 : BitVec 32 := Scalar.shrsi v6106 c3_i32_3047
  let c3_i32_3048 : BitVec 32 := 3#32
  let v6108 : BitVec 32 := Scalar.shli v6107 c3_i32_3048
  v6108

def k0_off680 (v6106 : BitVec 32) : Fin 2 → Nat :=
  let c3_i32_3047 : BitVec 32 := 3#32
  let v6107 : BitVec 32 := Scalar.shrsi v6106 c3_i32_3047
  let c3_i32_3048 : BitVec 32 := 3#32
  let v6108 : BitVec 32 := Scalar.shli v6107 c3_i32_3048
  let v6109 : BitVec 32 := v6108
  let v6110 : Index := Scalar.indexCast v6109
  let c0_3049 : Index := 0#32
  ![v6110.toNat, 0]

def k0_chk340 (v6106 : BitVec 32) : Prop :=
  (8 ∣ (k0_mult340 v6106).toNat) ∧
  (∀ a, (k0_off680 v6106) a + S8x128.size a ≤ S10000x128.size a)
theorem k0_mult340_dvd : ∀ (v6106 : BitVec 32) (k0_hw340 : k0_chk340 v6106), 8 ∣ (k0_mult340 v6106).toNat := fun v6106 k0_hw340 => k0_hw340.1
theorem k0_off680_inb : ∀ (v6106 : BitVec 32) (k0_hw340 : k0_chk340 v6106), ∀ a, (k0_off680 v6106) a + S8x128.size a ≤ S10000x128.size a := fun v6106 k0_hw340 => k0_hw340.2

def k0_off681 (i : grid0.Coords) : Fin 2 → Nat :=
  let arg0 : BitVec 32 := BitVec.ofNat 32 (i 0).val
  let c4_i32 : BitVec 32 := 4#32
  let v0 : BitVec 32 := Scalar.muli arg0 c4_i32
  let c2_i32_3054 : BitVec 32 := 2#32
  let v6122 : BitVec 32 := Scalar.addi v0 c2_i32_3054
  let v6123 : Index := Scalar.indexCast v6122
  let c84_3055 : Index := 84#32
  ![v6123.toNat, 84]
def k0_mult341 (v6124 : BitVec 32) : BitVec 32 :=
  let c3_i32_3056 : BitVec 32 := 3#32
  let v6125 : BitVec 32 := Scalar.shrsi v6124 c3_i32_3056
  let c3_i32_3057 : BitVec 32 := 3#32
  let v6126 : BitVec 32 := Scalar.shli v6125 c3_i32_3057
  v6126

def k0_off682 (v6124 : BitVec 32) : Fin 2 → Nat :=
  let c3_i32_3056 : BitVec 32 := 3#32
  let v6125 : BitVec 32 := Scalar.shrsi v6124 c3_i32_3056
  let c3_i32_3057 : BitVec 32 := 3#32
  let v6126 : BitVec 32 := Scalar.shli v6125 c3_i32_3057
  let v6127 : BitVec 32 := v6126
  let v6128 : Index := Scalar.indexCast v6127
  let c0_3058 : Index := 0#32
  ![v6128.toNat, 0]

def k0_chk341 (v6124 : BitVec 32) : Prop :=
  (8 ∣ (k0_mult341 v6124).toNat) ∧
  (∀ a, (k0_off682 v6124) a + S8x128.size a ≤ S10000x128.size a)
theorem k0_mult341_dvd : ∀ (v6124 : BitVec 32) (k0_hw341 : k0_chk341 v6124), 8 ∣ (k0_mult341 v6124).toNat := fun v6124 k0_hw341 => k0_hw341.1
theorem k0_off682_inb : ∀ (v6124 : BitVec 32) (k0_hw341 : k0_chk341 v6124), ∀ a, (k0_off682 v6124) a + S8x128.size a ≤ S10000x128.size a := fun v6124 k0_hw341 => k0_hw341.2

def k0_off683 (i : grid0.Coords) : Fin 2 → Nat :=
  let arg0 : BitVec 32 := BitVec.ofNat 32 (i 0).val
  let c4_i32 : BitVec 32 := 4#32
  let v0 : BitVec 32 := Scalar.muli arg0 c4_i32
  let c2_i32_3063 : BitVec 32 := 2#32
  let v6140 : BitVec 32 := Scalar.addi v0 c2_i32_3063
  let v6141 : Index := Scalar.indexCast v6140
  let c85_3064 : Index := 85#32
  ![v6141.toNat, 85]
def k0_mult342 (v6142 : BitVec 32) : BitVec 32 :=
  let c3_i32_3065 : BitVec 32 := 3#32
  let v6143 : BitVec 32 := Scalar.shrsi v6142 c3_i32_3065
  let c3_i32_3066 : BitVec 32 := 3#32
  let v6144 : BitVec 32 := Scalar.shli v6143 c3_i32_3066
  v6144

def k0_off684 (v6142 : BitVec 32) : Fin 2 → Nat :=
  let c3_i32_3065 : BitVec 32 := 3#32
  let v6143 : BitVec 32 := Scalar.shrsi v6142 c3_i32_3065
  let c3_i32_3066 : BitVec 32 := 3#32
  let v6144 : BitVec 32 := Scalar.shli v6143 c3_i32_3066
  let v6145 : BitVec 32 := v6144
  let v6146 : Index := Scalar.indexCast v6145
  let c0_3067 : Index := 0#32
  ![v6146.toNat, 0]

def k0_chk342 (v6142 : BitVec 32) : Prop :=
  (8 ∣ (k0_mult342 v6142).toNat) ∧
  (∀ a, (k0_off684 v6142) a + S8x128.size a ≤ S10000x128.size a)
theorem k0_mult342_dvd : ∀ (v6142 : BitVec 32) (k0_hw342 : k0_chk342 v6142), 8 ∣ (k0_mult342 v6142).toNat := fun v6142 k0_hw342 => k0_hw342.1
theorem k0_off684_inb : ∀ (v6142 : BitVec 32) (k0_hw342 : k0_chk342 v6142), ∀ a, (k0_off684 v6142) a + S8x128.size a ≤ S10000x128.size a := fun v6142 k0_hw342 => k0_hw342.2

def k0_off685 (i : grid0.Coords) : Fin 2 → Nat :=
  let arg0 : BitVec 32 := BitVec.ofNat 32 (i 0).val
  let c4_i32 : BitVec 32 := 4#32
  let v0 : BitVec 32 := Scalar.muli arg0 c4_i32
  let c2_i32_3072 : BitVec 32 := 2#32
  let v6158 : BitVec 32 := Scalar.addi v0 c2_i32_3072
  let v6159 : Index := Scalar.indexCast v6158
  let c86_3073 : Index := 86#32
  ![v6159.toNat, 86]
def k0_mult343 (v6160 : BitVec 32) : BitVec 32 :=
  let c3_i32_3074 : BitVec 32 := 3#32
  let v6161 : BitVec 32 := Scalar.shrsi v6160 c3_i32_3074
  let c3_i32_3075 : BitVec 32 := 3#32
  let v6162 : BitVec 32 := Scalar.shli v6161 c3_i32_3075
  v6162

def k0_off686 (v6160 : BitVec 32) : Fin 2 → Nat :=
  let c3_i32_3074 : BitVec 32 := 3#32
  let v6161 : BitVec 32 := Scalar.shrsi v6160 c3_i32_3074
  let c3_i32_3075 : BitVec 32 := 3#32
  let v6162 : BitVec 32 := Scalar.shli v6161 c3_i32_3075
  let v6163 : BitVec 32 := v6162
  let v6164 : Index := Scalar.indexCast v6163
  let c0_3076 : Index := 0#32
  ![v6164.toNat, 0]

def k0_chk343 (v6160 : BitVec 32) : Prop :=
  (8 ∣ (k0_mult343 v6160).toNat) ∧
  (∀ a, (k0_off686 v6160) a + S8x128.size a ≤ S10000x128.size a)
theorem k0_mult343_dvd : ∀ (v6160 : BitVec 32) (k0_hw343 : k0_chk343 v6160), 8 ∣ (k0_mult343 v6160).toNat := fun v6160 k0_hw343 => k0_hw343.1
theorem k0_off686_inb : ∀ (v6160 : BitVec 32) (k0_hw343 : k0_chk343 v6160), ∀ a, (k0_off686 v6160) a + S8x128.size a ≤ S10000x128.size a := fun v6160 k0_hw343 => k0_hw343.2

def k0_off687 (i : grid0.Coords) : Fin 2 → Nat :=
  let arg0 : BitVec 32 := BitVec.ofNat 32 (i 0).val
  let c4_i32 : BitVec 32 := 4#32
  let v0 : BitVec 32 := Scalar.muli arg0 c4_i32
  let c2_i32_3081 : BitVec 32 := 2#32
  let v6176 : BitVec 32 := Scalar.addi v0 c2_i32_3081
  let v6177 : Index := Scalar.indexCast v6176
  let c87_3082 : Index := 87#32
  ![v6177.toNat, 87]
def k0_mult344 (v6178 : BitVec 32) : BitVec 32 :=
  let c3_i32_3083 : BitVec 32 := 3#32
  let v6179 : BitVec 32 := Scalar.shrsi v6178 c3_i32_3083
  let c3_i32_3084 : BitVec 32 := 3#32
  let v6180 : BitVec 32 := Scalar.shli v6179 c3_i32_3084
  v6180

def k0_off688 (v6178 : BitVec 32) : Fin 2 → Nat :=
  let c3_i32_3083 : BitVec 32 := 3#32
  let v6179 : BitVec 32 := Scalar.shrsi v6178 c3_i32_3083
  let c3_i32_3084 : BitVec 32 := 3#32
  let v6180 : BitVec 32 := Scalar.shli v6179 c3_i32_3084
  let v6181 : BitVec 32 := v6180
  let v6182 : Index := Scalar.indexCast v6181
  let c0_3085 : Index := 0#32
  ![v6182.toNat, 0]

def k0_chk344 (v6178 : BitVec 32) : Prop :=
  (8 ∣ (k0_mult344 v6178).toNat) ∧
  (∀ a, (k0_off688 v6178) a + S8x128.size a ≤ S10000x128.size a)
theorem k0_mult344_dvd : ∀ (v6178 : BitVec 32) (k0_hw344 : k0_chk344 v6178), 8 ∣ (k0_mult344 v6178).toNat := fun v6178 k0_hw344 => k0_hw344.1
theorem k0_off688_inb : ∀ (v6178 : BitVec 32) (k0_hw344 : k0_chk344 v6178), ∀ a, (k0_off688 v6178) a + S8x128.size a ≤ S10000x128.size a := fun v6178 k0_hw344 => k0_hw344.2

def k0_off689 (i : grid0.Coords) : Fin 2 → Nat :=
  let arg0 : BitVec 32 := BitVec.ofNat 32 (i 0).val
  let c4_i32 : BitVec 32 := 4#32
  let v0 : BitVec 32 := Scalar.muli arg0 c4_i32
  let c2_i32_3090 : BitVec 32 := 2#32
  let v6194 : BitVec 32 := Scalar.addi v0 c2_i32_3090
  let v6195 : Index := Scalar.indexCast v6194
  let c88_3091 : Index := 88#32
  ![v6195.toNat, 88]
def k0_mult345 (v6196 : BitVec 32) : BitVec 32 :=
  let c3_i32_3092 : BitVec 32 := 3#32
  let v6197 : BitVec 32 := Scalar.shrsi v6196 c3_i32_3092
  let c3_i32_3093 : BitVec 32 := 3#32
  let v6198 : BitVec 32 := Scalar.shli v6197 c3_i32_3093
  v6198

def k0_off690 (v6196 : BitVec 32) : Fin 2 → Nat :=
  let c3_i32_3092 : BitVec 32 := 3#32
  let v6197 : BitVec 32 := Scalar.shrsi v6196 c3_i32_3092
  let c3_i32_3093 : BitVec 32 := 3#32
  let v6198 : BitVec 32 := Scalar.shli v6197 c3_i32_3093
  let v6199 : BitVec 32 := v6198
  let v6200 : Index := Scalar.indexCast v6199
  let c0_3094 : Index := 0#32
  ![v6200.toNat, 0]

def k0_chk345 (v6196 : BitVec 32) : Prop :=
  (8 ∣ (k0_mult345 v6196).toNat) ∧
  (∀ a, (k0_off690 v6196) a + S8x128.size a ≤ S10000x128.size a)
theorem k0_mult345_dvd : ∀ (v6196 : BitVec 32) (k0_hw345 : k0_chk345 v6196), 8 ∣ (k0_mult345 v6196).toNat := fun v6196 k0_hw345 => k0_hw345.1
theorem k0_off690_inb : ∀ (v6196 : BitVec 32) (k0_hw345 : k0_chk345 v6196), ∀ a, (k0_off690 v6196) a + S8x128.size a ≤ S10000x128.size a := fun v6196 k0_hw345 => k0_hw345.2

def k0_off691 (i : grid0.Coords) : Fin 2 → Nat :=
  let arg0 : BitVec 32 := BitVec.ofNat 32 (i 0).val
  let c4_i32 : BitVec 32 := 4#32
  let v0 : BitVec 32 := Scalar.muli arg0 c4_i32
  let c2_i32_3099 : BitVec 32 := 2#32
  let v6212 : BitVec 32 := Scalar.addi v0 c2_i32_3099
  let v6213 : Index := Scalar.indexCast v6212
  let c89_3100 : Index := 89#32
  ![v6213.toNat, 89]
def k0_mult346 (v6214 : BitVec 32) : BitVec 32 :=
  let c3_i32_3101 : BitVec 32 := 3#32
  let v6215 : BitVec 32 := Scalar.shrsi v6214 c3_i32_3101
  let c3_i32_3102 : BitVec 32 := 3#32
  let v6216 : BitVec 32 := Scalar.shli v6215 c3_i32_3102
  v6216

def k0_off692 (v6214 : BitVec 32) : Fin 2 → Nat :=
  let c3_i32_3101 : BitVec 32 := 3#32
  let v6215 : BitVec 32 := Scalar.shrsi v6214 c3_i32_3101
  let c3_i32_3102 : BitVec 32 := 3#32
  let v6216 : BitVec 32 := Scalar.shli v6215 c3_i32_3102
  let v6217 : BitVec 32 := v6216
  let v6218 : Index := Scalar.indexCast v6217
  let c0_3103 : Index := 0#32
  ![v6218.toNat, 0]

def k0_chk346 (v6214 : BitVec 32) : Prop :=
  (8 ∣ (k0_mult346 v6214).toNat) ∧
  (∀ a, (k0_off692 v6214) a + S8x128.size a ≤ S10000x128.size a)
theorem k0_mult346_dvd : ∀ (v6214 : BitVec 32) (k0_hw346 : k0_chk346 v6214), 8 ∣ (k0_mult346 v6214).toNat := fun v6214 k0_hw346 => k0_hw346.1
theorem k0_off692_inb : ∀ (v6214 : BitVec 32) (k0_hw346 : k0_chk346 v6214), ∀ a, (k0_off692 v6214) a + S8x128.size a ≤ S10000x128.size a := fun v6214 k0_hw346 => k0_hw346.2

def k0_off693 (i : grid0.Coords) : Fin 2 → Nat :=
  let arg0 : BitVec 32 := BitVec.ofNat 32 (i 0).val
  let c4_i32 : BitVec 32 := 4#32
  let v0 : BitVec 32 := Scalar.muli arg0 c4_i32
  let c2_i32_3108 : BitVec 32 := 2#32
  let v6230 : BitVec 32 := Scalar.addi v0 c2_i32_3108
  let v6231 : Index := Scalar.indexCast v6230
  let c90_3109 : Index := 90#32
  ![v6231.toNat, 90]
def k0_mult347 (v6232 : BitVec 32) : BitVec 32 :=
  let c3_i32_3110 : BitVec 32 := 3#32
  let v6233 : BitVec 32 := Scalar.shrsi v6232 c3_i32_3110
  let c3_i32_3111 : BitVec 32 := 3#32
  let v6234 : BitVec 32 := Scalar.shli v6233 c3_i32_3111
  v6234

def k0_off694 (v6232 : BitVec 32) : Fin 2 → Nat :=
  let c3_i32_3110 : BitVec 32 := 3#32
  let v6233 : BitVec 32 := Scalar.shrsi v6232 c3_i32_3110
  let c3_i32_3111 : BitVec 32 := 3#32
  let v6234 : BitVec 32 := Scalar.shli v6233 c3_i32_3111
  let v6235 : BitVec 32 := v6234
  let v6236 : Index := Scalar.indexCast v6235
  let c0_3112 : Index := 0#32
  ![v6236.toNat, 0]

def k0_chk347 (v6232 : BitVec 32) : Prop :=
  (8 ∣ (k0_mult347 v6232).toNat) ∧
  (∀ a, (k0_off694 v6232) a + S8x128.size a ≤ S10000x128.size a)
theorem k0_mult347_dvd : ∀ (v6232 : BitVec 32) (k0_hw347 : k0_chk347 v6232), 8 ∣ (k0_mult347 v6232).toNat := fun v6232 k0_hw347 => k0_hw347.1
theorem k0_off694_inb : ∀ (v6232 : BitVec 32) (k0_hw347 : k0_chk347 v6232), ∀ a, (k0_off694 v6232) a + S8x128.size a ≤ S10000x128.size a := fun v6232 k0_hw347 => k0_hw347.2

def k0_off695 (i : grid0.Coords) : Fin 2 → Nat :=
  let arg0 : BitVec 32 := BitVec.ofNat 32 (i 0).val
  let c4_i32 : BitVec 32 := 4#32
  let v0 : BitVec 32 := Scalar.muli arg0 c4_i32
  let c2_i32_3117 : BitVec 32 := 2#32
  let v6248 : BitVec 32 := Scalar.addi v0 c2_i32_3117
  let v6249 : Index := Scalar.indexCast v6248
  let c91_3118 : Index := 91#32
  ![v6249.toNat, 91]
def k0_mult348 (v6250 : BitVec 32) : BitVec 32 :=
  let c3_i32_3119 : BitVec 32 := 3#32
  let v6251 : BitVec 32 := Scalar.shrsi v6250 c3_i32_3119
  let c3_i32_3120 : BitVec 32 := 3#32
  let v6252 : BitVec 32 := Scalar.shli v6251 c3_i32_3120
  v6252

def k0_off696 (v6250 : BitVec 32) : Fin 2 → Nat :=
  let c3_i32_3119 : BitVec 32 := 3#32
  let v6251 : BitVec 32 := Scalar.shrsi v6250 c3_i32_3119
  let c3_i32_3120 : BitVec 32 := 3#32
  let v6252 : BitVec 32 := Scalar.shli v6251 c3_i32_3120
  let v6253 : BitVec 32 := v6252
  let v6254 : Index := Scalar.indexCast v6253
  let c0_3121 : Index := 0#32
  ![v6254.toNat, 0]

def k0_chk348 (v6250 : BitVec 32) : Prop :=
  (8 ∣ (k0_mult348 v6250).toNat) ∧
  (∀ a, (k0_off696 v6250) a + S8x128.size a ≤ S10000x128.size a)
theorem k0_mult348_dvd : ∀ (v6250 : BitVec 32) (k0_hw348 : k0_chk348 v6250), 8 ∣ (k0_mult348 v6250).toNat := fun v6250 k0_hw348 => k0_hw348.1
theorem k0_off696_inb : ∀ (v6250 : BitVec 32) (k0_hw348 : k0_chk348 v6250), ∀ a, (k0_off696 v6250) a + S8x128.size a ≤ S10000x128.size a := fun v6250 k0_hw348 => k0_hw348.2

def k0_off697 (i : grid0.Coords) : Fin 2 → Nat :=
  let arg0 : BitVec 32 := BitVec.ofNat 32 (i 0).val
  let c4_i32 : BitVec 32 := 4#32
  let v0 : BitVec 32 := Scalar.muli arg0 c4_i32
  let c2_i32_3126 : BitVec 32 := 2#32
  let v6266 : BitVec 32 := Scalar.addi v0 c2_i32_3126
  let v6267 : Index := Scalar.indexCast v6266
  let c92_3127 : Index := 92#32
  ![v6267.toNat, 92]
def k0_mult349 (v6268 : BitVec 32) : BitVec 32 :=
  let c3_i32_3128 : BitVec 32 := 3#32
  let v6269 : BitVec 32 := Scalar.shrsi v6268 c3_i32_3128
  let c3_i32_3129 : BitVec 32 := 3#32
  let v6270 : BitVec 32 := Scalar.shli v6269 c3_i32_3129
  v6270

def k0_off698 (v6268 : BitVec 32) : Fin 2 → Nat :=
  let c3_i32_3128 : BitVec 32 := 3#32
  let v6269 : BitVec 32 := Scalar.shrsi v6268 c3_i32_3128
  let c3_i32_3129 : BitVec 32 := 3#32
  let v6270 : BitVec 32 := Scalar.shli v6269 c3_i32_3129
  let v6271 : BitVec 32 := v6270
  let v6272 : Index := Scalar.indexCast v6271
  let c0_3130 : Index := 0#32
  ![v6272.toNat, 0]

def k0_chk349 (v6268 : BitVec 32) : Prop :=
  (8 ∣ (k0_mult349 v6268).toNat) ∧
  (∀ a, (k0_off698 v6268) a + S8x128.size a ≤ S10000x128.size a)
theorem k0_mult349_dvd : ∀ (v6268 : BitVec 32) (k0_hw349 : k0_chk349 v6268), 8 ∣ (k0_mult349 v6268).toNat := fun v6268 k0_hw349 => k0_hw349.1
theorem k0_off698_inb : ∀ (v6268 : BitVec 32) (k0_hw349 : k0_chk349 v6268), ∀ a, (k0_off698 v6268) a + S8x128.size a ≤ S10000x128.size a := fun v6268 k0_hw349 => k0_hw349.2

def k0_off699 (i : grid0.Coords) : Fin 2 → Nat :=
  let arg0 : BitVec 32 := BitVec.ofNat 32 (i 0).val
  let c4_i32 : BitVec 32 := 4#32
  let v0 : BitVec 32 := Scalar.muli arg0 c4_i32
  let c2_i32_3135 : BitVec 32 := 2#32
  let v6284 : BitVec 32 := Scalar.addi v0 c2_i32_3135
  let v6285 : Index := Scalar.indexCast v6284
  let c93_3136 : Index := 93#32
  ![v6285.toNat, 93]
def k0_mult350 (v6286 : BitVec 32) : BitVec 32 :=
  let c3_i32_3137 : BitVec 32 := 3#32
  let v6287 : BitVec 32 := Scalar.shrsi v6286 c3_i32_3137
  let c3_i32_3138 : BitVec 32 := 3#32
  let v6288 : BitVec 32 := Scalar.shli v6287 c3_i32_3138
  v6288

def k0_off700 (v6286 : BitVec 32) : Fin 2 → Nat :=
  let c3_i32_3137 : BitVec 32 := 3#32
  let v6287 : BitVec 32 := Scalar.shrsi v6286 c3_i32_3137
  let c3_i32_3138 : BitVec 32 := 3#32
  let v6288 : BitVec 32 := Scalar.shli v6287 c3_i32_3138
  let v6289 : BitVec 32 := v6288
  let v6290 : Index := Scalar.indexCast v6289
  let c0_3139 : Index := 0#32
  ![v6290.toNat, 0]

def k0_chk350 (v6286 : BitVec 32) : Prop :=
  (8 ∣ (k0_mult350 v6286).toNat) ∧
  (∀ a, (k0_off700 v6286) a + S8x128.size a ≤ S10000x128.size a)
theorem k0_mult350_dvd : ∀ (v6286 : BitVec 32) (k0_hw350 : k0_chk350 v6286), 8 ∣ (k0_mult350 v6286).toNat := fun v6286 k0_hw350 => k0_hw350.1
theorem k0_off700_inb : ∀ (v6286 : BitVec 32) (k0_hw350 : k0_chk350 v6286), ∀ a, (k0_off700 v6286) a + S8x128.size a ≤ S10000x128.size a := fun v6286 k0_hw350 => k0_hw350.2

def k0_off701 (i : grid0.Coords) : Fin 2 → Nat :=
  let arg0 : BitVec 32 := BitVec.ofNat 32 (i 0).val
  let c4_i32 : BitVec 32 := 4#32
  let v0 : BitVec 32 := Scalar.muli arg0 c4_i32
  let c2_i32_3144 : BitVec 32 := 2#32
  let v6302 : BitVec 32 := Scalar.addi v0 c2_i32_3144
  let v6303 : Index := Scalar.indexCast v6302
  let c94_3145 : Index := 94#32
  ![v6303.toNat, 94]
def k0_mult351 (v6304 : BitVec 32) : BitVec 32 :=
  let c3_i32_3146 : BitVec 32 := 3#32
  let v6305 : BitVec 32 := Scalar.shrsi v6304 c3_i32_3146
  let c3_i32_3147 : BitVec 32 := 3#32
  let v6306 : BitVec 32 := Scalar.shli v6305 c3_i32_3147
  v6306

def k0_off702 (v6304 : BitVec 32) : Fin 2 → Nat :=
  let c3_i32_3146 : BitVec 32 := 3#32
  let v6305 : BitVec 32 := Scalar.shrsi v6304 c3_i32_3146
  let c3_i32_3147 : BitVec 32 := 3#32
  let v6306 : BitVec 32 := Scalar.shli v6305 c3_i32_3147
  let v6307 : BitVec 32 := v6306
  let v6308 : Index := Scalar.indexCast v6307
  let c0_3148 : Index := 0#32
  ![v6308.toNat, 0]

def k0_chk351 (v6304 : BitVec 32) : Prop :=
  (8 ∣ (k0_mult351 v6304).toNat) ∧
  (∀ a, (k0_off702 v6304) a + S8x128.size a ≤ S10000x128.size a)
theorem k0_mult351_dvd : ∀ (v6304 : BitVec 32) (k0_hw351 : k0_chk351 v6304), 8 ∣ (k0_mult351 v6304).toNat := fun v6304 k0_hw351 => k0_hw351.1
theorem k0_off702_inb : ∀ (v6304 : BitVec 32) (k0_hw351 : k0_chk351 v6304), ∀ a, (k0_off702 v6304) a + S8x128.size a ≤ S10000x128.size a := fun v6304 k0_hw351 => k0_hw351.2

def k0_off703 (i : grid0.Coords) : Fin 2 → Nat :=
  let arg0 : BitVec 32 := BitVec.ofNat 32 (i 0).val
  let c4_i32 : BitVec 32 := 4#32
  let v0 : BitVec 32 := Scalar.muli arg0 c4_i32
  let c2_i32_3153 : BitVec 32 := 2#32
  let v6320 : BitVec 32 := Scalar.addi v0 c2_i32_3153
  let v6321 : Index := Scalar.indexCast v6320
  let c95_3154 : Index := 95#32
  ![v6321.toNat, 95]
def k0_mult352 (v6322 : BitVec 32) : BitVec 32 :=
  let c3_i32_3155 : BitVec 32 := 3#32
  let v6323 : BitVec 32 := Scalar.shrsi v6322 c3_i32_3155
  let c3_i32_3156 : BitVec 32 := 3#32
  let v6324 : BitVec 32 := Scalar.shli v6323 c3_i32_3156
  v6324

def k0_off704 (v6322 : BitVec 32) : Fin 2 → Nat :=
  let c3_i32_3155 : BitVec 32 := 3#32
  let v6323 : BitVec 32 := Scalar.shrsi v6322 c3_i32_3155
  let c3_i32_3156 : BitVec 32 := 3#32
  let v6324 : BitVec 32 := Scalar.shli v6323 c3_i32_3156
  let v6325 : BitVec 32 := v6324
  let v6326 : Index := Scalar.indexCast v6325
  let c0_3157 : Index := 0#32
  ![v6326.toNat, 0]

def k0_chk352 (v6322 : BitVec 32) : Prop :=
  (8 ∣ (k0_mult352 v6322).toNat) ∧
  (∀ a, (k0_off704 v6322) a + S8x128.size a ≤ S10000x128.size a)
theorem k0_mult352_dvd : ∀ (v6322 : BitVec 32) (k0_hw352 : k0_chk352 v6322), 8 ∣ (k0_mult352 v6322).toNat := fun v6322 k0_hw352 => k0_hw352.1
theorem k0_off704_inb : ∀ (v6322 : BitVec 32) (k0_hw352 : k0_chk352 v6322), ∀ a, (k0_off704 v6322) a + S8x128.size a ≤ S10000x128.size a := fun v6322 k0_hw352 => k0_hw352.2

def k0_off705 (i : grid0.Coords) : Fin 2 → Nat :=
  let arg0 : BitVec 32 := BitVec.ofNat 32 (i 0).val
  let c4_i32 : BitVec 32 := 4#32
  let v0 : BitVec 32 := Scalar.muli arg0 c4_i32
  let c2_i32_3162 : BitVec 32 := 2#32
  let v6338 : BitVec 32 := Scalar.addi v0 c2_i32_3162
  let v6339 : Index := Scalar.indexCast v6338
  let c96_3163 : Index := 96#32
  ![v6339.toNat, 96]
def k0_mult353 (v6340 : BitVec 32) : BitVec 32 :=
  let c3_i32_3164 : BitVec 32 := 3#32
  let v6341 : BitVec 32 := Scalar.shrsi v6340 c3_i32_3164
  let c3_i32_3165 : BitVec 32 := 3#32
  let v6342 : BitVec 32 := Scalar.shli v6341 c3_i32_3165
  v6342

def k0_off706 (v6340 : BitVec 32) : Fin 2 → Nat :=
  let c3_i32_3164 : BitVec 32 := 3#32
  let v6341 : BitVec 32 := Scalar.shrsi v6340 c3_i32_3164
  let c3_i32_3165 : BitVec 32 := 3#32
  let v6342 : BitVec 32 := Scalar.shli v6341 c3_i32_3165
  let v6343 : BitVec 32 := v6342
  let v6344 : Index := Scalar.indexCast v6343
  let c0_3166 : Index := 0#32
  ![v6344.toNat, 0]

def k0_chk353 (v6340 : BitVec 32) : Prop :=
  (8 ∣ (k0_mult353 v6340).toNat) ∧
  (∀ a, (k0_off706 v6340) a + S8x128.size a ≤ S10000x128.size a)
theorem k0_mult353_dvd : ∀ (v6340 : BitVec 32) (k0_hw353 : k0_chk353 v6340), 8 ∣ (k0_mult353 v6340).toNat := fun v6340 k0_hw353 => k0_hw353.1
theorem k0_off706_inb : ∀ (v6340 : BitVec 32) (k0_hw353 : k0_chk353 v6340), ∀ a, (k0_off706 v6340) a + S8x128.size a ≤ S10000x128.size a := fun v6340 k0_hw353 => k0_hw353.2

def k0_off707 (i : grid0.Coords) : Fin 2 → Nat :=
  let arg0 : BitVec 32 := BitVec.ofNat 32 (i 0).val
  let c4_i32 : BitVec 32 := 4#32
  let v0 : BitVec 32 := Scalar.muli arg0 c4_i32
  let c2_i32_3171 : BitVec 32 := 2#32
  let v6356 : BitVec 32 := Scalar.addi v0 c2_i32_3171
  let v6357 : Index := Scalar.indexCast v6356
  let c97_3172 : Index := 97#32
  ![v6357.toNat, 97]
def k0_mult354 (v6358 : BitVec 32) : BitVec 32 :=
  let c3_i32_3173 : BitVec 32 := 3#32
  let v6359 : BitVec 32 := Scalar.shrsi v6358 c3_i32_3173
  let c3_i32_3174 : BitVec 32 := 3#32
  let v6360 : BitVec 32 := Scalar.shli v6359 c3_i32_3174
  v6360

def k0_off708 (v6358 : BitVec 32) : Fin 2 → Nat :=
  let c3_i32_3173 : BitVec 32 := 3#32
  let v6359 : BitVec 32 := Scalar.shrsi v6358 c3_i32_3173
  let c3_i32_3174 : BitVec 32 := 3#32
  let v6360 : BitVec 32 := Scalar.shli v6359 c3_i32_3174
  let v6361 : BitVec 32 := v6360
  let v6362 : Index := Scalar.indexCast v6361
  let c0_3175 : Index := 0#32
  ![v6362.toNat, 0]

def k0_chk354 (v6358 : BitVec 32) : Prop :=
  (8 ∣ (k0_mult354 v6358).toNat) ∧
  (∀ a, (k0_off708 v6358) a + S8x128.size a ≤ S10000x128.size a)
theorem k0_mult354_dvd : ∀ (v6358 : BitVec 32) (k0_hw354 : k0_chk354 v6358), 8 ∣ (k0_mult354 v6358).toNat := fun v6358 k0_hw354 => k0_hw354.1
theorem k0_off708_inb : ∀ (v6358 : BitVec 32) (k0_hw354 : k0_chk354 v6358), ∀ a, (k0_off708 v6358) a + S8x128.size a ≤ S10000x128.size a := fun v6358 k0_hw354 => k0_hw354.2

def k0_off709 (i : grid0.Coords) : Fin 2 → Nat :=
  let arg0 : BitVec 32 := BitVec.ofNat 32 (i 0).val
  let c4_i32 : BitVec 32 := 4#32
  let v0 : BitVec 32 := Scalar.muli arg0 c4_i32
  let c2_i32_3180 : BitVec 32 := 2#32
  let v6374 : BitVec 32 := Scalar.addi v0 c2_i32_3180
  let v6375 : Index := Scalar.indexCast v6374
  let c98_3181 : Index := 98#32
  ![v6375.toNat, 98]
def k0_mult355 (v6376 : BitVec 32) : BitVec 32 :=
  let c3_i32_3182 : BitVec 32 := 3#32
  let v6377 : BitVec 32 := Scalar.shrsi v6376 c3_i32_3182
  let c3_i32_3183 : BitVec 32 := 3#32
  let v6378 : BitVec 32 := Scalar.shli v6377 c3_i32_3183
  v6378

def k0_off710 (v6376 : BitVec 32) : Fin 2 → Nat :=
  let c3_i32_3182 : BitVec 32 := 3#32
  let v6377 : BitVec 32 := Scalar.shrsi v6376 c3_i32_3182
  let c3_i32_3183 : BitVec 32 := 3#32
  let v6378 : BitVec 32 := Scalar.shli v6377 c3_i32_3183
  let v6379 : BitVec 32 := v6378
  let v6380 : Index := Scalar.indexCast v6379
  let c0_3184 : Index := 0#32
  ![v6380.toNat, 0]

def k0_chk355 (v6376 : BitVec 32) : Prop :=
  (8 ∣ (k0_mult355 v6376).toNat) ∧
  (∀ a, (k0_off710 v6376) a + S8x128.size a ≤ S10000x128.size a)
theorem k0_mult355_dvd : ∀ (v6376 : BitVec 32) (k0_hw355 : k0_chk355 v6376), 8 ∣ (k0_mult355 v6376).toNat := fun v6376 k0_hw355 => k0_hw355.1
theorem k0_off710_inb : ∀ (v6376 : BitVec 32) (k0_hw355 : k0_chk355 v6376), ∀ a, (k0_off710 v6376) a + S8x128.size a ≤ S10000x128.size a := fun v6376 k0_hw355 => k0_hw355.2

def k0_off711 (i : grid0.Coords) : Fin 2 → Nat :=
  let arg0 : BitVec 32 := BitVec.ofNat 32 (i 0).val
  let c4_i32 : BitVec 32 := 4#32
  let v0 : BitVec 32 := Scalar.muli arg0 c4_i32
  let c2_i32_3189 : BitVec 32 := 2#32
  let v6392 : BitVec 32 := Scalar.addi v0 c2_i32_3189
  let v6393 : Index := Scalar.indexCast v6392
  let c99_3190 : Index := 99#32
  ![v6393.toNat, 99]
def k0_mult356 (v6394 : BitVec 32) : BitVec 32 :=
  let c3_i32_3191 : BitVec 32 := 3#32
  let v6395 : BitVec 32 := Scalar.shrsi v6394 c3_i32_3191
  let c3_i32_3192 : BitVec 32 := 3#32
  let v6396 : BitVec 32 := Scalar.shli v6395 c3_i32_3192
  v6396

def k0_off712 (v6394 : BitVec 32) : Fin 2 → Nat :=
  let c3_i32_3191 : BitVec 32 := 3#32
  let v6395 : BitVec 32 := Scalar.shrsi v6394 c3_i32_3191
  let c3_i32_3192 : BitVec 32 := 3#32
  let v6396 : BitVec 32 := Scalar.shli v6395 c3_i32_3192
  let v6397 : BitVec 32 := v6396
  let v6398 : Index := Scalar.indexCast v6397
  let c0_3193 : Index := 0#32
  ![v6398.toNat, 0]

def k0_chk356 (v6394 : BitVec 32) : Prop :=
  (8 ∣ (k0_mult356 v6394).toNat) ∧
  (∀ a, (k0_off712 v6394) a + S8x128.size a ≤ S10000x128.size a)
theorem k0_mult356_dvd : ∀ (v6394 : BitVec 32) (k0_hw356 : k0_chk356 v6394), 8 ∣ (k0_mult356 v6394).toNat := fun v6394 k0_hw356 => k0_hw356.1
theorem k0_off712_inb : ∀ (v6394 : BitVec 32) (k0_hw356 : k0_chk356 v6394), ∀ a, (k0_off712 v6394) a + S8x128.size a ≤ S10000x128.size a := fun v6394 k0_hw356 => k0_hw356.2

def k0_off713 (i : grid0.Coords) : Fin 2 → Nat :=
  let arg0 : BitVec 32 := BitVec.ofNat 32 (i 0).val
  let c4_i32 : BitVec 32 := 4#32
  let v0 : BitVec 32 := Scalar.muli arg0 c4_i32
  let c2_i32_3198 : BitVec 32 := 2#32
  let v6410 : BitVec 32 := Scalar.addi v0 c2_i32_3198
  let v6411 : Index := Scalar.indexCast v6410
  let c100_3199 : Index := 100#32
  ![v6411.toNat, 100]
def k0_mult357 (v6412 : BitVec 32) : BitVec 32 :=
  let c3_i32_3200 : BitVec 32 := 3#32
  let v6413 : BitVec 32 := Scalar.shrsi v6412 c3_i32_3200
  let c3_i32_3201 : BitVec 32 := 3#32
  let v6414 : BitVec 32 := Scalar.shli v6413 c3_i32_3201
  v6414

def k0_off714 (v6412 : BitVec 32) : Fin 2 → Nat :=
  let c3_i32_3200 : BitVec 32 := 3#32
  let v6413 : BitVec 32 := Scalar.shrsi v6412 c3_i32_3200
  let c3_i32_3201 : BitVec 32 := 3#32
  let v6414 : BitVec 32 := Scalar.shli v6413 c3_i32_3201
  let v6415 : BitVec 32 := v6414
  let v6416 : Index := Scalar.indexCast v6415
  let c0_3202 : Index := 0#32
  ![v6416.toNat, 0]

def k0_chk357 (v6412 : BitVec 32) : Prop :=
  (8 ∣ (k0_mult357 v6412).toNat) ∧
  (∀ a, (k0_off714 v6412) a + S8x128.size a ≤ S10000x128.size a)
theorem k0_mult357_dvd : ∀ (v6412 : BitVec 32) (k0_hw357 : k0_chk357 v6412), 8 ∣ (k0_mult357 v6412).toNat := fun v6412 k0_hw357 => k0_hw357.1
theorem k0_off714_inb : ∀ (v6412 : BitVec 32) (k0_hw357 : k0_chk357 v6412), ∀ a, (k0_off714 v6412) a + S8x128.size a ≤ S10000x128.size a := fun v6412 k0_hw357 => k0_hw357.2

def k0_off715 (i : grid0.Coords) : Fin 2 → Nat :=
  let arg0 : BitVec 32 := BitVec.ofNat 32 (i 0).val
  let c4_i32 : BitVec 32 := 4#32
  let v0 : BitVec 32 := Scalar.muli arg0 c4_i32
  let c2_i32_3207 : BitVec 32 := 2#32
  let v6428 : BitVec 32 := Scalar.addi v0 c2_i32_3207
  let v6429 : Index := Scalar.indexCast v6428
  let c101_3208 : Index := 101#32
  ![v6429.toNat, 101]
def k0_mult358 (v6430 : BitVec 32) : BitVec 32 :=
  let c3_i32_3209 : BitVec 32 := 3#32
  let v6431 : BitVec 32 := Scalar.shrsi v6430 c3_i32_3209
  let c3_i32_3210 : BitVec 32 := 3#32
  let v6432 : BitVec 32 := Scalar.shli v6431 c3_i32_3210
  v6432

def k0_off716 (v6430 : BitVec 32) : Fin 2 → Nat :=
  let c3_i32_3209 : BitVec 32 := 3#32
  let v6431 : BitVec 32 := Scalar.shrsi v6430 c3_i32_3209
  let c3_i32_3210 : BitVec 32 := 3#32
  let v6432 : BitVec 32 := Scalar.shli v6431 c3_i32_3210
  let v6433 : BitVec 32 := v6432
  let v6434 : Index := Scalar.indexCast v6433
  let c0_3211 : Index := 0#32
  ![v6434.toNat, 0]

def k0_chk358 (v6430 : BitVec 32) : Prop :=
  (8 ∣ (k0_mult358 v6430).toNat) ∧
  (∀ a, (k0_off716 v6430) a + S8x128.size a ≤ S10000x128.size a)
theorem k0_mult358_dvd : ∀ (v6430 : BitVec 32) (k0_hw358 : k0_chk358 v6430), 8 ∣ (k0_mult358 v6430).toNat := fun v6430 k0_hw358 => k0_hw358.1
theorem k0_off716_inb : ∀ (v6430 : BitVec 32) (k0_hw358 : k0_chk358 v6430), ∀ a, (k0_off716 v6430) a + S8x128.size a ≤ S10000x128.size a := fun v6430 k0_hw358 => k0_hw358.2

def k0_off717 (i : grid0.Coords) : Fin 2 → Nat :=
  let arg0 : BitVec 32 := BitVec.ofNat 32 (i 0).val
  let c4_i32 : BitVec 32 := 4#32
  let v0 : BitVec 32 := Scalar.muli arg0 c4_i32
  let c2_i32_3216 : BitVec 32 := 2#32
  let v6446 : BitVec 32 := Scalar.addi v0 c2_i32_3216
  let v6447 : Index := Scalar.indexCast v6446
  let c102_3217 : Index := 102#32
  ![v6447.toNat, 102]
def k0_mult359 (v6448 : BitVec 32) : BitVec 32 :=
  let c3_i32_3218 : BitVec 32 := 3#32
  let v6449 : BitVec 32 := Scalar.shrsi v6448 c3_i32_3218
  let c3_i32_3219 : BitVec 32 := 3#32
  let v6450 : BitVec 32 := Scalar.shli v6449 c3_i32_3219
  v6450

def k0_off718 (v6448 : BitVec 32) : Fin 2 → Nat :=
  let c3_i32_3218 : BitVec 32 := 3#32
  let v6449 : BitVec 32 := Scalar.shrsi v6448 c3_i32_3218
  let c3_i32_3219 : BitVec 32 := 3#32
  let v6450 : BitVec 32 := Scalar.shli v6449 c3_i32_3219
  let v6451 : BitVec 32 := v6450
  let v6452 : Index := Scalar.indexCast v6451
  let c0_3220 : Index := 0#32
  ![v6452.toNat, 0]

def k0_chk359 (v6448 : BitVec 32) : Prop :=
  (8 ∣ (k0_mult359 v6448).toNat) ∧
  (∀ a, (k0_off718 v6448) a + S8x128.size a ≤ S10000x128.size a)
theorem k0_mult359_dvd : ∀ (v6448 : BitVec 32) (k0_hw359 : k0_chk359 v6448), 8 ∣ (k0_mult359 v6448).toNat := fun v6448 k0_hw359 => k0_hw359.1
theorem k0_off718_inb : ∀ (v6448 : BitVec 32) (k0_hw359 : k0_chk359 v6448), ∀ a, (k0_off718 v6448) a + S8x128.size a ≤ S10000x128.size a := fun v6448 k0_hw359 => k0_hw359.2

def k0_off719 (i : grid0.Coords) : Fin 2 → Nat :=
  let arg0 : BitVec 32 := BitVec.ofNat 32 (i 0).val
  let c4_i32 : BitVec 32 := 4#32
  let v0 : BitVec 32 := Scalar.muli arg0 c4_i32
  let c2_i32_3225 : BitVec 32 := 2#32
  let v6464 : BitVec 32 := Scalar.addi v0 c2_i32_3225
  let v6465 : Index := Scalar.indexCast v6464
  let c103_3226 : Index := 103#32
  ![v6465.toNat, 103]
def k0_mult360 (v6466 : BitVec 32) : BitVec 32 :=
  let c3_i32_3227 : BitVec 32 := 3#32
  let v6467 : BitVec 32 := Scalar.shrsi v6466 c3_i32_3227
  let c3_i32_3228 : BitVec 32 := 3#32
  let v6468 : BitVec 32 := Scalar.shli v6467 c3_i32_3228
  v6468

def k0_off720 (v6466 : BitVec 32) : Fin 2 → Nat :=
  let c3_i32_3227 : BitVec 32 := 3#32
  let v6467 : BitVec 32 := Scalar.shrsi v6466 c3_i32_3227
  let c3_i32_3228 : BitVec 32 := 3#32
  let v6468 : BitVec 32 := Scalar.shli v6467 c3_i32_3228
  let v6469 : BitVec 32 := v6468
  let v6470 : Index := Scalar.indexCast v6469
  let c0_3229 : Index := 0#32
  ![v6470.toNat, 0]

def k0_chk360 (v6466 : BitVec 32) : Prop :=
  (8 ∣ (k0_mult360 v6466).toNat) ∧
  (∀ a, (k0_off720 v6466) a + S8x128.size a ≤ S10000x128.size a)
theorem k0_mult360_dvd : ∀ (v6466 : BitVec 32) (k0_hw360 : k0_chk360 v6466), 8 ∣ (k0_mult360 v6466).toNat := fun v6466 k0_hw360 => k0_hw360.1
theorem k0_off720_inb : ∀ (v6466 : BitVec 32) (k0_hw360 : k0_chk360 v6466), ∀ a, (k0_off720 v6466) a + S8x128.size a ≤ S10000x128.size a := fun v6466 k0_hw360 => k0_hw360.2

def k0_off721 (i : grid0.Coords) : Fin 2 → Nat :=
  let arg0 : BitVec 32 := BitVec.ofNat 32 (i 0).val
  let c4_i32 : BitVec 32 := 4#32
  let v0 : BitVec 32 := Scalar.muli arg0 c4_i32
  let c2_i32_3234 : BitVec 32 := 2#32
  let v6482 : BitVec 32 := Scalar.addi v0 c2_i32_3234
  let v6483 : Index := Scalar.indexCast v6482
  let c104_3235 : Index := 104#32
  ![v6483.toNat, 104]
def k0_mult361 (v6484 : BitVec 32) : BitVec 32 :=
  let c3_i32_3236 : BitVec 32 := 3#32
  let v6485 : BitVec 32 := Scalar.shrsi v6484 c3_i32_3236
  let c3_i32_3237 : BitVec 32 := 3#32
  let v6486 : BitVec 32 := Scalar.shli v6485 c3_i32_3237
  v6486

def k0_off722 (v6484 : BitVec 32) : Fin 2 → Nat :=
  let c3_i32_3236 : BitVec 32 := 3#32
  let v6485 : BitVec 32 := Scalar.shrsi v6484 c3_i32_3236
  let c3_i32_3237 : BitVec 32 := 3#32
  let v6486 : BitVec 32 := Scalar.shli v6485 c3_i32_3237
  let v6487 : BitVec 32 := v6486
  let v6488 : Index := Scalar.indexCast v6487
  let c0_3238 : Index := 0#32
  ![v6488.toNat, 0]

def k0_chk361 (v6484 : BitVec 32) : Prop :=
  (8 ∣ (k0_mult361 v6484).toNat) ∧
  (∀ a, (k0_off722 v6484) a + S8x128.size a ≤ S10000x128.size a)
theorem k0_mult361_dvd : ∀ (v6484 : BitVec 32) (k0_hw361 : k0_chk361 v6484), 8 ∣ (k0_mult361 v6484).toNat := fun v6484 k0_hw361 => k0_hw361.1
theorem k0_off722_inb : ∀ (v6484 : BitVec 32) (k0_hw361 : k0_chk361 v6484), ∀ a, (k0_off722 v6484) a + S8x128.size a ≤ S10000x128.size a := fun v6484 k0_hw361 => k0_hw361.2

def k0_off723 (i : grid0.Coords) : Fin 2 → Nat :=
  let arg0 : BitVec 32 := BitVec.ofNat 32 (i 0).val
  let c4_i32 : BitVec 32 := 4#32
  let v0 : BitVec 32 := Scalar.muli arg0 c4_i32
  let c2_i32_3243 : BitVec 32 := 2#32
  let v6500 : BitVec 32 := Scalar.addi v0 c2_i32_3243
  let v6501 : Index := Scalar.indexCast v6500
  let c105_3244 : Index := 105#32
  ![v6501.toNat, 105]
def k0_mult362 (v6502 : BitVec 32) : BitVec 32 :=
  let c3_i32_3245 : BitVec 32 := 3#32
  let v6503 : BitVec 32 := Scalar.shrsi v6502 c3_i32_3245
  let c3_i32_3246 : BitVec 32 := 3#32
  let v6504 : BitVec 32 := Scalar.shli v6503 c3_i32_3246
  v6504

def k0_off724 (v6502 : BitVec 32) : Fin 2 → Nat :=
  let c3_i32_3245 : BitVec 32 := 3#32
  let v6503 : BitVec 32 := Scalar.shrsi v6502 c3_i32_3245
  let c3_i32_3246 : BitVec 32 := 3#32
  let v6504 : BitVec 32 := Scalar.shli v6503 c3_i32_3246
  let v6505 : BitVec 32 := v6504
  let v6506 : Index := Scalar.indexCast v6505
  let c0_3247 : Index := 0#32
  ![v6506.toNat, 0]

def k0_chk362 (v6502 : BitVec 32) : Prop :=
  (8 ∣ (k0_mult362 v6502).toNat) ∧
  (∀ a, (k0_off724 v6502) a + S8x128.size a ≤ S10000x128.size a)
theorem k0_mult362_dvd : ∀ (v6502 : BitVec 32) (k0_hw362 : k0_chk362 v6502), 8 ∣ (k0_mult362 v6502).toNat := fun v6502 k0_hw362 => k0_hw362.1
theorem k0_off724_inb : ∀ (v6502 : BitVec 32) (k0_hw362 : k0_chk362 v6502), ∀ a, (k0_off724 v6502) a + S8x128.size a ≤ S10000x128.size a := fun v6502 k0_hw362 => k0_hw362.2

def k0_off725 (i : grid0.Coords) : Fin 2 → Nat :=
  let arg0 : BitVec 32 := BitVec.ofNat 32 (i 0).val
  let c4_i32 : BitVec 32 := 4#32
  let v0 : BitVec 32 := Scalar.muli arg0 c4_i32
  let c2_i32_3252 : BitVec 32 := 2#32
  let v6518 : BitVec 32 := Scalar.addi v0 c2_i32_3252
  let v6519 : Index := Scalar.indexCast v6518
  let c106_3253 : Index := 106#32
  ![v6519.toNat, 106]
def k0_mult363 (v6520 : BitVec 32) : BitVec 32 :=
  let c3_i32_3254 : BitVec 32 := 3#32
  let v6521 : BitVec 32 := Scalar.shrsi v6520 c3_i32_3254
  let c3_i32_3255 : BitVec 32 := 3#32
  let v6522 : BitVec 32 := Scalar.shli v6521 c3_i32_3255
  v6522

def k0_off726 (v6520 : BitVec 32) : Fin 2 → Nat :=
  let c3_i32_3254 : BitVec 32 := 3#32
  let v6521 : BitVec 32 := Scalar.shrsi v6520 c3_i32_3254
  let c3_i32_3255 : BitVec 32 := 3#32
  let v6522 : BitVec 32 := Scalar.shli v6521 c3_i32_3255
  let v6523 : BitVec 32 := v6522
  let v6524 : Index := Scalar.indexCast v6523
  let c0_3256 : Index := 0#32
  ![v6524.toNat, 0]

def k0_chk363 (v6520 : BitVec 32) : Prop :=
  (8 ∣ (k0_mult363 v6520).toNat) ∧
  (∀ a, (k0_off726 v6520) a + S8x128.size a ≤ S10000x128.size a)
theorem k0_mult363_dvd : ∀ (v6520 : BitVec 32) (k0_hw363 : k0_chk363 v6520), 8 ∣ (k0_mult363 v6520).toNat := fun v6520 k0_hw363 => k0_hw363.1
theorem k0_off726_inb : ∀ (v6520 : BitVec 32) (k0_hw363 : k0_chk363 v6520), ∀ a, (k0_off726 v6520) a + S8x128.size a ≤ S10000x128.size a := fun v6520 k0_hw363 => k0_hw363.2

def k0_off727 (i : grid0.Coords) : Fin 2 → Nat :=
  let arg0 : BitVec 32 := BitVec.ofNat 32 (i 0).val
  let c4_i32 : BitVec 32 := 4#32
  let v0 : BitVec 32 := Scalar.muli arg0 c4_i32
  let c2_i32_3261 : BitVec 32 := 2#32
  let v6536 : BitVec 32 := Scalar.addi v0 c2_i32_3261
  let v6537 : Index := Scalar.indexCast v6536
  let c107_3262 : Index := 107#32
  ![v6537.toNat, 107]
def k0_mult364 (v6538 : BitVec 32) : BitVec 32 :=
  let c3_i32_3263 : BitVec 32 := 3#32
  let v6539 : BitVec 32 := Scalar.shrsi v6538 c3_i32_3263
  let c3_i32_3264 : BitVec 32 := 3#32
  let v6540 : BitVec 32 := Scalar.shli v6539 c3_i32_3264
  v6540

def k0_off728 (v6538 : BitVec 32) : Fin 2 → Nat :=
  let c3_i32_3263 : BitVec 32 := 3#32
  let v6539 : BitVec 32 := Scalar.shrsi v6538 c3_i32_3263
  let c3_i32_3264 : BitVec 32 := 3#32
  let v6540 : BitVec 32 := Scalar.shli v6539 c3_i32_3264
  let v6541 : BitVec 32 := v6540
  let v6542 : Index := Scalar.indexCast v6541
  let c0_3265 : Index := 0#32
  ![v6542.toNat, 0]

def k0_chk364 (v6538 : BitVec 32) : Prop :=
  (8 ∣ (k0_mult364 v6538).toNat) ∧
  (∀ a, (k0_off728 v6538) a + S8x128.size a ≤ S10000x128.size a)
theorem k0_mult364_dvd : ∀ (v6538 : BitVec 32) (k0_hw364 : k0_chk364 v6538), 8 ∣ (k0_mult364 v6538).toNat := fun v6538 k0_hw364 => k0_hw364.1
theorem k0_off728_inb : ∀ (v6538 : BitVec 32) (k0_hw364 : k0_chk364 v6538), ∀ a, (k0_off728 v6538) a + S8x128.size a ≤ S10000x128.size a := fun v6538 k0_hw364 => k0_hw364.2

def k0_off729 (i : grid0.Coords) : Fin 2 → Nat :=
  let arg0 : BitVec 32 := BitVec.ofNat 32 (i 0).val
  let c4_i32 : BitVec 32 := 4#32
  let v0 : BitVec 32 := Scalar.muli arg0 c4_i32
  let c2_i32_3270 : BitVec 32 := 2#32
  let v6554 : BitVec 32 := Scalar.addi v0 c2_i32_3270
  let v6555 : Index := Scalar.indexCast v6554
  let c108_3271 : Index := 108#32
  ![v6555.toNat, 108]
def k0_mult365 (v6556 : BitVec 32) : BitVec 32 :=
  let c3_i32_3272 : BitVec 32 := 3#32
  let v6557 : BitVec 32 := Scalar.shrsi v6556 c3_i32_3272
  let c3_i32_3273 : BitVec 32 := 3#32
  let v6558 : BitVec 32 := Scalar.shli v6557 c3_i32_3273
  v6558

def k0_off730 (v6556 : BitVec 32) : Fin 2 → Nat :=
  let c3_i32_3272 : BitVec 32 := 3#32
  let v6557 : BitVec 32 := Scalar.shrsi v6556 c3_i32_3272
  let c3_i32_3273 : BitVec 32 := 3#32
  let v6558 : BitVec 32 := Scalar.shli v6557 c3_i32_3273
  let v6559 : BitVec 32 := v6558
  let v6560 : Index := Scalar.indexCast v6559
  let c0_3274 : Index := 0#32
  ![v6560.toNat, 0]

def k0_chk365 (v6556 : BitVec 32) : Prop :=
  (8 ∣ (k0_mult365 v6556).toNat) ∧
  (∀ a, (k0_off730 v6556) a + S8x128.size a ≤ S10000x128.size a)
theorem k0_mult365_dvd : ∀ (v6556 : BitVec 32) (k0_hw365 : k0_chk365 v6556), 8 ∣ (k0_mult365 v6556).toNat := fun v6556 k0_hw365 => k0_hw365.1
theorem k0_off730_inb : ∀ (v6556 : BitVec 32) (k0_hw365 : k0_chk365 v6556), ∀ a, (k0_off730 v6556) a + S8x128.size a ≤ S10000x128.size a := fun v6556 k0_hw365 => k0_hw365.2

def k0_off731 (i : grid0.Coords) : Fin 2 → Nat :=
  let arg0 : BitVec 32 := BitVec.ofNat 32 (i 0).val
  let c4_i32 : BitVec 32 := 4#32
  let v0 : BitVec 32 := Scalar.muli arg0 c4_i32
  let c2_i32_3279 : BitVec 32 := 2#32
  let v6572 : BitVec 32 := Scalar.addi v0 c2_i32_3279
  let v6573 : Index := Scalar.indexCast v6572
  let c109_3280 : Index := 109#32
  ![v6573.toNat, 109]
def k0_mult366 (v6574 : BitVec 32) : BitVec 32 :=
  let c3_i32_3281 : BitVec 32 := 3#32
  let v6575 : BitVec 32 := Scalar.shrsi v6574 c3_i32_3281
  let c3_i32_3282 : BitVec 32 := 3#32
  let v6576 : BitVec 32 := Scalar.shli v6575 c3_i32_3282
  v6576

def k0_off732 (v6574 : BitVec 32) : Fin 2 → Nat :=
  let c3_i32_3281 : BitVec 32 := 3#32
  let v6575 : BitVec 32 := Scalar.shrsi v6574 c3_i32_3281
  let c3_i32_3282 : BitVec 32 := 3#32
  let v6576 : BitVec 32 := Scalar.shli v6575 c3_i32_3282
  let v6577 : BitVec 32 := v6576
  let v6578 : Index := Scalar.indexCast v6577
  let c0_3283 : Index := 0#32
  ![v6578.toNat, 0]

def k0_chk366 (v6574 : BitVec 32) : Prop :=
  (8 ∣ (k0_mult366 v6574).toNat) ∧
  (∀ a, (k0_off732 v6574) a + S8x128.size a ≤ S10000x128.size a)
theorem k0_mult366_dvd : ∀ (v6574 : BitVec 32) (k0_hw366 : k0_chk366 v6574), 8 ∣ (k0_mult366 v6574).toNat := fun v6574 k0_hw366 => k0_hw366.1
theorem k0_off732_inb : ∀ (v6574 : BitVec 32) (k0_hw366 : k0_chk366 v6574), ∀ a, (k0_off732 v6574) a + S8x128.size a ≤ S10000x128.size a := fun v6574 k0_hw366 => k0_hw366.2

def k0_off733 (i : grid0.Coords) : Fin 2 → Nat :=
  let arg0 : BitVec 32 := BitVec.ofNat 32 (i 0).val
  let c4_i32 : BitVec 32 := 4#32
  let v0 : BitVec 32 := Scalar.muli arg0 c4_i32
  let c2_i32_3288 : BitVec 32 := 2#32
  let v6590 : BitVec 32 := Scalar.addi v0 c2_i32_3288
  let v6591 : Index := Scalar.indexCast v6590
  let c110_3289 : Index := 110#32
  ![v6591.toNat, 110]
def k0_mult367 (v6592 : BitVec 32) : BitVec 32 :=
  let c3_i32_3290 : BitVec 32 := 3#32
  let v6593 : BitVec 32 := Scalar.shrsi v6592 c3_i32_3290
  let c3_i32_3291 : BitVec 32 := 3#32
  let v6594 : BitVec 32 := Scalar.shli v6593 c3_i32_3291
  v6594

def k0_off734 (v6592 : BitVec 32) : Fin 2 → Nat :=
  let c3_i32_3290 : BitVec 32 := 3#32
  let v6593 : BitVec 32 := Scalar.shrsi v6592 c3_i32_3290
  let c3_i32_3291 : BitVec 32 := 3#32
  let v6594 : BitVec 32 := Scalar.shli v6593 c3_i32_3291
  let v6595 : BitVec 32 := v6594
  let v6596 : Index := Scalar.indexCast v6595
  let c0_3292 : Index := 0#32
  ![v6596.toNat, 0]

def k0_chk367 (v6592 : BitVec 32) : Prop :=
  (8 ∣ (k0_mult367 v6592).toNat) ∧
  (∀ a, (k0_off734 v6592) a + S8x128.size a ≤ S10000x128.size a)
theorem k0_mult367_dvd : ∀ (v6592 : BitVec 32) (k0_hw367 : k0_chk367 v6592), 8 ∣ (k0_mult367 v6592).toNat := fun v6592 k0_hw367 => k0_hw367.1
theorem k0_off734_inb : ∀ (v6592 : BitVec 32) (k0_hw367 : k0_chk367 v6592), ∀ a, (k0_off734 v6592) a + S8x128.size a ≤ S10000x128.size a := fun v6592 k0_hw367 => k0_hw367.2

def k0_off735 (i : grid0.Coords) : Fin 2 → Nat :=
  let arg0 : BitVec 32 := BitVec.ofNat 32 (i 0).val
  let c4_i32 : BitVec 32 := 4#32
  let v0 : BitVec 32 := Scalar.muli arg0 c4_i32
  let c2_i32_3297 : BitVec 32 := 2#32
  let v6608 : BitVec 32 := Scalar.addi v0 c2_i32_3297
  let v6609 : Index := Scalar.indexCast v6608
  let c111_3298 : Index := 111#32
  ![v6609.toNat, 111]
def k0_mult368 (v6610 : BitVec 32) : BitVec 32 :=
  let c3_i32_3299 : BitVec 32 := 3#32
  let v6611 : BitVec 32 := Scalar.shrsi v6610 c3_i32_3299
  let c3_i32_3300 : BitVec 32 := 3#32
  let v6612 : BitVec 32 := Scalar.shli v6611 c3_i32_3300
  v6612

def k0_off736 (v6610 : BitVec 32) : Fin 2 → Nat :=
  let c3_i32_3299 : BitVec 32 := 3#32
  let v6611 : BitVec 32 := Scalar.shrsi v6610 c3_i32_3299
  let c3_i32_3300 : BitVec 32 := 3#32
  let v6612 : BitVec 32 := Scalar.shli v6611 c3_i32_3300
  let v6613 : BitVec 32 := v6612
  let v6614 : Index := Scalar.indexCast v6613
  let c0_3301 : Index := 0#32
  ![v6614.toNat, 0]

def k0_chk368 (v6610 : BitVec 32) : Prop :=
  (8 ∣ (k0_mult368 v6610).toNat) ∧
  (∀ a, (k0_off736 v6610) a + S8x128.size a ≤ S10000x128.size a)
theorem k0_mult368_dvd : ∀ (v6610 : BitVec 32) (k0_hw368 : k0_chk368 v6610), 8 ∣ (k0_mult368 v6610).toNat := fun v6610 k0_hw368 => k0_hw368.1
theorem k0_off736_inb : ∀ (v6610 : BitVec 32) (k0_hw368 : k0_chk368 v6610), ∀ a, (k0_off736 v6610) a + S8x128.size a ≤ S10000x128.size a := fun v6610 k0_hw368 => k0_hw368.2

def k0_off737 (i : grid0.Coords) : Fin 2 → Nat :=
  let arg0 : BitVec 32 := BitVec.ofNat 32 (i 0).val
  let c4_i32 : BitVec 32 := 4#32
  let v0 : BitVec 32 := Scalar.muli arg0 c4_i32
  let c2_i32_3306 : BitVec 32 := 2#32
  let v6626 : BitVec 32 := Scalar.addi v0 c2_i32_3306
  let v6627 : Index := Scalar.indexCast v6626
  let c112_3307 : Index := 112#32
  ![v6627.toNat, 112]
def k0_mult369 (v6628 : BitVec 32) : BitVec 32 :=
  let c3_i32_3308 : BitVec 32 := 3#32
  let v6629 : BitVec 32 := Scalar.shrsi v6628 c3_i32_3308
  let c3_i32_3309 : BitVec 32 := 3#32
  let v6630 : BitVec 32 := Scalar.shli v6629 c3_i32_3309
  v6630

def k0_off738 (v6628 : BitVec 32) : Fin 2 → Nat :=
  let c3_i32_3308 : BitVec 32 := 3#32
  let v6629 : BitVec 32 := Scalar.shrsi v6628 c3_i32_3308
  let c3_i32_3309 : BitVec 32 := 3#32
  let v6630 : BitVec 32 := Scalar.shli v6629 c3_i32_3309
  let v6631 : BitVec 32 := v6630
  let v6632 : Index := Scalar.indexCast v6631
  let c0_3310 : Index := 0#32
  ![v6632.toNat, 0]

def k0_chk369 (v6628 : BitVec 32) : Prop :=
  (8 ∣ (k0_mult369 v6628).toNat) ∧
  (∀ a, (k0_off738 v6628) a + S8x128.size a ≤ S10000x128.size a)
theorem k0_mult369_dvd : ∀ (v6628 : BitVec 32) (k0_hw369 : k0_chk369 v6628), 8 ∣ (k0_mult369 v6628).toNat := fun v6628 k0_hw369 => k0_hw369.1
theorem k0_off738_inb : ∀ (v6628 : BitVec 32) (k0_hw369 : k0_chk369 v6628), ∀ a, (k0_off738 v6628) a + S8x128.size a ≤ S10000x128.size a := fun v6628 k0_hw369 => k0_hw369.2

def k0_off739 (i : grid0.Coords) : Fin 2 → Nat :=
  let arg0 : BitVec 32 := BitVec.ofNat 32 (i 0).val
  let c4_i32 : BitVec 32 := 4#32
  let v0 : BitVec 32 := Scalar.muli arg0 c4_i32
  let c2_i32_3315 : BitVec 32 := 2#32
  let v6644 : BitVec 32 := Scalar.addi v0 c2_i32_3315
  let v6645 : Index := Scalar.indexCast v6644
  let c113_3316 : Index := 113#32
  ![v6645.toNat, 113]
def k0_mult370 (v6646 : BitVec 32) : BitVec 32 :=
  let c3_i32_3317 : BitVec 32 := 3#32
  let v6647 : BitVec 32 := Scalar.shrsi v6646 c3_i32_3317
  let c3_i32_3318 : BitVec 32 := 3#32
  let v6648 : BitVec 32 := Scalar.shli v6647 c3_i32_3318
  v6648

def k0_off740 (v6646 : BitVec 32) : Fin 2 → Nat :=
  let c3_i32_3317 : BitVec 32 := 3#32
  let v6647 : BitVec 32 := Scalar.shrsi v6646 c3_i32_3317
  let c3_i32_3318 : BitVec 32 := 3#32
  let v6648 : BitVec 32 := Scalar.shli v6647 c3_i32_3318
  let v6649 : BitVec 32 := v6648
  let v6650 : Index := Scalar.indexCast v6649
  let c0_3319 : Index := 0#32
  ![v6650.toNat, 0]

def k0_chk370 (v6646 : BitVec 32) : Prop :=
  (8 ∣ (k0_mult370 v6646).toNat) ∧
  (∀ a, (k0_off740 v6646) a + S8x128.size a ≤ S10000x128.size a)
theorem k0_mult370_dvd : ∀ (v6646 : BitVec 32) (k0_hw370 : k0_chk370 v6646), 8 ∣ (k0_mult370 v6646).toNat := fun v6646 k0_hw370 => k0_hw370.1
theorem k0_off740_inb : ∀ (v6646 : BitVec 32) (k0_hw370 : k0_chk370 v6646), ∀ a, (k0_off740 v6646) a + S8x128.size a ≤ S10000x128.size a := fun v6646 k0_hw370 => k0_hw370.2

def k0_off741 (i : grid0.Coords) : Fin 2 → Nat :=
  let arg0 : BitVec 32 := BitVec.ofNat 32 (i 0).val
  let c4_i32 : BitVec 32 := 4#32
  let v0 : BitVec 32 := Scalar.muli arg0 c4_i32
  let c2_i32_3324 : BitVec 32 := 2#32
  let v6662 : BitVec 32 := Scalar.addi v0 c2_i32_3324
  let v6663 : Index := Scalar.indexCast v6662
  let c114_3325 : Index := 114#32
  ![v6663.toNat, 114]
def k0_mult371 (v6664 : BitVec 32) : BitVec 32 :=
  let c3_i32_3326 : BitVec 32 := 3#32
  let v6665 : BitVec 32 := Scalar.shrsi v6664 c3_i32_3326
  let c3_i32_3327 : BitVec 32 := 3#32
  let v6666 : BitVec 32 := Scalar.shli v6665 c3_i32_3327
  v6666

def k0_off742 (v6664 : BitVec 32) : Fin 2 → Nat :=
  let c3_i32_3326 : BitVec 32 := 3#32
  let v6665 : BitVec 32 := Scalar.shrsi v6664 c3_i32_3326
  let c3_i32_3327 : BitVec 32 := 3#32
  let v6666 : BitVec 32 := Scalar.shli v6665 c3_i32_3327
  let v6667 : BitVec 32 := v6666
  let v6668 : Index := Scalar.indexCast v6667
  let c0_3328 : Index := 0#32
  ![v6668.toNat, 0]

def k0_chk371 (v6664 : BitVec 32) : Prop :=
  (8 ∣ (k0_mult371 v6664).toNat) ∧
  (∀ a, (k0_off742 v6664) a + S8x128.size a ≤ S10000x128.size a)
theorem k0_mult371_dvd : ∀ (v6664 : BitVec 32) (k0_hw371 : k0_chk371 v6664), 8 ∣ (k0_mult371 v6664).toNat := fun v6664 k0_hw371 => k0_hw371.1
theorem k0_off742_inb : ∀ (v6664 : BitVec 32) (k0_hw371 : k0_chk371 v6664), ∀ a, (k0_off742 v6664) a + S8x128.size a ≤ S10000x128.size a := fun v6664 k0_hw371 => k0_hw371.2

def k0_off743 (i : grid0.Coords) : Fin 2 → Nat :=
  let arg0 : BitVec 32 := BitVec.ofNat 32 (i 0).val
  let c4_i32 : BitVec 32 := 4#32
  let v0 : BitVec 32 := Scalar.muli arg0 c4_i32
  let c2_i32_3333 : BitVec 32 := 2#32
  let v6680 : BitVec 32 := Scalar.addi v0 c2_i32_3333
  let v6681 : Index := Scalar.indexCast v6680
  let c115_3334 : Index := 115#32
  ![v6681.toNat, 115]
def k0_mult372 (v6682 : BitVec 32) : BitVec 32 :=
  let c3_i32_3335 : BitVec 32 := 3#32
  let v6683 : BitVec 32 := Scalar.shrsi v6682 c3_i32_3335
  let c3_i32_3336 : BitVec 32 := 3#32
  let v6684 : BitVec 32 := Scalar.shli v6683 c3_i32_3336
  v6684

def k0_off744 (v6682 : BitVec 32) : Fin 2 → Nat :=
  let c3_i32_3335 : BitVec 32 := 3#32
  let v6683 : BitVec 32 := Scalar.shrsi v6682 c3_i32_3335
  let c3_i32_3336 : BitVec 32 := 3#32
  let v6684 : BitVec 32 := Scalar.shli v6683 c3_i32_3336
  let v6685 : BitVec 32 := v6684
  let v6686 : Index := Scalar.indexCast v6685
  let c0_3337 : Index := 0#32
  ![v6686.toNat, 0]

def k0_chk372 (v6682 : BitVec 32) : Prop :=
  (8 ∣ (k0_mult372 v6682).toNat) ∧
  (∀ a, (k0_off744 v6682) a + S8x128.size a ≤ S10000x128.size a)
theorem k0_mult372_dvd : ∀ (v6682 : BitVec 32) (k0_hw372 : k0_chk372 v6682), 8 ∣ (k0_mult372 v6682).toNat := fun v6682 k0_hw372 => k0_hw372.1
theorem k0_off744_inb : ∀ (v6682 : BitVec 32) (k0_hw372 : k0_chk372 v6682), ∀ a, (k0_off744 v6682) a + S8x128.size a ≤ S10000x128.size a := fun v6682 k0_hw372 => k0_hw372.2

def k0_off745 (i : grid0.Coords) : Fin 2 → Nat :=
  let arg0 : BitVec 32 := BitVec.ofNat 32 (i 0).val
  let c4_i32 : BitVec 32 := 4#32
  let v0 : BitVec 32 := Scalar.muli arg0 c4_i32
  let c2_i32_3342 : BitVec 32 := 2#32
  let v6698 : BitVec 32 := Scalar.addi v0 c2_i32_3342
  let v6699 : Index := Scalar.indexCast v6698
  let c116_3343 : Index := 116#32
  ![v6699.toNat, 116]
def k0_mult373 (v6700 : BitVec 32) : BitVec 32 :=
  let c3_i32_3344 : BitVec 32 := 3#32
  let v6701 : BitVec 32 := Scalar.shrsi v6700 c3_i32_3344
  let c3_i32_3345 : BitVec 32 := 3#32
  let v6702 : BitVec 32 := Scalar.shli v6701 c3_i32_3345
  v6702

def k0_off746 (v6700 : BitVec 32) : Fin 2 → Nat :=
  let c3_i32_3344 : BitVec 32 := 3#32
  let v6701 : BitVec 32 := Scalar.shrsi v6700 c3_i32_3344
  let c3_i32_3345 : BitVec 32 := 3#32
  let v6702 : BitVec 32 := Scalar.shli v6701 c3_i32_3345
  let v6703 : BitVec 32 := v6702
  let v6704 : Index := Scalar.indexCast v6703
  let c0_3346 : Index := 0#32
  ![v6704.toNat, 0]

def k0_chk373 (v6700 : BitVec 32) : Prop :=
  (8 ∣ (k0_mult373 v6700).toNat) ∧
  (∀ a, (k0_off746 v6700) a + S8x128.size a ≤ S10000x128.size a)
theorem k0_mult373_dvd : ∀ (v6700 : BitVec 32) (k0_hw373 : k0_chk373 v6700), 8 ∣ (k0_mult373 v6700).toNat := fun v6700 k0_hw373 => k0_hw373.1
theorem k0_off746_inb : ∀ (v6700 : BitVec 32) (k0_hw373 : k0_chk373 v6700), ∀ a, (k0_off746 v6700) a + S8x128.size a ≤ S10000x128.size a := fun v6700 k0_hw373 => k0_hw373.2

def k0_off747 (i : grid0.Coords) : Fin 2 → Nat :=
  let arg0 : BitVec 32 := BitVec.ofNat 32 (i 0).val
  let c4_i32 : BitVec 32 := 4#32
  let v0 : BitVec 32 := Scalar.muli arg0 c4_i32
  let c2_i32_3351 : BitVec 32 := 2#32
  let v6716 : BitVec 32 := Scalar.addi v0 c2_i32_3351
  let v6717 : Index := Scalar.indexCast v6716
  let c117_3352 : Index := 117#32
  ![v6717.toNat, 117]
def k0_mult374 (v6718 : BitVec 32) : BitVec 32 :=
  let c3_i32_3353 : BitVec 32 := 3#32
  let v6719 : BitVec 32 := Scalar.shrsi v6718 c3_i32_3353
  let c3_i32_3354 : BitVec 32 := 3#32
  let v6720 : BitVec 32 := Scalar.shli v6719 c3_i32_3354
  v6720

def k0_off748 (v6718 : BitVec 32) : Fin 2 → Nat :=
  let c3_i32_3353 : BitVec 32 := 3#32
  let v6719 : BitVec 32 := Scalar.shrsi v6718 c3_i32_3353
  let c3_i32_3354 : BitVec 32 := 3#32
  let v6720 : BitVec 32 := Scalar.shli v6719 c3_i32_3354
  let v6721 : BitVec 32 := v6720
  let v6722 : Index := Scalar.indexCast v6721
  let c0_3355 : Index := 0#32
  ![v6722.toNat, 0]

def k0_chk374 (v6718 : BitVec 32) : Prop :=
  (8 ∣ (k0_mult374 v6718).toNat) ∧
  (∀ a, (k0_off748 v6718) a + S8x128.size a ≤ S10000x128.size a)
theorem k0_mult374_dvd : ∀ (v6718 : BitVec 32) (k0_hw374 : k0_chk374 v6718), 8 ∣ (k0_mult374 v6718).toNat := fun v6718 k0_hw374 => k0_hw374.1
theorem k0_off748_inb : ∀ (v6718 : BitVec 32) (k0_hw374 : k0_chk374 v6718), ∀ a, (k0_off748 v6718) a + S8x128.size a ≤ S10000x128.size a := fun v6718 k0_hw374 => k0_hw374.2

def k0_off749 (i : grid0.Coords) : Fin 2 → Nat :=
  let arg0 : BitVec 32 := BitVec.ofNat 32 (i 0).val
  let c4_i32 : BitVec 32 := 4#32
  let v0 : BitVec 32 := Scalar.muli arg0 c4_i32
  let c2_i32_3360 : BitVec 32 := 2#32
  let v6734 : BitVec 32 := Scalar.addi v0 c2_i32_3360
  let v6735 : Index := Scalar.indexCast v6734
  let c118_3361 : Index := 118#32
  ![v6735.toNat, 118]
def k0_mult375 (v6736 : BitVec 32) : BitVec 32 :=
  let c3_i32_3362 : BitVec 32 := 3#32
  let v6737 : BitVec 32 := Scalar.shrsi v6736 c3_i32_3362
  let c3_i32_3363 : BitVec 32 := 3#32
  let v6738 : BitVec 32 := Scalar.shli v6737 c3_i32_3363
  v6738

def k0_off750 (v6736 : BitVec 32) : Fin 2 → Nat :=
  let c3_i32_3362 : BitVec 32 := 3#32
  let v6737 : BitVec 32 := Scalar.shrsi v6736 c3_i32_3362
  let c3_i32_3363 : BitVec 32 := 3#32
  let v6738 : BitVec 32 := Scalar.shli v6737 c3_i32_3363
  let v6739 : BitVec 32 := v6738
  let v6740 : Index := Scalar.indexCast v6739
  let c0_3364 : Index := 0#32
  ![v6740.toNat, 0]

def k0_chk375 (v6736 : BitVec 32) : Prop :=
  (8 ∣ (k0_mult375 v6736).toNat) ∧
  (∀ a, (k0_off750 v6736) a + S8x128.size a ≤ S10000x128.size a)
theorem k0_mult375_dvd : ∀ (v6736 : BitVec 32) (k0_hw375 : k0_chk375 v6736), 8 ∣ (k0_mult375 v6736).toNat := fun v6736 k0_hw375 => k0_hw375.1
theorem k0_off750_inb : ∀ (v6736 : BitVec 32) (k0_hw375 : k0_chk375 v6736), ∀ a, (k0_off750 v6736) a + S8x128.size a ≤ S10000x128.size a := fun v6736 k0_hw375 => k0_hw375.2

def k0_off751 (i : grid0.Coords) : Fin 2 → Nat :=
  let arg0 : BitVec 32 := BitVec.ofNat 32 (i 0).val
  let c4_i32 : BitVec 32 := 4#32
  let v0 : BitVec 32 := Scalar.muli arg0 c4_i32
  let c2_i32_3369 : BitVec 32 := 2#32
  let v6752 : BitVec 32 := Scalar.addi v0 c2_i32_3369
  let v6753 : Index := Scalar.indexCast v6752
  let c119_3370 : Index := 119#32
  ![v6753.toNat, 119]
def k0_mult376 (v6754 : BitVec 32) : BitVec 32 :=
  let c3_i32_3371 : BitVec 32 := 3#32
  let v6755 : BitVec 32 := Scalar.shrsi v6754 c3_i32_3371
  let c3_i32_3372 : BitVec 32 := 3#32
  let v6756 : BitVec 32 := Scalar.shli v6755 c3_i32_3372
  v6756

def k0_off752 (v6754 : BitVec 32) : Fin 2 → Nat :=
  let c3_i32_3371 : BitVec 32 := 3#32
  let v6755 : BitVec 32 := Scalar.shrsi v6754 c3_i32_3371
  let c3_i32_3372 : BitVec 32 := 3#32
  let v6756 : BitVec 32 := Scalar.shli v6755 c3_i32_3372
  let v6757 : BitVec 32 := v6756
  let v6758 : Index := Scalar.indexCast v6757
  let c0_3373 : Index := 0#32
  ![v6758.toNat, 0]

def k0_chk376 (v6754 : BitVec 32) : Prop :=
  (8 ∣ (k0_mult376 v6754).toNat) ∧
  (∀ a, (k0_off752 v6754) a + S8x128.size a ≤ S10000x128.size a)
theorem k0_mult376_dvd : ∀ (v6754 : BitVec 32) (k0_hw376 : k0_chk376 v6754), 8 ∣ (k0_mult376 v6754).toNat := fun v6754 k0_hw376 => k0_hw376.1
theorem k0_off752_inb : ∀ (v6754 : BitVec 32) (k0_hw376 : k0_chk376 v6754), ∀ a, (k0_off752 v6754) a + S8x128.size a ≤ S10000x128.size a := fun v6754 k0_hw376 => k0_hw376.2

def k0_off753 (i : grid0.Coords) : Fin 2 → Nat :=
  let arg0 : BitVec 32 := BitVec.ofNat 32 (i 0).val
  let c4_i32 : BitVec 32 := 4#32
  let v0 : BitVec 32 := Scalar.muli arg0 c4_i32
  let c2_i32_3378 : BitVec 32 := 2#32
  let v6770 : BitVec 32 := Scalar.addi v0 c2_i32_3378
  let v6771 : Index := Scalar.indexCast v6770
  let c120_3379 : Index := 120#32
  ![v6771.toNat, 120]
def k0_mult377 (v6772 : BitVec 32) : BitVec 32 :=
  let c3_i32_3380 : BitVec 32 := 3#32
  let v6773 : BitVec 32 := Scalar.shrsi v6772 c3_i32_3380
  let c3_i32_3381 : BitVec 32 := 3#32
  let v6774 : BitVec 32 := Scalar.shli v6773 c3_i32_3381
  v6774

def k0_off754 (v6772 : BitVec 32) : Fin 2 → Nat :=
  let c3_i32_3380 : BitVec 32 := 3#32
  let v6773 : BitVec 32 := Scalar.shrsi v6772 c3_i32_3380
  let c3_i32_3381 : BitVec 32 := 3#32
  let v6774 : BitVec 32 := Scalar.shli v6773 c3_i32_3381
  let v6775 : BitVec 32 := v6774
  let v6776 : Index := Scalar.indexCast v6775
  let c0_3382 : Index := 0#32
  ![v6776.toNat, 0]

def k0_chk377 (v6772 : BitVec 32) : Prop :=
  (8 ∣ (k0_mult377 v6772).toNat) ∧
  (∀ a, (k0_off754 v6772) a + S8x128.size a ≤ S10000x128.size a)
theorem k0_mult377_dvd : ∀ (v6772 : BitVec 32) (k0_hw377 : k0_chk377 v6772), 8 ∣ (k0_mult377 v6772).toNat := fun v6772 k0_hw377 => k0_hw377.1
theorem k0_off754_inb : ∀ (v6772 : BitVec 32) (k0_hw377 : k0_chk377 v6772), ∀ a, (k0_off754 v6772) a + S8x128.size a ≤ S10000x128.size a := fun v6772 k0_hw377 => k0_hw377.2

def k0_off755 (i : grid0.Coords) : Fin 2 → Nat :=
  let arg0 : BitVec 32 := BitVec.ofNat 32 (i 0).val
  let c4_i32 : BitVec 32 := 4#32
  let v0 : BitVec 32 := Scalar.muli arg0 c4_i32
  let c2_i32_3387 : BitVec 32 := 2#32
  let v6788 : BitVec 32 := Scalar.addi v0 c2_i32_3387
  let v6789 : Index := Scalar.indexCast v6788
  let c121_3388 : Index := 121#32
  ![v6789.toNat, 121]
def k0_mult378 (v6790 : BitVec 32) : BitVec 32 :=
  let c3_i32_3389 : BitVec 32 := 3#32
  let v6791 : BitVec 32 := Scalar.shrsi v6790 c3_i32_3389
  let c3_i32_3390 : BitVec 32 := 3#32
  let v6792 : BitVec 32 := Scalar.shli v6791 c3_i32_3390
  v6792

def k0_off756 (v6790 : BitVec 32) : Fin 2 → Nat :=
  let c3_i32_3389 : BitVec 32 := 3#32
  let v6791 : BitVec 32 := Scalar.shrsi v6790 c3_i32_3389
  let c3_i32_3390 : BitVec 32 := 3#32
  let v6792 : BitVec 32 := Scalar.shli v6791 c3_i32_3390
  let v6793 : BitVec 32 := v6792
  let v6794 : Index := Scalar.indexCast v6793
  let c0_3391 : Index := 0#32
  ![v6794.toNat, 0]

def k0_chk378 (v6790 : BitVec 32) : Prop :=
  (8 ∣ (k0_mult378 v6790).toNat) ∧
  (∀ a, (k0_off756 v6790) a + S8x128.size a ≤ S10000x128.size a)
theorem k0_mult378_dvd : ∀ (v6790 : BitVec 32) (k0_hw378 : k0_chk378 v6790), 8 ∣ (k0_mult378 v6790).toNat := fun v6790 k0_hw378 => k0_hw378.1
theorem k0_off756_inb : ∀ (v6790 : BitVec 32) (k0_hw378 : k0_chk378 v6790), ∀ a, (k0_off756 v6790) a + S8x128.size a ≤ S10000x128.size a := fun v6790 k0_hw378 => k0_hw378.2

def k0_off757 (i : grid0.Coords) : Fin 2 → Nat :=
  let arg0 : BitVec 32 := BitVec.ofNat 32 (i 0).val
  let c4_i32 : BitVec 32 := 4#32
  let v0 : BitVec 32 := Scalar.muli arg0 c4_i32
  let c2_i32_3396 : BitVec 32 := 2#32
  let v6806 : BitVec 32 := Scalar.addi v0 c2_i32_3396
  let v6807 : Index := Scalar.indexCast v6806
  let c122_3397 : Index := 122#32
  ![v6807.toNat, 122]
def k0_mult379 (v6808 : BitVec 32) : BitVec 32 :=
  let c3_i32_3398 : BitVec 32 := 3#32
  let v6809 : BitVec 32 := Scalar.shrsi v6808 c3_i32_3398
  let c3_i32_3399 : BitVec 32 := 3#32
  let v6810 : BitVec 32 := Scalar.shli v6809 c3_i32_3399
  v6810

def k0_off758 (v6808 : BitVec 32) : Fin 2 → Nat :=
  let c3_i32_3398 : BitVec 32 := 3#32
  let v6809 : BitVec 32 := Scalar.shrsi v6808 c3_i32_3398
  let c3_i32_3399 : BitVec 32 := 3#32
  let v6810 : BitVec 32 := Scalar.shli v6809 c3_i32_3399
  let v6811 : BitVec 32 := v6810
  let v6812 : Index := Scalar.indexCast v6811
  let c0_3400 : Index := 0#32
  ![v6812.toNat, 0]

def k0_chk379 (v6808 : BitVec 32) : Prop :=
  (8 ∣ (k0_mult379 v6808).toNat) ∧
  (∀ a, (k0_off758 v6808) a + S8x128.size a ≤ S10000x128.size a)
theorem k0_mult379_dvd : ∀ (v6808 : BitVec 32) (k0_hw379 : k0_chk379 v6808), 8 ∣ (k0_mult379 v6808).toNat := fun v6808 k0_hw379 => k0_hw379.1
theorem k0_off758_inb : ∀ (v6808 : BitVec 32) (k0_hw379 : k0_chk379 v6808), ∀ a, (k0_off758 v6808) a + S8x128.size a ≤ S10000x128.size a := fun v6808 k0_hw379 => k0_hw379.2

def k0_off759 (i : grid0.Coords) : Fin 2 → Nat :=
  let arg0 : BitVec 32 := BitVec.ofNat 32 (i 0).val
  let c4_i32 : BitVec 32 := 4#32
  let v0 : BitVec 32 := Scalar.muli arg0 c4_i32
  let c2_i32_3405 : BitVec 32 := 2#32
  let v6824 : BitVec 32 := Scalar.addi v0 c2_i32_3405
  let v6825 : Index := Scalar.indexCast v6824
  let c123_3406 : Index := 123#32
  ![v6825.toNat, 123]
def k0_mult380 (v6826 : BitVec 32) : BitVec 32 :=
  let c3_i32_3407 : BitVec 32 := 3#32
  let v6827 : BitVec 32 := Scalar.shrsi v6826 c3_i32_3407
  let c3_i32_3408 : BitVec 32 := 3#32
  let v6828 : BitVec 32 := Scalar.shli v6827 c3_i32_3408
  v6828

def k0_off760 (v6826 : BitVec 32) : Fin 2 → Nat :=
  let c3_i32_3407 : BitVec 32 := 3#32
  let v6827 : BitVec 32 := Scalar.shrsi v6826 c3_i32_3407
  let c3_i32_3408 : BitVec 32 := 3#32
  let v6828 : BitVec 32 := Scalar.shli v6827 c3_i32_3408
  let v6829 : BitVec 32 := v6828
  let v6830 : Index := Scalar.indexCast v6829
  let c0_3409 : Index := 0#32
  ![v6830.toNat, 0]

def k0_chk380 (v6826 : BitVec 32) : Prop :=
  (8 ∣ (k0_mult380 v6826).toNat) ∧
  (∀ a, (k0_off760 v6826) a + S8x128.size a ≤ S10000x128.size a)
theorem k0_mult380_dvd : ∀ (v6826 : BitVec 32) (k0_hw380 : k0_chk380 v6826), 8 ∣ (k0_mult380 v6826).toNat := fun v6826 k0_hw380 => k0_hw380.1
theorem k0_off760_inb : ∀ (v6826 : BitVec 32) (k0_hw380 : k0_chk380 v6826), ∀ a, (k0_off760 v6826) a + S8x128.size a ≤ S10000x128.size a := fun v6826 k0_hw380 => k0_hw380.2

def k0_off761 (i : grid0.Coords) : Fin 2 → Nat :=
  let arg0 : BitVec 32 := BitVec.ofNat 32 (i 0).val
  let c4_i32 : BitVec 32 := 4#32
  let v0 : BitVec 32 := Scalar.muli arg0 c4_i32
  let c2_i32_3414 : BitVec 32 := 2#32
  let v6842 : BitVec 32 := Scalar.addi v0 c2_i32_3414
  let v6843 : Index := Scalar.indexCast v6842
  let c124_3415 : Index := 124#32
  ![v6843.toNat, 124]
def k0_mult381 (v6844 : BitVec 32) : BitVec 32 :=
  let c3_i32_3416 : BitVec 32 := 3#32
  let v6845 : BitVec 32 := Scalar.shrsi v6844 c3_i32_3416
  let c3_i32_3417 : BitVec 32 := 3#32
  let v6846 : BitVec 32 := Scalar.shli v6845 c3_i32_3417
  v6846

def k0_off762 (v6844 : BitVec 32) : Fin 2 → Nat :=
  let c3_i32_3416 : BitVec 32 := 3#32
  let v6845 : BitVec 32 := Scalar.shrsi v6844 c3_i32_3416
  let c3_i32_3417 : BitVec 32 := 3#32
  let v6846 : BitVec 32 := Scalar.shli v6845 c3_i32_3417
  let v6847 : BitVec 32 := v6846
  let v6848 : Index := Scalar.indexCast v6847
  let c0_3418 : Index := 0#32
  ![v6848.toNat, 0]

def k0_chk381 (v6844 : BitVec 32) : Prop :=
  (8 ∣ (k0_mult381 v6844).toNat) ∧
  (∀ a, (k0_off762 v6844) a + S8x128.size a ≤ S10000x128.size a)
theorem k0_mult381_dvd : ∀ (v6844 : BitVec 32) (k0_hw381 : k0_chk381 v6844), 8 ∣ (k0_mult381 v6844).toNat := fun v6844 k0_hw381 => k0_hw381.1
theorem k0_off762_inb : ∀ (v6844 : BitVec 32) (k0_hw381 : k0_chk381 v6844), ∀ a, (k0_off762 v6844) a + S8x128.size a ≤ S10000x128.size a := fun v6844 k0_hw381 => k0_hw381.2

def k0_off763 (i : grid0.Coords) : Fin 2 → Nat :=
  let arg0 : BitVec 32 := BitVec.ofNat 32 (i 0).val
  let c4_i32 : BitVec 32 := 4#32
  let v0 : BitVec 32 := Scalar.muli arg0 c4_i32
  let c2_i32_3423 : BitVec 32 := 2#32
  let v6860 : BitVec 32 := Scalar.addi v0 c2_i32_3423
  let v6861 : Index := Scalar.indexCast v6860
  let c125_3424 : Index := 125#32
  ![v6861.toNat, 125]
def k0_mult382 (v6862 : BitVec 32) : BitVec 32 :=
  let c3_i32_3425 : BitVec 32 := 3#32
  let v6863 : BitVec 32 := Scalar.shrsi v6862 c3_i32_3425
  let c3_i32_3426 : BitVec 32 := 3#32
  let v6864 : BitVec 32 := Scalar.shli v6863 c3_i32_3426
  v6864

def k0_off764 (v6862 : BitVec 32) : Fin 2 → Nat :=
  let c3_i32_3425 : BitVec 32 := 3#32
  let v6863 : BitVec 32 := Scalar.shrsi v6862 c3_i32_3425
  let c3_i32_3426 : BitVec 32 := 3#32
  let v6864 : BitVec 32 := Scalar.shli v6863 c3_i32_3426
  let v6865 : BitVec 32 := v6864
  let v6866 : Index := Scalar.indexCast v6865
  let c0_3427 : Index := 0#32
  ![v6866.toNat, 0]

def k0_chk382 (v6862 : BitVec 32) : Prop :=
  (8 ∣ (k0_mult382 v6862).toNat) ∧
  (∀ a, (k0_off764 v6862) a + S8x128.size a ≤ S10000x128.size a)
theorem k0_mult382_dvd : ∀ (v6862 : BitVec 32) (k0_hw382 : k0_chk382 v6862), 8 ∣ (k0_mult382 v6862).toNat := fun v6862 k0_hw382 => k0_hw382.1
theorem k0_off764_inb : ∀ (v6862 : BitVec 32) (k0_hw382 : k0_chk382 v6862), ∀ a, (k0_off764 v6862) a + S8x128.size a ≤ S10000x128.size a := fun v6862 k0_hw382 => k0_hw382.2

def k0_off765 (i : grid0.Coords) : Fin 2 → Nat :=
  let arg0 : BitVec 32 := BitVec.ofNat 32 (i 0).val
  let c4_i32 : BitVec 32 := 4#32
  let v0 : BitVec 32 := Scalar.muli arg0 c4_i32
  let c2_i32_3432 : BitVec 32 := 2#32
  let v6878 : BitVec 32 := Scalar.addi v0 c2_i32_3432
  let v6879 : Index := Scalar.indexCast v6878
  let c126_3433 : Index := 126#32
  ![v6879.toNat, 126]
def k0_mult383 (v6880 : BitVec 32) : BitVec 32 :=
  let c3_i32_3434 : BitVec 32 := 3#32
  let v6881 : BitVec 32 := Scalar.shrsi v6880 c3_i32_3434
  let c3_i32_3435 : BitVec 32 := 3#32
  let v6882 : BitVec 32 := Scalar.shli v6881 c3_i32_3435
  v6882

def k0_off766 (v6880 : BitVec 32) : Fin 2 → Nat :=
  let c3_i32_3434 : BitVec 32 := 3#32
  let v6881 : BitVec 32 := Scalar.shrsi v6880 c3_i32_3434
  let c3_i32_3435 : BitVec 32 := 3#32
  let v6882 : BitVec 32 := Scalar.shli v6881 c3_i32_3435
  let v6883 : BitVec 32 := v6882
  let v6884 : Index := Scalar.indexCast v6883
  let c0_3436 : Index := 0#32
  ![v6884.toNat, 0]

def k0_chk383 (v6880 : BitVec 32) : Prop :=
  (8 ∣ (k0_mult383 v6880).toNat) ∧
  (∀ a, (k0_off766 v6880) a + S8x128.size a ≤ S10000x128.size a)
theorem k0_mult383_dvd : ∀ (v6880 : BitVec 32) (k0_hw383 : k0_chk383 v6880), 8 ∣ (k0_mult383 v6880).toNat := fun v6880 k0_hw383 => k0_hw383.1
theorem k0_off766_inb : ∀ (v6880 : BitVec 32) (k0_hw383 : k0_chk383 v6880), ∀ a, (k0_off766 v6880) a + S8x128.size a ≤ S10000x128.size a := fun v6880 k0_hw383 => k0_hw383.2

def k0_off767 (i : grid0.Coords) : Fin 2 → Nat :=
  let arg0 : BitVec 32 := BitVec.ofNat 32 (i 0).val
  let c4_i32 : BitVec 32 := 4#32
  let v0 : BitVec 32 := Scalar.muli arg0 c4_i32
  let c2_i32_3441 : BitVec 32 := 2#32
  let v6896 : BitVec 32 := Scalar.addi v0 c2_i32_3441
  let v6897 : Index := Scalar.indexCast v6896
  let c127_3442 : Index := 127#32
  ![v6897.toNat, 127]
def k0_mult384 (v6898 : BitVec 32) : BitVec 32 :=
  let c3_i32_3443 : BitVec 32 := 3#32
  let v6899 : BitVec 32 := Scalar.shrsi v6898 c3_i32_3443
  let c3_i32_3444 : BitVec 32 := 3#32
  let v6900 : BitVec 32 := Scalar.shli v6899 c3_i32_3444
  v6900

def k0_off768 (v6898 : BitVec 32) : Fin 2 → Nat :=
  let c3_i32_3443 : BitVec 32 := 3#32
  let v6899 : BitVec 32 := Scalar.shrsi v6898 c3_i32_3443
  let c3_i32_3444 : BitVec 32 := 3#32
  let v6900 : BitVec 32 := Scalar.shli v6899 c3_i32_3444
  let v6901 : BitVec 32 := v6900
  let v6902 : Index := Scalar.indexCast v6901
  let c0_3445 : Index := 0#32
  ![v6902.toNat, 0]

def k0_chk384 (v6898 : BitVec 32) : Prop :=
  (8 ∣ (k0_mult384 v6898).toNat) ∧
  (∀ a, (k0_off768 v6898) a + S8x128.size a ≤ S10000x128.size a)
theorem k0_mult384_dvd : ∀ (v6898 : BitVec 32) (k0_hw384 : k0_chk384 v6898), 8 ∣ (k0_mult384 v6898).toNat := fun v6898 k0_hw384 => k0_hw384.1
theorem k0_off768_inb : ∀ (v6898 : BitVec 32) (k0_hw384 : k0_chk384 v6898), ∀ a, (k0_off768 v6898) a + S8x128.size a ≤ S10000x128.size a := fun v6898 k0_hw384 => k0_hw384.2

def k0_off769 (i : grid0.Coords) : Fin 2 → Nat :=
  let arg0 : BitVec 32 := BitVec.ofNat 32 (i 0).val
  let c4_i32 : BitVec 32 := 4#32
  let v0 : BitVec 32 := Scalar.muli arg0 c4_i32
  let c3_i32_3450 : BitVec 32 := 3#32
  let v6914 : BitVec 32 := Scalar.addi v0 c3_i32_3450
  let v6915 : Index := Scalar.indexCast v6914
  let c0_3451 : Index := 0#32
  ![v6915.toNat, 0]
def k0_mult385 (v6916 : BitVec 32) : BitVec 32 :=
  let c3_i32_3452 : BitVec 32 := 3#32
  let v6917 : BitVec 32 := Scalar.shrsi v6916 c3_i32_3452
  let c3_i32_3453 : BitVec 32 := 3#32
  let v6918 : BitVec 32 := Scalar.shli v6917 c3_i32_3453
  v6918

def k0_off770 (v6916 : BitVec 32) : Fin 2 → Nat :=
  let c3_i32_3452 : BitVec 32 := 3#32
  let v6917 : BitVec 32 := Scalar.shrsi v6916 c3_i32_3452
  let c3_i32_3453 : BitVec 32 := 3#32
  let v6918 : BitVec 32 := Scalar.shli v6917 c3_i32_3453
  let v6919 : BitVec 32 := v6918
  let v6920 : Index := Scalar.indexCast v6919
  let c0_3454 : Index := 0#32
  ![v6920.toNat, 0]

def k0_chk385 (v6916 : BitVec 32) : Prop :=
  (8 ∣ (k0_mult385 v6916).toNat) ∧
  (∀ a, (k0_off770 v6916) a + S8x128.size a ≤ S10000x128.size a)
theorem k0_mult385_dvd : ∀ (v6916 : BitVec 32) (k0_hw385 : k0_chk385 v6916), 8 ∣ (k0_mult385 v6916).toNat := fun v6916 k0_hw385 => k0_hw385.1
theorem k0_off770_inb : ∀ (v6916 : BitVec 32) (k0_hw385 : k0_chk385 v6916), ∀ a, (k0_off770 v6916) a + S8x128.size a ≤ S10000x128.size a := fun v6916 k0_hw385 => k0_hw385.2

def k0_off771 (i : grid0.Coords) : Fin 2 → Nat :=
  let arg0 : BitVec 32 := BitVec.ofNat 32 (i 0).val
  let c4_i32 : BitVec 32 := 4#32
  let v0 : BitVec 32 := Scalar.muli arg0 c4_i32
  let c3_i32_3459 : BitVec 32 := 3#32
  let v6932 : BitVec 32 := Scalar.addi v0 c3_i32_3459
  let v6933 : Index := Scalar.indexCast v6932
  let c1_3460 : Index := 1#32
  ![v6933.toNat, 1]
def k0_mult386 (v6934 : BitVec 32) : BitVec 32 :=
  let c3_i32_3461 : BitVec 32 := 3#32
  let v6935 : BitVec 32 := Scalar.shrsi v6934 c3_i32_3461
  let c3_i32_3462 : BitVec 32 := 3#32
  let v6936 : BitVec 32 := Scalar.shli v6935 c3_i32_3462
  v6936

def k0_off772 (v6934 : BitVec 32) : Fin 2 → Nat :=
  let c3_i32_3461 : BitVec 32 := 3#32
  let v6935 : BitVec 32 := Scalar.shrsi v6934 c3_i32_3461
  let c3_i32_3462 : BitVec 32 := 3#32
  let v6936 : BitVec 32 := Scalar.shli v6935 c3_i32_3462
  let v6937 : BitVec 32 := v6936
  let v6938 : Index := Scalar.indexCast v6937
  let c0_3463 : Index := 0#32
  ![v6938.toNat, 0]

def k0_chk386 (v6934 : BitVec 32) : Prop :=
  (8 ∣ (k0_mult386 v6934).toNat) ∧
  (∀ a, (k0_off772 v6934) a + S8x128.size a ≤ S10000x128.size a)
theorem k0_mult386_dvd : ∀ (v6934 : BitVec 32) (k0_hw386 : k0_chk386 v6934), 8 ∣ (k0_mult386 v6934).toNat := fun v6934 k0_hw386 => k0_hw386.1
theorem k0_off772_inb : ∀ (v6934 : BitVec 32) (k0_hw386 : k0_chk386 v6934), ∀ a, (k0_off772 v6934) a + S8x128.size a ≤ S10000x128.size a := fun v6934 k0_hw386 => k0_hw386.2

def k0_off773 (i : grid0.Coords) : Fin 2 → Nat :=
  let arg0 : BitVec 32 := BitVec.ofNat 32 (i 0).val
  let c4_i32 : BitVec 32 := 4#32
  let v0 : BitVec 32 := Scalar.muli arg0 c4_i32
  let c3_i32_3468 : BitVec 32 := 3#32
  let v6950 : BitVec 32 := Scalar.addi v0 c3_i32_3468
  let v6951 : Index := Scalar.indexCast v6950
  let c2_3469 : Index := 2#32
  ![v6951.toNat, 2]
def k0_mult387 (v6952 : BitVec 32) : BitVec 32 :=
  let c3_i32_3470 : BitVec 32 := 3#32
  let v6953 : BitVec 32 := Scalar.shrsi v6952 c3_i32_3470
  let c3_i32_3471 : BitVec 32 := 3#32
  let v6954 : BitVec 32 := Scalar.shli v6953 c3_i32_3471
  v6954

def k0_off774 (v6952 : BitVec 32) : Fin 2 → Nat :=
  let c3_i32_3470 : BitVec 32 := 3#32
  let v6953 : BitVec 32 := Scalar.shrsi v6952 c3_i32_3470
  let c3_i32_3471 : BitVec 32 := 3#32
  let v6954 : BitVec 32 := Scalar.shli v6953 c3_i32_3471
  let v6955 : BitVec 32 := v6954
  let v6956 : Index := Scalar.indexCast v6955
  let c0_3472 : Index := 0#32
  ![v6956.toNat, 0]

def k0_chk387 (v6952 : BitVec 32) : Prop :=
  (8 ∣ (k0_mult387 v6952).toNat) ∧
  (∀ a, (k0_off774 v6952) a + S8x128.size a ≤ S10000x128.size a)
theorem k0_mult387_dvd : ∀ (v6952 : BitVec 32) (k0_hw387 : k0_chk387 v6952), 8 ∣ (k0_mult387 v6952).toNat := fun v6952 k0_hw387 => k0_hw387.1
theorem k0_off774_inb : ∀ (v6952 : BitVec 32) (k0_hw387 : k0_chk387 v6952), ∀ a, (k0_off774 v6952) a + S8x128.size a ≤ S10000x128.size a := fun v6952 k0_hw387 => k0_hw387.2

def k0_off775 (i : grid0.Coords) : Fin 2 → Nat :=
  let arg0 : BitVec 32 := BitVec.ofNat 32 (i 0).val
  let c4_i32 : BitVec 32 := 4#32
  let v0 : BitVec 32 := Scalar.muli arg0 c4_i32
  let c3_i32_3477 : BitVec 32 := 3#32
  let v6968 : BitVec 32 := Scalar.addi v0 c3_i32_3477
  let v6969 : Index := Scalar.indexCast v6968
  let c3_3478 : Index := 3#32
  ![v6969.toNat, 3]
def k0_mult388 (v6970 : BitVec 32) : BitVec 32 :=
  let c3_i32_3479 : BitVec 32 := 3#32
  let v6971 : BitVec 32 := Scalar.shrsi v6970 c3_i32_3479
  let c3_i32_3480 : BitVec 32 := 3#32
  let v6972 : BitVec 32 := Scalar.shli v6971 c3_i32_3480
  v6972

def k0_off776 (v6970 : BitVec 32) : Fin 2 → Nat :=
  let c3_i32_3479 : BitVec 32 := 3#32
  let v6971 : BitVec 32 := Scalar.shrsi v6970 c3_i32_3479
  let c3_i32_3480 : BitVec 32 := 3#32
  let v6972 : BitVec 32 := Scalar.shli v6971 c3_i32_3480
  let v6973 : BitVec 32 := v6972
  let v6974 : Index := Scalar.indexCast v6973
  let c0_3481 : Index := 0#32
  ![v6974.toNat, 0]

def k0_chk388 (v6970 : BitVec 32) : Prop :=
  (8 ∣ (k0_mult388 v6970).toNat) ∧
  (∀ a, (k0_off776 v6970) a + S8x128.size a ≤ S10000x128.size a)
theorem k0_mult388_dvd : ∀ (v6970 : BitVec 32) (k0_hw388 : k0_chk388 v6970), 8 ∣ (k0_mult388 v6970).toNat := fun v6970 k0_hw388 => k0_hw388.1
theorem k0_off776_inb : ∀ (v6970 : BitVec 32) (k0_hw388 : k0_chk388 v6970), ∀ a, (k0_off776 v6970) a + S8x128.size a ≤ S10000x128.size a := fun v6970 k0_hw388 => k0_hw388.2

def k0_off777 (i : grid0.Coords) : Fin 2 → Nat :=
  let arg0 : BitVec 32 := BitVec.ofNat 32 (i 0).val
  let c4_i32 : BitVec 32 := 4#32
  let v0 : BitVec 32 := Scalar.muli arg0 c4_i32
  let c3_i32_3486 : BitVec 32 := 3#32
  let v6986 : BitVec 32 := Scalar.addi v0 c3_i32_3486
  let v6987 : Index := Scalar.indexCast v6986
  let c4_3487 : Index := 4#32
  ![v6987.toNat, 4]
def k0_mult389 (v6988 : BitVec 32) : BitVec 32 :=
  let c3_i32_3488 : BitVec 32 := 3#32
  let v6989 : BitVec 32 := Scalar.shrsi v6988 c3_i32_3488
  let c3_i32_3489 : BitVec 32 := 3#32
  let v6990 : BitVec 32 := Scalar.shli v6989 c3_i32_3489
  v6990

def k0_off778 (v6988 : BitVec 32) : Fin 2 → Nat :=
  let c3_i32_3488 : BitVec 32 := 3#32
  let v6989 : BitVec 32 := Scalar.shrsi v6988 c3_i32_3488
  let c3_i32_3489 : BitVec 32 := 3#32
  let v6990 : BitVec 32 := Scalar.shli v6989 c3_i32_3489
  let v6991 : BitVec 32 := v6990
  let v6992 : Index := Scalar.indexCast v6991
  let c0_3490 : Index := 0#32
  ![v6992.toNat, 0]

def k0_chk389 (v6988 : BitVec 32) : Prop :=
  (8 ∣ (k0_mult389 v6988).toNat) ∧
  (∀ a, (k0_off778 v6988) a + S8x128.size a ≤ S10000x128.size a)
theorem k0_mult389_dvd : ∀ (v6988 : BitVec 32) (k0_hw389 : k0_chk389 v6988), 8 ∣ (k0_mult389 v6988).toNat := fun v6988 k0_hw389 => k0_hw389.1
theorem k0_off778_inb : ∀ (v6988 : BitVec 32) (k0_hw389 : k0_chk389 v6988), ∀ a, (k0_off778 v6988) a + S8x128.size a ≤ S10000x128.size a := fun v6988 k0_hw389 => k0_hw389.2

def k0_off779 (i : grid0.Coords) : Fin 2 → Nat :=
  let arg0 : BitVec 32 := BitVec.ofNat 32 (i 0).val
  let c4_i32 : BitVec 32 := 4#32
  let v0 : BitVec 32 := Scalar.muli arg0 c4_i32
  let c3_i32_3495 : BitVec 32 := 3#32
  let v7004 : BitVec 32 := Scalar.addi v0 c3_i32_3495
  let v7005 : Index := Scalar.indexCast v7004
  let c5_3496 : Index := 5#32
  ![v7005.toNat, 5]
def k0_mult390 (v7006 : BitVec 32) : BitVec 32 :=
  let c3_i32_3497 : BitVec 32 := 3#32
  let v7007 : BitVec 32 := Scalar.shrsi v7006 c3_i32_3497
  let c3_i32_3498 : BitVec 32 := 3#32
  let v7008 : BitVec 32 := Scalar.shli v7007 c3_i32_3498
  v7008

def k0_off780 (v7006 : BitVec 32) : Fin 2 → Nat :=
  let c3_i32_3497 : BitVec 32 := 3#32
  let v7007 : BitVec 32 := Scalar.shrsi v7006 c3_i32_3497
  let c3_i32_3498 : BitVec 32 := 3#32
  let v7008 : BitVec 32 := Scalar.shli v7007 c3_i32_3498
  let v7009 : BitVec 32 := v7008
  let v7010 : Index := Scalar.indexCast v7009
  let c0_3499 : Index := 0#32
  ![v7010.toNat, 0]

def k0_chk390 (v7006 : BitVec 32) : Prop :=
  (8 ∣ (k0_mult390 v7006).toNat) ∧
  (∀ a, (k0_off780 v7006) a + S8x128.size a ≤ S10000x128.size a)
theorem k0_mult390_dvd : ∀ (v7006 : BitVec 32) (k0_hw390 : k0_chk390 v7006), 8 ∣ (k0_mult390 v7006).toNat := fun v7006 k0_hw390 => k0_hw390.1
theorem k0_off780_inb : ∀ (v7006 : BitVec 32) (k0_hw390 : k0_chk390 v7006), ∀ a, (k0_off780 v7006) a + S8x128.size a ≤ S10000x128.size a := fun v7006 k0_hw390 => k0_hw390.2

def k0_off781 (i : grid0.Coords) : Fin 2 → Nat :=
  let arg0 : BitVec 32 := BitVec.ofNat 32 (i 0).val
  let c4_i32 : BitVec 32 := 4#32
  let v0 : BitVec 32 := Scalar.muli arg0 c4_i32
  let c3_i32_3504 : BitVec 32 := 3#32
  let v7022 : BitVec 32 := Scalar.addi v0 c3_i32_3504
  let v7023 : Index := Scalar.indexCast v7022
  let c6_3505 : Index := 6#32
  ![v7023.toNat, 6]
def k0_mult391 (v7024 : BitVec 32) : BitVec 32 :=
  let c3_i32_3506 : BitVec 32 := 3#32
  let v7025 : BitVec 32 := Scalar.shrsi v7024 c3_i32_3506
  let c3_i32_3507 : BitVec 32 := 3#32
  let v7026 : BitVec 32 := Scalar.shli v7025 c3_i32_3507
  v7026

def k0_off782 (v7024 : BitVec 32) : Fin 2 → Nat :=
  let c3_i32_3506 : BitVec 32 := 3#32
  let v7025 : BitVec 32 := Scalar.shrsi v7024 c3_i32_3506
  let c3_i32_3507 : BitVec 32 := 3#32
  let v7026 : BitVec 32 := Scalar.shli v7025 c3_i32_3507
  let v7027 : BitVec 32 := v7026
  let v7028 : Index := Scalar.indexCast v7027
  let c0_3508 : Index := 0#32
  ![v7028.toNat, 0]

def k0_chk391 (v7024 : BitVec 32) : Prop :=
  (8 ∣ (k0_mult391 v7024).toNat) ∧
  (∀ a, (k0_off782 v7024) a + S8x128.size a ≤ S10000x128.size a)
theorem k0_mult391_dvd : ∀ (v7024 : BitVec 32) (k0_hw391 : k0_chk391 v7024), 8 ∣ (k0_mult391 v7024).toNat := fun v7024 k0_hw391 => k0_hw391.1
theorem k0_off782_inb : ∀ (v7024 : BitVec 32) (k0_hw391 : k0_chk391 v7024), ∀ a, (k0_off782 v7024) a + S8x128.size a ≤ S10000x128.size a := fun v7024 k0_hw391 => k0_hw391.2

def k0_off783 (i : grid0.Coords) : Fin 2 → Nat :=
  let arg0 : BitVec 32 := BitVec.ofNat 32 (i 0).val
  let c4_i32 : BitVec 32 := 4#32
  let v0 : BitVec 32 := Scalar.muli arg0 c4_i32
  let c3_i32_3513 : BitVec 32 := 3#32
  let v7040 : BitVec 32 := Scalar.addi v0 c3_i32_3513
  let v7041 : Index := Scalar.indexCast v7040
  let c7_3514 : Index := 7#32
  ![v7041.toNat, 7]
def k0_mult392 (v7042 : BitVec 32) : BitVec 32 :=
  let c3_i32_3515 : BitVec 32 := 3#32
  let v7043 : BitVec 32 := Scalar.shrsi v7042 c3_i32_3515
  let c3_i32_3516 : BitVec 32 := 3#32
  let v7044 : BitVec 32 := Scalar.shli v7043 c3_i32_3516
  v7044

def k0_off784 (v7042 : BitVec 32) : Fin 2 → Nat :=
  let c3_i32_3515 : BitVec 32 := 3#32
  let v7043 : BitVec 32 := Scalar.shrsi v7042 c3_i32_3515
  let c3_i32_3516 : BitVec 32 := 3#32
  let v7044 : BitVec 32 := Scalar.shli v7043 c3_i32_3516
  let v7045 : BitVec 32 := v7044
  let v7046 : Index := Scalar.indexCast v7045
  let c0_3517 : Index := 0#32
  ![v7046.toNat, 0]

def k0_chk392 (v7042 : BitVec 32) : Prop :=
  (8 ∣ (k0_mult392 v7042).toNat) ∧
  (∀ a, (k0_off784 v7042) a + S8x128.size a ≤ S10000x128.size a)
theorem k0_mult392_dvd : ∀ (v7042 : BitVec 32) (k0_hw392 : k0_chk392 v7042), 8 ∣ (k0_mult392 v7042).toNat := fun v7042 k0_hw392 => k0_hw392.1
theorem k0_off784_inb : ∀ (v7042 : BitVec 32) (k0_hw392 : k0_chk392 v7042), ∀ a, (k0_off784 v7042) a + S8x128.size a ≤ S10000x128.size a := fun v7042 k0_hw392 => k0_hw392.2

def k0_off785 (i : grid0.Coords) : Fin 2 → Nat :=
  let arg0 : BitVec 32 := BitVec.ofNat 32 (i 0).val
  let c4_i32 : BitVec 32 := 4#32
  let v0 : BitVec 32 := Scalar.muli arg0 c4_i32
  let c3_i32_3522 : BitVec 32 := 3#32
  let v7058 : BitVec 32 := Scalar.addi v0 c3_i32_3522
  let v7059 : Index := Scalar.indexCast v7058
  let c8_3523 : Index := 8#32
  ![v7059.toNat, 8]
def k0_mult393 (v7060 : BitVec 32) : BitVec 32 :=
  let c3_i32_3524 : BitVec 32 := 3#32
  let v7061 : BitVec 32 := Scalar.shrsi v7060 c3_i32_3524
  let c3_i32_3525 : BitVec 32 := 3#32
  let v7062 : BitVec 32 := Scalar.shli v7061 c3_i32_3525
  v7062

def k0_off786 (v7060 : BitVec 32) : Fin 2 → Nat :=
  let c3_i32_3524 : BitVec 32 := 3#32
  let v7061 : BitVec 32 := Scalar.shrsi v7060 c3_i32_3524
  let c3_i32_3525 : BitVec 32 := 3#32
  let v7062 : BitVec 32 := Scalar.shli v7061 c3_i32_3525
  let v7063 : BitVec 32 := v7062
  let v7064 : Index := Scalar.indexCast v7063
  let c0_3526 : Index := 0#32
  ![v7064.toNat, 0]

def k0_chk393 (v7060 : BitVec 32) : Prop :=
  (8 ∣ (k0_mult393 v7060).toNat) ∧
  (∀ a, (k0_off786 v7060) a + S8x128.size a ≤ S10000x128.size a)
theorem k0_mult393_dvd : ∀ (v7060 : BitVec 32) (k0_hw393 : k0_chk393 v7060), 8 ∣ (k0_mult393 v7060).toNat := fun v7060 k0_hw393 => k0_hw393.1
theorem k0_off786_inb : ∀ (v7060 : BitVec 32) (k0_hw393 : k0_chk393 v7060), ∀ a, (k0_off786 v7060) a + S8x128.size a ≤ S10000x128.size a := fun v7060 k0_hw393 => k0_hw393.2

def k0_off787 (i : grid0.Coords) : Fin 2 → Nat :=
  let arg0 : BitVec 32 := BitVec.ofNat 32 (i 0).val
  let c4_i32 : BitVec 32 := 4#32
  let v0 : BitVec 32 := Scalar.muli arg0 c4_i32
  let c3_i32_3531 : BitVec 32 := 3#32
  let v7076 : BitVec 32 := Scalar.addi v0 c3_i32_3531
  let v7077 : Index := Scalar.indexCast v7076
  let c9_3532 : Index := 9#32
  ![v7077.toNat, 9]
def k0_mult394 (v7078 : BitVec 32) : BitVec 32 :=
  let c3_i32_3533 : BitVec 32 := 3#32
  let v7079 : BitVec 32 := Scalar.shrsi v7078 c3_i32_3533
  let c3_i32_3534 : BitVec 32 := 3#32
  let v7080 : BitVec 32 := Scalar.shli v7079 c3_i32_3534
  v7080

def k0_off788 (v7078 : BitVec 32) : Fin 2 → Nat :=
  let c3_i32_3533 : BitVec 32 := 3#32
  let v7079 : BitVec 32 := Scalar.shrsi v7078 c3_i32_3533
  let c3_i32_3534 : BitVec 32 := 3#32
  let v7080 : BitVec 32 := Scalar.shli v7079 c3_i32_3534
  let v7081 : BitVec 32 := v7080
  let v7082 : Index := Scalar.indexCast v7081
  let c0_3535 : Index := 0#32
  ![v7082.toNat, 0]

def k0_chk394 (v7078 : BitVec 32) : Prop :=
  (8 ∣ (k0_mult394 v7078).toNat) ∧
  (∀ a, (k0_off788 v7078) a + S8x128.size a ≤ S10000x128.size a)
theorem k0_mult394_dvd : ∀ (v7078 : BitVec 32) (k0_hw394 : k0_chk394 v7078), 8 ∣ (k0_mult394 v7078).toNat := fun v7078 k0_hw394 => k0_hw394.1
theorem k0_off788_inb : ∀ (v7078 : BitVec 32) (k0_hw394 : k0_chk394 v7078), ∀ a, (k0_off788 v7078) a + S8x128.size a ≤ S10000x128.size a := fun v7078 k0_hw394 => k0_hw394.2

def k0_off789 (i : grid0.Coords) : Fin 2 → Nat :=
  let arg0 : BitVec 32 := BitVec.ofNat 32 (i 0).val
  let c4_i32 : BitVec 32 := 4#32
  let v0 : BitVec 32 := Scalar.muli arg0 c4_i32
  let c3_i32_3540 : BitVec 32 := 3#32
  let v7094 : BitVec 32 := Scalar.addi v0 c3_i32_3540
  let v7095 : Index := Scalar.indexCast v7094
  let c10_3541 : Index := 10#32
  ![v7095.toNat, 10]
def k0_mult395 (v7096 : BitVec 32) : BitVec 32 :=
  let c3_i32_3542 : BitVec 32 := 3#32
  let v7097 : BitVec 32 := Scalar.shrsi v7096 c3_i32_3542
  let c3_i32_3543 : BitVec 32 := 3#32
  let v7098 : BitVec 32 := Scalar.shli v7097 c3_i32_3543
  v7098

def k0_off790 (v7096 : BitVec 32) : Fin 2 → Nat :=
  let c3_i32_3542 : BitVec 32 := 3#32
  let v7097 : BitVec 32 := Scalar.shrsi v7096 c3_i32_3542
  let c3_i32_3543 : BitVec 32 := 3#32
  let v7098 : BitVec 32 := Scalar.shli v7097 c3_i32_3543
  let v7099 : BitVec 32 := v7098
  let v7100 : Index := Scalar.indexCast v7099
  let c0_3544 : Index := 0#32
  ![v7100.toNat, 0]

def k0_chk395 (v7096 : BitVec 32) : Prop :=
  (8 ∣ (k0_mult395 v7096).toNat) ∧
  (∀ a, (k0_off790 v7096) a + S8x128.size a ≤ S10000x128.size a)
theorem k0_mult395_dvd : ∀ (v7096 : BitVec 32) (k0_hw395 : k0_chk395 v7096), 8 ∣ (k0_mult395 v7096).toNat := fun v7096 k0_hw395 => k0_hw395.1
theorem k0_off790_inb : ∀ (v7096 : BitVec 32) (k0_hw395 : k0_chk395 v7096), ∀ a, (k0_off790 v7096) a + S8x128.size a ≤ S10000x128.size a := fun v7096 k0_hw395 => k0_hw395.2

def k0_off791 (i : grid0.Coords) : Fin 2 → Nat :=
  let arg0 : BitVec 32 := BitVec.ofNat 32 (i 0).val
  let c4_i32 : BitVec 32 := 4#32
  let v0 : BitVec 32 := Scalar.muli arg0 c4_i32
  let c3_i32_3549 : BitVec 32 := 3#32
  let v7112 : BitVec 32 := Scalar.addi v0 c3_i32_3549
  let v7113 : Index := Scalar.indexCast v7112
  let c11_3550 : Index := 11#32
  ![v7113.toNat, 11]
def k0_mult396 (v7114 : BitVec 32) : BitVec 32 :=
  let c3_i32_3551 : BitVec 32 := 3#32
  let v7115 : BitVec 32 := Scalar.shrsi v7114 c3_i32_3551
  let c3_i32_3552 : BitVec 32 := 3#32
  let v7116 : BitVec 32 := Scalar.shli v7115 c3_i32_3552
  v7116

def k0_off792 (v7114 : BitVec 32) : Fin 2 → Nat :=
  let c3_i32_3551 : BitVec 32 := 3#32
  let v7115 : BitVec 32 := Scalar.shrsi v7114 c3_i32_3551
  let c3_i32_3552 : BitVec 32 := 3#32
  let v7116 : BitVec 32 := Scalar.shli v7115 c3_i32_3552
  let v7117 : BitVec 32 := v7116
  let v7118 : Index := Scalar.indexCast v7117
  let c0_3553 : Index := 0#32
  ![v7118.toNat, 0]

def k0_chk396 (v7114 : BitVec 32) : Prop :=
  (8 ∣ (k0_mult396 v7114).toNat) ∧
  (∀ a, (k0_off792 v7114) a + S8x128.size a ≤ S10000x128.size a)
theorem k0_mult396_dvd : ∀ (v7114 : BitVec 32) (k0_hw396 : k0_chk396 v7114), 8 ∣ (k0_mult396 v7114).toNat := fun v7114 k0_hw396 => k0_hw396.1
theorem k0_off792_inb : ∀ (v7114 : BitVec 32) (k0_hw396 : k0_chk396 v7114), ∀ a, (k0_off792 v7114) a + S8x128.size a ≤ S10000x128.size a := fun v7114 k0_hw396 => k0_hw396.2

def k0_off793 (i : grid0.Coords) : Fin 2 → Nat :=
  let arg0 : BitVec 32 := BitVec.ofNat 32 (i 0).val
  let c4_i32 : BitVec 32 := 4#32
  let v0 : BitVec 32 := Scalar.muli arg0 c4_i32
  let c3_i32_3558 : BitVec 32 := 3#32
  let v7130 : BitVec 32 := Scalar.addi v0 c3_i32_3558
  let v7131 : Index := Scalar.indexCast v7130
  let c12_3559 : Index := 12#32
  ![v7131.toNat, 12]
def k0_mult397 (v7132 : BitVec 32) : BitVec 32 :=
  let c3_i32_3560 : BitVec 32 := 3#32
  let v7133 : BitVec 32 := Scalar.shrsi v7132 c3_i32_3560
  let c3_i32_3561 : BitVec 32 := 3#32
  let v7134 : BitVec 32 := Scalar.shli v7133 c3_i32_3561
  v7134

def k0_off794 (v7132 : BitVec 32) : Fin 2 → Nat :=
  let c3_i32_3560 : BitVec 32 := 3#32
  let v7133 : BitVec 32 := Scalar.shrsi v7132 c3_i32_3560
  let c3_i32_3561 : BitVec 32 := 3#32
  let v7134 : BitVec 32 := Scalar.shli v7133 c3_i32_3561
  let v7135 : BitVec 32 := v7134
  let v7136 : Index := Scalar.indexCast v7135
  let c0_3562 : Index := 0#32
  ![v7136.toNat, 0]

def k0_chk397 (v7132 : BitVec 32) : Prop :=
  (8 ∣ (k0_mult397 v7132).toNat) ∧
  (∀ a, (k0_off794 v7132) a + S8x128.size a ≤ S10000x128.size a)
theorem k0_mult397_dvd : ∀ (v7132 : BitVec 32) (k0_hw397 : k0_chk397 v7132), 8 ∣ (k0_mult397 v7132).toNat := fun v7132 k0_hw397 => k0_hw397.1
theorem k0_off794_inb : ∀ (v7132 : BitVec 32) (k0_hw397 : k0_chk397 v7132), ∀ a, (k0_off794 v7132) a + S8x128.size a ≤ S10000x128.size a := fun v7132 k0_hw397 => k0_hw397.2

def k0_off795 (i : grid0.Coords) : Fin 2 → Nat :=
  let arg0 : BitVec 32 := BitVec.ofNat 32 (i 0).val
  let c4_i32 : BitVec 32 := 4#32
  let v0 : BitVec 32 := Scalar.muli arg0 c4_i32
  let c3_i32_3567 : BitVec 32 := 3#32
  let v7148 : BitVec 32 := Scalar.addi v0 c3_i32_3567
  let v7149 : Index := Scalar.indexCast v7148
  let c13_3568 : Index := 13#32
  ![v7149.toNat, 13]
def k0_mult398 (v7150 : BitVec 32) : BitVec 32 :=
  let c3_i32_3569 : BitVec 32 := 3#32
  let v7151 : BitVec 32 := Scalar.shrsi v7150 c3_i32_3569
  let c3_i32_3570 : BitVec 32 := 3#32
  let v7152 : BitVec 32 := Scalar.shli v7151 c3_i32_3570
  v7152

def k0_off796 (v7150 : BitVec 32) : Fin 2 → Nat :=
  let c3_i32_3569 : BitVec 32 := 3#32
  let v7151 : BitVec 32 := Scalar.shrsi v7150 c3_i32_3569
  let c3_i32_3570 : BitVec 32 := 3#32
  let v7152 : BitVec 32 := Scalar.shli v7151 c3_i32_3570
  let v7153 : BitVec 32 := v7152
  let v7154 : Index := Scalar.indexCast v7153
  let c0_3571 : Index := 0#32
  ![v7154.toNat, 0]

def k0_chk398 (v7150 : BitVec 32) : Prop :=
  (8 ∣ (k0_mult398 v7150).toNat) ∧
  (∀ a, (k0_off796 v7150) a + S8x128.size a ≤ S10000x128.size a)
theorem k0_mult398_dvd : ∀ (v7150 : BitVec 32) (k0_hw398 : k0_chk398 v7150), 8 ∣ (k0_mult398 v7150).toNat := fun v7150 k0_hw398 => k0_hw398.1
theorem k0_off796_inb : ∀ (v7150 : BitVec 32) (k0_hw398 : k0_chk398 v7150), ∀ a, (k0_off796 v7150) a + S8x128.size a ≤ S10000x128.size a := fun v7150 k0_hw398 => k0_hw398.2

def k0_off797 (i : grid0.Coords) : Fin 2 → Nat :=
  let arg0 : BitVec 32 := BitVec.ofNat 32 (i 0).val
  let c4_i32 : BitVec 32 := 4#32
  let v0 : BitVec 32 := Scalar.muli arg0 c4_i32
  let c3_i32_3576 : BitVec 32 := 3#32
  let v7166 : BitVec 32 := Scalar.addi v0 c3_i32_3576
  let v7167 : Index := Scalar.indexCast v7166
  let c14_3577 : Index := 14#32
  ![v7167.toNat, 14]
def k0_mult399 (v7168 : BitVec 32) : BitVec 32 :=
  let c3_i32_3578 : BitVec 32 := 3#32
  let v7169 : BitVec 32 := Scalar.shrsi v7168 c3_i32_3578
  let c3_i32_3579 : BitVec 32 := 3#32
  let v7170 : BitVec 32 := Scalar.shli v7169 c3_i32_3579
  v7170

def k0_off798 (v7168 : BitVec 32) : Fin 2 → Nat :=
  let c3_i32_3578 : BitVec 32 := 3#32
  let v7169 : BitVec 32 := Scalar.shrsi v7168 c3_i32_3578
  let c3_i32_3579 : BitVec 32 := 3#32
  let v7170 : BitVec 32 := Scalar.shli v7169 c3_i32_3579
  let v7171 : BitVec 32 := v7170
  let v7172 : Index := Scalar.indexCast v7171
  let c0_3580 : Index := 0#32
  ![v7172.toNat, 0]

def k0_chk399 (v7168 : BitVec 32) : Prop :=
  (8 ∣ (k0_mult399 v7168).toNat) ∧
  (∀ a, (k0_off798 v7168) a + S8x128.size a ≤ S10000x128.size a)
theorem k0_mult399_dvd : ∀ (v7168 : BitVec 32) (k0_hw399 : k0_chk399 v7168), 8 ∣ (k0_mult399 v7168).toNat := fun v7168 k0_hw399 => k0_hw399.1
theorem k0_off798_inb : ∀ (v7168 : BitVec 32) (k0_hw399 : k0_chk399 v7168), ∀ a, (k0_off798 v7168) a + S8x128.size a ≤ S10000x128.size a := fun v7168 k0_hw399 => k0_hw399.2

def k0_off799 (i : grid0.Coords) : Fin 2 → Nat :=
  let arg0 : BitVec 32 := BitVec.ofNat 32 (i 0).val
  let c4_i32 : BitVec 32 := 4#32
  let v0 : BitVec 32 := Scalar.muli arg0 c4_i32
  let c3_i32_3585 : BitVec 32 := 3#32
  let v7184 : BitVec 32 := Scalar.addi v0 c3_i32_3585
  let v7185 : Index := Scalar.indexCast v7184
  let c15_3586 : Index := 15#32
  ![v7185.toNat, 15]
def k0_mult400 (v7186 : BitVec 32) : BitVec 32 :=
  let c3_i32_3587 : BitVec 32 := 3#32
  let v7187 : BitVec 32 := Scalar.shrsi v7186 c3_i32_3587
  let c3_i32_3588 : BitVec 32 := 3#32
  let v7188 : BitVec 32 := Scalar.shli v7187 c3_i32_3588
  v7188

def k0_off800 (v7186 : BitVec 32) : Fin 2 → Nat :=
  let c3_i32_3587 : BitVec 32 := 3#32
  let v7187 : BitVec 32 := Scalar.shrsi v7186 c3_i32_3587
  let c3_i32_3588 : BitVec 32 := 3#32
  let v7188 : BitVec 32 := Scalar.shli v7187 c3_i32_3588
  let v7189 : BitVec 32 := v7188
  let v7190 : Index := Scalar.indexCast v7189
  let c0_3589 : Index := 0#32
  ![v7190.toNat, 0]

def k0_chk400 (v7186 : BitVec 32) : Prop :=
  (8 ∣ (k0_mult400 v7186).toNat) ∧
  (∀ a, (k0_off800 v7186) a + S8x128.size a ≤ S10000x128.size a)
theorem k0_mult400_dvd : ∀ (v7186 : BitVec 32) (k0_hw400 : k0_chk400 v7186), 8 ∣ (k0_mult400 v7186).toNat := fun v7186 k0_hw400 => k0_hw400.1
theorem k0_off800_inb : ∀ (v7186 : BitVec 32) (k0_hw400 : k0_chk400 v7186), ∀ a, (k0_off800 v7186) a + S8x128.size a ≤ S10000x128.size a := fun v7186 k0_hw400 => k0_hw400.2

def k0_off801 (i : grid0.Coords) : Fin 2 → Nat :=
  let arg0 : BitVec 32 := BitVec.ofNat 32 (i 0).val
  let c4_i32 : BitVec 32 := 4#32
  let v0 : BitVec 32 := Scalar.muli arg0 c4_i32
  let c3_i32_3594 : BitVec 32 := 3#32
  let v7202 : BitVec 32 := Scalar.addi v0 c3_i32_3594
  let v7203 : Index := Scalar.indexCast v7202
  let c16_3595 : Index := 16#32
  ![v7203.toNat, 16]
def k0_mult401 (v7204 : BitVec 32) : BitVec 32 :=
  let c3_i32_3596 : BitVec 32 := 3#32
  let v7205 : BitVec 32 := Scalar.shrsi v7204 c3_i32_3596
  let c3_i32_3597 : BitVec 32 := 3#32
  let v7206 : BitVec 32 := Scalar.shli v7205 c3_i32_3597
  v7206

def k0_off802 (v7204 : BitVec 32) : Fin 2 → Nat :=
  let c3_i32_3596 : BitVec 32 := 3#32
  let v7205 : BitVec 32 := Scalar.shrsi v7204 c3_i32_3596
  let c3_i32_3597 : BitVec 32 := 3#32
  let v7206 : BitVec 32 := Scalar.shli v7205 c3_i32_3597
  let v7207 : BitVec 32 := v7206
  let v7208 : Index := Scalar.indexCast v7207
  let c0_3598 : Index := 0#32
  ![v7208.toNat, 0]

def k0_chk401 (v7204 : BitVec 32) : Prop :=
  (8 ∣ (k0_mult401 v7204).toNat) ∧
  (∀ a, (k0_off802 v7204) a + S8x128.size a ≤ S10000x128.size a)
theorem k0_mult401_dvd : ∀ (v7204 : BitVec 32) (k0_hw401 : k0_chk401 v7204), 8 ∣ (k0_mult401 v7204).toNat := fun v7204 k0_hw401 => k0_hw401.1
theorem k0_off802_inb : ∀ (v7204 : BitVec 32) (k0_hw401 : k0_chk401 v7204), ∀ a, (k0_off802 v7204) a + S8x128.size a ≤ S10000x128.size a := fun v7204 k0_hw401 => k0_hw401.2

def k0_off803 (i : grid0.Coords) : Fin 2 → Nat :=
  let arg0 : BitVec 32 := BitVec.ofNat 32 (i 0).val
  let c4_i32 : BitVec 32 := 4#32
  let v0 : BitVec 32 := Scalar.muli arg0 c4_i32
  let c3_i32_3603 : BitVec 32 := 3#32
  let v7220 : BitVec 32 := Scalar.addi v0 c3_i32_3603
  let v7221 : Index := Scalar.indexCast v7220
  let c17_3604 : Index := 17#32
  ![v7221.toNat, 17]
def k0_mult402 (v7222 : BitVec 32) : BitVec 32 :=
  let c3_i32_3605 : BitVec 32 := 3#32
  let v7223 : BitVec 32 := Scalar.shrsi v7222 c3_i32_3605
  let c3_i32_3606 : BitVec 32 := 3#32
  let v7224 : BitVec 32 := Scalar.shli v7223 c3_i32_3606
  v7224

def k0_off804 (v7222 : BitVec 32) : Fin 2 → Nat :=
  let c3_i32_3605 : BitVec 32 := 3#32
  let v7223 : BitVec 32 := Scalar.shrsi v7222 c3_i32_3605
  let c3_i32_3606 : BitVec 32 := 3#32
  let v7224 : BitVec 32 := Scalar.shli v7223 c3_i32_3606
  let v7225 : BitVec 32 := v7224
  let v7226 : Index := Scalar.indexCast v7225
  let c0_3607 : Index := 0#32
  ![v7226.toNat, 0]

def k0_chk402 (v7222 : BitVec 32) : Prop :=
  (8 ∣ (k0_mult402 v7222).toNat) ∧
  (∀ a, (k0_off804 v7222) a + S8x128.size a ≤ S10000x128.size a)
theorem k0_mult402_dvd : ∀ (v7222 : BitVec 32) (k0_hw402 : k0_chk402 v7222), 8 ∣ (k0_mult402 v7222).toNat := fun v7222 k0_hw402 => k0_hw402.1
theorem k0_off804_inb : ∀ (v7222 : BitVec 32) (k0_hw402 : k0_chk402 v7222), ∀ a, (k0_off804 v7222) a + S8x128.size a ≤ S10000x128.size a := fun v7222 k0_hw402 => k0_hw402.2

def k0_off805 (i : grid0.Coords) : Fin 2 → Nat :=
  let arg0 : BitVec 32 := BitVec.ofNat 32 (i 0).val
  let c4_i32 : BitVec 32 := 4#32
  let v0 : BitVec 32 := Scalar.muli arg0 c4_i32
  let c3_i32_3612 : BitVec 32 := 3#32
  let v7238 : BitVec 32 := Scalar.addi v0 c3_i32_3612
  let v7239 : Index := Scalar.indexCast v7238
  let c18_3613 : Index := 18#32
  ![v7239.toNat, 18]
def k0_mult403 (v7240 : BitVec 32) : BitVec 32 :=
  let c3_i32_3614 : BitVec 32 := 3#32
  let v7241 : BitVec 32 := Scalar.shrsi v7240 c3_i32_3614
  let c3_i32_3615 : BitVec 32 := 3#32
  let v7242 : BitVec 32 := Scalar.shli v7241 c3_i32_3615
  v7242

def k0_off806 (v7240 : BitVec 32) : Fin 2 → Nat :=
  let c3_i32_3614 : BitVec 32 := 3#32
  let v7241 : BitVec 32 := Scalar.shrsi v7240 c3_i32_3614
  let c3_i32_3615 : BitVec 32 := 3#32
  let v7242 : BitVec 32 := Scalar.shli v7241 c3_i32_3615
  let v7243 : BitVec 32 := v7242
  let v7244 : Index := Scalar.indexCast v7243
  let c0_3616 : Index := 0#32
  ![v7244.toNat, 0]

def k0_chk403 (v7240 : BitVec 32) : Prop :=
  (8 ∣ (k0_mult403 v7240).toNat) ∧
  (∀ a, (k0_off806 v7240) a + S8x128.size a ≤ S10000x128.size a)
theorem k0_mult403_dvd : ∀ (v7240 : BitVec 32) (k0_hw403 : k0_chk403 v7240), 8 ∣ (k0_mult403 v7240).toNat := fun v7240 k0_hw403 => k0_hw403.1
theorem k0_off806_inb : ∀ (v7240 : BitVec 32) (k0_hw403 : k0_chk403 v7240), ∀ a, (k0_off806 v7240) a + S8x128.size a ≤ S10000x128.size a := fun v7240 k0_hw403 => k0_hw403.2

def k0_off807 (i : grid0.Coords) : Fin 2 → Nat :=
  let arg0 : BitVec 32 := BitVec.ofNat 32 (i 0).val
  let c4_i32 : BitVec 32 := 4#32
  let v0 : BitVec 32 := Scalar.muli arg0 c4_i32
  let c3_i32_3621 : BitVec 32 := 3#32
  let v7256 : BitVec 32 := Scalar.addi v0 c3_i32_3621
  let v7257 : Index := Scalar.indexCast v7256
  let c19_3622 : Index := 19#32
  ![v7257.toNat, 19]
def k0_mult404 (v7258 : BitVec 32) : BitVec 32 :=
  let c3_i32_3623 : BitVec 32 := 3#32
  let v7259 : BitVec 32 := Scalar.shrsi v7258 c3_i32_3623
  let c3_i32_3624 : BitVec 32 := 3#32
  let v7260 : BitVec 32 := Scalar.shli v7259 c3_i32_3624
  v7260

def k0_off808 (v7258 : BitVec 32) : Fin 2 → Nat :=
  let c3_i32_3623 : BitVec 32 := 3#32
  let v7259 : BitVec 32 := Scalar.shrsi v7258 c3_i32_3623
  let c3_i32_3624 : BitVec 32 := 3#32
  let v7260 : BitVec 32 := Scalar.shli v7259 c3_i32_3624
  let v7261 : BitVec 32 := v7260
  let v7262 : Index := Scalar.indexCast v7261
  let c0_3625 : Index := 0#32
  ![v7262.toNat, 0]

def k0_chk404 (v7258 : BitVec 32) : Prop :=
  (8 ∣ (k0_mult404 v7258).toNat) ∧
  (∀ a, (k0_off808 v7258) a + S8x128.size a ≤ S10000x128.size a)
theorem k0_mult404_dvd : ∀ (v7258 : BitVec 32) (k0_hw404 : k0_chk404 v7258), 8 ∣ (k0_mult404 v7258).toNat := fun v7258 k0_hw404 => k0_hw404.1
theorem k0_off808_inb : ∀ (v7258 : BitVec 32) (k0_hw404 : k0_chk404 v7258), ∀ a, (k0_off808 v7258) a + S8x128.size a ≤ S10000x128.size a := fun v7258 k0_hw404 => k0_hw404.2

def k0_off809 (i : grid0.Coords) : Fin 2 → Nat :=
  let arg0 : BitVec 32 := BitVec.ofNat 32 (i 0).val
  let c4_i32 : BitVec 32 := 4#32
  let v0 : BitVec 32 := Scalar.muli arg0 c4_i32
  let c3_i32_3630 : BitVec 32 := 3#32
  let v7274 : BitVec 32 := Scalar.addi v0 c3_i32_3630
  let v7275 : Index := Scalar.indexCast v7274
  let c20_3631 : Index := 20#32
  ![v7275.toNat, 20]
def k0_mult405 (v7276 : BitVec 32) : BitVec 32 :=
  let c3_i32_3632 : BitVec 32 := 3#32
  let v7277 : BitVec 32 := Scalar.shrsi v7276 c3_i32_3632
  let c3_i32_3633 : BitVec 32 := 3#32
  let v7278 : BitVec 32 := Scalar.shli v7277 c3_i32_3633
  v7278

def k0_off810 (v7276 : BitVec 32) : Fin 2 → Nat :=
  let c3_i32_3632 : BitVec 32 := 3#32
  let v7277 : BitVec 32 := Scalar.shrsi v7276 c3_i32_3632
  let c3_i32_3633 : BitVec 32 := 3#32
  let v7278 : BitVec 32 := Scalar.shli v7277 c3_i32_3633
  let v7279 : BitVec 32 := v7278
  let v7280 : Index := Scalar.indexCast v7279
  let c0_3634 : Index := 0#32
  ![v7280.toNat, 0]

def k0_chk405 (v7276 : BitVec 32) : Prop :=
  (8 ∣ (k0_mult405 v7276).toNat) ∧
  (∀ a, (k0_off810 v7276) a + S8x128.size a ≤ S10000x128.size a)
theorem k0_mult405_dvd : ∀ (v7276 : BitVec 32) (k0_hw405 : k0_chk405 v7276), 8 ∣ (k0_mult405 v7276).toNat := fun v7276 k0_hw405 => k0_hw405.1
theorem k0_off810_inb : ∀ (v7276 : BitVec 32) (k0_hw405 : k0_chk405 v7276), ∀ a, (k0_off810 v7276) a + S8x128.size a ≤ S10000x128.size a := fun v7276 k0_hw405 => k0_hw405.2

def k0_off811 (i : grid0.Coords) : Fin 2 → Nat :=
  let arg0 : BitVec 32 := BitVec.ofNat 32 (i 0).val
  let c4_i32 : BitVec 32 := 4#32
  let v0 : BitVec 32 := Scalar.muli arg0 c4_i32
  let c3_i32_3639 : BitVec 32 := 3#32
  let v7292 : BitVec 32 := Scalar.addi v0 c3_i32_3639
  let v7293 : Index := Scalar.indexCast v7292
  let c21_3640 : Index := 21#32
  ![v7293.toNat, 21]
def k0_mult406 (v7294 : BitVec 32) : BitVec 32 :=
  let c3_i32_3641 : BitVec 32 := 3#32
  let v7295 : BitVec 32 := Scalar.shrsi v7294 c3_i32_3641
  let c3_i32_3642 : BitVec 32 := 3#32
  let v7296 : BitVec 32 := Scalar.shli v7295 c3_i32_3642
  v7296

def k0_off812 (v7294 : BitVec 32) : Fin 2 → Nat :=
  let c3_i32_3641 : BitVec 32 := 3#32
  let v7295 : BitVec 32 := Scalar.shrsi v7294 c3_i32_3641
  let c3_i32_3642 : BitVec 32 := 3#32
  let v7296 : BitVec 32 := Scalar.shli v7295 c3_i32_3642
  let v7297 : BitVec 32 := v7296
  let v7298 : Index := Scalar.indexCast v7297
  let c0_3643 : Index := 0#32
  ![v7298.toNat, 0]

def k0_chk406 (v7294 : BitVec 32) : Prop :=
  (8 ∣ (k0_mult406 v7294).toNat) ∧
  (∀ a, (k0_off812 v7294) a + S8x128.size a ≤ S10000x128.size a)
theorem k0_mult406_dvd : ∀ (v7294 : BitVec 32) (k0_hw406 : k0_chk406 v7294), 8 ∣ (k0_mult406 v7294).toNat := fun v7294 k0_hw406 => k0_hw406.1
theorem k0_off812_inb : ∀ (v7294 : BitVec 32) (k0_hw406 : k0_chk406 v7294), ∀ a, (k0_off812 v7294) a + S8x128.size a ≤ S10000x128.size a := fun v7294 k0_hw406 => k0_hw406.2

def k0_off813 (i : grid0.Coords) : Fin 2 → Nat :=
  let arg0 : BitVec 32 := BitVec.ofNat 32 (i 0).val
  let c4_i32 : BitVec 32 := 4#32
  let v0 : BitVec 32 := Scalar.muli arg0 c4_i32
  let c3_i32_3648 : BitVec 32 := 3#32
  let v7310 : BitVec 32 := Scalar.addi v0 c3_i32_3648
  let v7311 : Index := Scalar.indexCast v7310
  let c22_3649 : Index := 22#32
  ![v7311.toNat, 22]
def k0_mult407 (v7312 : BitVec 32) : BitVec 32 :=
  let c3_i32_3650 : BitVec 32 := 3#32
  let v7313 : BitVec 32 := Scalar.shrsi v7312 c3_i32_3650
  let c3_i32_3651 : BitVec 32 := 3#32
  let v7314 : BitVec 32 := Scalar.shli v7313 c3_i32_3651
  v7314

def k0_off814 (v7312 : BitVec 32) : Fin 2 → Nat :=
  let c3_i32_3650 : BitVec 32 := 3#32
  let v7313 : BitVec 32 := Scalar.shrsi v7312 c3_i32_3650
  let c3_i32_3651 : BitVec 32 := 3#32
  let v7314 : BitVec 32 := Scalar.shli v7313 c3_i32_3651
  let v7315 : BitVec 32 := v7314
  let v7316 : Index := Scalar.indexCast v7315
  let c0_3652 : Index := 0#32
  ![v7316.toNat, 0]

def k0_chk407 (v7312 : BitVec 32) : Prop :=
  (8 ∣ (k0_mult407 v7312).toNat) ∧
  (∀ a, (k0_off814 v7312) a + S8x128.size a ≤ S10000x128.size a)
theorem k0_mult407_dvd : ∀ (v7312 : BitVec 32) (k0_hw407 : k0_chk407 v7312), 8 ∣ (k0_mult407 v7312).toNat := fun v7312 k0_hw407 => k0_hw407.1
theorem k0_off814_inb : ∀ (v7312 : BitVec 32) (k0_hw407 : k0_chk407 v7312), ∀ a, (k0_off814 v7312) a + S8x128.size a ≤ S10000x128.size a := fun v7312 k0_hw407 => k0_hw407.2

def k0_off815 (i : grid0.Coords) : Fin 2 → Nat :=
  let arg0 : BitVec 32 := BitVec.ofNat 32 (i 0).val
  let c4_i32 : BitVec 32 := 4#32
  let v0 : BitVec 32 := Scalar.muli arg0 c4_i32
  let c3_i32_3657 : BitVec 32 := 3#32
  let v7328 : BitVec 32 := Scalar.addi v0 c3_i32_3657
  let v7329 : Index := Scalar.indexCast v7328
  let c23_3658 : Index := 23#32
  ![v7329.toNat, 23]
def k0_mult408 (v7330 : BitVec 32) : BitVec 32 :=
  let c3_i32_3659 : BitVec 32 := 3#32
  let v7331 : BitVec 32 := Scalar.shrsi v7330 c3_i32_3659
  let c3_i32_3660 : BitVec 32 := 3#32
  let v7332 : BitVec 32 := Scalar.shli v7331 c3_i32_3660
  v7332

def k0_off816 (v7330 : BitVec 32) : Fin 2 → Nat :=
  let c3_i32_3659 : BitVec 32 := 3#32
  let v7331 : BitVec 32 := Scalar.shrsi v7330 c3_i32_3659
  let c3_i32_3660 : BitVec 32 := 3#32
  let v7332 : BitVec 32 := Scalar.shli v7331 c3_i32_3660
  let v7333 : BitVec 32 := v7332
  let v7334 : Index := Scalar.indexCast v7333
  let c0_3661 : Index := 0#32
  ![v7334.toNat, 0]

def k0_chk408 (v7330 : BitVec 32) : Prop :=
  (8 ∣ (k0_mult408 v7330).toNat) ∧
  (∀ a, (k0_off816 v7330) a + S8x128.size a ≤ S10000x128.size a)
theorem k0_mult408_dvd : ∀ (v7330 : BitVec 32) (k0_hw408 : k0_chk408 v7330), 8 ∣ (k0_mult408 v7330).toNat := fun v7330 k0_hw408 => k0_hw408.1
theorem k0_off816_inb : ∀ (v7330 : BitVec 32) (k0_hw408 : k0_chk408 v7330), ∀ a, (k0_off816 v7330) a + S8x128.size a ≤ S10000x128.size a := fun v7330 k0_hw408 => k0_hw408.2

def k0_off817 (i : grid0.Coords) : Fin 2 → Nat :=
  let arg0 : BitVec 32 := BitVec.ofNat 32 (i 0).val
  let c4_i32 : BitVec 32 := 4#32
  let v0 : BitVec 32 := Scalar.muli arg0 c4_i32
  let c3_i32_3666 : BitVec 32 := 3#32
  let v7346 : BitVec 32 := Scalar.addi v0 c3_i32_3666
  let v7347 : Index := Scalar.indexCast v7346
  let c24_3667 : Index := 24#32
  ![v7347.toNat, 24]
def k0_mult409 (v7348 : BitVec 32) : BitVec 32 :=
  let c3_i32_3668 : BitVec 32 := 3#32
  let v7349 : BitVec 32 := Scalar.shrsi v7348 c3_i32_3668
  let c3_i32_3669 : BitVec 32 := 3#32
  let v7350 : BitVec 32 := Scalar.shli v7349 c3_i32_3669
  v7350

def k0_off818 (v7348 : BitVec 32) : Fin 2 → Nat :=
  let c3_i32_3668 : BitVec 32 := 3#32
  let v7349 : BitVec 32 := Scalar.shrsi v7348 c3_i32_3668
  let c3_i32_3669 : BitVec 32 := 3#32
  let v7350 : BitVec 32 := Scalar.shli v7349 c3_i32_3669
  let v7351 : BitVec 32 := v7350
  let v7352 : Index := Scalar.indexCast v7351
  let c0_3670 : Index := 0#32
  ![v7352.toNat, 0]

def k0_chk409 (v7348 : BitVec 32) : Prop :=
  (8 ∣ (k0_mult409 v7348).toNat) ∧
  (∀ a, (k0_off818 v7348) a + S8x128.size a ≤ S10000x128.size a)
theorem k0_mult409_dvd : ∀ (v7348 : BitVec 32) (k0_hw409 : k0_chk409 v7348), 8 ∣ (k0_mult409 v7348).toNat := fun v7348 k0_hw409 => k0_hw409.1
theorem k0_off818_inb : ∀ (v7348 : BitVec 32) (k0_hw409 : k0_chk409 v7348), ∀ a, (k0_off818 v7348) a + S8x128.size a ≤ S10000x128.size a := fun v7348 k0_hw409 => k0_hw409.2

def k0_off819 (i : grid0.Coords) : Fin 2 → Nat :=
  let arg0 : BitVec 32 := BitVec.ofNat 32 (i 0).val
  let c4_i32 : BitVec 32 := 4#32
  let v0 : BitVec 32 := Scalar.muli arg0 c4_i32
  let c3_i32_3675 : BitVec 32 := 3#32
  let v7364 : BitVec 32 := Scalar.addi v0 c3_i32_3675
  let v7365 : Index := Scalar.indexCast v7364
  let c25_3676 : Index := 25#32
  ![v7365.toNat, 25]
def k0_mult410 (v7366 : BitVec 32) : BitVec 32 :=
  let c3_i32_3677 : BitVec 32 := 3#32
  let v7367 : BitVec 32 := Scalar.shrsi v7366 c3_i32_3677
  let c3_i32_3678 : BitVec 32 := 3#32
  let v7368 : BitVec 32 := Scalar.shli v7367 c3_i32_3678
  v7368

def k0_off820 (v7366 : BitVec 32) : Fin 2 → Nat :=
  let c3_i32_3677 : BitVec 32 := 3#32
  let v7367 : BitVec 32 := Scalar.shrsi v7366 c3_i32_3677
  let c3_i32_3678 : BitVec 32 := 3#32
  let v7368 : BitVec 32 := Scalar.shli v7367 c3_i32_3678
  let v7369 : BitVec 32 := v7368
  let v7370 : Index := Scalar.indexCast v7369
  let c0_3679 : Index := 0#32
  ![v7370.toNat, 0]

def k0_chk410 (v7366 : BitVec 32) : Prop :=
  (8 ∣ (k0_mult410 v7366).toNat) ∧
  (∀ a, (k0_off820 v7366) a + S8x128.size a ≤ S10000x128.size a)
theorem k0_mult410_dvd : ∀ (v7366 : BitVec 32) (k0_hw410 : k0_chk410 v7366), 8 ∣ (k0_mult410 v7366).toNat := fun v7366 k0_hw410 => k0_hw410.1
theorem k0_off820_inb : ∀ (v7366 : BitVec 32) (k0_hw410 : k0_chk410 v7366), ∀ a, (k0_off820 v7366) a + S8x128.size a ≤ S10000x128.size a := fun v7366 k0_hw410 => k0_hw410.2

def k0_off821 (i : grid0.Coords) : Fin 2 → Nat :=
  let arg0 : BitVec 32 := BitVec.ofNat 32 (i 0).val
  let c4_i32 : BitVec 32 := 4#32
  let v0 : BitVec 32 := Scalar.muli arg0 c4_i32
  let c3_i32_3684 : BitVec 32 := 3#32
  let v7382 : BitVec 32 := Scalar.addi v0 c3_i32_3684
  let v7383 : Index := Scalar.indexCast v7382
  let c26_3685 : Index := 26#32
  ![v7383.toNat, 26]
def k0_mult411 (v7384 : BitVec 32) : BitVec 32 :=
  let c3_i32_3686 : BitVec 32 := 3#32
  let v7385 : BitVec 32 := Scalar.shrsi v7384 c3_i32_3686
  let c3_i32_3687 : BitVec 32 := 3#32
  let v7386 : BitVec 32 := Scalar.shli v7385 c3_i32_3687
  v7386

def k0_off822 (v7384 : BitVec 32) : Fin 2 → Nat :=
  let c3_i32_3686 : BitVec 32 := 3#32
  let v7385 : BitVec 32 := Scalar.shrsi v7384 c3_i32_3686
  let c3_i32_3687 : BitVec 32 := 3#32
  let v7386 : BitVec 32 := Scalar.shli v7385 c3_i32_3687
  let v7387 : BitVec 32 := v7386
  let v7388 : Index := Scalar.indexCast v7387
  let c0_3688 : Index := 0#32
  ![v7388.toNat, 0]

def k0_chk411 (v7384 : BitVec 32) : Prop :=
  (8 ∣ (k0_mult411 v7384).toNat) ∧
  (∀ a, (k0_off822 v7384) a + S8x128.size a ≤ S10000x128.size a)
theorem k0_mult411_dvd : ∀ (v7384 : BitVec 32) (k0_hw411 : k0_chk411 v7384), 8 ∣ (k0_mult411 v7384).toNat := fun v7384 k0_hw411 => k0_hw411.1
theorem k0_off822_inb : ∀ (v7384 : BitVec 32) (k0_hw411 : k0_chk411 v7384), ∀ a, (k0_off822 v7384) a + S8x128.size a ≤ S10000x128.size a := fun v7384 k0_hw411 => k0_hw411.2

def k0_off823 (i : grid0.Coords) : Fin 2 → Nat :=
  let arg0 : BitVec 32 := BitVec.ofNat 32 (i 0).val
  let c4_i32 : BitVec 32 := 4#32
  let v0 : BitVec 32 := Scalar.muli arg0 c4_i32
  let c3_i32_3693 : BitVec 32 := 3#32
  let v7400 : BitVec 32 := Scalar.addi v0 c3_i32_3693
  let v7401 : Index := Scalar.indexCast v7400
  let c27_3694 : Index := 27#32
  ![v7401.toNat, 27]
def k0_mult412 (v7402 : BitVec 32) : BitVec 32 :=
  let c3_i32_3695 : BitVec 32 := 3#32
  let v7403 : BitVec 32 := Scalar.shrsi v7402 c3_i32_3695
  let c3_i32_3696 : BitVec 32 := 3#32
  let v7404 : BitVec 32 := Scalar.shli v7403 c3_i32_3696
  v7404

def k0_off824 (v7402 : BitVec 32) : Fin 2 → Nat :=
  let c3_i32_3695 : BitVec 32 := 3#32
  let v7403 : BitVec 32 := Scalar.shrsi v7402 c3_i32_3695
  let c3_i32_3696 : BitVec 32 := 3#32
  let v7404 : BitVec 32 := Scalar.shli v7403 c3_i32_3696
  let v7405 : BitVec 32 := v7404
  let v7406 : Index := Scalar.indexCast v7405
  let c0_3697 : Index := 0#32
  ![v7406.toNat, 0]

def k0_chk412 (v7402 : BitVec 32) : Prop :=
  (8 ∣ (k0_mult412 v7402).toNat) ∧
  (∀ a, (k0_off824 v7402) a + S8x128.size a ≤ S10000x128.size a)
theorem k0_mult412_dvd : ∀ (v7402 : BitVec 32) (k0_hw412 : k0_chk412 v7402), 8 ∣ (k0_mult412 v7402).toNat := fun v7402 k0_hw412 => k0_hw412.1
theorem k0_off824_inb : ∀ (v7402 : BitVec 32) (k0_hw412 : k0_chk412 v7402), ∀ a, (k0_off824 v7402) a + S8x128.size a ≤ S10000x128.size a := fun v7402 k0_hw412 => k0_hw412.2

def k0_off825 (i : grid0.Coords) : Fin 2 → Nat :=
  let arg0 : BitVec 32 := BitVec.ofNat 32 (i 0).val
  let c4_i32 : BitVec 32 := 4#32
  let v0 : BitVec 32 := Scalar.muli arg0 c4_i32
  let c3_i32_3702 : BitVec 32 := 3#32
  let v7418 : BitVec 32 := Scalar.addi v0 c3_i32_3702
  let v7419 : Index := Scalar.indexCast v7418
  let c28_3703 : Index := 28#32
  ![v7419.toNat, 28]
def k0_mult413 (v7420 : BitVec 32) : BitVec 32 :=
  let c3_i32_3704 : BitVec 32 := 3#32
  let v7421 : BitVec 32 := Scalar.shrsi v7420 c3_i32_3704
  let c3_i32_3705 : BitVec 32 := 3#32
  let v7422 : BitVec 32 := Scalar.shli v7421 c3_i32_3705
  v7422

def k0_off826 (v7420 : BitVec 32) : Fin 2 → Nat :=
  let c3_i32_3704 : BitVec 32 := 3#32
  let v7421 : BitVec 32 := Scalar.shrsi v7420 c3_i32_3704
  let c3_i32_3705 : BitVec 32 := 3#32
  let v7422 : BitVec 32 := Scalar.shli v7421 c3_i32_3705
  let v7423 : BitVec 32 := v7422
  let v7424 : Index := Scalar.indexCast v7423
  let c0_3706 : Index := 0#32
  ![v7424.toNat, 0]

def k0_chk413 (v7420 : BitVec 32) : Prop :=
  (8 ∣ (k0_mult413 v7420).toNat) ∧
  (∀ a, (k0_off826 v7420) a + S8x128.size a ≤ S10000x128.size a)
theorem k0_mult413_dvd : ∀ (v7420 : BitVec 32) (k0_hw413 : k0_chk413 v7420), 8 ∣ (k0_mult413 v7420).toNat := fun v7420 k0_hw413 => k0_hw413.1
theorem k0_off826_inb : ∀ (v7420 : BitVec 32) (k0_hw413 : k0_chk413 v7420), ∀ a, (k0_off826 v7420) a + S8x128.size a ≤ S10000x128.size a := fun v7420 k0_hw413 => k0_hw413.2

def k0_off827 (i : grid0.Coords) : Fin 2 → Nat :=
  let arg0 : BitVec 32 := BitVec.ofNat 32 (i 0).val
  let c4_i32 : BitVec 32 := 4#32
  let v0 : BitVec 32 := Scalar.muli arg0 c4_i32
  let c3_i32_3711 : BitVec 32 := 3#32
  let v7436 : BitVec 32 := Scalar.addi v0 c3_i32_3711
  let v7437 : Index := Scalar.indexCast v7436
  let c29_3712 : Index := 29#32
  ![v7437.toNat, 29]
def k0_mult414 (v7438 : BitVec 32) : BitVec 32 :=
  let c3_i32_3713 : BitVec 32 := 3#32
  let v7439 : BitVec 32 := Scalar.shrsi v7438 c3_i32_3713
  let c3_i32_3714 : BitVec 32 := 3#32
  let v7440 : BitVec 32 := Scalar.shli v7439 c3_i32_3714
  v7440

def k0_off828 (v7438 : BitVec 32) : Fin 2 → Nat :=
  let c3_i32_3713 : BitVec 32 := 3#32
  let v7439 : BitVec 32 := Scalar.shrsi v7438 c3_i32_3713
  let c3_i32_3714 : BitVec 32 := 3#32
  let v7440 : BitVec 32 := Scalar.shli v7439 c3_i32_3714
  let v7441 : BitVec 32 := v7440
  let v7442 : Index := Scalar.indexCast v7441
  let c0_3715 : Index := 0#32
  ![v7442.toNat, 0]

def k0_chk414 (v7438 : BitVec 32) : Prop :=
  (8 ∣ (k0_mult414 v7438).toNat) ∧
  (∀ a, (k0_off828 v7438) a + S8x128.size a ≤ S10000x128.size a)
theorem k0_mult414_dvd : ∀ (v7438 : BitVec 32) (k0_hw414 : k0_chk414 v7438), 8 ∣ (k0_mult414 v7438).toNat := fun v7438 k0_hw414 => k0_hw414.1
theorem k0_off828_inb : ∀ (v7438 : BitVec 32) (k0_hw414 : k0_chk414 v7438), ∀ a, (k0_off828 v7438) a + S8x128.size a ≤ S10000x128.size a := fun v7438 k0_hw414 => k0_hw414.2

def k0_off829 (i : grid0.Coords) : Fin 2 → Nat :=
  let arg0 : BitVec 32 := BitVec.ofNat 32 (i 0).val
  let c4_i32 : BitVec 32 := 4#32
  let v0 : BitVec 32 := Scalar.muli arg0 c4_i32
  let c3_i32_3720 : BitVec 32 := 3#32
  let v7454 : BitVec 32 := Scalar.addi v0 c3_i32_3720
  let v7455 : Index := Scalar.indexCast v7454
  let c30_3721 : Index := 30#32
  ![v7455.toNat, 30]
def k0_mult415 (v7456 : BitVec 32) : BitVec 32 :=
  let c3_i32_3722 : BitVec 32 := 3#32
  let v7457 : BitVec 32 := Scalar.shrsi v7456 c3_i32_3722
  let c3_i32_3723 : BitVec 32 := 3#32
  let v7458 : BitVec 32 := Scalar.shli v7457 c3_i32_3723
  v7458

def k0_off830 (v7456 : BitVec 32) : Fin 2 → Nat :=
  let c3_i32_3722 : BitVec 32 := 3#32
  let v7457 : BitVec 32 := Scalar.shrsi v7456 c3_i32_3722
  let c3_i32_3723 : BitVec 32 := 3#32
  let v7458 : BitVec 32 := Scalar.shli v7457 c3_i32_3723
  let v7459 : BitVec 32 := v7458
  let v7460 : Index := Scalar.indexCast v7459
  let c0_3724 : Index := 0#32
  ![v7460.toNat, 0]

def k0_chk415 (v7456 : BitVec 32) : Prop :=
  (8 ∣ (k0_mult415 v7456).toNat) ∧
  (∀ a, (k0_off830 v7456) a + S8x128.size a ≤ S10000x128.size a)
theorem k0_mult415_dvd : ∀ (v7456 : BitVec 32) (k0_hw415 : k0_chk415 v7456), 8 ∣ (k0_mult415 v7456).toNat := fun v7456 k0_hw415 => k0_hw415.1
theorem k0_off830_inb : ∀ (v7456 : BitVec 32) (k0_hw415 : k0_chk415 v7456), ∀ a, (k0_off830 v7456) a + S8x128.size a ≤ S10000x128.size a := fun v7456 k0_hw415 => k0_hw415.2

def k0_off831 (i : grid0.Coords) : Fin 2 → Nat :=
  let arg0 : BitVec 32 := BitVec.ofNat 32 (i 0).val
  let c4_i32 : BitVec 32 := 4#32
  let v0 : BitVec 32 := Scalar.muli arg0 c4_i32
  let c3_i32_3729 : BitVec 32 := 3#32
  let v7472 : BitVec 32 := Scalar.addi v0 c3_i32_3729
  let v7473 : Index := Scalar.indexCast v7472
  let c31_3730 : Index := 31#32
  ![v7473.toNat, 31]
def k0_mult416 (v7474 : BitVec 32) : BitVec 32 :=
  let c3_i32_3731 : BitVec 32 := 3#32
  let v7475 : BitVec 32 := Scalar.shrsi v7474 c3_i32_3731
  let c3_i32_3732 : BitVec 32 := 3#32
  let v7476 : BitVec 32 := Scalar.shli v7475 c3_i32_3732
  v7476

def k0_off832 (v7474 : BitVec 32) : Fin 2 → Nat :=
  let c3_i32_3731 : BitVec 32 := 3#32
  let v7475 : BitVec 32 := Scalar.shrsi v7474 c3_i32_3731
  let c3_i32_3732 : BitVec 32 := 3#32
  let v7476 : BitVec 32 := Scalar.shli v7475 c3_i32_3732
  let v7477 : BitVec 32 := v7476
  let v7478 : Index := Scalar.indexCast v7477
  let c0_3733 : Index := 0#32
  ![v7478.toNat, 0]

def k0_chk416 (v7474 : BitVec 32) : Prop :=
  (8 ∣ (k0_mult416 v7474).toNat) ∧
  (∀ a, (k0_off832 v7474) a + S8x128.size a ≤ S10000x128.size a)
theorem k0_mult416_dvd : ∀ (v7474 : BitVec 32) (k0_hw416 : k0_chk416 v7474), 8 ∣ (k0_mult416 v7474).toNat := fun v7474 k0_hw416 => k0_hw416.1
theorem k0_off832_inb : ∀ (v7474 : BitVec 32) (k0_hw416 : k0_chk416 v7474), ∀ a, (k0_off832 v7474) a + S8x128.size a ≤ S10000x128.size a := fun v7474 k0_hw416 => k0_hw416.2

def k0_off833 (i : grid0.Coords) : Fin 2 → Nat :=
  let arg0 : BitVec 32 := BitVec.ofNat 32 (i 0).val
  let c4_i32 : BitVec 32 := 4#32
  let v0 : BitVec 32 := Scalar.muli arg0 c4_i32
  let c3_i32_3738 : BitVec 32 := 3#32
  let v7490 : BitVec 32 := Scalar.addi v0 c3_i32_3738
  let v7491 : Index := Scalar.indexCast v7490
  let c32_3739 : Index := 32#32
  ![v7491.toNat, 32]
def k0_mult417 (v7492 : BitVec 32) : BitVec 32 :=
  let c3_i32_3740 : BitVec 32 := 3#32
  let v7493 : BitVec 32 := Scalar.shrsi v7492 c3_i32_3740
  let c3_i32_3741 : BitVec 32 := 3#32
  let v7494 : BitVec 32 := Scalar.shli v7493 c3_i32_3741
  v7494

def k0_off834 (v7492 : BitVec 32) : Fin 2 → Nat :=
  let c3_i32_3740 : BitVec 32 := 3#32
  let v7493 : BitVec 32 := Scalar.shrsi v7492 c3_i32_3740
  let c3_i32_3741 : BitVec 32 := 3#32
  let v7494 : BitVec 32 := Scalar.shli v7493 c3_i32_3741
  let v7495 : BitVec 32 := v7494
  let v7496 : Index := Scalar.indexCast v7495
  let c0_3742 : Index := 0#32
  ![v7496.toNat, 0]

def k0_chk417 (v7492 : BitVec 32) : Prop :=
  (8 ∣ (k0_mult417 v7492).toNat) ∧
  (∀ a, (k0_off834 v7492) a + S8x128.size a ≤ S10000x128.size a)
theorem k0_mult417_dvd : ∀ (v7492 : BitVec 32) (k0_hw417 : k0_chk417 v7492), 8 ∣ (k0_mult417 v7492).toNat := fun v7492 k0_hw417 => k0_hw417.1
theorem k0_off834_inb : ∀ (v7492 : BitVec 32) (k0_hw417 : k0_chk417 v7492), ∀ a, (k0_off834 v7492) a + S8x128.size a ≤ S10000x128.size a := fun v7492 k0_hw417 => k0_hw417.2

def k0_off835 (i : grid0.Coords) : Fin 2 → Nat :=
  let arg0 : BitVec 32 := BitVec.ofNat 32 (i 0).val
  let c4_i32 : BitVec 32 := 4#32
  let v0 : BitVec 32 := Scalar.muli arg0 c4_i32
  let c3_i32_3747 : BitVec 32 := 3#32
  let v7508 : BitVec 32 := Scalar.addi v0 c3_i32_3747
  let v7509 : Index := Scalar.indexCast v7508
  let c33_3748 : Index := 33#32
  ![v7509.toNat, 33]
def k0_mult418 (v7510 : BitVec 32) : BitVec 32 :=
  let c3_i32_3749 : BitVec 32 := 3#32
  let v7511 : BitVec 32 := Scalar.shrsi v7510 c3_i32_3749
  let c3_i32_3750 : BitVec 32 := 3#32
  let v7512 : BitVec 32 := Scalar.shli v7511 c3_i32_3750
  v7512

def k0_off836 (v7510 : BitVec 32) : Fin 2 → Nat :=
  let c3_i32_3749 : BitVec 32 := 3#32
  let v7511 : BitVec 32 := Scalar.shrsi v7510 c3_i32_3749
  let c3_i32_3750 : BitVec 32 := 3#32
  let v7512 : BitVec 32 := Scalar.shli v7511 c3_i32_3750
  let v7513 : BitVec 32 := v7512
  let v7514 : Index := Scalar.indexCast v7513
  let c0_3751 : Index := 0#32
  ![v7514.toNat, 0]

def k0_chk418 (v7510 : BitVec 32) : Prop :=
  (8 ∣ (k0_mult418 v7510).toNat) ∧
  (∀ a, (k0_off836 v7510) a + S8x128.size a ≤ S10000x128.size a)
theorem k0_mult418_dvd : ∀ (v7510 : BitVec 32) (k0_hw418 : k0_chk418 v7510), 8 ∣ (k0_mult418 v7510).toNat := fun v7510 k0_hw418 => k0_hw418.1
theorem k0_off836_inb : ∀ (v7510 : BitVec 32) (k0_hw418 : k0_chk418 v7510), ∀ a, (k0_off836 v7510) a + S8x128.size a ≤ S10000x128.size a := fun v7510 k0_hw418 => k0_hw418.2

def k0_off837 (i : grid0.Coords) : Fin 2 → Nat :=
  let arg0 : BitVec 32 := BitVec.ofNat 32 (i 0).val
  let c4_i32 : BitVec 32 := 4#32
  let v0 : BitVec 32 := Scalar.muli arg0 c4_i32
  let c3_i32_3756 : BitVec 32 := 3#32
  let v7526 : BitVec 32 := Scalar.addi v0 c3_i32_3756
  let v7527 : Index := Scalar.indexCast v7526
  let c34_3757 : Index := 34#32
  ![v7527.toNat, 34]
def k0_mult419 (v7528 : BitVec 32) : BitVec 32 :=
  let c3_i32_3758 : BitVec 32 := 3#32
  let v7529 : BitVec 32 := Scalar.shrsi v7528 c3_i32_3758
  let c3_i32_3759 : BitVec 32 := 3#32
  let v7530 : BitVec 32 := Scalar.shli v7529 c3_i32_3759
  v7530

def k0_off838 (v7528 : BitVec 32) : Fin 2 → Nat :=
  let c3_i32_3758 : BitVec 32 := 3#32
  let v7529 : BitVec 32 := Scalar.shrsi v7528 c3_i32_3758
  let c3_i32_3759 : BitVec 32 := 3#32
  let v7530 : BitVec 32 := Scalar.shli v7529 c3_i32_3759
  let v7531 : BitVec 32 := v7530
  let v7532 : Index := Scalar.indexCast v7531
  let c0_3760 : Index := 0#32
  ![v7532.toNat, 0]

def k0_chk419 (v7528 : BitVec 32) : Prop :=
  (8 ∣ (k0_mult419 v7528).toNat) ∧
  (∀ a, (k0_off838 v7528) a + S8x128.size a ≤ S10000x128.size a)
theorem k0_mult419_dvd : ∀ (v7528 : BitVec 32) (k0_hw419 : k0_chk419 v7528), 8 ∣ (k0_mult419 v7528).toNat := fun v7528 k0_hw419 => k0_hw419.1
theorem k0_off838_inb : ∀ (v7528 : BitVec 32) (k0_hw419 : k0_chk419 v7528), ∀ a, (k0_off838 v7528) a + S8x128.size a ≤ S10000x128.size a := fun v7528 k0_hw419 => k0_hw419.2

def k0_off839 (i : grid0.Coords) : Fin 2 → Nat :=
  let arg0 : BitVec 32 := BitVec.ofNat 32 (i 0).val
  let c4_i32 : BitVec 32 := 4#32
  let v0 : BitVec 32 := Scalar.muli arg0 c4_i32
  let c3_i32_3765 : BitVec 32 := 3#32
  let v7544 : BitVec 32 := Scalar.addi v0 c3_i32_3765
  let v7545 : Index := Scalar.indexCast v7544
  let c35_3766 : Index := 35#32
  ![v7545.toNat, 35]
def k0_mult420 (v7546 : BitVec 32) : BitVec 32 :=
  let c3_i32_3767 : BitVec 32 := 3#32
  let v7547 : BitVec 32 := Scalar.shrsi v7546 c3_i32_3767
  let c3_i32_3768 : BitVec 32 := 3#32
  let v7548 : BitVec 32 := Scalar.shli v7547 c3_i32_3768
  v7548

def k0_off840 (v7546 : BitVec 32) : Fin 2 → Nat :=
  let c3_i32_3767 : BitVec 32 := 3#32
  let v7547 : BitVec 32 := Scalar.shrsi v7546 c3_i32_3767
  let c3_i32_3768 : BitVec 32 := 3#32
  let v7548 : BitVec 32 := Scalar.shli v7547 c3_i32_3768
  let v7549 : BitVec 32 := v7548
  let v7550 : Index := Scalar.indexCast v7549
  let c0_3769 : Index := 0#32
  ![v7550.toNat, 0]

def k0_chk420 (v7546 : BitVec 32) : Prop :=
  (8 ∣ (k0_mult420 v7546).toNat) ∧
  (∀ a, (k0_off840 v7546) a + S8x128.size a ≤ S10000x128.size a)
theorem k0_mult420_dvd : ∀ (v7546 : BitVec 32) (k0_hw420 : k0_chk420 v7546), 8 ∣ (k0_mult420 v7546).toNat := fun v7546 k0_hw420 => k0_hw420.1
theorem k0_off840_inb : ∀ (v7546 : BitVec 32) (k0_hw420 : k0_chk420 v7546), ∀ a, (k0_off840 v7546) a + S8x128.size a ≤ S10000x128.size a := fun v7546 k0_hw420 => k0_hw420.2

def k0_off841 (i : grid0.Coords) : Fin 2 → Nat :=
  let arg0 : BitVec 32 := BitVec.ofNat 32 (i 0).val
  let c4_i32 : BitVec 32 := 4#32
  let v0 : BitVec 32 := Scalar.muli arg0 c4_i32
  let c3_i32_3774 : BitVec 32 := 3#32
  let v7562 : BitVec 32 := Scalar.addi v0 c3_i32_3774
  let v7563 : Index := Scalar.indexCast v7562
  let c36_3775 : Index := 36#32
  ![v7563.toNat, 36]
def k0_mult421 (v7564 : BitVec 32) : BitVec 32 :=
  let c3_i32_3776 : BitVec 32 := 3#32
  let v7565 : BitVec 32 := Scalar.shrsi v7564 c3_i32_3776
  let c3_i32_3777 : BitVec 32 := 3#32
  let v7566 : BitVec 32 := Scalar.shli v7565 c3_i32_3777
  v7566

def k0_off842 (v7564 : BitVec 32) : Fin 2 → Nat :=
  let c3_i32_3776 : BitVec 32 := 3#32
  let v7565 : BitVec 32 := Scalar.shrsi v7564 c3_i32_3776
  let c3_i32_3777 : BitVec 32 := 3#32
  let v7566 : BitVec 32 := Scalar.shli v7565 c3_i32_3777
  let v7567 : BitVec 32 := v7566
  let v7568 : Index := Scalar.indexCast v7567
  let c0_3778 : Index := 0#32
  ![v7568.toNat, 0]

def k0_chk421 (v7564 : BitVec 32) : Prop :=
  (8 ∣ (k0_mult421 v7564).toNat) ∧
  (∀ a, (k0_off842 v7564) a + S8x128.size a ≤ S10000x128.size a)
theorem k0_mult421_dvd : ∀ (v7564 : BitVec 32) (k0_hw421 : k0_chk421 v7564), 8 ∣ (k0_mult421 v7564).toNat := fun v7564 k0_hw421 => k0_hw421.1
theorem k0_off842_inb : ∀ (v7564 : BitVec 32) (k0_hw421 : k0_chk421 v7564), ∀ a, (k0_off842 v7564) a + S8x128.size a ≤ S10000x128.size a := fun v7564 k0_hw421 => k0_hw421.2

def k0_off843 (i : grid0.Coords) : Fin 2 → Nat :=
  let arg0 : BitVec 32 := BitVec.ofNat 32 (i 0).val
  let c4_i32 : BitVec 32 := 4#32
  let v0 : BitVec 32 := Scalar.muli arg0 c4_i32
  let c3_i32_3783 : BitVec 32 := 3#32
  let v7580 : BitVec 32 := Scalar.addi v0 c3_i32_3783
  let v7581 : Index := Scalar.indexCast v7580
  let c37_3784 : Index := 37#32
  ![v7581.toNat, 37]
def k0_mult422 (v7582 : BitVec 32) : BitVec 32 :=
  let c3_i32_3785 : BitVec 32 := 3#32
  let v7583 : BitVec 32 := Scalar.shrsi v7582 c3_i32_3785
  let c3_i32_3786 : BitVec 32 := 3#32
  let v7584 : BitVec 32 := Scalar.shli v7583 c3_i32_3786
  v7584

def k0_off844 (v7582 : BitVec 32) : Fin 2 → Nat :=
  let c3_i32_3785 : BitVec 32 := 3#32
  let v7583 : BitVec 32 := Scalar.shrsi v7582 c3_i32_3785
  let c3_i32_3786 : BitVec 32 := 3#32
  let v7584 : BitVec 32 := Scalar.shli v7583 c3_i32_3786
  let v7585 : BitVec 32 := v7584
  let v7586 : Index := Scalar.indexCast v7585
  let c0_3787 : Index := 0#32
  ![v7586.toNat, 0]

def k0_chk422 (v7582 : BitVec 32) : Prop :=
  (8 ∣ (k0_mult422 v7582).toNat) ∧
  (∀ a, (k0_off844 v7582) a + S8x128.size a ≤ S10000x128.size a)
theorem k0_mult422_dvd : ∀ (v7582 : BitVec 32) (k0_hw422 : k0_chk422 v7582), 8 ∣ (k0_mult422 v7582).toNat := fun v7582 k0_hw422 => k0_hw422.1
theorem k0_off844_inb : ∀ (v7582 : BitVec 32) (k0_hw422 : k0_chk422 v7582), ∀ a, (k0_off844 v7582) a + S8x128.size a ≤ S10000x128.size a := fun v7582 k0_hw422 => k0_hw422.2

def k0_off845 (i : grid0.Coords) : Fin 2 → Nat :=
  let arg0 : BitVec 32 := BitVec.ofNat 32 (i 0).val
  let c4_i32 : BitVec 32 := 4#32
  let v0 : BitVec 32 := Scalar.muli arg0 c4_i32
  let c3_i32_3792 : BitVec 32 := 3#32
  let v7598 : BitVec 32 := Scalar.addi v0 c3_i32_3792
  let v7599 : Index := Scalar.indexCast v7598
  let c38_3793 : Index := 38#32
  ![v7599.toNat, 38]
def k0_mult423 (v7600 : BitVec 32) : BitVec 32 :=
  let c3_i32_3794 : BitVec 32 := 3#32
  let v7601 : BitVec 32 := Scalar.shrsi v7600 c3_i32_3794
  let c3_i32_3795 : BitVec 32 := 3#32
  let v7602 : BitVec 32 := Scalar.shli v7601 c3_i32_3795
  v7602

def k0_off846 (v7600 : BitVec 32) : Fin 2 → Nat :=
  let c3_i32_3794 : BitVec 32 := 3#32
  let v7601 : BitVec 32 := Scalar.shrsi v7600 c3_i32_3794
  let c3_i32_3795 : BitVec 32 := 3#32
  let v7602 : BitVec 32 := Scalar.shli v7601 c3_i32_3795
  let v7603 : BitVec 32 := v7602
  let v7604 : Index := Scalar.indexCast v7603
  let c0_3796 : Index := 0#32
  ![v7604.toNat, 0]

def k0_chk423 (v7600 : BitVec 32) : Prop :=
  (8 ∣ (k0_mult423 v7600).toNat) ∧
  (∀ a, (k0_off846 v7600) a + S8x128.size a ≤ S10000x128.size a)
theorem k0_mult423_dvd : ∀ (v7600 : BitVec 32) (k0_hw423 : k0_chk423 v7600), 8 ∣ (k0_mult423 v7600).toNat := fun v7600 k0_hw423 => k0_hw423.1
theorem k0_off846_inb : ∀ (v7600 : BitVec 32) (k0_hw423 : k0_chk423 v7600), ∀ a, (k0_off846 v7600) a + S8x128.size a ≤ S10000x128.size a := fun v7600 k0_hw423 => k0_hw423.2

def k0_off847 (i : grid0.Coords) : Fin 2 → Nat :=
  let arg0 : BitVec 32 := BitVec.ofNat 32 (i 0).val
  let c4_i32 : BitVec 32 := 4#32
  let v0 : BitVec 32 := Scalar.muli arg0 c4_i32
  let c3_i32_3801 : BitVec 32 := 3#32
  let v7616 : BitVec 32 := Scalar.addi v0 c3_i32_3801
  let v7617 : Index := Scalar.indexCast v7616
  let c39_3802 : Index := 39#32
  ![v7617.toNat, 39]
def k0_mult424 (v7618 : BitVec 32) : BitVec 32 :=
  let c3_i32_3803 : BitVec 32 := 3#32
  let v7619 : BitVec 32 := Scalar.shrsi v7618 c3_i32_3803
  let c3_i32_3804 : BitVec 32 := 3#32
  let v7620 : BitVec 32 := Scalar.shli v7619 c3_i32_3804
  v7620

def k0_off848 (v7618 : BitVec 32) : Fin 2 → Nat :=
  let c3_i32_3803 : BitVec 32 := 3#32
  let v7619 : BitVec 32 := Scalar.shrsi v7618 c3_i32_3803
  let c3_i32_3804 : BitVec 32 := 3#32
  let v7620 : BitVec 32 := Scalar.shli v7619 c3_i32_3804
  let v7621 : BitVec 32 := v7620
  let v7622 : Index := Scalar.indexCast v7621
  let c0_3805 : Index := 0#32
  ![v7622.toNat, 0]

def k0_chk424 (v7618 : BitVec 32) : Prop :=
  (8 ∣ (k0_mult424 v7618).toNat) ∧
  (∀ a, (k0_off848 v7618) a + S8x128.size a ≤ S10000x128.size a)
theorem k0_mult424_dvd : ∀ (v7618 : BitVec 32) (k0_hw424 : k0_chk424 v7618), 8 ∣ (k0_mult424 v7618).toNat := fun v7618 k0_hw424 => k0_hw424.1
theorem k0_off848_inb : ∀ (v7618 : BitVec 32) (k0_hw424 : k0_chk424 v7618), ∀ a, (k0_off848 v7618) a + S8x128.size a ≤ S10000x128.size a := fun v7618 k0_hw424 => k0_hw424.2

def k0_off849 (i : grid0.Coords) : Fin 2 → Nat :=
  let arg0 : BitVec 32 := BitVec.ofNat 32 (i 0).val
  let c4_i32 : BitVec 32 := 4#32
  let v0 : BitVec 32 := Scalar.muli arg0 c4_i32
  let c3_i32_3810 : BitVec 32 := 3#32
  let v7634 : BitVec 32 := Scalar.addi v0 c3_i32_3810
  let v7635 : Index := Scalar.indexCast v7634
  let c40_3811 : Index := 40#32
  ![v7635.toNat, 40]
def k0_mult425 (v7636 : BitVec 32) : BitVec 32 :=
  let c3_i32_3812 : BitVec 32 := 3#32
  let v7637 : BitVec 32 := Scalar.shrsi v7636 c3_i32_3812
  let c3_i32_3813 : BitVec 32 := 3#32
  let v7638 : BitVec 32 := Scalar.shli v7637 c3_i32_3813
  v7638

def k0_off850 (v7636 : BitVec 32) : Fin 2 → Nat :=
  let c3_i32_3812 : BitVec 32 := 3#32
  let v7637 : BitVec 32 := Scalar.shrsi v7636 c3_i32_3812
  let c3_i32_3813 : BitVec 32 := 3#32
  let v7638 : BitVec 32 := Scalar.shli v7637 c3_i32_3813
  let v7639 : BitVec 32 := v7638
  let v7640 : Index := Scalar.indexCast v7639
  let c0_3814 : Index := 0#32
  ![v7640.toNat, 0]

def k0_chk425 (v7636 : BitVec 32) : Prop :=
  (8 ∣ (k0_mult425 v7636).toNat) ∧
  (∀ a, (k0_off850 v7636) a + S8x128.size a ≤ S10000x128.size a)
theorem k0_mult425_dvd : ∀ (v7636 : BitVec 32) (k0_hw425 : k0_chk425 v7636), 8 ∣ (k0_mult425 v7636).toNat := fun v7636 k0_hw425 => k0_hw425.1
theorem k0_off850_inb : ∀ (v7636 : BitVec 32) (k0_hw425 : k0_chk425 v7636), ∀ a, (k0_off850 v7636) a + S8x128.size a ≤ S10000x128.size a := fun v7636 k0_hw425 => k0_hw425.2

def k0_off851 (i : grid0.Coords) : Fin 2 → Nat :=
  let arg0 : BitVec 32 := BitVec.ofNat 32 (i 0).val
  let c4_i32 : BitVec 32 := 4#32
  let v0 : BitVec 32 := Scalar.muli arg0 c4_i32
  let c3_i32_3819 : BitVec 32 := 3#32
  let v7652 : BitVec 32 := Scalar.addi v0 c3_i32_3819
  let v7653 : Index := Scalar.indexCast v7652
  let c41_3820 : Index := 41#32
  ![v7653.toNat, 41]
def k0_mult426 (v7654 : BitVec 32) : BitVec 32 :=
  let c3_i32_3821 : BitVec 32 := 3#32
  let v7655 : BitVec 32 := Scalar.shrsi v7654 c3_i32_3821
  let c3_i32_3822 : BitVec 32 := 3#32
  let v7656 : BitVec 32 := Scalar.shli v7655 c3_i32_3822
  v7656

def k0_off852 (v7654 : BitVec 32) : Fin 2 → Nat :=
  let c3_i32_3821 : BitVec 32 := 3#32
  let v7655 : BitVec 32 := Scalar.shrsi v7654 c3_i32_3821
  let c3_i32_3822 : BitVec 32 := 3#32
  let v7656 : BitVec 32 := Scalar.shli v7655 c3_i32_3822
  let v7657 : BitVec 32 := v7656
  let v7658 : Index := Scalar.indexCast v7657
  let c0_3823 : Index := 0#32
  ![v7658.toNat, 0]

def k0_chk426 (v7654 : BitVec 32) : Prop :=
  (8 ∣ (k0_mult426 v7654).toNat) ∧
  (∀ a, (k0_off852 v7654) a + S8x128.size a ≤ S10000x128.size a)
theorem k0_mult426_dvd : ∀ (v7654 : BitVec 32) (k0_hw426 : k0_chk426 v7654), 8 ∣ (k0_mult426 v7654).toNat := fun v7654 k0_hw426 => k0_hw426.1
theorem k0_off852_inb : ∀ (v7654 : BitVec 32) (k0_hw426 : k0_chk426 v7654), ∀ a, (k0_off852 v7654) a + S8x128.size a ≤ S10000x128.size a := fun v7654 k0_hw426 => k0_hw426.2

def k0_off853 (i : grid0.Coords) : Fin 2 → Nat :=
  let arg0 : BitVec 32 := BitVec.ofNat 32 (i 0).val
  let c4_i32 : BitVec 32 := 4#32
  let v0 : BitVec 32 := Scalar.muli arg0 c4_i32
  let c3_i32_3828 : BitVec 32 := 3#32
  let v7670 : BitVec 32 := Scalar.addi v0 c3_i32_3828
  let v7671 : Index := Scalar.indexCast v7670
  let c42_3829 : Index := 42#32
  ![v7671.toNat, 42]
def k0_mult427 (v7672 : BitVec 32) : BitVec 32 :=
  let c3_i32_3830 : BitVec 32 := 3#32
  let v7673 : BitVec 32 := Scalar.shrsi v7672 c3_i32_3830
  let c3_i32_3831 : BitVec 32 := 3#32
  let v7674 : BitVec 32 := Scalar.shli v7673 c3_i32_3831
  v7674

def k0_off854 (v7672 : BitVec 32) : Fin 2 → Nat :=
  let c3_i32_3830 : BitVec 32 := 3#32
  let v7673 : BitVec 32 := Scalar.shrsi v7672 c3_i32_3830
  let c3_i32_3831 : BitVec 32 := 3#32
  let v7674 : BitVec 32 := Scalar.shli v7673 c3_i32_3831
  let v7675 : BitVec 32 := v7674
  let v7676 : Index := Scalar.indexCast v7675
  let c0_3832 : Index := 0#32
  ![v7676.toNat, 0]

def k0_chk427 (v7672 : BitVec 32) : Prop :=
  (8 ∣ (k0_mult427 v7672).toNat) ∧
  (∀ a, (k0_off854 v7672) a + S8x128.size a ≤ S10000x128.size a)
theorem k0_mult427_dvd : ∀ (v7672 : BitVec 32) (k0_hw427 : k0_chk427 v7672), 8 ∣ (k0_mult427 v7672).toNat := fun v7672 k0_hw427 => k0_hw427.1
theorem k0_off854_inb : ∀ (v7672 : BitVec 32) (k0_hw427 : k0_chk427 v7672), ∀ a, (k0_off854 v7672) a + S8x128.size a ≤ S10000x128.size a := fun v7672 k0_hw427 => k0_hw427.2

def k0_off855 (i : grid0.Coords) : Fin 2 → Nat :=
  let arg0 : BitVec 32 := BitVec.ofNat 32 (i 0).val
  let c4_i32 : BitVec 32 := 4#32
  let v0 : BitVec 32 := Scalar.muli arg0 c4_i32
  let c3_i32_3837 : BitVec 32 := 3#32
  let v7688 : BitVec 32 := Scalar.addi v0 c3_i32_3837
  let v7689 : Index := Scalar.indexCast v7688
  let c43_3838 : Index := 43#32
  ![v7689.toNat, 43]
def k0_mult428 (v7690 : BitVec 32) : BitVec 32 :=
  let c3_i32_3839 : BitVec 32 := 3#32
  let v7691 : BitVec 32 := Scalar.shrsi v7690 c3_i32_3839
  let c3_i32_3840 : BitVec 32 := 3#32
  let v7692 : BitVec 32 := Scalar.shli v7691 c3_i32_3840
  v7692

def k0_off856 (v7690 : BitVec 32) : Fin 2 → Nat :=
  let c3_i32_3839 : BitVec 32 := 3#32
  let v7691 : BitVec 32 := Scalar.shrsi v7690 c3_i32_3839
  let c3_i32_3840 : BitVec 32 := 3#32
  let v7692 : BitVec 32 := Scalar.shli v7691 c3_i32_3840
  let v7693 : BitVec 32 := v7692
  let v7694 : Index := Scalar.indexCast v7693
  let c0_3841 : Index := 0#32
  ![v7694.toNat, 0]

def k0_chk428 (v7690 : BitVec 32) : Prop :=
  (8 ∣ (k0_mult428 v7690).toNat) ∧
  (∀ a, (k0_off856 v7690) a + S8x128.size a ≤ S10000x128.size a)
theorem k0_mult428_dvd : ∀ (v7690 : BitVec 32) (k0_hw428 : k0_chk428 v7690), 8 ∣ (k0_mult428 v7690).toNat := fun v7690 k0_hw428 => k0_hw428.1
theorem k0_off856_inb : ∀ (v7690 : BitVec 32) (k0_hw428 : k0_chk428 v7690), ∀ a, (k0_off856 v7690) a + S8x128.size a ≤ S10000x128.size a := fun v7690 k0_hw428 => k0_hw428.2

def k0_off857 (i : grid0.Coords) : Fin 2 → Nat :=
  let arg0 : BitVec 32 := BitVec.ofNat 32 (i 0).val
  let c4_i32 : BitVec 32 := 4#32
  let v0 : BitVec 32 := Scalar.muli arg0 c4_i32
  let c3_i32_3846 : BitVec 32 := 3#32
  let v7706 : BitVec 32 := Scalar.addi v0 c3_i32_3846
  let v7707 : Index := Scalar.indexCast v7706
  let c44_3847 : Index := 44#32
  ![v7707.toNat, 44]
def k0_mult429 (v7708 : BitVec 32) : BitVec 32 :=
  let c3_i32_3848 : BitVec 32 := 3#32
  let v7709 : BitVec 32 := Scalar.shrsi v7708 c3_i32_3848
  let c3_i32_3849 : BitVec 32 := 3#32
  let v7710 : BitVec 32 := Scalar.shli v7709 c3_i32_3849
  v7710

def k0_off858 (v7708 : BitVec 32) : Fin 2 → Nat :=
  let c3_i32_3848 : BitVec 32 := 3#32
  let v7709 : BitVec 32 := Scalar.shrsi v7708 c3_i32_3848
  let c3_i32_3849 : BitVec 32 := 3#32
  let v7710 : BitVec 32 := Scalar.shli v7709 c3_i32_3849
  let v7711 : BitVec 32 := v7710
  let v7712 : Index := Scalar.indexCast v7711
  let c0_3850 : Index := 0#32
  ![v7712.toNat, 0]

def k0_chk429 (v7708 : BitVec 32) : Prop :=
  (8 ∣ (k0_mult429 v7708).toNat) ∧
  (∀ a, (k0_off858 v7708) a + S8x128.size a ≤ S10000x128.size a)
theorem k0_mult429_dvd : ∀ (v7708 : BitVec 32) (k0_hw429 : k0_chk429 v7708), 8 ∣ (k0_mult429 v7708).toNat := fun v7708 k0_hw429 => k0_hw429.1
theorem k0_off858_inb : ∀ (v7708 : BitVec 32) (k0_hw429 : k0_chk429 v7708), ∀ a, (k0_off858 v7708) a + S8x128.size a ≤ S10000x128.size a := fun v7708 k0_hw429 => k0_hw429.2

def k0_off859 (i : grid0.Coords) : Fin 2 → Nat :=
  let arg0 : BitVec 32 := BitVec.ofNat 32 (i 0).val
  let c4_i32 : BitVec 32 := 4#32
  let v0 : BitVec 32 := Scalar.muli arg0 c4_i32
  let c3_i32_3855 : BitVec 32 := 3#32
  let v7724 : BitVec 32 := Scalar.addi v0 c3_i32_3855
  let v7725 : Index := Scalar.indexCast v7724
  let c45_3856 : Index := 45#32
  ![v7725.toNat, 45]
def k0_mult430 (v7726 : BitVec 32) : BitVec 32 :=
  let c3_i32_3857 : BitVec 32 := 3#32
  let v7727 : BitVec 32 := Scalar.shrsi v7726 c3_i32_3857
  let c3_i32_3858 : BitVec 32 := 3#32
  let v7728 : BitVec 32 := Scalar.shli v7727 c3_i32_3858
  v7728

def k0_off860 (v7726 : BitVec 32) : Fin 2 → Nat :=
  let c3_i32_3857 : BitVec 32 := 3#32
  let v7727 : BitVec 32 := Scalar.shrsi v7726 c3_i32_3857
  let c3_i32_3858 : BitVec 32 := 3#32
  let v7728 : BitVec 32 := Scalar.shli v7727 c3_i32_3858
  let v7729 : BitVec 32 := v7728
  let v7730 : Index := Scalar.indexCast v7729
  let c0_3859 : Index := 0#32
  ![v7730.toNat, 0]

def k0_chk430 (v7726 : BitVec 32) : Prop :=
  (8 ∣ (k0_mult430 v7726).toNat) ∧
  (∀ a, (k0_off860 v7726) a + S8x128.size a ≤ S10000x128.size a)
theorem k0_mult430_dvd : ∀ (v7726 : BitVec 32) (k0_hw430 : k0_chk430 v7726), 8 ∣ (k0_mult430 v7726).toNat := fun v7726 k0_hw430 => k0_hw430.1
theorem k0_off860_inb : ∀ (v7726 : BitVec 32) (k0_hw430 : k0_chk430 v7726), ∀ a, (k0_off860 v7726) a + S8x128.size a ≤ S10000x128.size a := fun v7726 k0_hw430 => k0_hw430.2

def k0_off861 (i : grid0.Coords) : Fin 2 → Nat :=
  let arg0 : BitVec 32 := BitVec.ofNat 32 (i 0).val
  let c4_i32 : BitVec 32 := 4#32
  let v0 : BitVec 32 := Scalar.muli arg0 c4_i32
  let c3_i32_3864 : BitVec 32 := 3#32
  let v7742 : BitVec 32 := Scalar.addi v0 c3_i32_3864
  let v7743 : Index := Scalar.indexCast v7742
  let c46_3865 : Index := 46#32
  ![v7743.toNat, 46]
def k0_mult431 (v7744 : BitVec 32) : BitVec 32 :=
  let c3_i32_3866 : BitVec 32 := 3#32
  let v7745 : BitVec 32 := Scalar.shrsi v7744 c3_i32_3866
  let c3_i32_3867 : BitVec 32 := 3#32
  let v7746 : BitVec 32 := Scalar.shli v7745 c3_i32_3867
  v7746

def k0_off862 (v7744 : BitVec 32) : Fin 2 → Nat :=
  let c3_i32_3866 : BitVec 32 := 3#32
  let v7745 : BitVec 32 := Scalar.shrsi v7744 c3_i32_3866
  let c3_i32_3867 : BitVec 32 := 3#32
  let v7746 : BitVec 32 := Scalar.shli v7745 c3_i32_3867
  let v7747 : BitVec 32 := v7746
  let v7748 : Index := Scalar.indexCast v7747
  let c0_3868 : Index := 0#32
  ![v7748.toNat, 0]

def k0_chk431 (v7744 : BitVec 32) : Prop :=
  (8 ∣ (k0_mult431 v7744).toNat) ∧
  (∀ a, (k0_off862 v7744) a + S8x128.size a ≤ S10000x128.size a)
theorem k0_mult431_dvd : ∀ (v7744 : BitVec 32) (k0_hw431 : k0_chk431 v7744), 8 ∣ (k0_mult431 v7744).toNat := fun v7744 k0_hw431 => k0_hw431.1
theorem k0_off862_inb : ∀ (v7744 : BitVec 32) (k0_hw431 : k0_chk431 v7744), ∀ a, (k0_off862 v7744) a + S8x128.size a ≤ S10000x128.size a := fun v7744 k0_hw431 => k0_hw431.2

def k0_off863 (i : grid0.Coords) : Fin 2 → Nat :=
  let arg0 : BitVec 32 := BitVec.ofNat 32 (i 0).val
  let c4_i32 : BitVec 32 := 4#32
  let v0 : BitVec 32 := Scalar.muli arg0 c4_i32
  let c3_i32_3873 : BitVec 32 := 3#32
  let v7760 : BitVec 32 := Scalar.addi v0 c3_i32_3873
  let v7761 : Index := Scalar.indexCast v7760
  let c47_3874 : Index := 47#32
  ![v7761.toNat, 47]
def k0_mult432 (v7762 : BitVec 32) : BitVec 32 :=
  let c3_i32_3875 : BitVec 32 := 3#32
  let v7763 : BitVec 32 := Scalar.shrsi v7762 c3_i32_3875
  let c3_i32_3876 : BitVec 32 := 3#32
  let v7764 : BitVec 32 := Scalar.shli v7763 c3_i32_3876
  v7764

def k0_off864 (v7762 : BitVec 32) : Fin 2 → Nat :=
  let c3_i32_3875 : BitVec 32 := 3#32
  let v7763 : BitVec 32 := Scalar.shrsi v7762 c3_i32_3875
  let c3_i32_3876 : BitVec 32 := 3#32
  let v7764 : BitVec 32 := Scalar.shli v7763 c3_i32_3876
  let v7765 : BitVec 32 := v7764
  let v7766 : Index := Scalar.indexCast v7765
  let c0_3877 : Index := 0#32
  ![v7766.toNat, 0]

def k0_chk432 (v7762 : BitVec 32) : Prop :=
  (8 ∣ (k0_mult432 v7762).toNat) ∧
  (∀ a, (k0_off864 v7762) a + S8x128.size a ≤ S10000x128.size a)
theorem k0_mult432_dvd : ∀ (v7762 : BitVec 32) (k0_hw432 : k0_chk432 v7762), 8 ∣ (k0_mult432 v7762).toNat := fun v7762 k0_hw432 => k0_hw432.1
theorem k0_off864_inb : ∀ (v7762 : BitVec 32) (k0_hw432 : k0_chk432 v7762), ∀ a, (k0_off864 v7762) a + S8x128.size a ≤ S10000x128.size a := fun v7762 k0_hw432 => k0_hw432.2

def k0_off865 (i : grid0.Coords) : Fin 2 → Nat :=
  let arg0 : BitVec 32 := BitVec.ofNat 32 (i 0).val
  let c4_i32 : BitVec 32 := 4#32
  let v0 : BitVec 32 := Scalar.muli arg0 c4_i32
  let c3_i32_3882 : BitVec 32 := 3#32
  let v7778 : BitVec 32 := Scalar.addi v0 c3_i32_3882
  let v7779 : Index := Scalar.indexCast v7778
  let c48_3883 : Index := 48#32
  ![v7779.toNat, 48]
def k0_mult433 (v7780 : BitVec 32) : BitVec 32 :=
  let c3_i32_3884 : BitVec 32 := 3#32
  let v7781 : BitVec 32 := Scalar.shrsi v7780 c3_i32_3884
  let c3_i32_3885 : BitVec 32 := 3#32
  let v7782 : BitVec 32 := Scalar.shli v7781 c3_i32_3885
  v7782

def k0_off866 (v7780 : BitVec 32) : Fin 2 → Nat :=
  let c3_i32_3884 : BitVec 32 := 3#32
  let v7781 : BitVec 32 := Scalar.shrsi v7780 c3_i32_3884
  let c3_i32_3885 : BitVec 32 := 3#32
  let v7782 : BitVec 32 := Scalar.shli v7781 c3_i32_3885
  let v7783 : BitVec 32 := v7782
  let v7784 : Index := Scalar.indexCast v7783
  let c0_3886 : Index := 0#32
  ![v7784.toNat, 0]

def k0_chk433 (v7780 : BitVec 32) : Prop :=
  (8 ∣ (k0_mult433 v7780).toNat) ∧
  (∀ a, (k0_off866 v7780) a + S8x128.size a ≤ S10000x128.size a)
theorem k0_mult433_dvd : ∀ (v7780 : BitVec 32) (k0_hw433 : k0_chk433 v7780), 8 ∣ (k0_mult433 v7780).toNat := fun v7780 k0_hw433 => k0_hw433.1
theorem k0_off866_inb : ∀ (v7780 : BitVec 32) (k0_hw433 : k0_chk433 v7780), ∀ a, (k0_off866 v7780) a + S8x128.size a ≤ S10000x128.size a := fun v7780 k0_hw433 => k0_hw433.2

def k0_off867 (i : grid0.Coords) : Fin 2 → Nat :=
  let arg0 : BitVec 32 := BitVec.ofNat 32 (i 0).val
  let c4_i32 : BitVec 32 := 4#32
  let v0 : BitVec 32 := Scalar.muli arg0 c4_i32
  let c3_i32_3891 : BitVec 32 := 3#32
  let v7796 : BitVec 32 := Scalar.addi v0 c3_i32_3891
  let v7797 : Index := Scalar.indexCast v7796
  let c49_3892 : Index := 49#32
  ![v7797.toNat, 49]
def k0_mult434 (v7798 : BitVec 32) : BitVec 32 :=
  let c3_i32_3893 : BitVec 32 := 3#32
  let v7799 : BitVec 32 := Scalar.shrsi v7798 c3_i32_3893
  let c3_i32_3894 : BitVec 32 := 3#32
  let v7800 : BitVec 32 := Scalar.shli v7799 c3_i32_3894
  v7800

def k0_off868 (v7798 : BitVec 32) : Fin 2 → Nat :=
  let c3_i32_3893 : BitVec 32 := 3#32
  let v7799 : BitVec 32 := Scalar.shrsi v7798 c3_i32_3893
  let c3_i32_3894 : BitVec 32 := 3#32
  let v7800 : BitVec 32 := Scalar.shli v7799 c3_i32_3894
  let v7801 : BitVec 32 := v7800
  let v7802 : Index := Scalar.indexCast v7801
  let c0_3895 : Index := 0#32
  ![v7802.toNat, 0]

def k0_chk434 (v7798 : BitVec 32) : Prop :=
  (8 ∣ (k0_mult434 v7798).toNat) ∧
  (∀ a, (k0_off868 v7798) a + S8x128.size a ≤ S10000x128.size a)
theorem k0_mult434_dvd : ∀ (v7798 : BitVec 32) (k0_hw434 : k0_chk434 v7798), 8 ∣ (k0_mult434 v7798).toNat := fun v7798 k0_hw434 => k0_hw434.1
theorem k0_off868_inb : ∀ (v7798 : BitVec 32) (k0_hw434 : k0_chk434 v7798), ∀ a, (k0_off868 v7798) a + S8x128.size a ≤ S10000x128.size a := fun v7798 k0_hw434 => k0_hw434.2

def k0_off869 (i : grid0.Coords) : Fin 2 → Nat :=
  let arg0 : BitVec 32 := BitVec.ofNat 32 (i 0).val
  let c4_i32 : BitVec 32 := 4#32
  let v0 : BitVec 32 := Scalar.muli arg0 c4_i32
  let c3_i32_3900 : BitVec 32 := 3#32
  let v7814 : BitVec 32 := Scalar.addi v0 c3_i32_3900
  let v7815 : Index := Scalar.indexCast v7814
  let c50_3901 : Index := 50#32
  ![v7815.toNat, 50]
def k0_mult435 (v7816 : BitVec 32) : BitVec 32 :=
  let c3_i32_3902 : BitVec 32 := 3#32
  let v7817 : BitVec 32 := Scalar.shrsi v7816 c3_i32_3902
  let c3_i32_3903 : BitVec 32 := 3#32
  let v7818 : BitVec 32 := Scalar.shli v7817 c3_i32_3903
  v7818

def k0_off870 (v7816 : BitVec 32) : Fin 2 → Nat :=
  let c3_i32_3902 : BitVec 32 := 3#32
  let v7817 : BitVec 32 := Scalar.shrsi v7816 c3_i32_3902
  let c3_i32_3903 : BitVec 32 := 3#32
  let v7818 : BitVec 32 := Scalar.shli v7817 c3_i32_3903
  let v7819 : BitVec 32 := v7818
  let v7820 : Index := Scalar.indexCast v7819
  let c0_3904 : Index := 0#32
  ![v7820.toNat, 0]

def k0_chk435 (v7816 : BitVec 32) : Prop :=
  (8 ∣ (k0_mult435 v7816).toNat) ∧
  (∀ a, (k0_off870 v7816) a + S8x128.size a ≤ S10000x128.size a)
theorem k0_mult435_dvd : ∀ (v7816 : BitVec 32) (k0_hw435 : k0_chk435 v7816), 8 ∣ (k0_mult435 v7816).toNat := fun v7816 k0_hw435 => k0_hw435.1
theorem k0_off870_inb : ∀ (v7816 : BitVec 32) (k0_hw435 : k0_chk435 v7816), ∀ a, (k0_off870 v7816) a + S8x128.size a ≤ S10000x128.size a := fun v7816 k0_hw435 => k0_hw435.2

def k0_off871 (i : grid0.Coords) : Fin 2 → Nat :=
  let arg0 : BitVec 32 := BitVec.ofNat 32 (i 0).val
  let c4_i32 : BitVec 32 := 4#32
  let v0 : BitVec 32 := Scalar.muli arg0 c4_i32
  let c3_i32_3909 : BitVec 32 := 3#32
  let v7832 : BitVec 32 := Scalar.addi v0 c3_i32_3909
  let v7833 : Index := Scalar.indexCast v7832
  let c51_3910 : Index := 51#32
  ![v7833.toNat, 51]
def k0_mult436 (v7834 : BitVec 32) : BitVec 32 :=
  let c3_i32_3911 : BitVec 32 := 3#32
  let v7835 : BitVec 32 := Scalar.shrsi v7834 c3_i32_3911
  let c3_i32_3912 : BitVec 32 := 3#32
  let v7836 : BitVec 32 := Scalar.shli v7835 c3_i32_3912
  v7836

def k0_off872 (v7834 : BitVec 32) : Fin 2 → Nat :=
  let c3_i32_3911 : BitVec 32 := 3#32
  let v7835 : BitVec 32 := Scalar.shrsi v7834 c3_i32_3911
  let c3_i32_3912 : BitVec 32 := 3#32
  let v7836 : BitVec 32 := Scalar.shli v7835 c3_i32_3912
  let v7837 : BitVec 32 := v7836
  let v7838 : Index := Scalar.indexCast v7837
  let c0_3913 : Index := 0#32
  ![v7838.toNat, 0]

def k0_chk436 (v7834 : BitVec 32) : Prop :=
  (8 ∣ (k0_mult436 v7834).toNat) ∧
  (∀ a, (k0_off872 v7834) a + S8x128.size a ≤ S10000x128.size a)
theorem k0_mult436_dvd : ∀ (v7834 : BitVec 32) (k0_hw436 : k0_chk436 v7834), 8 ∣ (k0_mult436 v7834).toNat := fun v7834 k0_hw436 => k0_hw436.1
theorem k0_off872_inb : ∀ (v7834 : BitVec 32) (k0_hw436 : k0_chk436 v7834), ∀ a, (k0_off872 v7834) a + S8x128.size a ≤ S10000x128.size a := fun v7834 k0_hw436 => k0_hw436.2

def k0_off873 (i : grid0.Coords) : Fin 2 → Nat :=
  let arg0 : BitVec 32 := BitVec.ofNat 32 (i 0).val
  let c4_i32 : BitVec 32 := 4#32
  let v0 : BitVec 32 := Scalar.muli arg0 c4_i32
  let c3_i32_3918 : BitVec 32 := 3#32
  let v7850 : BitVec 32 := Scalar.addi v0 c3_i32_3918
  let v7851 : Index := Scalar.indexCast v7850
  let c52_3919 : Index := 52#32
  ![v7851.toNat, 52]
def k0_mult437 (v7852 : BitVec 32) : BitVec 32 :=
  let c3_i32_3920 : BitVec 32 := 3#32
  let v7853 : BitVec 32 := Scalar.shrsi v7852 c3_i32_3920
  let c3_i32_3921 : BitVec 32 := 3#32
  let v7854 : BitVec 32 := Scalar.shli v7853 c3_i32_3921
  v7854

def k0_off874 (v7852 : BitVec 32) : Fin 2 → Nat :=
  let c3_i32_3920 : BitVec 32 := 3#32
  let v7853 : BitVec 32 := Scalar.shrsi v7852 c3_i32_3920
  let c3_i32_3921 : BitVec 32 := 3#32
  let v7854 : BitVec 32 := Scalar.shli v7853 c3_i32_3921
  let v7855 : BitVec 32 := v7854
  let v7856 : Index := Scalar.indexCast v7855
  let c0_3922 : Index := 0#32
  ![v7856.toNat, 0]

def k0_chk437 (v7852 : BitVec 32) : Prop :=
  (8 ∣ (k0_mult437 v7852).toNat) ∧
  (∀ a, (k0_off874 v7852) a + S8x128.size a ≤ S10000x128.size a)
theorem k0_mult437_dvd : ∀ (v7852 : BitVec 32) (k0_hw437 : k0_chk437 v7852), 8 ∣ (k0_mult437 v7852).toNat := fun v7852 k0_hw437 => k0_hw437.1
theorem k0_off874_inb : ∀ (v7852 : BitVec 32) (k0_hw437 : k0_chk437 v7852), ∀ a, (k0_off874 v7852) a + S8x128.size a ≤ S10000x128.size a := fun v7852 k0_hw437 => k0_hw437.2

def k0_off875 (i : grid0.Coords) : Fin 2 → Nat :=
  let arg0 : BitVec 32 := BitVec.ofNat 32 (i 0).val
  let c4_i32 : BitVec 32 := 4#32
  let v0 : BitVec 32 := Scalar.muli arg0 c4_i32
  let c3_i32_3927 : BitVec 32 := 3#32
  let v7868 : BitVec 32 := Scalar.addi v0 c3_i32_3927
  let v7869 : Index := Scalar.indexCast v7868
  let c53_3928 : Index := 53#32
  ![v7869.toNat, 53]
def k0_mult438 (v7870 : BitVec 32) : BitVec 32 :=
  let c3_i32_3929 : BitVec 32 := 3#32
  let v7871 : BitVec 32 := Scalar.shrsi v7870 c3_i32_3929
  let c3_i32_3930 : BitVec 32 := 3#32
  let v7872 : BitVec 32 := Scalar.shli v7871 c3_i32_3930
  v7872

def k0_off876 (v7870 : BitVec 32) : Fin 2 → Nat :=
  let c3_i32_3929 : BitVec 32 := 3#32
  let v7871 : BitVec 32 := Scalar.shrsi v7870 c3_i32_3929
  let c3_i32_3930 : BitVec 32 := 3#32
  let v7872 : BitVec 32 := Scalar.shli v7871 c3_i32_3930
  let v7873 : BitVec 32 := v7872
  let v7874 : Index := Scalar.indexCast v7873
  let c0_3931 : Index := 0#32
  ![v7874.toNat, 0]

def k0_chk438 (v7870 : BitVec 32) : Prop :=
  (8 ∣ (k0_mult438 v7870).toNat) ∧
  (∀ a, (k0_off876 v7870) a + S8x128.size a ≤ S10000x128.size a)
theorem k0_mult438_dvd : ∀ (v7870 : BitVec 32) (k0_hw438 : k0_chk438 v7870), 8 ∣ (k0_mult438 v7870).toNat := fun v7870 k0_hw438 => k0_hw438.1
theorem k0_off876_inb : ∀ (v7870 : BitVec 32) (k0_hw438 : k0_chk438 v7870), ∀ a, (k0_off876 v7870) a + S8x128.size a ≤ S10000x128.size a := fun v7870 k0_hw438 => k0_hw438.2

def k0_off877 (i : grid0.Coords) : Fin 2 → Nat :=
  let arg0 : BitVec 32 := BitVec.ofNat 32 (i 0).val
  let c4_i32 : BitVec 32 := 4#32
  let v0 : BitVec 32 := Scalar.muli arg0 c4_i32
  let c3_i32_3936 : BitVec 32 := 3#32
  let v7886 : BitVec 32 := Scalar.addi v0 c3_i32_3936
  let v7887 : Index := Scalar.indexCast v7886
  let c54_3937 : Index := 54#32
  ![v7887.toNat, 54]
def k0_mult439 (v7888 : BitVec 32) : BitVec 32 :=
  let c3_i32_3938 : BitVec 32 := 3#32
  let v7889 : BitVec 32 := Scalar.shrsi v7888 c3_i32_3938
  let c3_i32_3939 : BitVec 32 := 3#32
  let v7890 : BitVec 32 := Scalar.shli v7889 c3_i32_3939
  v7890

def k0_off878 (v7888 : BitVec 32) : Fin 2 → Nat :=
  let c3_i32_3938 : BitVec 32 := 3#32
  let v7889 : BitVec 32 := Scalar.shrsi v7888 c3_i32_3938
  let c3_i32_3939 : BitVec 32 := 3#32
  let v7890 : BitVec 32 := Scalar.shli v7889 c3_i32_3939
  let v7891 : BitVec 32 := v7890
  let v7892 : Index := Scalar.indexCast v7891
  let c0_3940 : Index := 0#32
  ![v7892.toNat, 0]

def k0_chk439 (v7888 : BitVec 32) : Prop :=
  (8 ∣ (k0_mult439 v7888).toNat) ∧
  (∀ a, (k0_off878 v7888) a + S8x128.size a ≤ S10000x128.size a)
theorem k0_mult439_dvd : ∀ (v7888 : BitVec 32) (k0_hw439 : k0_chk439 v7888), 8 ∣ (k0_mult439 v7888).toNat := fun v7888 k0_hw439 => k0_hw439.1
theorem k0_off878_inb : ∀ (v7888 : BitVec 32) (k0_hw439 : k0_chk439 v7888), ∀ a, (k0_off878 v7888) a + S8x128.size a ≤ S10000x128.size a := fun v7888 k0_hw439 => k0_hw439.2

def k0_off879 (i : grid0.Coords) : Fin 2 → Nat :=
  let arg0 : BitVec 32 := BitVec.ofNat 32 (i 0).val
  let c4_i32 : BitVec 32 := 4#32
  let v0 : BitVec 32 := Scalar.muli arg0 c4_i32
  let c3_i32_3945 : BitVec 32 := 3#32
  let v7904 : BitVec 32 := Scalar.addi v0 c3_i32_3945
  let v7905 : Index := Scalar.indexCast v7904
  let c55_3946 : Index := 55#32
  ![v7905.toNat, 55]
def k0_mult440 (v7906 : BitVec 32) : BitVec 32 :=
  let c3_i32_3947 : BitVec 32 := 3#32
  let v7907 : BitVec 32 := Scalar.shrsi v7906 c3_i32_3947
  let c3_i32_3948 : BitVec 32 := 3#32
  let v7908 : BitVec 32 := Scalar.shli v7907 c3_i32_3948
  v7908

def k0_off880 (v7906 : BitVec 32) : Fin 2 → Nat :=
  let c3_i32_3947 : BitVec 32 := 3#32
  let v7907 : BitVec 32 := Scalar.shrsi v7906 c3_i32_3947
  let c3_i32_3948 : BitVec 32 := 3#32
  let v7908 : BitVec 32 := Scalar.shli v7907 c3_i32_3948
  let v7909 : BitVec 32 := v7908
  let v7910 : Index := Scalar.indexCast v7909
  let c0_3949 : Index := 0#32
  ![v7910.toNat, 0]

def k0_chk440 (v7906 : BitVec 32) : Prop :=
  (8 ∣ (k0_mult440 v7906).toNat) ∧
  (∀ a, (k0_off880 v7906) a + S8x128.size a ≤ S10000x128.size a)
theorem k0_mult440_dvd : ∀ (v7906 : BitVec 32) (k0_hw440 : k0_chk440 v7906), 8 ∣ (k0_mult440 v7906).toNat := fun v7906 k0_hw440 => k0_hw440.1
theorem k0_off880_inb : ∀ (v7906 : BitVec 32) (k0_hw440 : k0_chk440 v7906), ∀ a, (k0_off880 v7906) a + S8x128.size a ≤ S10000x128.size a := fun v7906 k0_hw440 => k0_hw440.2

def k0_off881 (i : grid0.Coords) : Fin 2 → Nat :=
  let arg0 : BitVec 32 := BitVec.ofNat 32 (i 0).val
  let c4_i32 : BitVec 32 := 4#32
  let v0 : BitVec 32 := Scalar.muli arg0 c4_i32
  let c3_i32_3954 : BitVec 32 := 3#32
  let v7922 : BitVec 32 := Scalar.addi v0 c3_i32_3954
  let v7923 : Index := Scalar.indexCast v7922
  let c56_3955 : Index := 56#32
  ![v7923.toNat, 56]
def k0_mult441 (v7924 : BitVec 32) : BitVec 32 :=
  let c3_i32_3956 : BitVec 32 := 3#32
  let v7925 : BitVec 32 := Scalar.shrsi v7924 c3_i32_3956
  let c3_i32_3957 : BitVec 32 := 3#32
  let v7926 : BitVec 32 := Scalar.shli v7925 c3_i32_3957
  v7926

def k0_off882 (v7924 : BitVec 32) : Fin 2 → Nat :=
  let c3_i32_3956 : BitVec 32 := 3#32
  let v7925 : BitVec 32 := Scalar.shrsi v7924 c3_i32_3956
  let c3_i32_3957 : BitVec 32 := 3#32
  let v7926 : BitVec 32 := Scalar.shli v7925 c3_i32_3957
  let v7927 : BitVec 32 := v7926
  let v7928 : Index := Scalar.indexCast v7927
  let c0_3958 : Index := 0#32
  ![v7928.toNat, 0]

def k0_chk441 (v7924 : BitVec 32) : Prop :=
  (8 ∣ (k0_mult441 v7924).toNat) ∧
  (∀ a, (k0_off882 v7924) a + S8x128.size a ≤ S10000x128.size a)
theorem k0_mult441_dvd : ∀ (v7924 : BitVec 32) (k0_hw441 : k0_chk441 v7924), 8 ∣ (k0_mult441 v7924).toNat := fun v7924 k0_hw441 => k0_hw441.1
theorem k0_off882_inb : ∀ (v7924 : BitVec 32) (k0_hw441 : k0_chk441 v7924), ∀ a, (k0_off882 v7924) a + S8x128.size a ≤ S10000x128.size a := fun v7924 k0_hw441 => k0_hw441.2

def k0_off883 (i : grid0.Coords) : Fin 2 → Nat :=
  let arg0 : BitVec 32 := BitVec.ofNat 32 (i 0).val
  let c4_i32 : BitVec 32 := 4#32
  let v0 : BitVec 32 := Scalar.muli arg0 c4_i32
  let c3_i32_3963 : BitVec 32 := 3#32
  let v7940 : BitVec 32 := Scalar.addi v0 c3_i32_3963
  let v7941 : Index := Scalar.indexCast v7940
  let c57_3964 : Index := 57#32
  ![v7941.toNat, 57]
def k0_mult442 (v7942 : BitVec 32) : BitVec 32 :=
  let c3_i32_3965 : BitVec 32 := 3#32
  let v7943 : BitVec 32 := Scalar.shrsi v7942 c3_i32_3965
  let c3_i32_3966 : BitVec 32 := 3#32
  let v7944 : BitVec 32 := Scalar.shli v7943 c3_i32_3966
  v7944

def k0_off884 (v7942 : BitVec 32) : Fin 2 → Nat :=
  let c3_i32_3965 : BitVec 32 := 3#32
  let v7943 : BitVec 32 := Scalar.shrsi v7942 c3_i32_3965
  let c3_i32_3966 : BitVec 32 := 3#32
  let v7944 : BitVec 32 := Scalar.shli v7943 c3_i32_3966
  let v7945 : BitVec 32 := v7944
  let v7946 : Index := Scalar.indexCast v7945
  let c0_3967 : Index := 0#32
  ![v7946.toNat, 0]

def k0_chk442 (v7942 : BitVec 32) : Prop :=
  (8 ∣ (k0_mult442 v7942).toNat) ∧
  (∀ a, (k0_off884 v7942) a + S8x128.size a ≤ S10000x128.size a)
theorem k0_mult442_dvd : ∀ (v7942 : BitVec 32) (k0_hw442 : k0_chk442 v7942), 8 ∣ (k0_mult442 v7942).toNat := fun v7942 k0_hw442 => k0_hw442.1
theorem k0_off884_inb : ∀ (v7942 : BitVec 32) (k0_hw442 : k0_chk442 v7942), ∀ a, (k0_off884 v7942) a + S8x128.size a ≤ S10000x128.size a := fun v7942 k0_hw442 => k0_hw442.2

def k0_off885 (i : grid0.Coords) : Fin 2 → Nat :=
  let arg0 : BitVec 32 := BitVec.ofNat 32 (i 0).val
  let c4_i32 : BitVec 32 := 4#32
  let v0 : BitVec 32 := Scalar.muli arg0 c4_i32
  let c3_i32_3972 : BitVec 32 := 3#32
  let v7958 : BitVec 32 := Scalar.addi v0 c3_i32_3972
  let v7959 : Index := Scalar.indexCast v7958
  let c58_3973 : Index := 58#32
  ![v7959.toNat, 58]
def k0_mult443 (v7960 : BitVec 32) : BitVec 32 :=
  let c3_i32_3974 : BitVec 32 := 3#32
  let v7961 : BitVec 32 := Scalar.shrsi v7960 c3_i32_3974
  let c3_i32_3975 : BitVec 32 := 3#32
  let v7962 : BitVec 32 := Scalar.shli v7961 c3_i32_3975
  v7962

def k0_off886 (v7960 : BitVec 32) : Fin 2 → Nat :=
  let c3_i32_3974 : BitVec 32 := 3#32
  let v7961 : BitVec 32 := Scalar.shrsi v7960 c3_i32_3974
  let c3_i32_3975 : BitVec 32 := 3#32
  let v7962 : BitVec 32 := Scalar.shli v7961 c3_i32_3975
  let v7963 : BitVec 32 := v7962
  let v7964 : Index := Scalar.indexCast v7963
  let c0_3976 : Index := 0#32
  ![v7964.toNat, 0]

def k0_chk443 (v7960 : BitVec 32) : Prop :=
  (8 ∣ (k0_mult443 v7960).toNat) ∧
  (∀ a, (k0_off886 v7960) a + S8x128.size a ≤ S10000x128.size a)
theorem k0_mult443_dvd : ∀ (v7960 : BitVec 32) (k0_hw443 : k0_chk443 v7960), 8 ∣ (k0_mult443 v7960).toNat := fun v7960 k0_hw443 => k0_hw443.1
theorem k0_off886_inb : ∀ (v7960 : BitVec 32) (k0_hw443 : k0_chk443 v7960), ∀ a, (k0_off886 v7960) a + S8x128.size a ≤ S10000x128.size a := fun v7960 k0_hw443 => k0_hw443.2

def k0_off887 (i : grid0.Coords) : Fin 2 → Nat :=
  let arg0 : BitVec 32 := BitVec.ofNat 32 (i 0).val
  let c4_i32 : BitVec 32 := 4#32
  let v0 : BitVec 32 := Scalar.muli arg0 c4_i32
  let c3_i32_3981 : BitVec 32 := 3#32
  let v7976 : BitVec 32 := Scalar.addi v0 c3_i32_3981
  let v7977 : Index := Scalar.indexCast v7976
  let c59_3982 : Index := 59#32
  ![v7977.toNat, 59]
def k0_mult444 (v7978 : BitVec 32) : BitVec 32 :=
  let c3_i32_3983 : BitVec 32 := 3#32
  let v7979 : BitVec 32 := Scalar.shrsi v7978 c3_i32_3983
  let c3_i32_3984 : BitVec 32 := 3#32
  let v7980 : BitVec 32 := Scalar.shli v7979 c3_i32_3984
  v7980

def k0_off888 (v7978 : BitVec 32) : Fin 2 → Nat :=
  let c3_i32_3983 : BitVec 32 := 3#32
  let v7979 : BitVec 32 := Scalar.shrsi v7978 c3_i32_3983
  let c3_i32_3984 : BitVec 32 := 3#32
  let v7980 : BitVec 32 := Scalar.shli v7979 c3_i32_3984
  let v7981 : BitVec 32 := v7980
  let v7982 : Index := Scalar.indexCast v7981
  let c0_3985 : Index := 0#32
  ![v7982.toNat, 0]

def k0_chk444 (v7978 : BitVec 32) : Prop :=
  (8 ∣ (k0_mult444 v7978).toNat) ∧
  (∀ a, (k0_off888 v7978) a + S8x128.size a ≤ S10000x128.size a)
theorem k0_mult444_dvd : ∀ (v7978 : BitVec 32) (k0_hw444 : k0_chk444 v7978), 8 ∣ (k0_mult444 v7978).toNat := fun v7978 k0_hw444 => k0_hw444.1
theorem k0_off888_inb : ∀ (v7978 : BitVec 32) (k0_hw444 : k0_chk444 v7978), ∀ a, (k0_off888 v7978) a + S8x128.size a ≤ S10000x128.size a := fun v7978 k0_hw444 => k0_hw444.2

def k0_off889 (i : grid0.Coords) : Fin 2 → Nat :=
  let arg0 : BitVec 32 := BitVec.ofNat 32 (i 0).val
  let c4_i32 : BitVec 32 := 4#32
  let v0 : BitVec 32 := Scalar.muli arg0 c4_i32
  let c3_i32_3990 : BitVec 32 := 3#32
  let v7994 : BitVec 32 := Scalar.addi v0 c3_i32_3990
  let v7995 : Index := Scalar.indexCast v7994
  let c60_3991 : Index := 60#32
  ![v7995.toNat, 60]
def k0_mult445 (v7996 : BitVec 32) : BitVec 32 :=
  let c3_i32_3992 : BitVec 32 := 3#32
  let v7997 : BitVec 32 := Scalar.shrsi v7996 c3_i32_3992
  let c3_i32_3993 : BitVec 32 := 3#32
  let v7998 : BitVec 32 := Scalar.shli v7997 c3_i32_3993
  v7998

def k0_off890 (v7996 : BitVec 32) : Fin 2 → Nat :=
  let c3_i32_3992 : BitVec 32 := 3#32
  let v7997 : BitVec 32 := Scalar.shrsi v7996 c3_i32_3992
  let c3_i32_3993 : BitVec 32 := 3#32
  let v7998 : BitVec 32 := Scalar.shli v7997 c3_i32_3993
  let v7999 : BitVec 32 := v7998
  let v8000 : Index := Scalar.indexCast v7999
  let c0_3994 : Index := 0#32
  ![v8000.toNat, 0]

def k0_chk445 (v7996 : BitVec 32) : Prop :=
  (8 ∣ (k0_mult445 v7996).toNat) ∧
  (∀ a, (k0_off890 v7996) a + S8x128.size a ≤ S10000x128.size a)
theorem k0_mult445_dvd : ∀ (v7996 : BitVec 32) (k0_hw445 : k0_chk445 v7996), 8 ∣ (k0_mult445 v7996).toNat := fun v7996 k0_hw445 => k0_hw445.1
theorem k0_off890_inb : ∀ (v7996 : BitVec 32) (k0_hw445 : k0_chk445 v7996), ∀ a, (k0_off890 v7996) a + S8x128.size a ≤ S10000x128.size a := fun v7996 k0_hw445 => k0_hw445.2

def k0_off891 (i : grid0.Coords) : Fin 2 → Nat :=
  let arg0 : BitVec 32 := BitVec.ofNat 32 (i 0).val
  let c4_i32 : BitVec 32 := 4#32
  let v0 : BitVec 32 := Scalar.muli arg0 c4_i32
  let c3_i32_3999 : BitVec 32 := 3#32
  let v8012 : BitVec 32 := Scalar.addi v0 c3_i32_3999
  let v8013 : Index := Scalar.indexCast v8012
  let c61_4000 : Index := 61#32
  ![v8013.toNat, 61]
def k0_mult446 (v8014 : BitVec 32) : BitVec 32 :=
  let c3_i32_4001 : BitVec 32 := 3#32
  let v8015 : BitVec 32 := Scalar.shrsi v8014 c3_i32_4001
  let c3_i32_4002 : BitVec 32 := 3#32
  let v8016 : BitVec 32 := Scalar.shli v8015 c3_i32_4002
  v8016

def k0_off892 (v8014 : BitVec 32) : Fin 2 → Nat :=
  let c3_i32_4001 : BitVec 32 := 3#32
  let v8015 : BitVec 32 := Scalar.shrsi v8014 c3_i32_4001
  let c3_i32_4002 : BitVec 32 := 3#32
  let v8016 : BitVec 32 := Scalar.shli v8015 c3_i32_4002
  let v8017 : BitVec 32 := v8016
  let v8018 : Index := Scalar.indexCast v8017
  let c0_4003 : Index := 0#32
  ![v8018.toNat, 0]

def k0_chk446 (v8014 : BitVec 32) : Prop :=
  (8 ∣ (k0_mult446 v8014).toNat) ∧
  (∀ a, (k0_off892 v8014) a + S8x128.size a ≤ S10000x128.size a)
theorem k0_mult446_dvd : ∀ (v8014 : BitVec 32) (k0_hw446 : k0_chk446 v8014), 8 ∣ (k0_mult446 v8014).toNat := fun v8014 k0_hw446 => k0_hw446.1
theorem k0_off892_inb : ∀ (v8014 : BitVec 32) (k0_hw446 : k0_chk446 v8014), ∀ a, (k0_off892 v8014) a + S8x128.size a ≤ S10000x128.size a := fun v8014 k0_hw446 => k0_hw446.2

def k0_off893 (i : grid0.Coords) : Fin 2 → Nat :=
  let arg0 : BitVec 32 := BitVec.ofNat 32 (i 0).val
  let c4_i32 : BitVec 32 := 4#32
  let v0 : BitVec 32 := Scalar.muli arg0 c4_i32
  let c3_i32_4008 : BitVec 32 := 3#32
  let v8030 : BitVec 32 := Scalar.addi v0 c3_i32_4008
  let v8031 : Index := Scalar.indexCast v8030
  let c62_4009 : Index := 62#32
  ![v8031.toNat, 62]
def k0_mult447 (v8032 : BitVec 32) : BitVec 32 :=
  let c3_i32_4010 : BitVec 32 := 3#32
  let v8033 : BitVec 32 := Scalar.shrsi v8032 c3_i32_4010
  let c3_i32_4011 : BitVec 32 := 3#32
  let v8034 : BitVec 32 := Scalar.shli v8033 c3_i32_4011
  v8034

def k0_off894 (v8032 : BitVec 32) : Fin 2 → Nat :=
  let c3_i32_4010 : BitVec 32 := 3#32
  let v8033 : BitVec 32 := Scalar.shrsi v8032 c3_i32_4010
  let c3_i32_4011 : BitVec 32 := 3#32
  let v8034 : BitVec 32 := Scalar.shli v8033 c3_i32_4011
  let v8035 : BitVec 32 := v8034
  let v8036 : Index := Scalar.indexCast v8035
  let c0_4012 : Index := 0#32
  ![v8036.toNat, 0]

def k0_chk447 (v8032 : BitVec 32) : Prop :=
  (8 ∣ (k0_mult447 v8032).toNat) ∧
  (∀ a, (k0_off894 v8032) a + S8x128.size a ≤ S10000x128.size a)
theorem k0_mult447_dvd : ∀ (v8032 : BitVec 32) (k0_hw447 : k0_chk447 v8032), 8 ∣ (k0_mult447 v8032).toNat := fun v8032 k0_hw447 => k0_hw447.1
theorem k0_off894_inb : ∀ (v8032 : BitVec 32) (k0_hw447 : k0_chk447 v8032), ∀ a, (k0_off894 v8032) a + S8x128.size a ≤ S10000x128.size a := fun v8032 k0_hw447 => k0_hw447.2

def k0_off895 (i : grid0.Coords) : Fin 2 → Nat :=
  let arg0 : BitVec 32 := BitVec.ofNat 32 (i 0).val
  let c4_i32 : BitVec 32 := 4#32
  let v0 : BitVec 32 := Scalar.muli arg0 c4_i32
  let c3_i32_4017 : BitVec 32 := 3#32
  let v8048 : BitVec 32 := Scalar.addi v0 c3_i32_4017
  let v8049 : Index := Scalar.indexCast v8048
  let c63_4018 : Index := 63#32
  ![v8049.toNat, 63]
def k0_mult448 (v8050 : BitVec 32) : BitVec 32 :=
  let c3_i32_4019 : BitVec 32 := 3#32
  let v8051 : BitVec 32 := Scalar.shrsi v8050 c3_i32_4019
  let c3_i32_4020 : BitVec 32 := 3#32
  let v8052 : BitVec 32 := Scalar.shli v8051 c3_i32_4020
  v8052

def k0_off896 (v8050 : BitVec 32) : Fin 2 → Nat :=
  let c3_i32_4019 : BitVec 32 := 3#32
  let v8051 : BitVec 32 := Scalar.shrsi v8050 c3_i32_4019
  let c3_i32_4020 : BitVec 32 := 3#32
  let v8052 : BitVec 32 := Scalar.shli v8051 c3_i32_4020
  let v8053 : BitVec 32 := v8052
  let v8054 : Index := Scalar.indexCast v8053
  let c0_4021 : Index := 0#32
  ![v8054.toNat, 0]

def k0_chk448 (v8050 : BitVec 32) : Prop :=
  (8 ∣ (k0_mult448 v8050).toNat) ∧
  (∀ a, (k0_off896 v8050) a + S8x128.size a ≤ S10000x128.size a)
theorem k0_mult448_dvd : ∀ (v8050 : BitVec 32) (k0_hw448 : k0_chk448 v8050), 8 ∣ (k0_mult448 v8050).toNat := fun v8050 k0_hw448 => k0_hw448.1
theorem k0_off896_inb : ∀ (v8050 : BitVec 32) (k0_hw448 : k0_chk448 v8050), ∀ a, (k0_off896 v8050) a + S8x128.size a ≤ S10000x128.size a := fun v8050 k0_hw448 => k0_hw448.2

def k0_off897 (i : grid0.Coords) : Fin 2 → Nat :=
  let arg0 : BitVec 32 := BitVec.ofNat 32 (i 0).val
  let c4_i32 : BitVec 32 := 4#32
  let v0 : BitVec 32 := Scalar.muli arg0 c4_i32
  let c3_i32_4026 : BitVec 32 := 3#32
  let v8066 : BitVec 32 := Scalar.addi v0 c3_i32_4026
  let v8067 : Index := Scalar.indexCast v8066
  let c64_4027 : Index := 64#32
  ![v8067.toNat, 64]
def k0_mult449 (v8068 : BitVec 32) : BitVec 32 :=
  let c3_i32_4028 : BitVec 32 := 3#32
  let v8069 : BitVec 32 := Scalar.shrsi v8068 c3_i32_4028
  let c3_i32_4029 : BitVec 32 := 3#32
  let v8070 : BitVec 32 := Scalar.shli v8069 c3_i32_4029
  v8070

def k0_off898 (v8068 : BitVec 32) : Fin 2 → Nat :=
  let c3_i32_4028 : BitVec 32 := 3#32
  let v8069 : BitVec 32 := Scalar.shrsi v8068 c3_i32_4028
  let c3_i32_4029 : BitVec 32 := 3#32
  let v8070 : BitVec 32 := Scalar.shli v8069 c3_i32_4029
  let v8071 : BitVec 32 := v8070
  let v8072 : Index := Scalar.indexCast v8071
  let c0_4030 : Index := 0#32
  ![v8072.toNat, 0]

def k0_chk449 (v8068 : BitVec 32) : Prop :=
  (8 ∣ (k0_mult449 v8068).toNat) ∧
  (∀ a, (k0_off898 v8068) a + S8x128.size a ≤ S10000x128.size a)
theorem k0_mult449_dvd : ∀ (v8068 : BitVec 32) (k0_hw449 : k0_chk449 v8068), 8 ∣ (k0_mult449 v8068).toNat := fun v8068 k0_hw449 => k0_hw449.1
theorem k0_off898_inb : ∀ (v8068 : BitVec 32) (k0_hw449 : k0_chk449 v8068), ∀ a, (k0_off898 v8068) a + S8x128.size a ≤ S10000x128.size a := fun v8068 k0_hw449 => k0_hw449.2

def k0_off899 (i : grid0.Coords) : Fin 2 → Nat :=
  let arg0 : BitVec 32 := BitVec.ofNat 32 (i 0).val
  let c4_i32 : BitVec 32 := 4#32
  let v0 : BitVec 32 := Scalar.muli arg0 c4_i32
  let c3_i32_4035 : BitVec 32 := 3#32
  let v8084 : BitVec 32 := Scalar.addi v0 c3_i32_4035
  let v8085 : Index := Scalar.indexCast v8084
  let c65_4036 : Index := 65#32
  ![v8085.toNat, 65]
def k0_mult450 (v8086 : BitVec 32) : BitVec 32 :=
  let c3_i32_4037 : BitVec 32 := 3#32
  let v8087 : BitVec 32 := Scalar.shrsi v8086 c3_i32_4037
  let c3_i32_4038 : BitVec 32 := 3#32
  let v8088 : BitVec 32 := Scalar.shli v8087 c3_i32_4038
  v8088

def k0_off900 (v8086 : BitVec 32) : Fin 2 → Nat :=
  let c3_i32_4037 : BitVec 32 := 3#32
  let v8087 : BitVec 32 := Scalar.shrsi v8086 c3_i32_4037
  let c3_i32_4038 : BitVec 32 := 3#32
  let v8088 : BitVec 32 := Scalar.shli v8087 c3_i32_4038
  let v8089 : BitVec 32 := v8088
  let v8090 : Index := Scalar.indexCast v8089
  let c0_4039 : Index := 0#32
  ![v8090.toNat, 0]

def k0_chk450 (v8086 : BitVec 32) : Prop :=
  (8 ∣ (k0_mult450 v8086).toNat) ∧
  (∀ a, (k0_off900 v8086) a + S8x128.size a ≤ S10000x128.size a)
theorem k0_mult450_dvd : ∀ (v8086 : BitVec 32) (k0_hw450 : k0_chk450 v8086), 8 ∣ (k0_mult450 v8086).toNat := fun v8086 k0_hw450 => k0_hw450.1
theorem k0_off900_inb : ∀ (v8086 : BitVec 32) (k0_hw450 : k0_chk450 v8086), ∀ a, (k0_off900 v8086) a + S8x128.size a ≤ S10000x128.size a := fun v8086 k0_hw450 => k0_hw450.2

def k0_off901 (i : grid0.Coords) : Fin 2 → Nat :=
  let arg0 : BitVec 32 := BitVec.ofNat 32 (i 0).val
  let c4_i32 : BitVec 32 := 4#32
  let v0 : BitVec 32 := Scalar.muli arg0 c4_i32
  let c3_i32_4044 : BitVec 32 := 3#32
  let v8102 : BitVec 32 := Scalar.addi v0 c3_i32_4044
  let v8103 : Index := Scalar.indexCast v8102
  let c66_4045 : Index := 66#32
  ![v8103.toNat, 66]
def k0_mult451 (v8104 : BitVec 32) : BitVec 32 :=
  let c3_i32_4046 : BitVec 32 := 3#32
  let v8105 : BitVec 32 := Scalar.shrsi v8104 c3_i32_4046
  let c3_i32_4047 : BitVec 32 := 3#32
  let v8106 : BitVec 32 := Scalar.shli v8105 c3_i32_4047
  v8106

def k0_off902 (v8104 : BitVec 32) : Fin 2 → Nat :=
  let c3_i32_4046 : BitVec 32 := 3#32
  let v8105 : BitVec 32 := Scalar.shrsi v8104 c3_i32_4046
  let c3_i32_4047 : BitVec 32 := 3#32
  let v8106 : BitVec 32 := Scalar.shli v8105 c3_i32_4047
  let v8107 : BitVec 32 := v8106
  let v8108 : Index := Scalar.indexCast v8107
  let c0_4048 : Index := 0#32
  ![v8108.toNat, 0]

def k0_chk451 (v8104 : BitVec 32) : Prop :=
  (8 ∣ (k0_mult451 v8104).toNat) ∧
  (∀ a, (k0_off902 v8104) a + S8x128.size a ≤ S10000x128.size a)
theorem k0_mult451_dvd : ∀ (v8104 : BitVec 32) (k0_hw451 : k0_chk451 v8104), 8 ∣ (k0_mult451 v8104).toNat := fun v8104 k0_hw451 => k0_hw451.1
theorem k0_off902_inb : ∀ (v8104 : BitVec 32) (k0_hw451 : k0_chk451 v8104), ∀ a, (k0_off902 v8104) a + S8x128.size a ≤ S10000x128.size a := fun v8104 k0_hw451 => k0_hw451.2

def k0_off903 (i : grid0.Coords) : Fin 2 → Nat :=
  let arg0 : BitVec 32 := BitVec.ofNat 32 (i 0).val
  let c4_i32 : BitVec 32 := 4#32
  let v0 : BitVec 32 := Scalar.muli arg0 c4_i32
  let c3_i32_4053 : BitVec 32 := 3#32
  let v8120 : BitVec 32 := Scalar.addi v0 c3_i32_4053
  let v8121 : Index := Scalar.indexCast v8120
  let c67_4054 : Index := 67#32
  ![v8121.toNat, 67]
def k0_mult452 (v8122 : BitVec 32) : BitVec 32 :=
  let c3_i32_4055 : BitVec 32 := 3#32
  let v8123 : BitVec 32 := Scalar.shrsi v8122 c3_i32_4055
  let c3_i32_4056 : BitVec 32 := 3#32
  let v8124 : BitVec 32 := Scalar.shli v8123 c3_i32_4056
  v8124

def k0_off904 (v8122 : BitVec 32) : Fin 2 → Nat :=
  let c3_i32_4055 : BitVec 32 := 3#32
  let v8123 : BitVec 32 := Scalar.shrsi v8122 c3_i32_4055
  let c3_i32_4056 : BitVec 32 := 3#32
  let v8124 : BitVec 32 := Scalar.shli v8123 c3_i32_4056
  let v8125 : BitVec 32 := v8124
  let v8126 : Index := Scalar.indexCast v8125
  let c0_4057 : Index := 0#32
  ![v8126.toNat, 0]

def k0_chk452 (v8122 : BitVec 32) : Prop :=
  (8 ∣ (k0_mult452 v8122).toNat) ∧
  (∀ a, (k0_off904 v8122) a + S8x128.size a ≤ S10000x128.size a)
theorem k0_mult452_dvd : ∀ (v8122 : BitVec 32) (k0_hw452 : k0_chk452 v8122), 8 ∣ (k0_mult452 v8122).toNat := fun v8122 k0_hw452 => k0_hw452.1
theorem k0_off904_inb : ∀ (v8122 : BitVec 32) (k0_hw452 : k0_chk452 v8122), ∀ a, (k0_off904 v8122) a + S8x128.size a ≤ S10000x128.size a := fun v8122 k0_hw452 => k0_hw452.2

def k0_off905 (i : grid0.Coords) : Fin 2 → Nat :=
  let arg0 : BitVec 32 := BitVec.ofNat 32 (i 0).val
  let c4_i32 : BitVec 32 := 4#32
  let v0 : BitVec 32 := Scalar.muli arg0 c4_i32
  let c3_i32_4062 : BitVec 32 := 3#32
  let v8138 : BitVec 32 := Scalar.addi v0 c3_i32_4062
  let v8139 : Index := Scalar.indexCast v8138
  let c68_4063 : Index := 68#32
  ![v8139.toNat, 68]
def k0_mult453 (v8140 : BitVec 32) : BitVec 32 :=
  let c3_i32_4064 : BitVec 32 := 3#32
  let v8141 : BitVec 32 := Scalar.shrsi v8140 c3_i32_4064
  let c3_i32_4065 : BitVec 32 := 3#32
  let v8142 : BitVec 32 := Scalar.shli v8141 c3_i32_4065
  v8142

def k0_off906 (v8140 : BitVec 32) : Fin 2 → Nat :=
  let c3_i32_4064 : BitVec 32 := 3#32
  let v8141 : BitVec 32 := Scalar.shrsi v8140 c3_i32_4064
  let c3_i32_4065 : BitVec 32 := 3#32
  let v8142 : BitVec 32 := Scalar.shli v8141 c3_i32_4065
  let v8143 : BitVec 32 := v8142
  let v8144 : Index := Scalar.indexCast v8143
  let c0_4066 : Index := 0#32
  ![v8144.toNat, 0]

def k0_chk453 (v8140 : BitVec 32) : Prop :=
  (8 ∣ (k0_mult453 v8140).toNat) ∧
  (∀ a, (k0_off906 v8140) a + S8x128.size a ≤ S10000x128.size a)
theorem k0_mult453_dvd : ∀ (v8140 : BitVec 32) (k0_hw453 : k0_chk453 v8140), 8 ∣ (k0_mult453 v8140).toNat := fun v8140 k0_hw453 => k0_hw453.1
theorem k0_off906_inb : ∀ (v8140 : BitVec 32) (k0_hw453 : k0_chk453 v8140), ∀ a, (k0_off906 v8140) a + S8x128.size a ≤ S10000x128.size a := fun v8140 k0_hw453 => k0_hw453.2

def k0_off907 (i : grid0.Coords) : Fin 2 → Nat :=
  let arg0 : BitVec 32 := BitVec.ofNat 32 (i 0).val
  let c4_i32 : BitVec 32 := 4#32
  let v0 : BitVec 32 := Scalar.muli arg0 c4_i32
  let c3_i32_4071 : BitVec 32 := 3#32
  let v8156 : BitVec 32 := Scalar.addi v0 c3_i32_4071
  let v8157 : Index := Scalar.indexCast v8156
  let c69_4072 : Index := 69#32
  ![v8157.toNat, 69]
def k0_mult454 (v8158 : BitVec 32) : BitVec 32 :=
  let c3_i32_4073 : BitVec 32 := 3#32
  let v8159 : BitVec 32 := Scalar.shrsi v8158 c3_i32_4073
  let c3_i32_4074 : BitVec 32 := 3#32
  let v8160 : BitVec 32 := Scalar.shli v8159 c3_i32_4074
  v8160

def k0_off908 (v8158 : BitVec 32) : Fin 2 → Nat :=
  let c3_i32_4073 : BitVec 32 := 3#32
  let v8159 : BitVec 32 := Scalar.shrsi v8158 c3_i32_4073
  let c3_i32_4074 : BitVec 32 := 3#32
  let v8160 : BitVec 32 := Scalar.shli v8159 c3_i32_4074
  let v8161 : BitVec 32 := v8160
  let v8162 : Index := Scalar.indexCast v8161
  let c0_4075 : Index := 0#32
  ![v8162.toNat, 0]

def k0_chk454 (v8158 : BitVec 32) : Prop :=
  (8 ∣ (k0_mult454 v8158).toNat) ∧
  (∀ a, (k0_off908 v8158) a + S8x128.size a ≤ S10000x128.size a)
theorem k0_mult454_dvd : ∀ (v8158 : BitVec 32) (k0_hw454 : k0_chk454 v8158), 8 ∣ (k0_mult454 v8158).toNat := fun v8158 k0_hw454 => k0_hw454.1
theorem k0_off908_inb : ∀ (v8158 : BitVec 32) (k0_hw454 : k0_chk454 v8158), ∀ a, (k0_off908 v8158) a + S8x128.size a ≤ S10000x128.size a := fun v8158 k0_hw454 => k0_hw454.2

def k0_off909 (i : grid0.Coords) : Fin 2 → Nat :=
  let arg0 : BitVec 32 := BitVec.ofNat 32 (i 0).val
  let c4_i32 : BitVec 32 := 4#32
  let v0 : BitVec 32 := Scalar.muli arg0 c4_i32
  let c3_i32_4080 : BitVec 32 := 3#32
  let v8174 : BitVec 32 := Scalar.addi v0 c3_i32_4080
  let v8175 : Index := Scalar.indexCast v8174
  let c70_4081 : Index := 70#32
  ![v8175.toNat, 70]
def k0_mult455 (v8176 : BitVec 32) : BitVec 32 :=
  let c3_i32_4082 : BitVec 32 := 3#32
  let v8177 : BitVec 32 := Scalar.shrsi v8176 c3_i32_4082
  let c3_i32_4083 : BitVec 32 := 3#32
  let v8178 : BitVec 32 := Scalar.shli v8177 c3_i32_4083
  v8178

def k0_off910 (v8176 : BitVec 32) : Fin 2 → Nat :=
  let c3_i32_4082 : BitVec 32 := 3#32
  let v8177 : BitVec 32 := Scalar.shrsi v8176 c3_i32_4082
  let c3_i32_4083 : BitVec 32 := 3#32
  let v8178 : BitVec 32 := Scalar.shli v8177 c3_i32_4083
  let v8179 : BitVec 32 := v8178
  let v8180 : Index := Scalar.indexCast v8179
  let c0_4084 : Index := 0#32
  ![v8180.toNat, 0]

def k0_chk455 (v8176 : BitVec 32) : Prop :=
  (8 ∣ (k0_mult455 v8176).toNat) ∧
  (∀ a, (k0_off910 v8176) a + S8x128.size a ≤ S10000x128.size a)
theorem k0_mult455_dvd : ∀ (v8176 : BitVec 32) (k0_hw455 : k0_chk455 v8176), 8 ∣ (k0_mult455 v8176).toNat := fun v8176 k0_hw455 => k0_hw455.1
theorem k0_off910_inb : ∀ (v8176 : BitVec 32) (k0_hw455 : k0_chk455 v8176), ∀ a, (k0_off910 v8176) a + S8x128.size a ≤ S10000x128.size a := fun v8176 k0_hw455 => k0_hw455.2

def k0_off911 (i : grid0.Coords) : Fin 2 → Nat :=
  let arg0 : BitVec 32 := BitVec.ofNat 32 (i 0).val
  let c4_i32 : BitVec 32 := 4#32
  let v0 : BitVec 32 := Scalar.muli arg0 c4_i32
  let c3_i32_4089 : BitVec 32 := 3#32
  let v8192 : BitVec 32 := Scalar.addi v0 c3_i32_4089
  let v8193 : Index := Scalar.indexCast v8192
  let c71_4090 : Index := 71#32
  ![v8193.toNat, 71]
def k0_mult456 (v8194 : BitVec 32) : BitVec 32 :=
  let c3_i32_4091 : BitVec 32 := 3#32
  let v8195 : BitVec 32 := Scalar.shrsi v8194 c3_i32_4091
  let c3_i32_4092 : BitVec 32 := 3#32
  let v8196 : BitVec 32 := Scalar.shli v8195 c3_i32_4092
  v8196

def k0_off912 (v8194 : BitVec 32) : Fin 2 → Nat :=
  let c3_i32_4091 : BitVec 32 := 3#32
  let v8195 : BitVec 32 := Scalar.shrsi v8194 c3_i32_4091
  let c3_i32_4092 : BitVec 32 := 3#32
  let v8196 : BitVec 32 := Scalar.shli v8195 c3_i32_4092
  let v8197 : BitVec 32 := v8196
  let v8198 : Index := Scalar.indexCast v8197
  let c0_4093 : Index := 0#32
  ![v8198.toNat, 0]

def k0_chk456 (v8194 : BitVec 32) : Prop :=
  (8 ∣ (k0_mult456 v8194).toNat) ∧
  (∀ a, (k0_off912 v8194) a + S8x128.size a ≤ S10000x128.size a)
theorem k0_mult456_dvd : ∀ (v8194 : BitVec 32) (k0_hw456 : k0_chk456 v8194), 8 ∣ (k0_mult456 v8194).toNat := fun v8194 k0_hw456 => k0_hw456.1
theorem k0_off912_inb : ∀ (v8194 : BitVec 32) (k0_hw456 : k0_chk456 v8194), ∀ a, (k0_off912 v8194) a + S8x128.size a ≤ S10000x128.size a := fun v8194 k0_hw456 => k0_hw456.2

def k0_off913 (i : grid0.Coords) : Fin 2 → Nat :=
  let arg0 : BitVec 32 := BitVec.ofNat 32 (i 0).val
  let c4_i32 : BitVec 32 := 4#32
  let v0 : BitVec 32 := Scalar.muli arg0 c4_i32
  let c3_i32_4098 : BitVec 32 := 3#32
  let v8210 : BitVec 32 := Scalar.addi v0 c3_i32_4098
  let v8211 : Index := Scalar.indexCast v8210
  let c72_4099 : Index := 72#32
  ![v8211.toNat, 72]
def k0_mult457 (v8212 : BitVec 32) : BitVec 32 :=
  let c3_i32_4100 : BitVec 32 := 3#32
  let v8213 : BitVec 32 := Scalar.shrsi v8212 c3_i32_4100
  let c3_i32_4101 : BitVec 32 := 3#32
  let v8214 : BitVec 32 := Scalar.shli v8213 c3_i32_4101
  v8214

def k0_off914 (v8212 : BitVec 32) : Fin 2 → Nat :=
  let c3_i32_4100 : BitVec 32 := 3#32
  let v8213 : BitVec 32 := Scalar.shrsi v8212 c3_i32_4100
  let c3_i32_4101 : BitVec 32 := 3#32
  let v8214 : BitVec 32 := Scalar.shli v8213 c3_i32_4101
  let v8215 : BitVec 32 := v8214
  let v8216 : Index := Scalar.indexCast v8215
  let c0_4102 : Index := 0#32
  ![v8216.toNat, 0]

def k0_chk457 (v8212 : BitVec 32) : Prop :=
  (8 ∣ (k0_mult457 v8212).toNat) ∧
  (∀ a, (k0_off914 v8212) a + S8x128.size a ≤ S10000x128.size a)
theorem k0_mult457_dvd : ∀ (v8212 : BitVec 32) (k0_hw457 : k0_chk457 v8212), 8 ∣ (k0_mult457 v8212).toNat := fun v8212 k0_hw457 => k0_hw457.1
theorem k0_off914_inb : ∀ (v8212 : BitVec 32) (k0_hw457 : k0_chk457 v8212), ∀ a, (k0_off914 v8212) a + S8x128.size a ≤ S10000x128.size a := fun v8212 k0_hw457 => k0_hw457.2

def k0_off915 (i : grid0.Coords) : Fin 2 → Nat :=
  let arg0 : BitVec 32 := BitVec.ofNat 32 (i 0).val
  let c4_i32 : BitVec 32 := 4#32
  let v0 : BitVec 32 := Scalar.muli arg0 c4_i32
  let c3_i32_4107 : BitVec 32 := 3#32
  let v8228 : BitVec 32 := Scalar.addi v0 c3_i32_4107
  let v8229 : Index := Scalar.indexCast v8228
  let c73_4108 : Index := 73#32
  ![v8229.toNat, 73]
def k0_mult458 (v8230 : BitVec 32) : BitVec 32 :=
  let c3_i32_4109 : BitVec 32 := 3#32
  let v8231 : BitVec 32 := Scalar.shrsi v8230 c3_i32_4109
  let c3_i32_4110 : BitVec 32 := 3#32
  let v8232 : BitVec 32 := Scalar.shli v8231 c3_i32_4110
  v8232

def k0_off916 (v8230 : BitVec 32) : Fin 2 → Nat :=
  let c3_i32_4109 : BitVec 32 := 3#32
  let v8231 : BitVec 32 := Scalar.shrsi v8230 c3_i32_4109
  let c3_i32_4110 : BitVec 32 := 3#32
  let v8232 : BitVec 32 := Scalar.shli v8231 c3_i32_4110
  let v8233 : BitVec 32 := v8232
  let v8234 : Index := Scalar.indexCast v8233
  let c0_4111 : Index := 0#32
  ![v8234.toNat, 0]

def k0_chk458 (v8230 : BitVec 32) : Prop :=
  (8 ∣ (k0_mult458 v8230).toNat) ∧
  (∀ a, (k0_off916 v8230) a + S8x128.size a ≤ S10000x128.size a)
theorem k0_mult458_dvd : ∀ (v8230 : BitVec 32) (k0_hw458 : k0_chk458 v8230), 8 ∣ (k0_mult458 v8230).toNat := fun v8230 k0_hw458 => k0_hw458.1
theorem k0_off916_inb : ∀ (v8230 : BitVec 32) (k0_hw458 : k0_chk458 v8230), ∀ a, (k0_off916 v8230) a + S8x128.size a ≤ S10000x128.size a := fun v8230 k0_hw458 => k0_hw458.2

def k0_off917 (i : grid0.Coords) : Fin 2 → Nat :=
  let arg0 : BitVec 32 := BitVec.ofNat 32 (i 0).val
  let c4_i32 : BitVec 32 := 4#32
  let v0 : BitVec 32 := Scalar.muli arg0 c4_i32
  let c3_i32_4116 : BitVec 32 := 3#32
  let v8246 : BitVec 32 := Scalar.addi v0 c3_i32_4116
  let v8247 : Index := Scalar.indexCast v8246
  let c74_4117 : Index := 74#32
  ![v8247.toNat, 74]
def k0_mult459 (v8248 : BitVec 32) : BitVec 32 :=
  let c3_i32_4118 : BitVec 32 := 3#32
  let v8249 : BitVec 32 := Scalar.shrsi v8248 c3_i32_4118
  let c3_i32_4119 : BitVec 32 := 3#32
  let v8250 : BitVec 32 := Scalar.shli v8249 c3_i32_4119
  v8250

def k0_off918 (v8248 : BitVec 32) : Fin 2 → Nat :=
  let c3_i32_4118 : BitVec 32 := 3#32
  let v8249 : BitVec 32 := Scalar.shrsi v8248 c3_i32_4118
  let c3_i32_4119 : BitVec 32 := 3#32
  let v8250 : BitVec 32 := Scalar.shli v8249 c3_i32_4119
  let v8251 : BitVec 32 := v8250
  let v8252 : Index := Scalar.indexCast v8251
  let c0_4120 : Index := 0#32
  ![v8252.toNat, 0]

def k0_chk459 (v8248 : BitVec 32) : Prop :=
  (8 ∣ (k0_mult459 v8248).toNat) ∧
  (∀ a, (k0_off918 v8248) a + S8x128.size a ≤ S10000x128.size a)
theorem k0_mult459_dvd : ∀ (v8248 : BitVec 32) (k0_hw459 : k0_chk459 v8248), 8 ∣ (k0_mult459 v8248).toNat := fun v8248 k0_hw459 => k0_hw459.1
theorem k0_off918_inb : ∀ (v8248 : BitVec 32) (k0_hw459 : k0_chk459 v8248), ∀ a, (k0_off918 v8248) a + S8x128.size a ≤ S10000x128.size a := fun v8248 k0_hw459 => k0_hw459.2

def k0_off919 (i : grid0.Coords) : Fin 2 → Nat :=
  let arg0 : BitVec 32 := BitVec.ofNat 32 (i 0).val
  let c4_i32 : BitVec 32 := 4#32
  let v0 : BitVec 32 := Scalar.muli arg0 c4_i32
  let c3_i32_4125 : BitVec 32 := 3#32
  let v8264 : BitVec 32 := Scalar.addi v0 c3_i32_4125
  let v8265 : Index := Scalar.indexCast v8264
  let c75_4126 : Index := 75#32
  ![v8265.toNat, 75]
def k0_mult460 (v8266 : BitVec 32) : BitVec 32 :=
  let c3_i32_4127 : BitVec 32 := 3#32
  let v8267 : BitVec 32 := Scalar.shrsi v8266 c3_i32_4127
  let c3_i32_4128 : BitVec 32 := 3#32
  let v8268 : BitVec 32 := Scalar.shli v8267 c3_i32_4128
  v8268

def k0_off920 (v8266 : BitVec 32) : Fin 2 → Nat :=
  let c3_i32_4127 : BitVec 32 := 3#32
  let v8267 : BitVec 32 := Scalar.shrsi v8266 c3_i32_4127
  let c3_i32_4128 : BitVec 32 := 3#32
  let v8268 : BitVec 32 := Scalar.shli v8267 c3_i32_4128
  let v8269 : BitVec 32 := v8268
  let v8270 : Index := Scalar.indexCast v8269
  let c0_4129 : Index := 0#32
  ![v8270.toNat, 0]

def k0_chk460 (v8266 : BitVec 32) : Prop :=
  (8 ∣ (k0_mult460 v8266).toNat) ∧
  (∀ a, (k0_off920 v8266) a + S8x128.size a ≤ S10000x128.size a)
theorem k0_mult460_dvd : ∀ (v8266 : BitVec 32) (k0_hw460 : k0_chk460 v8266), 8 ∣ (k0_mult460 v8266).toNat := fun v8266 k0_hw460 => k0_hw460.1
theorem k0_off920_inb : ∀ (v8266 : BitVec 32) (k0_hw460 : k0_chk460 v8266), ∀ a, (k0_off920 v8266) a + S8x128.size a ≤ S10000x128.size a := fun v8266 k0_hw460 => k0_hw460.2

def k0_off921 (i : grid0.Coords) : Fin 2 → Nat :=
  let arg0 : BitVec 32 := BitVec.ofNat 32 (i 0).val
  let c4_i32 : BitVec 32 := 4#32
  let v0 : BitVec 32 := Scalar.muli arg0 c4_i32
  let c3_i32_4134 : BitVec 32 := 3#32
  let v8282 : BitVec 32 := Scalar.addi v0 c3_i32_4134
  let v8283 : Index := Scalar.indexCast v8282
  let c76_4135 : Index := 76#32
  ![v8283.toNat, 76]
def k0_mult461 (v8284 : BitVec 32) : BitVec 32 :=
  let c3_i32_4136 : BitVec 32 := 3#32
  let v8285 : BitVec 32 := Scalar.shrsi v8284 c3_i32_4136
  let c3_i32_4137 : BitVec 32 := 3#32
  let v8286 : BitVec 32 := Scalar.shli v8285 c3_i32_4137
  v8286

def k0_off922 (v8284 : BitVec 32) : Fin 2 → Nat :=
  let c3_i32_4136 : BitVec 32 := 3#32
  let v8285 : BitVec 32 := Scalar.shrsi v8284 c3_i32_4136
  let c3_i32_4137 : BitVec 32 := 3#32
  let v8286 : BitVec 32 := Scalar.shli v8285 c3_i32_4137
  let v8287 : BitVec 32 := v8286
  let v8288 : Index := Scalar.indexCast v8287
  let c0_4138 : Index := 0#32
  ![v8288.toNat, 0]

def k0_chk461 (v8284 : BitVec 32) : Prop :=
  (8 ∣ (k0_mult461 v8284).toNat) ∧
  (∀ a, (k0_off922 v8284) a + S8x128.size a ≤ S10000x128.size a)
theorem k0_mult461_dvd : ∀ (v8284 : BitVec 32) (k0_hw461 : k0_chk461 v8284), 8 ∣ (k0_mult461 v8284).toNat := fun v8284 k0_hw461 => k0_hw461.1
theorem k0_off922_inb : ∀ (v8284 : BitVec 32) (k0_hw461 : k0_chk461 v8284), ∀ a, (k0_off922 v8284) a + S8x128.size a ≤ S10000x128.size a := fun v8284 k0_hw461 => k0_hw461.2

def k0_off923 (i : grid0.Coords) : Fin 2 → Nat :=
  let arg0 : BitVec 32 := BitVec.ofNat 32 (i 0).val
  let c4_i32 : BitVec 32 := 4#32
  let v0 : BitVec 32 := Scalar.muli arg0 c4_i32
  let c3_i32_4143 : BitVec 32 := 3#32
  let v8300 : BitVec 32 := Scalar.addi v0 c3_i32_4143
  let v8301 : Index := Scalar.indexCast v8300
  let c77_4144 : Index := 77#32
  ![v8301.toNat, 77]
def k0_mult462 (v8302 : BitVec 32) : BitVec 32 :=
  let c3_i32_4145 : BitVec 32 := 3#32
  let v8303 : BitVec 32 := Scalar.shrsi v8302 c3_i32_4145
  let c3_i32_4146 : BitVec 32 := 3#32
  let v8304 : BitVec 32 := Scalar.shli v8303 c3_i32_4146
  v8304

def k0_off924 (v8302 : BitVec 32) : Fin 2 → Nat :=
  let c3_i32_4145 : BitVec 32 := 3#32
  let v8303 : BitVec 32 := Scalar.shrsi v8302 c3_i32_4145
  let c3_i32_4146 : BitVec 32 := 3#32
  let v8304 : BitVec 32 := Scalar.shli v8303 c3_i32_4146
  let v8305 : BitVec 32 := v8304
  let v8306 : Index := Scalar.indexCast v8305
  let c0_4147 : Index := 0#32
  ![v8306.toNat, 0]

def k0_chk462 (v8302 : BitVec 32) : Prop :=
  (8 ∣ (k0_mult462 v8302).toNat) ∧
  (∀ a, (k0_off924 v8302) a + S8x128.size a ≤ S10000x128.size a)
theorem k0_mult462_dvd : ∀ (v8302 : BitVec 32) (k0_hw462 : k0_chk462 v8302), 8 ∣ (k0_mult462 v8302).toNat := fun v8302 k0_hw462 => k0_hw462.1
theorem k0_off924_inb : ∀ (v8302 : BitVec 32) (k0_hw462 : k0_chk462 v8302), ∀ a, (k0_off924 v8302) a + S8x128.size a ≤ S10000x128.size a := fun v8302 k0_hw462 => k0_hw462.2

def k0_off925 (i : grid0.Coords) : Fin 2 → Nat :=
  let arg0 : BitVec 32 := BitVec.ofNat 32 (i 0).val
  let c4_i32 : BitVec 32 := 4#32
  let v0 : BitVec 32 := Scalar.muli arg0 c4_i32
  let c3_i32_4152 : BitVec 32 := 3#32
  let v8318 : BitVec 32 := Scalar.addi v0 c3_i32_4152
  let v8319 : Index := Scalar.indexCast v8318
  let c78_4153 : Index := 78#32
  ![v8319.toNat, 78]
def k0_mult463 (v8320 : BitVec 32) : BitVec 32 :=
  let c3_i32_4154 : BitVec 32 := 3#32
  let v8321 : BitVec 32 := Scalar.shrsi v8320 c3_i32_4154
  let c3_i32_4155 : BitVec 32 := 3#32
  let v8322 : BitVec 32 := Scalar.shli v8321 c3_i32_4155
  v8322

def k0_off926 (v8320 : BitVec 32) : Fin 2 → Nat :=
  let c3_i32_4154 : BitVec 32 := 3#32
  let v8321 : BitVec 32 := Scalar.shrsi v8320 c3_i32_4154
  let c3_i32_4155 : BitVec 32 := 3#32
  let v8322 : BitVec 32 := Scalar.shli v8321 c3_i32_4155
  let v8323 : BitVec 32 := v8322
  let v8324 : Index := Scalar.indexCast v8323
  let c0_4156 : Index := 0#32
  ![v8324.toNat, 0]

def k0_chk463 (v8320 : BitVec 32) : Prop :=
  (8 ∣ (k0_mult463 v8320).toNat) ∧
  (∀ a, (k0_off926 v8320) a + S8x128.size a ≤ S10000x128.size a)
theorem k0_mult463_dvd : ∀ (v8320 : BitVec 32) (k0_hw463 : k0_chk463 v8320), 8 ∣ (k0_mult463 v8320).toNat := fun v8320 k0_hw463 => k0_hw463.1
theorem k0_off926_inb : ∀ (v8320 : BitVec 32) (k0_hw463 : k0_chk463 v8320), ∀ a, (k0_off926 v8320) a + S8x128.size a ≤ S10000x128.size a := fun v8320 k0_hw463 => k0_hw463.2

def k0_off927 (i : grid0.Coords) : Fin 2 → Nat :=
  let arg0 : BitVec 32 := BitVec.ofNat 32 (i 0).val
  let c4_i32 : BitVec 32 := 4#32
  let v0 : BitVec 32 := Scalar.muli arg0 c4_i32
  let c3_i32_4161 : BitVec 32 := 3#32
  let v8336 : BitVec 32 := Scalar.addi v0 c3_i32_4161
  let v8337 : Index := Scalar.indexCast v8336
  let c79_4162 : Index := 79#32
  ![v8337.toNat, 79]
def k0_mult464 (v8338 : BitVec 32) : BitVec 32 :=
  let c3_i32_4163 : BitVec 32 := 3#32
  let v8339 : BitVec 32 := Scalar.shrsi v8338 c3_i32_4163
  let c3_i32_4164 : BitVec 32 := 3#32
  let v8340 : BitVec 32 := Scalar.shli v8339 c3_i32_4164
  v8340

def k0_off928 (v8338 : BitVec 32) : Fin 2 → Nat :=
  let c3_i32_4163 : BitVec 32 := 3#32
  let v8339 : BitVec 32 := Scalar.shrsi v8338 c3_i32_4163
  let c3_i32_4164 : BitVec 32 := 3#32
  let v8340 : BitVec 32 := Scalar.shli v8339 c3_i32_4164
  let v8341 : BitVec 32 := v8340
  let v8342 : Index := Scalar.indexCast v8341
  let c0_4165 : Index := 0#32
  ![v8342.toNat, 0]

def k0_chk464 (v8338 : BitVec 32) : Prop :=
  (8 ∣ (k0_mult464 v8338).toNat) ∧
  (∀ a, (k0_off928 v8338) a + S8x128.size a ≤ S10000x128.size a)
theorem k0_mult464_dvd : ∀ (v8338 : BitVec 32) (k0_hw464 : k0_chk464 v8338), 8 ∣ (k0_mult464 v8338).toNat := fun v8338 k0_hw464 => k0_hw464.1
theorem k0_off928_inb : ∀ (v8338 : BitVec 32) (k0_hw464 : k0_chk464 v8338), ∀ a, (k0_off928 v8338) a + S8x128.size a ≤ S10000x128.size a := fun v8338 k0_hw464 => k0_hw464.2

def k0_off929 (i : grid0.Coords) : Fin 2 → Nat :=
  let arg0 : BitVec 32 := BitVec.ofNat 32 (i 0).val
  let c4_i32 : BitVec 32 := 4#32
  let v0 : BitVec 32 := Scalar.muli arg0 c4_i32
  let c3_i32_4170 : BitVec 32 := 3#32
  let v8354 : BitVec 32 := Scalar.addi v0 c3_i32_4170
  let v8355 : Index := Scalar.indexCast v8354
  let c80_4171 : Index := 80#32
  ![v8355.toNat, 80]
def k0_mult465 (v8356 : BitVec 32) : BitVec 32 :=
  let c3_i32_4172 : BitVec 32 := 3#32
  let v8357 : BitVec 32 := Scalar.shrsi v8356 c3_i32_4172
  let c3_i32_4173 : BitVec 32 := 3#32
  let v8358 : BitVec 32 := Scalar.shli v8357 c3_i32_4173
  v8358

def k0_off930 (v8356 : BitVec 32) : Fin 2 → Nat :=
  let c3_i32_4172 : BitVec 32 := 3#32
  let v8357 : BitVec 32 := Scalar.shrsi v8356 c3_i32_4172
  let c3_i32_4173 : BitVec 32 := 3#32
  let v8358 : BitVec 32 := Scalar.shli v8357 c3_i32_4173
  let v8359 : BitVec 32 := v8358
  let v8360 : Index := Scalar.indexCast v8359
  let c0_4174 : Index := 0#32
  ![v8360.toNat, 0]

def k0_chk465 (v8356 : BitVec 32) : Prop :=
  (8 ∣ (k0_mult465 v8356).toNat) ∧
  (∀ a, (k0_off930 v8356) a + S8x128.size a ≤ S10000x128.size a)
theorem k0_mult465_dvd : ∀ (v8356 : BitVec 32) (k0_hw465 : k0_chk465 v8356), 8 ∣ (k0_mult465 v8356).toNat := fun v8356 k0_hw465 => k0_hw465.1
theorem k0_off930_inb : ∀ (v8356 : BitVec 32) (k0_hw465 : k0_chk465 v8356), ∀ a, (k0_off930 v8356) a + S8x128.size a ≤ S10000x128.size a := fun v8356 k0_hw465 => k0_hw465.2

def k0_off931 (i : grid0.Coords) : Fin 2 → Nat :=
  let arg0 : BitVec 32 := BitVec.ofNat 32 (i 0).val
  let c4_i32 : BitVec 32 := 4#32
  let v0 : BitVec 32 := Scalar.muli arg0 c4_i32
  let c3_i32_4179 : BitVec 32 := 3#32
  let v8372 : BitVec 32 := Scalar.addi v0 c3_i32_4179
  let v8373 : Index := Scalar.indexCast v8372
  let c81_4180 : Index := 81#32
  ![v8373.toNat, 81]
def k0_mult466 (v8374 : BitVec 32) : BitVec 32 :=
  let c3_i32_4181 : BitVec 32 := 3#32
  let v8375 : BitVec 32 := Scalar.shrsi v8374 c3_i32_4181
  let c3_i32_4182 : BitVec 32 := 3#32
  let v8376 : BitVec 32 := Scalar.shli v8375 c3_i32_4182
  v8376

def k0_off932 (v8374 : BitVec 32) : Fin 2 → Nat :=
  let c3_i32_4181 : BitVec 32 := 3#32
  let v8375 : BitVec 32 := Scalar.shrsi v8374 c3_i32_4181
  let c3_i32_4182 : BitVec 32 := 3#32
  let v8376 : BitVec 32 := Scalar.shli v8375 c3_i32_4182
  let v8377 : BitVec 32 := v8376
  let v8378 : Index := Scalar.indexCast v8377
  let c0_4183 : Index := 0#32
  ![v8378.toNat, 0]

def k0_chk466 (v8374 : BitVec 32) : Prop :=
  (8 ∣ (k0_mult466 v8374).toNat) ∧
  (∀ a, (k0_off932 v8374) a + S8x128.size a ≤ S10000x128.size a)
theorem k0_mult466_dvd : ∀ (v8374 : BitVec 32) (k0_hw466 : k0_chk466 v8374), 8 ∣ (k0_mult466 v8374).toNat := fun v8374 k0_hw466 => k0_hw466.1
theorem k0_off932_inb : ∀ (v8374 : BitVec 32) (k0_hw466 : k0_chk466 v8374), ∀ a, (k0_off932 v8374) a + S8x128.size a ≤ S10000x128.size a := fun v8374 k0_hw466 => k0_hw466.2

def k0_off933 (i : grid0.Coords) : Fin 2 → Nat :=
  let arg0 : BitVec 32 := BitVec.ofNat 32 (i 0).val
  let c4_i32 : BitVec 32 := 4#32
  let v0 : BitVec 32 := Scalar.muli arg0 c4_i32
  let c3_i32_4188 : BitVec 32 := 3#32
  let v8390 : BitVec 32 := Scalar.addi v0 c3_i32_4188
  let v8391 : Index := Scalar.indexCast v8390
  let c82_4189 : Index := 82#32
  ![v8391.toNat, 82]
def k0_mult467 (v8392 : BitVec 32) : BitVec 32 :=
  let c3_i32_4190 : BitVec 32 := 3#32
  let v8393 : BitVec 32 := Scalar.shrsi v8392 c3_i32_4190
  let c3_i32_4191 : BitVec 32 := 3#32
  let v8394 : BitVec 32 := Scalar.shli v8393 c3_i32_4191
  v8394

def k0_off934 (v8392 : BitVec 32) : Fin 2 → Nat :=
  let c3_i32_4190 : BitVec 32 := 3#32
  let v8393 : BitVec 32 := Scalar.shrsi v8392 c3_i32_4190
  let c3_i32_4191 : BitVec 32 := 3#32
  let v8394 : BitVec 32 := Scalar.shli v8393 c3_i32_4191
  let v8395 : BitVec 32 := v8394
  let v8396 : Index := Scalar.indexCast v8395
  let c0_4192 : Index := 0#32
  ![v8396.toNat, 0]

def k0_chk467 (v8392 : BitVec 32) : Prop :=
  (8 ∣ (k0_mult467 v8392).toNat) ∧
  (∀ a, (k0_off934 v8392) a + S8x128.size a ≤ S10000x128.size a)
theorem k0_mult467_dvd : ∀ (v8392 : BitVec 32) (k0_hw467 : k0_chk467 v8392), 8 ∣ (k0_mult467 v8392).toNat := fun v8392 k0_hw467 => k0_hw467.1
theorem k0_off934_inb : ∀ (v8392 : BitVec 32) (k0_hw467 : k0_chk467 v8392), ∀ a, (k0_off934 v8392) a + S8x128.size a ≤ S10000x128.size a := fun v8392 k0_hw467 => k0_hw467.2

def k0_off935 (i : grid0.Coords) : Fin 2 → Nat :=
  let arg0 : BitVec 32 := BitVec.ofNat 32 (i 0).val
  let c4_i32 : BitVec 32 := 4#32
  let v0 : BitVec 32 := Scalar.muli arg0 c4_i32
  let c3_i32_4197 : BitVec 32 := 3#32
  let v8408 : BitVec 32 := Scalar.addi v0 c3_i32_4197
  let v8409 : Index := Scalar.indexCast v8408
  let c83_4198 : Index := 83#32
  ![v8409.toNat, 83]
def k0_mult468 (v8410 : BitVec 32) : BitVec 32 :=
  let c3_i32_4199 : BitVec 32 := 3#32
  let v8411 : BitVec 32 := Scalar.shrsi v8410 c3_i32_4199
  let c3_i32_4200 : BitVec 32 := 3#32
  let v8412 : BitVec 32 := Scalar.shli v8411 c3_i32_4200
  v8412

def k0_off936 (v8410 : BitVec 32) : Fin 2 → Nat :=
  let c3_i32_4199 : BitVec 32 := 3#32
  let v8411 : BitVec 32 := Scalar.shrsi v8410 c3_i32_4199
  let c3_i32_4200 : BitVec 32 := 3#32
  let v8412 : BitVec 32 := Scalar.shli v8411 c3_i32_4200
  let v8413 : BitVec 32 := v8412
  let v8414 : Index := Scalar.indexCast v8413
  let c0_4201 : Index := 0#32
  ![v8414.toNat, 0]

def k0_chk468 (v8410 : BitVec 32) : Prop :=
  (8 ∣ (k0_mult468 v8410).toNat) ∧
  (∀ a, (k0_off936 v8410) a + S8x128.size a ≤ S10000x128.size a)
theorem k0_mult468_dvd : ∀ (v8410 : BitVec 32) (k0_hw468 : k0_chk468 v8410), 8 ∣ (k0_mult468 v8410).toNat := fun v8410 k0_hw468 => k0_hw468.1
theorem k0_off936_inb : ∀ (v8410 : BitVec 32) (k0_hw468 : k0_chk468 v8410), ∀ a, (k0_off936 v8410) a + S8x128.size a ≤ S10000x128.size a := fun v8410 k0_hw468 => k0_hw468.2

def k0_off937 (i : grid0.Coords) : Fin 2 → Nat :=
  let arg0 : BitVec 32 := BitVec.ofNat 32 (i 0).val
  let c4_i32 : BitVec 32 := 4#32
  let v0 : BitVec 32 := Scalar.muli arg0 c4_i32
  let c3_i32_4206 : BitVec 32 := 3#32
  let v8426 : BitVec 32 := Scalar.addi v0 c3_i32_4206
  let v8427 : Index := Scalar.indexCast v8426
  let c84_4207 : Index := 84#32
  ![v8427.toNat, 84]
def k0_mult469 (v8428 : BitVec 32) : BitVec 32 :=
  let c3_i32_4208 : BitVec 32 := 3#32
  let v8429 : BitVec 32 := Scalar.shrsi v8428 c3_i32_4208
  let c3_i32_4209 : BitVec 32 := 3#32
  let v8430 : BitVec 32 := Scalar.shli v8429 c3_i32_4209
  v8430

def k0_off938 (v8428 : BitVec 32) : Fin 2 → Nat :=
  let c3_i32_4208 : BitVec 32 := 3#32
  let v8429 : BitVec 32 := Scalar.shrsi v8428 c3_i32_4208
  let c3_i32_4209 : BitVec 32 := 3#32
  let v8430 : BitVec 32 := Scalar.shli v8429 c3_i32_4209
  let v8431 : BitVec 32 := v8430
  let v8432 : Index := Scalar.indexCast v8431
  let c0_4210 : Index := 0#32
  ![v8432.toNat, 0]

def k0_chk469 (v8428 : BitVec 32) : Prop :=
  (8 ∣ (k0_mult469 v8428).toNat) ∧
  (∀ a, (k0_off938 v8428) a + S8x128.size a ≤ S10000x128.size a)
theorem k0_mult469_dvd : ∀ (v8428 : BitVec 32) (k0_hw469 : k0_chk469 v8428), 8 ∣ (k0_mult469 v8428).toNat := fun v8428 k0_hw469 => k0_hw469.1
theorem k0_off938_inb : ∀ (v8428 : BitVec 32) (k0_hw469 : k0_chk469 v8428), ∀ a, (k0_off938 v8428) a + S8x128.size a ≤ S10000x128.size a := fun v8428 k0_hw469 => k0_hw469.2

def k0_off939 (i : grid0.Coords) : Fin 2 → Nat :=
  let arg0 : BitVec 32 := BitVec.ofNat 32 (i 0).val
  let c4_i32 : BitVec 32 := 4#32
  let v0 : BitVec 32 := Scalar.muli arg0 c4_i32
  let c3_i32_4215 : BitVec 32 := 3#32
  let v8444 : BitVec 32 := Scalar.addi v0 c3_i32_4215
  let v8445 : Index := Scalar.indexCast v8444
  let c85_4216 : Index := 85#32
  ![v8445.toNat, 85]
def k0_mult470 (v8446 : BitVec 32) : BitVec 32 :=
  let c3_i32_4217 : BitVec 32 := 3#32
  let v8447 : BitVec 32 := Scalar.shrsi v8446 c3_i32_4217
  let c3_i32_4218 : BitVec 32 := 3#32
  let v8448 : BitVec 32 := Scalar.shli v8447 c3_i32_4218
  v8448

def k0_off940 (v8446 : BitVec 32) : Fin 2 → Nat :=
  let c3_i32_4217 : BitVec 32 := 3#32
  let v8447 : BitVec 32 := Scalar.shrsi v8446 c3_i32_4217
  let c3_i32_4218 : BitVec 32 := 3#32
  let v8448 : BitVec 32 := Scalar.shli v8447 c3_i32_4218
  let v8449 : BitVec 32 := v8448
  let v8450 : Index := Scalar.indexCast v8449
  let c0_4219 : Index := 0#32
  ![v8450.toNat, 0]

def k0_chk470 (v8446 : BitVec 32) : Prop :=
  (8 ∣ (k0_mult470 v8446).toNat) ∧
  (∀ a, (k0_off940 v8446) a + S8x128.size a ≤ S10000x128.size a)
theorem k0_mult470_dvd : ∀ (v8446 : BitVec 32) (k0_hw470 : k0_chk470 v8446), 8 ∣ (k0_mult470 v8446).toNat := fun v8446 k0_hw470 => k0_hw470.1
theorem k0_off940_inb : ∀ (v8446 : BitVec 32) (k0_hw470 : k0_chk470 v8446), ∀ a, (k0_off940 v8446) a + S8x128.size a ≤ S10000x128.size a := fun v8446 k0_hw470 => k0_hw470.2

def k0_off941 (i : grid0.Coords) : Fin 2 → Nat :=
  let arg0 : BitVec 32 := BitVec.ofNat 32 (i 0).val
  let c4_i32 : BitVec 32 := 4#32
  let v0 : BitVec 32 := Scalar.muli arg0 c4_i32
  let c3_i32_4224 : BitVec 32 := 3#32
  let v8462 : BitVec 32 := Scalar.addi v0 c3_i32_4224
  let v8463 : Index := Scalar.indexCast v8462
  let c86_4225 : Index := 86#32
  ![v8463.toNat, 86]
def k0_mult471 (v8464 : BitVec 32) : BitVec 32 :=
  let c3_i32_4226 : BitVec 32 := 3#32
  let v8465 : BitVec 32 := Scalar.shrsi v8464 c3_i32_4226
  let c3_i32_4227 : BitVec 32 := 3#32
  let v8466 : BitVec 32 := Scalar.shli v8465 c3_i32_4227
  v8466

def k0_off942 (v8464 : BitVec 32) : Fin 2 → Nat :=
  let c3_i32_4226 : BitVec 32 := 3#32
  let v8465 : BitVec 32 := Scalar.shrsi v8464 c3_i32_4226
  let c3_i32_4227 : BitVec 32 := 3#32
  let v8466 : BitVec 32 := Scalar.shli v8465 c3_i32_4227
  let v8467 : BitVec 32 := v8466
  let v8468 : Index := Scalar.indexCast v8467
  let c0_4228 : Index := 0#32
  ![v8468.toNat, 0]

def k0_chk471 (v8464 : BitVec 32) : Prop :=
  (8 ∣ (k0_mult471 v8464).toNat) ∧
  (∀ a, (k0_off942 v8464) a + S8x128.size a ≤ S10000x128.size a)
theorem k0_mult471_dvd : ∀ (v8464 : BitVec 32) (k0_hw471 : k0_chk471 v8464), 8 ∣ (k0_mult471 v8464).toNat := fun v8464 k0_hw471 => k0_hw471.1
theorem k0_off942_inb : ∀ (v8464 : BitVec 32) (k0_hw471 : k0_chk471 v8464), ∀ a, (k0_off942 v8464) a + S8x128.size a ≤ S10000x128.size a := fun v8464 k0_hw471 => k0_hw471.2

def k0_off943 (i : grid0.Coords) : Fin 2 → Nat :=
  let arg0 : BitVec 32 := BitVec.ofNat 32 (i 0).val
  let c4_i32 : BitVec 32 := 4#32
  let v0 : BitVec 32 := Scalar.muli arg0 c4_i32
  let c3_i32_4233 : BitVec 32 := 3#32
  let v8480 : BitVec 32 := Scalar.addi v0 c3_i32_4233
  let v8481 : Index := Scalar.indexCast v8480
  let c87_4234 : Index := 87#32
  ![v8481.toNat, 87]
def k0_mult472 (v8482 : BitVec 32) : BitVec 32 :=
  let c3_i32_4235 : BitVec 32 := 3#32
  let v8483 : BitVec 32 := Scalar.shrsi v8482 c3_i32_4235
  let c3_i32_4236 : BitVec 32 := 3#32
  let v8484 : BitVec 32 := Scalar.shli v8483 c3_i32_4236
  v8484

def k0_off944 (v8482 : BitVec 32) : Fin 2 → Nat :=
  let c3_i32_4235 : BitVec 32 := 3#32
  let v8483 : BitVec 32 := Scalar.shrsi v8482 c3_i32_4235
  let c3_i32_4236 : BitVec 32 := 3#32
  let v8484 : BitVec 32 := Scalar.shli v8483 c3_i32_4236
  let v8485 : BitVec 32 := v8484
  let v8486 : Index := Scalar.indexCast v8485
  let c0_4237 : Index := 0#32
  ![v8486.toNat, 0]

def k0_chk472 (v8482 : BitVec 32) : Prop :=
  (8 ∣ (k0_mult472 v8482).toNat) ∧
  (∀ a, (k0_off944 v8482) a + S8x128.size a ≤ S10000x128.size a)
theorem k0_mult472_dvd : ∀ (v8482 : BitVec 32) (k0_hw472 : k0_chk472 v8482), 8 ∣ (k0_mult472 v8482).toNat := fun v8482 k0_hw472 => k0_hw472.1
theorem k0_off944_inb : ∀ (v8482 : BitVec 32) (k0_hw472 : k0_chk472 v8482), ∀ a, (k0_off944 v8482) a + S8x128.size a ≤ S10000x128.size a := fun v8482 k0_hw472 => k0_hw472.2

def k0_off945 (i : grid0.Coords) : Fin 2 → Nat :=
  let arg0 : BitVec 32 := BitVec.ofNat 32 (i 0).val
  let c4_i32 : BitVec 32 := 4#32
  let v0 : BitVec 32 := Scalar.muli arg0 c4_i32
  let c3_i32_4242 : BitVec 32 := 3#32
  let v8498 : BitVec 32 := Scalar.addi v0 c3_i32_4242
  let v8499 : Index := Scalar.indexCast v8498
  let c88_4243 : Index := 88#32
  ![v8499.toNat, 88]
def k0_mult473 (v8500 : BitVec 32) : BitVec 32 :=
  let c3_i32_4244 : BitVec 32 := 3#32
  let v8501 : BitVec 32 := Scalar.shrsi v8500 c3_i32_4244
  let c3_i32_4245 : BitVec 32 := 3#32
  let v8502 : BitVec 32 := Scalar.shli v8501 c3_i32_4245
  v8502

def k0_off946 (v8500 : BitVec 32) : Fin 2 → Nat :=
  let c3_i32_4244 : BitVec 32 := 3#32
  let v8501 : BitVec 32 := Scalar.shrsi v8500 c3_i32_4244
  let c3_i32_4245 : BitVec 32 := 3#32
  let v8502 : BitVec 32 := Scalar.shli v8501 c3_i32_4245
  let v8503 : BitVec 32 := v8502
  let v8504 : Index := Scalar.indexCast v8503
  let c0_4246 : Index := 0#32
  ![v8504.toNat, 0]

def k0_chk473 (v8500 : BitVec 32) : Prop :=
  (8 ∣ (k0_mult473 v8500).toNat) ∧
  (∀ a, (k0_off946 v8500) a + S8x128.size a ≤ S10000x128.size a)
theorem k0_mult473_dvd : ∀ (v8500 : BitVec 32) (k0_hw473 : k0_chk473 v8500), 8 ∣ (k0_mult473 v8500).toNat := fun v8500 k0_hw473 => k0_hw473.1
theorem k0_off946_inb : ∀ (v8500 : BitVec 32) (k0_hw473 : k0_chk473 v8500), ∀ a, (k0_off946 v8500) a + S8x128.size a ≤ S10000x128.size a := fun v8500 k0_hw473 => k0_hw473.2

def k0_off947 (i : grid0.Coords) : Fin 2 → Nat :=
  let arg0 : BitVec 32 := BitVec.ofNat 32 (i 0).val
  let c4_i32 : BitVec 32 := 4#32
  let v0 : BitVec 32 := Scalar.muli arg0 c4_i32
  let c3_i32_4251 : BitVec 32 := 3#32
  let v8516 : BitVec 32 := Scalar.addi v0 c3_i32_4251
  let v8517 : Index := Scalar.indexCast v8516
  let c89_4252 : Index := 89#32
  ![v8517.toNat, 89]
def k0_mult474 (v8518 : BitVec 32) : BitVec 32 :=
  let c3_i32_4253 : BitVec 32 := 3#32
  let v8519 : BitVec 32 := Scalar.shrsi v8518 c3_i32_4253
  let c3_i32_4254 : BitVec 32 := 3#32
  let v8520 : BitVec 32 := Scalar.shli v8519 c3_i32_4254
  v8520

def k0_off948 (v8518 : BitVec 32) : Fin 2 → Nat :=
  let c3_i32_4253 : BitVec 32 := 3#32
  let v8519 : BitVec 32 := Scalar.shrsi v8518 c3_i32_4253
  let c3_i32_4254 : BitVec 32 := 3#32
  let v8520 : BitVec 32 := Scalar.shli v8519 c3_i32_4254
  let v8521 : BitVec 32 := v8520
  let v8522 : Index := Scalar.indexCast v8521
  let c0_4255 : Index := 0#32
  ![v8522.toNat, 0]

def k0_chk474 (v8518 : BitVec 32) : Prop :=
  (8 ∣ (k0_mult474 v8518).toNat) ∧
  (∀ a, (k0_off948 v8518) a + S8x128.size a ≤ S10000x128.size a)
theorem k0_mult474_dvd : ∀ (v8518 : BitVec 32) (k0_hw474 : k0_chk474 v8518), 8 ∣ (k0_mult474 v8518).toNat := fun v8518 k0_hw474 => k0_hw474.1
theorem k0_off948_inb : ∀ (v8518 : BitVec 32) (k0_hw474 : k0_chk474 v8518), ∀ a, (k0_off948 v8518) a + S8x128.size a ≤ S10000x128.size a := fun v8518 k0_hw474 => k0_hw474.2

def k0_off949 (i : grid0.Coords) : Fin 2 → Nat :=
  let arg0 : BitVec 32 := BitVec.ofNat 32 (i 0).val
  let c4_i32 : BitVec 32 := 4#32
  let v0 : BitVec 32 := Scalar.muli arg0 c4_i32
  let c3_i32_4260 : BitVec 32 := 3#32
  let v8534 : BitVec 32 := Scalar.addi v0 c3_i32_4260
  let v8535 : Index := Scalar.indexCast v8534
  let c90_4261 : Index := 90#32
  ![v8535.toNat, 90]
def k0_mult475 (v8536 : BitVec 32) : BitVec 32 :=
  let c3_i32_4262 : BitVec 32 := 3#32
  let v8537 : BitVec 32 := Scalar.shrsi v8536 c3_i32_4262
  let c3_i32_4263 : BitVec 32 := 3#32
  let v8538 : BitVec 32 := Scalar.shli v8537 c3_i32_4263
  v8538

def k0_off950 (v8536 : BitVec 32) : Fin 2 → Nat :=
  let c3_i32_4262 : BitVec 32 := 3#32
  let v8537 : BitVec 32 := Scalar.shrsi v8536 c3_i32_4262
  let c3_i32_4263 : BitVec 32 := 3#32
  let v8538 : BitVec 32 := Scalar.shli v8537 c3_i32_4263
  let v8539 : BitVec 32 := v8538
  let v8540 : Index := Scalar.indexCast v8539
  let c0_4264 : Index := 0#32
  ![v8540.toNat, 0]

def k0_chk475 (v8536 : BitVec 32) : Prop :=
  (8 ∣ (k0_mult475 v8536).toNat) ∧
  (∀ a, (k0_off950 v8536) a + S8x128.size a ≤ S10000x128.size a)
theorem k0_mult475_dvd : ∀ (v8536 : BitVec 32) (k0_hw475 : k0_chk475 v8536), 8 ∣ (k0_mult475 v8536).toNat := fun v8536 k0_hw475 => k0_hw475.1
theorem k0_off950_inb : ∀ (v8536 : BitVec 32) (k0_hw475 : k0_chk475 v8536), ∀ a, (k0_off950 v8536) a + S8x128.size a ≤ S10000x128.size a := fun v8536 k0_hw475 => k0_hw475.2

def k0_off951 (i : grid0.Coords) : Fin 2 → Nat :=
  let arg0 : BitVec 32 := BitVec.ofNat 32 (i 0).val
  let c4_i32 : BitVec 32 := 4#32
  let v0 : BitVec 32 := Scalar.muli arg0 c4_i32
  let c3_i32_4269 : BitVec 32 := 3#32
  let v8552 : BitVec 32 := Scalar.addi v0 c3_i32_4269
  let v8553 : Index := Scalar.indexCast v8552
  let c91_4270 : Index := 91#32
  ![v8553.toNat, 91]
def k0_mult476 (v8554 : BitVec 32) : BitVec 32 :=
  let c3_i32_4271 : BitVec 32 := 3#32
  let v8555 : BitVec 32 := Scalar.shrsi v8554 c3_i32_4271
  let c3_i32_4272 : BitVec 32 := 3#32
  let v8556 : BitVec 32 := Scalar.shli v8555 c3_i32_4272
  v8556

def k0_off952 (v8554 : BitVec 32) : Fin 2 → Nat :=
  let c3_i32_4271 : BitVec 32 := 3#32
  let v8555 : BitVec 32 := Scalar.shrsi v8554 c3_i32_4271
  let c3_i32_4272 : BitVec 32 := 3#32
  let v8556 : BitVec 32 := Scalar.shli v8555 c3_i32_4272
  let v8557 : BitVec 32 := v8556
  let v8558 : Index := Scalar.indexCast v8557
  let c0_4273 : Index := 0#32
  ![v8558.toNat, 0]

def k0_chk476 (v8554 : BitVec 32) : Prop :=
  (8 ∣ (k0_mult476 v8554).toNat) ∧
  (∀ a, (k0_off952 v8554) a + S8x128.size a ≤ S10000x128.size a)
theorem k0_mult476_dvd : ∀ (v8554 : BitVec 32) (k0_hw476 : k0_chk476 v8554), 8 ∣ (k0_mult476 v8554).toNat := fun v8554 k0_hw476 => k0_hw476.1
theorem k0_off952_inb : ∀ (v8554 : BitVec 32) (k0_hw476 : k0_chk476 v8554), ∀ a, (k0_off952 v8554) a + S8x128.size a ≤ S10000x128.size a := fun v8554 k0_hw476 => k0_hw476.2

def k0_off953 (i : grid0.Coords) : Fin 2 → Nat :=
  let arg0 : BitVec 32 := BitVec.ofNat 32 (i 0).val
  let c4_i32 : BitVec 32 := 4#32
  let v0 : BitVec 32 := Scalar.muli arg0 c4_i32
  let c3_i32_4278 : BitVec 32 := 3#32
  let v8570 : BitVec 32 := Scalar.addi v0 c3_i32_4278
  let v8571 : Index := Scalar.indexCast v8570
  let c92_4279 : Index := 92#32
  ![v8571.toNat, 92]
def k0_mult477 (v8572 : BitVec 32) : BitVec 32 :=
  let c3_i32_4280 : BitVec 32 := 3#32
  let v8573 : BitVec 32 := Scalar.shrsi v8572 c3_i32_4280
  let c3_i32_4281 : BitVec 32 := 3#32
  let v8574 : BitVec 32 := Scalar.shli v8573 c3_i32_4281
  v8574

def k0_off954 (v8572 : BitVec 32) : Fin 2 → Nat :=
  let c3_i32_4280 : BitVec 32 := 3#32
  let v8573 : BitVec 32 := Scalar.shrsi v8572 c3_i32_4280
  let c3_i32_4281 : BitVec 32 := 3#32
  let v8574 : BitVec 32 := Scalar.shli v8573 c3_i32_4281
  let v8575 : BitVec 32 := v8574
  let v8576 : Index := Scalar.indexCast v8575
  let c0_4282 : Index := 0#32
  ![v8576.toNat, 0]

def k0_chk477 (v8572 : BitVec 32) : Prop :=
  (8 ∣ (k0_mult477 v8572).toNat) ∧
  (∀ a, (k0_off954 v8572) a + S8x128.size a ≤ S10000x128.size a)
theorem k0_mult477_dvd : ∀ (v8572 : BitVec 32) (k0_hw477 : k0_chk477 v8572), 8 ∣ (k0_mult477 v8572).toNat := fun v8572 k0_hw477 => k0_hw477.1
theorem k0_off954_inb : ∀ (v8572 : BitVec 32) (k0_hw477 : k0_chk477 v8572), ∀ a, (k0_off954 v8572) a + S8x128.size a ≤ S10000x128.size a := fun v8572 k0_hw477 => k0_hw477.2

def k0_off955 (i : grid0.Coords) : Fin 2 → Nat :=
  let arg0 : BitVec 32 := BitVec.ofNat 32 (i 0).val
  let c4_i32 : BitVec 32 := 4#32
  let v0 : BitVec 32 := Scalar.muli arg0 c4_i32
  let c3_i32_4287 : BitVec 32 := 3#32
  let v8588 : BitVec 32 := Scalar.addi v0 c3_i32_4287
  let v8589 : Index := Scalar.indexCast v8588
  let c93_4288 : Index := 93#32
  ![v8589.toNat, 93]
def k0_mult478 (v8590 : BitVec 32) : BitVec 32 :=
  let c3_i32_4289 : BitVec 32 := 3#32
  let v8591 : BitVec 32 := Scalar.shrsi v8590 c3_i32_4289
  let c3_i32_4290 : BitVec 32 := 3#32
  let v8592 : BitVec 32 := Scalar.shli v8591 c3_i32_4290
  v8592

def k0_off956 (v8590 : BitVec 32) : Fin 2 → Nat :=
  let c3_i32_4289 : BitVec 32 := 3#32
  let v8591 : BitVec 32 := Scalar.shrsi v8590 c3_i32_4289
  let c3_i32_4290 : BitVec 32 := 3#32
  let v8592 : BitVec 32 := Scalar.shli v8591 c3_i32_4290
  let v8593 : BitVec 32 := v8592
  let v8594 : Index := Scalar.indexCast v8593
  let c0_4291 : Index := 0#32
  ![v8594.toNat, 0]

def k0_chk478 (v8590 : BitVec 32) : Prop :=
  (8 ∣ (k0_mult478 v8590).toNat) ∧
  (∀ a, (k0_off956 v8590) a + S8x128.size a ≤ S10000x128.size a)
theorem k0_mult478_dvd : ∀ (v8590 : BitVec 32) (k0_hw478 : k0_chk478 v8590), 8 ∣ (k0_mult478 v8590).toNat := fun v8590 k0_hw478 => k0_hw478.1
theorem k0_off956_inb : ∀ (v8590 : BitVec 32) (k0_hw478 : k0_chk478 v8590), ∀ a, (k0_off956 v8590) a + S8x128.size a ≤ S10000x128.size a := fun v8590 k0_hw478 => k0_hw478.2

def k0_off957 (i : grid0.Coords) : Fin 2 → Nat :=
  let arg0 : BitVec 32 := BitVec.ofNat 32 (i 0).val
  let c4_i32 : BitVec 32 := 4#32
  let v0 : BitVec 32 := Scalar.muli arg0 c4_i32
  let c3_i32_4296 : BitVec 32 := 3#32
  let v8606 : BitVec 32 := Scalar.addi v0 c3_i32_4296
  let v8607 : Index := Scalar.indexCast v8606
  let c94_4297 : Index := 94#32
  ![v8607.toNat, 94]
def k0_mult479 (v8608 : BitVec 32) : BitVec 32 :=
  let c3_i32_4298 : BitVec 32 := 3#32
  let v8609 : BitVec 32 := Scalar.shrsi v8608 c3_i32_4298
  let c3_i32_4299 : BitVec 32 := 3#32
  let v8610 : BitVec 32 := Scalar.shli v8609 c3_i32_4299
  v8610

def k0_off958 (v8608 : BitVec 32) : Fin 2 → Nat :=
  let c3_i32_4298 : BitVec 32 := 3#32
  let v8609 : BitVec 32 := Scalar.shrsi v8608 c3_i32_4298
  let c3_i32_4299 : BitVec 32 := 3#32
  let v8610 : BitVec 32 := Scalar.shli v8609 c3_i32_4299
  let v8611 : BitVec 32 := v8610
  let v8612 : Index := Scalar.indexCast v8611
  let c0_4300 : Index := 0#32
  ![v8612.toNat, 0]

def k0_chk479 (v8608 : BitVec 32) : Prop :=
  (8 ∣ (k0_mult479 v8608).toNat) ∧
  (∀ a, (k0_off958 v8608) a + S8x128.size a ≤ S10000x128.size a)
theorem k0_mult479_dvd : ∀ (v8608 : BitVec 32) (k0_hw479 : k0_chk479 v8608), 8 ∣ (k0_mult479 v8608).toNat := fun v8608 k0_hw479 => k0_hw479.1
theorem k0_off958_inb : ∀ (v8608 : BitVec 32) (k0_hw479 : k0_chk479 v8608), ∀ a, (k0_off958 v8608) a + S8x128.size a ≤ S10000x128.size a := fun v8608 k0_hw479 => k0_hw479.2

def k0_off959 (i : grid0.Coords) : Fin 2 → Nat :=
  let arg0 : BitVec 32 := BitVec.ofNat 32 (i 0).val
  let c4_i32 : BitVec 32 := 4#32
  let v0 : BitVec 32 := Scalar.muli arg0 c4_i32
  let c3_i32_4305 : BitVec 32 := 3#32
  let v8624 : BitVec 32 := Scalar.addi v0 c3_i32_4305
  let v8625 : Index := Scalar.indexCast v8624
  let c95_4306 : Index := 95#32
  ![v8625.toNat, 95]
def k0_mult480 (v8626 : BitVec 32) : BitVec 32 :=
  let c3_i32_4307 : BitVec 32 := 3#32
  let v8627 : BitVec 32 := Scalar.shrsi v8626 c3_i32_4307
  let c3_i32_4308 : BitVec 32 := 3#32
  let v8628 : BitVec 32 := Scalar.shli v8627 c3_i32_4308
  v8628

def k0_off960 (v8626 : BitVec 32) : Fin 2 → Nat :=
  let c3_i32_4307 : BitVec 32 := 3#32
  let v8627 : BitVec 32 := Scalar.shrsi v8626 c3_i32_4307
  let c3_i32_4308 : BitVec 32 := 3#32
  let v8628 : BitVec 32 := Scalar.shli v8627 c3_i32_4308
  let v8629 : BitVec 32 := v8628
  let v8630 : Index := Scalar.indexCast v8629
  let c0_4309 : Index := 0#32
  ![v8630.toNat, 0]

def k0_chk480 (v8626 : BitVec 32) : Prop :=
  (8 ∣ (k0_mult480 v8626).toNat) ∧
  (∀ a, (k0_off960 v8626) a + S8x128.size a ≤ S10000x128.size a)
theorem k0_mult480_dvd : ∀ (v8626 : BitVec 32) (k0_hw480 : k0_chk480 v8626), 8 ∣ (k0_mult480 v8626).toNat := fun v8626 k0_hw480 => k0_hw480.1
theorem k0_off960_inb : ∀ (v8626 : BitVec 32) (k0_hw480 : k0_chk480 v8626), ∀ a, (k0_off960 v8626) a + S8x128.size a ≤ S10000x128.size a := fun v8626 k0_hw480 => k0_hw480.2

def k0_off961 (i : grid0.Coords) : Fin 2 → Nat :=
  let arg0 : BitVec 32 := BitVec.ofNat 32 (i 0).val
  let c4_i32 : BitVec 32 := 4#32
  let v0 : BitVec 32 := Scalar.muli arg0 c4_i32
  let c3_i32_4314 : BitVec 32 := 3#32
  let v8642 : BitVec 32 := Scalar.addi v0 c3_i32_4314
  let v8643 : Index := Scalar.indexCast v8642
  let c96_4315 : Index := 96#32
  ![v8643.toNat, 96]
def k0_mult481 (v8644 : BitVec 32) : BitVec 32 :=
  let c3_i32_4316 : BitVec 32 := 3#32
  let v8645 : BitVec 32 := Scalar.shrsi v8644 c3_i32_4316
  let c3_i32_4317 : BitVec 32 := 3#32
  let v8646 : BitVec 32 := Scalar.shli v8645 c3_i32_4317
  v8646

def k0_off962 (v8644 : BitVec 32) : Fin 2 → Nat :=
  let c3_i32_4316 : BitVec 32 := 3#32
  let v8645 : BitVec 32 := Scalar.shrsi v8644 c3_i32_4316
  let c3_i32_4317 : BitVec 32 := 3#32
  let v8646 : BitVec 32 := Scalar.shli v8645 c3_i32_4317
  let v8647 : BitVec 32 := v8646
  let v8648 : Index := Scalar.indexCast v8647
  let c0_4318 : Index := 0#32
  ![v8648.toNat, 0]

def k0_chk481 (v8644 : BitVec 32) : Prop :=
  (8 ∣ (k0_mult481 v8644).toNat) ∧
  (∀ a, (k0_off962 v8644) a + S8x128.size a ≤ S10000x128.size a)
theorem k0_mult481_dvd : ∀ (v8644 : BitVec 32) (k0_hw481 : k0_chk481 v8644), 8 ∣ (k0_mult481 v8644).toNat := fun v8644 k0_hw481 => k0_hw481.1
theorem k0_off962_inb : ∀ (v8644 : BitVec 32) (k0_hw481 : k0_chk481 v8644), ∀ a, (k0_off962 v8644) a + S8x128.size a ≤ S10000x128.size a := fun v8644 k0_hw481 => k0_hw481.2

def k0_off963 (i : grid0.Coords) : Fin 2 → Nat :=
  let arg0 : BitVec 32 := BitVec.ofNat 32 (i 0).val
  let c4_i32 : BitVec 32 := 4#32
  let v0 : BitVec 32 := Scalar.muli arg0 c4_i32
  let c3_i32_4323 : BitVec 32 := 3#32
  let v8660 : BitVec 32 := Scalar.addi v0 c3_i32_4323
  let v8661 : Index := Scalar.indexCast v8660
  let c97_4324 : Index := 97#32
  ![v8661.toNat, 97]
def k0_mult482 (v8662 : BitVec 32) : BitVec 32 :=
  let c3_i32_4325 : BitVec 32 := 3#32
  let v8663 : BitVec 32 := Scalar.shrsi v8662 c3_i32_4325
  let c3_i32_4326 : BitVec 32 := 3#32
  let v8664 : BitVec 32 := Scalar.shli v8663 c3_i32_4326
  v8664

def k0_off964 (v8662 : BitVec 32) : Fin 2 → Nat :=
  let c3_i32_4325 : BitVec 32 := 3#32
  let v8663 : BitVec 32 := Scalar.shrsi v8662 c3_i32_4325
  let c3_i32_4326 : BitVec 32 := 3#32
  let v8664 : BitVec 32 := Scalar.shli v8663 c3_i32_4326
  let v8665 : BitVec 32 := v8664
  let v8666 : Index := Scalar.indexCast v8665
  let c0_4327 : Index := 0#32
  ![v8666.toNat, 0]

def k0_chk482 (v8662 : BitVec 32) : Prop :=
  (8 ∣ (k0_mult482 v8662).toNat) ∧
  (∀ a, (k0_off964 v8662) a + S8x128.size a ≤ S10000x128.size a)
theorem k0_mult482_dvd : ∀ (v8662 : BitVec 32) (k0_hw482 : k0_chk482 v8662), 8 ∣ (k0_mult482 v8662).toNat := fun v8662 k0_hw482 => k0_hw482.1
theorem k0_off964_inb : ∀ (v8662 : BitVec 32) (k0_hw482 : k0_chk482 v8662), ∀ a, (k0_off964 v8662) a + S8x128.size a ≤ S10000x128.size a := fun v8662 k0_hw482 => k0_hw482.2

def k0_off965 (i : grid0.Coords) : Fin 2 → Nat :=
  let arg0 : BitVec 32 := BitVec.ofNat 32 (i 0).val
  let c4_i32 : BitVec 32 := 4#32
  let v0 : BitVec 32 := Scalar.muli arg0 c4_i32
  let c3_i32_4332 : BitVec 32 := 3#32
  let v8678 : BitVec 32 := Scalar.addi v0 c3_i32_4332
  let v8679 : Index := Scalar.indexCast v8678
  let c98_4333 : Index := 98#32
  ![v8679.toNat, 98]
def k0_mult483 (v8680 : BitVec 32) : BitVec 32 :=
  let c3_i32_4334 : BitVec 32 := 3#32
  let v8681 : BitVec 32 := Scalar.shrsi v8680 c3_i32_4334
  let c3_i32_4335 : BitVec 32 := 3#32
  let v8682 : BitVec 32 := Scalar.shli v8681 c3_i32_4335
  v8682

def k0_off966 (v8680 : BitVec 32) : Fin 2 → Nat :=
  let c3_i32_4334 : BitVec 32 := 3#32
  let v8681 : BitVec 32 := Scalar.shrsi v8680 c3_i32_4334
  let c3_i32_4335 : BitVec 32 := 3#32
  let v8682 : BitVec 32 := Scalar.shli v8681 c3_i32_4335
  let v8683 : BitVec 32 := v8682
  let v8684 : Index := Scalar.indexCast v8683
  let c0_4336 : Index := 0#32
  ![v8684.toNat, 0]

def k0_chk483 (v8680 : BitVec 32) : Prop :=
  (8 ∣ (k0_mult483 v8680).toNat) ∧
  (∀ a, (k0_off966 v8680) a + S8x128.size a ≤ S10000x128.size a)
theorem k0_mult483_dvd : ∀ (v8680 : BitVec 32) (k0_hw483 : k0_chk483 v8680), 8 ∣ (k0_mult483 v8680).toNat := fun v8680 k0_hw483 => k0_hw483.1
theorem k0_off966_inb : ∀ (v8680 : BitVec 32) (k0_hw483 : k0_chk483 v8680), ∀ a, (k0_off966 v8680) a + S8x128.size a ≤ S10000x128.size a := fun v8680 k0_hw483 => k0_hw483.2

def k0_off967 (i : grid0.Coords) : Fin 2 → Nat :=
  let arg0 : BitVec 32 := BitVec.ofNat 32 (i 0).val
  let c4_i32 : BitVec 32 := 4#32
  let v0 : BitVec 32 := Scalar.muli arg0 c4_i32
  let c3_i32_4341 : BitVec 32 := 3#32
  let v8696 : BitVec 32 := Scalar.addi v0 c3_i32_4341
  let v8697 : Index := Scalar.indexCast v8696
  let c99_4342 : Index := 99#32
  ![v8697.toNat, 99]
def k0_mult484 (v8698 : BitVec 32) : BitVec 32 :=
  let c3_i32_4343 : BitVec 32 := 3#32
  let v8699 : BitVec 32 := Scalar.shrsi v8698 c3_i32_4343
  let c3_i32_4344 : BitVec 32 := 3#32
  let v8700 : BitVec 32 := Scalar.shli v8699 c3_i32_4344
  v8700

def k0_off968 (v8698 : BitVec 32) : Fin 2 → Nat :=
  let c3_i32_4343 : BitVec 32 := 3#32
  let v8699 : BitVec 32 := Scalar.shrsi v8698 c3_i32_4343
  let c3_i32_4344 : BitVec 32 := 3#32
  let v8700 : BitVec 32 := Scalar.shli v8699 c3_i32_4344
  let v8701 : BitVec 32 := v8700
  let v8702 : Index := Scalar.indexCast v8701
  let c0_4345 : Index := 0#32
  ![v8702.toNat, 0]

def k0_chk484 (v8698 : BitVec 32) : Prop :=
  (8 ∣ (k0_mult484 v8698).toNat) ∧
  (∀ a, (k0_off968 v8698) a + S8x128.size a ≤ S10000x128.size a)
theorem k0_mult484_dvd : ∀ (v8698 : BitVec 32) (k0_hw484 : k0_chk484 v8698), 8 ∣ (k0_mult484 v8698).toNat := fun v8698 k0_hw484 => k0_hw484.1
theorem k0_off968_inb : ∀ (v8698 : BitVec 32) (k0_hw484 : k0_chk484 v8698), ∀ a, (k0_off968 v8698) a + S8x128.size a ≤ S10000x128.size a := fun v8698 k0_hw484 => k0_hw484.2

def k0_off969 (i : grid0.Coords) : Fin 2 → Nat :=
  let arg0 : BitVec 32 := BitVec.ofNat 32 (i 0).val
  let c4_i32 : BitVec 32 := 4#32
  let v0 : BitVec 32 := Scalar.muli arg0 c4_i32
  let c3_i32_4350 : BitVec 32 := 3#32
  let v8714 : BitVec 32 := Scalar.addi v0 c3_i32_4350
  let v8715 : Index := Scalar.indexCast v8714
  let c100_4351 : Index := 100#32
  ![v8715.toNat, 100]
def k0_mult485 (v8716 : BitVec 32) : BitVec 32 :=
  let c3_i32_4352 : BitVec 32 := 3#32
  let v8717 : BitVec 32 := Scalar.shrsi v8716 c3_i32_4352
  let c3_i32_4353 : BitVec 32 := 3#32
  let v8718 : BitVec 32 := Scalar.shli v8717 c3_i32_4353
  v8718

def k0_off970 (v8716 : BitVec 32) : Fin 2 → Nat :=
  let c3_i32_4352 : BitVec 32 := 3#32
  let v8717 : BitVec 32 := Scalar.shrsi v8716 c3_i32_4352
  let c3_i32_4353 : BitVec 32 := 3#32
  let v8718 : BitVec 32 := Scalar.shli v8717 c3_i32_4353
  let v8719 : BitVec 32 := v8718
  let v8720 : Index := Scalar.indexCast v8719
  let c0_4354 : Index := 0#32
  ![v8720.toNat, 0]

def k0_chk485 (v8716 : BitVec 32) : Prop :=
  (8 ∣ (k0_mult485 v8716).toNat) ∧
  (∀ a, (k0_off970 v8716) a + S8x128.size a ≤ S10000x128.size a)
theorem k0_mult485_dvd : ∀ (v8716 : BitVec 32) (k0_hw485 : k0_chk485 v8716), 8 ∣ (k0_mult485 v8716).toNat := fun v8716 k0_hw485 => k0_hw485.1
theorem k0_off970_inb : ∀ (v8716 : BitVec 32) (k0_hw485 : k0_chk485 v8716), ∀ a, (k0_off970 v8716) a + S8x128.size a ≤ S10000x128.size a := fun v8716 k0_hw485 => k0_hw485.2

def k0_off971 (i : grid0.Coords) : Fin 2 → Nat :=
  let arg0 : BitVec 32 := BitVec.ofNat 32 (i 0).val
  let c4_i32 : BitVec 32 := 4#32
  let v0 : BitVec 32 := Scalar.muli arg0 c4_i32
  let c3_i32_4359 : BitVec 32 := 3#32
  let v8732 : BitVec 32 := Scalar.addi v0 c3_i32_4359
  let v8733 : Index := Scalar.indexCast v8732
  let c101_4360 : Index := 101#32
  ![v8733.toNat, 101]
def k0_mult486 (v8734 : BitVec 32) : BitVec 32 :=
  let c3_i32_4361 : BitVec 32 := 3#32
  let v8735 : BitVec 32 := Scalar.shrsi v8734 c3_i32_4361
  let c3_i32_4362 : BitVec 32 := 3#32
  let v8736 : BitVec 32 := Scalar.shli v8735 c3_i32_4362
  v8736

def k0_off972 (v8734 : BitVec 32) : Fin 2 → Nat :=
  let c3_i32_4361 : BitVec 32 := 3#32
  let v8735 : BitVec 32 := Scalar.shrsi v8734 c3_i32_4361
  let c3_i32_4362 : BitVec 32 := 3#32
  let v8736 : BitVec 32 := Scalar.shli v8735 c3_i32_4362
  let v8737 : BitVec 32 := v8736
  let v8738 : Index := Scalar.indexCast v8737
  let c0_4363 : Index := 0#32
  ![v8738.toNat, 0]

def k0_chk486 (v8734 : BitVec 32) : Prop :=
  (8 ∣ (k0_mult486 v8734).toNat) ∧
  (∀ a, (k0_off972 v8734) a + S8x128.size a ≤ S10000x128.size a)
theorem k0_mult486_dvd : ∀ (v8734 : BitVec 32) (k0_hw486 : k0_chk486 v8734), 8 ∣ (k0_mult486 v8734).toNat := fun v8734 k0_hw486 => k0_hw486.1
theorem k0_off972_inb : ∀ (v8734 : BitVec 32) (k0_hw486 : k0_chk486 v8734), ∀ a, (k0_off972 v8734) a + S8x128.size a ≤ S10000x128.size a := fun v8734 k0_hw486 => k0_hw486.2

def k0_off973 (i : grid0.Coords) : Fin 2 → Nat :=
  let arg0 : BitVec 32 := BitVec.ofNat 32 (i 0).val
  let c4_i32 : BitVec 32 := 4#32
  let v0 : BitVec 32 := Scalar.muli arg0 c4_i32
  let c3_i32_4368 : BitVec 32 := 3#32
  let v8750 : BitVec 32 := Scalar.addi v0 c3_i32_4368
  let v8751 : Index := Scalar.indexCast v8750
  let c102_4369 : Index := 102#32
  ![v8751.toNat, 102]
def k0_mult487 (v8752 : BitVec 32) : BitVec 32 :=
  let c3_i32_4370 : BitVec 32 := 3#32
  let v8753 : BitVec 32 := Scalar.shrsi v8752 c3_i32_4370
  let c3_i32_4371 : BitVec 32 := 3#32
  let v8754 : BitVec 32 := Scalar.shli v8753 c3_i32_4371
  v8754

def k0_off974 (v8752 : BitVec 32) : Fin 2 → Nat :=
  let c3_i32_4370 : BitVec 32 := 3#32
  let v8753 : BitVec 32 := Scalar.shrsi v8752 c3_i32_4370
  let c3_i32_4371 : BitVec 32 := 3#32
  let v8754 : BitVec 32 := Scalar.shli v8753 c3_i32_4371
  let v8755 : BitVec 32 := v8754
  let v8756 : Index := Scalar.indexCast v8755
  let c0_4372 : Index := 0#32
  ![v8756.toNat, 0]

def k0_chk487 (v8752 : BitVec 32) : Prop :=
  (8 ∣ (k0_mult487 v8752).toNat) ∧
  (∀ a, (k0_off974 v8752) a + S8x128.size a ≤ S10000x128.size a)
theorem k0_mult487_dvd : ∀ (v8752 : BitVec 32) (k0_hw487 : k0_chk487 v8752), 8 ∣ (k0_mult487 v8752).toNat := fun v8752 k0_hw487 => k0_hw487.1
theorem k0_off974_inb : ∀ (v8752 : BitVec 32) (k0_hw487 : k0_chk487 v8752), ∀ a, (k0_off974 v8752) a + S8x128.size a ≤ S10000x128.size a := fun v8752 k0_hw487 => k0_hw487.2

def k0_off975 (i : grid0.Coords) : Fin 2 → Nat :=
  let arg0 : BitVec 32 := BitVec.ofNat 32 (i 0).val
  let c4_i32 : BitVec 32 := 4#32
  let v0 : BitVec 32 := Scalar.muli arg0 c4_i32
  let c3_i32_4377 : BitVec 32 := 3#32
  let v8768 : BitVec 32 := Scalar.addi v0 c3_i32_4377
  let v8769 : Index := Scalar.indexCast v8768
  let c103_4378 : Index := 103#32
  ![v8769.toNat, 103]
def k0_mult488 (v8770 : BitVec 32) : BitVec 32 :=
  let c3_i32_4379 : BitVec 32 := 3#32
  let v8771 : BitVec 32 := Scalar.shrsi v8770 c3_i32_4379
  let c3_i32_4380 : BitVec 32 := 3#32
  let v8772 : BitVec 32 := Scalar.shli v8771 c3_i32_4380
  v8772

def k0_off976 (v8770 : BitVec 32) : Fin 2 → Nat :=
  let c3_i32_4379 : BitVec 32 := 3#32
  let v8771 : BitVec 32 := Scalar.shrsi v8770 c3_i32_4379
  let c3_i32_4380 : BitVec 32 := 3#32
  let v8772 : BitVec 32 := Scalar.shli v8771 c3_i32_4380
  let v8773 : BitVec 32 := v8772
  let v8774 : Index := Scalar.indexCast v8773
  let c0_4381 : Index := 0#32
  ![v8774.toNat, 0]

def k0_chk488 (v8770 : BitVec 32) : Prop :=
  (8 ∣ (k0_mult488 v8770).toNat) ∧
  (∀ a, (k0_off976 v8770) a + S8x128.size a ≤ S10000x128.size a)
theorem k0_mult488_dvd : ∀ (v8770 : BitVec 32) (k0_hw488 : k0_chk488 v8770), 8 ∣ (k0_mult488 v8770).toNat := fun v8770 k0_hw488 => k0_hw488.1
theorem k0_off976_inb : ∀ (v8770 : BitVec 32) (k0_hw488 : k0_chk488 v8770), ∀ a, (k0_off976 v8770) a + S8x128.size a ≤ S10000x128.size a := fun v8770 k0_hw488 => k0_hw488.2

def k0_off977 (i : grid0.Coords) : Fin 2 → Nat :=
  let arg0 : BitVec 32 := BitVec.ofNat 32 (i 0).val
  let c4_i32 : BitVec 32 := 4#32
  let v0 : BitVec 32 := Scalar.muli arg0 c4_i32
  let c3_i32_4386 : BitVec 32 := 3#32
  let v8786 : BitVec 32 := Scalar.addi v0 c3_i32_4386
  let v8787 : Index := Scalar.indexCast v8786
  let c104_4387 : Index := 104#32
  ![v8787.toNat, 104]
def k0_mult489 (v8788 : BitVec 32) : BitVec 32 :=
  let c3_i32_4388 : BitVec 32 := 3#32
  let v8789 : BitVec 32 := Scalar.shrsi v8788 c3_i32_4388
  let c3_i32_4389 : BitVec 32 := 3#32
  let v8790 : BitVec 32 := Scalar.shli v8789 c3_i32_4389
  v8790

def k0_off978 (v8788 : BitVec 32) : Fin 2 → Nat :=
  let c3_i32_4388 : BitVec 32 := 3#32
  let v8789 : BitVec 32 := Scalar.shrsi v8788 c3_i32_4388
  let c3_i32_4389 : BitVec 32 := 3#32
  let v8790 : BitVec 32 := Scalar.shli v8789 c3_i32_4389
  let v8791 : BitVec 32 := v8790
  let v8792 : Index := Scalar.indexCast v8791
  let c0_4390 : Index := 0#32
  ![v8792.toNat, 0]

def k0_chk489 (v8788 : BitVec 32) : Prop :=
  (8 ∣ (k0_mult489 v8788).toNat) ∧
  (∀ a, (k0_off978 v8788) a + S8x128.size a ≤ S10000x128.size a)
theorem k0_mult489_dvd : ∀ (v8788 : BitVec 32) (k0_hw489 : k0_chk489 v8788), 8 ∣ (k0_mult489 v8788).toNat := fun v8788 k0_hw489 => k0_hw489.1
theorem k0_off978_inb : ∀ (v8788 : BitVec 32) (k0_hw489 : k0_chk489 v8788), ∀ a, (k0_off978 v8788) a + S8x128.size a ≤ S10000x128.size a := fun v8788 k0_hw489 => k0_hw489.2

def k0_off979 (i : grid0.Coords) : Fin 2 → Nat :=
  let arg0 : BitVec 32 := BitVec.ofNat 32 (i 0).val
  let c4_i32 : BitVec 32 := 4#32
  let v0 : BitVec 32 := Scalar.muli arg0 c4_i32
  let c3_i32_4395 : BitVec 32 := 3#32
  let v8804 : BitVec 32 := Scalar.addi v0 c3_i32_4395
  let v8805 : Index := Scalar.indexCast v8804
  let c105_4396 : Index := 105#32
  ![v8805.toNat, 105]
def k0_mult490 (v8806 : BitVec 32) : BitVec 32 :=
  let c3_i32_4397 : BitVec 32 := 3#32
  let v8807 : BitVec 32 := Scalar.shrsi v8806 c3_i32_4397
  let c3_i32_4398 : BitVec 32 := 3#32
  let v8808 : BitVec 32 := Scalar.shli v8807 c3_i32_4398
  v8808

def k0_off980 (v8806 : BitVec 32) : Fin 2 → Nat :=
  let c3_i32_4397 : BitVec 32 := 3#32
  let v8807 : BitVec 32 := Scalar.shrsi v8806 c3_i32_4397
  let c3_i32_4398 : BitVec 32 := 3#32
  let v8808 : BitVec 32 := Scalar.shli v8807 c3_i32_4398
  let v8809 : BitVec 32 := v8808
  let v8810 : Index := Scalar.indexCast v8809
  let c0_4399 : Index := 0#32
  ![v8810.toNat, 0]

def k0_chk490 (v8806 : BitVec 32) : Prop :=
  (8 ∣ (k0_mult490 v8806).toNat) ∧
  (∀ a, (k0_off980 v8806) a + S8x128.size a ≤ S10000x128.size a)
theorem k0_mult490_dvd : ∀ (v8806 : BitVec 32) (k0_hw490 : k0_chk490 v8806), 8 ∣ (k0_mult490 v8806).toNat := fun v8806 k0_hw490 => k0_hw490.1
theorem k0_off980_inb : ∀ (v8806 : BitVec 32) (k0_hw490 : k0_chk490 v8806), ∀ a, (k0_off980 v8806) a + S8x128.size a ≤ S10000x128.size a := fun v8806 k0_hw490 => k0_hw490.2

def k0_off981 (i : grid0.Coords) : Fin 2 → Nat :=
  let arg0 : BitVec 32 := BitVec.ofNat 32 (i 0).val
  let c4_i32 : BitVec 32 := 4#32
  let v0 : BitVec 32 := Scalar.muli arg0 c4_i32
  let c3_i32_4404 : BitVec 32 := 3#32
  let v8822 : BitVec 32 := Scalar.addi v0 c3_i32_4404
  let v8823 : Index := Scalar.indexCast v8822
  let c106_4405 : Index := 106#32
  ![v8823.toNat, 106]
def k0_mult491 (v8824 : BitVec 32) : BitVec 32 :=
  let c3_i32_4406 : BitVec 32 := 3#32
  let v8825 : BitVec 32 := Scalar.shrsi v8824 c3_i32_4406
  let c3_i32_4407 : BitVec 32 := 3#32
  let v8826 : BitVec 32 := Scalar.shli v8825 c3_i32_4407
  v8826

def k0_off982 (v8824 : BitVec 32) : Fin 2 → Nat :=
  let c3_i32_4406 : BitVec 32 := 3#32
  let v8825 : BitVec 32 := Scalar.shrsi v8824 c3_i32_4406
  let c3_i32_4407 : BitVec 32 := 3#32
  let v8826 : BitVec 32 := Scalar.shli v8825 c3_i32_4407
  let v8827 : BitVec 32 := v8826
  let v8828 : Index := Scalar.indexCast v8827
  let c0_4408 : Index := 0#32
  ![v8828.toNat, 0]

def k0_chk491 (v8824 : BitVec 32) : Prop :=
  (8 ∣ (k0_mult491 v8824).toNat) ∧
  (∀ a, (k0_off982 v8824) a + S8x128.size a ≤ S10000x128.size a)
theorem k0_mult491_dvd : ∀ (v8824 : BitVec 32) (k0_hw491 : k0_chk491 v8824), 8 ∣ (k0_mult491 v8824).toNat := fun v8824 k0_hw491 => k0_hw491.1
theorem k0_off982_inb : ∀ (v8824 : BitVec 32) (k0_hw491 : k0_chk491 v8824), ∀ a, (k0_off982 v8824) a + S8x128.size a ≤ S10000x128.size a := fun v8824 k0_hw491 => k0_hw491.2

def k0_off983 (i : grid0.Coords) : Fin 2 → Nat :=
  let arg0 : BitVec 32 := BitVec.ofNat 32 (i 0).val
  let c4_i32 : BitVec 32 := 4#32
  let v0 : BitVec 32 := Scalar.muli arg0 c4_i32
  let c3_i32_4413 : BitVec 32 := 3#32
  let v8840 : BitVec 32 := Scalar.addi v0 c3_i32_4413
  let v8841 : Index := Scalar.indexCast v8840
  let c107_4414 : Index := 107#32
  ![v8841.toNat, 107]
def k0_mult492 (v8842 : BitVec 32) : BitVec 32 :=
  let c3_i32_4415 : BitVec 32 := 3#32
  let v8843 : BitVec 32 := Scalar.shrsi v8842 c3_i32_4415
  let c3_i32_4416 : BitVec 32 := 3#32
  let v8844 : BitVec 32 := Scalar.shli v8843 c3_i32_4416
  v8844

def k0_off984 (v8842 : BitVec 32) : Fin 2 → Nat :=
  let c3_i32_4415 : BitVec 32 := 3#32
  let v8843 : BitVec 32 := Scalar.shrsi v8842 c3_i32_4415
  let c3_i32_4416 : BitVec 32 := 3#32
  let v8844 : BitVec 32 := Scalar.shli v8843 c3_i32_4416
  let v8845 : BitVec 32 := v8844
  let v8846 : Index := Scalar.indexCast v8845
  let c0_4417 : Index := 0#32
  ![v8846.toNat, 0]

def k0_chk492 (v8842 : BitVec 32) : Prop :=
  (8 ∣ (k0_mult492 v8842).toNat) ∧
  (∀ a, (k0_off984 v8842) a + S8x128.size a ≤ S10000x128.size a)
theorem k0_mult492_dvd : ∀ (v8842 : BitVec 32) (k0_hw492 : k0_chk492 v8842), 8 ∣ (k0_mult492 v8842).toNat := fun v8842 k0_hw492 => k0_hw492.1
theorem k0_off984_inb : ∀ (v8842 : BitVec 32) (k0_hw492 : k0_chk492 v8842), ∀ a, (k0_off984 v8842) a + S8x128.size a ≤ S10000x128.size a := fun v8842 k0_hw492 => k0_hw492.2

def k0_off985 (i : grid0.Coords) : Fin 2 → Nat :=
  let arg0 : BitVec 32 := BitVec.ofNat 32 (i 0).val
  let c4_i32 : BitVec 32 := 4#32
  let v0 : BitVec 32 := Scalar.muli arg0 c4_i32
  let c3_i32_4422 : BitVec 32 := 3#32
  let v8858 : BitVec 32 := Scalar.addi v0 c3_i32_4422
  let v8859 : Index := Scalar.indexCast v8858
  let c108_4423 : Index := 108#32
  ![v8859.toNat, 108]
def k0_mult493 (v8860 : BitVec 32) : BitVec 32 :=
  let c3_i32_4424 : BitVec 32 := 3#32
  let v8861 : BitVec 32 := Scalar.shrsi v8860 c3_i32_4424
  let c3_i32_4425 : BitVec 32 := 3#32
  let v8862 : BitVec 32 := Scalar.shli v8861 c3_i32_4425
  v8862

def k0_off986 (v8860 : BitVec 32) : Fin 2 → Nat :=
  let c3_i32_4424 : BitVec 32 := 3#32
  let v8861 : BitVec 32 := Scalar.shrsi v8860 c3_i32_4424
  let c3_i32_4425 : BitVec 32 := 3#32
  let v8862 : BitVec 32 := Scalar.shli v8861 c3_i32_4425
  let v8863 : BitVec 32 := v8862
  let v8864 : Index := Scalar.indexCast v8863
  let c0_4426 : Index := 0#32
  ![v8864.toNat, 0]

def k0_chk493 (v8860 : BitVec 32) : Prop :=
  (8 ∣ (k0_mult493 v8860).toNat) ∧
  (∀ a, (k0_off986 v8860) a + S8x128.size a ≤ S10000x128.size a)
theorem k0_mult493_dvd : ∀ (v8860 : BitVec 32) (k0_hw493 : k0_chk493 v8860), 8 ∣ (k0_mult493 v8860).toNat := fun v8860 k0_hw493 => k0_hw493.1
theorem k0_off986_inb : ∀ (v8860 : BitVec 32) (k0_hw493 : k0_chk493 v8860), ∀ a, (k0_off986 v8860) a + S8x128.size a ≤ S10000x128.size a := fun v8860 k0_hw493 => k0_hw493.2

def k0_off987 (i : grid0.Coords) : Fin 2 → Nat :=
  let arg0 : BitVec 32 := BitVec.ofNat 32 (i 0).val
  let c4_i32 : BitVec 32 := 4#32
  let v0 : BitVec 32 := Scalar.muli arg0 c4_i32
  let c3_i32_4431 : BitVec 32 := 3#32
  let v8876 : BitVec 32 := Scalar.addi v0 c3_i32_4431
  let v8877 : Index := Scalar.indexCast v8876
  let c109_4432 : Index := 109#32
  ![v8877.toNat, 109]
def k0_mult494 (v8878 : BitVec 32) : BitVec 32 :=
  let c3_i32_4433 : BitVec 32 := 3#32
  let v8879 : BitVec 32 := Scalar.shrsi v8878 c3_i32_4433
  let c3_i32_4434 : BitVec 32 := 3#32
  let v8880 : BitVec 32 := Scalar.shli v8879 c3_i32_4434
  v8880

def k0_off988 (v8878 : BitVec 32) : Fin 2 → Nat :=
  let c3_i32_4433 : BitVec 32 := 3#32
  let v8879 : BitVec 32 := Scalar.shrsi v8878 c3_i32_4433
  let c3_i32_4434 : BitVec 32 := 3#32
  let v8880 : BitVec 32 := Scalar.shli v8879 c3_i32_4434
  let v8881 : BitVec 32 := v8880
  let v8882 : Index := Scalar.indexCast v8881
  let c0_4435 : Index := 0#32
  ![v8882.toNat, 0]

def k0_chk494 (v8878 : BitVec 32) : Prop :=
  (8 ∣ (k0_mult494 v8878).toNat) ∧
  (∀ a, (k0_off988 v8878) a + S8x128.size a ≤ S10000x128.size a)
theorem k0_mult494_dvd : ∀ (v8878 : BitVec 32) (k0_hw494 : k0_chk494 v8878), 8 ∣ (k0_mult494 v8878).toNat := fun v8878 k0_hw494 => k0_hw494.1
theorem k0_off988_inb : ∀ (v8878 : BitVec 32) (k0_hw494 : k0_chk494 v8878), ∀ a, (k0_off988 v8878) a + S8x128.size a ≤ S10000x128.size a := fun v8878 k0_hw494 => k0_hw494.2

def k0_off989 (i : grid0.Coords) : Fin 2 → Nat :=
  let arg0 : BitVec 32 := BitVec.ofNat 32 (i 0).val
  let c4_i32 : BitVec 32 := 4#32
  let v0 : BitVec 32 := Scalar.muli arg0 c4_i32
  let c3_i32_4440 : BitVec 32 := 3#32
  let v8894 : BitVec 32 := Scalar.addi v0 c3_i32_4440
  let v8895 : Index := Scalar.indexCast v8894
  let c110_4441 : Index := 110#32
  ![v8895.toNat, 110]
def k0_mult495 (v8896 : BitVec 32) : BitVec 32 :=
  let c3_i32_4442 : BitVec 32 := 3#32
  let v8897 : BitVec 32 := Scalar.shrsi v8896 c3_i32_4442
  let c3_i32_4443 : BitVec 32 := 3#32
  let v8898 : BitVec 32 := Scalar.shli v8897 c3_i32_4443
  v8898

def k0_off990 (v8896 : BitVec 32) : Fin 2 → Nat :=
  let c3_i32_4442 : BitVec 32 := 3#32
  let v8897 : BitVec 32 := Scalar.shrsi v8896 c3_i32_4442
  let c3_i32_4443 : BitVec 32 := 3#32
  let v8898 : BitVec 32 := Scalar.shli v8897 c3_i32_4443
  let v8899 : BitVec 32 := v8898
  let v8900 : Index := Scalar.indexCast v8899
  let c0_4444 : Index := 0#32
  ![v8900.toNat, 0]

def k0_chk495 (v8896 : BitVec 32) : Prop :=
  (8 ∣ (k0_mult495 v8896).toNat) ∧
  (∀ a, (k0_off990 v8896) a + S8x128.size a ≤ S10000x128.size a)
theorem k0_mult495_dvd : ∀ (v8896 : BitVec 32) (k0_hw495 : k0_chk495 v8896), 8 ∣ (k0_mult495 v8896).toNat := fun v8896 k0_hw495 => k0_hw495.1
theorem k0_off990_inb : ∀ (v8896 : BitVec 32) (k0_hw495 : k0_chk495 v8896), ∀ a, (k0_off990 v8896) a + S8x128.size a ≤ S10000x128.size a := fun v8896 k0_hw495 => k0_hw495.2

def k0_off991 (i : grid0.Coords) : Fin 2 → Nat :=
  let arg0 : BitVec 32 := BitVec.ofNat 32 (i 0).val
  let c4_i32 : BitVec 32 := 4#32
  let v0 : BitVec 32 := Scalar.muli arg0 c4_i32
  let c3_i32_4449 : BitVec 32 := 3#32
  let v8912 : BitVec 32 := Scalar.addi v0 c3_i32_4449
  let v8913 : Index := Scalar.indexCast v8912
  let c111_4450 : Index := 111#32
  ![v8913.toNat, 111]
def k0_mult496 (v8914 : BitVec 32) : BitVec 32 :=
  let c3_i32_4451 : BitVec 32 := 3#32
  let v8915 : BitVec 32 := Scalar.shrsi v8914 c3_i32_4451
  let c3_i32_4452 : BitVec 32 := 3#32
  let v8916 : BitVec 32 := Scalar.shli v8915 c3_i32_4452
  v8916

def k0_off992 (v8914 : BitVec 32) : Fin 2 → Nat :=
  let c3_i32_4451 : BitVec 32 := 3#32
  let v8915 : BitVec 32 := Scalar.shrsi v8914 c3_i32_4451
  let c3_i32_4452 : BitVec 32 := 3#32
  let v8916 : BitVec 32 := Scalar.shli v8915 c3_i32_4452
  let v8917 : BitVec 32 := v8916
  let v8918 : Index := Scalar.indexCast v8917
  let c0_4453 : Index := 0#32
  ![v8918.toNat, 0]

def k0_chk496 (v8914 : BitVec 32) : Prop :=
  (8 ∣ (k0_mult496 v8914).toNat) ∧
  (∀ a, (k0_off992 v8914) a + S8x128.size a ≤ S10000x128.size a)
theorem k0_mult496_dvd : ∀ (v8914 : BitVec 32) (k0_hw496 : k0_chk496 v8914), 8 ∣ (k0_mult496 v8914).toNat := fun v8914 k0_hw496 => k0_hw496.1
theorem k0_off992_inb : ∀ (v8914 : BitVec 32) (k0_hw496 : k0_chk496 v8914), ∀ a, (k0_off992 v8914) a + S8x128.size a ≤ S10000x128.size a := fun v8914 k0_hw496 => k0_hw496.2

def k0_off993 (i : grid0.Coords) : Fin 2 → Nat :=
  let arg0 : BitVec 32 := BitVec.ofNat 32 (i 0).val
  let c4_i32 : BitVec 32 := 4#32
  let v0 : BitVec 32 := Scalar.muli arg0 c4_i32
  let c3_i32_4458 : BitVec 32 := 3#32
  let v8930 : BitVec 32 := Scalar.addi v0 c3_i32_4458
  let v8931 : Index := Scalar.indexCast v8930
  let c112_4459 : Index := 112#32
  ![v8931.toNat, 112]
def k0_mult497 (v8932 : BitVec 32) : BitVec 32 :=
  let c3_i32_4460 : BitVec 32 := 3#32
  let v8933 : BitVec 32 := Scalar.shrsi v8932 c3_i32_4460
  let c3_i32_4461 : BitVec 32 := 3#32
  let v8934 : BitVec 32 := Scalar.shli v8933 c3_i32_4461
  v8934

def k0_off994 (v8932 : BitVec 32) : Fin 2 → Nat :=
  let c3_i32_4460 : BitVec 32 := 3#32
  let v8933 : BitVec 32 := Scalar.shrsi v8932 c3_i32_4460
  let c3_i32_4461 : BitVec 32 := 3#32
  let v8934 : BitVec 32 := Scalar.shli v8933 c3_i32_4461
  let v8935 : BitVec 32 := v8934
  let v8936 : Index := Scalar.indexCast v8935
  let c0_4462 : Index := 0#32
  ![v8936.toNat, 0]

def k0_chk497 (v8932 : BitVec 32) : Prop :=
  (8 ∣ (k0_mult497 v8932).toNat) ∧
  (∀ a, (k0_off994 v8932) a + S8x128.size a ≤ S10000x128.size a)
theorem k0_mult497_dvd : ∀ (v8932 : BitVec 32) (k0_hw497 : k0_chk497 v8932), 8 ∣ (k0_mult497 v8932).toNat := fun v8932 k0_hw497 => k0_hw497.1
theorem k0_off994_inb : ∀ (v8932 : BitVec 32) (k0_hw497 : k0_chk497 v8932), ∀ a, (k0_off994 v8932) a + S8x128.size a ≤ S10000x128.size a := fun v8932 k0_hw497 => k0_hw497.2

def k0_off995 (i : grid0.Coords) : Fin 2 → Nat :=
  let arg0 : BitVec 32 := BitVec.ofNat 32 (i 0).val
  let c4_i32 : BitVec 32 := 4#32
  let v0 : BitVec 32 := Scalar.muli arg0 c4_i32
  let c3_i32_4467 : BitVec 32 := 3#32
  let v8948 : BitVec 32 := Scalar.addi v0 c3_i32_4467
  let v8949 : Index := Scalar.indexCast v8948
  let c113_4468 : Index := 113#32
  ![v8949.toNat, 113]
def k0_mult498 (v8950 : BitVec 32) : BitVec 32 :=
  let c3_i32_4469 : BitVec 32 := 3#32
  let v8951 : BitVec 32 := Scalar.shrsi v8950 c3_i32_4469
  let c3_i32_4470 : BitVec 32 := 3#32
  let v8952 : BitVec 32 := Scalar.shli v8951 c3_i32_4470
  v8952

def k0_off996 (v8950 : BitVec 32) : Fin 2 → Nat :=
  let c3_i32_4469 : BitVec 32 := 3#32
  let v8951 : BitVec 32 := Scalar.shrsi v8950 c3_i32_4469
  let c3_i32_4470 : BitVec 32 := 3#32
  let v8952 : BitVec 32 := Scalar.shli v8951 c3_i32_4470
  let v8953 : BitVec 32 := v8952
  let v8954 : Index := Scalar.indexCast v8953
  let c0_4471 : Index := 0#32
  ![v8954.toNat, 0]

def k0_chk498 (v8950 : BitVec 32) : Prop :=
  (8 ∣ (k0_mult498 v8950).toNat) ∧
  (∀ a, (k0_off996 v8950) a + S8x128.size a ≤ S10000x128.size a)
theorem k0_mult498_dvd : ∀ (v8950 : BitVec 32) (k0_hw498 : k0_chk498 v8950), 8 ∣ (k0_mult498 v8950).toNat := fun v8950 k0_hw498 => k0_hw498.1
theorem k0_off996_inb : ∀ (v8950 : BitVec 32) (k0_hw498 : k0_chk498 v8950), ∀ a, (k0_off996 v8950) a + S8x128.size a ≤ S10000x128.size a := fun v8950 k0_hw498 => k0_hw498.2

def k0_off997 (i : grid0.Coords) : Fin 2 → Nat :=
  let arg0 : BitVec 32 := BitVec.ofNat 32 (i 0).val
  let c4_i32 : BitVec 32 := 4#32
  let v0 : BitVec 32 := Scalar.muli arg0 c4_i32
  let c3_i32_4476 : BitVec 32 := 3#32
  let v8966 : BitVec 32 := Scalar.addi v0 c3_i32_4476
  let v8967 : Index := Scalar.indexCast v8966
  let c114_4477 : Index := 114#32
  ![v8967.toNat, 114]
def k0_mult499 (v8968 : BitVec 32) : BitVec 32 :=
  let c3_i32_4478 : BitVec 32 := 3#32
  let v8969 : BitVec 32 := Scalar.shrsi v8968 c3_i32_4478
  let c3_i32_4479 : BitVec 32 := 3#32
  let v8970 : BitVec 32 := Scalar.shli v8969 c3_i32_4479
  v8970

def k0_off998 (v8968 : BitVec 32) : Fin 2 → Nat :=
  let c3_i32_4478 : BitVec 32 := 3#32
  let v8969 : BitVec 32 := Scalar.shrsi v8968 c3_i32_4478
  let c3_i32_4479 : BitVec 32 := 3#32
  let v8970 : BitVec 32 := Scalar.shli v8969 c3_i32_4479
  let v8971 : BitVec 32 := v8970
  let v8972 : Index := Scalar.indexCast v8971
  let c0_4480 : Index := 0#32
  ![v8972.toNat, 0]

def k0_chk499 (v8968 : BitVec 32) : Prop :=
  (8 ∣ (k0_mult499 v8968).toNat) ∧
  (∀ a, (k0_off998 v8968) a + S8x128.size a ≤ S10000x128.size a)
theorem k0_mult499_dvd : ∀ (v8968 : BitVec 32) (k0_hw499 : k0_chk499 v8968), 8 ∣ (k0_mult499 v8968).toNat := fun v8968 k0_hw499 => k0_hw499.1
theorem k0_off998_inb : ∀ (v8968 : BitVec 32) (k0_hw499 : k0_chk499 v8968), ∀ a, (k0_off998 v8968) a + S8x128.size a ≤ S10000x128.size a := fun v8968 k0_hw499 => k0_hw499.2

def k0_off999 (i : grid0.Coords) : Fin 2 → Nat :=
  let arg0 : BitVec 32 := BitVec.ofNat 32 (i 0).val
  let c4_i32 : BitVec 32 := 4#32
  let v0 : BitVec 32 := Scalar.muli arg0 c4_i32
  let c3_i32_4485 : BitVec 32 := 3#32
  let v8984 : BitVec 32 := Scalar.addi v0 c3_i32_4485
  let v8985 : Index := Scalar.indexCast v8984
  let c115_4486 : Index := 115#32
  ![v8985.toNat, 115]
def k0_mult500 (v8986 : BitVec 32) : BitVec 32 :=
  let c3_i32_4487 : BitVec 32 := 3#32
  let v8987 : BitVec 32 := Scalar.shrsi v8986 c3_i32_4487
  let c3_i32_4488 : BitVec 32 := 3#32
  let v8988 : BitVec 32 := Scalar.shli v8987 c3_i32_4488
  v8988

def k0_off1000 (v8986 : BitVec 32) : Fin 2 → Nat :=
  let c3_i32_4487 : BitVec 32 := 3#32
  let v8987 : BitVec 32 := Scalar.shrsi v8986 c3_i32_4487
  let c3_i32_4488 : BitVec 32 := 3#32
  let v8988 : BitVec 32 := Scalar.shli v8987 c3_i32_4488
  let v8989 : BitVec 32 := v8988
  let v8990 : Index := Scalar.indexCast v8989
  let c0_4489 : Index := 0#32
  ![v8990.toNat, 0]

def k0_chk500 (v8986 : BitVec 32) : Prop :=
  (8 ∣ (k0_mult500 v8986).toNat) ∧
  (∀ a, (k0_off1000 v8986) a + S8x128.size a ≤ S10000x128.size a)
theorem k0_mult500_dvd : ∀ (v8986 : BitVec 32) (k0_hw500 : k0_chk500 v8986), 8 ∣ (k0_mult500 v8986).toNat := fun v8986 k0_hw500 => k0_hw500.1
theorem k0_off1000_inb : ∀ (v8986 : BitVec 32) (k0_hw500 : k0_chk500 v8986), ∀ a, (k0_off1000 v8986) a + S8x128.size a ≤ S10000x128.size a := fun v8986 k0_hw500 => k0_hw500.2

def k0_off1001 (i : grid0.Coords) : Fin 2 → Nat :=
  let arg0 : BitVec 32 := BitVec.ofNat 32 (i 0).val
  let c4_i32 : BitVec 32 := 4#32
  let v0 : BitVec 32 := Scalar.muli arg0 c4_i32
  let c3_i32_4494 : BitVec 32 := 3#32
  let v9002 : BitVec 32 := Scalar.addi v0 c3_i32_4494
  let v9003 : Index := Scalar.indexCast v9002
  let c116_4495 : Index := 116#32
  ![v9003.toNat, 116]
def k0_mult501 (v9004 : BitVec 32) : BitVec 32 :=
  let c3_i32_4496 : BitVec 32 := 3#32
  let v9005 : BitVec 32 := Scalar.shrsi v9004 c3_i32_4496
  let c3_i32_4497 : BitVec 32 := 3#32
  let v9006 : BitVec 32 := Scalar.shli v9005 c3_i32_4497
  v9006

def k0_off1002 (v9004 : BitVec 32) : Fin 2 → Nat :=
  let c3_i32_4496 : BitVec 32 := 3#32
  let v9005 : BitVec 32 := Scalar.shrsi v9004 c3_i32_4496
  let c3_i32_4497 : BitVec 32 := 3#32
  let v9006 : BitVec 32 := Scalar.shli v9005 c3_i32_4497
  let v9007 : BitVec 32 := v9006
  let v9008 : Index := Scalar.indexCast v9007
  let c0_4498 : Index := 0#32
  ![v9008.toNat, 0]

def k0_chk501 (v9004 : BitVec 32) : Prop :=
  (8 ∣ (k0_mult501 v9004).toNat) ∧
  (∀ a, (k0_off1002 v9004) a + S8x128.size a ≤ S10000x128.size a)
theorem k0_mult501_dvd : ∀ (v9004 : BitVec 32) (k0_hw501 : k0_chk501 v9004), 8 ∣ (k0_mult501 v9004).toNat := fun v9004 k0_hw501 => k0_hw501.1
theorem k0_off1002_inb : ∀ (v9004 : BitVec 32) (k0_hw501 : k0_chk501 v9004), ∀ a, (k0_off1002 v9004) a + S8x128.size a ≤ S10000x128.size a := fun v9004 k0_hw501 => k0_hw501.2

def k0_off1003 (i : grid0.Coords) : Fin 2 → Nat :=
  let arg0 : BitVec 32 := BitVec.ofNat 32 (i 0).val
  let c4_i32 : BitVec 32 := 4#32
  let v0 : BitVec 32 := Scalar.muli arg0 c4_i32
  let c3_i32_4503 : BitVec 32 := 3#32
  let v9020 : BitVec 32 := Scalar.addi v0 c3_i32_4503
  let v9021 : Index := Scalar.indexCast v9020
  let c117_4504 : Index := 117#32
  ![v9021.toNat, 117]
def k0_mult502 (v9022 : BitVec 32) : BitVec 32 :=
  let c3_i32_4505 : BitVec 32 := 3#32
  let v9023 : BitVec 32 := Scalar.shrsi v9022 c3_i32_4505
  let c3_i32_4506 : BitVec 32 := 3#32
  let v9024 : BitVec 32 := Scalar.shli v9023 c3_i32_4506
  v9024

def k0_off1004 (v9022 : BitVec 32) : Fin 2 → Nat :=
  let c3_i32_4505 : BitVec 32 := 3#32
  let v9023 : BitVec 32 := Scalar.shrsi v9022 c3_i32_4505
  let c3_i32_4506 : BitVec 32 := 3#32
  let v9024 : BitVec 32 := Scalar.shli v9023 c3_i32_4506
  let v9025 : BitVec 32 := v9024
  let v9026 : Index := Scalar.indexCast v9025
  let c0_4507 : Index := 0#32
  ![v9026.toNat, 0]

def k0_chk502 (v9022 : BitVec 32) : Prop :=
  (8 ∣ (k0_mult502 v9022).toNat) ∧
  (∀ a, (k0_off1004 v9022) a + S8x128.size a ≤ S10000x128.size a)
theorem k0_mult502_dvd : ∀ (v9022 : BitVec 32) (k0_hw502 : k0_chk502 v9022), 8 ∣ (k0_mult502 v9022).toNat := fun v9022 k0_hw502 => k0_hw502.1
theorem k0_off1004_inb : ∀ (v9022 : BitVec 32) (k0_hw502 : k0_chk502 v9022), ∀ a, (k0_off1004 v9022) a + S8x128.size a ≤ S10000x128.size a := fun v9022 k0_hw502 => k0_hw502.2

def k0_off1005 (i : grid0.Coords) : Fin 2 → Nat :=
  let arg0 : BitVec 32 := BitVec.ofNat 32 (i 0).val
  let c4_i32 : BitVec 32 := 4#32
  let v0 : BitVec 32 := Scalar.muli arg0 c4_i32
  let c3_i32_4512 : BitVec 32 := 3#32
  let v9038 : BitVec 32 := Scalar.addi v0 c3_i32_4512
  let v9039 : Index := Scalar.indexCast v9038
  let c118_4513 : Index := 118#32
  ![v9039.toNat, 118]
def k0_mult503 (v9040 : BitVec 32) : BitVec 32 :=
  let c3_i32_4514 : BitVec 32 := 3#32
  let v9041 : BitVec 32 := Scalar.shrsi v9040 c3_i32_4514
  let c3_i32_4515 : BitVec 32 := 3#32
  let v9042 : BitVec 32 := Scalar.shli v9041 c3_i32_4515
  v9042

def k0_off1006 (v9040 : BitVec 32) : Fin 2 → Nat :=
  let c3_i32_4514 : BitVec 32 := 3#32
  let v9041 : BitVec 32 := Scalar.shrsi v9040 c3_i32_4514
  let c3_i32_4515 : BitVec 32 := 3#32
  let v9042 : BitVec 32 := Scalar.shli v9041 c3_i32_4515
  let v9043 : BitVec 32 := v9042
  let v9044 : Index := Scalar.indexCast v9043
  let c0_4516 : Index := 0#32
  ![v9044.toNat, 0]

def k0_chk503 (v9040 : BitVec 32) : Prop :=
  (8 ∣ (k0_mult503 v9040).toNat) ∧
  (∀ a, (k0_off1006 v9040) a + S8x128.size a ≤ S10000x128.size a)
theorem k0_mult503_dvd : ∀ (v9040 : BitVec 32) (k0_hw503 : k0_chk503 v9040), 8 ∣ (k0_mult503 v9040).toNat := fun v9040 k0_hw503 => k0_hw503.1
theorem k0_off1006_inb : ∀ (v9040 : BitVec 32) (k0_hw503 : k0_chk503 v9040), ∀ a, (k0_off1006 v9040) a + S8x128.size a ≤ S10000x128.size a := fun v9040 k0_hw503 => k0_hw503.2

def k0_off1007 (i : grid0.Coords) : Fin 2 → Nat :=
  let arg0 : BitVec 32 := BitVec.ofNat 32 (i 0).val
  let c4_i32 : BitVec 32 := 4#32
  let v0 : BitVec 32 := Scalar.muli arg0 c4_i32
  let c3_i32_4521 : BitVec 32 := 3#32
  let v9056 : BitVec 32 := Scalar.addi v0 c3_i32_4521
  let v9057 : Index := Scalar.indexCast v9056
  let c119_4522 : Index := 119#32
  ![v9057.toNat, 119]
def k0_mult504 (v9058 : BitVec 32) : BitVec 32 :=
  let c3_i32_4523 : BitVec 32 := 3#32
  let v9059 : BitVec 32 := Scalar.shrsi v9058 c3_i32_4523
  let c3_i32_4524 : BitVec 32 := 3#32
  let v9060 : BitVec 32 := Scalar.shli v9059 c3_i32_4524
  v9060

def k0_off1008 (v9058 : BitVec 32) : Fin 2 → Nat :=
  let c3_i32_4523 : BitVec 32 := 3#32
  let v9059 : BitVec 32 := Scalar.shrsi v9058 c3_i32_4523
  let c3_i32_4524 : BitVec 32 := 3#32
  let v9060 : BitVec 32 := Scalar.shli v9059 c3_i32_4524
  let v9061 : BitVec 32 := v9060
  let v9062 : Index := Scalar.indexCast v9061
  let c0_4525 : Index := 0#32
  ![v9062.toNat, 0]

def k0_chk504 (v9058 : BitVec 32) : Prop :=
  (8 ∣ (k0_mult504 v9058).toNat) ∧
  (∀ a, (k0_off1008 v9058) a + S8x128.size a ≤ S10000x128.size a)
theorem k0_mult504_dvd : ∀ (v9058 : BitVec 32) (k0_hw504 : k0_chk504 v9058), 8 ∣ (k0_mult504 v9058).toNat := fun v9058 k0_hw504 => k0_hw504.1
theorem k0_off1008_inb : ∀ (v9058 : BitVec 32) (k0_hw504 : k0_chk504 v9058), ∀ a, (k0_off1008 v9058) a + S8x128.size a ≤ S10000x128.size a := fun v9058 k0_hw504 => k0_hw504.2

def k0_off1009 (i : grid0.Coords) : Fin 2 → Nat :=
  let arg0 : BitVec 32 := BitVec.ofNat 32 (i 0).val
  let c4_i32 : BitVec 32 := 4#32
  let v0 : BitVec 32 := Scalar.muli arg0 c4_i32
  let c3_i32_4530 : BitVec 32 := 3#32
  let v9074 : BitVec 32 := Scalar.addi v0 c3_i32_4530
  let v9075 : Index := Scalar.indexCast v9074
  let c120_4531 : Index := 120#32
  ![v9075.toNat, 120]
def k0_mult505 (v9076 : BitVec 32) : BitVec 32 :=
  let c3_i32_4532 : BitVec 32 := 3#32
  let v9077 : BitVec 32 := Scalar.shrsi v9076 c3_i32_4532
  let c3_i32_4533 : BitVec 32 := 3#32
  let v9078 : BitVec 32 := Scalar.shli v9077 c3_i32_4533
  v9078

def k0_off1010 (v9076 : BitVec 32) : Fin 2 → Nat :=
  let c3_i32_4532 : BitVec 32 := 3#32
  let v9077 : BitVec 32 := Scalar.shrsi v9076 c3_i32_4532
  let c3_i32_4533 : BitVec 32 := 3#32
  let v9078 : BitVec 32 := Scalar.shli v9077 c3_i32_4533
  let v9079 : BitVec 32 := v9078
  let v9080 : Index := Scalar.indexCast v9079
  let c0_4534 : Index := 0#32
  ![v9080.toNat, 0]

def k0_chk505 (v9076 : BitVec 32) : Prop :=
  (8 ∣ (k0_mult505 v9076).toNat) ∧
  (∀ a, (k0_off1010 v9076) a + S8x128.size a ≤ S10000x128.size a)
theorem k0_mult505_dvd : ∀ (v9076 : BitVec 32) (k0_hw505 : k0_chk505 v9076), 8 ∣ (k0_mult505 v9076).toNat := fun v9076 k0_hw505 => k0_hw505.1
theorem k0_off1010_inb : ∀ (v9076 : BitVec 32) (k0_hw505 : k0_chk505 v9076), ∀ a, (k0_off1010 v9076) a + S8x128.size a ≤ S10000x128.size a := fun v9076 k0_hw505 => k0_hw505.2

def k0_off1011 (i : grid0.Coords) : Fin 2 → Nat :=
  let arg0 : BitVec 32 := BitVec.ofNat 32 (i 0).val
  let c4_i32 : BitVec 32 := 4#32
  let v0 : BitVec 32 := Scalar.muli arg0 c4_i32
  let c3_i32_4539 : BitVec 32 := 3#32
  let v9092 : BitVec 32 := Scalar.addi v0 c3_i32_4539
  let v9093 : Index := Scalar.indexCast v9092
  let c121_4540 : Index := 121#32
  ![v9093.toNat, 121]
def k0_mult506 (v9094 : BitVec 32) : BitVec 32 :=
  let c3_i32_4541 : BitVec 32 := 3#32
  let v9095 : BitVec 32 := Scalar.shrsi v9094 c3_i32_4541
  let c3_i32_4542 : BitVec 32 := 3#32
  let v9096 : BitVec 32 := Scalar.shli v9095 c3_i32_4542
  v9096

def k0_off1012 (v9094 : BitVec 32) : Fin 2 → Nat :=
  let c3_i32_4541 : BitVec 32 := 3#32
  let v9095 : BitVec 32 := Scalar.shrsi v9094 c3_i32_4541
  let c3_i32_4542 : BitVec 32 := 3#32
  let v9096 : BitVec 32 := Scalar.shli v9095 c3_i32_4542
  let v9097 : BitVec 32 := v9096
  let v9098 : Index := Scalar.indexCast v9097
  let c0_4543 : Index := 0#32
  ![v9098.toNat, 0]

def k0_chk506 (v9094 : BitVec 32) : Prop :=
  (8 ∣ (k0_mult506 v9094).toNat) ∧
  (∀ a, (k0_off1012 v9094) a + S8x128.size a ≤ S10000x128.size a)
theorem k0_mult506_dvd : ∀ (v9094 : BitVec 32) (k0_hw506 : k0_chk506 v9094), 8 ∣ (k0_mult506 v9094).toNat := fun v9094 k0_hw506 => k0_hw506.1
theorem k0_off1012_inb : ∀ (v9094 : BitVec 32) (k0_hw506 : k0_chk506 v9094), ∀ a, (k0_off1012 v9094) a + S8x128.size a ≤ S10000x128.size a := fun v9094 k0_hw506 => k0_hw506.2

def k0_off1013 (i : grid0.Coords) : Fin 2 → Nat :=
  let arg0 : BitVec 32 := BitVec.ofNat 32 (i 0).val
  let c4_i32 : BitVec 32 := 4#32
  let v0 : BitVec 32 := Scalar.muli arg0 c4_i32
  let c3_i32_4548 : BitVec 32 := 3#32
  let v9110 : BitVec 32 := Scalar.addi v0 c3_i32_4548
  let v9111 : Index := Scalar.indexCast v9110
  let c122_4549 : Index := 122#32
  ![v9111.toNat, 122]
def k0_mult507 (v9112 : BitVec 32) : BitVec 32 :=
  let c3_i32_4550 : BitVec 32 := 3#32
  let v9113 : BitVec 32 := Scalar.shrsi v9112 c3_i32_4550
  let c3_i32_4551 : BitVec 32 := 3#32
  let v9114 : BitVec 32 := Scalar.shli v9113 c3_i32_4551
  v9114

def k0_off1014 (v9112 : BitVec 32) : Fin 2 → Nat :=
  let c3_i32_4550 : BitVec 32 := 3#32
  let v9113 : BitVec 32 := Scalar.shrsi v9112 c3_i32_4550
  let c3_i32_4551 : BitVec 32 := 3#32
  let v9114 : BitVec 32 := Scalar.shli v9113 c3_i32_4551
  let v9115 : BitVec 32 := v9114
  let v9116 : Index := Scalar.indexCast v9115
  let c0_4552 : Index := 0#32
  ![v9116.toNat, 0]

def k0_chk507 (v9112 : BitVec 32) : Prop :=
  (8 ∣ (k0_mult507 v9112).toNat) ∧
  (∀ a, (k0_off1014 v9112) a + S8x128.size a ≤ S10000x128.size a)
theorem k0_mult507_dvd : ∀ (v9112 : BitVec 32) (k0_hw507 : k0_chk507 v9112), 8 ∣ (k0_mult507 v9112).toNat := fun v9112 k0_hw507 => k0_hw507.1
theorem k0_off1014_inb : ∀ (v9112 : BitVec 32) (k0_hw507 : k0_chk507 v9112), ∀ a, (k0_off1014 v9112) a + S8x128.size a ≤ S10000x128.size a := fun v9112 k0_hw507 => k0_hw507.2

def k0_off1015 (i : grid0.Coords) : Fin 2 → Nat :=
  let arg0 : BitVec 32 := BitVec.ofNat 32 (i 0).val
  let c4_i32 : BitVec 32 := 4#32
  let v0 : BitVec 32 := Scalar.muli arg0 c4_i32
  let c3_i32_4557 : BitVec 32 := 3#32
  let v9128 : BitVec 32 := Scalar.addi v0 c3_i32_4557
  let v9129 : Index := Scalar.indexCast v9128
  let c123_4558 : Index := 123#32
  ![v9129.toNat, 123]
def k0_mult508 (v9130 : BitVec 32) : BitVec 32 :=
  let c3_i32_4559 : BitVec 32 := 3#32
  let v9131 : BitVec 32 := Scalar.shrsi v9130 c3_i32_4559
  let c3_i32_4560 : BitVec 32 := 3#32
  let v9132 : BitVec 32 := Scalar.shli v9131 c3_i32_4560
  v9132

def k0_off1016 (v9130 : BitVec 32) : Fin 2 → Nat :=
  let c3_i32_4559 : BitVec 32 := 3#32
  let v9131 : BitVec 32 := Scalar.shrsi v9130 c3_i32_4559
  let c3_i32_4560 : BitVec 32 := 3#32
  let v9132 : BitVec 32 := Scalar.shli v9131 c3_i32_4560
  let v9133 : BitVec 32 := v9132
  let v9134 : Index := Scalar.indexCast v9133
  let c0_4561 : Index := 0#32
  ![v9134.toNat, 0]

def k0_chk508 (v9130 : BitVec 32) : Prop :=
  (8 ∣ (k0_mult508 v9130).toNat) ∧
  (∀ a, (k0_off1016 v9130) a + S8x128.size a ≤ S10000x128.size a)
theorem k0_mult508_dvd : ∀ (v9130 : BitVec 32) (k0_hw508 : k0_chk508 v9130), 8 ∣ (k0_mult508 v9130).toNat := fun v9130 k0_hw508 => k0_hw508.1
theorem k0_off1016_inb : ∀ (v9130 : BitVec 32) (k0_hw508 : k0_chk508 v9130), ∀ a, (k0_off1016 v9130) a + S8x128.size a ≤ S10000x128.size a := fun v9130 k0_hw508 => k0_hw508.2

def k0_off1017 (i : grid0.Coords) : Fin 2 → Nat :=
  let arg0 : BitVec 32 := BitVec.ofNat 32 (i 0).val
  let c4_i32 : BitVec 32 := 4#32
  let v0 : BitVec 32 := Scalar.muli arg0 c4_i32
  let c3_i32_4566 : BitVec 32 := 3#32
  let v9146 : BitVec 32 := Scalar.addi v0 c3_i32_4566
  let v9147 : Index := Scalar.indexCast v9146
  let c124_4567 : Index := 124#32
  ![v9147.toNat, 124]
def k0_mult509 (v9148 : BitVec 32) : BitVec 32 :=
  let c3_i32_4568 : BitVec 32 := 3#32
  let v9149 : BitVec 32 := Scalar.shrsi v9148 c3_i32_4568
  let c3_i32_4569 : BitVec 32 := 3#32
  let v9150 : BitVec 32 := Scalar.shli v9149 c3_i32_4569
  v9150

def k0_off1018 (v9148 : BitVec 32) : Fin 2 → Nat :=
  let c3_i32_4568 : BitVec 32 := 3#32
  let v9149 : BitVec 32 := Scalar.shrsi v9148 c3_i32_4568
  let c3_i32_4569 : BitVec 32 := 3#32
  let v9150 : BitVec 32 := Scalar.shli v9149 c3_i32_4569
  let v9151 : BitVec 32 := v9150
  let v9152 : Index := Scalar.indexCast v9151
  let c0_4570 : Index := 0#32
  ![v9152.toNat, 0]

def k0_chk509 (v9148 : BitVec 32) : Prop :=
  (8 ∣ (k0_mult509 v9148).toNat) ∧
  (∀ a, (k0_off1018 v9148) a + S8x128.size a ≤ S10000x128.size a)
theorem k0_mult509_dvd : ∀ (v9148 : BitVec 32) (k0_hw509 : k0_chk509 v9148), 8 ∣ (k0_mult509 v9148).toNat := fun v9148 k0_hw509 => k0_hw509.1
theorem k0_off1018_inb : ∀ (v9148 : BitVec 32) (k0_hw509 : k0_chk509 v9148), ∀ a, (k0_off1018 v9148) a + S8x128.size a ≤ S10000x128.size a := fun v9148 k0_hw509 => k0_hw509.2

def k0_off1019 (i : grid0.Coords) : Fin 2 → Nat :=
  let arg0 : BitVec 32 := BitVec.ofNat 32 (i 0).val
  let c4_i32 : BitVec 32 := 4#32
  let v0 : BitVec 32 := Scalar.muli arg0 c4_i32
  let c3_i32_4575 : BitVec 32 := 3#32
  let v9164 : BitVec 32 := Scalar.addi v0 c3_i32_4575
  let v9165 : Index := Scalar.indexCast v9164
  let c125_4576 : Index := 125#32
  ![v9165.toNat, 125]
def k0_mult510 (v9166 : BitVec 32) : BitVec 32 :=
  let c3_i32_4577 : BitVec 32 := 3#32
  let v9167 : BitVec 32 := Scalar.shrsi v9166 c3_i32_4577
  let c3_i32_4578 : BitVec 32 := 3#32
  let v9168 : BitVec 32 := Scalar.shli v9167 c3_i32_4578
  v9168

def k0_off1020 (v9166 : BitVec 32) : Fin 2 → Nat :=
  let c3_i32_4577 : BitVec 32 := 3#32
  let v9167 : BitVec 32 := Scalar.shrsi v9166 c3_i32_4577
  let c3_i32_4578 : BitVec 32 := 3#32
  let v9168 : BitVec 32 := Scalar.shli v9167 c3_i32_4578
  let v9169 : BitVec 32 := v9168
  let v9170 : Index := Scalar.indexCast v9169
  let c0_4579 : Index := 0#32
  ![v9170.toNat, 0]

def k0_chk510 (v9166 : BitVec 32) : Prop :=
  (8 ∣ (k0_mult510 v9166).toNat) ∧
  (∀ a, (k0_off1020 v9166) a + S8x128.size a ≤ S10000x128.size a)
theorem k0_mult510_dvd : ∀ (v9166 : BitVec 32) (k0_hw510 : k0_chk510 v9166), 8 ∣ (k0_mult510 v9166).toNat := fun v9166 k0_hw510 => k0_hw510.1
theorem k0_off1020_inb : ∀ (v9166 : BitVec 32) (k0_hw510 : k0_chk510 v9166), ∀ a, (k0_off1020 v9166) a + S8x128.size a ≤ S10000x128.size a := fun v9166 k0_hw510 => k0_hw510.2

def k0_off1021 (i : grid0.Coords) : Fin 2 → Nat :=
  let arg0 : BitVec 32 := BitVec.ofNat 32 (i 0).val
  let c4_i32 : BitVec 32 := 4#32
  let v0 : BitVec 32 := Scalar.muli arg0 c4_i32
  let c3_i32_4584 : BitVec 32 := 3#32
  let v9182 : BitVec 32 := Scalar.addi v0 c3_i32_4584
  let v9183 : Index := Scalar.indexCast v9182
  let c126_4585 : Index := 126#32
  ![v9183.toNat, 126]
def k0_mult511 (v9184 : BitVec 32) : BitVec 32 :=
  let c3_i32_4586 : BitVec 32 := 3#32
  let v9185 : BitVec 32 := Scalar.shrsi v9184 c3_i32_4586
  let c3_i32_4587 : BitVec 32 := 3#32
  let v9186 : BitVec 32 := Scalar.shli v9185 c3_i32_4587
  v9186

def k0_off1022 (v9184 : BitVec 32) : Fin 2 → Nat :=
  let c3_i32_4586 : BitVec 32 := 3#32
  let v9185 : BitVec 32 := Scalar.shrsi v9184 c3_i32_4586
  let c3_i32_4587 : BitVec 32 := 3#32
  let v9186 : BitVec 32 := Scalar.shli v9185 c3_i32_4587
  let v9187 : BitVec 32 := v9186
  let v9188 : Index := Scalar.indexCast v9187
  let c0_4588 : Index := 0#32
  ![v9188.toNat, 0]

def k0_chk511 (v9184 : BitVec 32) : Prop :=
  (8 ∣ (k0_mult511 v9184).toNat) ∧
  (∀ a, (k0_off1022 v9184) a + S8x128.size a ≤ S10000x128.size a)
theorem k0_mult511_dvd : ∀ (v9184 : BitVec 32) (k0_hw511 : k0_chk511 v9184), 8 ∣ (k0_mult511 v9184).toNat := fun v9184 k0_hw511 => k0_hw511.1
theorem k0_off1022_inb : ∀ (v9184 : BitVec 32) (k0_hw511 : k0_chk511 v9184), ∀ a, (k0_off1022 v9184) a + S8x128.size a ≤ S10000x128.size a := fun v9184 k0_hw511 => k0_hw511.2

def k0_off1023 (i : grid0.Coords) : Fin 2 → Nat :=
  let arg0 : BitVec 32 := BitVec.ofNat 32 (i 0).val
  let c4_i32 : BitVec 32 := 4#32
  let v0 : BitVec 32 := Scalar.muli arg0 c4_i32
  let c3_i32_4593 : BitVec 32 := 3#32
  let v9200 : BitVec 32 := Scalar.addi v0 c3_i32_4593
  let v9201 : Index := Scalar.indexCast v9200
  let c127_4594 : Index := 127#32
  ![v9201.toNat, 127]
def k0_mult512 (v9202 : BitVec 32) : BitVec 32 :=
  let c3_i32_4595 : BitVec 32 := 3#32
  let v9203 : BitVec 32 := Scalar.shrsi v9202 c3_i32_4595
  let c3_i32_4596 : BitVec 32 := 3#32
  let v9204 : BitVec 32 := Scalar.shli v9203 c3_i32_4596
  v9204

def k0_off1024 (v9202 : BitVec 32) : Fin 2 → Nat :=
  let c3_i32_4595 : BitVec 32 := 3#32
  let v9203 : BitVec 32 := Scalar.shrsi v9202 c3_i32_4595
  let c3_i32_4596 : BitVec 32 := 3#32
  let v9204 : BitVec 32 := Scalar.shli v9203 c3_i32_4596
  let v9205 : BitVec 32 := v9204
  let v9206 : Index := Scalar.indexCast v9205
  let c0_4597 : Index := 0#32
  ![v9206.toNat, 0]

def k0_chk512 (v9202 : BitVec 32) : Prop :=
  (8 ∣ (k0_mult512 v9202).toNat) ∧
  (∀ a, (k0_off1024 v9202) a + S8x128.size a ≤ S10000x128.size a)
theorem k0_mult512_dvd : ∀ (v9202 : BitVec 32) (k0_hw512 : k0_chk512 v9202), 8 ∣ (k0_mult512 v9202).toNat := fun v9202 k0_hw512 => k0_hw512.1
theorem k0_off1024_inb : ∀ (v9202 : BitVec 32) (k0_hw512 : k0_chk512 v9202), ∀ a, (k0_off1024 v9202) a + S8x128.size a ≤ S10000x128.size a := fun v9202 k0_hw512 => k0_hw512.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S456x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

@[reducible] def k1_t1_loop : Scf.Loop 32 :=
  let c0_i32 : BitVec 32 := 0#32
  let c200_i32 : BitVec 32 := 200#32
  let v16 : BitVec 32 := Scalar.addi c0_i32 c200_i32
  let c1_i32 : BitVec 32 := 1#32
  ⟨c0_i32, v16, c1_i32⟩
def k1_off1 (k1_t1 : Fin k1_t1_loop.trips) : Fin 3 → Nat :=
  let c0_i32 : BitVec 32 := 0#32
  let c1_i32 : BitVec 32 := 1#32
  let arg6 : BitVec 32 := Scf.iv c0_i32 c1_i32 k1_t1
  let v144 : Index := Scalar.indexCast arg6
  let c0_157 : Index := 0#32
  let c0_158 : Index := 0#32
  ![v144.toNat, 0, 0]
def k1_off2 (k1_t1 : Fin k1_t1_loop.trips) : Fin 3 → Nat :=
  let c0_i32 : BitVec 32 := 0#32
  let c1_i32 : BitVec 32 := 1#32
  let arg6 : BitVec 32 := Scf.iv c0_i32 c1_i32 k1_t1
  let c64_i32 : BitVec 32 := 64#32
  let v150 : BitVec 32 := Scalar.muli arg6 c64_i32
  let c0_i32_161 : BitVec 32 := 0#32
  let v151 : BitVec 32 := Scalar.addi v150 c0_i32_161
  let v152 : Index := Scalar.indexCast v151
  let c0_162 : Index := 0#32
  let c0_163 : Index := 0#32
  ![v152.toNat, 0, 0]
@[reducible] def k1_t2_loop : Scf.Loop 32 :=
  let c0_i32_33 : BitVec 32 := 0#32
  let c200_i32_34 : BitVec 32 := 200#32
  let v34 : BitVec 32 := Scalar.addi c0_i32_33 c200_i32_34
  let c1_i32_35 : BitVec 32 := 1#32
  ⟨c0_i32_33, v34, c1_i32_35⟩
def k1_off3 (k1_t2 : Fin k1_t2_loop.trips) : Fin 3 → Nat :=
  let c0_i32_33 : BitVec 32 := 0#32
  let c1_i32_35 : BitVec 32 := 1#32
  let arg6 : BitVec 32 := Scf.iv c0_i32_33 c1_i32_35 k1_t2
  let v144 : Index := Scalar.indexCast arg6
  let c0_157 : Index := 0#32
  let c0_158 : Index := 0#32
  ![v144.toNat, 0, 0]
def k1_off4 (k1_t2 : Fin k1_t2_loop.trips) : Fin 3 → Nat :=
  let c0_i32_33 : BitVec 32 := 0#32
  let c1_i32_35 : BitVec 32 := 1#32
  let arg6 : BitVec 32 := Scf.iv c0_i32_33 c1_i32_35 k1_t2
  let c64_i32 : BitVec 32 := 64#32
  let v150 : BitVec 32 := Scalar.muli arg6 c64_i32
  let c8_i32 : BitVec 32 := 8#32
  let v151 : BitVec 32 := Scalar.addi v150 c8_i32
  let v152 : Index := Scalar.indexCast v151
  let c0_161 : Index := 0#32
  let c0_162 : Index := 0#32
  ![v152.toNat, 0, 0]
@[reducible] def k1_t3_loop : Scf.Loop 32 :=
  let c0_i32_53 : BitVec 32 := 0#32
  let c200_i32_54 : BitVec 32 := 200#32
  let v52 : BitVec 32 := Scalar.addi c0_i32_53 c200_i32_54
  let c1_i32_55 : BitVec 32 := 1#32
  ⟨c0_i32_53, v52, c1_i32_55⟩
def k1_off5 (k1_t3 : Fin k1_t3_loop.trips) : Fin 3 → Nat :=
  let c0_i32_53 : BitVec 32 := 0#32
  let c1_i32_55 : BitVec 32 := 1#32
  let arg6 : BitVec 32 := Scf.iv c0_i32_53 c1_i32_55 k1_t3
  let v144 : Index := Scalar.indexCast arg6
  let c0_157 : Index := 0#32
  let c0_158 : Index := 0#32
  ![v144.toNat, 0, 0]
def k1_off6 (k1_t3 : Fin k1_t3_loop.trips) : Fin 3 → Nat :=
  let c0_i32_53 : BitVec 32 := 0#32
  let c1_i32_55 : BitVec 32 := 1#32
  let arg6 : BitVec 32 := Scf.iv c0_i32_53 c1_i32_55 k1_t3
  let c64_i32 : BitVec 32 := 64#32
  let v150 : BitVec 32 := Scalar.muli arg6 c64_i32
  let c16_i32 : BitVec 32 := 16#32
  let v151 : BitVec 32 := Scalar.addi v150 c16_i32
  let v152 : Index := Scalar.indexCast v151
  let c0_161 : Index := 0#32
  let c0_162 : Index := 0#32
  ![v152.toNat, 0, 0]
@[reducible] def k1_t4_loop : Scf.Loop 32 :=
  let c0_i32_73 : BitVec 32 := 0#32
  let c200_i32_74 : BitVec 32 := 200#32
  let v70 : BitVec 32 := Scalar.addi c0_i32_73 c200_i32_74
  let c1_i32_75 : BitVec 32 := 1#32
  ⟨c0_i32_73, v70, c1_i32_75⟩
def k1_off7 (k1_t4 : Fin k1_t4_loop.trips) : Fin 3 → Nat :=
  let c0_i32_73 : BitVec 32 := 0#32
  let c1_i32_75 : BitVec 32 := 1#32
  let arg6 : BitVec 32 := Scf.iv c0_i32_73 c1_i32_75 k1_t4
  let v144 : Index := Scalar.indexCast arg6
  let c0_157 : Index := 0#32
  let c0_158 : Index := 0#32
  ![v144.toNat, 0, 0]
def k1_off8 (k1_t4 : Fin k1_t4_loop.trips) : Fin 3 → Nat :=
  let c0_i32_73 : BitVec 32 := 0#32
  let c1_i32_75 : BitVec 32 := 1#32
  let arg6 : BitVec 32 := Scf.iv c0_i32_73 c1_i32_75 k1_t4
  let c64_i32 : BitVec 32 := 64#32
  let v150 : BitVec 32 := Scalar.muli arg6 c64_i32
  let c24_i32 : BitVec 32 := 24#32
  let v151 : BitVec 32 := Scalar.addi v150 c24_i32
  let v152 : Index := Scalar.indexCast v151
  let c0_161 : Index := 0#32
  let c0_162 : Index := 0#32
  ![v152.toNat, 0, 0]
@[reducible] def k1_t5_loop : Scf.Loop 32 :=
  let c0_i32_93 : BitVec 32 := 0#32
  let c200_i32_94 : BitVec 32 := 200#32
  let v88 : BitVec 32 := Scalar.addi c0_i32_93 c200_i32_94
  let c1_i32_95 : BitVec 32 := 1#32
  ⟨c0_i32_93, v88, c1_i32_95⟩
def k1_off9 (k1_t5 : Fin k1_t5_loop.trips) : Fin 3 → Nat :=
  let c0_i32_93 : BitVec 32 := 0#32
  let c1_i32_95 : BitVec 32 := 1#32
  let arg6 : BitVec 32 := Scf.iv c0_i32_93 c1_i32_95 k1_t5
  let v144 : Index := Scalar.indexCast arg6
  let c0_157 : Index := 0#32
  let c0_158 : Index := 0#32
  ![v144.toNat, 0, 0]
def k1_off10 (k1_t5 : Fin k1_t5_loop.trips) : Fin 3 → Nat :=
  let c0_i32_93 : BitVec 32 := 0#32
  let c1_i32_95 : BitVec 32 := 1#32
  let arg6 : BitVec 32 := Scf.iv c0_i32_93 c1_i32_95 k1_t5
  let c64_i32 : BitVec 32 := 64#32
  let v150 : BitVec 32 := Scalar.muli arg6 c64_i32
  let c32_i32 : BitVec 32 := 32#32
  let v151 : BitVec 32 := Scalar.addi v150 c32_i32
  let v152 : Index := Scalar.indexCast v151
  let c0_161 : Index := 0#32
  let c0_162 : Index := 0#32
  ![v152.toNat, 0, 0]
@[reducible] def k1_t6_loop : Scf.Loop 32 :=
  let c0_i32_113 : BitVec 32 := 0#32
  let c200_i32_114 : BitVec 32 := 200#32
  let v106 : BitVec 32 := Scalar.addi c0_i32_113 c200_i32_114
  let c1_i32_115 : BitVec 32 := 1#32
  ⟨c0_i32_113, v106, c1_i32_115⟩
def k1_off11 (k1_t6 : Fin k1_t6_loop.trips) : Fin 3 → Nat :=
  let c0_i32_113 : BitVec 32 := 0#32
  let c1_i32_115 : BitVec 32 := 1#32
  let arg6 : BitVec 32 := Scf.iv c0_i32_113 c1_i32_115 k1_t6
  let v144 : Index := Scalar.indexCast arg6
  let c0_157 : Index := 0#32
  let c0_158 : Index := 0#32
  ![v144.toNat, 0, 0]
def k1_off12 (k1_t6 : Fin k1_t6_loop.trips) : Fin 3 → Nat :=
  let c0_i32_113 : BitVec 32 := 0#32
  let c1_i32_115 : BitVec 32 := 1#32
  let arg6 : BitVec 32 := Scf.iv c0_i32_113 c1_i32_115 k1_t6
  let c64_i32 : BitVec 32 := 64#32
  let v150 : BitVec 32 := Scalar.muli arg6 c64_i32
  let c40_i32 : BitVec 32 := 40#32
  let v151 : BitVec 32 := Scalar.addi v150 c40_i32
  let v152 : Index := Scalar.indexCast v151
  let c0_161 : Index := 0#32
  let c0_162 : Index := 0#32
  ![v152.toNat, 0, 0]
@[reducible] def k1_t7_loop : Scf.Loop 32 :=
  let c0_i32_133 : BitVec 32 := 0#32
  let c200_i32_134 : BitVec 32 := 200#32
  let v124 : BitVec 32 := Scalar.addi c0_i32_133 c200_i32_134
  let c1_i32_135 : BitVec 32 := 1#32
  ⟨c0_i32_133, v124, c1_i32_135⟩
def k1_off13 (k1_t7 : Fin k1_t7_loop.trips) : Fin 3 → Nat :=
  let c0_i32_133 : BitVec 32 := 0#32
  let c1_i32_135 : BitVec 32 := 1#32
  let arg6 : BitVec 32 := Scf.iv c0_i32_133 c1_i32_135 k1_t7
  let v144 : Index := Scalar.indexCast arg6
  let c0_157 : Index := 0#32
  let c0_158 : Index := 0#32
  ![v144.toNat, 0, 0]
def k1_off14 (k1_t7 : Fin k1_t7_loop.trips) : Fin 3 → Nat :=
  let c0_i32_133 : BitVec 32 := 0#32
  let c1_i32_135 : BitVec 32 := 1#32
  let arg6 : BitVec 32 := Scf.iv c0_i32_133 c1_i32_135 k1_t7
  let c64_i32 : BitVec 32 := 64#32
  let v150 : BitVec 32 := Scalar.muli arg6 c64_i32
  let c48_i32 : BitVec 32 := 48#32
  let v151 : BitVec 32 := Scalar.addi v150 c48_i32
  let v152 : Index := Scalar.indexCast v151
  let c0_161 : Index := 0#32
  let c0_162 : Index := 0#32
  ![v152.toNat, 0, 0]
@[reducible] def k1_t8_loop : Scf.Loop 32 :=
  let c0_i32_153 : BitVec 32 := 0#32
  let c200_i32_154 : BitVec 32 := 200#32
  let v142 : BitVec 32 := Scalar.addi c0_i32_153 c200_i32_154
  let c1_i32_155 : BitVec 32 := 1#32
  ⟨c0_i32_153, v142, c1_i32_155⟩
def k1_off15 (k1_t8 : Fin k1_t8_loop.trips) : Fin 3 → Nat :=
  let c0_i32_153 : BitVec 32 := 0#32
  let c1_i32_155 : BitVec 32 := 1#32
  let arg6 : BitVec 32 := Scf.iv c0_i32_153 c1_i32_155 k1_t8
  let v144 : Index := Scalar.indexCast arg6
  let c0_157 : Index := 0#32
  let c0_158 : Index := 0#32
  ![v144.toNat, 0, 0]
def k1_off16 (k1_t8 : Fin k1_t8_loop.trips) : Fin 3 → Nat :=
  let c0_i32_153 : BitVec 32 := 0#32
  let c1_i32_155 : BitVec 32 := 1#32
  let arg6 : BitVec 32 := Scf.iv c0_i32_153 c1_i32_155 k1_t8
  let c64_i32 : BitVec 32 := 64#32
  let v150 : BitVec 32 := Scalar.muli arg6 c64_i32
  let c56_i32 : BitVec 32 := 56#32
  let v151 : BitVec 32 := Scalar.addi v150 c56_i32
  let v152 : Index := Scalar.indexCast v151
  let c0_161 : Index := 0#32
  let c0_162 : Index := 0#32
  ![v152.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S12800x1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S200x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S200x32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S25x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S25x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S25x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S25x1x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S128x200 : Shape := ⟨2, ![128, 200]⟩
abbrev S10000x128 : Shape := ⟨2, ![10000, 128]⟩
abbrev S2x128 : Shape := ⟨2, ![2, 128]⟩
abbrev S64x128 : Shape := ⟨2, ![64, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩
abbrev S128x200x1 : Shape := ⟨3, ![128, 200, 1]⟩
abbrev S128x200x128 : Shape := ⟨3, ![128, 200, 128]⟩
abbrev S128x200x64 : Shape := ⟨3, ![128, 200, 64]⟩
abbrev S1x1x128 : Shape := ⟨3, ![1, 1, 128]⟩
abbrev S1x64x128 : Shape := ⟨3, ![1, 64, 128]⟩
abbrev S128x64x128 : Shape := ⟨3, ![128, 64, 128]⟩
abbrev S200x128x64 : Shape := ⟨3, ![200, 128, 64]⟩
abbrev S200x128x128 : Shape := ⟨3, ![200, 128, 128]⟩
abbrev S1x128x64 : Shape := ⟨3, ![1, 128, 64]⟩
abbrev S128x64 : Shape := ⟨2, ![128, 64]⟩
abbrev S1x128x128 : Shape := ⟨3, ![1, 128, 128]⟩
abbrev S128x64x1 : Shape := ⟨3, ![128, 64, 1]⟩
abbrev S128x1x128 : Shape := ⟨3, ![128, 1, 128]⟩
abbrev S128x200x256 : Shape := ⟨3, ![128, 200, 256]⟩
abbrev S256x128 : Shape := ⟨2, ![256, 128]⟩
abbrev S128x1 : Shape := ⟨2, ![128, 1]⟩
abbrev S1x1x1 : Shape := ⟨3, ![1, 1, 1]⟩

abbrev nBuf : Space → Nat
  | .hbm => 158
  | .vmem => 0
  | .smem => 0
  | _ => 0

abbrev hbmTy0_0 (i : Nat) : BufTy := match i % 128 with
  | 0 => ⟨S128x200, .i32⟩
  | 1 => ⟨S128x200, .i32⟩
  | 2 => ⟨S10000x128, .f32⟩
  | 3 => ⟨S2x128, .f32⟩
  | 4 => ⟨S64x128, .f32⟩
  | 5 => ⟨S64x128, .f32⟩
  | 6 => ⟨S128x256, .f32⟩
  | 7 => ⟨S128, .f32⟩
  | 8 => ⟨S128x128, .f32⟩
  | 9 => ⟨S128, .f32⟩
  | 10 => ⟨S128x128, .f32⟩
  | 11 => ⟨S128, .f32⟩
  | 12 => ⟨S1x128, .f32⟩
  | 13 => ⟨S1, .f32⟩
  | 14 => ⟨S1x128, .f32⟩
  | 15 => ⟨S1, .f32⟩
  | 16 => ⟨S_, .i32⟩
  | 17 => ⟨S128x200, .i32⟩
  | 18 => ⟨S128x200, .i1⟩
  | 19 => ⟨S_, .i32⟩
  | 20 => ⟨S128x200, .i32⟩
  | 21 => ⟨S128x200, .i32⟩
  | 22 => ⟨S128x200, .i32⟩
  | 23 => ⟨S128x200x1, .i32⟩
  | 24 => ⟨S128x200x128, .f32⟩
  | 25 => ⟨S_, .i32⟩
  | 26 => ⟨S128x200, .i32⟩
  | 27 => ⟨S128x200, .i1⟩
  | 28 => ⟨S_, .i32⟩
  | 29 => ⟨S128x200, .i32⟩
  | 30 => ⟨S128x200, .i32⟩
  | 31 => ⟨S128x200, .i32⟩
  | 32 => ⟨S128x200x1, .i32⟩
  | 33 => ⟨S128x200x128, .f32⟩
  | 34 => ⟨S128x200x128, .f32⟩
  | 35 => ⟨S128x200x64, .f32⟩
  | 36 => ⟨S_, .f32⟩
  | 37 => ⟨S128x200, .f32⟩
  | 38 => ⟨S_, .f32⟩
  | 39 => ⟨S128x200, .f32⟩
  | 40 => ⟨S128x200, .f32⟩
  | 41 => ⟨S128x200x1, .f32⟩
  | 42 => ⟨S128x200x64, .f32⟩
  | 43 => ⟨S128x200x64, .f32⟩
  | 44 => ⟨S128x200x64, .f32⟩
  | 45 => ⟨S_, .f32⟩
  | 46 => ⟨S128x200, .f32⟩
  | 47 => ⟨S128x200x1, .f32⟩
  | 48 => ⟨S128x200x64, .f32⟩
  | 49 => ⟨S128x200x64, .f32⟩
  | 50 => ⟨S128x200x128, .f32⟩
  | 51 => ⟨S1x1x128, .f32⟩
  | 52 => ⟨S128x200x128, .f32⟩
  | 53 => ⟨S128x200x128, .f32⟩
  | 54 => ⟨S128x200x128, .f32⟩
  | 55 => ⟨S128x200x128, .f32⟩
  | 56 => ⟨S_, .f32⟩
  | 57 => ⟨S128x200x128, .f32⟩
  | 58 => ⟨S128x200x128, .f32⟩
  | 59 => ⟨S_, .f32⟩
  | 60 => ⟨S128x200x128, .f32⟩
  | 61 => ⟨S128x200x128, .f32⟩
  | 62 => ⟨S128x200x128, .f32⟩
  | 63 => ⟨S1x1x128, .f32⟩
  | 64 => ⟨S128x200x128, .f32⟩
  | 65 => ⟨S128x200x128, .f32⟩
  | 66 => ⟨S128x200x128, .f32⟩
  | 67 => ⟨S1x64x128, .f32⟩
  | 68 => ⟨S128x64x128, .f32⟩
  | 69 => ⟨S200x128x64, .f32⟩
  | 70 => ⟨S200x128x128, .f32⟩
  | 71 => ⟨S200x128x128, .f32⟩
  | 72 => ⟨S_, .f32⟩
  | 73 => ⟨S200x128x128, .f32⟩
  | 74 => ⟨S_, .i32⟩
  | 75 => ⟨S200x128x64, .f32⟩
  | 76 => ⟨S200x128x128, .f32⟩
  | 77 => ⟨S200x128x128, .f32⟩
  | 78 => ⟨S_, .i32⟩
  | 79 => ⟨S128x64x128, .f32⟩
  | 80 => ⟨S200x128x128, .f32⟩
  | 81 => ⟨S_, .i32⟩
  | 82 => ⟨S_, .i1⟩
  | 83 => ⟨S_, .i32⟩
  | 84 => ⟨S_, .i32⟩
  | 85 => ⟨S1x128x64, .f32⟩
  | 86 => ⟨S128x64, .f32⟩
  | 87 => ⟨S_, .i32⟩
  | 88 => ⟨S_, .i32⟩
  | 89 => ⟨S1x128x128, .f32⟩
  | 90 => ⟨S128x128, .f32⟩
  | 91 => ⟨S_, .i32⟩
  | 92 => ⟨S_, .i32⟩
  | 93 => ⟨S1x128x128, .f32⟩
  | 94 => ⟨S128x128, .f32⟩
  | 95 => ⟨S128x128, .f32⟩
  | 96 => ⟨S128x64x1, .f32⟩
  | 97 => ⟨S128x1x128, .f32⟩
  | 98 => ⟨S128x64x128, .f32⟩
  | 99 => ⟨S128x64x128, .f32⟩
  | 100 => ⟨S128x64x128, .f32⟩
  | 101 => ⟨S_, .f32⟩
  | 102 => ⟨S128x64x128, .f32⟩
  | 103 => ⟨S128x64x128, .f32⟩
  | 104 => ⟨S128x64x128, .f32⟩
  | 105 => ⟨S128x1x128, .f32⟩
  | 106 => ⟨S128x64x128, .f32⟩
  | 107 => ⟨S128x64x128, .f32⟩
  | 108 => ⟨S128x64x128, .f32⟩
  | 109 => ⟨S128x64x128, .f32⟩
  | 110 => ⟨S1x128x128, .f32⟩
  | 111 => ⟨S_, .i32⟩
  | 112 => ⟨S_, .i32⟩
  | 113 => ⟨S200x128x128, .f32⟩
  | 114 => ⟨S_, .i32⟩
  | 115 => ⟨S_, .i32⟩
  | 116 => ⟨S128x200x128, .f32⟩
  | 117 => ⟨S_, .i32⟩
  | 118 => ⟨S128x200, .i32⟩
  | 119 => ⟨S128x200, .i1⟩
  | 120 => ⟨S_, .i32⟩
  | 121 => ⟨S128x200, .i32⟩
  | 122 => ⟨S128x200, .i32⟩
  | 123 => ⟨S128x200, .i32⟩
  | 124 => ⟨S128x200x1, .i32⟩
  | 125 => ⟨S128x200x128, .f32⟩
  | 126 => ⟨S128x200x256, .f32⟩
  | 127 => ⟨S256x128, .f32⟩
  | _ => ⟨S128x200, .i32⟩

abbrev hbmTy0_1 (i : Nat) : BufTy := match i % 128 with
  | 0 => ⟨S128x200x128, .f32⟩
  | 1 => ⟨S1x1x128, .f32⟩
  | 2 => ⟨S128x200x128, .f32⟩
  | 3 => ⟨S128x200x128, .f32⟩
  | 4 => ⟨S128x200x128, .f32⟩
  | 5 => ⟨S128x1, .f32⟩
  | 6 => ⟨S128x200x1, .f32⟩
  | 7 => ⟨S1x1x1, .f32⟩
  | 8 => ⟨S128x200x1, .f32⟩
  | 9 => ⟨S128x200x1, .f32⟩
  | 10 => ⟨S128x200x1, .f32⟩
  | 11 => ⟨S128x1, .f32⟩
  | 12 => ⟨S128x200x1, .f32⟩
  | 13 => ⟨S1x1x1, .f32⟩
  | 14 => ⟨S128x200x1, .f32⟩
  | 15 => ⟨S128x200x1, .f32⟩
  | 16 => ⟨S128x200x1, .f32⟩
  | 17 => ⟨S_, .f32⟩
  | 18 => ⟨S128x200x1, .f32⟩
  | 19 => ⟨S128x200x1, .f32⟩
  | 20 => ⟨S128x200x1, .f32⟩
  | 21 => ⟨S128x200x1, .f32⟩
  | 22 => ⟨S128x200x1, .f32⟩
  | 23 => ⟨S_, .f32⟩
  | 24 => ⟨S128x200x1, .f32⟩
  | 25 => ⟨S128x200x1, .f32⟩
  | 26 => ⟨S_, .f32⟩
  | 27 => ⟨S128x200x1, .f32⟩
  | 28 => ⟨S128x200x1, .f32⟩
  | 29 => ⟨S128x200, .f32⟩
  | _ => ⟨S128x200, .i32⟩

abbrev hbmTy (i : Nat) : BufTy := match i / 128 with
  | 0 => hbmTy0_0 i
  | 1 => hbmTy0_1 i
  | _ => ⟨S128x200, .i32⟩

abbrev bufTy : (tb : Table) → Fin (tcTables nBuf tb) → BufTy
  | .hbm, ⟨i, _⟩ => hbmTy i
  | _, _ => ⟨S128x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_c_8 : Ref sig .tc := ⟨.hbm, 74, rfl⟩
abbrev main_v48_0 : Ref sig .tc := ⟨.hbm, 75, rfl⟩
abbrev main_v48_1 : Ref sig .tc := ⟨.hbm, 76, rfl⟩
abbrev main_v48_2 : Ref sig .tc := ⟨.hbm, 77, rfl⟩
abbrev main_v48_3 : Ref sig .tc := ⟨.hbm, 78, rfl⟩
abbrev main_v48_4 : Ref sig .tc := ⟨.hbm, 79, rfl⟩
abbrev main_v48_5 : Ref sig .tc := ⟨.hbm, 80, rfl⟩
abbrev main_while0c_c_19 : Ref sig .tc := ⟨.hbm, 81, rfl⟩
abbrev main_while0c_v86 : Ref sig .tc := ⟨.hbm, 82, rfl⟩
abbrev main_while0b_call0_c : Ref sig .tc := ⟨.hbm, 83, rfl⟩
abbrev main_while0b_call0_c_0 : Ref sig .tc := ⟨.hbm, 84, rfl⟩
abbrev main_while0b_call0_v0 : Ref sig .tc := ⟨.hbm, 85, rfl⟩
abbrev main_while0b_v86 : Ref sig .tc := ⟨.hbm, 86, rfl⟩
abbrev main_while0b_call1_c : Ref sig .tc := ⟨.hbm, 87, rfl⟩
abbrev main_while0b_call1_c_0 : Ref sig .tc := ⟨.hbm, 88, rfl⟩
abbrev main_while0b_call1_v0 : Ref sig .tc := ⟨.hbm, 89, rfl⟩
abbrev main_while0b_v87 : Ref sig .tc := ⟨.hbm, 90, rfl⟩
abbrev main_while0b_call2_c : Ref sig .tc := ⟨.hbm, 91, rfl⟩
abbrev main_while0b_call2_c_0 : Ref sig .tc := ⟨.hbm, 92, rfl⟩
abbrev main_while0b_call2_v0 : Ref sig .tc := ⟨.hbm, 93, rfl⟩
abbrev main_while0b_v88 : Ref sig .tc := ⟨.hbm, 94, rfl⟩
abbrev main_while0b_v89 : Ref sig .tc := ⟨.hbm, 95, rfl⟩
abbrev main_while0b_v90 : Ref sig .tc := ⟨.hbm, 96, rfl⟩
abbrev main_while0b_v91 : Ref sig .tc := ⟨.hbm, 97, rfl⟩
abbrev main_while0b_v92 : Ref sig .tc := ⟨.hbm, 98, rfl⟩
abbrev main_while0b_v93 : Ref sig .tc := ⟨.hbm, 99, rfl⟩
abbrev main_while0b_v94 : Ref sig .tc := ⟨.hbm, 100, rfl⟩
abbrev main_while0b_cst_19 : Ref sig .tc := ⟨.hbm, 101, rfl⟩
abbrev main_while0b_v95 : Ref sig .tc := ⟨.hbm, 102, rfl⟩
abbrev main_while0b_v96 : Ref sig .tc := ⟨.hbm, 103, rfl⟩
abbrev main_while0b_v97 : Ref sig .tc := ⟨.hbm, 104, rfl⟩
abbrev main_while0b_v98 : Ref sig .tc := ⟨.hbm, 105, rfl⟩
abbrev main_while0b_v99 : Ref sig .tc := ⟨.hbm, 106, rfl⟩
abbrev main_while0b_v100 : Ref sig .tc := ⟨.hbm, 107, rfl⟩
abbrev main_while0b_v101 : Ref sig .tc := ⟨.hbm, 108, rfl⟩
abbrev main_while0b_v102 : Ref sig .tc := ⟨.hbm, 109, rfl⟩
abbrev main_while0b_call3_v0 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_v103 : Ref sig .tc := ⟨.hbm, 113, rfl⟩
abbrev main_while0b_c_20 : Ref sig .tc := ⟨.hbm, 114, rfl⟩
abbrev main_while0b_v104 : Ref sig .tc := ⟨.hbm, 115, rfl⟩
abbrev main_v49 : Ref sig .tc := ⟨.hbm, 116, rfl⟩
abbrev main_c_9 : Ref sig .tc := ⟨.hbm, 117, rfl⟩
abbrev main_v50 : Ref sig .tc := ⟨.hbm, 118, rfl⟩
abbrev main_v51 : Ref sig .tc := ⟨.hbm, 119, rfl⟩
abbrev main_c_10 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_cst_11 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_cst_12 : Ref sig .tc := ⟨.hbm, 151, rfl⟩
abbrev main_v81 : Ref sig .tc := ⟨.hbm, 152, rfl⟩
abbrev main_v82 : Ref sig .tc := ⟨.hbm, 153, rfl⟩
abbrev main_cst_13 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩

abbrev nD : Nat := 1
abbrev τ : Topo := Topo.v7x

variable {F : FTy → Type} [FloatOps F]

abbrev main_while0_count : Scf.Loop 32 := ⟨0#32, 200#32, 1#32⟩
-- ==== Proof.Words.lean ====
/- The precondition's two ranges, read at each word of `q` and of `r`; and a word of `q` rounded down to a multiple of
   eight, as the first call computes it. -/
module

public import proofs.«01_k».proof.Pre_in_range
public import proofs.«01_k».proof.Proof.Gen.Pre_in_range
public import Idealize.ShloMosaic.Lib.ReduceAll

@[expose] public section

namespace Cert.Words

open Idealize.ShloMosaic Cert.Pre_in_range

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word that is at least zero and less than a positive bound, both compared as signed words, is below it unsigned. -/
theorem lt_of_signed (v : BitVec 32) (n : ℕ) (hn : n < 2 ^ 31)
    (h : IntOp.andi (IntOp.cmpi .sge v 0#32) (IntOp.cmpi .slt v (BitVec.ofNat 32 n)) = 1#1) : v.toNat < n := by
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  omega

variable {F : FTy → Type} [FloatOps F]

/-- The printed precondition says of every word of `q` that it is below 10000 and of every word of `r` that it is below 2. -/
theorem of_pre (q r : IVec S128x200 32) (x2 : FVec F S10000x128 .f32) (x3 : FVec F S2x128 .f32) (x4 x5 : FVec F S64x128 .f32)
    (x6 : FVec F S128x256 .f32) (x7 : FVec F S128 .f32) (x8 : FVec F S128x128 .f32) (x9 : FVec F S128 .f32) (x10 : FVec F S128x128 .f32)
    (x11 : FVec F S128 .f32) (x12 : FVec F S1x128 .f32) (x13 : FVec F S1 .f32) (x14 : FVec F S1x128 .f32) (x15 : FVec F S1 .f32)
    (h : fn (F := F) q r x2 x3 x4 x5 x6 x7 x8 x9 x10 x11 x12 x13 x14 x15 = fun _ => 1#1) :
    (∀ y, (q y).toNat < 10000) ∧ ∀ y, (r y).toNat < 2 := by
  have e := congrFun h (Shape.Idx.first (s := S_) Facts.h_S_)
  simp only [fn, andi] at e
  obtain ⟨e1, e2⟩ := IntOp.andi_eq_one.1 e
  haveI : Subsingleton S_.Idx := ⟨fun a b => funext fun i => i.elim0⟩
  exact ⟨fun y => lt_of_signed _ _ (by decide) (Host.reduce_andi_all _ _ _ _ _ e1 y),
    fun y => lt_of_signed _ _ (by decide) (Host.reduce_andi_all _ _ _ _ _ e2 y)⟩

/-- Three bits shifted out to the right and back in again: the multiple of eight at or below a word. -/
theorem down8 (v : BitVec 32) (h : v.toNat < 10000) : (Scalar.shli (Scalar.shrsi v 3#32) 3#32).toNat = v.toNat / 8 * 8 := by
  have hm : v.msb = false := BitVec.msb_eq_false_iff_two_mul_lt.2 (by omega)
  simp only [Scalar.shli, Scalar.shrsi, IntOp.shli, IntOp.shrsi, show (3#32 : BitVec 32).toNat = 3 from rfl, show 3 < 32 from by decide, if_true]
  rw [BitVec.sshiftRight', BitVec.sshiftRight_eq_of_msb_false hm]
  simp only [BitVec.toNat_shiftLeft, BitVec.shiftLeft_eq', BitVec.toNat_ushiftRight, show (3#32 : BitVec 32).toNat = 3 from rfl, Nat.shiftRight_eq_div_pow, Nat.shiftLeft_eq]
  omega

end Cert.Words
-- ==== Proof.Scan.lean ====
module

public import Idealize.ShloMosaic.Lib.ValueLayout
public import Idealize.ShloMosaic.Lib.Pipeline.Value

@[expose] public section

noncomputable section

/-! The scan kernel's arithmetic, written at an index: the memory rows after `t` steps, the read of a chunk of
    eight slots, and the read after some of the eight chunks. -/
namespace Scan

open Idealize.ShloMosaic Idealize.ShloMosaic.ValueIdx

variable {F : FTy → Type} [FloatOps F]

abbrev W3 (F : FTy → Type) := Vec F ⟨3, ![12800, 1, 128]⟩ .f32
abbrev E3 (F : FTy → Type) := Vec F ⟨3, ![200, 32, 128]⟩ .f32
abbrev M3 (F : FTy → Type) := Vec F ⟨3, ![64, 32, 128]⟩ .f32
abbrev R2 (F : FTy → Type) := FVec F ⟨2, ![32, 128]⟩ .f32

/-- The weight of slot `m` at step `t` for the sequence in lane `b`. -/
def wAt (w : W3 F) (m t : ℕ) (b : Fin 128) : F .f32 :=
  w (ix3 (Fin.ofNat 12800 (64 * t + m)) 0 b)

/-- An entry of the gates at step `t`. -/
def gAt (e : E3 F) (t : ℕ) (x : Shape.Idx ⟨2, ![32, 128]⟩) : F .f32 :=
  e (ix3 (Fin.ofNat 200 t) (x 0) (x 1))

/-- Slot `m` of the memory after `t` steps. -/
def row (w : W3 F) (e a : E3 F) (mv : M3 F) (m : ℕ) : ℕ → R2 F
  | 0 => fun x => mv (ix3 (Fin.ofNat 64 m) (x 0) (x 1))
  | t + 1 => fun x => FloatOps.subf (row w e a mv m t x)
      (FloatOps.mulf (wAt w m t (x 1))
        (FloatOps.subf (FloatOps.mulf (row w e a mv m t x) (gAt e t x)) (gAt a t x)))

/-- One slot's share of the read at step `t`. -/
def term (w : W3 F) (e a : E3 F) (mv : M3 F) (t m : ℕ) : R2 F :=
  fun x => FloatOps.mulf (wAt w m t (x 1)) (row w e a mv m t x)

/-- The read of chunk `n` (slots `8n … 8n+7`) at step `t`. -/
def chunk (w : W3 F) (e a : E3 F) (mv : M3 F) (n t : ℕ) : R2 F := fun x =>
  FloatOps.addf (FloatOps.addf (FloatOps.addf (FloatOps.addf (FloatOps.addf (FloatOps.addf (FloatOps.addf
    (term w e a mv t (8 * n) x) (term w e a mv t (8 * n + 1) x)) (term w e a mv t (8 * n + 2) x))
    (term w e a mv t (8 * n + 3) x)) (term w e a mv t (8 * n + 4) x)) (term w e a mv t (8 * n + 5) x))
    (term w e a mv t (8 * n + 6) x)) (term w e a mv t (8 * n + 7) x)

/-- The eight rows of chunk `n` after `t` steps. -/
def rows (w : W3 F) (e a : E3 F) (mv : M3 F) (n t : ℕ) :
    R2 F × R2 F × R2 F × R2 F × R2 F × R2 F × R2 F × R2 F :=
  (row w e a mv (8 * n) t, row w e a mv (8 * n + 1) t, row w e a mv (8 * n + 2) t, row w e a mv (8 * n + 3) t,
    row w e a mv (8 * n + 4) t, row w e a mv (8 * n + 5) t, row w e a mv (8 * n + 6) t, row w e a mv (8 * n + 7) t)

/-- The reads after `n` chunks: before the first, whatever the output held (`g`). -/
def out (w : W3 F) (e a : E3 F) (mv : M3 F) (g : E3 F) : ℕ → E3 F
  | 0 => g
  | 1 => fun y => chunk w e a mv 0 (y 0).val (ix2 (y 1) (y 2))
  | n + 2 => fun y => FloatOps.addf (out w e a mv g (n + 1) y) (chunk w e a mv (n + 1) (y 0).val (ix2 (y 1) (y 2)))

/-- The output within chunk `n`, its first `k` steps done. -/
def mid (w : W3 F) (e a : E3 F) (mv : M3 F) (g : E3 F) (n k : ℕ) : E3 F := fun y =>
  if (y 0).val < k then out w e a mv g (n + 1) y else out w e a mv g n y

theorem mid_zero (w : W3 F) (e a : E3 F) (mv : M3 F) (g : E3 F) (n : ℕ) : mid w e a mv g n 0 = out w e a mv g n := by
  funext y; simp [mid]

theorem mid_last (w : W3 F) (e a : E3 F) (mv : M3 F) (g : E3 F) (n k : ℕ) (hk : 200 ≤ k) :
    mid w e a mv g n k = out w e a mv g (n + 1) := by
  funext y
  have h : (y 0).val < 200 := (y 0).isLt
  simp [mid, lt_of_lt_of_le h hk]

/-- After at least one chunk nothing is left of what the output held. -/
theorem out_indep (w : W3 F) (e a : E3 F) (mv : M3 F) (g g' : E3 F) (n : ℕ) :
    out w e a mv g (n + 1) = out w e a mv g' (n + 1) := by
  induction n with
  | zero => rfl
  | succ n ih => funext y; simp only [out, ih]

end Scan
end
-- ==== Proof.ScanStep.lean ====
module

public import proofs.«01_k».proof.Proof.Scan
public import Idealize.ShloMosaic.Lib.Tactic
public import Idealize.ShloMosaic.Lib.WritesUnit
public import Idealize.ShloMosaic.Lib.Pipeline.FrameBody
public import Idealize.ShloMosaic.Lib.Pipeline.Kit

@[expose] public section

noncomputable section

/-! One step of the scan kernel's loop, from what its loads read to the arithmetic of `Scan`. -/
namespace Scan

open Idealize.ShloMosaic Idealize.ShloMosaic.ValueIdx

variable {F : FTy → Type} [FloatOps F]
variable {sig : RefSig} {κ : Kind} {sp : Space}

abbrev S1ab : Shape := ⟨3, ![1, 32, 128]⟩
abbrev Sab : Shape := ⟨2, ![32, 128]⟩
abbrev S81b : Shape := ⟨3, ![8, 1, 128]⟩
abbrev S11b : Shape := ⟨3, ![1, 1, 128]⟩
abbrev S1b : Shape := ⟨2, ![1, 128]⟩

/-- What a load of one row of a three-axis array reads. -/
theorem ld_row {n : ℕ} (m : Memref sig κ sp ⟨3, ![n, 32, 128]⟩ .f32) (hm : m.IsWhole) (X : Vec F ⟨3, ![n, 32, 128]⟩ .f32)
    (k : ℕ) (off : Fin 3 → ℕ) (hoff : off = ![k, 0, 0]) (hk : k < n)
    (inb : ∀ a, off a + S1ab.size a ≤ (⟨3, ![n, 32, 128]⟩ : Shape).size a) (y : S1ab.Idx) :
    View.readAt (Elt F) m.view (Rect.unit (s := ⟨3, ![n, 32, 128]⟩) off S1ab.size inb).toLoadRect (hm.unread X) y
      = X (ix3 ⟨k, hk⟩ (y 1) (y 2)) := by
  rw [View.readAt_apply, hm.read_unread]
  subst hoff
  refine congrArg X (funext fun a => Fin.ext ?_)
  have h0 : (y 0).val < 1 := (y 0).isLt
  match a with
  | ⟨0, _⟩ => show k + 1 * (y 0).val = k; omega
  | ⟨1, _⟩ => show 0 + 1 * (y 1).val = (y 1).val; omega
  | ⟨2, _⟩ => show 0 + 1 * (y 2).val = (y 2).val; omega

/-- A gate's row as the body uses it. -/
theorem gate_ld (m : Memref sig κ sp ⟨3, ![200, 32, 128]⟩ .f32) (hm : m.IsWhole) (X : E3 F)
    (k : ℕ) (off : Fin 3 → ℕ) (hoff : off = ![k, 0, 0]) (hk : k < 200)
    (inb : ∀ a, off a + S1ab.size a ≤ (⟨3, ![200, 32, 128]⟩ : Shape).size a) (h : S1ab.ShapeCasts Sab) (x : Sab.Idx) :
    shapeCast Sab (View.readAt (Elt F) m.view (Rect.unit (s := ⟨3, ![200, 32, 128]⟩) off S1ab.size inb).toLoadRect (hm.unread X) : S1ab.Idx → F .f32) h x
      = gAt X k x := by
  rw [eq_ix2 x]
  refine (shapeCast_1ab_ab_apply _ h (x 0) (x 1)).trans ?_
  rw [ld_row m hm X k off hoff hk inb]
  refine congrArg X ?_
  have : (⟨k, hk⟩ : Fin 200) = Fin.ofNat 200 k := Fin.ext (Nat.mod_eq_of_lt hk).symm
  rw [this]

/-- An initial row as the body uses it. -/
theorem init_ld (m : Memref sig κ sp ⟨3, ![64, 32, 128]⟩ .f32) (hm : m.IsWhole) (w : W3 F) (e a : E3 F) (X : M3 F)
    (k : ℕ) (off : Fin 3 → ℕ) (hoff : off = ![k, 0, 0]) (hk : k < 64)
    (inb : ∀ a, off a + S1ab.size a ≤ (⟨3, ![64, 32, 128]⟩ : Shape).size a) (h : S1ab.ShapeCasts Sab) :
    shapeCast Sab (View.readAt (Elt F) m.view (Rect.unit (s := ⟨3, ![64, 32, 128]⟩) off S1ab.size inb).toLoadRect (hm.unread X) : S1ab.Idx → F .f32) h
      = row w e a X k 0 := by
  funext x
  rw [eq_ix2 x]
  refine (shapeCast_1ab_ab_apply _ h (x 0) (x 1)).trans ?_
  rw [ld_row m hm X k off hoff hk inb]
  refine congrArg X ?_
  have : (⟨k, hk⟩ : Fin 64) = Fin.ofNat 64 k := Fin.ext (Nat.mod_eq_of_lt hk).symm
  rw [this]

/-- One slot's weights as the body uses them. -/
theorem weight_ld (m : Memref sig κ sp ⟨3, ![12800, 1, 128]⟩ .f32) (hm : m.IsWhole) (X : W3 F)
    (n j k : ℕ) (off : Fin 3 → ℕ) (hoff : off = ![64 * k + 8 * n, 0, 0]) (hk : k < 200) (hn : n < 8) (hj : j < 8)
    (inb : ∀ a, off a + S81b.size a ≤ (⟨3, ![12800, 1, 128]⟩ : Shape).size a) (h8 : S81b.ShapeCasts S81b)
    (hs : S81b.Slices ![j, 0, 0] S11b) (h1 : S11b.ShapeCasts S1b) (hb : S1b.Broadcasts Sab) (x : Sab.Idx) :
    broadcastTo Sab (shapeCast S1b (extractStridedSlice S11b ![j, 0, 0] (shapeCast S81b
        (View.readAt (Elt F) m.view (Rect.unit (s := ⟨3, ![12800, 1, 128]⟩) off S81b.size inb).toLoadRect (hm.unread X) : S81b.Idx → F .f32) h8) hs) h1) hb x
      = wAt X (8 * n + j) k (x 1) := by
  obtain ⟨p, l, rfl⟩ : ∃ (p : Fin 32) (l : Fin 128), x = ix2 p l := ⟨_, _, eq_ix2 x⟩
  show _ = wAt X (8 * n + j) k l
  refine (broadcastTo_1b_ab_apply _ hb p l).trans ?_
  refine (shapeCast_1ab_ab_apply _ h1 (0 : Fin 1) l).trans ?_
  refine (extractStridedSlice_apply (s := S81b) (t := S11b) ![j, 0, 0] _ hs _ (ix3 ⟨j, hj⟩ 0 l)
    (fun a => by match a with | ⟨0, _⟩ => rfl | ⟨1, _⟩ => rfl | ⟨2, _⟩ => exact (Nat.zero_add _).symm)).trans ?_
  refine (congrFun (shapeCast_self (s := S81b) _ h8) _).trans ?_
  rw [View.readAt_apply, hm.read_unread]
  subst hoff
  refine congrArg X (funext fun a => Fin.ext ?_)
  match a with
  | ⟨0, _⟩ =>
    show 64 * k + 8 * n + 1 * j = (64 * k + (8 * n + j)) % 12800
    rw [Nat.mod_eq_of_lt (by omega)]; omega
  | ⟨1, _⟩ => rfl
  | ⟨2, _⟩ => show 0 + 1 * l.val = l.val; omega

/-- The update of one slot. -/
theorem row_step (w : W3 F) (e a : E3 F) (mv : M3 F) (m k : ℕ) (W G A : R2 F) (hW : ∀ x, W x = wAt w m k (x 1))
    (hG : ∀ x, G x = gAt e k x) (hA : ∀ x, A x = gAt a k x) :
    subf (row w e a mv m k) (mulf W (subf (mulf (row w e a mv m k) G) A)) = row w e a mv m (k + 1) := by
  funext x
  simp only [subf, mulf, row, hW, hG, hA]

/-- The read of eight slots. -/
theorem chunk_eq (w : W3 F) (e a : E3 F) (mv : M3 F) (n k : ℕ) (W0 W1 W2 W3' W4 W5 W6 W7 : R2 F)
    (h0 : ∀ x, W0 x = wAt w (8 * n) k (x 1)) (h1 : ∀ x, W1 x = wAt w (8 * n + 1) k (x 1))
    (h2 : ∀ x, W2 x = wAt w (8 * n + 2) k (x 1)) (h3 : ∀ x, W3' x = wAt w (8 * n + 3) k (x 1))
    (h4 : ∀ x, W4 x = wAt w (8 * n + 4) k (x 1)) (h5 : ∀ x, W5 x = wAt w (8 * n + 5) k (x 1))
    (h6 : ∀ x, W6 x = wAt w (8 * n + 6) k (x 1)) (h7 : ∀ x, W7 x = wAt w (8 * n + 7) k (x 1)) :
    addf (addf (addf (addf (addf (addf (addf (mulf W0 (row w e a mv (8 * n) k)) (mulf W1 (row w e a mv (8 * n + 1) k)))
      (mulf W2 (row w e a mv (8 * n + 2) k))) (mulf W3' (row w e a mv (8 * n + 3) k)))
      (mulf W4 (row w e a mv (8 * n + 4) k))) (mulf W5 (row w e a mv (8 * n + 5) k)))
      (mulf W6 (row w e a mv (8 * n + 6) k))) (mulf W7 (row w e a mv (8 * n + 7) k))
      = chunk w e a mv n k := by
  funext x
  simp only [addf, mulf, chunk, term, h0, h1, h2, h3, h4, h5, h6, h7]

/-- The store of step `k`'s read moves the output on by one step. -/
theorem mid_step (m : Memref sig κ sp ⟨3, ![200, 32, 128]⟩ .f32) (hm : m.IsWhole) (w : W3 F) (e a : E3 F) (mv : M3 F)
    (g : E3 F) (n k : ℕ) (off : Fin 3 → ℕ) (hoff : off = ![k, 0, 0]) (hk : k < 200)
    (inb : ∀ a, off a + S1ab.size a ≤ (⟨3, ![200, 32, 128]⟩ : Shape).size a) (p : S1ab.Idx → F .f32)
    (hp : ∀ (b : Fin 32) (l : Fin 128), p (ix3 0 b l) = out w e a mv g (n + 1) (ix3 ⟨k, hk⟩ b l)) :
    m.view.writes (Elt F) (hm.unread (mid w e a mv g n k)) [⟨Rect.unit (s := ⟨3, ![200, 32, 128]⟩) off S1ab.size inb, p⟩]
      = hm.unread (mid w e a mv g n (k + 1)) := by
  refine hm.eq_unread (funext fun y => ?_)
  by_cases hy : (y 0).val = k
  · refine (View.read_writes_cons_unit_of_mem (Val := Elt F) (size := S1ab.size) m.view _ inb p [] y (ix3 0 (y 1) (y 2)) hoff
      (fun a => by
        match a with
        | ⟨0, _⟩ => exact hy
        | ⟨1, _⟩ => exact (Nat.zero_add _).symm
        | ⟨2, _⟩ => exact (Nat.zero_add _).symm)).trans ?_
    have hyk : y = ix3 ⟨k, hk⟩ (y 1) (y 2) := by
      refine (eq_ix3 y).trans ?_
      have : y 0 = (⟨k, hk⟩ : Fin 200) := Fin.ext hy
      exact congrArg (fun z : Fin 200 => ix3 z (y 1) (y 2)) this
    refine (hp (y 1) (y 2)).trans ((congrArg (out w e a mv g (n + 1)) hyk.symm).trans ?_)
    simp [mid, hy]
  · refine (View.read_writes_cons_unit_of_not_mem (Val := Elt F) (size := S1ab.size) m.view _ inb p [] y hoff (0 : Fin 3)
      (by show (y 0).val < k ∨ k + 1 ≤ (y 0).val; omega)).trans ?_
    show m.view.read (Elt F) (hm.unread _) y = _
    rw [hm.read_unread]
    have : ((y 0).val < k + 1) = ((y 0).val < k) := propext ⟨fun h => by omega, fun h => by omega⟩
    simp only [mid, this]

/-- What the first chunk stores. -/
theorem pay_first (w : W3 F) (e a : E3 F) (mv : M3 F) (g : E3 F) (k : ℕ) (hk : k < 200) (s : R2 F)
    (hs : s = chunk w e a mv 0 k) (h : Sab.ShapeCasts S1ab) (b : Fin 32) (l : Fin 128) :
    shapeCast S1ab s h (ix3 0 b l) = out w e a mv g (0 + 1) (ix3 ⟨k, hk⟩ b l) := by
  subst hs
  exact shapeCast_ab_1ab_apply _ h 0 b l

/-- What a later chunk stores. -/
theorem pay_next (m : Memref sig κ sp ⟨3, ![200, 32, 128]⟩ .f32) (hm : m.IsWhole) (w : W3 F) (e a : E3 F) (mv : M3 F)
    (g : E3 F) (n k : ℕ) (off : Fin 3 → ℕ) (hoff : off = ![k, 0, 0]) (hk : k < 200)
    (inb : ∀ a, off a + S1ab.size a ≤ (⟨3, ![200, 32, 128]⟩ : Shape).size a) (s : R2 F)
    (hs : s = chunk w e a mv (n + 1) k) (h : Sab.ShapeCasts S1ab) (h' : S1ab.ShapeCasts Sab) (b : Fin 32) (l : Fin 128) :
    shapeCast S1ab (addf (shapeCast Sab (View.readAt (Elt F) m.view (Rect.unit (s := ⟨3, ![200, 32, 128]⟩) off S1ab.size inb).toLoadRect
        (hm.unread (mid w e a mv g (n + 1) k)) : S1ab.Idx → F .f32) h' : R2 F) s) h (ix3 0 b l)
      = out w e a mv g (n + 1 + 1) (ix3 ⟨k, hk⟩ b l) := by
  subst hs
  refine (shapeCast_ab_1ab_apply _ h 0 b l).trans ?_
  show FloatOps.addf _ _ = FloatOps.addf _ _
  refine congrArg₂ FloatOps.addf ?_ rfl
  refine (shapeCast_1ab_ab_apply _ h' b l).trans ?_
  rw [ld_row m hm _ k off hoff hk inb]
  simp [mid]

/-- Slot `j`'s weights out of the eight loaded, over the rows of the memory. -/
abbrev wv (v : S81b.Idx → F .f32) (j : ℕ) (hs : S81b.Slices ![j, 0, 0] S11b) : R2 F :=
  broadcastTo Sab (shapeCast S1b (extractStridedSlice S11b ![j, 0, 0] (shapeCast S81b v (by decide)) hs) (by decide)) (by decide)

/-- A gate's row. -/
abbrev gv (v : S1ab.Idx → F .f32) : R2 F := shapeCast Sab v (by decide)

/-- One slot's update from the loads. -/
abbrev upd (W G A r : R2 F) : R2 F := subf r (mulf W (subf (mulf r G) A))

section
variable (m1 : Memref sig κ sp ⟨3, ![12800, 1, 128]⟩ .f32) (h1 : m1.IsWhole) (m2 : Memref sig κ sp ⟨3, ![200, 32, 128]⟩ .f32) (h2 : m2.IsWhole)
  (m3 : Memref sig κ sp ⟨3, ![200, 32, 128]⟩ .f32) (h3 : m3.IsWhole)
  (w : W3 F) (e a : E3 F) (mv : M3 F) (n k : ℕ) (offW offE : Fin 3 → ℕ) (hW : offW = ![64 * k + 8 * n, 0, 0])
  (hE : offE = ![k, 0, 0]) (hk : k < 200) (hn : n < 8)
  (inbW : ∀ a, offW a + S81b.size a ≤ (⟨3, ![12800, 1, 128]⟩ : Shape).size a)
  (inbE : ∀ a, offE a + S1ab.size a ≤ (⟨3, ![200, 32, 128]⟩ : Shape).size a)

/-- The eight weights' load. -/
abbrev ldW : S81b.Idx → F .f32 :=
  View.readAt (Elt F) m1.view (Rect.unit (s := ⟨3, ![12800, 1, 128]⟩) offW S81b.size inbW).toLoadRect (h1.unread w)
/-- A gate's load. -/
abbrev ldE : S1ab.Idx → F .f32 :=
  View.readAt (Elt F) m2.view (Rect.unit (s := ⟨3, ![200, 32, 128]⟩) offE S1ab.size inbE).toLoadRect (h2.unread e)

include hW hE hk hn in
/-- The eight rows a trip yields are the memory one step on. -/
theorem rows_step :
    (upd (wv (ldW m1 h1 w offW inbW) 0 (by decide)) (gv (ldE m2 h2 e offE inbE)) (gv (ldE m3 h3 a offE inbE)) (row w e a mv (8 * n) k),
      upd (wv (ldW m1 h1 w offW inbW) 1 (by decide)) (gv (ldE m2 h2 e offE inbE)) (gv (ldE m3 h3 a offE inbE)) (row w e a mv (8 * n + 1) k),
      upd (wv (ldW m1 h1 w offW inbW) 2 (by decide)) (gv (ldE m2 h2 e offE inbE)) (gv (ldE m3 h3 a offE inbE)) (row w e a mv (8 * n + 2) k),
      upd (wv (ldW m1 h1 w offW inbW) 3 (by decide)) (gv (ldE m2 h2 e offE inbE)) (gv (ldE m3 h3 a offE inbE)) (row w e a mv (8 * n + 3) k),
      upd (wv (ldW m1 h1 w offW inbW) 4 (by decide)) (gv (ldE m2 h2 e offE inbE)) (gv (ldE m3 h3 a offE inbE)) (row w e a mv (8 * n + 4) k),
      upd (wv (ldW m1 h1 w offW inbW) 5 (by decide)) (gv (ldE m2 h2 e offE inbE)) (gv (ldE m3 h3 a offE inbE)) (row w e a mv (8 * n + 5) k),
      upd (wv (ldW m1 h1 w offW inbW) 6 (by decide)) (gv (ldE m2 h2 e offE inbE)) (gv (ldE m3 h3 a offE inbE)) (row w e a mv (8 * n + 6) k),
      upd (wv (ldW m1 h1 w offW inbW) 7 (by decide)) (gv (ldE m2 h2 e offE inbE)) (gv (ldE m3 h3 a offE inbE)) (row w e a mv (8 * n + 7) k))
      = rows w e a mv n (k + 1) := by
  have H := fun j hj hs => row_step w e a mv (8 * n + j) k _ _ _ (weight_ld m1 h1 w n j k offW hW hk hn hj inbW (by decide) hs (by decide) (by decide))
    (gate_ld m2 h2 e k offE hE hk inbE (by decide)) (gate_ld m3 h3 a k offE hE hk inbE (by decide))
  exact Prod.ext (H 0 (by decide) _) (Prod.ext (H 1 (by decide) _) (Prod.ext (H 2 (by decide) _) (Prod.ext (H 3 (by decide) _)
    (Prod.ext (H 4 (by decide) _) (Prod.ext (H 5 (by decide) _) (Prod.ext (H 6 (by decide) _) (H 7 (by decide) _)))))))

include hW hk hn in
/-- The sum a trip stores is the read of its chunk. -/
theorem chunk_step :
    addf (addf (addf (addf (addf (addf (addf (mulf (wv (ldW m1 h1 w offW inbW) 0 (by decide)) (row w e a mv (8 * n) k))
      (mulf (wv (ldW m1 h1 w offW inbW) 1 (by decide)) (row w e a mv (8 * n + 1) k)))
      (mulf (wv (ldW m1 h1 w offW inbW) 2 (by decide)) (row w e a mv (8 * n + 2) k)))
      (mulf (wv (ldW m1 h1 w offW inbW) 3 (by decide)) (row w e a mv (8 * n + 3) k)))
      (mulf (wv (ldW m1 h1 w offW inbW) 4 (by decide)) (row w e a mv (8 * n + 4) k)))
      (mulf (wv (ldW m1 h1 w offW inbW) 5 (by decide)) (row w e a mv (8 * n + 5) k)))
      (mulf (wv (ldW m1 h1 w offW inbW) 6 (by decide)) (row w e a mv (8 * n + 6) k)))
      (mulf (wv (ldW m1 h1 w offW inbW) 7 (by decide)) (row w e a mv (8 * n + 7) k))
      = chunk w e a mv n k := by
  have H := fun j hj hs => weight_ld m1 h1 w n j k offW hW hk hn hj inbW (by decide) hs (by decide) (by decide)
  exact chunk_eq w e a mv n k _ _ _ _ _ _ _ _ (H 0 (by decide) _) (H 1 (by decide) _) (H 2 (by decide) _) (H 3 (by decide) _)
    (H 4 (by decide) _) (H 5 (by decide) _) (H 6 (by decide) _) (H 7 (by decide) _)
end

/-- The load of one initial row. -/
abbrev ldM (m4 : Memref sig κ sp ⟨3, ![64, 32, 128]⟩ .f32) (h4 : m4.IsWhole) (mv : M3 F) (j : ℕ)
    (inb : ∀ a, (![j, 0, 0] : Fin 3 → ℕ) a + S1ab.size a ≤ (⟨3, ![64, 32, 128]⟩ : Shape).size a) : S1ab.Idx → F .f32 :=
  View.readAt (Elt F) m4.view (Rect.unit (s := ⟨3, ![64, 32, 128]⟩) ![j, 0, 0] S1ab.size inb).toLoadRect (h4.unread mv)

/-- The eight rows a chunk starts from. -/
theorem rows_init (m4 : Memref sig κ sp ⟨3, ![64, 32, 128]⟩ .f32) (h4 : m4.IsWhole) (w : W3 F) (e a : E3 F) (mv : M3 F) (n : ℕ)
    (hn : n < 8) (i0 i1 i2 i3 i4 i5 i6 i7) :
    ((gv (ldM m4 h4 mv (8 * n) i0), gv (ldM m4 h4 mv (8 * n + 1) i1), gv (ldM m4 h4 mv (8 * n + 2) i2),
      gv (ldM m4 h4 mv (8 * n + 3) i3), gv (ldM m4 h4 mv (8 * n + 4) i4), gv (ldM m4 h4 mv (8 * n + 5) i5),
      gv (ldM m4 h4 mv (8 * n + 6) i6), gv (ldM m4 h4 mv (8 * n + 7) i7)) : R2 F × R2 F × R2 F × R2 F × R2 F × R2 F × R2 F × R2 F)
      = rows w e a mv n 0 := by
  have H := fun j (hj : j < 8) inb => init_ld m4 h4 w e a mv (8 * n + j) _ rfl (by omega) inb (by decide)
  exact Prod.ext (H 0 (by decide) _) (Prod.ext (H 1 (by decide) _) (Prod.ext (H 2 (by decide) _) (Prod.ext (H 3 (by decide) _)
    (Prod.ext (H 4 (by decide) _) (Prod.ext (H 5 (by decide) _) (Prod.ext (H 6 (by decide) _) (H 7 (by decide) _)))))))

end Scan
end
-- ==== Proof.K0Ideal.lean ====
module

public import proofs.«01_k».proof.Proof.Gen.KernelIdeal.Skeleton
public import proofs.«01_k».proof.Proof.Gen.KernelIdeal.Launch
public import Idealize.ShloMosaic.Lib.Tactic
public import Idealize.ShloMosaic.Lib.Pipeline.FrameBody
public import Idealize.ShloMosaic.Lib.Pipeline.Kit
public import Idealize.ShloMosaic.Lib.Ring

@[expose] public section

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

set_option maxHeartbeats 4000000 in
/-- What the body leaves in its five outputs, as lists of written rectangles, with the proof that it does: on whole
    memrefs, the inputs' at their contents and the table's words all naming a chunk of the embedding, the body runs to
    its end, keeps the inputs, and writes those lists over whatever the outputs held. -/
noncomputable def bodyRun (c : Dev nD) (i : grid0.Coords) (arg1 : Memref sig .tc .smem S200x128 .i32) (harg1 : arg1.IsWhole) (arg2 : Memref sig .tc .vmem S4x1x128 .f32) (harg2 : arg2.IsWhole) (arg3 : Memref sig .tc .vmem S10000x128 .f32) (harg3 : arg3.IsWhole) (arg4 : Memref sig .tc .vmem S456x128 .f32) (harg4 : arg4.IsWhole) (arg5 : Memref sig .tc .vmem S4x128x128 .f32) (harg5 : arg5.IsWhole) (arg6 : Memref sig .tc .vmem S1x1x128 .f32) (harg6 : arg6.IsWhole) (arg7 : Memref sig .tc .vmem S4x64x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128 .f32) (harg11 : arg11.IsWhole) (arg12 : Memref sig .tc .vmem S512x128 .f32) (harg12 : arg12.IsWhole)
    (T : Vec F S200x128 .i32) (x1 : Vec F S4x1x128 .f32) (x2 : Vec F S10000x128 .f32) (x3 : Vec F S456x128 .f32) (x4 : Vec F S4x128x128 .f32) (x5 : Vec F S1x1x128 .f32)
    (hT : ∀ (r : LoadRect S200x128) (y : r.shape.Idx), k0_chk1 (View.readAt (Elt F) arg1.view r (harg1.unread T) y)) :
    { L : List (View.Piece (Elt F) S4x64x128 .f32) × List (View.Piece (Elt F) S4x128x128 .f32) × List (View.Piece (Elt F) S4x128x128 .f32) × List (View.Piece (Elt F) S4x128x128 .f32) × List (View.Piece (Elt F) S4x1x128 .f32) //
      ∀ (E : Set ℕ) (K : PUnit → sProp 𝕄),
        iprop(owns (c : Thread nD τ) arg1 fullShare T ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare T ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2.1) ∗ (∃ f, arg10.view.loc (c : Thread nD τ) ↦[arg10.view.set]{fullShare} arg10.view.writes (Elt F) f L.2.2.2.1) ∗ (∃ f, arg11.view.loc (c : Thread nD τ) ↦[arg11.view.set]{fullShare} arg11.view.writes (Elt F) f L.2.2.2.2) ∗ (∃ d, owns (c : Thread nD τ) arg12 fullShare d)) -∗ K ⟨⟩))
          ⊢ wp frame (wpE (defs₀ (F := F)) 𝒱₀ c none) E (cc0__pre_kernel i arg1 harg1 arg2 harg2 arg3 harg3 arg4 harg4 arg5 harg5 arg6 harg6 arg7 harg7 arg8 harg8 arg9 harg9 arg10 harg10 arg11 harg11 arg12 harg12) K } := by
  refine ⟨⟨?_, ?_, ?_, ?_, ?_⟩, fun E K => ?run⟩
  case run =>
    dsimp only
    simp only [cc0__pre_kernel_eq_skeleton]; unfold cc0__pre_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec_parts (disch := exact hT _ _)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    isplitl [H8]
    · iexists _; iexact H8
    isplitl [H9]
    · iexists _; iexact H9
    isplitl [H10]
    · iexists _; iexact H10
    isplitl [H11]
    · iexists _; iexact H11
    iexists _; iexists _; isplitr
    swap
    · iexact H12
    ipureintro; rfl

end Cert.KernelIdeal.K0
end
-- ==== Proof.K0DatIdeal.lean ====
module

public import proofs.«01_k».proof.Proof.K0Ideal
public import Idealize.ShloMosaic.Lib.Tactic
public import Idealize.ShloMosaic.Lib.Pipeline.FrameBody
public import Idealize.ShloMosaic.Lib.Pipeline.Kit
public import Idealize.ShloMosaic.Lib.Ring

@[expose] public section

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)
variable (a : (pcfg0 (F := F)).Adm)

/-- The table, as the call finds it. -/
abbrev tbl : Vec F S200x128 .i32 := a.1 0

/-- A word-by-word fact about the table, at every word the body reads. -/
theorem words (hw : ∀ y, k0_chk1 (tbl a y)) (r : LoadRect S200x128) (y : r.shape.Idx) :
    k0_chk1 (View.readAt (Elt F) (Memref.whole main_v0).view r ((Memref.isWhole_whole main_v0).unread (tbl a)) y) := by
  rw [View.readAt_apply]
  rw [(Memref.isWhole_whole main_v0).read_unread]
  exact hw _

/-- Window `w`'s block at point `t`, read off its array as the call finds it. -/
def blk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

variable (hw : ∀ y, k0_chk1 (tbl a y))

/-- The body's run at point `t`. -/
abbrev runAt (c : Dev nD) (t : Fin (cfg0 a).N) :=
  bodyRun (Ix := Ix) (U := U) (Lvl := Lvl) 𝒱₀ c (grid0.coords t) (Memref.whole main_v0) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7))
    (spec0_8.stage ((cfg0 a).slots t 8)) (hstage0_8 (((cfg0 a).slots t 8).cast nbuf0_8))
    (spec0_9.stage ((cfg0 a).slots t 9)) (hstage0_9 (((cfg0 a).slots t 9).cast nbuf0_9))
    (Memref.whole cc0_scratch0) (Memref.isWhole_whole _) (tbl a) (blk V a c 0 t) (blk V a c 1 t) (blk V a c 2 t) (blk V a c 3 t) (blk V a c 4 t) (words a hw)

abbrev VO5 : View sig .tc .vmem S4x64x128 .f32 := (Memref.whole cc0_stg5_0 : Memref sig .tc .vmem S4x64x128 .f32).view
/-- What the run leaves in output window 5's buffer. -/
def outAt5 (c : Dev nD) (t : Fin (cfg0 a).N) : Vec F S4x64x128 .f32 :=
  VO5.read (Elt F) (VO5.writes (Elt F) VO5.junk (runAt (Ix := Ix) (U := U) (Lvl := Lvl) 𝒱₀ V a hw c t).1.1)
theorem cover5 (c : Dev nD) (t : Fin (cfg0 a).N) (y : S4x64x128.Idx) :
    ∃ pc ∈ (runAt (Ix := Ix) (U := U) (Lvl := Lvl) 𝒱₀ V a hw c t).1.1, y ∈ pc.1.set :=
  View.cover_of_tiledL (runAt (Ix := Ix) (U := U) (Lvl := Lvl) 𝒱₀ V a hw c t).1.1 S1x64x128.size (by sl_kernel_rfl) y
abbrev VO6 : View sig .tc .vmem S4x128x128 .f32 := (Memref.whole cc0_stg6_0 : Memref sig .tc .vmem S4x128x128 .f32).view
/-- What the run leaves in output window 6's buffer. -/
def outAt6 (c : Dev nD) (t : Fin (cfg0 a).N) : Vec F S4x128x128 .f32 :=
  VO6.read (Elt F) (VO6.writes (Elt F) VO6.junk (runAt (Ix := Ix) (U := U) (Lvl := Lvl) 𝒱₀ V a hw c t).1.2.1)
theorem cover6 (c : Dev nD) (t : Fin (cfg0 a).N) (y : S4x128x128.Idx) :
    ∃ pc ∈ (runAt (Ix := Ix) (U := U) (Lvl := Lvl) 𝒱₀ V a hw c t).1.2.1, y ∈ pc.1.set :=
  View.cover_of_tiledL (runAt (Ix := Ix) (U := U) (Lvl := Lvl) 𝒱₀ V a hw c t).1.2.1 S1x128x128.size (by sl_kernel_rfl) y
abbrev VO7 : View sig .tc .vmem S4x128x128 .f32 := (Memref.whole cc0_stg7_0 : Memref sig .tc .vmem S4x128x128 .f32).view
/-- What the run leaves in output window 7's buffer. -/
def outAt7 (c : Dev nD) (t : Fin (cfg0 a).N) : Vec F S4x128x128 .f32 :=
  VO7.read (Elt F) (VO7.writes (Elt F) VO7.junk (runAt (Ix := Ix) (U := U) (Lvl := Lvl) 𝒱₀ V a hw c t).1.2.2.1)
theorem cover7 (c : Dev nD) (t : Fin (cfg0 a).N) (y : S4x128x128.Idx) :
    ∃ pc ∈ (runAt (Ix := Ix) (U := U) (Lvl := Lvl) 𝒱₀ V a hw c t).1.2.2.1, y ∈ pc.1.set :=
  View.cover_of_tiledL (runAt (Ix := Ix) (U := U) (Lvl := Lvl) 𝒱₀ V a hw c t).1.2.2.1 S1x128x128.size (by sl_kernel_rfl) y
abbrev VO8 : View sig .tc .vmem S4x128x128 .f32 := (Memref.whole cc0_stg8_0 : Memref sig .tc .vmem S4x128x128 .f32).view
/-- What the run leaves in output window 8's buffer. -/
def outAt8 (c : Dev nD) (t : Fin (cfg0 a).N) : Vec F S4x128x128 .f32 :=
  VO8.read (Elt F) (VO8.writes (Elt F) VO8.junk (runAt (Ix := Ix) (U := U) (Lvl := Lvl) 𝒱₀ V a hw c t).1.2.2.2.1)
theorem cover8 (c : Dev nD) (t : Fin (cfg0 a).N) (y : S4x128x128.Idx) :
    ∃ pc ∈ (runAt (Ix := Ix) (U := U) (Lvl := Lvl) 𝒱₀ V a hw c t).1.2.2.2.1, y ∈ pc.1.set :=
  View.cover_of_tiledL (runAt (Ix := Ix) (U := U) (Lvl := Lvl) 𝒱₀ V a hw c t).1.2.2.2.1 S1x128x128.size (by sl_kernel_rfl) y
abbrev VO9 : View sig .tc .vmem S4x1x128 .f32 := (Memref.whole cc0_stg9_0 : Memref sig .tc .vmem S4x1x128 .f32).view
/-- What the run leaves in output window 9's buffer. -/
def outAt9 (c : Dev nD) (t : Fin (cfg0 a).N) : Vec F S4x1x128 .f32 :=
  VO9.read (Elt F) (VO9.writes (Elt F) VO9.junk (runAt (Ix := Ix) (U := U) (Lvl := Lvl) 𝒱₀ V a hw c t).1.2.2.2.2)
theorem cover9 (c : Dev nD) (t : Fin (cfg0 a).N) (y : S4x1x128.Idx) :
    ∃ pc ∈ (runAt (Ix := Ix) (U := U) (Lvl := Lvl) 𝒱₀ V a hw c t).1.2.2.2.2, y ∈ pc.1.set :=
  View.cover_of_tiledL (runAt (Ix := Ix) (U := U) (Lvl := Lvl) 𝒱₀ V a hw c t).1.2.2.2.2 S1x1x128.size (by sl_kernel_rfl) y

/-- What the body holds between points besides its windows: the other scoped buffers, the random-number register, the table. -/
def inv (c : Dev nD) : sProp 𝕄 :=
  iprop(iprop(Pipeline.scopedRest (Ix := Ix) (Name := ℕ) (U := U) (Lvl := Lvl) (Val := Elt F) spec0 c ∗ ∃ r, prngReg c r)
    ∗ Pipeline.prefHeld pre0 c (fun _ => fullShare) a.1)

/-- The call's proof data: its arrays at `V`, each input's buffer left at its block, each output's at the run's pieces. -/
def dat (c : Dev nD) : Dat τ (Elt F) Ix ℕ U Lvl (cfg0 a) c where
  A w := V c (Pipeline.arrRef spec0 w)
  after w t := match w with
    | ⟨0, _⟩ => blk V a c 0 t
    | ⟨1, _⟩ => blk V a c 1 t
    | ⟨2, _⟩ => blk V a c 2 t
    | ⟨3, _⟩ => blk V a c 3 t
    | ⟨4, _⟩ => blk V a c 4 t
    | ⟨5, _⟩ => outAt5 (Ix := Ix) (U := U) (Lvl := Lvl) 𝒱₀ V a hw c t
    | ⟨6, _⟩ => outAt6 (Ix := Ix) (U := U) (Lvl := Lvl) 𝒱₀ V a hw c t
    | ⟨7, _⟩ => outAt7 (Ix := Ix) (U := U) (Lvl := Lvl) 𝒱₀ V a hw c t
    | ⟨8, _⟩ => outAt8 (Ix := Ix) (U := U) (Lvl := Lvl) 𝒱₀ V a hw c t
    | ⟨9, _⟩ => outAt9 (Ix := Ix) (U := U) (Lvl := Lvl) 𝒱₀ V a hw c t
  Φ _ := inv a c
  q _ := fullShare
  owed _ := D c

local notation "𝕕" => dat (Ix := Ix) (U := U) (Lvl := Lvl) 𝒱₀ V D a hw

theorem A_eq (c : Dev nD) (w : Fin (cfg0 a).W) : (𝕕 c).A w = V c (Pipeline.arrRef spec0 w) := by dsimp only [dat]

theorem before0 (c : Dev nD) (t : Fin (cfg0 a).N) (d) : (𝕕 c).before 0 t d = blk V a c 0 t :=
  ((𝕕 c).before_in_eq_fetched 0 rfl (fun _ => rfl) (fun _ _ _ => rfl) (fun t => by dsimp only [dat]; unfold Dat.blockOf blk; rfl) t d).trans
    (by unfold Dat.fetched Dat.blockOf blk; rw [A_eq]; try rfl)
theorem before1 (c : Dev nD) (t : Fin (cfg0 a).N) (d) : (𝕕 c).before 1 t d = blk V a c 1 t :=
  ((𝕕 c).before_in_eq_fetched 1 rfl (fun _ => rfl) (fun _ _ _ => rfl) (fun t => by dsimp only [dat]; unfold Dat.blockOf blk; rfl) t d).trans
    (by unfold Dat.fetched Dat.blockOf blk; rw [A_eq]; try rfl)
theorem before2 (c : Dev nD) (t : Fin (cfg0 a).N) (d) : (𝕕 c).before 2 t d = blk V a c 2 t :=
  ((𝕕 c).before_in_eq_fetched 2 rfl (fun _ => rfl) (fun _ _ _ => rfl) (fun t => by dsimp only [dat]; unfold Dat.blockOf blk; rfl) t d).trans
    (by unfold Dat.fetched Dat.blockOf blk; rw [A_eq]; try rfl)
theorem before3 (c : Dev nD) (t : Fin (cfg0 a).N) (d) : (𝕕 c).before 3 t d = blk V a c 3 t :=
  ((𝕕 c).before_in_eq_fetched 3 rfl (fun _ => rfl) (fun _ _ _ => rfl) (fun t => by dsimp only [dat]; unfold Dat.blockOf blk; rfl) t d).trans
    (by unfold Dat.fetched Dat.blockOf blk; rw [A_eq]; try rfl)
theorem before4 (c : Dev nD) (t : Fin (cfg0 a).N) (d) : (𝕕 c).before 4 t d = blk V a c 4 t :=
  ((𝕕 c).before_in_eq_fetched 4 rfl (fun _ => rfl) (fun _ _ _ => rfl) (fun t => by dsimp only [dat]; unfold Dat.blockOf blk; rfl) t d).trans
    (by unfold Dat.fetched Dat.blockOf blk; rw [A_eq]; try rfl)

variable (ι : Ix)

theorem tbl_owns (c : Dev nD) : (Pipeline.prefHeld pre0 c (fun _ => fullShare) a.1 : sProp 𝕄) = owns (c : Thread nD τ) (Memref.whole main_v0) fullShare (tbl a) := by
  rw [Pipeline.prefHeld, bigSep_univ_eq_bigSepL [(0 : Fin 1)] (by decide) (by decide)]
  unfold owns
  simp only [Memref.view_whole, View.read_whole, View.set_whole]
  have h1 : (((c : Thread nD τ).loc main_v0) ↦{fullShare} (tbl a) : sProp 𝕄)
      ⊢ iprop(∃ f : Buf (Elt F) ((c : Thread nD τ).loc main_v0), ⌜f = tbl a⌝ ∗ (((c : Thread nD τ).loc main_v0) ↦{fullShare} f)) := by
    iintro H
    iexists _; isplitr; swap; (· iexact H); ipureintro; rfl
  have h2 : iprop(∃ f : Buf (Elt F) ((c : Thread nD τ).loc main_v0), ⌜f = tbl a⌝ ∗ (((c : Thread nD τ).loc main_v0) ↦{fullShare} f))
      ⊢ (((c : Thread nD τ).loc main_v0) ↦{fullShare} (tbl a) : sProp 𝕄) := by
    iintro ⟨%f, %hf, H⟩
    subst hf
    iexact H
  exact BI.Entails.antisymm h1 h2

/-- The scratch, owned at anything, is its buffer at something. -/
theorem scratch_any (c : Dev nD) (d : Vec F S512x128 .f32) : (owns (c : Thread nD τ) (Memref.whole cc0_scratch0) fullShare d : sProp 𝕄)
    ⊢ iprop(∃ f : Buf (Elt F) ((c : Thread nD τ).loc cc0_scratch0), ((c : Thread nD τ).loc cc0_scratch0) ↦{fullShare} f) := by
  rw [owns_whole_eq]
  iintro ⟨%g, -, H⟩
  iexists g; iexact H

set_option maxHeartbeats 4000000 in
/-- One grid point: from the staged blocks, the table and the scratch the body leaves what the proof data say. -/
theorem body_obligation (c : Dev nD) : BodyObligation (𝕕 c) (defs₀ (F := F)) 𝒱₀ ι Set.univ := fun t => by
  rw [show (𝕕 c).Φ t.succ = (𝕕 c).Φ t.castSucc from rfl, show (𝕕 c).owesAt ι t.succ = (𝕕 c).owesAt ι t.castSucc from rfl]
  have key : iprop((𝕕 c).Φ t.castSucc ∗ (𝕕 c).owesAt ι t.castSucc
      ∗ (∃ d, owns (c : Thread nD τ) (spec0_0.stage ((cfg0 a).slots t 0)) fullShare ((𝕕 c).before 0 t d))
      ∗ (∃ d, owns (c : Thread nD τ) (spec0_1.stage ((cfg0 a).slots t 1)) fullShare ((𝕕 c).before 1 t d))
      ∗ (∃ d, owns (c : Thread nD τ) (spec0_2.stage ((cfg0 a).slots t 2)) fullShare ((𝕕 c).before 2 t d))
      ∗ (∃ d, owns (c : Thread nD τ) (spec0_3.stage ((cfg0 a).slots t 3)) fullShare ((𝕕 c).before 3 t d))
      ∗ (∃ d, owns (c : Thread nD τ) (spec0_4.stage ((cfg0 a).slots t 4)) fullShare ((𝕕 c).before 4 t d))
      ∗ (∃ d, owns (c : Thread nD τ) (spec0_5.stage ((cfg0 a).slots t 5)) fullShare ((𝕕 c).before 5 t d))
      ∗ (∃ d, owns (c : Thread nD τ) (spec0_6.stage ((cfg0 a).slots t 6)) fullShare ((𝕕 c).before 6 t d))
      ∗ (∃ d, owns (c : Thread nD τ) (spec0_7.stage ((cfg0 a).slots t 7)) fullShare ((𝕕 c).before 7 t d))
      ∗ (∃ d, owns (c : Thread nD τ) (spec0_8.stage ((cfg0 a).slots t 8)) fullShare ((𝕕 c).before 8 t d))
      ∗ (∃ d, owns (c : Thread nD τ) (spec0_9.stage ((cfg0 a).slots t 9)) fullShare ((𝕕 c).before 9 t d)))
    ⊢ wp frame (wpE (defs₀ (F := F)) 𝒱₀ c none) Set.univ
      (cc0__pre_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _))
      (fun _ => iprop((𝕕 c).Φ t.castSucc ∗ (𝕕 c).owesAt ι t.castSucc
      ∗ owns (c : Thread nD τ) (spec0_0.stage ((cfg0 a).slots t 0)) fullShare (blk V a c 0 t)
      ∗ owns (c : Thread nD τ) (spec0_1.stage ((cfg0 a).slots t 1)) fullShare (blk V a c 1 t)
      ∗ owns (c : Thread nD τ) (spec0_2.stage ((cfg0 a).slots t 2)) fullShare (blk V a c 2 t)
      ∗ owns (c : Thread nD τ) (spec0_3.stage ((cfg0 a).slots t 3)) fullShare (blk V a c 3 t)
      ∗ owns (c : Thread nD τ) (spec0_4.stage ((cfg0 a).slots t 4)) fullShare (blk V a c 4 t)
      ∗ owns (c : Thread nD τ) (spec0_5.stage ((cfg0 a).slots t 5)) fullShare (outAt5 (Ix := Ix) (U := U) (Lvl := Lvl) 𝒱₀ V a hw c t)
      ∗ owns (c : Thread nD τ) (spec0_6.stage ((cfg0 a).slots t 6)) fullShare (outAt6 (Ix := Ix) (U := U) (Lvl := Lvl) 𝒱₀ V a hw c t)
      ∗ owns (c : Thread nD τ) (spec0_7.stage ((cfg0 a).slots t 7)) fullShare (outAt7 (Ix := Ix) (U := U) (Lvl := Lvl) 𝒱₀ V a hw c t)
      ∗ owns (c : Thread nD τ) (spec0_8.stage ((cfg0 a).slots t 8)) fullShare (outAt8 (Ix := Ix) (U := U) (Lvl := Lvl) 𝒱₀ V a hw c t)
      ∗ owns (c : Thread nD τ) (spec0_9.stage ((cfg0 a).slots t 9)) fullShare (outAt9 (Ix := Ix) (U := U) (Lvl := Lvl) 𝒱₀ V a hw c t))) := by
    simp only [before0, before1, before2, before3, before4]
    rw [show (𝕕 c).Φ t.castSucc = inv a c from rfl]
    unfold inv
    rw [scopedRest0_eq, tbl_owns]
    iintro ⟨⟨⟨⟨⟨%fs, Hs⟩, Hrest⟩, Hp⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runAt (Ix := Ix) (U := U) (Lvl := Lvl) 𝒱₀ V a hw c t).2 Set.univ _)
    isplitl [HT]; · iexact HT
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [Hs]
    · iexists fs; rw [owns_whole_eq]; iexists fs; isplitr; · ipureintro; rfl
      iexact Hs
    iintro ⟨HT, H0, H1, H2, H3, H4, ⟨%f5, H5⟩, ⟨%f6, H6⟩, ⟨%f7, H7⟩, ⟨%f8, H8⟩, ⟨%f9, H9⟩, ⟨%ds, Hs⟩⟩
    isplitl [HT Hs Hrest Hp]
    · isplitl [Hs Hrest Hp]
      · isplitl [Hs Hrest]
        · isplitl [Hs]
          · iapply (scratch_any c ds); iexact Hs
          iexact Hrest
        iexact Hp
      iexact HT
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr; swap; (· iexact H5); ipureintro; exact View.read_writes_of_cover _ _ VO5 _ _ (cover5 (Ix := Ix) (U := U) (Lvl := Lvl) 𝒱₀ V a hw c t)
    isplitl [H6]
    · unfold owns; iexists _; isplitr; swap; (· iexact H6); ipureintro; exact View.read_writes_of_cover _ _ VO6 _ _ (cover6 (Ix := Ix) (U := U) (Lvl := Lvl) 𝒱₀ V a hw c t)
    isplitl [H7]
    · unfold owns; iexists _; isplitr; swap; (· iexact H7); ipureintro; exact View.read_writes_of_cover _ _ VO7 _ _ (cover7 (Ix := Ix) (U := U) (Lvl := Lvl) 𝒱₀ V a hw c t)
    isplitl [H8]
    · unfold owns; iexists _; isplitr; swap; (· iexact H8); ipureintro; exact View.read_writes_of_cover _ _ VO8 _ _ (cover8 (Ix := Ix) (U := U) (Lvl := Lvl) 𝒱₀ V a hw c t)
    unfold owns; iexists _; isplitr; swap; (· iexact H9); ipureintro; exact View.read_writes_of_cover _ _ VO9 _ _ (cover9 (Ix := Ix) (U := U) (Lvl := Lvl) 𝒱₀ V a hw c t)
  rw [bigSep_W0, bigSep_W0]
  exact triple_restated key (by unfold defs₀; rw [Defs.onTc_tc]) .rfl fun _ => .rfl

end Cert.KernelIdeal.K0

end
-- ==== Proof.K1Ideal.lean ====
module

public import proofs.«01_k».proof.Proof.Gen.KernelIdeal.Skeleton
public import proofs.«01_k».proof.Proof.Gen.KernelIdeal.Launch
public import proofs.«01_k».proof.Proof.ScanStep
public import Idealize.ShloMosaic.Lib.Tactic
public import Idealize.ShloMosaic.Lib.Pipeline.FrameBody
public import Idealize.ShloMosaic.Lib.Pipeline.Kit
public import Idealize.ShloMosaic.Lib.Ring

@[expose] public section

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)
variable (c : Dev nD) (i : grid1.Coords) (arg1 : Memref sig .tc .vmem S12800x1x128 .f32) (harg1 : arg1.IsWhole) (arg2 : Memref sig .tc .vmem S200x32x128 .f32) (harg2 : arg2.IsWhole) (arg3 : Memref sig .tc .vmem S200x32x128 .f32) (harg3 : arg3.IsWhole) (arg4 : Memref sig .tc .vmem S64x32x128 .f32) (harg4 : arg4.IsWhole) (arg5 : Memref sig .tc .vmem S200x32x128 .f32) (harg5 : arg5.IsWhole)
  (x1 : Scan.W3 F) (x2 x3 : Scan.E3 F) (x4 : Scan.M3 F) (g : Scan.E3 F)

/-- Between two trips of chunk `n`'s loop: the inputs hold their arrays, the output's first `k` steps are those of the
    chunks up to `n`, and the carried rows are the memory after `k` steps. -/
def inv (n k : ℕ) (acc : FVec F S32x128 .f32 × FVec F S32x128 .f32 × FVec F S32x128 .f32 × FVec F S32x128 .f32 × FVec F S32x128 .f32 × FVec F S32x128 .f32 × FVec F S32x128 .f32 × FVec F S32x128 .f32) : sProp 𝕄 :=
  iprop((arg1.view.loc (c : Thread nD τ) ↦[arg1.view.set]{fullShare} harg1.unread x1)
    ∗ (arg2.view.loc (c : Thread nD τ) ↦[arg2.view.set]{fullShare} harg2.unread x2)
    ∗ (arg3.view.loc (c : Thread nD τ) ↦[arg3.view.set]{fullShare} harg3.unread x3)
    ∗ (arg5.view.loc (c : Thread nD τ) ↦[arg5.view.set]{fullShare} harg5.unread (Scan.mid x1 x2 x3 x4 g n k))
    ∗ ⌜acc = Scan.rows x1 x2 x3 x4 n k⌝)

/-- A trip's end: the store's value is the next chunk's read, the yielded rows are the memory one step on. -/
theorem close (n k : ℕ) (hk : k < 200) (off : Fin 3 → ℕ) (hoff : off = ![k, 0, 0])
    (inb : ∀ a, off a + S1x32x128.size a ≤ S200x32x128.size a) (p : S1x32x128.Idx → F .f32) (acc)
    (hp : ∀ (b : Fin 32) (l : Fin 128), p (ValueIdx.ix3 0 b l) = Scan.out x1 x2 x3 x4 g (n + 1) (ValueIdx.ix3 ⟨k, hk⟩ b l))
    (hacc : acc = Scan.rows x1 x2 x3 x4 n (k + 1)) :
    iprop((arg1.view.loc (c : Thread nD τ) ↦[arg1.view.set]{fullShare} harg1.unread x1)
      ∗ (arg2.view.loc (c : Thread nD τ) ↦[arg2.view.set]{fullShare} harg2.unread x2)
      ∗ (arg3.view.loc (c : Thread nD τ) ↦[arg3.view.set]{fullShare} harg3.unread x3)
      ∗ (arg5.view.loc (c : Thread nD τ) ↦[arg5.view.set]{fullShare} arg5.view.writes (Elt F)
          (harg5.unread (Scan.mid x1 x2 x3 x4 g n k)) [⟨Rect.unit (s := S200x32x128) off S1x32x128.size inb, p⟩]))
      ⊢ (inv (Ix := Ix) (U := U) (Lvl := Lvl) c arg1 harg1 arg2 harg2 arg3 harg3 arg5 harg5 x1 x2 x3 x4 g n (k + 1) acc : sProp 𝕄) := by
  unfold inv
  iintro ⟨H1, H2, H3, H5⟩
  isplitl [H1]
  · iexact H1
  isplitl [H2]
  · iexact H2
  isplitl [H3]
  · iexact H3
  isplitl [H5]
  · rw [← Scan.mid_step arg5 harg5 x1 x2 x3 x4 g n k off hoff hk inb p hp]
    iexact H5
  ipureintro
  exact hacc

set_option maxHeartbeats 4000000 in
theorem step1 (E : Set ℕ) (k : Fin k1_t1_loop.trips) (acc) :
    inv (Ix := Ix) (U := U) (Lvl := Lvl) c arg1 harg1 arg2 harg2 arg3 harg3 arg5 harg5 x1 x2 x3 x4 g 0 k acc ⊢
      wp frame (wpE (defs₀ (F := F)) 𝒱₀ (c : Thread nD τ) none) E
        (k1_t1_body (F := F) i arg1 harg1 arg2 harg2 arg3 harg3 arg4 harg4 arg5 harg5 k acc)
        (inv (Ix := Ix) (U := U) (Lvl := Lvl) c arg1 harg1 arg2 harg2 arg3 harg3 arg5 harg5 x1 x2 x3 x4 g 0 (k + 1)) := by
  have hk : k.val < 200 := lt_of_lt_of_le k.isLt k1_t1_abs.2.1
  conv => lhs; unfold inv
  iintro ⟨H1, H2, H3, H5, %hacc⟩
  subst hacc
  unfold k1_t1_body
  sl_exec
  sl_step
  iapply (close c arg1 harg1 arg2 harg2 arg3 harg3 arg5 harg5 x1 x2 x3 x4 g 0 k hk _ (k1_off1_eq k) (k1_off1_inb k) _ _
      (Scan.pay_first x1 x2 x3 x4 g k hk _
        (Scan.chunk_step arg1 harg1 x1 x2 x3 x4 0 k _ (k1_off2_eq k) hk (by decide) (k1_off2_inb k)) shapeCasts_S32x128_S1x32x128)
      (Scan.rows_step arg1 harg1 arg2 harg2 arg3 harg3 x1 x2 x3 x4 0 k _ _ (k1_off2_eq k) (k1_off1_eq k) hk (by decide)
        (k1_off2_inb k) (k1_off1_inb k))) $$ [H1 H2 H3 H5]
  isplitl [H1]
  · iexact H1
  isplitl [H2]
  · iexact H2
  isplitl [H3]
  · iexact H3
  iexact H5

set_option maxHeartbeats 4000000 in
theorem step2 (E : Set ℕ) (v19 v21) (k : Fin k1_t2_loop.trips) (acc) :
    inv (Ix := Ix) (U := U) (Lvl := Lvl) c arg1 harg1 arg2 harg2 arg3 harg3 arg5 harg5 x1 x2 x3 x4 g 1 k acc ⊢
      wp frame (wpE (defs₀ (F := F)) 𝒱₀ (c : Thread nD τ) none) E
        (k1_t2_body (F := F) i arg1 harg1 arg2 harg2 arg3 harg3 arg4 harg4 arg5 harg5 v19 v21 k acc)
        (inv (Ix := Ix) (U := U) (Lvl := Lvl) c arg1 harg1 arg2 harg2 arg3 harg3 arg5 harg5 x1 x2 x3 x4 g 1 (k + 1)) := by
  have hk : k.val < 200 := lt_of_lt_of_le k.isLt k1_t2_abs.2.1
  conv => lhs; unfold inv
  iintro ⟨H1, H2, H3, H5, %hacc⟩
  subst hacc
  unfold k1_t2_body
  sl_exec
  sl_step
  iapply (close c arg1 harg1 arg2 harg2 arg3 harg3 arg5 harg5 x1 x2 x3 x4 g 1 k hk _ (k1_off3_eq k) (k1_off3_inb k) _ _
      (Scan.pay_next arg5 harg5 x1 x2 x3 x4 g 0 k _ (k1_off3_eq k) hk (k1_off3_inb k) _
        (Scan.chunk_step arg1 harg1 x1 x2 x3 x4 1 k _ (k1_off4_eq k) hk (by decide) (k1_off4_inb k)) shapeCasts_S32x128_S1x32x128 shapeCasts_S1x32x128_S32x128)
      (Scan.rows_step arg1 harg1 arg2 harg2 arg3 harg3 x1 x2 x3 x4 1 k _ _ (k1_off4_eq k) (k1_off3_eq k) hk (by decide)
        (k1_off4_inb k) (k1_off3_inb k))) $$ [H1 H2 H3 H5]
  isplitl [H1]
  · iexact H1
  isplitl [H2]
  · iexact H2
  isplitl [H3]
  · iexact H3
  iexact H5

set_option maxHeartbeats 4000000 in
theorem step3 (E : Set ℕ) (v37 v39 v41 v43 v45) (k : Fin k1_t3_loop.trips) (acc) :
    inv (Ix := Ix) (U := U) (Lvl := Lvl) c arg1 harg1 arg2 harg2 arg3 harg3 arg5 harg5 x1 x2 x3 x4 g 2 k acc ⊢
      wp frame (wpE (defs₀ (F := F)) 𝒱₀ (c : Thread nD τ) none) E
        (k1_t3_body (F := F) i arg1 harg1 arg2 harg2 arg3 harg3 arg4 harg4 arg5 harg5 v37 v39 v41 v43 v45 k acc)
        (inv (Ix := Ix) (U := U) (Lvl := Lvl) c arg1 harg1 arg2 harg2 arg3 harg3 arg5 harg5 x1 x2 x3 x4 g 2 (k + 1)) := by
  have hk : k.val < 200 := lt_of_lt_of_le k.isLt k1_t3_abs.2.1
  conv => lhs; unfold inv
  iintro ⟨H1, H2, H3, H5, %hacc⟩
  subst hacc
  unfold k1_t3_body
  sl_exec
  sl_step
  iapply (close c arg1 harg1 arg2 harg2 arg3 harg3 arg5 harg5 x1 x2 x3 x4 g 2 k hk _ (k1_off5_eq k) (k1_off5_inb k) _ _
      (Scan.pay_next arg5 harg5 x1 x2 x3 x4 g 1 k _ (k1_off5_eq k) hk (k1_off5_inb k) _
        (Scan.chunk_step arg1 harg1 x1 x2 x3 x4 2 k _ (k1_off6_eq k) hk (by decide) (k1_off6_inb k)) shapeCasts_S32x128_S1x32x128 shapeCasts_S1x32x128_S32x128)
      (Scan.rows_step arg1 harg1 arg2 harg2 arg3 harg3 x1 x2 x3 x4 2 k _ _ (k1_off6_eq k) (k1_off5_eq k) hk (by decide)
        (k1_off6_inb k) (k1_off5_inb k))) $$ [H1 H2 H3 H5]
  isplitl [H1]
  · iexact H1
  isplitl [H2]
  · iexact H2
  isplitl [H3]
  · iexact H3
  iexact H5

set_option maxHeartbeats 4000000 in
theorem step4 (E : Set ℕ) (v55 v57 v59 v61 v63 v65 v67 v69 z) (k : Fin k1_t4_loop.trips) (acc) :
    inv (Ix := Ix) (U := U) (Lvl := Lvl) c arg1 harg1 arg2 harg2 arg3 harg3 arg5 harg5 x1 x2 x3 x4 g 3 k acc ⊢
      wp frame (wpE (defs₀ (F := F)) 𝒱₀ (c : Thread nD τ) none) E
        (k1_t4_body (F := F) i arg1 harg1 arg2 harg2 arg3 harg3 arg4 harg4 arg5 harg5 v55 v57 v59 v61 v63 v65 v67 v69 z k acc)
        (inv (Ix := Ix) (U := U) (Lvl := Lvl) c arg1 harg1 arg2 harg2 arg3 harg3 arg5 harg5 x1 x2 x3 x4 g 3 (k + 1)) := by
  have hk : k.val < 200 := lt_of_lt_of_le k.isLt k1_t4_abs.2.1
  conv => lhs; unfold inv
  iintro ⟨H1, H2, H3, H5, %hacc⟩
  subst hacc
  unfold k1_t4_body
  sl_exec
  sl_step
  iapply (close c arg1 harg1 arg2 harg2 arg3 harg3 arg5 harg5 x1 x2 x3 x4 g 3 k hk _ (k1_off7_eq k) (k1_off7_inb k) _ _
      (Scan.pay_next arg5 harg5 x1 x2 x3 x4 g 2 k _ (k1_off7_eq k) hk (k1_off7_inb k) _
        (Scan.chunk_step arg1 harg1 x1 x2 x3 x4 3 k _ (k1_off8_eq k) hk (by decide) (k1_off8_inb k)) shapeCasts_S32x128_S1x32x128 shapeCasts_S1x32x128_S32x128)
      (Scan.rows_step arg1 harg1 arg2 harg2 arg3 harg3 x1 x2 x3 x4 3 k _ _ (k1_off8_eq k) (k1_off7_eq k) hk (by decide)
        (k1_off8_inb k) (k1_off7_inb k))) $$ [H1 H2 H3 H5]
  isplitl [H1]
  · iexact H1
  isplitl [H2]
  · iexact H2
  isplitl [H3]
  · iexact H3
  iexact H5

set_option maxHeartbeats 4000000 in
theorem step5 (E : Set ℕ) (v55 v57 v59 v61 v63 v65 v67 v69 z) (k : Fin k1_t5_loop.trips) (acc) :
    inv (Ix := Ix) (U := U) (Lvl := Lvl) c arg1 harg1 arg2 harg2 arg3 harg3 arg5 harg5 x1 x2 x3 x4 g 4 k acc ⊢
      wp frame (wpE (defs₀ (F := F)) 𝒱₀ (c : Thread nD τ) none) E
        (k1_t5_body (F := F) i arg1 harg1 arg2 harg2 arg3 harg3 arg4 harg4 arg5 harg5 v55 v57 v59 v61 v63 v65 v67 v69 z k acc)
        (inv (Ix := Ix) (U := U) (Lvl := Lvl) c arg1 harg1 arg2 harg2 arg3 harg3 arg5 harg5 x1 x2 x3 x4 g 4 (k + 1)) := by
  have hk : k.val < 200 := lt_of_lt_of_le k.isLt k1_t5_abs.2.1
  conv => lhs; unfold inv
  iintro ⟨H1, H2, H3, H5, %hacc⟩
  subst hacc
  unfold k1_t5_body
  sl_exec
  sl_step
  iapply (close c arg1 harg1 arg2 harg2 arg3 harg3 arg5 harg5 x1 x2 x3 x4 g 4 k hk _ (k1_off9_eq k) (k1_off9_inb k) _ _
      (Scan.pay_next arg5 harg5 x1 x2 x3 x4 g 3 k _ (k1_off9_eq k) hk (k1_off9_inb k) _
        (Scan.chunk_step arg1 harg1 x1 x2 x3 x4 4 k _ (k1_off10_eq k) hk (by decide) (k1_off10_inb k)) shapeCasts_S32x128_S1x32x128 shapeCasts_S1x32x128_S32x128)
      (Scan.rows_step arg1 harg1 arg2 harg2 arg3 harg3 x1 x2 x3 x4 4 k _ _ (k1_off10_eq k) (k1_off9_eq k) hk (by decide)
        (k1_off10_inb k) (k1_off9_inb k))) $$ [H1 H2 H3 H5]
  isplitl [H1]
  · iexact H1
  isplitl [H2]
  · iexact H2
  isplitl [H3]
  · iexact H3
  iexact H5

set_option maxHeartbeats 4000000 in
theorem step6 (E : Set ℕ) (v91 v92) (k : Fin k1_t6_loop.trips) (acc) :
    inv (Ix := Ix) (U := U) (Lvl := Lvl) c arg1 harg1 arg2 harg2 arg3 harg3 arg5 harg5 x1 x2 x3 x4 g 5 k acc ⊢
      wp frame (wpE (defs₀ (F := F)) 𝒱₀ (c : Thread nD τ) none) E
        (k1_t6_body (F := F) i arg1 harg1 arg2 harg2 arg3 harg3 arg4 harg4 arg5 harg5 v91 v92 k acc)
        (inv (Ix := Ix) (U := U) (Lvl := Lvl) c arg1 harg1 arg2 harg2 arg3 harg3 arg5 harg5 x1 x2 x3 x4 g 5 (k + 1)) := by
  have hk : k.val < 200 := lt_of_lt_of_le k.isLt k1_t6_abs.2.1
  conv => lhs; unfold inv
  iintro ⟨H1, H2, H3, H5, %hacc⟩
  subst hacc
  unfold k1_t6_body
  sl_exec
  sl_step
  iapply (close c arg1 harg1 arg2 harg2 arg3 harg3 arg5 harg5 x1 x2 x3 x4 g 5 k hk _ (k1_off11_eq k) (k1_off11_inb k) _ _
      (Scan.pay_next arg5 harg5 x1 x2 x3 x4 g 4 k _ (k1_off11_eq k) hk (k1_off11_inb k) _
        (Scan.chunk_step arg1 harg1 x1 x2 x3 x4 5 k _ (k1_off12_eq k) hk (by decide) (k1_off12_inb k)) shapeCasts_S32x128_S1x32x128 shapeCasts_S1x32x128_S32x128)
      (Scan.rows_step arg1 harg1 arg2 harg2 arg3 harg3 x1 x2 x3 x4 5 k _ _ (k1_off12_eq k) (k1_off11_eq k) hk (by decide)
        (k1_off12_inb k) (k1_off11_inb k))) $$ [H1 H2 H3 H5]
  isplitl [H1]
  · iexact H1
  isplitl [H2]
  · iexact H2
  isplitl [H3]
  · iexact H3
  iexact H5

set_option maxHeartbeats 4000000 in
theorem step7 (E : Set ℕ) (v109 v111 v113 v115) (k : Fin k1_t7_loop.trips) (acc) :
    inv (Ix := Ix) (U := U) (Lvl := Lvl) c arg1 harg1 arg2 harg2 arg3 harg3 arg5 harg5 x1 x2 x3 x4 g 6 k acc ⊢
      wp frame (wpE (defs₀ (F := F)) 𝒱₀ (c : Thread nD τ) none) E
        (k1_t7_body (F := F) i arg1 harg1 arg2 harg2 arg3 harg3 arg4 harg4 arg5 harg5 v109 v111 v113 v115 k acc)
        (inv (Ix := Ix) (U := U) (Lvl := Lvl) c arg1 harg1 arg2 harg2 arg3 harg3 arg5 harg5 x1 x2 x3 x4 g 6 (k + 1)) := by
  have hk : k.val < 200 := lt_of_lt_of_le k.isLt k1_t7_abs.2.1
  conv => lhs; unfold inv
  iintro ⟨H1, H2, H3, H5, %hacc⟩
  subst hacc
  unfold k1_t7_body
  sl_exec
  sl_step
  iapply (close c arg1 harg1 arg2 harg2 arg3 harg3 arg5 harg5 x1 x2 x3 x4 g 6 k hk _ (k1_off13_eq k) (k1_off13_inb k) _ _
      (Scan.pay_next arg5 harg5 x1 x2 x3 x4 g 5 k _ (k1_off13_eq k) hk (k1_off13_inb k) _
        (Scan.chunk_step arg1 harg1 x1 x2 x3 x4 6 k _ (k1_off14_eq k) hk (by decide) (k1_off14_inb k)) shapeCasts_S32x128_S1x32x128 shapeCasts_S1x32x128_S32x128)
      (Scan.rows_step arg1 harg1 arg2 harg2 arg3 harg3 x1 x2 x3 x4 6 k _ _ (k1_off14_eq k) (k1_off13_eq k) hk (by decide)
        (k1_off14_inb k) (k1_off13_inb k))) $$ [H1 H2 H3 H5]
  isplitl [H1]
  · iexact H1
  isplitl [H2]
  · iexact H2
  isplitl [H3]
  · iexact H3
  iexact H5

set_option maxHeartbeats 4000000 in
theorem step8 (E : Set ℕ) (k : Fin k1_t8_loop.trips) (acc) :
    inv (Ix := Ix) (U := U) (Lvl := Lvl) c arg1 harg1 arg2 harg2 arg3 harg3 arg5 harg5 x1 x2 x3 x4 g 7 k acc ⊢
      wp frame (wpE (defs₀ (F := F)) 𝒱₀ (c : Thread nD τ) none) E
        (k1_t8_body (F := F) i arg1 harg1 arg2 harg2 arg3 harg3 arg4 harg4 arg5 harg5 k acc)
        (inv (Ix := Ix) (U := U) (Lvl := Lvl) c arg1 harg1 arg2 harg2 arg3 harg3 arg5 harg5 x1 x2 x3 x4 g 7 (k + 1)) := by
  have hk : k.val < 200 := lt_of_lt_of_le k.isLt k1_t8_abs.2.1
  conv => lhs; unfold inv
  iintro ⟨H1, H2, H3, H5, %hacc⟩
  subst hacc
  unfold k1_t8_body
  sl_exec
  sl_step
  iapply (close c arg1 harg1 arg2 harg2 arg3 harg3 arg5 harg5 x1 x2 x3 x4 g 7 k hk _ (k1_off15_eq k) (k1_off15_inb k) _ _
      (Scan.pay_next arg5 harg5 x1 x2 x3 x4 g 6 k _ (k1_off15_eq k) hk (k1_off15_inb k) _
        (Scan.chunk_step arg1 harg1 x1 x2 x3 x4 7 k _ (k1_off16_eq k) hk (by decide) (k1_off16_inb k)) shapeCasts_S32x128_S1x32x128 shapeCasts_S1x32x128_S32x128)
      (Scan.rows_step arg1 harg1 arg2 harg2 arg3 harg3 x1 x2 x3 x4 7 k _ _ (k1_off16_eq k) (k1_off15_eq k) hk (by decide)
        (k1_off16_inb k) (k1_off15_inb k))) $$ [H1 H2 H3 H5]
  isplitl [H1]
  · iexact H1
  isplitl [H2]
  · iexact H2
  isplitl [H3]
  · iexact H3
  iexact H5

/-- Into a chunk's loop. -/
theorem enter (n : ℕ) (acc) (hacc : acc = Scan.rows x1 x2 x3 x4 n 0) :
    iprop((arg1.view.loc (c : Thread nD τ) ↦[arg1.view.set]{fullShare} harg1.unread x1)
      ∗ (arg2.view.loc (c : Thread nD τ) ↦[arg2.view.set]{fullShare} harg2.unread x2)
      ∗ (arg3.view.loc (c : Thread nD τ) ↦[arg3.view.set]{fullShare} harg3.unread x3)
      ∗ (arg5.view.loc (c : Thread nD τ) ↦[arg5.view.set]{fullShare} harg5.unread (Scan.out x1 x2 x3 x4 g n)))
      ⊢ (inv (Ix := Ix) (U := U) (Lvl := Lvl) c arg1 harg1 arg2 harg2 arg3 harg3 arg5 harg5 x1 x2 x3 x4 g n 0 acc : sProp 𝕄) := by
  unfold inv
  rw [Scan.mid_zero]
  iintro ⟨H1, H2, H3, H5⟩
  isplitl [H1]
  · iexact H1
  isplitl [H2]
  · iexact H2
  isplitl [H3]
  · iexact H3
  isplitl [H5]
  · iexact H5
  ipureintro
  exact hacc

/-- Out of a chunk's loop. -/
theorem leave (n k : ℕ) (hk : 200 ≤ k) (acc) :
    (inv (Ix := Ix) (U := U) (Lvl := Lvl) c arg1 harg1 arg2 harg2 arg3 harg3 arg5 harg5 x1 x2 x3 x4 g n k acc : sProp 𝕄) ⊢
    iprop((arg1.view.loc (c : Thread nD τ) ↦[arg1.view.set]{fullShare} harg1.unread x1)
      ∗ (arg2.view.loc (c : Thread nD τ) ↦[arg2.view.set]{fullShare} harg2.unread x2)
      ∗ (arg3.view.loc (c : Thread nD τ) ↦[arg3.view.set]{fullShare} harg3.unread x3)
      ∗ (arg5.view.loc (c : Thread nD τ) ↦[arg5.view.set]{fullShare} harg5.unread (Scan.out x1 x2 x3 x4 g (n + 1)))) := by
  unfold inv
  rw [Scan.mid_last x1 x2 x3 x4 g n k hk]
  iintro ⟨H1, H2, H3, H5, -⟩
  isplitl [H1]
  · iexact H1
  isplitl [H2]
  · iexact H2
  isplitl [H3]
  · iexact H3
  iexact H5

/-- What the scan leaves in its output. -/
def res (x1 : Scan.W3 F) (x2 x3 : Scan.E3 F) (x4 : Scan.M3 F) : Scan.E3 F := Scan.out x1 x2 x3 x4 x2 8

set_option maxHeartbeats 4000000 in
theorem bodyRun (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (res x1 x2 x3 x4)) -∗ K ⟨⟩))
      ⊢ wp frame (wpE (defs₀ (F := F)) 𝒱₀ (c : Thread nD τ) none) E
          (cc1__scan_kernel (F := F) i arg1 harg1 arg2 harg2 arg3 harg3 arg4 harg4 arg5 harg5) K := by
  simp only [cc1__scan_kernel_eq_skeleton]; unfold cc1__scan_kernel_skel
  unfold owns
  iintro ⟨⟨%f1, %hf1, H1⟩, ⟨%f2, %hf2, H2⟩, ⟨%f3, %hf3, H3⟩, ⟨%f4, %hf4, H4⟩, ⟨%g, %f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec
  sl_for (inv (Ix := Ix) (U := U) (Lvl := Lvl) c arg1 harg1 arg2 harg2 arg3 harg3 arg5 harg5 x1 x2 x3 x4 g 0) $$ [H1 H2 H3 H5]
  · exact step1 𝒱₀ c i arg1 harg1 arg2 harg2 arg3 harg3 arg4 harg4 arg5 harg5 x1 x2 x3 x4 g E
  · iapply (enter c arg1 harg1 arg2 harg2 arg3 harg3 arg5 harg5 x1 x2 x3 x4 g 0 _
      (Scan.rows_init arg4 harg4 x1 x2 x3 x4 0 (by decide) inb_S64x32x128_S1x32x128_0_0_0 inb_S64x32x128_S1x32x128_1_0_0
        inb_S64x32x128_S1x32x128_2_0_0 inb_S64x32x128_S1x32x128_3_0_0 inb_S64x32x128_S1x32x128_4_0_0
        inb_S64x32x128_S1x32x128_5_0_0 inb_S64x32x128_S1x32x128_6_0_0 inb_S64x32x128_S1x32x128_7_0_0))
    isplitl [H1]; · iexact H1
    isplitl [H2]; · iexact H2
    isplitl [H3]; · iexact H3
    iexact H5
  iintro %acc1 HI
  ihave HI' := (leave c arg1 harg1 arg2 harg2 arg3 harg3 arg5 harg5 x1 x2 x3 x4 g 0 _ (by decide +kernel) acc1) $$ HI
  icases HI' with ⟨H1, H2, H3, H5⟩
  sl_exec
  sl_for (inv (Ix := Ix) (U := U) (Lvl := Lvl) c arg1 harg1 arg2 harg2 arg3 harg3 arg5 harg5 x1 x2 x3 x4 g 1) $$ [H1 H2 H3 H5]
  · exact step2 𝒱₀ c i arg1 harg1 arg2 harg2 arg3 harg3 arg4 harg4 arg5 harg5 x1 x2 x3 x4 g E _ _
  · iapply (enter c arg1 harg1 arg2 harg2 arg3 harg3 arg5 harg5 x1 x2 x3 x4 g 1 _
      (Scan.rows_init arg4 harg4 x1 x2 x3 x4 1 (by decide) inb_S64x32x128_S1x32x128_8_0_0 inb_S64x32x128_S1x32x128_9_0_0
        inb_S64x32x128_S1x32x128_10_0_0 inb_S64x32x128_S1x32x128_11_0_0 inb_S64x32x128_S1x32x128_12_0_0
        inb_S64x32x128_S1x32x128_13_0_0 inb_S64x32x128_S1x32x128_14_0_0 inb_S64x32x128_S1x32x128_15_0_0))
    isplitl [H1]; · iexact H1
    isplitl [H2]; · iexact H2
    isplitl [H3]; · iexact H3
    iexact H5
  iintro %acc2 HI
  ihave HI' := (leave c arg1 harg1 arg2 harg2 arg3 harg3 arg5 harg5 x1 x2 x3 x4 g 1 _ (by decide +kernel) acc2) $$ HI
  icases HI' with ⟨H1, H2, H3, H5⟩
  sl_exec
  sl_for (inv (Ix := Ix) (U := U) (Lvl := Lvl) c arg1 harg1 arg2 harg2 arg3 harg3 arg5 harg5 x1 x2 x3 x4 g 2) $$ [H1 H2 H3 H5]
  · exact step3 𝒱₀ c i arg1 harg1 arg2 harg2 arg3 harg3 arg4 harg4 arg5 harg5 x1 x2 x3 x4 g E _ _ _ _ _
  · iapply (enter c arg1 harg1 arg2 harg2 arg3 harg3 arg5 harg5 x1 x2 x3 x4 g 2 _
      (Scan.rows_init arg4 harg4 x1 x2 x3 x4 2 (by decide) inb_S64x32x128_S1x32x128_16_0_0 inb_S64x32x128_S1x32x128_17_0_0
        inb_S64x32x128_S1x32x128_18_0_0 inb_S64x32x128_S1x32x128_19_0_0 inb_S64x32x128_S1x32x128_20_0_0
        inb_S64x32x128_S1x32x128_21_0_0 inb_S64x32x128_S1x32x128_22_0_0 inb_S64x32x128_S1x32x128_23_0_0))
    isplitl [H1]; · iexact H1
    isplitl [H2]; · iexact H2
    isplitl [H3]; · iexact H3
    iexact H5
  iintro %acc3 HI
  ihave HI' := (leave c arg1 harg1 arg2 harg2 arg3 harg3 arg5 harg5 x1 x2 x3 x4 g 2 _ (by decide +kernel) acc3) $$ HI
  icases HI' with ⟨H1, H2, H3, H5⟩
  sl_exec
  sl_for (inv (Ix := Ix) (U := U) (Lvl := Lvl) c arg1 harg1 arg2 harg2 arg3 harg3 arg5 harg5 x1 x2 x3 x4 g 3) $$ [H1 H2 H3 H5]
  · exact step4 𝒱₀ c i arg1 harg1 arg2 harg2 arg3 harg3 arg4 harg4 arg5 harg5 x1 x2 x3 x4 g E _ _ _ _ _ _ _ _ _
  · iapply (enter c arg1 harg1 arg2 harg2 arg3 harg3 arg5 harg5 x1 x2 x3 x4 g 3 _
      (Scan.rows_init arg4 harg4 x1 x2 x3 x4 3 (by decide) inb_S64x32x128_S1x32x128_24_0_0 inb_S64x32x128_S1x32x128_25_0_0
        inb_S64x32x128_S1x32x128_26_0_0 inb_S64x32x128_S1x32x128_27_0_0 inb_S64x32x128_S1x32x128_28_0_0
        inb_S64x32x128_S1x32x128_29_0_0 inb_S64x32x128_S1x32x128_30_0_0 inb_S64x32x128_S1x32x128_31_0_0))
    isplitl [H1]; · iexact H1
    isplitl [H2]; · iexact H2
    isplitl [H3]; · iexact H3
    iexact H5
  iintro %acc4 HI
  ihave HI' := (leave c arg1 harg1 arg2 harg2 arg3 harg3 arg5 harg5 x1 x2 x3 x4 g 3 _ (by decide +kernel) acc4) $$ HI
  icases HI' with ⟨H1, H2, H3, H5⟩
  sl_exec
  sl_for (inv (Ix := Ix) (U := U) (Lvl := Lvl) c arg1 harg1 arg2 harg2 arg3 harg3 arg5 harg5 x1 x2 x3 x4 g 4) $$ [H1 H2 H3 H5]
  · exact step5 𝒱₀ c i arg1 harg1 arg2 harg2 arg3 harg3 arg4 harg4 arg5 harg5 x1 x2 x3 x4 g E _ _ _ _ _ _ _ _ _
  · iapply (enter c arg1 harg1 arg2 harg2 arg3 harg3 arg5 harg5 x1 x2 x3 x4 g 4 _
      (Scan.rows_init arg4 harg4 x1 x2 x3 x4 4 (by decide) inb_S64x32x128_S1x32x128_32_0_0 inb_S64x32x128_S1x32x128_33_0_0
        inb_S64x32x128_S1x32x128_34_0_0 inb_S64x32x128_S1x32x128_35_0_0 inb_S64x32x128_S1x32x128_36_0_0
        inb_S64x32x128_S1x32x128_37_0_0 inb_S64x32x128_S1x32x128_38_0_0 inb_S64x32x128_S1x32x128_39_0_0))
    isplitl [H1]; · iexact H1
    isplitl [H2]; · iexact H2
    isplitl [H3]; · iexact H3
    iexact H5
  iintro %acc5 HI
  ihave HI' := (leave c arg1 harg1 arg2 harg2 arg3 harg3 arg5 harg5 x1 x2 x3 x4 g 4 _ (by decide +kernel) acc5) $$ HI
  icases HI' with ⟨H1, H2, H3, H5⟩
  sl_exec
  sl_for (inv (Ix := Ix) (U := U) (Lvl := Lvl) c arg1 harg1 arg2 harg2 arg3 harg3 arg5 harg5 x1 x2 x3 x4 g 5) $$ [H1 H2 H3 H5]
  · exact step6 𝒱₀ c i arg1 harg1 arg2 harg2 arg3 harg3 arg4 harg4 arg5 harg5 x1 x2 x3 x4 g E _ _
  · iapply (enter c arg1 harg1 arg2 harg2 arg3 harg3 arg5 harg5 x1 x2 x3 x4 g 5 _
      (Scan.rows_init arg4 harg4 x1 x2 x3 x4 5 (by decide) inb_S64x32x128_S1x32x128_40_0_0 inb_S64x32x128_S1x32x128_41_0_0
        inb_S64x32x128_S1x32x128_42_0_0 inb_S64x32x128_S1x32x128_43_0_0 inb_S64x32x128_S1x32x128_44_0_0
        inb_S64x32x128_S1x32x128_45_0_0 inb_S64x32x128_S1x32x128_46_0_0 inb_S64x32x128_S1x32x128_47_0_0))
    isplitl [H1]; · iexact H1
    isplitl [H2]; · iexact H2
    isplitl [H3]; · iexact H3
    iexact H5
  iintro %acc6 HI
  ihave HI' := (leave c arg1 harg1 arg2 harg2 arg3 harg3 arg5 harg5 x1 x2 x3 x4 g 5 _ (by decide +kernel) acc6) $$ HI
  icases HI' with ⟨H1, H2, H3, H5⟩
  sl_exec
  sl_for (inv (Ix := Ix) (U := U) (Lvl := Lvl) c arg1 harg1 arg2 harg2 arg3 harg3 arg5 harg5 x1 x2 x3 x4 g 6) $$ [H1 H2 H3 H5]
  · exact step7 𝒱₀ c i arg1 harg1 arg2 harg2 arg3 harg3 arg4 harg4 arg5 harg5 x1 x2 x3 x4 g E _ _ _ _
  · iapply (enter c arg1 harg1 arg2 harg2 arg3 harg3 arg5 harg5 x1 x2 x3 x4 g 6 _
      (Scan.rows_init arg4 harg4 x1 x2 x3 x4 6 (by decide) inb_S64x32x128_S1x32x128_48_0_0 inb_S64x32x128_S1x32x128_49_0_0
        inb_S64x32x128_S1x32x128_50_0_0 inb_S64x32x128_S1x32x128_51_0_0 inb_S64x32x128_S1x32x128_52_0_0
        inb_S64x32x128_S1x32x128_53_0_0 inb_S64x32x128_S1x32x128_54_0_0 inb_S64x32x128_S1x32x128_55_0_0))
    isplitl [H1]; · iexact H1
    isplitl [H2]; · iexact H2
    isplitl [H3]; · iexact H3
    iexact H5
  iintro %acc7 HI
  ihave HI' := (leave c arg1 harg1 arg2 harg2 arg3 harg3 arg5 harg5 x1 x2 x3 x4 g 6 _ (by decide +kernel) acc7) $$ HI
  icases HI' with ⟨H1, H2, H3, H5⟩
  sl_exec
  sl_for (inv (Ix := Ix) (U := U) (Lvl := Lvl) c arg1 harg1 arg2 harg2 arg3 harg3 arg5 harg5 x1 x2 x3 x4 g 7) $$ [H1 H2 H3 H5]
  · exact step8 𝒱₀ c i arg1 harg1 arg2 harg2 arg3 harg3 arg4 harg4 arg5 harg5 x1 x2 x3 x4 g E
  · iapply (enter c arg1 harg1 arg2 harg2 arg3 harg3 arg5 harg5 x1 x2 x3 x4 g 7 _
      (Scan.rows_init arg4 harg4 x1 x2 x3 x4 7 (by decide) inb_S64x32x128_S1x32x128_56_0_0 inb_S64x32x128_S1x32x128_57_0_0
        inb_S64x32x128_S1x32x128_58_0_0 inb_S64x32x128_S1x32x128_59_0_0 inb_S64x32x128_S1x32x128_60_0_0
        inb_S64x32x128_S1x32x128_61_0_0 inb_S64x32x128_S1x32x128_62_0_0 inb_S64x32x128_S1x32x128_63_0_0))
    isplitl [H1]; · iexact H1
    isplitl [H2]; · iexact H2
    isplitl [H3]; · iexact H3
    iexact H5
  iintro %acc8 HI
  ihave HI' := (leave c arg1 harg1 arg2 harg2 arg3 harg3 arg5 harg5 x1 x2 x3 x4 g 7 _ (by decide +kernel) acc8) $$ HI
  icases HI' with ⟨H1, H2, H3, H5⟩
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap
  · iexact H5
  ipureintro
  rw [harg5.read_unread]
  exact Scan.out_indep x1 x2 x3 x4 g x2 7

end Cert.KernelIdeal.K1
end
-- ==== Proof.K1DatIdeal.lean ====
module

public import proofs.«01_k».proof.Proof.Gen.KernelIdeal.Points
public import proofs.«01_k».proof.Proof.K1Ideal
public import Idealize.ShloMosaic.Lib.Tactic
public import Idealize.ShloMosaic.Lib.Pipeline.FrameBody
public import Idealize.ShloMosaic.Lib.Pipeline.Kit
public import Idealize.ShloMosaic.Lib.Ring

@[expose] public section

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The call's proof data: its arrays at `V`, each input's buffer left at its block, the output's at the scan's reads. -/
def dat (c : Dev nD) : Dat τ (Elt F) Ix ℕ U Lvl cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => res (blk V c 0 t) (blk V c 1 t) (blk V c 2 t) (blk V c 3 t)
  Φ _ := iprop(Pipeline.scopedRest (Ix := Ix) (Name := ℕ) (U := U) (Lvl := Lvl) (Val := Elt F) spec1 c ∗ ∃ r, prngReg c r)
  q _ := fullShare
  owed _ := D c

local notation "𝕕" => dat (Ix := Ix) (U := U) (Lvl := Lvl) V D

theorem A_eq (c : Dev nD) (w : Fin cfg1.W) : (𝕕 c).A w = V c (Pipeline.arrRef spec1 w) := by dsimp only [dat]

theorem before0 (c : Dev nD) (t : Fin cfg1.N) (d) : (𝕕 c).before 0 t d = blk V c 0 t :=
  ((𝕕 c).before_in_eq_fetched 0 rfl (fun _ => rfl) (fun _ _ _ => rfl) (fun t => by dsimp only [dat]; unfold Dat.blockOf blk; rfl) t d).trans
    (by unfold Dat.fetched Dat.blockOf blk; rw [A_eq]; try rfl)
theorem before1 (c : Dev nD) (t : Fin cfg1.N) (d) : (𝕕 c).before 1 t d = blk V c 1 t :=
  ((𝕕 c).before_in_eq_fetched 1 rfl (fun _ => rfl) (fun _ _ _ => rfl) (fun t => by dsimp only [dat]; unfold Dat.blockOf blk; rfl) t d).trans
    (by unfold Dat.fetched Dat.blockOf blk; rw [A_eq]; try rfl)
theorem before2 (c : Dev nD) (t : Fin cfg1.N) (d) : (𝕕 c).before 2 t d = blk V c 2 t :=
  ((𝕕 c).before_in_eq_fetched 2 rfl (fun _ => rfl) (fun _ _ _ => rfl) (fun t => by dsimp only [dat]; unfold Dat.blockOf blk; rfl) t d).trans
    (by unfold Dat.fetched Dat.blockOf blk; rw [A_eq]; try rfl)
theorem before3 (c : Dev nD) (t : Fin cfg1.N) (d) : (𝕕 c).before 3 t d = blk V c 3 t :=
  ((𝕕 c).before_in_eq_fetched 3 rfl (fun _ => rfl) (fun _ _ _ => rfl) (fun t => by dsimp only [dat]; unfold Dat.blockOf blk; rfl) t d).trans
    (by unfold Dat.fetched Dat.blockOf blk; rw [A_eq]; try rfl)

variable (ι : Ix)

set_option maxHeartbeats 1000000 in
/-- One grid point: from the staged blocks the body leaves what the proof data say. -/
theorem body_obligation (c : Dev nD) : BodyObligation (𝕕 c) (defs₀ (F := F)) 𝒱₀ ι Set.univ := fun t => by
  rw [bigSep_W1, bigSep_W1, show defs₀ (F := F) .tc cfg1.body (cfg1.bodyArgs t (cfg1.slots t)) = bodyAt1 t from by unfold defs₀; rw [Defs.onTc_tc]]
  rw [show (𝕕 c).Φ t.succ = (𝕕 c).Φ t.castSucc from rfl, show (𝕕 c).owesAt ι t.succ = (𝕕 c).owesAt ι t.castSucc from rfl]
  have key : iprop((𝕕 c).Φ t.castSucc ∗ (𝕕 c).owesAt ι t.castSucc
      ∗ (∃ d, owns (c : Thread nD τ) (win1_0.stage (cfg1.slots t 0)) fullShare ((𝕕 c).before 0 t d))
      ∗ (∃ d, owns (c : Thread nD τ) (win1_1.stage (cfg1.slots t 1)) fullShare ((𝕕 c).before 1 t d))
      ∗ (∃ d, owns (c : Thread nD τ) (win1_2.stage (cfg1.slots t 2)) fullShare ((𝕕 c).before 2 t d))
      ∗ (∃ d, owns (c : Thread nD τ) (win1_3.stage (cfg1.slots t 3)) fullShare ((𝕕 c).before 3 t d))
      ∗ (∃ d, owns (c : Thread nD τ) (win1_4.stage (cfg1.slots t 4)) fullShare ((𝕕 c).before 4 t d)))
    ⊢ wp frame (wpE (defs₀ (F := F)) 𝒱₀ c none) Set.univ (bodyAt1 t) (fun _ => iprop((𝕕 c).Φ t.castSucc ∗ (𝕕 c).owesAt ι t.castSucc
      ∗ owns (c : Thread nD τ) (win1_0.stage (cfg1.slots t 0)) fullShare (blk V c 0 t)
      ∗ owns (c : Thread nD τ) (win1_1.stage (cfg1.slots t 1)) fullShare (blk V c 1 t)
      ∗ owns (c : Thread nD τ) (win1_2.stage (cfg1.slots t 2)) fullShare (blk V c 2 t)
      ∗ owns (c : Thread nD τ) (win1_3.stage (cfg1.slots t 3)) fullShare (blk V c 3 t)
      ∗ owns (c : Thread nD τ) (win1_4.stage (cfg1.slots t 4)) fullShare (res (blk V c 0 t) (blk V c 1 t) (blk V c 2 t) (blk V c 3 t)))) := by
    simp only [before0, before1, before2, before3]
    iintro ⟨HΦ, Ho, ⟨%d0, H0⟩, ⟨%d1, H1⟩, ⟨%d2, H2⟩, ⟨%d3, H3⟩, ⟨%d4, H4⟩⟩
    unfold bodyAt1
    iapply (bodyRun (Ix := Ix) (U := U) (Lvl := Lvl) 𝒱₀ c (grid1.coords t) _ _ _ _ _ _ _ _ _ _ (blk V c 0 t) (blk V c 1 t) (blk V c 2 t) (blk V c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  exact triple_restated key rfl .rfl fun _ => .rfl

end Cert.KernelIdeal.K1

end
-- ==== Proof.RunIdeal.lean ====
module

public import proofs.«01_k».proof.Proof.K0DatIdeal
public import proofs.«01_k».proof.Proof.K1DatIdeal
public import proofs.«01_k».proof.Proof.Gen.KernelIdeal.Regions
public import proofs.«01_k».proof.Proof.Gen.Own.KernelIdeal.K2.Frame
public import Idealize.ShloMosaic.Lib.Pipeline.RegionArraysTS
public import Idealize.ShloMosaic.Lib.Transfers
public import Idealize.ShloMosaic.Lib.Tactic
public import Idealize.ShloMosaic.Lib.Pipeline.FrameBody
public import Idealize.ShloMosaic.Lib.Pipeline.Kit
public import Idealize.ShloMosaic.Lib.Ring

@[expose] public section

noncomputable section

namespace Cert.KernelIdeal.Run

open Cert.KernelIdeal Cert.KernelIdeal.Gen Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

abbrev UU : Type := UR sig nD τ × Counters

local notation "𝕄" => MT nD τ sig Unit (Elt F) ℕ UU ℕ

abbrev 𝒱₀ : Variants := Variants.none
abbrev zeroD : Dev nD → CellTallies nD τ sig Unit := fun _ => 0
/-- The pipelines' waits are the only ones: every cell of the cores' has the one index, at level zero. -/
abbrev L : GSem nD τ sig → Finset Unit := fun g => if g.1.2 = .tc then {()} else ∅
abbrev lv : GSem nD τ sig → Unit → ℕ := fun _ _ => 0

variable (m : (ℓ : Loc nD τ sig) → Buf (Elt F) ℓ)

/-- The first call's table, as the host leaves it. -/
abbrev table : (pcfg0 (F := F)).Adm := ⟨fun k => V1 m 0 (Proc.devRef .tc (pre0.ref k)), trivial⟩
/-- The calls' tables: the first has one, the others none. -/
def adm : (p : Fin 3) → (pcfgs (F := F) p).Adm
  | ⟨0, _⟩ => table m
  | ⟨1, _⟩ => cfg1.toPCfg_adm
  | ⟨2, _⟩ => cfg2.toPCfg_adm

theorem tbl_aux (W : Valuation τ sig (Elt F)) (k) :
    (⟨fun k => W (Proc.devRef .tc (pre0.ref k)), trivial⟩ : (pcfg0 (F := F)).Adm).1 k = W (Proc.devRef .tc ((pcfgs (F := F) 0).pre.ref k)) := rfl
theorem adm_tbl (c : Dev nD) (k) : (adm m 0).1 k = V1 m c (Proc.devRef .tc ((pcfgs (F := F) 0).pre.ref k)) := by
  obtain rfl : c = 0 := Subsingleton.elim c 0
  exact tbl_aux (V1 m 0) k

variable (hw : ∀ y, k0_chk1 (K0.tbl (table m) y))

abbrev Ve0 (c : Dev nD) (b : Ref sig .tc) : Buf (Elt F) ((c : Thread nD τ).loc b) := V1 m c (Proc.devRef .tc b)
abbrev Ve1 (outs : Outs (F := F)) (c : Dev nD) (b : Ref sig .tc) : Buf (Elt F) ((c : Thread nD τ).loc b) := V3 m outs c (Proc.devRef .tc b)
abbrev Ve2 (outs : Outs (F := F)) (c : Dev nD) (b : Ref sig .tc) : Buf (Elt F) ((c : Thread nD τ).loc b) := V4 m outs c (Proc.devRef .tc b)

/-- The first call's proof data. -/
abbrev dat0 (c : Dev nD) : Dat τ (Elt F) Unit ℕ UU ℕ (cfg0 (table m)) c := K0.dat 𝒱₀ (Ve0 m) zeroD (table m) hw c

/-- What the first call leaves in its window 5. -/
def left0_0 (c : Dev nD) : Buf (Elt F) ((c : Thread nD τ).loc main_v51_0) := (dat0 m hw c).arrAt 5 (cfg0 (table m)).N
/-- What the first call leaves in its window 6. -/
def left0_1 (c : Dev nD) : Buf (Elt F) ((c : Thread nD τ).loc main_v51_1) := (dat0 m hw c).arrAt 6 (cfg0 (table m)).N
/-- What the first call leaves in its window 7. -/
def left0_2 (c : Dev nD) : Buf (Elt F) ((c : Thread nD τ).loc main_v51_2) := (dat0 m hw c).arrAt 7 (cfg0 (table m)).N
/-- What the first call leaves in its window 8. -/
def left0_3 (c : Dev nD) : Buf (Elt F) ((c : Thread nD τ).loc main_v51_3) := (dat0 m hw c).arrAt 8 (cfg0 (table m)).N
/-- What the first call leaves in its window 9. -/
def left0_4 (c : Dev nD) : Buf (Elt F) ((c : Thread nD τ).loc main_v51_4) := (dat0 m hw c).arrAt 9 (cfg0 (table m)).N
/-- The arrays the calls leave, one call after the other: as launched but for the first call's five, -/
def outA : Outs (F := F) := fun _ =>
  Function.update (Function.update (Function.update (Function.update (Function.update (fun r c => m ((c : Thread nD τ).loc r))
    main_v51_0 (left0_0 m hw)) main_v51_1 (left0_1 m hw)) main_v51_2 (left0_2 m hw)) main_v51_3 (left0_3 m hw)) main_v51_4 (left0_4 m hw)
/-- What the second call leaves. -/
def left1 (c : Dev nD) : Buf (Elt F) ((c : Thread nD τ).loc main_v53) := (K1.dat (Ix := Unit) (U := UU) (Lvl := ℕ) (Ve1 m (outA m hw)) zeroD c).arrAt 4 cfg1.N
/-- The arrays after the second call, -/
def outB : Outs (F := F) := fun k => Function.update (outA m hw k) main_v53 (left1 m hw)
/-- What the third call leaves. -/
def left2 (c : Dev nD) : Buf (Elt F) ((c : Thread nD τ).loc main_v54) := (K2.dat (Ix := Unit) (U := UU) (Lvl := ℕ) 𝒱₀ (Ve2 m (outB m hw)) zeroD c).arrAt 7 cfg2.N
/-- and after the third. -/
def outs : Outs (F := F) := fun k => Function.update (outB m hw k) main_v54 (left2 m hw)
theorem outB_ne (k : ℕ) (r : Ref sig .tc) (h : r ≠ main_v53) (c : Dev nD) : outB m hw k r c = outA m hw k r c := by
  unfold outB; rw [Function.update_of_ne h]
theorem outs_ne (k : ℕ) (r : Ref sig .tc) (h : r ≠ main_v54) (c : Dev nD) : outs m hw k r c = outB m hw k r c := by
  unfold outs; rw [Function.update_of_ne h]
theorem outs_A (k : ℕ) (r : Ref sig .tc) (h : r ≠ main_v54) (h' : r ≠ main_v53) (c : Dev nD) : outs m hw k r c = outA m hw k r c :=
  (outs_ne m hw k r h c).trans (outB_ne m hw k r h' c)

/-- The first call's five arrays settle the contents after it: -/
theorem V2_congr (o o' : Outs (F := F)) (h0 : ∀ c, o 2 main_v51_0 c = o' 2 main_v51_0 c) (h1 : ∀ c, o 2 main_v51_1 c = o' 2 main_v51_1 c)
    (h2 : ∀ c, o 2 main_v51_2 c = o' 2 main_v51_2 c) (h3 : ∀ c, o 2 main_v51_3 c = o' 2 main_v51_3 c)
    (h4 : ∀ c, o 2 main_v51_4 c = o' 2 main_v51_4 c) (c : Dev nD) : V2 m o c = V2 m o' c := by
  simp only [V2, h0, h1, h2, h3, h4]
theorem V3_A (c : Dev nD) : V3 m (outs m hw) c = V3 m (outA m hw) c := by
  unfold V3
  rw [V2_congr m (outs m hw) (outA m hw) (outs_A m hw 2 _ (by decide) (by decide)) (outs_A m hw 2 _ (by decide) (by decide))
    (outs_A m hw 2 _ (by decide) (by decide)) (outs_A m hw 2 _ (by decide) (by decide)) (outs_A m hw 2 _ (by decide) (by decide))]
theorem V3_B (c : Dev nD) : V3 m (outB m hw) c = V3 m (outA m hw) c := by
  unfold V3
  rw [V2_congr m (outB m hw) (outA m hw) (outB_ne m hw 2 _ (by decide)) (outB_ne m hw 2 _ (by decide))
    (outB_ne m hw 2 _ (by decide)) (outB_ne m hw 2 _ (by decide)) (outB_ne m hw 2 _ (by decide))]
theorem V4_B (c : Dev nD) : V4 m (outs m hw) c = V4 m (outB m hw) c := by
  unfold V4; rw [V3_A, V3_B, outs_ne m hw 4 main_v53 (by decide)]

theorem Ve1_A : Ve1 m (outs m hw) = Ve1 m (outA m hw) := by
  funext c b; unfold Ve1; rw [V3_A]
theorem Ve2_B : Ve2 m (outs m hw) = Ve2 m (outB m hw) := by
  funext c b; unfold Ve2; rw [V4_B]

/-- The three calls' proof data. -/
def pdats : (p : Fin 3) → (c : Dev nD) → Dat τ (Elt F) Unit ℕ UU ℕ (Pipeline.pin (pcfgs (F := F)) (adm m) p) c
  | ⟨0, _⟩ => fun c => dat0 m hw c
  | ⟨1, _⟩ => fun c => K1.dat (Ve1 m (outs m hw)) zeroD c
  | ⟨2, _⟩ => fun c => K2.dat 𝒱₀ (Ve2 m (outs m hw)) zeroD c

local notation "𝕡" => pdats m hw

theorem out_main_v51_0 (c : Dev nD) : outs m hw 2 main_v51_0 c = (dat0 m hw c).arrAt 5 (cfg0 (table m)).N := by
  rw [outs_A m hw 2 _ (by decide) (by decide)]; unfold outA
  simp only [Function.update_self, Function.update_of_ne (show (main_v51_0 : Ref sig .tc) ≠ main_v51_1 by decide), Function.update_of_ne (show (main_v51_0 : Ref sig .tc) ≠ main_v51_2 by decide), Function.update_of_ne (show (main_v51_0 : Ref sig .tc) ≠ main_v51_3 by decide), Function.update_of_ne (show (main_v51_0 : Ref sig .tc) ≠ main_v51_4 by decide)]
  exact rfl
theorem out_main_v51_1 (c : Dev nD) : outs m hw 2 main_v51_1 c = (dat0 m hw c).arrAt 6 (cfg0 (table m)).N := by
  rw [outs_A m hw 2 _ (by decide) (by decide)]; unfold outA
  simp only [Function.update_self, Function.update_of_ne (show (main_v51_1 : Ref sig .tc) ≠ main_v51_2 by decide), Function.update_of_ne (show (main_v51_1 : Ref sig .tc) ≠ main_v51_3 by decide), Function.update_of_ne (show (main_v51_1 : Ref sig .tc) ≠ main_v51_4 by decide)]
  exact rfl
theorem out_main_v51_2 (c : Dev nD) : outs m hw 2 main_v51_2 c = (dat0 m hw c).arrAt 7 (cfg0 (table m)).N := by
  rw [outs_A m hw 2 _ (by decide) (by decide)]; unfold outA
  simp only [Function.update_self, Function.update_of_ne (show (main_v51_2 : Ref sig .tc) ≠ main_v51_3 by decide), Function.update_of_ne (show (main_v51_2 : Ref sig .tc) ≠ main_v51_4 by decide)]
  exact rfl
theorem out_main_v51_3 (c : Dev nD) : outs m hw 2 main_v51_3 c = (dat0 m hw c).arrAt 8 (cfg0 (table m)).N := by
  rw [outs_A m hw 2 _ (by decide) (by decide)]; unfold outA
  simp only [Function.update_self, Function.update_of_ne (show (main_v51_3 : Ref sig .tc) ≠ main_v51_4 by decide)]
  exact rfl
theorem out_main_v51_4 (c : Dev nD) : outs m hw 2 main_v51_4 c = (dat0 m hw c).arrAt 9 (cfg0 (table m)).N := by
  rw [outs_A m hw 2 _ (by decide) (by decide)]; unfold outA
  simp only [Function.update_self]
  exact rfl
theorem out_main_v53 (c : Dev nD) : outs m hw 4 main_v53 c = (K1.dat (Ix := Unit) (U := UU) (Lvl := ℕ) (Ve1 m (outs m hw)) zeroD c).arrAt 4 cfg1.N := by
  rw [outs_ne m hw 4 _ (by decide), Ve1_A]; unfold outB; rw [Function.update_self]; exact rfl
theorem out_main_v54 (c : Dev nD) : outs m hw 5 main_v54 c = (K2.dat (Ix := Unit) (U := UU) (Lvl := ℕ) 𝒱₀ (Ve2 m (outs m hw)) zeroD c).arrAt 7 cfg2.N := by
  rw [Ve2_B]; unfold outs; rw [Function.update_self]; exact rfl

/-- The level condition of a call that owes nothing. -/
theorem cut (p : Fin 3) : Pipeline.LevelCut (pcfgs (F := F)) (adm m) () L lv p zeroD (fun _ => 0) where
  hι c w s := by simp [L]
  hιb c w s := le_rfl
  hD c g i h := absurd h (by simp)

/-- What rides beside the buffers: nothing owed, the random-number register. -/
abbrev rest (c : Dev nD) : sProp 𝕄 := iprop((∃ W, owes (c : Thread nD τ) (zeroD c) W) ∗ ∃ r, prngReg c r)

theorem V2_at_0 (o : Outs (F := F)) (c : Dev nD) : V2 m o c (Proc.devRef .tc main_v51_0) = o 2 main_v51_0 c := by
  simp only [V2, Function.update_self, Function.update_of_ne (show (Proc.devRef .tc main_v51_0 : DevRef τ sig) ≠ Proc.devRef .tc main_v51_1 from StableHlo.devRef_ne_of_ne (by decide)), Function.update_of_ne (show (Proc.devRef .tc main_v51_0 : DevRef τ sig) ≠ Proc.devRef .tc main_v51_2 from StableHlo.devRef_ne_of_ne (by decide)), Function.update_of_ne (show (Proc.devRef .tc main_v51_0 : DevRef τ sig) ≠ Proc.devRef .tc main_v51_3 from StableHlo.devRef_ne_of_ne (by decide)), Function.update_of_ne (show (Proc.devRef .tc main_v51_0 : DevRef τ sig) ≠ Proc.devRef .tc main_v51_4 from StableHlo.devRef_ne_of_ne (by decide))]
theorem V2_at_1 (o : Outs (F := F)) (c : Dev nD) : V2 m o c (Proc.devRef .tc main_v51_1) = o 2 main_v51_1 c := by
  simp only [V2, Function.update_self, Function.update_of_ne (show (Proc.devRef .tc main_v51_1 : DevRef τ sig) ≠ Proc.devRef .tc main_v51_2 from StableHlo.devRef_ne_of_ne (by decide)), Function.update_of_ne (show (Proc.devRef .tc main_v51_1 : DevRef τ sig) ≠ Proc.devRef .tc main_v51_3 from StableHlo.devRef_ne_of_ne (by decide)), Function.update_of_ne (show (Proc.devRef .tc main_v51_1 : DevRef τ sig) ≠ Proc.devRef .tc main_v51_4 from StableHlo.devRef_ne_of_ne (by decide))]
theorem V2_at_2 (o : Outs (F := F)) (c : Dev nD) : V2 m o c (Proc.devRef .tc main_v51_2) = o 2 main_v51_2 c := by
  simp only [V2, Function.update_self, Function.update_of_ne (show (Proc.devRef .tc main_v51_2 : DevRef τ sig) ≠ Proc.devRef .tc main_v51_3 from StableHlo.devRef_ne_of_ne (by decide)), Function.update_of_ne (show (Proc.devRef .tc main_v51_2 : DevRef τ sig) ≠ Proc.devRef .tc main_v51_4 from StableHlo.devRef_ne_of_ne (by decide))]
theorem V2_at_3 (o : Outs (F := F)) (c : Dev nD) : V2 m o c (Proc.devRef .tc main_v51_3) = o 2 main_v51_3 c := by
  simp only [V2, Function.update_self, Function.update_of_ne (show (Proc.devRef .tc main_v51_3 : DevRef τ sig) ≠ Proc.devRef .tc main_v51_4 from StableHlo.devRef_ne_of_ne (by decide))]
theorem V2_at_4 (o : Outs (F := F)) (c : Dev nD) : V2 m o c (Proc.devRef .tc main_v51_4) = o 2 main_v51_4 c := by
  simp only [V2, Function.update_self]
theorem V4_at (o : Outs (F := F)) (c : Dev nD) : V4 m o c (Proc.devRef .tc main_v53) = o 4 main_v53 c := by simp only [V4, Function.update_self]
theorem V5_at (o : Outs (F := F)) (c : Dev nD) : V5 m o c (Proc.devRef .tc main_v54) = o 5 main_v54 c := by simp only [V5, Function.update_self]

theorem arr1_S : Pipeline.arrRefs (τ := τ) spec1 ⊆ Pipeline.ucRefs τ sig := Pipeline.arrRefs_sub_ucRefs spec1 (by decide)
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- The second call changes its own result alone. -/
theorem rest1_eq (c : Dev nD) : ∀ b ∈ (Pipeline.ucRefs τ sig) \ Pipeline.arrRefs (τ := τ) spec1, V4 m (outs m hw) c b = V3 m (outs m hw) c b := fun b hb => by
  have hn : b ∉ Pipeline.arrRefs (τ := τ) spec1 := (Finset.mem_sdiff.mp hb).2
  have h : b ≠ Proc.devRef .tc main_v53 := by rintro rfl; exact hn (by first | exact arr1_mem 4 | decide)
  simp only [V4, Function.update_of_ne h]

set_option maxHeartbeats 4000000 in
theorem V4_arr (c : Dev nD) (w : Fin 5) : (K1.dat (Ix := Unit) (U := UU) (Lvl := ℕ) (Ve1 m (outs m hw)) zeroD c).arrAt w cfg1.N = V4 m (outs m hw) c (Proc.devRef .tc (Pipeline.arrRef spec1 w)) := by
  revert w
  exact fun
    | 0 => ((K1.dat (Ix := Unit) (U := UU) (Lvl := ℕ) (Ve1 m (outs m hw)) zeroD c).arrAt_in 0 rfl _).trans ((K1.A_eq (Ve1 m (outs m hw)) zeroD c 0).trans (V4_of m (outs m hw) c (Pipeline.arrRef spec1 0) (by decide)).symm)
    | 1 => ((K1.dat (Ix := Unit) (U := UU) (Lvl := ℕ) (Ve1 m (outs m hw)) zeroD c).arrAt_in 1 rfl _).trans ((K1.A_eq (Ve1 m (outs m hw)) zeroD c 1).trans (V4_of m (outs m hw) c (Pipeline.arrRef spec1 1) (by decide)).symm)
    | 2 => ((K1.dat (Ix := Unit) (U := UU) (Lvl := ℕ) (Ve1 m (outs m hw)) zeroD c).arrAt_in 2 rfl _).trans ((K1.A_eq (Ve1 m (outs m hw)) zeroD c 2).trans (V4_of m (outs m hw) c (Pipeline.arrRef spec1 2) (by decide)).symm)
    | 3 => ((K1.dat (Ix := Unit) (U := UU) (Lvl := ℕ) (Ve1 m (outs m hw)) zeroD c).arrAt_in 3 rfl _).trans ((K1.A_eq (Ve1 m (outs m hw)) zeroD c 3).trans (V4_of m (outs m hw) c (Pipeline.arrRef spec1 3) (by decide)).symm)
    | 4 => (out_main_v53 m hw c).symm.trans (V4_at m (outs m hw) c).symm

set_option backward.isDefEq.respectTransparency.types false in
/-- The second call as a stretch of the run. -/
def R1 : RegionSeg (pcfgs (F := F)) (adm m) 𝕡 () defs₀ 𝒱₀ L lv 1 :=
  Pipeline.RegionSeg.ofHeld (pcfgs (F := F)) (adm m) 𝕡 () defs₀ 𝒱₀ L lv 1 zeroD
    (fun c => iprop(∃ r, prngReg c r)) (fun c => iprop(∃ r, prngReg c r)) launch1 rfl
    (fun c => (K1.body_obligation 𝒱₀ (Ve1 m (outs m hw)) zeroD () c).loose) (fun _ _ => rfl) (fun _ => rfl)
    (fun c => (𝕡 1 c).share_full fun _ => rfl) (fun _ => .rfl) (fun _ => .rfl) (fun _ => 0) (cut m 1)
    (fun c => StableHlo.held (c : Thread nD τ) ((Pipeline.ucRefs τ sig) \ Pipeline.arrRefs (τ := τ) spec1) (V3 m (outs m hw) c))
    (V3 m (outs m hw)) (V4 m (outs m hw)) (fun _ _ => rfl)
    (V4_arr m hw)

theorem pre1 (c : Dev nD) : iprop(StableHlo.held (c : Thread nD τ) (Pipeline.ucRefs τ sig) (V3 m (outs m hw) c) ∗ rest c) ⊢ (R1 m hw).pre c := by
  show _ ⊢ iprop(StableHlo.held (c : Thread nD τ) (Pipeline.arrRefs (τ := τ) spec1) (V3 m (outs m hw) c) ∗ (∃ r, prngReg c r)
    ∗ StableHlo.held (c : Thread nD τ) ((Pipeline.ucRefs τ sig) \ Pipeline.arrRefs (τ := τ) spec1) (V3 m (outs m hw) c) ∗ ∃ W, owes (c : Thread nD τ) (zeroD c) W)
  rw [StableHlo.held_sub_split (c : Thread nD τ) arr1_S (V3 m (outs m hw) c)]
  iintro ⟨⟨Ha, Hr⟩, HO, Hp⟩
  isplitl [Ha]; · iexact Ha
  isplitl [Hp]; · iexact Hp
  isplitl [Hr]; · iexact Hr
  iexact HO

theorem post1 (c : Dev nD) : (R1 m hw).post c ⊢ iprop(StableHlo.held (c : Thread nD τ) (Pipeline.ucRefs τ sig) (V4 m (outs m hw) c) ∗ rest c) := by
  show iprop(StableHlo.held (c : Thread nD τ) (Pipeline.arrRefs (τ := τ) spec1) (V4 m (outs m hw) c) ∗ (∃ r, prngReg c r)
    ∗ StableHlo.held (c : Thread nD τ) ((Pipeline.ucRefs τ sig) \ Pipeline.arrRefs (τ := τ) spec1) (V3 m (outs m hw) c) ∗ ∃ W, owes (c : Thread nD τ) (zeroD c) W) ⊢ _
  rw [StableHlo.held_sub_split (c : Thread nD τ) arr1_S (V4 m (outs m hw) c),
    StableHlo.held_congr (c : Thread nD τ) (S := (Pipeline.ucRefs τ sig) \ Pipeline.arrRefs (τ := τ) spec1) (rest1_eq m hw c)]
  iintro ⟨Ha, Hp, Hr, HO⟩
  isplitl [Ha Hr]; · isplitl [Ha] <;> iassumption
  isplitl [HO]; · iexact HO
  iexact Hp

theorem arr0_S : Pipeline.arrRefs (τ := τ) spec0 ⊆ Pipeline.ucRefs τ sig := Pipeline.arrRefs_sub_ucRefs spec0 (by decide)
theorem tbl0_S : Pipeline.tblRefs (τ := τ) pre0 ⊆ Pipeline.ucRefs τ sig := Pipeline.tblRefs_sub_ucRefs pre0 (by decide)
theorem arr0_mem (w : Fin 10) : (Proc.devRef .tc (Pipeline.arrRef spec0 w) : DevRef τ sig) ∈ Pipeline.arrRefs (τ := τ) spec0 :=
  Finset.mem_map_of_mem _ (Finset.mem_image_of_mem _ (Finset.mem_univ w))

/-- Off its five results the first call changes nothing. -/
theorem V2_off (c : Dev nD) (b : DevRef τ sig) (hb : b ∉ Pipeline.arrRefs (τ := τ) spec0) : V2 m (outs m hw) c b = V1 m c b := by
  have h5 : b ≠ Proc.devRef .tc main_v51_0 := by rintro rfl; exact hb (by first | exact arr0_mem 5 | decide)
  have h6 : b ≠ Proc.devRef .tc main_v51_1 := by rintro rfl; exact hb (by first | exact arr0_mem 6 | decide)
  have h7 : b ≠ Proc.devRef .tc main_v51_2 := by rintro rfl; exact hb (by first | exact arr0_mem 7 | decide)
  have h8 : b ≠ Proc.devRef .tc main_v51_3 := by rintro rfl; exact hb (by first | exact arr0_mem 8 | decide)
  have h9 : b ≠ Proc.devRef .tc main_v51_4 := by rintro rfl; exact hb (by first | exact arr0_mem 9 | decide)
  simp only [V2, Function.update_of_ne h5, Function.update_of_ne h6, Function.update_of_ne h7, Function.update_of_ne h8, Function.update_of_ne h9]

set_option backward.isDefEq.respectTransparency.types false in
/-- The first call, with its table, as a stretch of the run. -/
def R0 : RegionSeg (pcfgs (F := F)) (adm m) 𝕡 () defs₀ 𝒱₀ L lv 0 :=
  Pipeline.RegionSeg.ofHeldInT (pcfgs (F := F)) (adm m) 𝕡 () defs₀ 𝒱₀ L lv 0 zeroD (Pipeline.ucRefs τ sig)
    (fun c => iprop(∃ r, prngReg c r)) (fun c => iprop(∃ r, prngReg c r)) launch0
    (fun c => (K0.body_obligation 𝒱₀ (Ve0 m) zeroD (table m) hw () c).loose) (fun _ _ => rfl) (fun _ => rfl)
    (fun c => (𝕡 0 c).share_full fun _ => rfl) (fun _ => .rfl) (fun _ => .rfl) (fun _ => 0) (cut m 0)
    (fun _ => iprop(emp)) (V1 m) (fun _ _ => rfl) (adm_tbl m)

set_option maxHeartbeats 4000000 in
theorem V2_arr (c : Dev nD) (w : Fin 10) : (dat0 m hw c).arrAt w (cfg0 (table m)).N = V2 m (outs m hw) c (Proc.devRef .tc (Pipeline.arrRef spec0 w)) := by
  revert w
  exact fun
    | 0 => ((dat0 m hw c).arrAt_in 0 rfl _).trans ((K0.A_eq 𝒱₀ (Ve0 m) zeroD (table m) hw c 0).trans (V2_of m (outs m hw) c (Pipeline.arrRef spec0 0) (by decide)).symm)
    | 1 => ((dat0 m hw c).arrAt_in 1 rfl _).trans ((K0.A_eq 𝒱₀ (Ve0 m) zeroD (table m) hw c 1).trans (V2_of m (outs m hw) c (Pipeline.arrRef spec0 1) (by decide)).symm)
    | 2 => ((dat0 m hw c).arrAt_in 2 rfl _).trans ((K0.A_eq 𝒱₀ (Ve0 m) zeroD (table m) hw c 2).trans (V2_of m (outs m hw) c (Pipeline.arrRef spec0 2) (by decide)).symm)
    | 3 => ((dat0 m hw c).arrAt_in 3 rfl _).trans ((K0.A_eq 𝒱₀ (Ve0 m) zeroD (table m) hw c 3).trans (V2_of m (outs m hw) c (Pipeline.arrRef spec0 3) (by decide)).symm)
    | 4 => ((dat0 m hw c).arrAt_in 4 rfl _).trans ((K0.A_eq 𝒱₀ (Ve0 m) zeroD (table m) hw c 4).trans (V2_of m (outs m hw) c (Pipeline.arrRef spec0 4) (by decide)).symm)
    | 5 => (out_main_v51_0 m hw c).symm.trans (V2_at_0 m (outs m hw) c).symm
    | 6 => (out_main_v51_1 m hw c).symm.trans (V2_at_1 m (outs m hw) c).symm
    | 7 => (out_main_v51_2 m hw c).symm.trans (V2_at_2 m (outs m hw) c).symm
    | 8 => (out_main_v51_3 m hw c).symm.trans (V2_at_3 m (outs m hw) c).symm
    | 9 => (out_main_v51_4 m hw c).symm.trans (V2_at_4 m (outs m hw) c).symm

/-- What the first call's region leaves is the contents after it. -/
theorem after0 (c : Dev nD) (b : DevRef τ sig) : Pipeline.afterRegion (𝕡 0 c) (V1 m c) b = V2 m (outs m hw) c b := by
  by_cases hb : b ∈ Pipeline.arrRefs (τ := τ) spec0
  · obtain ⟨r, hr, rfl⟩ := Finset.mem_map.mp hb
    obtain ⟨w, -, rfl⟩ := Finset.mem_image.mp hr
    exact (Pipeline.afterRegion_arr (𝕡 0 c) (V1 m c) (launch0 (F := F)).win.arr_inj w).trans (V2_arr m hw c w)
  · exact (Pipeline.afterRegion_off (𝕡 0 c) (V1 m c) (Pipeline.arrRefs (τ := τ) spec0 ∪ {b}) b (Finset.mem_sdiff.mpr ⟨Finset.mem_union_right _ (Finset.mem_singleton_self b), hb⟩)).trans (V2_off m hw c b hb).symm

set_option backward.isDefEq.respectTransparency.types false in
theorem pre0_ok (c : Dev nD) : iprop(StableHlo.held (c : Thread nD τ) (Pipeline.ucRefs τ sig) (V1 m c) ∗ rest c) ⊢ (R0 m hw).pre c := by
  have h : iprop(StableHlo.held (c : Thread nD τ) (Pipeline.ucRefs τ sig) (V1 m c) ∗ rest c) ⊢ (iprop(StableHlo.held (c : Thread nD τ) (Pipeline.ucRefs τ sig) (V1 m c) ∗ (∃ W, owes (c : Thread nD τ) (zeroD c) W) ∗ (∃ r, prngReg c r) ∗ emp) : sProp 𝕄) := by
    iintro ⟨Hh, HO, Hp⟩
    isplitl [Hh]; · iexact Hh
    isplitl [HO]; · iexact HO
    isplitl [Hp]; · iexact Hp
    iempintro
  refine BI.Entails.trans ?_ (Pipeline.RegionSeg.ofHeldInT_pre (p := 0) (pcs := pcfgs (F := F)) arr0_S tbl0_S c)
  exact h

set_option backward.isDefEq.respectTransparency.types false in
theorem post0_ok (c : Dev nD) : (R0 m hw).post c ⊢ iprop(StableHlo.held (c : Thread nD τ) (Pipeline.ucRefs τ sig) (V2 m (outs m hw) c) ∗ rest c) := by
  have h : (iprop(StableHlo.held (c : Thread nD τ) (Pipeline.ucRefs τ sig) (V2 m (outs m hw) c) ∗ (∃ W, owes (c : Thread nD τ) (zeroD c) W) ∗ (∃ r, prngReg c r) ∗ emp) : sProp 𝕄)
      ⊢ iprop(StableHlo.held (c : Thread nD τ) (Pipeline.ucRefs τ sig) (V2 m (outs m hw) c) ∗ rest c) := by
    iintro ⟨Hh, HO, Hp, -⟩
    isplitl [Hh]; · iexact Hh
    isplitl [HO]; · iexact HO
    iexact Hp
  refine BI.Entails.trans (Pipeline.RegionSeg.ofHeldInT_post (p := 0) (pcs := pcfgs (F := F)) arr0_S tbl0_S c) ?_
  rw [StableHlo.held_congr (c.tc : Thread nD τ) (S := Pipeline.ucRefs τ sig) (V' := V2 m (outs m hw) c) (fun b _ => after0 m hw c b)]
  exact h

theorem arr2_S : Pipeline.arrRefs (τ := τ) spec2 ⊆ Pipeline.ucRefs τ sig := Pipeline.arrRefs_sub_ucRefs spec2 (by decide)
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- The third call changes its own result alone. -/
theorem rest2_eq (c : Dev nD) : ∀ b ∈ (Pipeline.ucRefs τ sig) \ Pipeline.arrRefs (τ := τ) spec2, V5 m (outs m hw) c b = V4 m (outs m hw) c b := fun b hb => by
  have hn : b ∉ Pipeline.arrRefs (τ := τ) spec2 := (Finset.mem_sdiff.mp hb).2
  have h : b ≠ Proc.devRef .tc main_v54 := by rintro rfl; exact hn (by first | exact arr2_mem 7 | decide)
  simp only [V5, Function.update_of_ne h]

set_option maxHeartbeats 4000000 in
theorem V5_arr (c : Dev nD) (w : Fin 8) : (K2.dat (Ix := Unit) (U := UU) (Lvl := ℕ) 𝒱₀ (Ve2 m (outs m hw)) zeroD c).arrAt w cfg2.N = V5 m (outs m hw) c (Proc.devRef .tc (Pipeline.arrRef spec2 w)) := by
  revert w
  exact fun
    | 0 => ((K2.dat (Ix := Unit) (U := UU) (Lvl := ℕ) 𝒱₀ (Ve2 m (outs m hw)) zeroD c).arrAt_in 0 rfl _).trans ((K2.A_eq 𝒱₀ (Ve2 m (outs m hw)) zeroD c 0).trans (V5_of m (outs m hw) c (Pipeline.arrRef spec2 0) (by decide)).symm)
    | 1 => ((K2.dat (Ix := Unit) (U := UU) (Lvl := ℕ) 𝒱₀ (Ve2 m (outs m hw)) zeroD c).arrAt_in 1 rfl _).trans ((K2.A_eq 𝒱₀ (Ve2 m (outs m hw)) zeroD c 1).trans (V5_of m (outs m hw) c (Pipeline.arrRef spec2 1) (by decide)).symm)
    | 2 => ((K2.dat (Ix := Unit) (U := UU) (Lvl := ℕ) 𝒱₀ (Ve2 m (outs m hw)) zeroD c).arrAt_in 2 rfl _).trans ((K2.A_eq 𝒱₀ (Ve2 m (outs m hw)) zeroD c 2).trans (V5_of m (outs m hw) c (Pipeline.arrRef spec2 2) (by decide)).symm)
    | 3 => ((K2.dat (Ix := Unit) (U := UU) (Lvl := ℕ) 𝒱₀ (Ve2 m (outs m hw)) zeroD c).arrAt_in 3 rfl _).trans ((K2.A_eq 𝒱₀ (Ve2 m (outs m hw)) zeroD c 3).trans (V5_of m (outs m hw) c (Pipeline.arrRef spec2 3) (by decide)).symm)
    | 4 => ((K2.dat (Ix := Unit) (U := UU) (Lvl := ℕ) 𝒱₀ (Ve2 m (outs m hw)) zeroD c).arrAt_in 4 rfl _).trans ((K2.A_eq 𝒱₀ (Ve2 m (outs m hw)) zeroD c 4).trans (V5_of m (outs m hw) c (Pipeline.arrRef spec2 4) (by decide)).symm)
    | 5 => ((K2.dat (Ix := Unit) (U := UU) (Lvl := ℕ) 𝒱₀ (Ve2 m (outs m hw)) zeroD c).arrAt_in 5 rfl _).trans ((K2.A_eq 𝒱₀ (Ve2 m (outs m hw)) zeroD c 5).trans (V5_of m (outs m hw) c (Pipeline.arrRef spec2 5) (by decide)).symm)
    | 6 => ((K2.dat (Ix := Unit) (U := UU) (Lvl := ℕ) 𝒱₀ (Ve2 m (outs m hw)) zeroD c).arrAt_in 6 rfl _).trans ((K2.A_eq 𝒱₀ (Ve2 m (outs m hw)) zeroD c 6).trans (V5_of m (outs m hw) c (Pipeline.arrRef spec2 6) (by decide)).symm)
    | 7 => (out_main_v54 m hw c).symm.trans (V5_at m (outs m hw) c).symm

set_option backward.isDefEq.respectTransparency.types false in
/-- The third call as a stretch of the run. -/
def R2 : RegionSeg (pcfgs (F := F)) (adm m) 𝕡 () defs₀ 𝒱₀ L lv 2 :=
  Pipeline.RegionSeg.ofHeld (pcfgs (F := F)) (adm m) 𝕡 () defs₀ 𝒱₀ L lv 2 zeroD
    (fun c => iprop(∃ r, prngReg c r)) (fun c => iprop(∃ r, prngReg c r)) launch2 rfl
    (fun c => (K2.body_obligation (U := UU) (Lvl := ℕ) 𝒱₀ (Ve2 m (outs m hw)) zeroD () c).loose) (fun _ _ => rfl) (fun _ => rfl)
    (fun c => (𝕡 2 c).share_full fun _ => rfl) (fun _ => .rfl) (fun _ => .rfl) (fun _ => 0) (cut m 2)
    (fun c => StableHlo.held (c : Thread nD τ) ((Pipeline.ucRefs τ sig) \ Pipeline.arrRefs (τ := τ) spec2) (V4 m (outs m hw) c))
    (V4 m (outs m hw)) (V5 m (outs m hw)) (fun _ _ => rfl)
    (V5_arr m hw)

theorem pre2 (c : Dev nD) : iprop(StableHlo.held (c : Thread nD τ) (Pipeline.ucRefs τ sig) (V4 m (outs m hw) c) ∗ rest c) ⊢ (R2 m hw).pre c := by
  show _ ⊢ iprop(StableHlo.held (c : Thread nD τ) (Pipeline.arrRefs (τ := τ) spec2) (V4 m (outs m hw) c) ∗ (∃ r, prngReg c r)
    ∗ StableHlo.held (c : Thread nD τ) ((Pipeline.ucRefs τ sig) \ Pipeline.arrRefs (τ := τ) spec2) (V4 m (outs m hw) c) ∗ ∃ W, owes (c : Thread nD τ) (zeroD c) W)
  rw [StableHlo.held_sub_split (c : Thread nD τ) arr2_S (V4 m (outs m hw) c)]
  iintro ⟨⟨Ha, Hr⟩, HO, Hp⟩
  isplitl [Ha]; · iexact Ha
  isplitl [Hp]; · iexact Hp
  isplitl [Hr]; · iexact Hr
  iexact HO

theorem post2 (c : Dev nD) : (R2 m hw).post c ⊢ iprop(StableHlo.held (c : Thread nD τ) (Pipeline.ucRefs τ sig) (V5 m (outs m hw) c) ∗ rest c) := by
  show iprop(StableHlo.held (c : Thread nD τ) (Pipeline.arrRefs (τ := τ) spec2) (V5 m (outs m hw) c) ∗ (∃ r, prngReg c r)
    ∗ StableHlo.held (c : Thread nD τ) ((Pipeline.ucRefs τ sig) \ Pipeline.arrRefs (τ := τ) spec2) (V4 m (outs m hw) c) ∗ ∃ W, owes (c : Thread nD τ) (zeroD c) W) ⊢ _
  rw [StableHlo.held_sub_split (c : Thread nD τ) arr2_S (V5 m (outs m hw) c),
    StableHlo.held_congr (c : Thread nD τ) (S := (Pipeline.ucRefs τ sig) \ Pipeline.arrRefs (τ := τ) spec2) (rest2_eq m hw c)]
  iintro ⟨Ha, Hp, Hr, HO⟩
  isplitl [Ha Hr]; · isplitl [Ha] <;> iassumption
  isplitl [HO]; · iexact HO
  iexact Hp

/-- The launch element: the pipelines' cells and transfers; no counter. -/
def u₀ : UU := (initOf (Pipeline.cells (Pipeline.pin (pcfgs (F := F)) (adm m)) (cellOf_inj (adm m))) (Pipeline.launchToks (Pipeline.pin (pcfgs (F := F)) (adm m)) (cellOf_inj (adm m))), 1)

abbrev EPU : Emb (UR sig nD τ) (MT nD τ sig Unit (Elt F) ℕ UU ℕ) := embL

set_option backward.isDefEq.respectTransparency.types false in
/-- Every run of the whole program ends, with the result's array at the last contents, each argument as launched, every counter at zero. -/
theorem run (ρ : Dev nD → PrngReg) :
    θ_run defs (onTc (τ := τ) (main (F := F))) ⟨m, fun _ => 0, ρ⟩ (fun r => (∀ c : Dev nD,
      r.2.mem ((c.tc : Thread nD τ).loc main_v56) = V6 m (outs m hw) c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) := by
  refine Pipeline.θ_run_regions_kit_dev_sems (pcfgs (F := F)) (adm m) 𝕡 () (cellOf_inj (adm m)) EPU defs₀ 𝒱₀ L lv m ρ main
    (segs m (outs m hw) 𝒱₀ L lv (fun _ => rest) () (adm m) 𝕡 (R0 m hw) (R1 m hw) (R2 m hw))
    (fun c Q => by
      rewrite [main_chain c, Seg.run_eq_chain,
        show (segs m (outs m hw) 𝒱₀ L lv (fun _ => rest) () (adm m) 𝕡 (R0 m hw) (R1 m hw) (R2 m hw) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) zeroD
    (fun g hg => by simp [L, hg]) (fun _ => iprop(emp)) (u₀ m)
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V6 m (outs m hw) c))
    (hch := fun c => ⟨.rfl, pre0_ok m hw c, post0_ok m hw c, pre1 m hw c, (post1 m hw c).trans (pre2 m hw c), post2 m hw c,
      sep_mono .rfl (by
        show iprop((∃ W, owes (c : Thread nD τ) (zeroD c) W) ∗ ∃ r, prngReg c r) ⊢ _
        iintro ⟨HO, -⟩
        iexact HO)⟩)
    (hinit := ?_)
    (QY := fun c s => s.mem ((c.tc : Thread nD τ).loc main_v56) = V6 m (outs m hw) c (Proc.devRef .tc main_v56)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15))
    (hfin := fun c s' => ?_) (hQ := fun _ h hz => ⟨h, funext fun g => hz g (.inr (regions_no_unscoped g.2))⟩)
  · refine Pipeline.initEach L lv fun c => ?_
    rw [Pipeline.unscopedBufs_held (Ix := Unit) (Name := ℕ) (U := UU) (Lvl := ℕ) c (V0 m c)]
    iintro ⟨⟨Hh, -, HO, -, Hp, -⟩, -⟩
    imodintro
    isplitl [Hh]; · iexact Hh
    isplitl [HO]; · iexists ∅; iexact HO
    iexists _; iexact Hp
  · unfold StableHlo.held
    iintro ⟨Hh, HSI⟩
    ihave Hr := (pointsTo_read_all (Pipeline.ucRefs τ sig) (fun b => ((c : Thread nD τ).1, b)) (V6 m (outs m hw) c) s') $$ [Hh HSI]
    · isplitl [Hh] <;> iassumption
    icases Hr with ⟨%h, HSI⟩
    imodintro
    isplitr
    · ipureintro
      have hr : ∀ (b : Ref sig .tc), ¬ (Proc.devRef .tc b : DevRef τ sig).isScoped → s'.mem.mem ((c.tc : Thread nD τ).loc b) = V6 m (outs m hw) c (Proc.devRef .tc b) :=
        fun b hb => h (Proc.devRef .tc b) (Finset.mem_filter.mpr ⟨StableHlo.devRef_mem_tcRefs b, hb⟩)
      exact ⟨hr main_v56 (by decide), (hr main_arg0 (by decide)).trans (V6_main_arg0 m (outs m hw) c), (hr main_arg1 (by decide)).trans (V6_main_arg1 m (outs m hw) c), (hr main_arg2 (by decide)).trans (V6_main_arg2 m (outs m hw) c), (hr main_arg3 (by decide)).trans (V6_main_arg3 m (outs m hw) c), (hr main_arg4 (by decide)).trans (V6_main_arg4 m (outs m hw) c), (hr main_arg5 (by decide)).trans (V6_main_arg5 m (outs m hw) c), (hr main_arg6 (by decide)).trans (V6_main_arg6 m (outs m hw) c), (hr main_arg7 (by decide)).trans (V6_main_arg7 m (outs m hw) c), (hr main_arg8 (by decide)).trans (V6_main_arg8 m (outs m hw) c), (hr main_arg9 (by decide)).trans (V6_main_arg9 m (outs m hw) c), (hr main_arg10 (by decide)).trans (V6_main_arg10 m (outs m hw) c), (hr main_arg11 (by decide)).trans (V6_main_arg11 m (outs m hw) c), (hr main_arg12 (by decide)).trans (V6_main_arg12 m (outs m hw) c), (hr main_arg13 (by decide)).trans (V6_main_arg13 m (outs m hw) c), (hr main_arg14 (by decide)).trans (V6_main_arg14 m (outs m hw) c), (hr main_arg15 (by decide)).trans (V6_main_arg15 m (outs m hw) c)⟩
    · iexact HSI

end Cert.KernelIdeal.Run

end
-- ==== Proof.WordsIdeal.lean ====
/- The words of the first call's table are the words of `q`, transposed; under the precondition each satisfies what the call
   assumes of it. -/
module

public import proofs.«01_k».proof.Proof.Words
public import proofs.«01_k».proof.Proof.RunIdeal
public import Idealize.ShloMosaic.Lib.StableHlo.RunRead

@[expose] public section

namespace Cert.KernelIdeal.Run

open Idealize.ShloMosaic Idealize.ShloMosaic.Pipeline Idealize.SL.Sem Idealize.ShloMosaic.StableHlo Cert.KernelIdeal.Gen
open TcCoe

variable {F : FTy → Type} [FloatOps F]

/-- A word below 10000 is what the call assumes: its multiple of eight is one, and the eight rows from it on lie in the table. -/
theorem chk1_of_lt (v : BitVec 32) (h : v.toNat < 10000) : k0_chk1 v := by
  have e := Words.down8 v h
  refine ⟨⟨v.toNat / 8, ?_⟩, fun a => ?_⟩
  · show (Scalar.shli (Scalar.shrsi v 3#32) 3#32).toNat = _
    rw [e]; omega
  · match a with
    | ⟨0, _⟩ =>
      show (Scalar.shli (Scalar.shrsi v 3#32) 3#32).toNat + 8 ≤ 10000
      rw [e]; omega
    | ⟨1, _⟩ => show 0 + 128 ≤ 128; omega

/-- The first call's table is `q`, transposed. -/
theorem V1_main_v0 (m : (ℓ : Loc nD τ sig) → Buf (Elt F) ℓ) (c : Dev nD) :
    V1 m c (Proc.devRef .tc main_v0) = transpose S200x128 [1, 0] (m ((c : Thread nD τ).loc main_arg0)) transposes_S128x200_S200x128_1_0 := by
  unfold V1
  after_reads_simp

theorem hw_of (m : (ℓ : Loc nD τ sig) → Buf (Elt F) ℓ) (h : ∀ y, (m (((0 : Dev nD) : Thread nD τ).loc main_arg0) y).toNat < 10000) (y) :
    k0_chk1 (K0.tbl (table m) y) := by
  refine chk1_of_lt _ ?_
  show (V1 m 0 (Proc.devRef .tc main_v0) y).toNat < 10000
  rw [V1_main_v0]
  exact h _

end Cert.KernelIdeal.Run
-- ==== Proof.RefRun.lean ====
/- The reference's run stated over its loop's step, one trip at a time: what @main leaves before the loop is the first state, one trip takes
   a state to the next, and the result is read from the last. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v48_4) = s.main_v48_4
  f_5 : V0 (Proc.devRef .tc main_v48_5) = s.main_v48_5
  f_0 : V0 (Proc.devRef .tc main_v48_0) = s.main_v48_0
  f_1 : V0 (Proc.devRef .tc main_v48_1) = s.main_v48_1
  f_2 : V0 (Proc.devRef .tc main_v48_2) = s.main_v48_2
  n_3 : V0 (Proc.devRef .tc main_v48_3) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x128x64 (V0 (Proc.devRef .tc main_v48_0)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x64_S1x128x64 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_3]
  try rfl
set_option maxRecDepth 8192 in
theorem al_3 (h : Holds V0 s j) : (res_main_while0b_v86 V0 : (Proc.devRef .tc main_while0b_v86 : DevRef τ sig).ty.Contents (Elt F)) = Cert.ReferenceIdeal.Step.b3 j s := by
  unfold res_main_while0b_v86 Cert.ReferenceIdeal.Step.b3
  rw [← al_2 h]
  try rfl
set_option maxRecDepth 8192 in
theorem al_4 (h : Holds V0 s j) : (constantI S_ 32 0#32 : (Proc.devRef .tc main_while0b_call1_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call1_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x128x128 (V0 (Proc.devRef .tc main_v48_1)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128 : (Proc.devRef .tc main_while0b_call1_v0 : DevRef τ sig).ty.Contents (Elt F)) = Cert.ReferenceIdeal.Step.b6 j s := by
  unfold Cert.ReferenceIdeal.Step.b6
  rw [← al_4 h, ← al_5 h, h.f_1, h.n_3]
  try rfl
set_option maxRecDepth 8192 in
theorem al_7 (h : Holds V0 s j) : (shapeCast S128x128 (Host.dynamicSlice S1x128x128 (V0 (Proc.devRef .tc main_v48_1)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128 : (Proc.devRef .tc main_while0b_v87 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (constantI S_ 32 0#32 : (Proc.devRef .tc main_while0b_call2_c : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_0 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x128x128 (V0 (Proc.devRef .tc main_v48_2)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128 : (Proc.devRef .tc main_while0b_call2_v0 : DevRef τ sig).ty.Contents (Elt F)) = Cert.ReferenceIdeal.Step.b10 j s := by
  unfold Cert.ReferenceIdeal.Step.b10
  rw [← al_8 h, ← al_9 h, h.f_2, h.n_3]
  try rfl
set_option maxRecDepth 8192 in
theorem al_11 (h : Holds V0 s j) : (shapeCast S128x128 (Host.dynamicSlice S1x128x128 (V0 (Proc.devRef .tc main_v48_2)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128 : (Proc.devRef .tc main_while0b_v88 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (Host.dotGeneral dot_S128x64_S128x64x128_S128x128_1_1_n_2_0_0 none (res_main_while0b_v86 V0) (V0 (Proc.devRef .tc main_v48_4)) : (Proc.devRef .tc main_while0b_v89 : DevRef τ sig).ty.Contents (Elt F)) = Cert.ReferenceIdeal.Step.b12 j s := by
  unfold Cert.ReferenceIdeal.Step.b12
  rw [← al_3 h, h.f_4]
  try rfl
set_option maxRecDepth 8192 in
theorem al_13 (h : Holds V0 s j) : (res_main_while0b_v90 V0 : (Proc.devRef .tc main_while0b_v90 : DevRef τ sig).ty.Contents (Elt F)) = Cert.ReferenceIdeal.Step.b13 j s := by
  unfold res_main_while0b_v90 Cert.ReferenceIdeal.Step.b13
  rw [← al_3 h]
  try rfl
set_option maxRecDepth 8192 in
theorem al_14 (h : Holds V0 s j) : (broadcastInDim S128x1x128 ![0, 2] bcast_S128x128_S128x1x128_0_2 (shapeCast S128x128 (Host.dynamicSlice S1x128x128 (V0 (Proc.devRef .tc main_v48_1)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128) : (Proc.devRef .tc main_while0b_v91 : DevRef τ sig).ty.Contents (Elt F)) = Cert.ReferenceIdeal.Step.b14 j s := by
  unfold Cert.ReferenceIdeal.Step.b14
  rw [← al_7 h]
  try rfl
set_option maxRecDepth 8192 in
theorem al_15 (h : Holds V0 s j) : (broadcastInDim S128x64x128 ![0, 1, 2] bcast_S128x64x1_S128x64x128_0_1_2 (res_main_while0b_v90 V0) : (Proc.devRef .tc main_while0b_v92 : DevRef τ sig).ty.Contents (Elt F)) = Cert.ReferenceIdeal.Step.b15 j s := by
  unfold Cert.ReferenceIdeal.Step.b15
  rw [← al_13 h]
  try rfl
set_option maxRecDepth 8192 in
theorem al_16 (h : Holds V0 s j) : (broadcastInDim S128x64x128 ![0, 1, 2] bcast_S128x1x128_S128x64x128_0_1_2 (broadcastInDim S128x1x128 ![0, 2] bcast_S128x128_S128x1x128_0_2 (shapeCast S128x128 (Host.dynamicSlice S1x128x128 (V0 (Proc.devRef .tc main_v48_1)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128)) : (Proc.devRef .tc main_while0b_v93 : DevRef τ sig).ty.Contents (Elt F)) = Cert.ReferenceIdeal.Step.b16 j s := by
  unfold Cert.ReferenceIdeal.Step.b16
  rw [← al_14 h]
  try rfl
set_option maxRecDepth 8192 in
theorem al_17 (h : Holds V0 s j) : (mulf (broadcastInDim S128x64x128 ![0, 1, 2] bcast_S128x64x1_S128x64x128_0_1_2 (res_main_while0b_v90 V0)) (broadcastInDim S128x64x128 ![0, 1, 2] bcast_S128x1x128_S128x64x128_0_1_2 (broadcastInDim S128x1x128 ![0, 2] bcast_S128x128_S128x1x128_0_2 (shapeCast S128x128 (Host.dynamicSlice S1x128x128 (V0 (Proc.devRef .tc main_v48_1)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128))) : (Proc.devRef .tc main_while0b_v94 : DevRef τ sig).ty.Contents (Elt F)) = Cert.ReferenceIdeal.Step.b17 j s := by
  unfold Cert.ReferenceIdeal.Step.b17
  rw [← al_15 h, ← al_16 h]
  try rfl
set_option maxRecDepth 8192 in
theorem al_18 (h : Holds V0 s j) : (constant S_ .f32 0x3F800000#32 : (Proc.devRef .tc main_while0b_cst_19 : DevRef τ sig).ty.Contents (Elt F)) = Cert.ReferenceIdeal.Step.b18 j s := by
  unfold Cert.ReferenceIdeal.Step.b18
  rfl
set_option maxRecDepth 8192 in
theorem al_19 (h : Holds V0 s j) : (broadcastInDim S128x64x128 ![] bcast_S_S128x64x128 (constant S_ .f32 0x3F800000#32) : (Proc.devRef .tc main_while0b_v95 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (subf (broadcastInDim S128x64x128 ![] bcast_S_S128x64x128 (constant S_ .f32 0x3F800000#32)) (mulf (broadcastInDim S128x64x128 ![0, 1, 2] bcast_S128x64x1_S128x64x128_0_1_2 (res_main_while0b_v90 V0)) (broadcastInDim S128x64x128 ![0, 1, 2] bcast_S128x1x128_S128x64x128_0_1_2 (broadcastInDim S128x1x128 ![0, 2] bcast_S128x128_S128x1x128_0_2 (shapeCast S128x128 (Host.dynamicSlice S1x128x128 (V0 (Proc.devRef .tc main_v48_1)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128)))) : (Proc.devRef .tc main_while0b_v96 : DevRef τ sig).ty.Contents (Elt F)) = Cert.ReferenceIdeal.Step.b20 j s := by
  unfold Cert.ReferenceIdeal.Step.b20
  rw [← al_19 h, ← al_17 h]
  try rfl
set_option maxRecDepth 8192 in
theorem al_21 (h : Holds V0 s j) : (mulf (V0 (Proc.devRef .tc main_v48_4)) (subf (broadcastInDim S128x64x128 ![] bcast_S_S128x64x128 (constant S_ .f32 0x3F800000#32)) (mulf (broadcastInDim S128x64x128 ![0, 1, 2] bcast_S128x64x1_S128x64x128_0_1_2 (res_main_while0b_v90 V0)) (broadcastInDim S128x64x128 ![0, 1, 2] bcast_S128x1x128_S128x64x128_0_1_2 (broadcastInDim S128x1x128 ![0, 2] bcast_S128x128_S128x1x128_0_2 (shapeCast S128x128 (Host.dynamicSlice S1x128x128 (V0 (Proc.devRef .tc main_v48_1)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128))))) : (Proc.devRef .tc main_while0b_v97 : DevRef τ sig).ty.Contents (Elt F)) = Cert.ReferenceIdeal.Step.b21 j s := by
  unfold Cert.ReferenceIdeal.Step.b21
  rw [← al_20 h, h.f_4]
  try rfl
set_option maxRecDepth 8192 in
theorem al_22 (h : Holds V0 s j) : (broadcastInDim S128x1x128 ![0, 2] bcast_S128x128_S128x1x128_0_2 (shapeCast S128x128 (Host.dynamicSlice S1x128x128 (V0 (Proc.devRef .tc main_v48_2)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128) : (Proc.devRef .tc main_while0b_v98 : DevRef τ sig).ty.Contents (Elt F)) = Cert.ReferenceIdeal.Step.b22 j s := by
  unfold Cert.ReferenceIdeal.Step.b22
  rw [← al_11 h]
  try rfl
set_option maxRecDepth 8192 in
theorem al_23 (h : Holds V0 s j) : (broadcastInDim S128x64x128 ![0, 1, 2] bcast_S128x64x1_S128x64x128_0_1_2 (res_main_while0b_v90 V0) : (Proc.devRef .tc main_while0b_v99 : DevRef τ sig).ty.Contents (Elt F)) = Cert.ReferenceIdeal.Step.b23 j s := by
  unfold Cert.ReferenceIdeal.Step.b23
  rw [← al_13 h]
  try rfl
set_option maxRecDepth 8192 in
theorem al_24 (h : Holds V0 s j) : (broadcastInDim S128x64x128 ![0, 1, 2] bcast_S128x1x128_S128x64x128_0_1_2 (broadcastInDim S128x1x128 ![0, 2] bcast_S128x128_S128x1x128_0_2 (shapeCast S128x128 (Host.dynamicSlice S1x128x128 (V0 (Proc.devRef .tc main_v48_2)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128)) : (Proc.devRef .tc main_while0b_v100 : DevRef τ sig).ty.Contents (Elt F)) = Cert.ReferenceIdeal.Step.b24 j s := by
  unfold Cert.ReferenceIdeal.Step.b24
  rw [← al_22 h]
  try rfl
set_option maxRecDepth 8192 in
theorem al_25 (h : Holds V0 s j) : (mulf (broadcastInDim S128x64x128 ![0, 1, 2] bcast_S128x64x1_S128x64x128_0_1_2 (res_main_while0b_v90 V0)) (broadcastInDim S128x64x128 ![0, 1, 2] bcast_S128x1x128_S128x64x128_0_1_2 (broadcastInDim S128x1x128 ![0, 2] bcast_S128x128_S128x1x128_0_2 (shapeCast S128x128 (Host.dynamicSlice S1x128x128 (V0 (Proc.devRef .tc main_v48_2)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128))) : (Proc.devRef .tc main_while0b_v101 : DevRef τ sig).ty.Contents (Elt F)) = Cert.ReferenceIdeal.Step.b25 j s := by
  unfold Cert.ReferenceIdeal.Step.b25
  rw [← al_23 h, ← al_24 h]
  try rfl
set_option maxRecDepth 8192 in
theorem al_26 (h : Holds V0 s j) : (addf (mulf (V0 (Proc.devRef .tc main_v48_4)) (subf (broadcastInDim S128x64x128 ![] bcast_S_S128x64x128 (constant S_ .f32 0x3F800000#32)) (mulf (broadcastInDim S128x64x128 ![0, 1, 2] bcast_S128x64x1_S128x64x128_0_1_2 (res_main_while0b_v90 V0)) (broadcastInDim S128x64x128 ![0, 1, 2] bcast_S128x1x128_S128x64x128_0_1_2 (broadcastInDim S128x1x128 ![0, 2] bcast_S128x128_S128x1x128_0_2 (shapeCast S128x128 (Host.dynamicSlice S1x128x128 (V0 (Proc.devRef .tc main_v48_1)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128)))))) (mulf (broadcastInDim S128x64x128 ![0, 1, 2] bcast_S128x64x1_S128x64x128_0_1_2 (res_main_while0b_v90 V0)) (broadcastInDim S128x64x128 ![0, 1, 2] bcast_S128x1x128_S128x64x128_0_1_2 (broadcastInDim S128x1x128 ![0, 2] bcast_S128x128_S128x1x128_0_2 (shapeCast S128x128 (Host.dynamicSlice S1x128x128 (V0 (Proc.devRef .tc main_v48_2)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128)))) : (Proc.devRef .tc main_while0b_v102 : DevRef τ sig).ty.Contents (Elt F)) = Cert.ReferenceIdeal.Step.b26 j s := by
  unfold Cert.ReferenceIdeal.Step.b26
  rw [← al_21 h, ← al_25 h]
  try rfl
set_option maxRecDepth 8192 in
theorem al_27 (h : Holds V0 s j) : (broadcastInDim S1x128x128 ![1, 2] bcast_S128x128_S1x128x128_1_2 (Host.dotGeneral dot_S128x64_S128x64x128_S128x128_1_1_n_2_0_0 none (res_main_while0b_v86 V0) (V0 (Proc.devRef .tc main_v48_4))) : (Proc.devRef .tc main_while0b_call3_v0 : DevRef τ sig).ty.Contents (Elt F)) = Cert.ReferenceIdeal.Step.b27 j s := by
  unfold Cert.ReferenceIdeal.Step.b27
  rw [← al_12 h]
  try rfl
set_option maxRecDepth 8192 in
theorem al_28 (h : Holds V0 s j) : (constantI S_ 32 0#32 : (Proc.devRef .tc main_while0b_call3_c : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call3_c_0 : DevRef τ sig).ty.Contents (Elt F)) = Cert.ReferenceIdeal.Step.b29 j s := by
  unfold Cert.ReferenceIdeal.Step.b29
  rfl
set_option maxRecDepth 8192 in
theorem al_30 (h : Holds V0 s j) : (Host.dynamicUpdateSlice (V0 (Proc.devRef .tc main_v48_5)) (broadcastInDim S1x128x128 ![1, 2] bcast_S128x128_S1x128x128_1_2 (Host.dotGeneral dot_S128x64_S128x64x128_S128x128_1_1_n_2_0_0 none (res_main_while0b_v86 V0) (V0 (Proc.devRef .tc main_v48_4)))) (fun k => (((![V0 (Proc.devRef .tc main_v48_3), constantI S_ 32 0#32, constantI S_ 32 0#32] : Fin 3 → (⟨S_, .i32⟩ : BufTy).Contents (Elt F))) k (Shape.Idx.first h_S_)).toInt) updateFits_S200x128x128_S1x128x128 : (Proc.devRef .tc main_while0b_v103 : DevRef τ sig).ty.Contents (Elt F)) = Cert.ReferenceIdeal.Step.b30 j s := by
  unfold Cert.ReferenceIdeal.Step.b30
  rw [← al_27 h, ← al_28 h, ← al_29 h, h.f_5, h.n_3]
  try rfl

/-! One trip's step of the carried values is `step`, field by field; a counter steps to the next number. -/

theorem step_4 (h : Holds V0 s j) : step_main_v48_4 V0 = (step j s).main_v48_4 := by
  unfold step_main_v48_4 Cert.ReferenceIdeal.Step.step
  show id (addf (mulf (V0 (Proc.devRef .tc main_v48_4)) (subf (broadcastInDim S128x64x128 ![] bcast_S_S128x64x128 (constant S_ .f32 0x3F800000#32)) (mulf (broadcastInDim S128x64x128 ![0, 1, 2] bcast_S128x64x1_S128x64x128_0_1_2 (res_main_while0b_v90 V0)) (broadcastInDim S128x64x128 ![0, 1, 2] bcast_S128x1x128_S128x64x128_0_1_2 (broadcastInDim S128x1x128 ![0, 2] bcast_S128x128_S128x1x128_0_2 (shapeCast S128x128 (Host.dynamicSlice S1x128x128 (V0 (Proc.devRef .tc main_v48_1)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128)))))) (mulf (broadcastInDim S128x64x128 ![0, 1, 2] bcast_S128x64x1_S128x64x128_0_1_2 (res_main_while0b_v90 V0)) (broadcastInDim S128x64x128 ![0, 1, 2] bcast_S128x1x128_S128x64x128_0_1_2 (broadcastInDim S128x1x128 ![0, 2] bcast_S128x128_S128x1x128_0_2 (shapeCast S128x128 (Host.dynamicSlice S1x128x128 (V0 (Proc.devRef .tc main_v48_2)) (fun k => (((![V0 (Proc.devRef .tc main_v48_3), constantI S_ 32 0#32, constantI S_ 32 0#32] : Fin 3 → (⟨S_, .i32⟩ : BufTy).Contents (Elt F))) k (Shape.Idx.first h_S_)).toInt) sliceFits_S200x128x128_S1x128x128) shapeCasts_S1x128x128_S128x128))))) = _
  rw [al_26 h]
  try rfl
theorem step_5 (h : Holds V0 s j) : step_main_v48_5 V0 = (step j s).main_v48_5 := by
  unfold step_main_v48_5 Cert.ReferenceIdeal.Step.step
  exact al_30 h
theorem step_3 (h : Holds V0 s j) : step_main_v48_3 V0 = constantI S_ 32 (BitVec.ofNat 32 (j + 1)) := by
  unfold step_main_v48_3
  rw [h.n_3]
  funext i
  show BitVec.ofNat 32 j + 1#32 = BitVec.ofNat 32 (j + 1)
  simp only [BitVec.ofNat_add]

set_option maxRecDepth 8192 in
theorem out_main_v85_holds (h : Holds V0 s j) {x_main_arg0 : (⟨S128x200, .i32⟩ : BufTy).Contents (Elt F)} (h_main_arg0 : V0 (Proc.devRef .tc main_arg0) = x_main_arg0) {x_main_arg2 : (⟨S10000x128, .f32⟩ : BufTy).Contents (Elt F)} (h_main_arg2 : V0 (Proc.devRef .tc main_arg2) = x_main_arg2) {x_main_arg6 : (⟨S128x256, .f32⟩ : BufTy).Contents (Elt F)} (h_main_arg6 : V0 (Proc.devRef .tc main_arg6) = x_main_arg6) {x_main_arg7 : (⟨S128, .f32⟩ : BufTy).Contents (Elt F)} (h_main_arg7 : V0 (Proc.devRef .tc main_arg7) = x_main_arg7) {x_main_arg12 : (⟨S1x128, .f32⟩ : BufTy).Contents (Elt F)} (h_main_arg12 : V0 (Proc.devRef .tc main_arg12) = x_main_arg12) {x_main_arg13 : (⟨S1, .f32⟩ : BufTy).Contents (Elt F)} (h_main_arg13 : V0 (Proc.devRef .tc main_arg13) = x_main_arg13) {x_main_arg14 : (⟨S1x128, .f32⟩ : BufTy).Contents (Elt F)} (h_main_arg14 : V0 (Proc.devRef .tc main_arg14) = x_main_arg14) {x_main_arg15 : (⟨S1, .f32⟩ : BufTy).Contents (Elt F)} (h_main_arg15 : V0 (Proc.devRef .tc main_arg15) = x_main_arg15) : out_main_v85 V0 = Cert.ReferenceIdeal.Step.R_main_v85 s x_main_arg0 x_main_arg2 x_main_arg6 x_main_arg7 x_main_arg12 x_main_arg13 x_main_arg14 x_main_arg15 := by
  unfold out_main_v85 Cert.ReferenceIdeal.Step.R_main_v85
  rw [h.f_5, h_main_arg0, h_main_arg2, h_main_arg6, h_main_arg7, h_main_arg12, h_main_arg13, h_main_arg14, h_main_arg15]
  try rfl

/-- One trip keeps the valuation holding: `step` of the state, the same set-up values, the next number. -/
theorem holds_step (h : Holds V0 s j) : Holds (STEP V0) (step j s) (j + 1) where
  f_4 := (STEP_main_v48_4 V0).trans (step_4 h)
  f_5 := (STEP_main_v48_5 V0).trans (step_5 h)
  n_3 := (STEP_main_v48_3 V0).trans (step_3 h)
  f_0 := (STEP_main_v48_0 V0).trans h.f_0
  f_1 := (STEP_main_v48_1 V0).trans h.f_1
  f_2 := (STEP_main_v48_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 200 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v85) = Cert.ReferenceIdeal.Step.R_main_v85 (it c 200) (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have hk := holds_iter m c (it c) (h0 c) (hs c) 200
    ⟨(h c).1.trans (out_main_v85_holds hk (iter_main_arg0 m c 200) (iter_main_arg2 m c 200) (iter_main_arg6 m c 200) (iter_main_arg7 m c 200) (iter_main_arg12 m c 200) (iter_main_arg13 m c 200) (iter_main_arg14 m c 200) (iter_main_arg15 m c 200)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2⟩) (Value.run m ρ)

end Cert.ReferenceIdeal.RefRun

end
-- ==== Proof.K0Rows.lean ====
module

public import proofs.«01_k».proof.Proof.K0DatIdeal
public import proofs.«01_k».proof.Proof.Words
public import Idealize.ShloMosaic.Lib.Pipeline.ValueKit
public import Idealize.ShloMosaic.Lib.Pointwise

@[expose] public section

set_option maxRecDepth 16384

noncomputable section

/-! The first call's gathered rows: row `128 j + b` of the scratch is the embedding's row named by the table's word at
    step `4 i + j`, sequence `b`. -/
namespace Cert.KernelIdeal.K0

open Cert.KernelIdeal Cert.KernelIdeal.Gen
open Idealize.ShloMosaic Idealize.ShloMosaic.TcCoe Idealize.ShloMosaic.Tactic
open Idealize.ShloMosaic.Pointwise

/-- The table's word at grid point `i`, row `k` of the scratch. -/
def word (i : grid0.Coords) (T : Vec Ideal S200x128 .i32) (k : ℕ) : BitVec 32 :=
  T (ix2 (Fin.ofNat 200 (4 * (i 0).val + k / 128)) (Fin.ofNat 128 (k % 128)))

/-- The scratch's contents. -/
def keys (i : grid0.Coords) (T : Vec Ideal S200x128 .i32) (x2 : Vec Ideal S10000x128 .f32) : Vec Ideal S512x128 .f32 :=
  fun y => x2 (ix2 (Fin.ofNat 10000 (word i T (y 0).val).toNat) (y 1))

theorem word_bits (v : BitVec 32) (r : Fin 8) (h : r = Fin.ofNat 8 v.toNat) : BitVec.ofNat 32 r.val = Scalar.andi v 7#32 := by
  subst h
  apply BitVec.eq_of_toNat_eq
  simp only [Scalar.andi, IntOp.andi, BitVec.toNat_and, BitVec.toNat_ofNat, Fin.ofNat]
  rw [show 7 % 2 ^ 32 = 2 ^ 3 - 1 from rfl, Nat.and_two_pow_sub_one_eq_mod]
  omega

theorem bits_word (v : BitVec 32) (r : Fin 8) (h : BitVec.ofNat 32 r.val = Scalar.andi v 7#32) : r = Fin.ofNat 8 v.toNat := by
  have e := congrArg BitVec.toNat (h.trans (word_bits v _ rfl).symm)
  simp only [BitVec.toNat_ofNat] at e
  have h1 := r.isLt
  have h2 := (Fin.ofNat 8 v.toNat).isLt
  exact Fin.ext (by omega)

/-- The chosen row of eight, by its three low bits. -/
theorem pick (v : BitVec 32) (x : Vec Ideal S8x128 .f32) (d : Fin 128) :
    k0_pay5 (F := Ideal) v x (ix2 0 d) = x (ix2 (Fin.ofNat 8 v.toNat) d) := by
  have e : k0_pay5 (F := Ideal) v x (ix2 0 d)
      = ∑ r : Fin 8, Scalar.select (IntOp.cmpi CmpIPredicate.eq (BitVec.ofNat 32 r.val) (Scalar.andi v 7#32)) (x (ix2 r d)) 0 := by
    pointwise [k0_pay5]
  rw [e, Finset.sum_eq_single (Fin.ofNat 8 v.toNat)]
  · have h : BitVec.ofNat 32 (Fin.ofNat 8 v.toNat).val = Scalar.andi v 7#32 := word_bits v _ rfl
    rw [h]; simp [Scalar.select, IntOp.cmpi]
  · intro r _ hr
    have h : BitVec.ofNat 32 r.val ≠ Scalar.andi v 7#32 := fun h => hr (bits_word v r h)
    have hb : (BitVec.ofNat 32 r.val == Scalar.andi v 7#32) = false := by simpa using h
    simp only [Scalar.select, IntOp.cmpi, hb]
    rfl
  · exact fun h => absurd (Finset.mem_univ _) h

theorem row_good (i : grid0.Coords) (arg1 : Memref sig .tc .smem S200x128 .i32) (harg1 : arg1.IsWhole)
    (arg3 : Memref sig .tc .vmem S10000x128 .f32) (harg3 : arg3.IsWhole) (T : Vec Ideal S200x128 .i32) (x2 : Vec Ideal S10000x128 .f32)
    (hlt : ∀ y, (T y).toNat < 10000) (k : ℕ) (inb : ∀ a, (![k, 0] : Fin 2 → ℕ) a + S1x128.size a ≤ S512x128.size a)
    (o : Fin 2 → ℕ) [co : ClosedOff o] (inbo : ∀ a, o a + S1x1.size a ≤ S200x128.size a) (ne : 0 < (Rect.unit (s := S200x128) o S1x1.size inbo).shape.numel)
    (wd : BitVec 32) (off : Fin 2 → ℕ) (inb2 : ∀ a, off a + S8x128.size a ≤ S10000x128.size a)
    (pay : FVec Ideal S1x128 .f32)
    (hpay : pay = k0_pay5 wd (View.readAt (Elt Ideal) arg3.view (Rect.unit (s := S10000x128) off S8x128.size inb2).toLoadRect (harg3.unread x2)))
    (hwd : wd = View.readAt (Elt Ideal) arg1.view (Rect.unit (s := S200x128) o S1x1.size inbo).toLoadRect (harg1.unread T) (Shape.Idx.first ne))
    (hoff : off = k0_off2 wd) (hform : co.form = ![4 * (i 0).val + k / 128, k % 128]) (x : (Rect.unit (s := S512x128) ![k, 0] S1x128.size inb).shape.Idx) :
    pay x = keys i T x2 ((Rect.unit (s := S512x128) ![k, 0] S1x128.size inb).emb x) := by
  subst hpay hoff
  have hw' : wd = word i T k := by
    rw [hwd, View.readAt_apply, harg1.read_unread]
    unfold word
    congr 1
    funext a
    apply Fin.ext
    have ho := co.eq.trans hform
    subst ho
    have h0 : (i 0).val < 50 := (i 0).isLt
    have hk : k + 1 ≤ 512 := inb 0
    have hz : ∀ a, ((Shape.Idx.first ne) a).val = 0 := fun a => Nat.lt_one_iff.1 (by match a with | ⟨0, _⟩ => exact ((Shape.Idx.first ne) 0).isLt | ⟨1, _⟩ => exact ((Shape.Idx.first ne) 1).isLt)
    match a with
    | ⟨0, _⟩ =>
      show 4 * (i 0).val + k / 128 + 1 * ((Shape.Idx.first ne) 0).val = (4 * (i 0).val + k / 128) % 200
      have := hz 0
      omega
    | ⟨1, _⟩ =>
      show k % 128 + 1 * ((Shape.Idx.first ne) 1).val = (k % 128) % 128
      have := hz 1
      omega
  have hl : wd.toNat < 10000 := by rw [hw']; exact hlt _
  obtain ⟨x0, d, rfl⟩ : ∃ (x0 : Fin 1) (d : Fin 128), x = ix2 x0 d := ⟨x 0, x 1, by funext a; match a with | ⟨0, _⟩ => rfl | ⟨1, _⟩ => rfl⟩
  obtain rfl : x0 = 0 := Subsingleton.elim _ _
  rw [pick, View.readAt_apply, harg3.read_unread]
  unfold keys
  congr 1
  have e8 := Words.down8 wd hl
  have hk : k < 512 := by have := inb 0; exact this
  funext a
  apply Fin.ext
  match a with
  | ⟨0, _⟩ =>
    show (Scalar.shli (Scalar.shrsi wd 3#32) 3#32).toNat + 1 * (wd.toNat % 8) = (word i T (k + 1 * 0)).toNat % 10000
    rw [e8, show k + 1 * 0 = k from rfl, ← hw']
    omega
  | ⟨1, _⟩ =>
    show 0 + 1 * d.val = 0 + 1 * d.val
    rfl

variable (c : Dev nD) (i : grid0.Coords) (arg1 : Memref sig .tc .smem S200x128 .i32) (harg1 : arg1.IsWhole)
    (arg3 : Memref sig .tc .vmem S10000x128 .f32) (harg3 : arg3.IsWhole) (arg12 : Memref sig .tc .vmem S512x128 .f32)
    (T : Vec Ideal S200x128 .i32) (x2 : Vec Ideal S10000x128 .f32)
    (hT : ∀ (r : LoadRect S200x128) (y : r.shape.Idx), k0_chk1 (View.readAt (Elt Ideal) arg1.view r (harg1.unread T) y))
    (hlt : ∀ y, (T y).toNat < 10000)

set_option maxHeartbeats 4000000 in
include hlt in
/-- Every piece stored into the scratch is a part of its contents. -/
theorem pieces : ∀ p ∈ bodyRun.sl.H12_512 c i arg1 harg1 arg3 harg3 T x2 hT, ∀ x, p.2 x = keys i T x2 (p.1.emb x) := by
  iterate 512
    refine List.forall_mem_cons.2 ⟨?_, ?_⟩
    · dsimp only
      exact row_good i arg1 harg1 arg3 harg3 T x2 hlt _ _ _ _ _ _ _ _ _ rfl rfl rfl rfl
  exact List.forall_mem_nil _

include hlt in
/-- The scratch, read whole after its stores. -/
theorem scratch_eq : bodyRun.sl.v9218 c i arg1 harg1 arg3 harg3 arg12 T x2 hT = keys i T x2 := by
  have cover : ∀ y : S512x128.Idx, ∃ p ∈ bodyRun.sl.H12_512 c i arg1 harg1 arg3 harg3 T x2 hT, y ∈ p.1.set :=
    View.cover_of_tiledL _ S1x128.size (by sl_kernel_rfl)
  unfold bodyRun.sl.v9218
  rw [View.readCov_eq_canon_ld _ _ _ cover]
  funext y
  show View.canon _ _ = _
  rw [View.canon_eq_of_allAt _ _ (keys i T x2 y) (cover _)]
  intro p hp x hx
  rw [pieces c i arg1 harg1 arg3 harg3 T x2 hT hlt p hp x, hx]
  congr 1
  funext a
  apply Fin.ext
  match a with
  | ⟨0, _⟩ => show 0 + 1 * (y 0).val = (y 0).val; omega
  | ⟨1, _⟩ => show 0 + 1 * (y 1).val = (y 1).val; omega

end Cert.KernelIdeal.K0
end
-- ==== Proof.K0Val.lean ====
module

public import proofs.«01_k».proof.Proof.K0Rows

@[expose] public section

set_option maxRecDepth 16384

noncomputable section

/-! What the first call's body leaves in its five outputs, at an index. -/
namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open Idealize.ShloMosaic.Pointwise

/-- Row `a` of the stacked weights against the key in row `y` of the scratch. -/
def mix (x3 : Vec Ideal S456x128 .f32) (k : Vec Ideal S512x128 .f32) (a : Fin 456) (y : Fin 512) : EReal :=
  ∑ x : Fin 128, x3 (ix2 a x) * k (ix2 y x)

/-- The row of the scratch for step `j`, sequence `b`. -/
abbrev at4 (j : Fin 4) (b : Fin 128) : Fin 512 := ⟨128 * j.val + b.val, by omega⟩

/-- The slots' scores for step `j`, sequence `b`. -/
abbrev score (x3 : Vec Ideal S456x128 .f32) (k : Vec Ideal S512x128 .f32) (j : Fin 4) (b : Fin 128) (m : Fin 64) : EReal :=
  mix x3 k ⟨385 + m.val, by omega⟩ (at4 j b)

/-- Scores to weights. -/
def soft (s : Fin 64 → EReal) (m : Fin 64) : EReal :=
  Ideal.div (Ideal.exp (s m - Finset.fold max (Ideal.ofBits .f32 4286578688#32) s Finset.univ))
    (∑ x, Ideal.exp (s x - Finset.fold max (Ideal.ofBits .f32 4286578688#32) s Finset.univ))

def V5 (x3 : Vec Ideal S456x128 .f32) (k : Vec Ideal S512x128 .f32) : Vec Ideal S4x64x128 .f32 :=
  fun y => soft (score x3 k (y 0) (y 2)) (y 1)
def V6 (x1 : Vec Ideal S4x1x128 .f32) (x3 : Vec Ideal S456x128 .f32) (x4 : Vec Ideal S4x128x128 .f32) (k : Vec Ideal S512x128 .f32) : Vec Ideal S4x128x128 .f32 :=
  fun y => Ideal.logistic (mix x3 k ⟨(y 1).val, by have h : (y 1).val < 128 := (y 1).isLt; omega⟩ (at4 (y 0) (y 2)) + x4 (ix3 0 (y 1) (y 2)) + x1 (ix3 (y 0) 0 (y 2)) * x4 (ix3 1 (y 1) (y 2)))
def V7 (x1 : Vec Ideal S4x1x128 .f32) (x3 : Vec Ideal S456x128 .f32) (x4 : Vec Ideal S4x128x128 .f32) (k : Vec Ideal S512x128 .f32) : Vec Ideal S4x128x128 .f32 :=
  fun y => Ideal.tanh (mix x3 k ⟨128 + (y 1).val, by have h : (y 1).val < 128 := (y 1).isLt; omega⟩ (at4 (y 0) (y 2)) + x4 (ix3 2 (y 1) (y 2)) + x1 (ix3 (y 0) 0 (y 2)) * x4 (ix3 3 (y 1) (y 2)))
def V8 (x3 : Vec Ideal S456x128 .f32) (k : Vec Ideal S512x128 .f32) : Vec Ideal S4x128x128 .f32 :=
  fun y => mix x3 k ⟨256 + (y 1).val, by have h : (y 1).val < 128 := (y 1).isLt; omega⟩ (at4 (y 0) (y 2))
def V9 (x3 : Vec Ideal S456x128 .f32) (x5 : Vec Ideal S1x1x128 .f32) (k : Vec Ideal S512x128 .f32) : Vec Ideal S4x1x128 .f32 :=
  fun y => Ideal.tanh (mix x3 k 384 (at4 (y 0) (y 2)) + x5 (ix3 0 0 (y 2)))

variable {Ix : Type} [DecidableEq Ix] {U : Type} [URA U] {Lvl : Type} [Preorder Lvl]
variable (𝒱₀ : Variants) (c : Dev nD) (i : grid0.Coords) (arg1 : Memref sig .tc .smem S200x128 .i32) (harg1 : arg1.IsWhole) (arg2 : Memref sig .tc .vmem S4x1x128 .f32) (harg2 : arg2.IsWhole) (arg3 : Memref sig .tc .vmem S10000x128 .f32) (harg3 : arg3.IsWhole) (arg4 : Memref sig .tc .vmem S456x128 .f32) (harg4 : arg4.IsWhole) (arg5 : Memref sig .tc .vmem S4x128x128 .f32) (harg5 : arg5.IsWhole) (arg6 : Memref sig .tc .vmem S1x1x128 .f32) (harg6 : arg6.IsWhole) (arg7 : Memref sig .tc .vmem S4x64x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x1x128 .f32) (harg11 : arg11.IsWhole) (arg12 : Memref sig .tc .vmem S512x128 .f32) (harg12 : arg12.IsWhole)
    (T : Vec Ideal S200x128 .i32) (x1 : Vec Ideal S4x1x128 .f32) (x2 : Vec Ideal S10000x128 .f32) (x3 : Vec Ideal S456x128 .f32) (x4 : Vec Ideal S4x128x128 .f32) (x5 : Vec Ideal S1x1x128 .f32)
    (hT : ∀ (r : LoadRect S200x128) (y : r.shape.Idx), k0_chk1 (View.readAt (Elt Ideal) arg1.view r (harg1.unread T) y))
    (hlt : ∀ y, (T y).toNat < 10000)

local notation "RUN" => bodyRun (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 T x1 x2 x3 x4 x5 hT

theorem pay_mix (k : Vec Ideal S512x128 .f32) (a : Fin 456) (y : Fin 512) : k0_pay773 (F := Ideal) k x3 (ix2 a y) = mix x3 k a y := by
  unfold mix; pointwise [k0_pay773]

theorem pay_mix0 (k : Vec Ideal S512x128 .f32) (a : Fin 456) (b : Fin 128) : k0_pay774 (F := Ideal) k x3 (ix2 a b) = mix x3 k a (at4 0 b) := by
  rw [show at4 0 b = ⟨b.val, by omega⟩ from Fin.ext (Nat.zero_add _)]
  unfold mix; pointwise [k0_pay774, k0_pay773]

/-- Where an entry of one step's piece lies in the block of four steps. -/
theorem emb3 {n d1 d2 : ℕ} (j : ℕ) (hj : j < n) (inb : ∀ a, (![j, 0, 0] : Fin 3 → ℕ) a + (![1, d1, d2] : Fin 3 → ℕ) a ≤ (⟨3, ![n, d1, d2]⟩ : Shape).size a) (m : Fin d1) (b : Fin d2) :
    (Rect.unit (s := ⟨3, ![n, d1, d2]⟩) ![j, 0, 0] ![1, d1, d2] inb).emb (ix3 0 m b) = ix3 ⟨j, hj⟩ m b := by
  funext a
  apply Fin.ext
  match a with
  | ⟨0, _⟩ => show j + 1 * 0 = j; omega
  | ⟨1, _⟩ => show 0 + 1 * m.val = m.val; omega
  | ⟨2, _⟩ => show 0 + 1 * b.val = b.val; omega

theorem mix_ld (inb : ∀ a : Fin 2, (![0, 0] : Fin 2 → ℕ) a + (![456, 128] : Fin 2 → ℕ) a ≤ S456x128.size a) (k : Vec Ideal S512x128 .f32) (a : Fin 456) (y : Fin 512) :
    mix (View.ld x3 (Rect.unit (s := S456x128) ![0, 0] ![456, 128] inb)) k a y = mix x3 k a y :=
  congrArg (fun z => mix z k a y) (View.ld_unit_lit _ _ (by decide))

theorem idx3 {d1 d2 : ℕ} (x : (⟨3, ![1, d1, d2]⟩ : Shape).Idx) : ∃ (m : Fin d1) (b : Fin d2), x = ix3 0 m b :=
  ⟨x 1, x 2, by funext a; match a with | ⟨0, _⟩ => exact Subsingleton.elim (α := Fin 1) _ _ | ⟨1, _⟩ => rfl | ⟨2, _⟩ => rfl⟩

include hlt in
theorem pieces5 : ∀ p ∈ (RUN).1.1, ∀ x, p.2 x = V5 x3 (keys i T x2) (p.1.emb x) := by
  iterate 4
    refine List.forall_mem_cons.2 ⟨?_, ?_⟩
    · intro x
      obtain ⟨m, b, rfl⟩ := idx3 x
      dsimp only
      simp only [bodyRun.sl.r_783, bodyRun.sl.r_779, bodyRun.sl.r_774, bodyRun.sl.r_773, bodyRun.sl.r_768, scratch_eq c i arg1 harg1 arg3 harg3 arg12 T x2 hT hlt, View.readAt_eq_ld, Memref.IsWhole.read_unread]
      generalize keys i T x2 = k
      refine Eq.trans ?_ (congrArg (V5 x3 k) (emb3 _ (by decide) _ m b)).symm
      unfold V5 soft score
      pointwise [k0_pay810, k0_pay800, k0_pay790, k0_pay780, k0_pay779, k0_pay785, k0_pay795, k0_pay805]
      simp only [pay_mix, pay_mix0, mix_ld]
      first | done | rfl
  exact List.forall_mem_nil _

include hlt in
theorem pieces6 : ∀ p ∈ (RUN).1.2.1, ∀ x, p.2 x = V6 x1 x3 x4 (keys i T x2) (p.1.emb x) := by
  iterate 4
    refine List.forall_mem_cons.2 ⟨?_, ?_⟩
    · intro x
      obtain ⟨m, b, rfl⟩ := idx3 x
      dsimp only
      simp only [bodyRun.sl.r_768, bodyRun.sl.r_770, bodyRun.sl.r_774, bodyRun.sl.r_775, bodyRun.sl.r_776, bodyRun.sl.r_779, bodyRun.sl.r_780, bodyRun.sl.r_783, bodyRun.sl.r_784, bodyRun.sl.r_785, scratch_eq c i arg1 harg1 arg3 harg3 arg12 T x2 hT hlt, View.readAt_eq_ld, Memref.IsWhole.read_unread]
      generalize keys i T x2 = k
      refine Eq.trans ?_ (congrArg (V6 x1 x3 x4 k) (emb3 _ (by decide) _ m b)).symm
      unfold V6
      pointwise [k0_pay1, k0_pay807, k0_pay806, k0_pay805, k0_pay801, k0_pay797, k0_pay796, k0_pay795, k0_pay791, k0_pay786, k0_pay787, k0_pay785, k0_pay781, k0_pay776, k0_pay775]
      simp only [pay_mix, pay_mix0, mix_ld]
      first | done | rfl
  exact List.forall_mem_nil _

include hlt in
theorem pieces7 : ∀ p ∈ (RUN).1.2.2.1, ∀ x, p.2 x = V7 x1 x3 x4 (keys i T x2) (p.1.emb x) := by
  iterate 4
    refine List.forall_mem_cons.2 ⟨?_, ?_⟩
    · intro x
      obtain ⟨m, b, rfl⟩ := idx3 x
      dsimp only
      simp only [bodyRun.sl.r_768, bodyRun.sl.r_771, bodyRun.sl.r_774, bodyRun.sl.r_775, bodyRun.sl.r_777, bodyRun.sl.r_781, bodyRun.sl.r_783, bodyRun.sl.r_784, bodyRun.sl.r_786, scratch_eq c i arg1 harg1 arg3 harg3 arg12 T x2 hT hlt, View.readAt_eq_ld, Memref.IsWhole.read_unread]
      generalize keys i T x2 = k
      refine Eq.trans ?_ (congrArg (V7 x1 x3 x4 k) (emb3 _ (by decide) _ m b)).symm
      unfold V7
      pointwise [k0_pay2, k0_pay808, k0_pay806, k0_pay805, k0_pay802, k0_pay798, k0_pay796, k0_pay795, k0_pay792, k0_pay788, k0_pay786, k0_pay785, k0_pay782, k0_pay777, k0_pay775]
      simp only [pay_mix, pay_mix0, mix_ld]
      first | done | rfl
  exact List.forall_mem_nil _

include hlt in
theorem pieces8 : ∀ p ∈ (RUN).1.2.2.2.1, ∀ x, p.2 x = V8 x3 (keys i T x2) (p.1.emb x) := by
  iterate 4
    refine List.forall_mem_cons.2 ⟨?_, ?_⟩
    · intro x
      obtain ⟨m, b, rfl⟩ := idx3 x
      dsimp only
      simp only [bodyRun.sl.r_768, bodyRun.sl.r_769, bodyRun.sl.r_774, bodyRun.sl.r_779, bodyRun.sl.r_783, scratch_eq c i arg1 harg1 arg3 harg3 arg12 T x2 hT hlt, View.readAt_eq_ld, Memref.IsWhole.read_unread]
      generalize keys i T x2 = k
      refine Eq.trans ?_ (congrArg (V8 x3 k) (emb3 _ (by decide) _ m b)).symm
      unfold V8
      pointwise [k0_pay3, k0_pay783, k0_pay785, k0_pay793, k0_pay795, k0_pay803, k0_pay805]
      simp only [pay_mix, pay_mix0, mix_ld]
      first | done | rfl
  exact List.forall_mem_nil _

include hlt in
theorem pieces9 : ∀ p ∈ (RUN).1.2.2.2.2, ∀ x, p.2 x = V9 x3 x5 (keys i T x2) (p.1.emb x) := by
  iterate 4
    refine List.forall_mem_cons.2 ⟨?_, ?_⟩
    · intro x
      obtain ⟨m, b, rfl⟩ := idx3 x
      dsimp only
      simp only [bodyRun.sl.r_768, bodyRun.sl.r_772, bodyRun.sl.r_774, bodyRun.sl.r_778, bodyRun.sl.r_782, bodyRun.sl.r_783, bodyRun.sl.r_784, bodyRun.sl.r_787, scratch_eq c i arg1 harg1 arg3 harg3 arg12 T x2 hT hlt, View.readAt_eq_ld, Memref.IsWhole.read_unread]
      generalize keys i T x2 = k
      refine Eq.trans ?_ (congrArg (V9 x3 x5 k) (emb3 _ (by decide) _ m b)).symm
      unfold V9
      pointwise [k0_pay4, k0_pay778, k0_pay784, k0_pay785, k0_pay789, k0_pay794, k0_pay795, k0_pay799, k0_pay804, k0_pay805, k0_pay809]
      simp only [pay_mix, pay_mix0, mix_ld]
      first | done | rfl
  exact List.forall_mem_nil _

/-- A block every piece of whose stores is a part of `G`, the pieces covering it, reads `G`. -/
theorem read_of_pieces {S : Shape} (v : View sig .tc .vmem S .f32) (f : v.ty.Contents (Elt Ideal)) (L : List (View.Piece (Elt Ideal) S .f32)) (G : Vec Ideal S .f32)
    (cover : ∀ y : S.Idx, ∃ p ∈ L, y ∈ p.1.set) (h : ∀ p ∈ L, ∀ x, p.2 x = G (p.1.emb x)) : v.read (Elt Ideal) (v.writes (Elt Ideal) f L) = G := by
  rw [View.read_writes_eq_canon _ _ _ cover]
  funext y
  exact View.canon_eq_of_allAt _ _ _ (cover y) fun p hp x hx => by rw [h p hp x, hx]

variable (V : (c : Dev nD) → (b : Ref sig .tc) → Buf (Elt Ideal) ((c : Thread nD τ).loc b))
variable (a : (pcfg0 (F := Ideal)).Adm) (hw : ∀ y, k0_chk1 (tbl a y)) (ha : ∀ y, (tbl a y : BitVec 32).toNat < 10000)

local notation "KEYS" t => keys (grid0.coords t) (tbl a) (blk V a c 1 t)

include ha
theorem outAt5_eq (t : Fin (cfg0 a).N) : outAt5 (Ix := Ix) (U := U) (Lvl := Lvl) 𝒱₀ V a hw c t = V5 (blk V a c 2 t) (KEYS t) := by
  unfold outAt5
  refine read_of_pieces _ _ _ _ (cover5 (Ix := Ix) (U := U) (Lvl := Lvl) 𝒱₀ V a hw c t) ?_
  exact pieces5 (Ix := Ix) (U := U) (Lvl := Lvl) 𝒱₀ c _ _ _ _ _ _ _ _ _ _ _ _ _ _ _ _ _ _ _ _ _ _ _ _ _ _ _ _ _ _ _ _ ha
theorem outAt6_eq (t : Fin (cfg0 a).N) : outAt6 (Ix := Ix) (U := U) (Lvl := Lvl) 𝒱₀ V a hw c t = V6 (blk V a c 0 t) (blk V a c 2 t) (blk V a c 3 t) (KEYS t) := by
  unfold outAt6
  refine read_of_pieces _ _ _ _ (cover6 (Ix := Ix) (U := U) (Lvl := Lvl) 𝒱₀ V a hw c t) ?_
  exact pieces6 (Ix := Ix) (U := U) (Lvl := Lvl) 𝒱₀ c _ _ _ _ _ _ _ _ _ _ _ _ _ _ _ _ _ _ _ _ _ _ _ _ _ _ _ _ _ _ _ _ ha
theorem outAt7_eq (t : Fin (cfg0 a).N) : outAt7 (Ix := Ix) (U := U) (Lvl := Lvl) 𝒱₀ V a hw c t = V7 (blk V a c 0 t) (blk V a c 2 t) (blk V a c 3 t) (KEYS t) := by
  unfold outAt7
  refine read_of_pieces _ _ _ _ (cover7 (Ix := Ix) (U := U) (Lvl := Lvl) 𝒱₀ V a hw c t) ?_
  exact pieces7 (Ix := Ix) (U := U) (Lvl := Lvl) 𝒱₀ c _ _ _ _ _ _ _ _ _ _ _ _ _ _ _ _ _ _ _ _ _ _ _ _ _ _ _ _ _ _ _ _ ha
theorem outAt8_eq (t : Fin (cfg0 a).N) : outAt8 (Ix := Ix) (U := U) (Lvl := Lvl) 𝒱₀ V a hw c t = V8 (blk V a c 2 t) (KEYS t) := by
  unfold outAt8
  refine read_of_pieces _ _ _ _ (cover8 (Ix := Ix) (U := U) (Lvl := Lvl) 𝒱₀ V a hw c t) ?_
  exact pieces8 (Ix := Ix) (U := U) (Lvl := Lvl) 𝒱₀ c _ _ _ _ _ _ _ _ _ _ _ _ _ _ _ _ _ _ _ _ _ _ _ _ _ _ _ _ _ _ _ _ ha
theorem outAt9_eq (t : Fin (cfg0 a).N) : outAt9 (Ix := Ix) (U := U) (Lvl := Lvl) 𝒱₀ V a hw c t = V9 (blk V a c 2 t) (blk V a c 4 t) (KEYS t) := by
  unfold outAt9
  refine read_of_pieces _ _ _ _ (cover9 (Ix := Ix) (U := U) (Lvl := Lvl) 𝒱₀ V a hw c t) ?_
  exact pieces9 (Ix := Ix) (U := U) (Lvl := Lvl) 𝒱₀ c _ _ _ _ _ _ _ _ _ _ _ _ _ _ _ _ _ _ _ _ _ _ _ _ _ _ _ _ _ _ _ _ ha

end Cert.KernelIdeal.K0
end
-- ==== Proof.K0Arr.lean ====
module
public import proofs.«01_k».proof.Proof.K0Val
public import proofs.«01_k».proof.Proof.RunIdeal
/-! What the first call leaves in its five result arrays, element by element. -/
@[expose] public section
set_option maxRecDepth 16384
noncomputable section
namespace Cert.KernelIdeal.Run
open Cert.KernelIdeal Cert.KernelIdeal.Gen
open Idealize.ShloMosaic Idealize.ShloMosaic.TcCoe Idealize.ShloMosaic.Tactic
open Idealize.ShloMosaic.Pointwise

theorem tr0 : ∀ t : Fin grid0.N, cc0_transform_0 (grid0.coords t) = ![t.val, 0, 0] := by decide +kernel
theorem tr1 : ∀ t : Fin grid0.N, cc0_transform_1 (grid0.coords t) = ![0, 0] := by decide +kernel
theorem tr2 : ∀ t : Fin grid0.N, cc0_transform_2 (grid0.coords t) = ![0, 0] := by decide +kernel
theorem tr3 : ∀ t : Fin grid0.N, cc0_transform_3 (grid0.coords t) = ![0, 0, 0] := by decide +kernel
theorem tr4 : ∀ t : Fin grid0.N, cc0_transform_4 (grid0.coords t) = ![0, 0, 0] := by decide +kernel
theorem tr5 : ∀ t : Fin grid0.N, cc0_transform_5 (grid0.coords t) = ![t.val, 0, 0] := by decide +kernel
theorem tr6 : ∀ t : Fin grid0.N, cc0_transform_6 (grid0.coords t) = ![t.val, 0, 0] := by decide +kernel
theorem tr7 : ∀ t : Fin grid0.N, cc0_transform_7 (grid0.coords t) = ![t.val, 0, 0] := by decide +kernel
theorem tr8 : ∀ t : Fin grid0.N, cc0_transform_8 (grid0.coords t) = ![t.val, 0, 0] := by decide +kernel
theorem tr9 : ∀ t : Fin grid0.N, cc0_transform_9 (grid0.coords t) = ![t.val, 0, 0] := by decide +kernel
theorem crd : ∀ t : Fin grid0.N, (grid0.coords t 0).val = t.val := by decide +kernel

section
variable (a : (pcfg0 (F := Ideal)).Adm)
theorem cov5 : ((cfg0 a).win 5).Covers := of_decide_eq_true (by sl_kernel_rfl)
theorem cov6 : ((cfg0 a).win 6).Covers := of_decide_eq_true (by sl_kernel_rfl)
theorem cov7 : ((cfg0 a).win 7).Covers := of_decide_eq_true (by sl_kernel_rfl)
theorem cov8 : ((cfg0 a).win 8).Covers := of_decide_eq_true (by sl_kernel_rfl)
theorem cov9 : ((cfg0 a).win 9).Covers := of_decide_eq_true (by sl_kernel_rfl)
end

theorem row4 {i t y : ℕ} (h : i = t) : i * 4 + y = 4 * t + y := by omega
theorem col0 {i s y : ℕ} (h : i = 0) : i * s + y = y := by subst h; omega

/-- The step number `4t + j` of row `j` of block `t`. -/
abbrev at50 (t : Fin 50) (j : Fin 4) : Fin 200 := ⟨4 * t.val + j.val, by omega⟩

theorem ext3 {n0 n1 n2 : ℕ} (x y : (⟨3, ![n0, n1, n2]⟩ : Shape).Idx) (h0 : (x 0).val = (y 0).val) (h1 : (x 1).val = (y 1).val)
    (h2 : (x 2).val = (y 2).val) : x = y := by
  funext a; apply Fin.ext
  match a with
  | ⟨0, _⟩ => exact h0
  | ⟨1, _⟩ => exact h1
  | ⟨2, _⟩ => exact h2
theorem ext2 {n0 n1 : ℕ} (x y : (⟨2, ![n0, n1]⟩ : Shape).Idx) (h0 : (x 0).val = (y 0).val) (h1 : (x 1).val = (y 1).val) : x = y := by
  funext a; apply Fin.ext
  match a with
  | ⟨0, _⟩ => exact h0
  | ⟨1, _⟩ => exact h1

section
variable (a : (pcfg0 (F := Ideal)).Adm) (t : Fin grid0.N)
theorem emb5 (y : S4x64x128.Idx) : ((((cfg0 a).win 5).blk t).view.emb y : S200x64x128.Idx) = ix3 (at50 t (y 0)) (y 1) (y 2) := by
  apply ext3
  · blk_simp; exact row4 (congrFun (tr5 t) 0)
  · blk_simp; exact col0 (congrFun (tr5 t) 1)
  · blk_simp; exact col0 (congrFun (tr5 t) 2)
theorem emb6 (y : S4x128x128.Idx) : ((((cfg0 a).win 6).blk t).view.emb y : S200x128x128.Idx) = ix3 (at50 t (y 0)) (y 1) (y 2) := by
  apply ext3
  · blk_simp; exact row4 (congrFun (tr6 t) 0)
  · blk_simp; exact col0 (congrFun (tr6 t) 1)
  · blk_simp; exact col0 (congrFun (tr6 t) 2)
theorem emb7 (y : S4x128x128.Idx) : ((((cfg0 a).win 7).blk t).view.emb y : S200x128x128.Idx) = ix3 (at50 t (y 0)) (y 1) (y 2) := by
  apply ext3
  · blk_simp; exact row4 (congrFun (tr7 t) 0)
  · blk_simp; exact col0 (congrFun (tr7 t) 1)
  · blk_simp; exact col0 (congrFun (tr7 t) 2)
theorem emb8 (y : S4x128x128.Idx) : ((((cfg0 a).win 8).blk t).view.emb y : S200x128x128.Idx) = ix3 (at50 t (y 0)) (y 1) (y 2) := by
  apply ext3
  · blk_simp; exact row4 (congrFun (tr8 t) 0)
  · blk_simp; exact col0 (congrFun (tr8 t) 1)
  · blk_simp; exact col0 (congrFun (tr8 t) 2)
theorem emb9 (y : S4x1x128.Idx) : ((((cfg0 a).win 9).blk t).view.emb y : S200x1x128.Idx) = ix3 (at50 t (y 0)) (y 1) (y 2) := by
  apply ext3
  · blk_simp; exact row4 (congrFun (tr9 t) 0)
  · blk_simp; exact congrFun (tr9 t) 1
  · blk_simp; exact col0 (congrFun (tr9 t) 2)
theorem emb0 (y : S4x1x128.Idx) : ((((cfg0 a).win 0).blk t).view.emb y : S200x1x128.Idx) = ix3 (at50 t (y 0)) (y 1) (y 2) := by
  apply ext3
  · blk_simp; exact row4 (congrFun (tr0 t) 0)
  · blk_simp; exact congrFun (tr0 t) 1
  · blk_simp; exact col0 (congrFun (tr0 t) 2)
theorem emb1_id (y : S10000x128.Idx) : ((((cfg0 a).win 1).blk t).view.emb y : S10000x128.Idx) = y := by
  apply ext2
  · blk_simp; exact col0 (congrFun (tr1 t) 0)
  · blk_simp; exact col0 (congrFun (tr1 t) 1)
theorem emb2_id (y : S456x128.Idx) : ((((cfg0 a).win 2).blk t).view.emb y : S456x128.Idx) = y := by
  apply ext2
  · blk_simp; exact col0 (congrFun (tr2 t) 0)
  · blk_simp; exact col0 (congrFun (tr2 t) 1)
theorem emb3_id (y : S4x128x128.Idx) : ((((cfg0 a).win 3).blk t).view.emb y : S4x128x128.Idx) = y := by
  apply ext3
  · blk_simp; exact col0 (congrFun (tr3 t) 0)
  · blk_simp; exact col0 (congrFun (tr3 t) 1)
  · blk_simp; exact col0 (congrFun (tr3 t) 2)
theorem emb4_id (y : S1x1x128.Idx) : ((((cfg0 a).win 4).blk t).view.emb y : S1x1x128.Idx) = y := by
  apply ext3
  · blk_simp; exact congrFun (tr4 t) 0
  · blk_simp; exact congrFun (tr4 t) 1
  · blk_simp; exact col0 (congrFun (tr4 t) 2)
end

section
variable (V : (c : Dev nD) → (b : Ref sig .tc) → Buf (Elt Ideal) ((c : Thread nD τ).loc b)) (a : (pcfg0 (F := Ideal)).Adm) (c : Dev nD) (t : Fin grid0.N)
theorem blk0_eq (j : Fin 4) (b : Fin 128) : (K0.blk V a c 0 t : Vec Ideal S4x1x128 .f32) (ix3 j 0 b) = (V c main_v3 : Vec Ideal S200x1x128 .f32) (ix3 (at50 t j) 0 b) :=
  congrArg (V c main_v3 : Vec Ideal S200x1x128 .f32) (emb0 a t (ix3 j 0 b))
theorem blk1_eq : (K0.blk V a c 1 t : Vec Ideal S10000x128 .f32) = (V c main_arg2 : Vec Ideal S10000x128 .f32) :=
  funext fun y => congrArg (V c main_arg2 : Vec Ideal S10000x128 .f32) (emb1_id a t y)
theorem blk2_eq : (K0.blk V a c 2 t : Vec Ideal S456x128 .f32) = (V c main_v7 : Vec Ideal S456x128 .f32) :=
  funext fun y => congrArg (V c main_v7 : Vec Ideal S456x128 .f32) (emb2_id a t y)
theorem blk3_eq : (K0.blk V a c 3 t : Vec Ideal S4x128x128 .f32) = (V c main_v40 : Vec Ideal S4x128x128 .f32) :=
  funext fun y => congrArg (V c main_v40 : Vec Ideal S4x128x128 .f32) (emb3_id a t y)
theorem blk4_eq : (K0.blk V a c 4 t : Vec Ideal S1x1x128 .f32) = (V c main_v43 : Vec Ideal S1x1x128 .f32) :=
  funext fun y => congrArg (V c main_v43 : Vec Ideal S1x1x128 .f32) (emb4_id a t y)
end

/-- The key row used at step `l` by lane `b`. -/
def key (T : Vec Ideal S200x128 .i32) (E : Vec Ideal S10000x128 .f32) (l : Fin 200) (b x : Fin 128) : EReal :=
  E (ix2 (Fin.ofNat 10000 (T (ix2 l b)).toNat) x)
/-- Row `a` of the stacked weights against that key row. -/
def mixA (T : Vec Ideal S200x128 .i32) (E : Vec Ideal S10000x128 .f32) (W : Vec Ideal S456x128 .f32) (a : Fin 456) (l : Fin 200) (b : Fin 128) : EReal :=
  ∑ x : Fin 128, W (ix2 a x) * key T E l b x

theorem keys_at (t : Fin grid0.N) (T : Vec Ideal S200x128 .i32) (E : Vec Ideal S10000x128 .f32) (j : Fin 4) (b x : Fin 128) :
    K0.keys (grid0.coords t) T E (ix2 (K0.at4 j b) x) = key T E (at50 t j) b x := by
  have h : K0.word (grid0.coords t) T (128 * j.val + b.val) = T (ix2 (at50 t j) b) := by
    unfold K0.word
    congr 2
    · apply Fin.ext
      show (4 * (grid0.coords t 0).val + (128 * j.val + b.val) / 128) % 200 = 4 * t.val + j.val
      rw [crd]
      have := t.isLt
      have h50 : grid0.N = 50 := by decide +kernel
      omega
    · apply Fin.ext
      show ((128 * j.val + b.val) % 128) % 128 = b.val
      omega
  show E (ix2 (Fin.ofNat 10000 (K0.word (grid0.coords t) T (128 * j.val + b.val)).toNat) x) = _
  rw [h]
  rfl

theorem mix_at (t : Fin grid0.N) (T : Vec Ideal S200x128 .i32) (E : Vec Ideal S10000x128 .f32) (W : Vec Ideal S456x128 .f32) (a : Fin 456) (j : Fin 4) (b : Fin 128) :
    K0.mix W (K0.keys (grid0.coords t) T E) a (K0.at4 j b) = mixA T E W a (at50 t j) b := by
  unfold K0.mix mixA
  simp only [keys_at]

section
variable (m : (ℓ : Loc nD τ sig) → Buf (Elt Ideal) ℓ) (hw : ∀ y, k0_chk1 (K0.tbl (table m) y)) (c : Dev nD)
variable (hlt : ∀ y, (K0.tbl (table m) y : BitVec 32).toNat < 10000)

/-- The scores' softmax. -/
def G5 (T : Vec Ideal S200x128 .i32) (E : Vec Ideal S10000x128 .f32) (W : Vec Ideal S456x128 .f32) : Vec Ideal S200x64x128 .f32 :=
  fun y => K0.soft (fun m => mixA T E W ⟨385 + m.val, by omega⟩ (y 0) (y 2)) (y 1)
/-- The erase gates. -/
def G6 (T : Vec Ideal S200x128 .i32) (E : Vec Ideal S10000x128 .f32) (W : Vec Ideal S456x128 .f32) (C : Vec Ideal S4x128x128 .f32) (R : Vec Ideal S200x1x128 .f32) : Vec Ideal S200x128x128 .f32 :=
  fun y => Ideal.logistic (mixA T E W ⟨(y 1).val, by have h : (y 1).val < 128 := (y 1).isLt; omega⟩ (y 0) (y 2) + C (ix3 0 (y 1) (y 2)) + R (ix3 (y 0) 0 (y 2)) * C (ix3 1 (y 1) (y 2)))
/-- The additions. -/
def G7 (T : Vec Ideal S200x128 .i32) (E : Vec Ideal S10000x128 .f32) (W : Vec Ideal S456x128 .f32) (C : Vec Ideal S4x128x128 .f32) (R : Vec Ideal S200x1x128 .f32) : Vec Ideal S200x128x128 .f32 :=
  fun y => Ideal.tanh (mixA T E W ⟨128 + (y 1).val, by have h : (y 1).val < 128 := (y 1).isLt; omega⟩ (y 0) (y 2) + C (ix3 2 (y 1) (y 2)) + R (ix3 (y 0) 0 (y 2)) * C (ix3 3 (y 1) (y 2)))
/-- The keys' part of the summary layer. -/
def G8 (T : Vec Ideal S200x128 .i32) (E : Vec Ideal S10000x128 .f32) (W : Vec Ideal S456x128 .f32) : Vec Ideal S200x128x128 .f32 :=
  fun y => mixA T E W ⟨256 + (y 1).val, by have h : (y 1).val < 128 := (y 1).isLt; omega⟩ (y 0) (y 2)
/-- The difficulties. -/
def G9 (T : Vec Ideal S200x128 .i32) (E : Vec Ideal S10000x128 .f32) (W : Vec Ideal S456x128 .f32) (D : Vec Ideal S1x1x128 .f32) : Vec Ideal S200x1x128 .f32 :=
  fun y => Ideal.tanh (mixA T E W 384 (y 0) (y 2) + D (ix3 0 0 (y 2)))

theorem af5 (t) : (dat0 m hw c).after 5 t = K0.outAt5 (Ix := Unit) (U := UU) (Lvl := ℕ) 𝒱₀ (Ve0 m) (table m) hw c t := by
  dsimp only [dat0, K0.dat]; rfl
theorem af6 (t) : (dat0 m hw c).after 6 t = K0.outAt6 (Ix := Unit) (U := UU) (Lvl := ℕ) 𝒱₀ (Ve0 m) (table m) hw c t := by
  dsimp only [dat0, K0.dat]; rfl
theorem af7 (t) : (dat0 m hw c).after 7 t = K0.outAt7 (Ix := Unit) (U := UU) (Lvl := ℕ) 𝒱₀ (Ve0 m) (table m) hw c t := by
  dsimp only [dat0, K0.dat]; rfl
theorem af8 (t) : (dat0 m hw c).after 8 t = K0.outAt8 (Ix := Unit) (U := UU) (Lvl := ℕ) 𝒱₀ (Ve0 m) (table m) hw c t := by
  dsimp only [dat0, K0.dat]; rfl
theorem af9 (t) : (dat0 m hw c).after 9 t = K0.outAt9 (Ix := Unit) (U := UU) (Lvl := ℕ) 𝒱₀ (Ve0 m) (table m) hw c t := by
  dsimp only [dat0, K0.dat]; rfl

/-- The call's own operands: the words, -/
abbrev TT : Vec Ideal S200x128 .i32 := K0.tbl (table m)
/-- the keys, -/
abbrev EE : Vec Ideal S10000x128 .f32 := Ve0 m c main_arg2
/-- the stacked weights, -/
abbrev WW : Vec Ideal S456x128 .f32 := Ve0 m c main_v7
/-- the gates' constants, -/
abbrev CC : Vec Ideal S4x128x128 .f32 := Ve0 m c main_v40
/-- the responses, -/
abbrev RR : Vec Ideal S200x1x128 .f32 := Ve0 m c main_v3
/-- the difficulty bias. -/
abbrev DD : Vec Ideal S1x1x128 .f32 := Ve0 m c main_v43

section
variable (V : (c : Dev nD) → (b : Ref sig .tc) → Buf (Elt Ideal) ((c : Thread nD τ).loc b)) (a : (pcfg0 (F := Ideal)).Adm) (t : Fin grid0.N)
  (T : Vec Ideal S200x128 .i32) (E : Vec Ideal S10000x128 .f32) (W : Vec Ideal S456x128 .f32) (C : Vec Ideal S4x128x128 .f32) (D : Vec Ideal S1x1x128 .f32)
  (B : Vec Ideal S4x1x128 .f32) (R : Vec Ideal S200x1x128 .f32) (hB : ∀ j b, B (ix3 j 0 b) = R (ix3 (at50 t j) 0 b))
theorem cell5 (y : S4x64x128.Idx) : K0.V5 W (K0.keys (grid0.coords t) T E) y = G5 T E W (ix3 (at50 t (y 0)) (y 1) (y 2)) :=
  congrArg (fun s => K0.soft s (y 1)) (funext fun m => mix_at t T E W ⟨385 + m.val, by omega⟩ (y 0) (y 2))
include hB in
theorem cell6 (y : S4x128x128.Idx) : K0.V6 B W C (K0.keys (grid0.coords t) T E) y = G6 T E W C R (ix3 (at50 t (y 0)) (y 1) (y 2)) :=
  congrArg Ideal.logistic (congrArg₂ (· + ·) (congrArg₂ (· + ·) (mix_at t T E W _ (y 0) (y 2)) rfl) (congrArg₂ (· * ·) (hB (y 0) (y 2)) rfl))
include hB in
theorem cell7 (y : S4x128x128.Idx) : K0.V7 B W C (K0.keys (grid0.coords t) T E) y = G7 T E W C R (ix3 (at50 t (y 0)) (y 1) (y 2)) :=
  congrArg Ideal.tanh (congrArg₂ (· + ·) (congrArg₂ (· + ·) (mix_at t T E W _ (y 0) (y 2)) rfl) (congrArg₂ (· * ·) (hB (y 0) (y 2)) rfl))
theorem cell8 (y : S4x128x128.Idx) : K0.V8 W (K0.keys (grid0.coords t) T E) y = G8 T E W (ix3 (at50 t (y 0)) (y 1) (y 2)) :=
  mix_at t T E W _ (y 0) (y 2)
theorem cell9 (y : S4x1x128.Idx) : K0.V9 W D (K0.keys (grid0.coords t) T E) y = G9 T E W D (ix3 (at50 t (y 0)) (y 1) (y 2)) :=
  congrArg Ideal.tanh (congrArg₂ (· + ·) (mix_at t T E W _ (y 0) (y 2)) rfl)
end

include hlt
theorem left5 : left0_0 m hw c = G5 (TT m) (EE m c) (WW m c) := by
  unfold left0_0
  refine (dat0 m hw c).arrAt_eq_of_covers 5 _ (cov5 _) fun t hf y => ?_
  rw [af5 m hw c t, K0.outAt5_eq 𝒱₀ c (Ve0 m) (table m) hw hlt]
  blk_simp
  refine Eq.trans ?_ (congrArg (G5 (TT m) (EE m c) (WW m c)) (emb5 (table m) t y)).symm
  rw [blk1_eq, blk2_eq]
  exact cell5 t _ _ _ y
theorem left6 : left0_1 m hw c = G6 (TT m) (EE m c) (WW m c) (CC m c) (RR m c) := by
  unfold left0_1
  refine (dat0 m hw c).arrAt_eq_of_covers 6 _ (cov6 _) fun t hf y => ?_
  rw [af6 m hw c t, K0.outAt6_eq 𝒱₀ c (Ve0 m) (table m) hw hlt]
  blk_simp
  refine Eq.trans ?_ (congrArg (G6 (TT m) (EE m c) (WW m c) (CC m c) (RR m c)) (emb6 (table m) t y)).symm
  rw [blk1_eq, blk2_eq, blk3_eq]
  exact cell6 t _ _ _ _ _ _ (fun j b => blk0_eq (Ve0 m) (table m) c t j b) y
theorem left7 : left0_2 m hw c = G7 (TT m) (EE m c) (WW m c) (CC m c) (RR m c) := by
  unfold left0_2
  refine (dat0 m hw c).arrAt_eq_of_covers 7 _ (cov7 _) fun t hf y => ?_
  rw [af7 m hw c t, K0.outAt7_eq 𝒱₀ c (Ve0 m) (table m) hw hlt]
  blk_simp
  refine Eq.trans ?_ (congrArg (G7 (TT m) (EE m c) (WW m c) (CC m c) (RR m c)) (emb7 (table m) t y)).symm
  rw [blk1_eq, blk2_eq, blk3_eq]
  exact cell7 t _ _ _ _ _ _ (fun j b => blk0_eq (Ve0 m) (table m) c t j b) y
theorem left8 : left0_3 m hw c = G8 (TT m) (EE m c) (WW m c) := by
  unfold left0_3
  refine (dat0 m hw c).arrAt_eq_of_covers 8 _ (cov8 _) fun t hf y => ?_
  rw [af8 m hw c t, K0.outAt8_eq 𝒱₀ c (Ve0 m) (table m) hw hlt]
  blk_simp
  refine Eq.trans ?_ (congrArg (G8 (TT m) (EE m c) (WW m c)) (emb8 (table m) t y)).symm
  rw [blk1_eq, blk2_eq]
  exact cell8 t _ _ _ y
theorem left9 : left0_4 m hw c = G9 (TT m) (EE m c) (WW m c) (DD m c) := by
  unfold left0_4
  refine (dat0 m hw c).arrAt_eq_of_covers 9 _ (cov9 _) fun t hf y => ?_
  rw [af9 m hw c t, K0.outAt9_eq 𝒱₀ c (Ve0 m) (table m) hw hlt]
  blk_simp
  refine Eq.trans ?_ (congrArg (G9 (TT m) (EE m c) (WW m c) (DD m c)) (emb9 (table m) t y)).symm
  rw [blk1_eq, blk2_eq, blk4_eq]
  exact cell9 t _ _ _ _ y
end
end Cert.KernelIdeal.Run
-- ==== Proof.K2Val.lean ====
module
public import proofs.«01_k».proof.Proof.K0Val
public import proofs.«01_k».proof.Proof.RunIdeal
@[expose] public section
set_option maxRecDepth 16384
noncomputable section
namespace Cert.KernelIdeal.K2V
open Cert.KernelIdeal.Own.K2
open Cert.KernelIdeal Cert.KernelIdeal.Gen
open Idealize.ShloMosaic Idealize.ShloMosaic.TcCoe Idealize.ShloMosaic.Tactic
open Idealize.ShloMosaic.Pointwise
open Idealize.SL Idealize.SL.RA Idealize.SL.Sem
variable {Ix : Type} [DecidableEq Ix] {U : Type} [URA U] {Lvl : Type} [Preorder Lvl]
variable (𝒱₀ : Variants) (c : Dev nD) (i : grid2.Coords) (arg1 : Memref sig .tc .vmem S25x128x128 .f32) (harg1 : arg1.IsWhole) (arg2 : Memref sig .tc .vmem S25x128x128 .f32) (harg2 : arg2.IsWhole) (arg3 : Memref sig .tc .vmem S25x1x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x1x128 .f32) (harg7 : arg7.IsWhole) (arg8 : Memref sig .tc .vmem S25x1x128 .f32) (harg8 : arg8.IsWhole)
    (x0 : Vec Ideal S25x128x128 .f32) (x1 : Vec Ideal S25x128x128 .f32) (x2 : Vec Ideal S25x1x128 .f32) (x3 : Vec Ideal S128x128 .f32) (x4 : Vec Ideal S128x128 .f32) (x5 : Vec Ideal S1x128 .f32) (x6 : Vec Ideal S1x1x128 .f32)
/-- One prediction of a block of twenty-five steps. -/
def VV : Vec Ideal S25x1x128 .f32 := fun y =>
  Ideal.logistic (Ideal.ofBits .f32 1077936128#32 * Ideal.tanh (∑ x : Fin 128, x5 (ix2 0 x) * Ideal.tanh (∑ x' : Fin 128, x3 (ix2 x x') * x0 (ix3 (y 0) x' (y 2)) + x1 (ix3 (y 0) x (y 2)) + x4 (ix2 x (y 2))) + x6 (ix3 0 0 (y 2))) - x2 (ix3 (y 0) 0 (y 2)))
set_option maxHeartbeats 8000000 in
theorem pieces : ∀ p ∈ (kernelRun2_A (Ix := Ix) (U := U) (Lvl := Lvl) (F := Ideal) 𝒱₀ c i arg1 harg1 arg2 harg2 arg3 harg3 arg4 harg4 arg5 harg5 arg6 harg6 arg7 harg7 arg8 harg8 x0 x1 x2 x3 x4 x5 x6).1, ∀ x, p.2 x = VV x0 x1 x2 x3 x4 x5 x6 (p.1.emb x) := by
  iterate 25
    refine List.forall_mem_cons.2 ⟨?_, ?_⟩
    · intro x
      obtain ⟨m, b, rfl⟩ := K0.idx3 x
      obtain rfl : m = 0 := Subsingleton.elim m 0
      dsimp only
      simp only [kernelRun2_A.sl.r, kernelRun2_A.sl.r_1, kernelRun2_A.sl.r_2, kernelRun2_A.sl.r_3, kernelRun2_A.sl.r_4, kernelRun2_A.sl.r_5, kernelRun2_A.sl.r_6, kernelRun2_A.sl.r_7, kernelRun2_A.sl.r_8, kernelRun2_A.sl.r_9, kernelRun2_A.sl.r_10, kernelRun2_A.sl.r_11, kernelRun2_A.sl.r_12, kernelRun2_A.sl.r_13, kernelRun2_A.sl.r_14, kernelRun2_A.sl.r_15, kernelRun2_A.sl.r_16, kernelRun2_A.sl.r_17, kernelRun2_A.sl.r_18, kernelRun2_A.sl.r_19, kernelRun2_A.sl.r_20, View.readAt_eq_ld, Memref.IsWhole.read_unread]
      refine Eq.trans ?_ (congrArg (VV x0 x1 x2 x3 x4 x5 x6) (K0.emb3 _ (by decide) _ 0 b)).symm
      unfold VV
      pointwise [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45]
  exact List.forall_mem_nil _

theorem outsAt2_eq (V : (c : Dev nD) → (b : Ref sig .tc) → Buf (Elt Ideal) ((c : Thread nD τ).loc b)) (t : Fin cfg2.N) :
    outsAt2 (Ix := Ix) (U := U) (Lvl := Lvl) 𝒱₀ V c t = VV (iblk V c 0 t) (iblk V c 1 t) (iblk V c 2 t) (iblk V c 3 t) (iblk V c 4 t) (iblk V c 5 t) (iblk V c 6 t) := by
  unfold outsAt2 out2_A_7
  exact K0.read_of_pieces _ _ _ _ (cover2_A_7 (Ix := Ix) (U := U) (Lvl := Lvl) 𝒱₀ c _ _ _ _ _ _ _ _ _ _ _ _ _ _ _ _ _ _ _ _ _ _ _ _)
    (pieces (Ix := Ix) (U := U) (Lvl := Lvl) 𝒱₀ c _ _ _ _ _ _ _ _ _ _ _ _ _ _ _ _ _ _ _ _ _ _ _ _)
end Cert.KernelIdeal.K2V
-- ==== Proof.K12Arr.lean ====
module
public import proofs.«01_k».proof.Proof.K0Arr
public import proofs.«01_k».proof.Proof.K2Val
public import proofs.«01_k».proof.Proof.RunIdeal
/-! What the second and third calls leave in their result arrays, element by element. -/
@[expose] public section
set_option maxRecDepth 16384
noncomputable section

/-! ## The scan as one sum over the slots -/
namespace Scan
open Idealize.ShloMosaic Idealize.ShloMosaic.Pointwise

theorem chunk_sum (w : W3 Ideal) (e a : E3 Ideal) (mv : M3 Ideal) (n t : ℕ) (x) :
    chunk w e a mv n t x = (∑ j ∈ Finset.range 8, (term w e a mv t (8 * n + j) x : EReal) : EReal) := by
  simp only [Finset.sum_range_succ, Finset.sum_range_zero, zero_add]
  rfl

theorem out_sum (w : W3 Ideal) (e a g : E3 Ideal) (mv : M3 Ideal) (n : ℕ) (y) :
    out w e a mv g (n + 1) y = (∑ m ∈ Finset.range (8 * (n + 1)), (term w e a mv (y 0).val m (ix2 (y 1) (y 2)) : EReal) : EReal) := by
  induction n with
  | zero =>
    refine (chunk_sum w e a mv 0 (y 0).val (ix2 (y 1) (y 2))).trans ?_
    simp only [Nat.mul_zero, Nat.zero_add, Nat.mul_one]
  | succ n ih =>
    have h := Finset.sum_range_add (fun m => (term w e a mv (y 0).val m (ix2 (y 1) (y 2)) : EReal)) (8 * (n + 1)) 8
    rw [← ih, ← chunk_sum w e a mv (n + 1)] at h
    exact h.symm

abbrev A3 := Vec Ideal ⟨3, ![200, 128, 128]⟩ .f32
abbrev N3 := Vec Ideal ⟨3, ![64, 128, 128]⟩ .f32

/-- Slot `m`, entry `d`, lane `b` of the memory after some steps, over whole arrays. -/
def cell (w : W3 Ideal) (e a : A3) (mv : N3) (m : ℕ) (d b : Fin 128) : ℕ → EReal
  | 0 => mv (ix3 (Fin.ofNat 64 m) d b)
  | t + 1 => cell w e a mv m d b t - (wAt w m t b : EReal) *
      (cell w e a mv m d b t * (e (ix3 (Fin.ofNat 200 t) d b) : EReal) - (a (ix3 (Fin.ofNat 200 t) d b) : EReal))

/-- The `q`-th thirty-two columns. -/
abbrev at32 (q : Fin 4) (j : Fin 32) : Fin 128 := ⟨32 * q.val + j.val, by omega⟩

theorem row_cell (w : W3 Ideal) (e a : A3) (mv : N3) (eb ab : E3 Ideal) (mb : M3 Ideal) (q : Fin 4)
    (he : ∀ l j b, eb (ix3 l j b) = e (ix3 l (at32 q j) b)) (ha : ∀ l j b, ab (ix3 l j b) = a (ix3 l (at32 q j) b))
    (hm : ∀ l j b, mb (ix3 l j b) = mv (ix3 l (at32 q j) b)) (m : ℕ) (j : Fin 32) (b : Fin 128) (t : ℕ) :
    row w eb ab mb m t (ix2 j b) = cell w e a mv m (at32 q j) b t := by
  induction t with
  | zero => exact hm _ j b
  | succ t ih =>
    exact congrArg₂ (fun x y : EReal => x - y) ih (congrArg (fun y : EReal => (wAt w m t b : EReal) * y)
      (congrArg₂ (fun x y : EReal => x - y) (congrArg₂ (fun x y : EReal => x * y) ih (he _ j b)) (ha _ j b)))

/-- The reads, over whole arrays. -/
def reads (w : W3 Ideal) (e a : A3) (mv : N3) : A3 := fun y =>
  (∑ m ∈ Finset.range 64, (wAt w m (y 0).val (y 2) : EReal) * cell w e a mv m (y 1) (y 2) (y 0).val : EReal)

theorem out_reads (w : W3 Ideal) (e a : A3) (mv : N3) (eb ab g : E3 Ideal) (mb : M3 Ideal) (q : Fin 4)
    (he : ∀ l j b, eb (ix3 l j b) = e (ix3 l (at32 q j) b)) (ha : ∀ l j b, ab (ix3 l j b) = a (ix3 l (at32 q j) b))
    (hm : ∀ l j b, mb (ix3 l j b) = mv (ix3 l (at32 q j) b)) (y) :
    out w eb ab mb g 8 y = reads w e a mv (ix3 (y 0) (at32 q (y 1)) (y 2)) :=
  (out_sum w eb ab g mb 7 y).trans (Finset.sum_congr rfl fun m _ =>
    congrArg (fun z : EReal => (wAt w m (y 0).val (y 2) : EReal) * z) (row_cell w e a mv eb ab mb q he ha hm m (y 1) (y 2) (y 0).val))
end Scan

namespace Cert.KernelIdeal.Run
open Cert.KernelIdeal Cert.KernelIdeal.Gen Cert.KernelIdeal.Own
open Idealize.ShloMosaic Idealize.ShloMosaic.TcCoe Idealize.ShloMosaic.Tactic
open Idealize.ShloMosaic.Pointwise

theorem row25 {i t y : ℕ} (h : i = t) : i * 25 + y = 25 * t + y := by omega
theorem row32 {i t y : ℕ} (h : i = t) : i * 32 + y = 32 * t + y := by omega
/-- The step number `25t + j` of row `j` of block `t`. -/
abbrev at25 (t : Fin 8) (j : Fin 25) : Fin 200 := ⟨25 * t.val + j.val, by omega⟩
theorem tr1_0 : ∀ t : Fin grid1.N, cc1_transform_0 (grid1.coords t) = ![0,0,0] := by decide +kernel
theorem tr1_1 : ∀ t : Fin grid1.N, cc1_transform_1 (grid1.coords t) = ![0,t.val,0] := by decide +kernel
theorem tr1_2 : ∀ t : Fin grid1.N, cc1_transform_2 (grid1.coords t) = ![0,t.val,0] := by decide +kernel
theorem tr1_3 : ∀ t : Fin grid1.N, cc1_transform_3 (grid1.coords t) = ![0,t.val,0] := by decide +kernel
theorem tr1_4 : ∀ t : Fin grid1.N, cc1_transform_4 (grid1.coords t) = ![0,t.val,0] := by decide +kernel
theorem emb1_0 (t : Fin grid1.N) (y : S12800x1x128.Idx) : (((cfg1.win 0).blk t).view.emb y : S12800x1x128.Idx) = y := by
  apply ext3
  · blk_simp; exact col0 (congrFun (tr1_0 t) 0)
  · blk_simp; exact congrFun (tr1_0 t) 1
  · blk_simp; exact col0 (congrFun (tr1_0 t) 2)
theorem emb1_1 (t : Fin grid1.N) (y : S200x32x128.Idx) : (((cfg1.win 1).blk t).view.emb y : S200x128x128.Idx) = ix3 (y 0) (Scan.at32 t (y 1)) (y 2) := by
  apply ext3
  · blk_simp; exact col0 (congrFun (tr1_1 t) 0)
  · blk_simp; exact row32 (congrFun (tr1_1 t) 1)
  · blk_simp; exact col0 (congrFun (tr1_1 t) 2)
theorem emb1_2 (t : Fin grid1.N) (y : S200x32x128.Idx) : (((cfg1.win 2).blk t).view.emb y : S200x128x128.Idx) = ix3 (y 0) (Scan.at32 t (y 1)) (y 2) := by
  apply ext3
  · blk_simp; exact col0 (congrFun (tr1_2 t) 0)
  · blk_simp; exact row32 (congrFun (tr1_2 t) 1)
  · blk_simp; exact col0 (congrFun (tr1_2 t) 2)
theorem emb1_3 (t : Fin grid1.N) (y : S64x32x128.Idx) : (((cfg1.win 3).blk t).view.emb y : S64x128x128.Idx) = ix3 (y 0) (Scan.at32 t (y 1)) (y 2) := by
  apply ext3
  · blk_simp; exact col0 (congrFun (tr1_3 t) 0)
  · blk_simp; exact row32 (congrFun (tr1_3 t) 1)
  · blk_simp; exact col0 (congrFun (tr1_3 t) 2)
theorem emb1_4 (t : Fin grid1.N) (y : S200x32x128.Idx) : (((cfg1.win 4).blk t).view.emb y : S200x128x128.Idx) = ix3 (y 0) (Scan.at32 t (y 1)) (y 2) := by
  apply ext3
  · blk_simp; exact col0 (congrFun (tr1_4 t) 0)
  · blk_simp; exact row32 (congrFun (tr1_4 t) 1)
  · blk_simp; exact col0 (congrFun (tr1_4 t) 2)
theorem tr2_0 : ∀ t : Fin grid2.N, cc2_transform_0 (grid2.coords t) = ![t.val,0,0] := by decide +kernel
theorem tr2_1 : ∀ t : Fin grid2.N, cc2_transform_1 (grid2.coords t) = ![t.val,0,0] := by decide +kernel
theorem tr2_2 : ∀ t : Fin grid2.N, cc2_transform_2 (grid2.coords t) = ![t.val,0,0] := by decide +kernel
theorem tr2_3 : ∀ t : Fin grid2.N, cc2_transform_3 (grid2.coords t) = ![0,0] := by decide +kernel
theorem tr2_4 : ∀ t : Fin grid2.N, cc2_transform_4 (grid2.coords t) = ![0,0] := by decide +kernel
theorem tr2_5 : ∀ t : Fin grid2.N, cc2_transform_5 (grid2.coords t) = ![0,0] := by decide +kernel
theorem tr2_6 : ∀ t : Fin grid2.N, cc2_transform_6 (grid2.coords t) = ![0,0,0] := by decide +kernel
theorem tr2_7 : ∀ t : Fin grid2.N, cc2_transform_7 (grid2.coords t) = ![t.val,0,0] := by decide +kernel
theorem emb2_0 (t : Fin grid2.N) (y : S25x128x128.Idx) : (((cfg2.win 0).blk t).view.emb y : S200x128x128.Idx) = ix3 (at25 t (y 0)) (y 1) (y 2) := by
  apply ext3
  · blk_simp; exact row25 (congrFun (tr2_0 t) 0)
  · blk_simp; exact col0 (congrFun (tr2_0 t) 1)
  · blk_simp; exact col0 (congrFun (tr2_0 t) 2)
theorem emb2_1 (t : Fin grid2.N) (y : S25x128x128.Idx) : (((cfg2.win 1).blk t).view.emb y : S200x128x128.Idx) = ix3 (at25 t (y 0)) (y 1) (y 2) := by
  apply ext3
  · blk_simp; exact row25 (congrFun (tr2_1 t) 0)
  · blk_simp; exact col0 (congrFun (tr2_1 t) 1)
  · blk_simp; exact col0 (congrFun (tr2_1 t) 2)
theorem emb2_2 (t : Fin grid2.N) (y : S25x1x128.Idx) : (((cfg2.win 2).blk t).view.emb y : S200x1x128.Idx) = ix3 (at25 t (y 0)) (y 1) (y 2) := by
  apply ext3
  · blk_simp; exact row25 (congrFun (tr2_2 t) 0)
  · blk_simp; exact congrFun (tr2_2 t) 1
  · blk_simp; exact col0 (congrFun (tr2_2 t) 2)
theorem emb2_3 (t : Fin grid2.N) (y : S128x128.Idx) : (((cfg2.win 3).blk t).view.emb y : S128x128.Idx) = y := by
  apply ext2
  · blk_simp; exact col0 (congrFun (tr2_3 t) 0)
  · blk_simp; exact col0 (congrFun (tr2_3 t) 1)
theorem emb2_4 (t : Fin grid2.N) (y : S128x128.Idx) : (((cfg2.win 4).blk t).view.emb y : S128x128.Idx) = y := by
  apply ext2
  · blk_simp; exact col0 (congrFun (tr2_4 t) 0)
  · blk_simp; exact col0 (congrFun (tr2_4 t) 1)
theorem emb2_5 (t : Fin grid2.N) (y : S1x128.Idx) : (((cfg2.win 5).blk t).view.emb y : S1x128.Idx) = y := by
  apply ext2
  · blk_simp; exact congrFun (tr2_5 t) 0
  · blk_simp; exact col0 (congrFun (tr2_5 t) 1)
theorem emb2_6 (t : Fin grid2.N) (y : S1x1x128.Idx) : (((cfg2.win 6).blk t).view.emb y : S1x1x128.Idx) = y := by
  apply ext3
  · blk_simp; exact congrFun (tr2_6 t) 0
  · blk_simp; exact congrFun (tr2_6 t) 1
  · blk_simp; exact col0 (congrFun (tr2_6 t) 2)
theorem emb2_7 (t : Fin grid2.N) (y : S25x1x128.Idx) : (((cfg2.win 7).blk t).view.emb y : S200x1x128.Idx) = ix3 (at25 t (y 0)) (y 1) (y 2) := by
  apply ext3
  · blk_simp; exact row25 (congrFun (tr2_7 t) 0)
  · blk_simp; exact congrFun (tr2_7 t) 1
  · blk_simp; exact col0 (congrFun (tr2_7 t) 2)

section
variable (V : (c : Dev nD) → (b : Ref sig .tc) → Buf (Elt Ideal) ((c : Thread nD τ).loc b)) (c : Dev nD)
theorem blk1_0 (t : Fin grid1.N) : (K1.blk V c 0 t : Vec Ideal S12800x1x128 .f32) = (V c main_v52 : Vec Ideal S12800x1x128 .f32) :=
  funext fun y => congrArg (V c main_v52 : Vec Ideal S12800x1x128 .f32) (emb1_0 t y)
theorem blk1_1 (t : Fin grid1.N) (l : Fin 200) (j : Fin 32) (b : Fin 128) : (K1.blk V c 1 t : Vec Ideal S200x32x128 .f32) (ix3 l j b) = (V c main_v51_1 : Vec Ideal S200x128x128 .f32) (ix3 l (Scan.at32 t j) b) :=
  congrArg (V c main_v51_1 : Vec Ideal S200x128x128 .f32) (emb1_1 t (ix3 l j b))
theorem blk1_2 (t : Fin grid1.N) (l : Fin 200) (j : Fin 32) (b : Fin 128) : (K1.blk V c 2 t : Vec Ideal S200x32x128 .f32) (ix3 l j b) = (V c main_v51_2 : Vec Ideal S200x128x128 .f32) (ix3 l (Scan.at32 t j) b) :=
  congrArg (V c main_v51_2 : Vec Ideal S200x128x128 .f32) (emb1_2 t (ix3 l j b))
theorem blk1_3 (t : Fin grid1.N) (l : Fin 64) (j : Fin 32) (b : Fin 128) : (K1.blk V c 3 t : Vec Ideal S64x32x128 .f32) (ix3 l j b) = (V c main_v50 : Vec Ideal S64x128x128 .f32) (ix3 l (Scan.at32 t j) b) :=
  congrArg (V c main_v50 : Vec Ideal S64x128x128 .f32) (emb1_3 t (ix3 l j b))
theorem blk2_0 (t : Fin grid2.N) (l : Fin 25) (j : Fin 128) (b : Fin 128) : (K2.iblk V c 0 t : Vec Ideal S25x128x128 .f32) (ix3 l j b) = (V c main_v53 : Vec Ideal S200x128x128 .f32) (ix3 (at25 t l) j b) :=
  congrArg (V c main_v53 : Vec Ideal S200x128x128 .f32) (emb2_0 t (ix3 l j b))
theorem blk2_1 (t : Fin grid2.N) (l : Fin 25) (j : Fin 128) (b : Fin 128) : (K2.iblk V c 1 t : Vec Ideal S25x128x128 .f32) (ix3 l j b) = (V c main_v51_3 : Vec Ideal S200x128x128 .f32) (ix3 (at25 t l) j b) :=
  congrArg (V c main_v51_3 : Vec Ideal S200x128x128 .f32) (emb2_1 t (ix3 l j b))
theorem blk2_2 (t : Fin grid2.N) (l : Fin 25) (j : Fin 1) (b : Fin 128) : (K2.iblk V c 2 t : Vec Ideal S25x1x128 .f32) (ix3 l j b) = (V c main_v51_4 : Vec Ideal S200x1x128 .f32) (ix3 (at25 t l) j b) :=
  congrArg (V c main_v51_4 : Vec Ideal S200x1x128 .f32) (emb2_2 t (ix3 l j b))
theorem blk2_3 (t : Fin grid2.N) : (K2.iblk V c 3 t : Vec Ideal S128x128 .f32) = (V c main_v4 : Vec Ideal S128x128 .f32) :=
  funext fun y => congrArg (V c main_v4 : Vec Ideal S128x128 .f32) (emb2_3 t y)
theorem blk2_4 (t : Fin grid2.N) : (K2.iblk V c 4 t : Vec Ideal S128x128 .f32) = (V c main_v45 : Vec Ideal S128x128 .f32) :=
  funext fun y => congrArg (V c main_v45 : Vec Ideal S128x128 .f32) (emb2_4 t y)
theorem blk2_5 (t : Fin grid2.N) : (K2.iblk V c 5 t : Vec Ideal S1x128 .f32) = (V c main_arg12 : Vec Ideal S1x128 .f32) :=
  funext fun y => congrArg (V c main_arg12 : Vec Ideal S1x128 .f32) (emb2_5 t y)
theorem blk2_6 (t : Fin grid2.N) : (K2.iblk V c 6 t : Vec Ideal S1x1x128 .f32) = (V c main_v48 : Vec Ideal S1x1x128 .f32) :=
  funext fun y => congrArg (V c main_v48 : Vec Ideal S1x1x128 .f32) (emb2_6 t y)
end

/-- The predictions, over whole arrays. -/
def G (rd f2 : Vec Ideal S200x128x128 .f32) (qd : Vec Ideal S200x1x128 .f32) (fw fb : Vec Ideal S128x128 .f32) (ab : Vec Ideal S1x128 .f32) (ac : Vec Ideal S1x1x128 .f32) : Vec Ideal S200x1x128 .f32 := fun y =>
  Ideal.logistic (Ideal.ofBits .f32 1077936128#32 * Ideal.tanh (∑ x : Fin 128, ab (ix2 0 x) * Ideal.tanh (∑ x' : Fin 128, fw (ix2 x x') * rd (ix3 (y 0) x' (y 2)) + f2 (ix3 (y 0) x (y 2)) + fb (ix2 x (y 2))) + ac (ix3 0 0 (y 2))) - qd (ix3 (y 0) 0 (y 2)))

theorem cellP (t : Fin 8) (rd f2 : Vec Ideal S200x128x128 .f32) (qd : Vec Ideal S200x1x128 .f32) (fw fb : Vec Ideal S128x128 .f32) (ab : Vec Ideal S1x128 .f32) (ac : Vec Ideal S1x1x128 .f32)
    (rb fb' : Vec Ideal S25x128x128 .f32) (qb : Vec Ideal S25x1x128 .f32) (h0 : ∀ l j b, rb (ix3 l j b) = rd (ix3 (at25 t l) j b)) (h1 : ∀ l j b, fb' (ix3 l j b) = f2 (ix3 (at25 t l) j b))
    (h2 : ∀ l j b, qb (ix3 l j b) = qd (ix3 (at25 t l) j b)) (y : S25x1x128.Idx) :
    K2V.VV rb fb' qb fw fb ab ac y = G rd f2 qd fw fb ab ac (ix3 (at25 t (y 0)) (y 1) (y 2)) := by
  have k : ∀ (j : Fin 25) (b : Fin 128), K2V.VV rb fb' qb fw fb ab ac (ix3 j 0 b) = G rd f2 qd fw fb ab ac (ix3 (at25 t j) 0 b) := by
    intro j b
    have e0 : ∀ x', rb (ix3 j x' b) = rd (ix3 (at25 t j) x' b) := fun x' => h0 j x' b
    have e1 : ∀ x', fb' (ix3 j x' b) = f2 (ix3 (at25 t j) x' b) := fun x' => h1 j x' b
    show Ideal.logistic (Ideal.ofBits .f32 1077936128#32 * Ideal.tanh (∑ x : Fin 128, ab (ix2 0 x) * Ideal.tanh (∑ x' : Fin 128, fw (ix2 x x') * rb (ix3 j x' b) + fb' (ix3 j x b) + fb (ix2 x b)) + ac (ix3 0 0 b)) - qb (ix3 j 0 b)) = _
    simp only [e0, e1, h2]
    rfl
  obtain ⟨j, m, b, rfl⟩ : ∃ j m b, y = ix3 j m b := ⟨y 0, y 1, y 2, ext3 _ _ rfl rfl rfl⟩
  obtain rfl : m = 0 := Subsingleton.elim (α := Fin 1) m 0
  exact k j b

section
variable (m : (ℓ : Loc nD τ sig) → Buf (Elt Ideal) ℓ) (hw : ∀ y, k0_chk1 (K0.tbl (table m) y)) (c : Dev nD) (o : Outs (F := Ideal))

theorem scan_arr : (K1.dat (Ix := Unit) (U := UU) (Lvl := ℕ) (Ve1 m o) zeroD c).arrAt 4 cfg1.N
    = Scan.reads (Ve1 m o c main_v52) (Ve1 m o c main_v51_1) (Ve1 m o c main_v51_2) (Ve1 m o c main_v50) := by
  refine (K1.dat (Ix := Unit) (U := UU) (Lvl := ℕ) (Ve1 m o) zeroD c).arrAt_eq_of_covers 4 _ (by decide +kernel) fun t hf y => ?_
  rw [show (K1.dat (Ix := Unit) (U := UU) (Lvl := ℕ) (Ve1 m o) zeroD c).after 4 t = K1.res (K1.blk (Ve1 m o) c 0 t) (K1.blk (Ve1 m o) c 1 t) (K1.blk (Ve1 m o) c 2 t) (K1.blk (Ve1 m o) c 3 t) from by dsimp only [K1.dat]]
  blk_simp
  refine Eq.trans ?_ (congrArg (Scan.reads (Ve1 m o c main_v52) (Ve1 m o c main_v51_1) (Ve1 m o c main_v51_2) (Ve1 m o c main_v50)) (emb1_4 t y)).symm
  rw [blk1_0]
  exact Scan.out_reads _ _ _ _ _ _ _ _ t (fun l j b => blk1_1 (Ve1 m o) c t l j b) (fun l j b => blk1_2 (Ve1 m o) c t l j b) (fun l j b => blk1_3 (Ve1 m o) c t l j b) y

theorem post_arr : (K2.dat (Ix := Unit) (U := UU) (Lvl := ℕ) 𝒱₀ (Ve2 m o) zeroD c).arrAt 7 cfg2.N
    = G (Ve2 m o c main_v53) (Ve2 m o c main_v51_3) (Ve2 m o c main_v51_4) (Ve2 m o c main_v4) (Ve2 m o c main_v45) (Ve2 m o c main_arg12) (Ve2 m o c main_v48) := by
  refine (K2.dat (Ix := Unit) (U := UU) (Lvl := ℕ) 𝒱₀ (Ve2 m o) zeroD c).arrAt_eq_of_covers 7 _ (by decide +kernel) fun t hf y => ?_
  rw [K2.after2_7, K2V.outsAt2_eq]
  blk_simp
  refine Eq.trans ?_ (congrArg (G (Ve2 m o c main_v53) (Ve2 m o c main_v51_3) (Ve2 m o c main_v51_4) (Ve2 m o c main_v4) (Ve2 m o c main_v45) (Ve2 m o c main_arg12) (Ve2 m o c main_v48)) (emb2_7 t y)).symm
  rw [blk2_3, blk2_4, blk2_5, blk2_6]
  exact cellP t _ _ _ _ _ _ _ _ _ _ (fun l j b => blk2_0 (Ve2 m o) c t l j b) (fun l j b => blk2_1 (Ve2 m o) c t l j b) (fun l j b => blk2_2 (Ve2 m o) c t l j b) y
end
end Cert.KernelIdeal.Run
-- ==== Proof.Math.lean ====
module
public import Idealize.ShloMosaic.PureOps
public import Idealize.ShloMosaic.PureOps.Ideal
public import Idealize.ShloMosaic.Lib.Pointwise
/-! The two ways of writing the model, as formulas on numbers, and why they agree where the inputs are finite.

One way projects the key rows and adds the two possible contributions of an answer through a constant and a difference; the other
adds the answer's row to the key row and projects the sum. One updates a memory cell as `c - w * (c * e - a)`, the other as
`c * (1 - w * e) + w * a`. -/
@[expose] public section
noncomputable section
namespace Trace
open Idealize.ShloMosaic Idealize.ShloMosaic.Pointwise

/-! ## Finite values -/

/-- A value that is a real number. -/
def Re (x : EReal) : Prop := ∃ r : ℝ, x = (r : EReal)

theorem Re.add {x y : EReal} : Re x → Re y → Re (x + y)
  | ⟨a, ha⟩, ⟨b, hb⟩ => ⟨a + b, by rw [ha, hb, EReal.coe_add]⟩
theorem Re.sub {x y : EReal} : Re x → Re y → Re (x - y)
  | ⟨a, ha⟩, ⟨b, hb⟩ => ⟨a - b, by rw [ha, hb, EReal.coe_sub]⟩
theorem Re.mul {x y : EReal} : Re x → Re y → Re (x * y)
  | ⟨a, ha⟩, ⟨b, hb⟩ => ⟨a * b, by rw [ha, hb, EReal.coe_mul]⟩
theorem Re.one : Re 1 := ⟨1, EReal.coe_one.symm⟩
theorem Re.sum {ι : Type} (s : Finset ι) (f : ι → EReal) (h : ∀ i, Re (f i)) : Re (∑ i ∈ s, f i) := by
  classical
  induction s using Finset.induction_on with
  | empty => exact ⟨0, by simp⟩
  | insert i s hi ih => rw [Finset.sum_insert hi]; exact (h i).add ih
@[local simp] theorem tanh_bot : Ideal.tanh ⊥ = -1 := rfl
@[local simp] theorem tanh_top : Ideal.tanh ⊤ = 1 := rfl
@[local simp] theorem exp_bot : Ideal.exp ⊥ = 0 := rfl
@[local simp] theorem exp_top : Ideal.exp ⊤ = ⊤ := rfl
theorem Re.tanh (x : EReal) : Re (Ideal.tanh x) := by
  induction x with
  | bot => exact ⟨-1, by simp⟩
  | top => exact ⟨1, by simp⟩
  | coe r => exact ⟨Real.tanh r, rfl⟩
theorem Re.div {x y : EReal} (hy : y ≠ 0) : Re x → Re y → Re (Ideal.div x y)
  | ⟨a, ha⟩, ⟨b, hb⟩ => ⟨a * b⁻¹, by rw [Ideal.div, if_neg hy, ha, hb, EReal.coe_mul, EReal.coe_inv]⟩
theorem Re.logistic (x : EReal) : Re (Ideal.logistic x) := by
  unfold Ideal.logistic
  induction x with
  | bot =>
    have e : (1 : EReal) + ⊤ = ⊤ := EReal.coe_add_top 1
    exact ⟨0, by simp [Ideal.div, e]⟩
  | top =>
    refine Re.div ?_ Re.one (Re.one.add ⟨0, by simp⟩)
    simp
  | coe r =>
    have e : (1 : EReal) + Ideal.exp (-(r : EReal)) = ((1 + Real.exp (-r) : ℝ) : EReal) := by
      rw [← EReal.coe_neg]; rfl
    refine Re.div ?_ Re.one ⟨_, e⟩
    rw [e]
    exact_mod_cast (by positivity : (0 : ℝ) < 1 + Real.exp (-r)).ne'

theorem max_real {n : ℕ} (s : Fin (n + 1) → EReal) (h : ∀ i, Re (s i)) : Re (Finset.fold max ⊥ s Finset.univ) := by
  have hb : Finset.fold max ⊥ s Finset.univ ≠ ⊥ := by
    intro e
    have h0 : s 0 ≤ Finset.fold max ⊥ s Finset.univ := (Finset.le_fold_max _).2 (Or.inr ⟨0, Finset.mem_univ _, le_rfl⟩)
    obtain ⟨r, hr⟩ := h 0
    rw [e, hr] at h0
    exact absurd (le_bot_iff.1 h0) (EReal.coe_ne_bot r)
  have ht : Finset.fold max ⊥ s Finset.univ < ⊤ := by
    rw [Finset.fold_max_lt]
    refine ⟨bot_lt_top, fun i _ => ?_⟩
    obtain ⟨r, hr⟩ := h i
    rw [hr]; exact EReal.coe_lt_top r
  exact ⟨_, (EReal.coe_toReal ht.ne hb).symm⟩

/-- The weights of a row of scores: exponentials of the differences from the largest, over their sum. -/
def soft (s : Fin 64 → EReal) (m : Fin 64) : EReal :=
  Ideal.div (Ideal.exp (s m - Finset.fold max ⊥ s Finset.univ)) (∑ x, Ideal.exp (s x - Finset.fold max ⊥ s Finset.univ))

theorem soft_real (s : Fin 64 → EReal) (h : ∀ i, Re (s i)) (m : Fin 64) : Re (soft s m) := by
  unfold soft
  obtain ⟨M, hM⟩ := max_real s h
  choose f hf using h
  have e : ∀ i, Ideal.exp (s i - Finset.fold max ⊥ s Finset.univ) = ((Real.exp (f i - M) : ℝ) : EReal) := fun i => by
    rw [hM, hf, ← EReal.coe_sub]; rfl
  simp only [e]
  have hs : (∑ x, ((Real.exp (f x - M) : ℝ) : EReal)) = ((∑ x, Real.exp (f x - M) : ℝ) : EReal) := (map_sum (⟨⟨(fun r : ℝ => (r : EReal)), EReal.coe_zero⟩, EReal.coe_add⟩ : ℝ →+ EReal) _ _).symm
  refine Re.div ?_ ⟨_, rfl⟩ ⟨_, hs⟩
  rw [hs]
  exact_mod_cast (Finset.sum_pos (fun i _ => Real.exp_pos _) ⟨0, Finset.mem_univ _⟩).ne'

/-- Adding a real row to a row and then taking a product with a real row is adding the two products. -/
theorem sum_add_mul {n : ℕ} (k v w : Fin n → EReal) (hv : ∀ x, Re (v x)) (hw : ∀ x, Re (w x)) (hk : ∀ x, Re (k x)) :
    (∑ x, (k x + v x) * w x) = (∑ x, w x * k x) + ∑ x, w x * v x := by
  rw [← Finset.sum_add_distrib]
  refine Finset.sum_congr rfl fun x _ => ?_
  obtain ⟨a, ha⟩ := hk x
  obtain ⟨b, hb⟩ := hv x
  obtain ⟨c, hc⟩ := hw x
  rw [ha, hb, hc]
  norm_cast
  ring

/-- A constant and a difference of two reals pick out one of the two. -/
theorem pick_zero (X s0 s1 b : EReal) : X + (s0 + b) + 0 * (s1 - s0) = X + s0 + b := by
  rw [zero_mul, add_zero, add_assoc]
theorem pick_one (X s0 s1 b : EReal) (h0 : Re s0) (h1 : Re s1) : X + (s0 + b) + 1 * (s1 - s0) = X + s1 + b := by
  obtain ⟨u, rfl⟩ := h0
  obtain ⟨v, rfl⟩ := h1
  have e : ((v : EReal) - (u : EReal)) + (u : EReal) = (v : EReal) := by norm_cast; ring
  calc X + ((u : EReal) + b) + 1 * ((v : EReal) - (u : EReal)) = X + (((v : EReal) - (u : EReal)) + (u : EReal)) + b := by
        rw [one_mul]; ac_rfl
    _ = _ := by rw [e]

/-- The two ways of updating a memory cell. -/
theorem update (c w e a : EReal) : Re c → Re w → Re e → Re a → c - w * (c * e - a) = c * (1 - w * e) + w * a
  | ⟨p, hp⟩, ⟨q, hq⟩, ⟨r, hr⟩, ⟨s, hs⟩ => by
    rw [hp, hq, hr, hs, ← EReal.coe_one]
    norm_cast
    ring

/-! ## The model, twice -/

/-- The inputs, by their positions. -/
structure Inp where
  q : Fin 128 → Fin 200 → BitVec 32
  r : Fin 128 → Fin 200 → BitVec 32
  ke : Fin 10000 → Fin 128 → EReal
  ve : Fin 2 → Fin 128 → EReal
  Mk : Fin 64 → Fin 128 → EReal
  Mv : Fin 64 → Fin 128 → EReal
  fW : Fin 128 → Fin 256 → EReal
  fb : Fin 128 → EReal
  eW : Fin 128 → Fin 128 → EReal
  eb : Fin 128 → EReal
  aW : Fin 128 → Fin 128 → EReal
  ab : Fin 128 → EReal
  bW : Fin 128 → EReal
  bb : EReal
  dW : Fin 128 → EReal
  db : EReal

/-- The inputs of a launch's argument arrays. -/
def inpOf (x0 x1 : IVec ⟨2, ![128, 200]⟩ 32) (x2 : FVec Ideal ⟨2, ![10000, 128]⟩ .f32) (x3 : FVec Ideal ⟨2, ![2, 128]⟩ .f32)
    (x4 x5 : FVec Ideal ⟨2, ![64, 128]⟩ .f32) (x6 : FVec Ideal ⟨2, ![128, 256]⟩ .f32) (x7 : FVec Ideal ⟨1, ![128]⟩ .f32)
    (x8 : FVec Ideal ⟨2, ![128, 128]⟩ .f32) (x9 : FVec Ideal ⟨1, ![128]⟩ .f32) (x10 : FVec Ideal ⟨2, ![128, 128]⟩ .f32)
    (x11 : FVec Ideal ⟨1, ![128]⟩ .f32) (x12 : FVec Ideal ⟨2, ![1, 128]⟩ .f32) (x13 : FVec Ideal ⟨1, ![1]⟩ .f32)
    (x14 : FVec Ideal ⟨2, ![1, 128]⟩ .f32) (x15 : FVec Ideal ⟨1, ![1]⟩ .f32) : Inp where
  q b l := x0 (ix2 b l)
  r b l := x1 (ix2 b l)
  ke i x := x2 (ix2 i x)
  ve i x := x3 (ix2 i x)
  Mk i x := x4 (ix2 i x)
  Mv i x := x5 (ix2 i x)
  fW i x := x6 (ix2 i x)
  fb i := x7 (ix1 i)
  eW i x := x8 (ix2 i x)
  eb i := x9 (ix1 i)
  aW i x := x10 (ix2 i x)
  ab i := x11 (ix1 i)
  bW x := x12 (ix2 0 x)
  bb := x13 (ix1 0)
  dW x := x14 (ix2 0 x)
  db := x15 (ix1 0)

/-- Equal arrays, equal inputs. -/
theorem inpOf_congr {x0 y0 : IVec ⟨2, ![128, 200]⟩ 32}
    {x1 y1 : IVec ⟨2, ![128, 200]⟩ 32}
    {x2 y2 : FVec Ideal ⟨2, ![10000, 128]⟩ .f32}
    {x3 y3 : FVec Ideal ⟨2, ![2, 128]⟩ .f32}
    {x4 y4 : FVec Ideal ⟨2, ![64, 128]⟩ .f32}
    {x5 y5 : FVec Ideal ⟨2, ![64, 128]⟩ .f32}
    {x6 y6 : FVec Ideal ⟨2, ![128, 256]⟩ .f32}
    {x7 y7 : FVec Ideal ⟨1, ![128]⟩ .f32}
    {x8 y8 : FVec Ideal ⟨2, ![128, 128]⟩ .f32}
    {x9 y9 : FVec Ideal ⟨1, ![128]⟩ .f32}
    {x10 y10 : FVec Ideal ⟨2, ![128, 128]⟩ .f32}
    {x11 y11 : FVec Ideal ⟨1, ![128]⟩ .f32}
    {x12 y12 : FVec Ideal ⟨2, ![1, 128]⟩ .f32}
    {x13 y13 : FVec Ideal ⟨1, ![1]⟩ .f32}
    {x14 y14 : FVec Ideal ⟨2, ![1, 128]⟩ .f32}
    {x15 y15 : FVec Ideal ⟨1, ![1]⟩ .f32}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) (h11 : x11 = y11) (h12 : x12 = y12) (h13 : x13 = y13) (h14 : x14 = y14) (h15 : x15 = y15) :
    inpOf x0 x1 x2 x3 x4 x5 x6 x7 x8 x9 x10 x11 x12 x13 x14 x15 = inpOf y0 y1 y2 y3 y4 y5 y6 y7 y8 y9 y10 y11 y12 y13 y14 y15 := by
  rw [h0, h1, h2, h3, h4, h5, h6, h7, h8, h9, h10, h11, h12, h13, h14, h15]

/-- What is asked of the inputs: ids in range, and real numbers where a product meets a difference. -/
structure Inp.Ok (I : Inp) : Prop where
  q : ∀ b l, (I.q b l).toNat < 10000
  r : ∀ b l, (I.r b l).toNat < 2
  ke : ∀ i x, Re (I.ke i x)
  ve : ∀ i x, Re (I.ve i x)
  Mk : ∀ i x, Re (I.Mk i x)
  Mv : ∀ i x, Re (I.Mv i x)
  eW : ∀ i x, Re (I.eW i x)
  aW : ∀ i x, Re (I.aW i x)

variable (I : Inp)

/-- The key row of a question. -/
def key (b : Fin 128) (l : Fin 200) (x : Fin 128) : EReal := I.ke (Fin.ofNat 10000 (I.q b l).toNat) x

/-- The weights over the slots. -/
def wts (b : Fin 128) (l : Fin 200) (m : Fin 64) : EReal := soft (fun m => ∑ x, I.Mk m x * key I b l x) m

/-- A memory cell after some steps, from its erase and add gates. -/
def cellA (E A : Fin 128 → Fin 200 → Fin 128 → EReal) (b : Fin 128) (m : Fin 64) (d : Fin 128) : ℕ → EReal
  | 0 => I.Mv m d
  | t + 1 => cellA E A b m d t - wts I b (Fin.ofNat 200 t) m *
      (cellA E A b m d t * E b (Fin.ofNat 200 t) d - A b (Fin.ofNat 200 t) d)
def cellB (E A : Fin 128 → Fin 200 → Fin 128 → EReal) (b : Fin 128) (m : Fin 64) (d : Fin 128) : ℕ → EReal
  | 0 => I.Mv m d
  | t + 1 => cellB E A b m d t * (1 - wts I b (Fin.ofNat 200 t) m * E b (Fin.ofNat 200 t) d)
      + wts I b (Fin.ofNat 200 t) m * A b (Fin.ofNat 200 t) d

/-- A gate's argument, through the constant and the difference. -/
def gateA (W : Fin 128 → Fin 128 → EReal) (w : Fin 128 → EReal) (b : Fin 128) (l : Fin 200) (d : Fin 128) : EReal :=
  (∑ x, W d x * key I b l x) + ((∑ x, W d x * I.ve 0 x) + w d)
    + (((I.r b l).toInt : ℝ) : EReal) * ((∑ x, W d x * I.ve 1 x) - ∑ x, W d x * I.ve 0 x)
/-- A gate's argument, the sum of the two rows projected. -/
def gateB (W : Fin 128 → Fin 128 → EReal) (w : Fin 128 → EReal) (b : Fin 128) (l : Fin 200) (d : Fin 128) : EReal :=
  (∑ x, (key I b l x + I.ve (Fin.ofNat 2 (I.r b l).toNat) x) * W d x) + w d

/-- What step `l` reads, from the cells before it. -/
def readOf (cell : Fin 128 → Fin 64 → Fin 128 → ℕ → EReal) (b : Fin 128) (l : Fin 200) (d : Fin 128) : EReal :=
  ∑ m, wts I b l m * cell b m d l.val

/-- The prediction, from what was read. -/
def pred (rd : Fin 128 → Fin 200 → Fin 128 → EReal) (b : Fin 128) (l : Fin 200) : EReal :=
  Ideal.logistic (Ideal.ofBits .f32 1077936128#32 * Ideal.tanh ((∑ x, Ideal.tanh ((∑ y : Fin 128, rd b l y * I.fW x ⟨y.val, by omega⟩)
    + (∑ y : Fin 128, key I b l y * I.fW x ⟨128 + y.val, by omega⟩) + I.fb x) * I.bW x) + I.bb)
    - Ideal.tanh ((∑ x, key I b l x * I.dW x) + I.db))

def outA : Fin 128 → Fin 200 → EReal :=
  pred I (readOf I (cellA I (fun b l d => Ideal.logistic (gateA I I.eW I.eb b l d)) fun b l d => Ideal.tanh (gateA I I.aW I.ab b l d)))
def outB : Fin 128 → Fin 200 → EReal :=
  pred I (readOf I (cellB I (fun b l d => Ideal.logistic (gateB I I.eW I.eb b l d)) fun b l d => Ideal.tanh (gateB I I.aW I.ab b l d)))

variable {I} (ok : I.Ok)
include ok

theorem gate_eq (W : Fin 128 → Fin 128 → EReal) (w : Fin 128 → EReal) (hW : ∀ i x, Re (W i x)) (b : Fin 128) (l : Fin 200) (d : Fin 128) :
    gateA I W w b l d = gateB I W w b l d := by
  unfold gateA gateB
  rw [sum_add_mul (fun x => key I b l x) (fun x => I.ve (Fin.ofNat 2 (I.r b l).toNat) x) (W d) (fun x => ok.ve _ x) (hW d) fun x => ok.ke _ x]
  have hr := ok.r b l
  have h0 := fun i => Re.sum Finset.univ (fun x => W d x * I.ve i x) fun x => (hW d x).mul (ok.ve i x)
  generalize I.r b l = v at hr ⊢
  have hv : v = 0#32 ∨ v = 1#32 := by
    rcases (by omega : v.toNat = 0 ∨ v.toNat = 1) with h | h
    · exact Or.inl (BitVec.eq_of_toNat_eq h)
    · exact Or.inr (BitVec.eq_of_toNat_eq h)
  rcases hv with rfl | rfl
  · have e : (((0#32 : BitVec 32).toInt : ℝ) : EReal) = 0 := by simp
    rw [e]
    exact pick_zero _ _ _ _
  · have e : (((1#32 : BitVec 32).toInt : ℝ) : EReal) = 1 := by simp
    rw [e]
    exact pick_one _ _ _ _ (h0 0) (h0 1)

theorem wts_real (b : Fin 128) (l : Fin 200) (m : Fin 64) : Re (wts I b l m) :=
  soft_real _ (fun i => Re.sum _ _ fun x => (ok.Mk i x).mul (ok.ke _ x)) m

theorem cell_eq (E A : Fin 128 → Fin 200 → Fin 128 → EReal) (hE : ∀ b l d, Re (E b l d)) (hA : ∀ b l d, Re (A b l d))
    (b : Fin 128) (m : Fin 64) (d : Fin 128) (t : ℕ) : cellA I E A b m d t = cellB I E A b m d t ∧ Re (cellA I E A b m d t) := by
  induction t with
  | zero => exact ⟨rfl, ok.Mv m d⟩
  | succ t ih =>
    obtain ⟨ih, hc⟩ := ih
    have hw := wts_real ok b (Fin.ofNat 200 t) m
    refine ⟨?_, hc.sub (hw.mul ((hc.mul (hE _ _ _)).sub (hA _ _ _)))⟩
    show cellA I E A b m d t - _ * (cellA I E A b m d t * _ - _) = cellB I E A b m d t * _ + _
    rw [← ih]
    exact update _ _ _ _ hc hw (hE _ _ _) (hA _ _ _)

/-- The two ways agree. -/
theorem out_eq : outA I = outB I := by
  unfold outA outB
  have gE := fun b l d => congrArg Ideal.logistic (gate_eq ok I.eW I.eb ok.eW b l d)
  have gA := fun b l d => congrArg Ideal.tanh (gate_eq ok I.aW I.ab ok.aW b l d)
  simp only [gE, gA]
  congr 1
  funext b l d
  exact Finset.sum_congr rfl fun m _ => congrArg _ (cell_eq ok _ _ (fun _ _ _ => Re.logistic _) (fun _ _ _ => Re.tanh _) b m d l.val).1

end Trace
-- ==== Proof.HostVal.lean ====
module
public import proofs.«01_k».proof.Proof.K12Arr
public import proofs.«01_k».proof.Proof.Math
public import proofs.«01_k».proof.Proof.WordsIdeal
public import Idealize.ShloMosaic.Lib.StableHlo.RunRead
/-! The kernel's result, element by element: the host's operands read at an index, the three calls one after the other. -/
@[expose] public section
set_option maxRecDepth 16384
noncomputable section
namespace Cert.KernelIdeal.Run
open Cert.KernelIdeal Cert.KernelIdeal.Gen Cert.KernelIdeal.Own
open Idealize.ShloMosaic Idealize.ShloMosaic.TcCoe Idealize.ShloMosaic.Tactic
open Idealize.ShloMosaic.Pointwise Idealize.ShloMosaic.StableHlo

variable (m : (ℓ : Loc nD τ sig) → Buf (Elt Ideal) ℓ)

/-- The one core. -/
abbrev c0 : Dev nD := 0
/-- An argument array as launched. -/
abbrev arg (r : Ref sig .tc) := m ((c0 : Thread nD τ).loc r)

/-- The inputs. -/
def inp : Trace.Inp := Trace.inpOf (arg m main_arg0) (arg m main_arg1) (arg m main_arg2) (arg m main_arg3) (arg m main_arg4) (arg m main_arg5)
  (arg m main_arg6) (arg m main_arg7) (arg m main_arg8) (arg m main_arg9) (arg m main_arg10) (arg m main_arg11) (arg m main_arg12)
  (arg m main_arg13) (arg m main_arg14) (arg m main_arg15)

/-! ## The first call's operands -/

theorem TT_at (l : Fin 200) (b : Fin 128) : TT m (ix2 l b) = (inp m).q b l := by
  show V1 m 0 (Proc.devRef .tc main_v0) (ix2 l b) = _
  rw [V1_main_v0]
  pointwise
  rfl
theorem EE_at (i : Fin 10000) (x : Fin 128) : (EE m c0 (ix2 i x) : EReal) = (inp m).ke i x := by
  show V1 m c0 (Proc.devRef .tc main_arg2) _ = _
  rw [V1_of m c0 main_arg2 (by decide)]
  rfl
theorem RR_at (l : Fin 200) (b : Fin 128) : (RR m c0 (ix3 l 0 b) : EReal) = ((((inp m).r b l).toInt : ℝ) : EReal) := by
  show V1 m c0 (Proc.devRef .tc main_v3) _ = _
  unfold V1
  after_reads_simp
  pointwise
  rfl
theorem DD_at (b : Fin 128) : (DD m c0 (ix3 0 0 b) : EReal) = (inp m).db := by
  show V1 m c0 (Proc.devRef .tc main_v43) _ = _
  unfold V1
  after_reads_simp
  pointwise
  rfl

section
set_option maxHeartbeats 1000000
theorem WW_e (d x : Fin 128) : (WW m c0 (ix2 ⟨d.val, by omega⟩ x) : EReal) = (inp m).eW d x := by
  show V1 m c0 (Proc.devRef .tc main_v7) _ = _
  unfold V1
  after_reads_simp
  simp only [Matrix.cons_val]
  after_reads_simp
  pointwise
  rfl
theorem WW_a (d x : Fin 128) : (WW m c0 (ix2 ⟨128 + d.val, by omega⟩ x) : EReal) = (inp m).aW d x := by
  show V1 m c0 (Proc.devRef .tc main_v7) _ = _
  unfold V1
  after_reads_simp
  simp only [Matrix.cons_val]
  after_reads_simp
  pointwise
  rfl
theorem WW_f (d x : Fin 128) : (WW m c0 (ix2 ⟨256 + d.val, by omega⟩ x) : EReal) = (inp m).fW d ⟨128 + x.val, by omega⟩ := by
  show V1 m c0 (Proc.devRef .tc main_v7) _ = _
  unfold V1
  after_reads_simp
  simp only [Matrix.cons_val]
  after_reads_simp
  pointwise
  rw [dif_neg (by omega), dif_neg (by omega), dif_pos (by omega)]
  exact congrArg (fun i => (arg m main_arg6 : Vec Ideal S128x256 .f32) (ix2 i ⟨128 + x.val, by omega⟩)) (Fin.ext (by show 256 + d.val - 128 - 128 = d.val; omega))
theorem WW_d (x : Fin 128) : (WW m c0 (ix2 384 x) : EReal) = (inp m).dW x := by
  show V1 m c0 (Proc.devRef .tc main_v7) _ = _
  unfold V1
  after_reads_simp
  simp only [Matrix.cons_val]
  after_reads_simp
  pointwise
  rfl
theorem WW_k (i : Fin 64) (x : Fin 128) : (WW m c0 (ix2 ⟨385 + i.val, by omega⟩ x) : EReal) = (inp m).Mk i x := by
  show V1 m c0 (Proc.devRef .tc main_v7) _ = _
  unfold V1
  after_reads_simp
  simp only [Matrix.cons_val]
  after_reads_simp
  pointwise
  rw [dif_neg (by omega), dif_neg (by omega), dif_neg (by omega), dif_neg (by omega), dif_pos (by omega)]
  exact congrArg (fun j => (arg m main_arg4 : Vec Ideal S64x128 .f32) (ix2 j x)) (Fin.ext (by show 385 + i.val - 128 - 128 - 128 - 1 = i.val; omega))

theorem CC_e0 (d b : Fin 128) : (CC m c0 (ix3 0 d b) : EReal) = (∑ x, (inp m).eW d x * (inp m).ve 0 x) + (inp m).eb d := by
  show V1 m c0 (Proc.devRef .tc main_v40) _ = _
  unfold V1
  after_reads_simp
  simp only [Matrix.cons_val]
  after_reads_simp
  pointwise
  rfl
theorem CC_e1 (d b : Fin 128) : (CC m c0 (ix3 1 d b) : EReal) = (∑ x, (inp m).eW d x * (inp m).ve 1 x) - ∑ x, (inp m).eW d x * (inp m).ve 0 x := by
  show V1 m c0 (Proc.devRef .tc main_v40) _ = _
  unfold V1
  after_reads_simp
  simp only [Matrix.cons_val]
  after_reads_simp
  pointwise
  rfl
theorem CC_a0 (d b : Fin 128) : (CC m c0 (ix3 2 d b) : EReal) = (∑ x, (inp m).aW d x * (inp m).ve 0 x) + (inp m).ab d := by
  show V1 m c0 (Proc.devRef .tc main_v40) _ = _
  unfold V1
  after_reads_simp
  simp only [Matrix.cons_val]
  after_reads_simp
  pointwise
  rfl
theorem CC_a1 (d b : Fin 128) : (CC m c0 (ix3 3 d b) : EReal) = (∑ x, (inp m).aW d x * (inp m).ve 1 x) - ∑ x, (inp m).aW d x * (inp m).ve 0 x := by
  show V1 m c0 (Proc.devRef .tc main_v40) _ = _
  unfold V1
  after_reads_simp
  simp only [Matrix.cons_val]
  after_reads_simp
  pointwise
  rfl
end

theorem key_at (l : Fin 200) (b x : Fin 128) : key (TT m) (EE m c0) l b x = Trace.key (inp m) b l x := by
  unfold key Trace.key
  rw [TT_at]
  exact EE_at m _ x

/-! ## What the first call leaves -/

/-- A product of a row of the stacked weights with a key row. -/
theorem mixA_of (a : Fin 456) (w : Fin 128 → EReal) (hw : ∀ x, (WW m c0 (ix2 a x) : EReal) = w x) (l : Fin 200) (b : Fin 128) :
    mixA (TT m) (EE m c0) (WW m c0) a l b = ∑ x, w x * Trace.key (inp m) b l x :=
  Finset.sum_congr rfl fun x _ => congrArg₂ (· * ·) (hw x) (key_at m l b x)

theorem neg_inf : Ideal.ofBits .f32 4286578688#32 = ⊥ := by
  simp [Ideal.ofBits, Ideal.ieee]

theorem soft_at (s : Fin 64 → EReal) (i : Fin 64) : K0.soft s i = Trace.soft s i := by
  unfold K0.soft Trace.soft
  rw [neg_inf]

theorem G5_at (l : Fin 200) (i : Fin 64) (b : Fin 128) :
    (G5 (TT m) (EE m c0) (WW m c0) (ix3 l i b) : EReal) = Trace.wts (inp m) b l i := by
  refine (soft_at _ i).trans ?_
  exact congrArg (fun s => Trace.soft s i) (funext fun j => mixA_of m _ _ (WW_k m j) l b)
theorem G6_at (l : Fin 200) (d b : Fin 128) :
    (G6 (TT m) (EE m c0) (WW m c0) (CC m c0) (RR m c0) (ix3 l d b) : EReal) = Ideal.logistic (Trace.gateA (inp m) (inp m).eW (inp m).eb b l d) :=
  congrArg Ideal.logistic (congrArg₂ (· + ·) (congrArg₂ (· + ·) (mixA_of m _ _ (WW_e m d) l b) (CC_e0 m d b))
    (congrArg₂ (· * ·) (RR_at m l b) (CC_e1 m d b)))
theorem G7_at (l : Fin 200) (d b : Fin 128) :
    (G7 (TT m) (EE m c0) (WW m c0) (CC m c0) (RR m c0) (ix3 l d b) : EReal) = Ideal.tanh (Trace.gateA (inp m) (inp m).aW (inp m).ab b l d) :=
  congrArg Ideal.tanh (congrArg₂ (· + ·) (congrArg₂ (· + ·) (mixA_of m _ _ (WW_a m d) l b) (CC_a0 m d b))
    (congrArg₂ (· * ·) (RR_at m l b) (CC_a1 m d b)))
theorem G8_at (l : Fin 200) (d b : Fin 128) :
    (G8 (TT m) (EE m c0) (WW m c0) (ix3 l d b) : EReal) = ∑ x : Fin 128, (inp m).fW d ⟨128 + x.val, by omega⟩ * Trace.key (inp m) b l x :=
  mixA_of m _ _ (WW_f m d) l b
theorem G9_at (l : Fin 200) (b : Fin 128) :
    (G9 (TT m) (EE m c0) (WW m c0) (DD m c0) (ix3 l 0 b) : EReal) = Ideal.tanh ((∑ x, (inp m).dW x * Trace.key (inp m) b l x) + (inp m).db) :=
  congrArg Ideal.tanh (congrArg₂ (· + ·) (mixA_of m _ _ (WW_d m) l b) (DD_at m b))

/-! ## The second call -/

variable (hw : ∀ y, k0_chk1 (K0.tbl (table m) y)) (hlt : ∀ y, (K0.tbl (table m) y).toNat < 10000)

include hlt in
theorem V2_0 : V2 m (outs m hw) c0 (Proc.devRef .tc main_v51_0) = G5 (TT m) (EE m c0) (WW m c0) :=
  (V2_at_0 m _ c0).trans ((out_main_v51_0 m hw c0).trans (left5 m hw c0 hlt))
include hlt in
theorem V2_1 : V2 m (outs m hw) c0 (Proc.devRef .tc main_v51_1) = G6 (TT m) (EE m c0) (WW m c0) (CC m c0) (RR m c0) :=
  (V2_at_1 m _ c0).trans ((out_main_v51_1 m hw c0).trans (left6 m hw c0 hlt))
include hlt in
theorem V2_2 : V2 m (outs m hw) c0 (Proc.devRef .tc main_v51_2) = G7 (TT m) (EE m c0) (WW m c0) (CC m c0) (RR m c0) :=
  (V2_at_2 m _ c0).trans ((out_main_v51_2 m hw c0).trans (left7 m hw c0 hlt))
include hlt in
theorem V2_3 : V2 m (outs m hw) c0 (Proc.devRef .tc main_v51_3) = G8 (TT m) (EE m c0) (WW m c0) :=
  (V2_at_3 m _ c0).trans ((out_main_v51_3 m hw c0).trans (left8 m hw c0 hlt))
include hlt in
theorem V2_4 : V2 m (outs m hw) c0 (Proc.devRef .tc main_v51_4) = G9 (TT m) (EE m c0) (WW m c0) (DD m c0) :=
  (V2_at_4 m _ c0).trans ((out_main_v51_4 m hw c0).trans (left9 m hw c0 hlt))

theorem v52_at (o : Outs (F := Ideal)) (l : Fin 200) (i : Fin 64) (b : Fin 128) :
    ((Ve1 m o c0 main_v52 : Vec Ideal S12800x1x128 .f32) (ix3 ⟨64 * l.val + i.val, by omega⟩ 0 b) : EReal) = (V2 m o c0 (Proc.devRef .tc main_v51_0) : Vec Ideal S200x64x128 .f32) (ix3 l i b) := by
  show V3 m o c0 (Proc.devRef .tc main_v52) _ = _
  unfold V3
  after_reads_simp
  pointwise
theorem v50_at (o : Outs (F := Ideal)) (i : Fin 64) (d b : Fin 128) : ((Ve1 m o c0 main_v50 : Vec Ideal S64x128x128 .f32) (ix3 i d b) : EReal) = (inp m).Mv i d := by
  show V3 m o c0 (Proc.devRef .tc main_v50) _ = _
  rw [V3_of m o c0 main_v50 (by decide), V2_of m o c0 main_v50 (by decide)]
  after_reads_simp
  pointwise
  rfl

/-- The cells' formula over the inputs. -/
abbrev cellM := Trace.cellA (inp m) (fun b l d => Ideal.logistic (Trace.gateA (inp m) (inp m).eW (inp m).eb b l d))
  fun b l d => Ideal.tanh (Trace.gateA (inp m) (inp m).aW (inp m).ab b l d)

include hlt in
theorem w_at (i t : ℕ) (hi : i < 64) (b : Fin 128) :
    (Scan.wAt (Ve1 m (outs m hw) c0 main_v52 : Vec Ideal S12800x1x128 .f32) i t b : EReal) = Trace.wts (inp m) b (Fin.ofNat 200 t) ⟨i, hi⟩ := by
  have e := v52_at m (outs m hw) (Fin.ofNat 200 t) ⟨i, hi⟩ b
  rw [V2_0 m hw hlt, G5_at] at e
  refine Eq.trans ?_ e
  refine congrArg (fun j => (Ve1 m (outs m hw) c0 main_v52 : Vec Ideal S12800x1x128 .f32) (ix3 j 0 b)) (Fin.ext ?_)
  show (64 * t + i) % 12800 = 64 * (t % 200) + i
  omega

include hlt in
theorem cell_at (i : Fin 64) (d b : Fin 128) (t : ℕ) (ht : t ≤ 200) :
    Scan.cell (Ve1 m (outs m hw) c0 main_v52) (Ve1 m (outs m hw) c0 main_v51_1) (Ve1 m (outs m hw) c0 main_v51_2) (Ve1 m (outs m hw) c0 main_v50) i.val d b t
      = cellM m b i d t := by
  induction t with
  | zero =>
    refine Eq.trans (congrArg (fun j => (Ve1 m (outs m hw) c0 main_v50 : Vec Ideal S64x128x128 .f32) (ix3 j d b)) (Fin.ext ?_)) (v50_at m _ i d b)
    exact Nat.mod_eq_of_lt i.isLt
  | succ t ih =>
    have h := ih (by omega)
    have hE : ((Ve1 m (outs m hw) c0 main_v51_1 : Vec Ideal S200x128x128 .f32) (ix3 (Fin.ofNat 200 t) d b) : EReal) = _ :=
      (congrFun ((V3_of m (outs m hw) c0 main_v51_1 (by decide)).trans (V2_1 m hw hlt)) _).trans (G6_at m (Fin.ofNat 200 t) d b)
    have hA : ((Ve1 m (outs m hw) c0 main_v51_2 : Vec Ideal S200x128x128 .f32) (ix3 (Fin.ofNat 200 t) d b) : EReal) = _ :=
      (congrFun ((V3_of m (outs m hw) c0 main_v51_2 (by decide)).trans (V2_2 m hw hlt)) _).trans (G7_at m (Fin.ofNat 200 t) d b)
    exact congrArg₂ (fun x y : EReal => x - y) h (congrArg₂ (fun x y : EReal => x * y) (w_at m hw hlt i.val t i.isLt b)
      (congrArg₂ (fun x y : EReal => x - y) (congrArg₂ (fun x y : EReal => x * y) h hE) hA))

theorem reads_at (w : Scan.W3 Ideal) (e a : Scan.A3) (mv : Scan.N3) (l : Fin 200) (d b : Fin 128) :
    (Scan.reads w e a mv (ix3 l d b) : EReal) = ∑ i : Fin 64, (Scan.wAt w i.val l.val b : EReal) * Scan.cell w e a mv i.val d b l.val :=
  Finset.sum_range (fun i => (Scan.wAt w i l.val b : EReal) * Scan.cell w e a mv i d b l.val)

include hlt in
theorem v53_at (l : Fin 200) (d b : Fin 128) : ((Ve2 m (outs m hw) c0 main_v53 : Vec Ideal S200x128x128 .f32) (ix3 l d b) : EReal)
    = Trace.readOf (inp m) (cellM m) b l d := by
  refine (congrFun ((V4_at m (outs m hw) c0).trans ((out_main_v53 m hw c0).trans (scan_arr m c0 (outs m hw)))) (ix3 l d b)).trans ((reads_at _ _ _ _ l d b).trans ?_)
  refine Finset.sum_congr rfl fun i _ => congrArg₂ (fun x y : EReal => x * y) ?_ (cell_at m hw hlt i d b l.val (by omega))
  refine (w_at m hw hlt i.val l.val i.isLt b).trans ?_
  exact congrArg (fun l => Trace.wts (inp m) b l i) (Fin.ext (Nat.mod_eq_of_lt l.isLt))

/-! ## The third call -/

theorem v4_at (o : Outs (F := Ideal)) (d y : Fin 128) : ((Ve2 m o c0 main_v4 : Vec Ideal S128x128 .f32) (ix2 d y) : EReal) = (inp m).fW d ⟨y.val, by omega⟩ := by
  show V4 m o c0 (Proc.devRef .tc main_v4) _ = _
  rw [V4_of m o c0 main_v4 (by decide), V3_of m o c0 main_v4 (by decide), V2_of m o c0 main_v4 (by decide)]
  after_reads_simp
  pointwise
  rfl
theorem v45_at (o : Outs (F := Ideal)) (d b : Fin 128) : ((Ve2 m o c0 main_v45 : Vec Ideal S128x128 .f32) (ix2 d b) : EReal) = (inp m).fb d := by
  show V4 m o c0 (Proc.devRef .tc main_v45) _ = _
  rw [V4_of m o c0 main_v45 (by decide), V3_of m o c0 main_v45 (by decide), V2_of m o c0 main_v45 (by decide)]
  after_reads_simp
  pointwise
  rfl
theorem v48_at (o : Outs (F := Ideal)) (b : Fin 128) : ((Ve2 m o c0 main_v48 : Vec Ideal S1x1x128 .f32) (ix3 0 0 b) : EReal) = (inp m).bb := by
  show V4 m o c0 (Proc.devRef .tc main_v48) _ = _
  rw [V4_of m o c0 main_v48 (by decide), V3_of m o c0 main_v48 (by decide), V2_of m o c0 main_v48 (by decide)]
  after_reads_simp
  pointwise
  rfl
theorem v12_at (o : Outs (F := Ideal)) (x : Fin 128) : ((Ve2 m o c0 main_arg12 : Vec Ideal S1x128 .f32) (ix2 0 x) : EReal) = (inp m).bW x := by
  show V4 m o c0 (Proc.devRef .tc main_arg12) _ = _
  rw [V4_of m o c0 main_arg12 (by decide), V3_of m o c0 main_arg12 (by decide), V2_of m o c0 main_arg12 (by decide)]
  after_reads_simp
  rfl
theorem v56_at (o : Outs (F := Ideal)) (b : Fin 128) (l : Fin 200) : ((V6 m o c0 (Proc.devRef .tc main_v56) : Vec Ideal S128x200 .f32) (ix2 b l) : EReal)
    = (V5 m o c0 (Proc.devRef .tc main_v54) : Vec Ideal S200x1x128 .f32) (ix3 l 0 b) := by
  unfold V6
  after_reads_simp
  pointwise

include hlt in
/-- The kernel's result. -/
theorem val_at (b : Fin 128) (l : Fin 200) : ((V6 m (outs m hw) c0 (Proc.devRef .tc main_v56) : Vec Ideal S128x200 .f32) (ix2 b l) : EReal)
    = Trace.outA (inp m) b l := by
  refine (v56_at m _ b l).trans ?_
  refine (congrFun ((V5_at m (outs m hw) c0).trans ((out_main_v54 m hw c0).trans (post_arr m c0 (outs m hw)))) (ix3 l 0 b)).trans ?_
  have h3 : ∀ d, ((Ve2 m (outs m hw) c0 main_v51_3 : Vec Ideal S200x128x128 .f32) (ix3 l d b) : EReal)
      = ∑ y : Fin 128, Trace.key (inp m) b l y * (inp m).fW d ⟨128 + y.val, by omega⟩ := fun d =>
    Eq.trans (congrFun ((V4_of m (outs m hw) c0 main_v51_3 (by decide)).trans ((V3_of m (outs m hw) c0 main_v51_3 (by decide)).trans (V2_3 m hw hlt))) _)
      ((G8_at m l d b).trans (Finset.sum_congr rfl fun y _ => mul_comm _ _))
  have h4 : ((Ve2 m (outs m hw) c0 main_v51_4 : Vec Ideal S200x1x128 .f32) (ix3 l 0 b) : EReal) = _ :=
    (congrFun ((V4_of m (outs m hw) c0 main_v51_4 (by decide)).trans ((V3_of m (outs m hw) c0 main_v51_4 (by decide)).trans (V2_4 m hw hlt))) _).trans (G9_at m l b)
  refine congrArg Ideal.logistic (congrArg₂ (fun x y : EReal => x - y) (congrArg (fun z => _ * Ideal.tanh z)
    (congrArg₂ (fun x y : EReal => x + y) (Finset.sum_congr rfl fun x _ => ?_) (v48_at m _ b))) ?_)
  · refine (mul_comm _ _).trans (congrArg₂ (fun x y : EReal => x * y) (congrArg Ideal.tanh ?_) (v12_at m _ x))
    refine congrArg₂ (fun x y : EReal => x + y) ?_ (v45_at m _ x b)
    exact congrArg₂ (fun x y : EReal => x + y)
      (Finset.sum_congr rfl fun y _ => (mul_comm _ _).trans (congrArg₂ (fun x y : EReal => x * y) (v53_at m hw hlt l y b) (v4_at m _ x y)))
      (h3 x)
  · refine h4.trans (congrArg (fun z => Ideal.tanh (z + _)) (Finset.sum_congr rfl fun x _ => mul_comm _ _))

end Cert.KernelIdeal.Run
-- ==== Proof.Finite.lean ====
module
public import proofs.«01_k».proof.Proof.Math
public import proofs.«01_k».proof.Pre_finite
public import proofs.«01_k».proof.Proof.Words
/-! The stronger precondition: the ids in range, and six of the arrays finite. -/
@[expose] public section

namespace Cert.Pre_finite.Own

/-- The shape relations the predicate's operations take. -/
instance facts : Cert.Pre_finite.Facts where
  bcast_S_S128x200 := by decide
  reducesTo_S128x200_S_d0_1 := by decide
  h_S_ := by decide
  bcast_S_S10000x128 := by decide
  reducesTo_S10000x128_S_d0_1 := by decide
  bcast_S_S2x128 := by decide
  reducesTo_S2x128_S_d0_1 := by decide
  bcast_S_S64x128 := by decide
  reducesTo_S64x128_S_d0_1 := by decide
  bcast_S_S128x128 := by decide
  reducesTo_S128x128_S_d0_1 := by decide

end Cert.Pre_finite.Own

namespace Cert.Words
open Idealize.ShloMosaic Cert.Pre_finite

theorem pos_inf : Ideal.ofBits .f32 2139095040#32 = ⊤ := by
  simp [Ideal.ofBits, Ideal.ieee]

/-- A value whose magnitude is below infinity is a real number. -/
theorem real_of_lt (x : EReal) (h : Ideal.cmp .olt (max x (-x)) (Ideal.ofBits .f32 2139095040#32) = 1#1) : Trace.Re x := by
  rw [pos_inf] at h
  induction x with
  | bot => simp [Ideal.cmp] at h
  | top => simp [Ideal.cmp] at h
  | coe r => exact ⟨r, rfl⟩

theorem of_finite (q r : IVec S128x200 32) (x2 : FVec Ideal S10000x128 .f32) (x3 : FVec Ideal S2x128 .f32) (x4 x5 : FVec Ideal S64x128 .f32)
    (x6 : FVec Ideal S128x256 .f32) (x7 : FVec Ideal S128 .f32) (x8 : FVec Ideal S128x128 .f32) (x9 : FVec Ideal S128 .f32) (x10 : FVec Ideal S128x128 .f32)
    (x11 : FVec Ideal S128 .f32) (x12 : FVec Ideal S1x128 .f32) (x13 : FVec Ideal S1 .f32) (x14 : FVec Ideal S1x128 .f32) (x15 : FVec Ideal S1 .f32)
    (h : fn (F := Ideal) q r x2 x3 x4 x5 x6 x7 x8 x9 x10 x11 x12 x13 x14 x15 = fun _ => 1#1) :
    (∀ y, (q y).toNat < 10000) ∧ (Trace.inpOf q r x2 x3 x4 x5 x6 x7 x8 x9 x10 x11 x12 x13 x14 x15).Ok := by
  have e := congrFun h (Shape.Idx.first (s := S_) Facts.h_S_)
  simp only [fn, fn_part1, fn_part2, andi] at e
  obtain ⟨e, h10⟩ := IntOp.andi_eq_one.1 e
  obtain ⟨e, h8⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨e1, e2⟩ := IntOp.andi_eq_one.1 e
  have : Subsingleton S_.Idx := ⟨fun a b => funext fun i => i.elim0⟩
  have hq : ∀ y, (q y).toNat < 10000 := fun y => lt_of_signed _ _ (by decide) (Host.reduce_andi_all _ _ _ _ _ e1 y)
  exact ⟨hq, {
    q := fun b l => hq _
    r := fun b l => lt_of_signed _ _ (by decide) (Host.reduce_andi_all _ _ _ _ _ e2 _)
    ke := fun i x => real_of_lt _ (Host.reduce_andi_all _ _ _ _ _ h2 _)
    ve := fun i x => real_of_lt _ (Host.reduce_andi_all _ _ _ _ _ h3 _)
    Mk := fun i x => real_of_lt _ (Host.reduce_andi_all _ _ _ _ _ h4 _)
    Mv := fun i x => real_of_lt _ (Host.reduce_andi_all _ _ _ _ _ h5 _)
    eW := fun i x => real_of_lt _ (Host.reduce_andi_all _ _ _ _ _ h8 _)
    aW := fun i x => real_of_lt _ (Host.reduce_andi_all _ _ _ _ _ h10 _) }⟩

end Cert.Words
-- ==== Proof.RefRows.lean ====
module
public import Idealize.ShloMosaic.Lib.Pointwise
public import Idealize.ShloMosaic.Lib.ValueIdxCore
public import proofs.«01_k».proof.Proof.Math
public import proofs.«01_k».proof.Proof.Gen.ReferenceIdeal.Step
/-! The reference's row lookups read at an index, and its values before the loop. -/
@[expose] public section
set_option maxRecDepth 16384
noncomputable section

namespace Cert.RowGather
open Idealize.ShloMosaic Idealize.ShloMosaic.Pointwise
variable {α : Type}

/-- Whole rows of an `[N, C]` array taken at an `[A, B, 1]` array of row numbers. -/
abbrev dims (N C A B : Nat) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Entry `(a, b, c)` is column `c` of the row numbered by the word at `(a, b)`, read signed and clamped. -/
theorem apply {N C A B w : Nat} (hN : 0 < N) (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (c : Fin C) :
    Host.gather (dims N C A B wf) x idx (ix3 a b c) = x (ix2 ⟨min (idx (ix3 a b 0)).toInt.toNat (N - 1), by omega⟩ c) := by
  unfold Host.gather
  congr 1
  funext i
  refine Fin.ext ?_
  show (dims N C A B wf).start (ix3 a b c) idx i + (dims N C A B wf).batchCoord (ix3 a b c) i + (dims N C A B wf).offCoord (ix3 a b c) i = _
  rw [GatherDims.batchCoord_eq_zero _ _ _ List.not_mem_nil, Nat.add_zero]
  have h01 : i = 0 ∨ i = 1 := by
    match i with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (dims N C A B wf).startIndexMap from List.mem_singleton.mpr rfl)]
    have hsi : (dims N C A B wf).siIdx (ix3 a b c) ⟨List.idxOf (0 : Fin 2) (dims N C A B wf).startIndexMap,
        List.idxOf_lt_length_iff.2 (List.mem_singleton.mpr rfl)⟩ = ix3 a b 0 := by
      funext k; refine Fin.ext ?_
      match k with
      | ⟨0, _⟩ => rfl
      | ⟨1, _⟩ => rfl
      | ⟨2, _⟩ => rfl
    rw [hsi]
    rfl
  · unfold GatherDims.start
    rw [dif_neg (show (1 : Fin 2) ∉ (dims N C A B wf).startIndexMap from by simp), Nat.zero_add]
    unfold GatherDims.offCoord
    rfl

/-- A row number below the array's height, brought into range by adding the height when negative, is itself. -/
theorem wrap (v n : BitVec 32) (N : ℕ) (hN : N < 2 ^ 31) (h : v.toNat < N) :
    min (Scalar.select (IntOp.cmpi .slt v 0#32) (v + n) v).toInt.toNat (N - 1) = v.toNat := by
  have e : IntOp.cmpi .slt v 0#32 = 0#1 := by
    have : v.slt 0#32 = false := by
      simp only [BitVec.slt, BitVec.toInt, BitVec.toNat_ofNat, decide_eq_false_iff_not]
      omega
    simp only [IntOp.cmpi, this]; rfl
  rw [e]
  show min v.toInt.toNat (N - 1) = v.toNat
  have : v.toInt = (v.toNat : ℤ) := BitVec.toInt_eq_toNat_of_lt (by omega)
  rw [this]
  simp only [Int.toNat_natCast]
  omega

end Cert.RowGather

namespace Cert.ReferenceIdeal.Step
open Idealize.ShloMosaic Cert.ReferenceIdeal Cert.ReferenceIdeal.Gen Idealize.ShloMosaic.Pointwise

variable (x0 x1 : IVec S128x200 32) (x2 : FVec Ideal S10000x128 .f32) (x3 : FVec Ideal S2x128 .f32) (x4 x5 : FVec Ideal S64x128 .f32)
  (x6 : FVec Ideal S128x256 .f32) (x7 : FVec Ideal S128 .f32) (x8 : FVec Ideal S128x128 .f32) (x9 : FVec Ideal S128 .f32) (x10 : FVec Ideal S128x128 .f32)
  (x11 : FVec Ideal S128 .f32) (x12 : FVec Ideal S1x128 .f32) (x13 : FVec Ideal S1 .f32) (x14 : FVec Ideal S1x128 .f32) (x15 : FVec Ideal S1 .f32)

/-- The inputs. -/
abbrev inp : Trace.Inp := Trace.inpOf x0 x1 x2 x3 x4 x5 x6 x7 x8 x9 x10 x11 x12 x13 x14 x15

theorem key_at (idx : IVec S128x200x1 32) (hx : ∀ b l, idx (ix3 b l 0) = Scalar.select (IntOp.cmpi .slt (x0 (ix2 b l)) 0#32) (x0 (ix2 b l) + 10000#32) (x0 (ix2 b l)))
    (hq : ∀ b l, (x0 (ix2 b l)).toNat < 10000) (b : Fin 128) (l : Fin 200) (d : Fin 128) :
    (Host.gather gather_S10000x128_S128x200x1_S128x200x128_2_0_n_n_0_2_1128 x2 idx (ix3 b l d) : EReal) = Trace.key (inp x0 x1 x2 x3 x4 x5 x6 x7 x8 x9 x10 x11 x12 x13 x14 x15) b l d := by
  refine (RowGather.apply (by decide) gather_S10000x128_S128x200x1_S128x200x128_2_0_n_n_0_2_1128_wf x2 idx b l d).trans ?_
  refine congrArg (fun i => x2 (ix2 i d)) (Fin.ext ?_)
  show min (idx (ix3 b l 0)).toInt.toNat (10000 - 1) = (x0 (ix2 b l)).toNat % 10000
  rw [hx, RowGather.wrap _ _ _ (by decide) (hq b l), Nat.mod_eq_of_lt (hq b l)]
theorem val_at (idx : IVec S128x200x1 32) (hx : ∀ b l, idx (ix3 b l 0) = Scalar.select (IntOp.cmpi .slt (x1 (ix2 b l)) 0#32) (x1 (ix2 b l) + 2#32) (x1 (ix2 b l)))
    (hr : ∀ b l, (x1 (ix2 b l)).toNat < 2) (b : Fin 128) (l : Fin 200) (d : Fin 128) :
    (Host.gather gather_S2x128_S128x200x1_S128x200x128_2_0_n_n_0_2_1128 x3 idx (ix3 b l d) : EReal) = (inp x0 x1 x2 x3 x4 x5 x6 x7 x8 x9 x10 x11 x12 x13 x14 x15).ve (Fin.ofNat 2 (x1 (ix2 b l)).toNat) d := by
  refine (RowGather.apply (by decide) gather_S2x128_S128x200x1_S128x200x128_2_0_n_n_0_2_1128_wf x3 idx b l d).trans ?_
  refine congrArg (fun i => x3 (ix2 i d)) (Fin.ext ?_)
  show min (idx (ix3 b l 0)).toInt.toNat (2 - 1) = (x1 (ix2 b l)).toNat % 2
  rw [hx, RowGather.wrap _ _ _ (by decide) (hr b l), Nat.mod_eq_of_lt (hr b l)]

section
variable (hq : ∀ b l, (x0 (ix2 b l)).toNat < 10000) (hr : ∀ b l, (x1 (ix2 b l)).toNat < 2)
include hq
theorem v6_at (b : Fin 128) (l : Fin 200) (d : Fin 128) : (A_main_v6 (F := Ideal) x0 x1 x2 x3 x4 x5 x8 x9 x10 x11 (ix3 b l d) : EReal) = Trace.key (inp x0 x1 x2 x3 x4 x5 x6 x7 x8 x9 x10 x11 x12 x13 x14 x15) b l d := by
  unfold A_main_v6
  refine key_at x0 x1 x2 x3 x4 x5 x6 x7 x8 x9 x10 x11 x12 x13 x14 x15 _ (fun b l => ?_) hq b l d
  pointwise [A_main_v5, A_main_v4, A_main_v3, A_main_v1, K_main_c, K_main_v0, K_main_c_0, K_main_v2]
  rfl
include hr
theorem v14_at (b : Fin 128) (l : Fin 200) (d : Fin 128) : (A_main_v14 (F := Ideal) x0 x1 x2 x3 x4 x5 x8 x9 x10 x11 (ix3 b l d) : EReal)
    = Trace.key (inp x0 x1 x2 x3 x4 x5 x6 x7 x8 x9 x10 x11 x12 x13 x14 x15) b l d + (inp x0 x1 x2 x3 x4 x5 x6 x7 x8 x9 x10 x11 x12 x13 x14 x15).ve (Fin.ofNat 2 (x1 (ix2 b l)).toNat) d := by
  unfold A_main_v14
  refine congrArg₂ (fun x y : EReal => x + y) (v6_at x0 x1 x2 x3 x4 x5 x6 x7 x8 x9 x10 x11 x12 x13 x14 x15 hq b l d) ?_
  unfold A_main_v13
  refine val_at x0 x1 x2 x3 x4 x5 x6 x7 x8 x9 x10 x11 x12 x13 x14 x15 _ (fun b l => ?_) hr b l d
  pointwise [A_main_v12, A_main_v11, A_main_v10, A_main_v8, K_main_c_1, K_main_v7, K_main_c_2, K_main_v9]
  rfl
end
end Cert.ReferenceIdeal.Step
-- ==== Proof.RefTrip.lean ====
module
public import Idealize.ShloMosaic.Lib.Pointwise
public import proofs.«01_k».proof.Proof.Gen.ReferenceIdeal.Step
/-! One trip of the reference's loop, read at an index. -/
@[expose] public section
set_option maxRecDepth 16384
noncomputable section
namespace Cert.ReferenceIdeal.Step
open Idealize.ShloMosaic Cert.ReferenceIdeal Cert.ReferenceIdeal.Gen Idealize.ShloMosaic.Pointwise

theorem ix3_val {a b c : Nat} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]
theorem ix2_val {a b : Nat} {i i' : Fin a} {j j' : Fin b} (hi : i.val = i'.val) (hj : j.val = j'.val) :
    ix2 i j = ix2 i' j' := by
  rw [Fin.ext hi, Fin.ext hj]
theorem trip_int {j : ℕ} (hj : j < 200) : (BitVec.ofNat 32 j).toInt = (j : ℤ) := by
  have h : (BitVec.ofNat 32 j).toNat = j := by simp only [BitVec.toNat_ofNat]; omega
  rw [BitVec.toInt_eq_toNat_of_lt (by omega), h]

theorem b3_at {j : ℕ} (hj : j < 200) (s : State Ideal) (b : Fin 128) (m : Fin 64) : b3 j s (ix2 b m) = s.main_v48_0 (ix3 ⟨j, hj⟩ b m) := by
  have e1 : Host.clampedStart S200x128x64 S1x128x64 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 0 = j :=
    Host.clampedStart_of_le _ _ _ j (trip_int hj) (show j + 1 ≤ 200 by omega)
  have e2 : Host.clampedStart S200x128x64 S1x128x64 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 1 = 0 :=
    Host.clampedStart_of_le _ _ _ 0 rfl (show 0 + 128 ≤ 128 by omega)
  have e3 : Host.clampedStart S200x128x64 S1x128x64 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 2 = 0 :=
    Host.clampedStart_of_le _ _ _ 0 rfl (show 0 + 64 ≤ 64 by omega)
  pointwise [b3, b2, b0, b1]
  refine congrArg s.main_v48_0 (ix3_val ?_ ?_ ?_)
  · exact e1
  · dsimp only
    rw [e2, Nat.zero_add]
  · dsimp only
    rw [e3, Nat.zero_add]
theorem b7_at {j : ℕ} (hj : j < 200) (s : State Ideal) (b d : Fin 128) : b7 j s (ix2 b d) = s.main_v48_1 (ix3 ⟨j, hj⟩ b d) := by
  have e1 : Host.clampedStart S200x128x128 S1x128x128 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 0 = j :=
    Host.clampedStart_of_le _ _ _ j (trip_int hj) (show j + 1 ≤ 200 by omega)
  have e2 : Host.clampedStart S200x128x128 S1x128x128 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 1 = 0 :=
    Host.clampedStart_of_le _ _ _ 0 rfl (show 0 + 128 ≤ 128 by omega)
  have e3 : Host.clampedStart S200x128x128 S1x128x128 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 2 = 0 :=
    Host.clampedStart_of_le _ _ _ 0 rfl (show 0 + 128 ≤ 128 by omega)
  pointwise [b7, b6, b4, b5]
  refine congrArg s.main_v48_1 (ix3_val ?_ ?_ ?_)
  · exact e1
  · dsimp only
    rw [e2, Nat.zero_add]
  · dsimp only
    rw [e3, Nat.zero_add]
theorem b11_at {j : ℕ} (hj : j < 200) (s : State Ideal) (b d : Fin 128) : b11 j s (ix2 b d) = s.main_v48_2 (ix3 ⟨j, hj⟩ b d) := by
  have e1 : Host.clampedStart S200x128x128 S1x128x128 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 0 = j :=
    Host.clampedStart_of_le _ _ _ j (trip_int hj) (show j + 1 ≤ 200 by omega)
  have e2 : Host.clampedStart S200x128x128 S1x128x128 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 1 = 0 :=
    Host.clampedStart_of_le _ _ _ 0 rfl (show 0 + 128 ≤ 128 by omega)
  have e3 : Host.clampedStart S200x128x128 S1x128x128 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 2 = 0 :=
    Host.clampedStart_of_le _ _ _ 0 rfl (show 0 + 128 ≤ 128 by omega)
  pointwise [b11, b10, b8, b9]
  refine congrArg s.main_v48_2 (ix3_val ?_ ?_ ?_)
  · exact e1
  · dsimp only
    rw [e2, Nat.zero_add]
  · dsimp only
    rw [e3, Nat.zero_add]

/-- What a trip reads from the cells. -/
theorem b12_at {j : ℕ} (hj : j < 200) (s : State Ideal) (b d : Fin 128) :
    (b12 j s (ix2 b d) : EReal) = ∑ x : Fin 64, (s.main_v48_0 (ix3 ⟨j, hj⟩ b x) : EReal) * s.main_v48_4 (ix3 b x d) := by
  have h : (b12 j s (ix2 b d) : EReal) = ∑ x : Fin 64, (b3 j s (ix2 b x) : EReal) * s.main_v48_4 (ix3 b x d) := by
    pointwise [b12]
  exact h.trans (Finset.sum_congr rfl fun x _ => congrArg (fun y : EReal => y * s.main_v48_4 (ix3 b x d)) (b3_at hj s b x))

/-- The cells a trip leaves. -/
theorem b26_at {j : ℕ} (hj : j < 200) (s : State Ideal) (b d : Fin 128) (m : Fin 64) :
    (b26 j s (ix3 b m d) : EReal) = (s.main_v48_4 (ix3 b m d) : EReal) * (1 - (s.main_v48_0 (ix3 ⟨j, hj⟩ b m) : EReal) * s.main_v48_1 (ix3 ⟨j, hj⟩ b d))
      + (s.main_v48_0 (ix3 ⟨j, hj⟩ b m) : EReal) * s.main_v48_2 (ix3 ⟨j, hj⟩ b d) := by
  have h : (b26 j s (ix3 b m d) : EReal) = (s.main_v48_4 (ix3 b m d) : EReal) * (1 - (b3 j s (ix2 b m) : EReal) * b7 j s (ix2 b d))
      + (b3 j s (ix2 b m) : EReal) * b11 j s (ix2 b d) := by
    pointwise [b26, b21, b20, b19, b18, b17, b16, b15, b14, b13, b25, b24, b23, b22]
  rw [b3_at hj, b7_at hj, b11_at hj] at h
  exact h

/-- What has been read, after a trip: its own row new, the others as they were. -/
theorem b30_at {j : ℕ} (hj : j < 200) (s : State Ideal) (l : Fin 200) (b d : Fin 128) :
    b30 j s (ix3 l b d) = if l.val = j then b12 j s (ix2 b d) else s.main_v48_5 (ix3 l b d) := by
  have e1 : Host.clampedStart S200x128x128 S1x128x128 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 0 = j :=
    Host.clampedStart_of_le _ _ _ j (trip_int hj) (show j + 1 ≤ 200 by omega)
  have e2 : Host.clampedStart S200x128x128 S1x128x128 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 1 = 0 :=
    Host.clampedStart_of_le _ _ _ 0 rfl (show 0 + 128 ≤ 128 by omega)
  have e3 : Host.clampedStart S200x128x128 S1x128x128 rfl (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) 2 = 0 :=
    Host.clampedStart_of_le _ _ _ 0 rfl (show 0 + 128 ≤ 128 by omega)
  pointwise [b30, b27, b28, b29]
  by_cases hl : l.val = j
  · rw [if_pos hl]
    refine (dif_pos ?_).trans ?_
    · refine ⟨?_, ?_, ?_⟩
      · rw [e1]; omega
      · rw [e2]; omega
      · rw [e3]; omega
    · refine congrArg (b12 j s) (ix2_val ?_ ?_)
      · show b.val - _ = b.val
        rw [e2]; rfl
      · show d.val - _ = d.val
        rw [e3]; rfl
  · rw [if_neg hl]
    refine dif_neg ?_
    rw [e1]
    rintro ⟨h, -⟩
    omega
end Cert.ReferenceIdeal.Step
-- ==== Proof.RefStart.lean ====
module
public import proofs.«01_k».proof.Proof.RefRows
public import proofs.«01_k».proof.Proof.RefTrip
/-! The reference's values before its loop, read at an index. -/
@[expose] public section
set_option maxRecDepth 16384
noncomputable section
namespace Cert.ReferenceIdeal.Step
open Idealize.ShloMosaic Cert.ReferenceIdeal Cert.ReferenceIdeal.Gen Idealize.ShloMosaic.Pointwise

variable (x0 x1 : IVec S128x200 32) (x2 : FVec Ideal S10000x128 .f32) (x3 : FVec Ideal S2x128 .f32) (x4 x5 : FVec Ideal S64x128 .f32)
  (x6 : FVec Ideal S128x256 .f32) (x7 : FVec Ideal S128 .f32) (x8 : FVec Ideal S128x128 .f32) (x9 : FVec Ideal S128 .f32) (x10 : FVec Ideal S128x128 .f32)
  (x11 : FVec Ideal S128 .f32) (x12 : FVec Ideal S1x128 .f32) (x13 : FVec Ideal S1 .f32) (x14 : FVec Ideal S1x128 .f32) (x15 : FVec Ideal S1 .f32)

theorem neg_inf : Ideal.ofBits .f32 4286578688#32 = ⊥ := by
  simp [Ideal.ofBits, Ideal.ieee]

theorem v26_soft (b : Fin 128) (l : Fin 200) (m : Fin 64) :
    (A_main_v26 (F := Ideal) x0 x1 x2 x3 x4 x5 x8 x9 x10 x11 (ix3 b l m) : EReal)
      = Trace.soft (fun m => ∑ x : Fin 128, (A_main_v6 (F := Ideal) x0 x1 x2 x3 x4 x5 x8 x9 x10 x11 (ix3 b l x) : EReal) * x4 (ix2 m x)) m := by
  unfold A_main_v26 Trace.soft
  pointwise [A_main_v25, A_main_v24, A_main_v23, A_main_v22, A_main_v21, A_main_v20, A_main_v19, A_main_v18, A_main_v16, A_main_v15, K_main_cst, K_main_cst_3, K_main_v17, K_main_cst_4]
  simp only [neg_inf, bot_sup_eq]
theorem v36_gate (b : Fin 128) (l : Fin 200) (d : Fin 128) :
    (A_main_v36 (F := Ideal) x0 x1 x2 x3 x4 x5 x8 x9 x10 x11 (ix3 b l d) : EReal)
      = Ideal.logistic ((∑ x : Fin 128, (A_main_v14 (F := Ideal) x0 x1 x2 x3 x4 x5 x8 x9 x10 x11 (ix3 b l x) : EReal) * x8 (ix2 d x)) + x9 (ix1 d)) := by
  unfold A_main_v36
  pointwise [A_main_v34, A_main_v32, A_main_v31, A_main_v30, A_main_v29, A_main_v28, A_main_v27, K_main_cst_5, K_main_v33, K_main_cst_6, K_main_v35]
  rfl
theorem v41_gate (b : Fin 128) (l : Fin 200) (d : Fin 128) :
    (A_main_v41 (F := Ideal) x0 x1 x2 x3 x4 x5 x8 x9 x10 x11 (ix3 b l d) : EReal)
      = Ideal.tanh ((∑ x : Fin 128, (A_main_v14 (F := Ideal) x0 x1 x2 x3 x4 x5 x8 x9 x10 x11 (ix3 b l x) : EReal) * x10 (ix2 d x)) + x11 (ix1 d)) := by
  unfold A_main_v41
  pointwise [A_main_v37, A_main_v38, A_main_v39, A_main_v40]
theorem v43_at (b : Fin 128) (m : Fin 64) (d : Fin 128) :
    (A_main_v43 (F := Ideal) x0 x1 x2 x3 x4 x5 x8 x9 x10 x11 (ix3 b m d) : EReal) = x5 (ix2 m d) := by
  unfold A_main_v43
  pointwise [A_main_v42]
theorem v44_at (b : Fin 128) (l : Fin 200) (m : Fin 64) :
    (A_main_v44 (F := Ideal) x0 x1 x2 x3 x4 x5 x8 x9 x10 x11 (ix3 l b m) : EReal) = A_main_v26 (F := Ideal) x0 x1 x2 x3 x4 x5 x8 x9 x10 x11 (ix3 b l m) := by
  unfold A_main_v44
  pointwise
theorem v45_at (b : Fin 128) (l : Fin 200) (d : Fin 128) :
    (A_main_v45 (F := Ideal) x0 x1 x2 x3 x4 x5 x8 x9 x10 x11 (ix3 l b d) : EReal) = A_main_v36 (F := Ideal) x0 x1 x2 x3 x4 x5 x8 x9 x10 x11 (ix3 b l d) := by
  unfold A_main_v45
  pointwise
theorem v46_at (b : Fin 128) (l : Fin 200) (d : Fin 128) :
    (A_main_v46 (F := Ideal) x0 x1 x2 x3 x4 x5 x8 x9 x10 x11 (ix3 l b d) : EReal) = A_main_v41 (F := Ideal) x0 x1 x2 x3 x4 x5 x8 x9 x10 x11 (ix3 b l d) := by
  unfold A_main_v46
  pointwise

end Cert.ReferenceIdeal.Step
-- ==== Proof.RefVal.lean ====
module
public import proofs.«01_k».proof.Proof.RefStart
/-! The reference's result, read at an index: the trace through the blended update. -/
@[expose] public section
set_option maxRecDepth 16384
noncomputable section
namespace Cert.ReferenceIdeal.Step
open Idealize.ShloMosaic Cert.ReferenceIdeal Cert.ReferenceIdeal.Gen Idealize.ShloMosaic.Pointwise

variable (x0 x1 : IVec S128x200 32) (x2 : FVec Ideal S10000x128 .f32) (x3 : FVec Ideal S2x128 .f32) (x4 x5 : FVec Ideal S64x128 .f32)
  (x6 : FVec Ideal S128x256 .f32) (x7 : FVec Ideal S128 .f32) (x8 : FVec Ideal S128x128 .f32) (x9 : FVec Ideal S128 .f32) (x10 : FVec Ideal S128x128 .f32)
  (x11 : FVec Ideal S128 .f32) (x12 : FVec Ideal S1x128 .f32) (x13 : FVec Ideal S1 .f32) (x14 : FVec Ideal S1x128 .f32) (x15 : FVec Ideal S1 .f32)

/-- The erase gate. -/
abbrev eras (J : Trace.Inp) : Fin 128 → Fin 200 → Fin 128 → EReal := fun b l d => Ideal.logistic (Trace.gateB J J.eW J.eb b l d)
/-- The add gate. -/
abbrev addg (J : Trace.Inp) : Fin 128 → Fin 200 → Fin 128 → EReal := fun b l d => Ideal.tanh (Trace.gateB J J.aW J.ab b l d)
/-- The cells of the trace. -/
abbrev cells (J : Trace.Inp) : Fin 128 → Fin 64 → Fin 128 → ℕ → EReal := Trace.cellB J (eras J) (addg J)

section
variable (hq : ∀ b l, (x0 (ix2 b l)).toNat < 10000)
include hq
theorem v44_val (b : Fin 128) (l : Fin 200) (m : Fin 64) :
    (A_main_v44 (F := Ideal) x0 x1 x2 x3 x4 x5 x8 x9 x10 x11 (ix3 l b m) : EReal) = Trace.wts (inp x0 x1 x2 x3 x4 x5 x6 x7 x8 x9 x10 x11 x12 x13 x14 x15) b l m := by
  refine (v44_at x0 x1 x2 x3 x4 x5 x8 x9 x10 x11 b l m).trans ?_
  refine (v26_soft x0 x1 x2 x3 x4 x5 x8 x9 x10 x11 b l m).trans ?_
  refine congrArg (fun s => Trace.soft s m) (funext fun m => Finset.sum_congr rfl fun x _ => ?_)
  rw [mul_comm]
  exact congrArg (fun y : EReal => x4 (ix2 m x) * y) (v6_at x0 x1 x2 x3 x4 x5 x6 x7 x8 x9 x10 x11 x12 x13 x14 x15 hq b l x)
variable (hr : ∀ b l, (x1 (ix2 b l)).toNat < 2)
include hr
theorem v45_val (b : Fin 128) (l : Fin 200) (d : Fin 128) :
    (A_main_v45 (F := Ideal) x0 x1 x2 x3 x4 x5 x8 x9 x10 x11 (ix3 l b d) : EReal) = eras (inp x0 x1 x2 x3 x4 x5 x6 x7 x8 x9 x10 x11 x12 x13 x14 x15) b l d := by
  refine (v45_at x0 x1 x2 x3 x4 x5 x8 x9 x10 x11 b l d).trans ?_
  refine (v36_gate x0 x1 x2 x3 x4 x5 x8 x9 x10 x11 b l d).trans ?_
  refine congrArg (fun y : EReal => Ideal.logistic (y + x9 (ix1 d))) (Finset.sum_congr rfl fun x _ => ?_)
  exact congrArg (fun y : EReal => y * x8 (ix2 d x)) (v14_at x0 x1 x2 x3 x4 x5 x6 x7 x8 x9 x10 x11 x12 x13 x14 x15 hq hr b l x)
theorem v46_val (b : Fin 128) (l : Fin 200) (d : Fin 128) :
    (A_main_v46 (F := Ideal) x0 x1 x2 x3 x4 x5 x8 x9 x10 x11 (ix3 l b d) : EReal) = addg (inp x0 x1 x2 x3 x4 x5 x6 x7 x8 x9 x10 x11 x12 x13 x14 x15) b l d := by
  refine (v46_at x0 x1 x2 x3 x4 x5 x8 x9 x10 x11 b l d).trans ?_
  refine (v41_gate x0 x1 x2 x3 x4 x5 x8 x9 x10 x11 b l d).trans ?_
  refine congrArg (fun y : EReal => Ideal.tanh (y + x11 (ix1 d))) (Finset.sum_congr rfl fun x _ => ?_)
  exact congrArg (fun y : EReal => y * x10 (ix2 d x)) (v14_at x0 x1 x2 x3 x4 x5 x6 x7 x8 x9 x10 x11 x12 x13 x14 x15 hq hr b l x)
end

/-- What a state of the loop holds after `n` trips. -/
structure Holds (J : Trace.Inp) (s : State Ideal) (n : ℕ) : Prop where
  w : ∀ l b m, (s.main_v48_0 (ix3 l b m) : EReal) = Trace.wts J b l m
  e : ∀ l b d, (s.main_v48_1 (ix3 l b d) : EReal) = eras J b l d
  a : ∀ l b d, (s.main_v48_2 (ix3 l b d) : EReal) = addg J b l d
  c : ∀ b m d, (s.main_v48_4 (ix3 b m d) : EReal) = cells J b m d n
  r : ∀ (l : Fin 200) b d, l.val < n → (s.main_v48_5 (ix3 l b d) : EReal) = Trace.readOf J (cells J) b l d

theorem holds_init (hq : ∀ b l, (x0 (ix2 b l)).toNat < 10000) (hr : ∀ b l, (x1 (ix2 b l)).toNat < 2) :
    Holds (inp x0 x1 x2 x3 x4 x5 x6 x7 x8 x9 x10 x11 x12 x13 x14 x15) (init (F := Ideal) x0 x1 x2 x3 x4 x5 x8 x9 x10 x11) 0 where
  w l b m := v44_val x0 x1 x2 x3 x4 x5 x6 x7 x8 x9 x10 x11 x12 x13 x14 x15 hq b l m
  e l b d := v45_val x0 x1 x2 x3 x4 x5 x6 x7 x8 x9 x10 x11 x12 x13 x14 x15 hq hr b l d
  a l b d := v46_val x0 x1 x2 x3 x4 x5 x6 x7 x8 x9 x10 x11 x12 x13 x14 x15 hq hr b l d
  c b m d := v43_at x0 x1 x2 x3 x4 x5 x8 x9 x10 x11 b m d
  r _ _ _ h := absurd h (Nat.not_lt_zero _)

theorem holds_step {J : Trace.Inp} {s : State Ideal} {n : ℕ} (hn : n < 200) (h : Holds J s n) : Holds J (step n s) (n + 1) where
  w := h.w
  e := h.e
  a := h.a
  c b m d := by
    rw [step_main_v48_4]
    refine (b26_at hn s b d m).trans ?_
    rw [h.w, h.e, h.a, h.c]
    have : (⟨n, hn⟩ : Fin 200) = Fin.ofNat 200 n := Fin.ext (Nat.mod_eq_of_lt hn).symm
    rw [this]
    rfl
  r l b d hl := by
    rw [step_main_v48_5, b30_at hn]
    by_cases e : l.val = n
    · rw [if_pos e]
      refine (b12_at hn s b d).trans ?_
      refine Finset.sum_congr rfl fun x _ => ?_
      rw [h.w, h.c]
      have : (⟨n, hn⟩ : Fin 200) = l := Fin.ext e.symm
      rw [this, e]
    · rw [if_neg e]
      exact h.r l b d (by omega)

theorem holds_all {J : Trace.Inp} (s : ℕ → State Ideal) (h0 : Holds J (s 0) 0) (hs : ∀ n, s (n + 1) = step n (s n)) :
    ∀ n, n ≤ 200 → Holds J (s n) n
  | 0, _ => h0
  | n + 1, hn => by
    rw [hs]
    exact holds_step (by omega) (holds_all s h0 hs n (by omega))

theorem key_row (hq : ∀ b l, (x0 (ix2 b l)).toNat < 10000) (b : Fin 128) (l : Fin 200) (d : Fin 128) :
    (Host.gather gather_S10000x128_S128x200x1_S128x200x128_2_0_n_n_0_2_1128 x2 (broadcastInDim S128x200x1 ![0, 1] bcast_S128x200_S128x200x1_0_1 (select (cmpi .slt x0 (broadcastInDim S128x200 ![] bcast_S_S128x200 (constantI S_ 32 0#32))) (addi x0 (broadcastInDim S128x200 ![] bcast_S_S128x200 (constantI S_ 32 10000#32))) x0)) (ix3 b l d) : EReal) = Trace.key (inp x0 x1 x2 x3 x4 x5 x6 x7 x8 x9 x10 x11 x12 x13 x14 x15) b l d := by
  refine key_at x0 x1 x2 x3 x4 x5 x6 x7 x8 x9 x10 x11 x12 x13 x14 x15 _ (fun b l => ?_) hq b l d
  pointwise
  rfl

/-- The result from the loop's last state. -/
theorem result_at (hq : ∀ b l, (x0 (ix2 b l)).toNat < 10000) (s : State Ideal) (h : Holds (inp x0 x1 x2 x3 x4 x5 x6 x7 x8 x9 x10 x11 x12 x13 x14 x15) s 200) (b : Fin 128) (l : Fin 200) :
    (R_main_v85 (F := Ideal) s x0 x2 x6 x7 x12 x13 x14 x15 (ix2 b l) : EReal) = Trace.outB (inp x0 x1 x2 x3 x4 x5 x6 x7 x8 x9 x10 x11 x12 x13 x14 x15) b l := by
  unfold R_main_v85
  pointwise
  simp only [key_row x0 x1 x2 x3 x4 x5 x6 x7 x8 x9 x10 x11 x12 x13 x14 x15 hq, h.r _ _ _ (Fin.isLt _)]
  unfold Trace.outB Trace.pred
  rfl

/-- The result after the two hundred trips. -/
theorem result (hq : ∀ b l, (x0 (ix2 b l)).toNat < 10000) (hr : ∀ b l, (x1 (ix2 b l)).toNat < 2) (s : ℕ → State Ideal)
    (h0 : s 0 = init (F := Ideal) x0 x1 x2 x3 x4 x5 x8 x9 x10 x11) (hs : ∀ n, s (n + 1) = step n (s n)) (b : Fin 128) (l : Fin 200) :
    (R_main_v85 (F := Ideal) (s 200) x0 x2 x6 x7 x12 x13 x14 x15 (ix2 b l) : EReal) = Trace.outB (inp x0 x1 x2 x3 x4 x5 x6 x7 x8 x9 x10 x11 x12 x13 x14 x15) b l := by
  refine result_at x0 x1 x2 x3 x4 x5 x6 x7 x8 x9 x10 x11 x12 x13 x14 x15 hq (s 200) (holds_all s ?_ hs 200 le_rfl) b l
  rw [h0]
  exact holds_init x0 x1 x2 x3 x4 x5 x6 x7 x8 x9 x10 x11 x12 x13 x14 x15 hq hr
end Cert.ReferenceIdeal.Step
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_in_range
public import proofs.«01_k».proof.Proof.Gen.Own.Kernel.K2.Frame
public import proofs.«01_k».proof.Proof.Gen.Own.KernelIdeal.K2.Frame
public import proofs.«01_k».proof.Proof.WordsKernel
public import proofs.«01_k».proof.Proof.WordsIdeal
public import proofs.«01_k».proof.Proof.RefRun
public import proofs.«01_k».proof.Proof.HostVal
public import proofs.«01_k».proof.Proof.Finite
public import proofs.«01_k».proof.Proof.RefVal
public import Idealize.ShloMosaic.Adequacy
public import Idealize.ShloMosaic.Init

@[expose] public section

noncomputable section

namespace Cert.Proof

open Idealize.ShloMosaic Idealize.SL.Sem

/-- The kernel's program ends with its arguments as launched and every counter at zero: its table's words lie in range. -/
theorem quiescent_Kernel : Cert.quiescent_Kernel := by
  intro m g h
  obtain ⟨hq, -⟩ := Words.of_pre _ _ _ _ _ _ _ _ _ _ _ _ _ _ _ _ (h 0)
  exact (θ_run Cert.Kernel.defs _ _).mono (fun r h => ⟨fun c => (h.1 c).2, h.2⟩) (Cert.Kernel.Run.run m (Cert.Kernel.Run.hw_of m hq) g)

/-- The same of its idealization. -/
theorem quiescent_KernelIdeal : Cert.quiescent_KernelIdeal := by
  intro m g h
  obtain ⟨hq, -⟩ := Words.of_pre _ _ _ _ _ _ _ _ _ _ _ _ _ _ _ _ (h 0)
  exact (θ_run Cert.KernelIdeal.defs _ _).mono (fun r h => ⟨fun c => (h.1 c).2, h.2⟩) (Cert.KernelIdeal.Run.run m (Cert.KernelIdeal.Run.hw_of m hq) g)

/-- The reference's states, one trip after the other. -/
def states (m : (ℓ : Loc Cert.ReferenceIdeal.nD Cert.ReferenceIdeal.τ Cert.ReferenceIdeal.sig) → Buf (Elt Ideal) ℓ) (c : Dev Cert.ReferenceIdeal.nD) : ℕ → Cert.ReferenceIdeal.Step.State Ideal
  | 0 => Cert.ReferenceIdeal.RefRun.initState m c
  | n + 1 => Cert.ReferenceIdeal.Step.step n (states m c n)

/-- The reference ends too, its arguments as launched. -/
theorem quiescent_ReferenceIdeal : Cert.quiescent_ReferenceIdeal := by
  intro m g _
  exact (θ_run Cert.ReferenceIdeal.defs _ _).mono (fun r h => ⟨fun c => (h c).2, sem_eq_zero_of_no_sems (by decide) r.2⟩)
    (Cert.ReferenceIdeal.RefRun.run_iter m g (states m) (fun _ => rfl) (fun _ _ => rfl))

/-- The kernel's idealization under the stronger precondition. -/
theorem quiescent_KernelIdeal_pre_finite : Cert.quiescent_KernelIdeal_pre_finite := by
  intro m g h
  obtain ⟨hq, -⟩ := Words.of_finite _ _ _ _ _ _ _ _ _ _ _ _ _ _ _ _ (h 0)
  exact (θ_run Cert.KernelIdeal.defs _ _).mono (fun r h => ⟨fun c => (h.1 c).2, h.2⟩) (Cert.KernelIdeal.Run.run m (Cert.KernelIdeal.Run.hw_of m hq) g)

/-- The reference under the stronger precondition. -/
theorem quiescent_ReferenceIdeal_pre_finite : Cert.quiescent_ReferenceIdeal_pre_finite := by
  intro m g _
  exact (θ_run Cert.ReferenceIdeal.defs _ _).mono (fun r h => ⟨fun c => (h c).2, sem_eq_zero_of_no_sems (by decide) r.2⟩)
    (Cert.ReferenceIdeal.RefRun.run_iter m g (states m) (fun _ => rfl) (fun _ _ => rfl))

/-- The reference's argument arrays as launched. -/
abbrev refArg (m : (ℓ : Loc Cert.ReferenceIdeal.nD Cert.ReferenceIdeal.τ Cert.ReferenceIdeal.sig) → Buf (Elt Ideal) ℓ) (r : Ref Cert.ReferenceIdeal.sig .tc) :=
  m (((0 : Dev Cert.ReferenceIdeal.nD).tc : Thread Cert.ReferenceIdeal.nD Cert.ReferenceIdeal.τ).loc r)

/-- The two programs' results are equal. -/
theorem algebraic : Cert.algebraic_KernelIdeal_ReferenceIdeal_pre_finite := by
  intro m g m' g' h hm
  obtain ⟨hq, ok⟩ := Words.of_finite _ _ _ _ _ _ _ _ _ _ _ _ _ _ _ _ (h 0)
  have hw := Cert.KernelIdeal.Run.hw_of m hq
  have hlt : ∀ y, (Cert.KernelIdeal.K0.tbl (Cert.KernelIdeal.Run.table m) y).toNat < 10000 := by
    intro y
    show (Cert.KernelIdeal.Gen.V1 m 0 (Proc.devRef .tc Cert.KernelIdeal.main_v0) y).toNat < 10000
    rw [Cert.KernelIdeal.Run.V1_main_v0]
    exact hq _
  obtain ⟨a0, a1, a2, a3, a4, a5, a6, a7, a8, a9, a10, a11, a12, a13, a14, a15⟩ := hm 0
  have hin : Trace.inpOf (refArg m' Cert.ReferenceIdeal.main_arg0) (refArg m' Cert.ReferenceIdeal.main_arg1) (refArg m' Cert.ReferenceIdeal.main_arg2) (refArg m' Cert.ReferenceIdeal.main_arg3) (refArg m' Cert.ReferenceIdeal.main_arg4) (refArg m' Cert.ReferenceIdeal.main_arg5) (refArg m' Cert.ReferenceIdeal.main_arg6) (refArg m' Cert.ReferenceIdeal.main_arg7) (refArg m' Cert.ReferenceIdeal.main_arg8) (refArg m' Cert.ReferenceIdeal.main_arg9) (refArg m' Cert.ReferenceIdeal.main_arg10) (refArg m' Cert.ReferenceIdeal.main_arg11) (refArg m' Cert.ReferenceIdeal.main_arg12) (refArg m' Cert.ReferenceIdeal.main_arg13) (refArg m' Cert.ReferenceIdeal.main_arg14) (refArg m' Cert.ReferenceIdeal.main_arg15) = Cert.KernelIdeal.Run.inp m := by
    exact Trace.inpOf_congr a0 a1 a2 a3 a4 a5 a6 a7 a8 a9 a10 a11 a12 a13 a14 a15
  have ok' : (Cert.KernelIdeal.Run.inp m).Ok := ok
  rw [← hin] at ok'
  refine ⟨fun c => Cert.KernelIdeal.Gen.V6 m (Cert.KernelIdeal.Run.outs m hw) c (Proc.devRef .tc Cert.KernelIdeal.main_v56), ?_, ?_⟩
  · exact (θ_run Cert.KernelIdeal.defs _ _).mono (fun r h => h.1) (Cert.KernelIdeal.Run.run m hw g)
  · refine (θ_run Cert.ReferenceIdeal.defs _ _).mono (fun r h c => ⟨(h c).1.trans ?_, (h c).2⟩)
      (Cert.ReferenceIdeal.RefRun.run_iter m' g' (states m') (fun _ => rfl) (fun _ _ => rfl))
    obtain rfl : c = 0 := Subsingleton.elim _ _
    funext y
    rw [eq_ix2 y]
    refine (Cert.ReferenceIdeal.Step.result (refArg m' Cert.ReferenceIdeal.main_arg0) (refArg m' Cert.ReferenceIdeal.main_arg1) (refArg m' Cert.ReferenceIdeal.main_arg2) (refArg m' Cert.ReferenceIdeal.main_arg3) (refArg m' Cert.ReferenceIdeal.main_arg4) (refArg m' Cert.ReferenceIdeal.main_arg5) (refArg m' Cert.ReferenceIdeal.main_arg6) (refArg m' Cert.ReferenceIdeal.main_arg7) (refArg m' Cert.ReferenceIdeal.main_arg8) (refArg m' Cert.ReferenceIdeal.main_arg9) (refArg m' Cert.ReferenceIdeal.main_arg10) (refArg m' Cert.ReferenceIdeal.main_arg11) (refArg m' Cert.ReferenceIdeal.main_arg12) (refArg m' Cert.ReferenceIdeal.main_arg13) (refArg m' Cert.ReferenceIdeal.main_arg14) (refArg m' Cert.ReferenceIdeal.main_arg15) ok'.q ok'.r (states m' 0) rfl (fun _ => rfl) (y 0) (y 1)).trans ?_
    refine (congrFun (congrFun (Trace.out_eq ok').symm (y 0)) (y 1)).trans ?_
    show Trace.outA (Trace.inpOf (refArg m' Cert.ReferenceIdeal.main_arg0) (refArg m' Cert.ReferenceIdeal.main_arg1) (refArg m' Cert.ReferenceIdeal.main_arg2) (refArg m' Cert.ReferenceIdeal.main_arg3) (refArg m' Cert.ReferenceIdeal.main_arg4) (refArg m' Cert.ReferenceIdeal.main_arg5) (refArg m' Cert.ReferenceIdeal.main_arg6) (refArg m' Cert.ReferenceIdeal.main_arg7) (refArg m' Cert.ReferenceIdeal.main_arg8) (refArg m' Cert.ReferenceIdeal.main_arg9) (refArg m' Cert.ReferenceIdeal.main_arg10) (refArg m' Cert.ReferenceIdeal.main_arg11) (refArg m' Cert.ReferenceIdeal.main_arg12) (refArg m' Cert.ReferenceIdeal.main_arg13) (refArg m' Cert.ReferenceIdeal.main_arg14) (refArg m' Cert.ReferenceIdeal.main_arg15)) (y 0) (y 1) = _
    rw [hin]
    exact (Cert.KernelIdeal.Run.val_at m hw hlt (y 0) (y 1)).symm

theorem claim : Cert.Claim := ⟨Cert.Kernel.Gen.facts, Cert.KernelIdeal.Gen.facts, Cert.ReferenceIdeal.Gen.facts, Cert.Pre_in_range.Gen.facts, Cert.Pre_finite.Own.facts,
  quiescent_Kernel, quiescent_KernelIdeal, quiescent_KernelIdeal_pre_finite, quiescent_ReferenceIdeal, quiescent_ReferenceIdeal_pre_finite, trivial, algebraic⟩

end Cert.Proof

end
